-- ==== Defs.lean ====
def Pre_SconvKernel (m : (ℓ : Loc Cert.SconvKernel.nD Cert.SconvKernel.τ Cert.SconvKernel.sig) → Buf (Elt Bits) ℓ) : Prop :=
  True

def Pre_SconvKernelIdeal (m : (ℓ : Loc Cert.SconvKernelIdeal.nD Cert.SconvKernelIdeal.τ Cert.SconvKernelIdeal.sig) → Buf (Elt Ideal) ℓ) : Prop :=
  True

def Pre_SconvReferenceIdeal (m : (ℓ : Loc Cert.SconvReferenceIdeal.nD Cert.SconvReferenceIdeal.τ Cert.SconvReferenceIdeal.sig) → Buf (Elt Ideal) ℓ) : Prop :=
  True

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_EvenDxKernel (m : (ℓ : Loc Cert.EvenDxKernel.nD Cert.EvenDxKernel.τ Cert.EvenDxKernel.sig) → Buf (Elt Bits) ℓ) : Prop :=
  True

def Pre_EvenDxKernelIdeal (m : (ℓ : Loc Cert.EvenDxKernelIdeal.nD Cert.EvenDxKernelIdeal.τ Cert.EvenDxKernelIdeal.sig) → Buf (Elt Ideal) ℓ) : Prop :=
  True

def Pre_EvenDxReferenceIdeal (m : (ℓ : Loc Cert.EvenDxReferenceIdeal.nD Cert.EvenDxReferenceIdeal.τ Cert.EvenDxReferenceIdeal.sig) → Buf (Elt Ideal) ℓ) : Prop :=
  True

def Pre_OddDxKernel (m : (ℓ : Loc Cert.OddDxKernel.nD Cert.OddDxKernel.τ Cert.OddDxKernel.sig) → Buf (Elt Bits) ℓ) : Prop :=
  True

def Pre_OddDxKernelIdeal (m : (ℓ : Loc Cert.OddDxKernelIdeal.nD Cert.OddDxKernelIdeal.τ Cert.OddDxKernelIdeal.sig) → Buf (Elt Ideal) ℓ) : Prop :=
  True

def Pre_OddDxReferenceIdeal (m : (ℓ : Loc Cert.OddDxReferenceIdeal.nD Cert.OddDxReferenceIdeal.τ Cert.OddDxReferenceIdeal.sig) → Buf (Elt Ideal) ℓ) : Prop :=
  True

def Pre_DownDxKernel (m : (ℓ : Loc Cert.DownDxKernel.nD Cert.DownDxKernel.τ Cert.DownDxKernel.sig) → Buf (Elt Bits) ℓ) : Prop :=
  True

def Pre_DownDxKernelIdeal (m : (ℓ : Loc Cert.DownDxKernelIdeal.nD Cert.DownDxKernelIdeal.τ Cert.DownDxKernelIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_OutDxKernel (m : (ℓ : Loc Cert.OutDxKernel.nD Cert.OutDxKernel.τ Cert.OutDxKernel.sig) → Buf (Elt Bits) ℓ) : Prop :=
  True

def Pre_OutDxKernelIdeal (m : (ℓ : Loc Cert.OutDxKernelIdeal.nD Cert.OutDxKernelIdeal.τ Cert.OutDxKernelIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDwKernel (m : (ℓ : Loc Cert.OutDwKernel.nD Cert.OutDwKernel.τ Cert.OutDwKernel.sig) → Buf (Elt Bits) ℓ) : Prop :=
  True

def Pre_OutDwKernelIdeal (m : (ℓ : Loc Cert.OutDwKernelIdeal.nD Cert.OutDwKernelIdeal.τ Cert.OutDwKernelIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_EvenDwKernel (m : (ℓ : Loc Cert.EvenDwKernel.nD Cert.EvenDwKernel.τ Cert.EvenDwKernel.sig) → Buf (Elt Bits) ℓ) : Prop :=
  True

def Pre_EvenDwKernelIdeal (m : (ℓ : Loc Cert.EvenDwKernelIdeal.nD Cert.EvenDwKernelIdeal.τ Cert.EvenDwKernelIdeal.sig) → Buf (Elt Ideal) ℓ) : Prop :=
  True

def Pre_EvenDwReferenceIdeal (m : (ℓ : Loc Cert.EvenDwReferenceIdeal.nD Cert.EvenDwReferenceIdeal.τ Cert.EvenDwReferenceIdeal.sig) → Buf (Elt Ideal) ℓ) : Prop :=
  True

def Pre_OddDwKernel (m : (ℓ : Loc Cert.OddDwKernel.nD Cert.OddDwKernel.τ Cert.OddDwKernel.sig) → Buf (Elt Bits) ℓ) : Prop :=
  True

def Pre_OddDwKernelIdeal (m : (ℓ : Loc Cert.OddDwKernelIdeal.nD Cert.OddDwKernelIdeal.τ Cert.OddDwKernelIdeal.sig) → Buf (Elt Ideal) ℓ) : Prop :=
  True

def Pre_OddDwReferenceIdeal (m : (ℓ : Loc Cert.OddDwReferenceIdeal.nD Cert.OddDwReferenceIdeal.τ Cert.OddDwReferenceIdeal.sig) → Buf (Elt Ideal) ℓ) : Prop :=
  True

def Pre_EvenInKernel (m : (ℓ : Loc Cert.EvenInKernel.nD Cert.EvenInKernel.τ Cert.EvenInKernel.sig) → Buf (Elt Bits) ℓ) : Prop :=
  True

def Pre_EvenInKernelIdeal (m : (ℓ : Loc Cert.EvenInKernelIdeal.nD Cert.EvenInKernelIdeal.τ Cert.EvenInKernelIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_OddInKernel (m : (ℓ : Loc Cert.OddInKernel.nD Cert.OddInKernel.τ Cert.OddInKernel.sig) → Buf (Elt Bits) ℓ) : Prop :=
  True

def Pre_OddInKernelIdeal (m : (ℓ : Loc Cert.OddInKernelIdeal.nD Cert.OddInKernelIdeal.τ Cert.OddInKernelIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_MixOutKernel (m : (ℓ : Loc Cert.MixOutKernel.nD Cert.MixOutKernel.τ Cert.MixOutKernel.sig) → Buf (Elt Bits) ℓ) : Prop :=
  True

def Pre_MixOutKernelIdeal (m : (ℓ : Loc Cert.MixOutKernelIdeal.nD Cert.MixOutKernelIdeal.τ Cert.MixOutKernelIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_LastDownKernel (m : (ℓ : Loc Cert.LastDownKernel.nD Cert.LastDownKernel.τ Cert.LastDownKernel.sig) → Buf (Elt Bits) ℓ) : Prop :=
  True

def Pre_LastDownKernelIdeal (m : (ℓ : Loc Cert.LastDownKernelIdeal.nD Cert.LastDownKernelIdeal.τ Cert.LastDownKernelIdeal.sig) → Buf (Elt Ideal) ℓ) : Prop :=
  True

def Pre_LastDownReferenceIdeal (m : (ℓ : Loc Cert.LastDownReferenceIdeal.nD Cert.LastDownReferenceIdeal.τ Cert.LastDownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluKernelIdeal_glu_finite [hPre_glu_finite : Cert.Pre_glu_finite.Facts] (m : (ℓ : Loc Cert.GluKernelIdeal.nD Cert.GluKernelIdeal.τ Cert.GluKernelIdeal.sig) → Buf (Elt Ideal) ℓ) : Prop :=
  ∀ c : Dev Cert.GluKernelIdeal.nD,
    (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3))) = (fun _ => 1#1)

def Pre_GluReferenceIdeal (m : (ℓ : Loc Cert.GluReferenceIdeal.nD Cert.GluReferenceIdeal.τ Cert.GluReferenceIdeal.sig) → Buf (Elt Ideal) ℓ) : Prop :=
  True

def Pre_GluReferenceIdeal_glu_finite [hPre_glu_finite : Cert.Pre_glu_finite.Facts] (m : (ℓ : Loc Cert.GluReferenceIdeal.nD Cert.GluReferenceIdeal.τ Cert.GluReferenceIdeal.sig) → Buf (Elt Ideal) ℓ) : Prop :=
  ∀ c : Dev Cert.GluReferenceIdeal.nD,
    (Cert.Pre_glu_finite.fn (F := Ideal) (m ((c.tc : Thread Cert.GluReferenceIdeal.nD Cert.GluReferenceIdeal.τ).loc Cert.GluReferenceIdeal.main_arg0)) (m ((c.tc : Thread Cert.GluReferenceIdeal.nD Cert.GluReferenceIdeal.τ).loc Cert.GluReferenceIdeal.main_arg1)) (m ((c.tc : Thread Cert.GluReferenceIdeal.nD Cert.GluReferenceIdeal.τ).loc Cert.GluReferenceIdeal.main_arg2)) (m ((c.tc : Thread Cert.GluReferenceIdeal.nD Cert.GluReferenceIdeal.τ).loc Cert.GluReferenceIdeal.main_arg3))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_UpDx0Kernel (m : (ℓ : Loc Cert.UpDx0Kernel.nD Cert.UpDx0Kernel.τ Cert.UpDx0Kernel.sig) → Buf (Elt Bits) ℓ) : Prop :=
  True

def Pre_UpDx0KernelIdeal (m : (ℓ : Loc Cert.UpDx0KernelIdeal.nD Cert.UpDx0KernelIdeal.τ Cert.UpDx0KernelIdeal.sig) → Buf (Elt Ideal) ℓ) : Prop :=
  True

def Pre_UpDx0ReferenceIdeal (m : (ℓ : Loc Cert.UpDx0ReferenceIdeal.nD Cert.UpDx0ReferenceIdeal.τ Cert.UpDx0ReferenceIdeal.sig) → Buf (Elt Ideal) ℓ) : Prop :=
  True

def Pre_UpDx1Kernel (m : (ℓ : Loc Cert.UpDx1Kernel.nD Cert.UpDx1Kernel.τ Cert.UpDx1Kernel.sig) → Buf (Elt Bits) ℓ) : Prop :=
  True

def Pre_UpDx1KernelIdeal (m : (ℓ : Loc Cert.UpDx1KernelIdeal.nD Cert.UpDx1KernelIdeal.τ Cert.UpDx1KernelIdeal.sig) → Buf (Elt Ideal) ℓ) : Prop :=
  True

def Pre_UpDx1ReferenceIdeal (m : (ℓ : Loc Cert.UpDx1ReferenceIdeal.nD Cert.UpDx1ReferenceIdeal.τ Cert.UpDx1ReferenceIdeal.sig) → Buf (Elt Ideal) ℓ) : Prop :=
  True

def Pre_UpDx2Kernel (m : (ℓ : Loc Cert.UpDx2Kernel.nD Cert.UpDx2Kernel.τ Cert.UpDx2Kernel.sig) → Buf (Elt Bits) ℓ) : Prop :=
  True

def Pre_UpDx2KernelIdeal (m : (ℓ : Loc Cert.UpDx2KernelIdeal.nD Cert.UpDx2KernelIdeal.τ Cert.UpDx2KernelIdeal.sig) → Buf (Elt Ideal) ℓ) : Prop :=
  True

def Pre_UpDx2ReferenceIdeal (m : (ℓ : Loc Cert.UpDx2ReferenceIdeal.nD Cert.UpDx2ReferenceIdeal.τ Cert.UpDx2ReferenceIdeal.sig) → Buf (Elt Ideal) ℓ) : Prop :=
  True

def Pre_OddDx1Kernel (m : (ℓ : Loc Cert.OddDx1Kernel.nD Cert.OddDx1Kernel.τ Cert.OddDx1Kernel.sig) → Buf (Elt Bits) ℓ) : Prop :=
  True

def Pre_OddDx1KernelIdeal (m : (ℓ : Loc Cert.OddDx1KernelIdeal.nD Cert.OddDx1KernelIdeal.τ Cert.OddDx1KernelIdeal.sig) → Buf (Elt Ideal) ℓ) : Prop :=
  True

def Pre_OddDx1ReferenceIdeal (m : (ℓ : Loc Cert.OddDx1ReferenceIdeal.nD Cert.OddDx1ReferenceIdeal.τ Cert.OddDx1ReferenceIdeal.sig) → Buf (Elt Ideal) ℓ) : Prop :=
  True

def Pre_EvenDx0Kernel (m : (ℓ : Loc Cert.EvenDx0Kernel.nD Cert.EvenDx0Kernel.τ Cert.EvenDx0Kernel.sig) → Buf (Elt Bits) ℓ) : Prop :=
  True

def Pre_EvenDx0KernelIdeal (m : (ℓ : Loc Cert.EvenDx0KernelIdeal.nD Cert.EvenDx0KernelIdeal.τ Cert.EvenDx0KernelIdeal.sig) → Buf (Elt Ideal) ℓ) : Prop :=
  True

def Pre_EvenDx0ReferenceIdeal (m : (ℓ : Loc Cert.EvenDx0ReferenceIdeal.nD Cert.EvenDx0ReferenceIdeal.τ Cert.EvenDx0ReferenceIdeal.sig) → Buf (Elt Ideal) ℓ) : Prop :=
  True

def Pre_MixOut0Kernel (m : (ℓ : Loc Cert.MixOut0Kernel.nD Cert.MixOut0Kernel.τ Cert.MixOut0Kernel.sig) → Buf (Elt Bits) ℓ) : Prop :=
  True

def Pre_MixOut0KernelIdeal (m : (ℓ : Loc Cert.MixOut0KernelIdeal.nD Cert.MixOut0KernelIdeal.τ Cert.MixOut0KernelIdeal.sig) → Buf (Elt Ideal) ℓ) : Prop :=
  True

def Pre_MixOut0ReferenceIdeal (m : (ℓ : Loc Cert.MixOut0ReferenceIdeal.nD Cert.MixOut0ReferenceIdeal.τ Cert.MixOut0ReferenceIdeal.sig) → Buf (Elt Ideal) ℓ) : Prop :=
  True

def Pre_MixOut1Kernel (m : (ℓ : Loc Cert.MixOut1Kernel.nD Cert.MixOut1Kernel.τ Cert.MixOut1Kernel.sig) → Buf (Elt Bits) ℓ) : Prop :=
  True

def Pre_MixOut1KernelIdeal (m : (ℓ : Loc Cert.MixOut1KernelIdeal.nD Cert.MixOut1KernelIdeal.τ Cert.MixOut1KernelIdeal.sig) → Buf (Elt Ideal) ℓ) : Prop :=
  True

def Pre_MixOut1ReferenceIdeal (m : (ℓ : Loc Cert.MixOut1ReferenceIdeal.nD Cert.MixOut1ReferenceIdeal.τ Cert.MixOut1ReferenceIdeal.sig) → Buf (Elt Ideal) ℓ) : Prop :=
  True

def Pre_MixOut2Kernel (m : (ℓ : Loc Cert.MixOut2Kernel.nD Cert.MixOut2Kernel.τ Cert.MixOut2Kernel.sig) → Buf (Elt Bits) ℓ) : Prop :=
  True

def Pre_MixOut2KernelIdeal (m : (ℓ : Loc Cert.MixOut2KernelIdeal.nD Cert.MixOut2KernelIdeal.τ Cert.MixOut2KernelIdeal.sig) → Buf (Elt Ideal) ℓ) : Prop :=
  True

def Pre_MixOut2ReferenceIdeal (m : (ℓ : Loc Cert.MixOut2ReferenceIdeal.nD Cert.MixOut2ReferenceIdeal.τ Cert.MixOut2ReferenceIdeal.sig) → Buf (Elt Ideal) ℓ) : Prop :=
  True

def Pre_Down1Kernel (m : (ℓ : Loc Cert.Down1Kernel.nD Cert.Down1Kernel.τ Cert.Down1Kernel.sig) → Buf (Elt Bits) ℓ) : Prop :=
  True

def Pre_Down1KernelIdeal (m : (ℓ : Loc Cert.Down1KernelIdeal.nD Cert.Down1KernelIdeal.τ Cert.Down1KernelIdeal.sig) → Buf (Elt Ideal) ℓ) : Prop :=
  True

def Pre_Down1ReferenceIdeal (m : (ℓ : Loc Cert.Down1ReferenceIdeal.nD Cert.Down1ReferenceIdeal.τ Cert.Down1ReferenceIdeal.sig) → Buf (Elt Ideal) ℓ) : Prop :=
  True

def Pre_Down3Kernel (m : (ℓ : Loc Cert.Down3Kernel.nD Cert.Down3Kernel.τ Cert.Down3Kernel.sig) → Buf (Elt Bits) ℓ) : Prop :=
  True

def Pre_Down3KernelIdeal (m : (ℓ : Loc Cert.Down3KernelIdeal.nD Cert.Down3KernelIdeal.τ Cert.Down3KernelIdeal.sig) → Buf (Elt Ideal) ℓ) : Prop :=
  True

def Pre_Down3ReferenceIdeal (m : (ℓ : Loc Cert.Down3ReferenceIdeal.nD Cert.Down3ReferenceIdeal.τ Cert.Down3ReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_RmsFwdKernel (m : (ℓ : Loc Cert.RmsFwdKernel.nD Cert.RmsFwdKernel.τ Cert.RmsFwdKernel.sig) → Buf (Elt Bits) ℓ) : Prop :=
  True

def Pre_RmsFwdKernelIdeal (m : (ℓ : Loc Cert.RmsFwdKernelIdeal.nD Cert.RmsFwdKernelIdeal.τ Cert.RmsFwdKernelIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_GluFwdKernel (m : (ℓ : Loc Cert.GluFwdKernel.nD Cert.GluFwdKernel.τ Cert.GluFwdKernel.sig) → Buf (Elt Bits) ℓ) : Prop :=
  True

def Pre_GluFwdKernelIdeal (m : (ℓ : Loc Cert.GluFwdKernelIdeal.nD Cert.GluFwdKernelIdeal.τ Cert.GluFwdKernelIdeal.sig) → Buf (Elt Ideal) ℓ) : Prop :=
  True

def Pre_GluFwdReferenceIdeal (m : (ℓ : Loc Cert.GluFwdReferenceIdeal.nD Cert.GluFwdReferenceIdeal.τ Cert.GluFwdReferenceIdeal.sig) → Buf (Elt Ideal) ℓ) : Prop :=
  True

def Pre_SconvFwdKernel (m : (ℓ : Loc Cert.SconvFwdKernel.nD Cert.SconvFwdKernel.τ Cert.SconvFwdKernel.sig) → Buf (Elt Bits) ℓ) : Prop :=
  True

def Pre_SconvFwdKernelIdeal (m : (ℓ : Loc Cert.SconvFwdKernelIdeal.nD Cert.SconvFwdKernelIdeal.τ Cert.SconvFwdKernelIdeal.sig) → Buf (Elt Ideal) ℓ) : Prop :=
  True

def Pre_SconvFwdReferenceIdeal (m : (ℓ : Loc Cert.SconvFwdReferenceIdeal.nD Cert.SconvFwdReferenceIdeal.τ Cert.SconvFwdReferenceIdeal.sig) → Buf (Elt Ideal) ℓ) : Prop :=
  True

def quiescent_SconvKernel [hSconvKernel : Cert.SconvKernel.Facts] : Prop :=
  ∀ (m : (ℓ : Loc Cert.SconvKernel.nD Cert.SconvKernel.τ Cert.SconvKernel.sig) → Buf (Elt Bits) ℓ) (g : Dev Cert.SconvKernel.nD → PrngReg), Pre_SconvKernel m →
    θ_run (Cert.SconvKernel.defs (F := Bits)) (onTc (τ := Cert.SconvKernel.τ) (Cert.SconvKernel.main (F := Bits))) ⟨m, fun _ => 0, g⟩ (fun r => (∀ c : Dev Cert.SconvKernel.nD,
      r.2.mem ((c.tc : Thread Cert.SconvKernel.nD Cert.SconvKernel.τ).loc Cert.SconvKernel.main_arg0) = m ((c.tc : Thread Cert.SconvKernel.nD Cert.SconvKernel.τ).loc Cert.SconvKernel.main_arg0)
      ∧ r.2.mem ((c.tc : Thread Cert.SconvKernel.nD Cert.SconvKernel.τ).loc Cert.SconvKernel.main_arg1) = m ((c.tc : Thread Cert.SconvKernel.nD Cert.SconvKernel.τ).loc Cert.SconvKernel.main_arg1)
      ∧ r.2.mem ((c.tc : Thread Cert.SconvKernel.nD Cert.SconvKernel.τ).loc Cert.SconvKernel.main_arg2) = m ((c.tc : Thread Cert.SconvKernel.nD Cert.SconvKernel.τ).loc Cert.SconvKernel.main_arg2))
      ∧ r.2.sem = fun _ => 0)

def quiescent_SconvKernelIdeal [hSconvKernelIdeal : Cert.SconvKernelIdeal.Facts] : Prop :=
  ∀ (m : (ℓ : Loc Cert.SconvKernelIdeal.nD Cert.SconvKernelIdeal.τ Cert.SconvKernelIdeal.sig) → Buf (Elt Ideal) ℓ) (g : Dev Cert.SconvKernelIdeal.nD → PrngReg), Pre_SconvKernelIdeal m →
    θ_run (Cert.SconvKernelIdeal.defs (F := Ideal)) (onTc (τ := Cert.SconvKernelIdeal.τ) (Cert.SconvKernelIdeal.main (F := Ideal))) ⟨m, fun _ => 0, g⟩ (fun r => (∀ c : Dev Cert.SconvKernelIdeal.nD,
      r.2.mem ((c.tc : Thread Cert.SconvKernelIdeal.nD Cert.SconvKernelIdeal.τ).loc Cert.SconvKernelIdeal.main_arg0) = m ((c.tc : Thread Cert.SconvKernelIdeal.nD Cert.SconvKernelIdeal.τ).loc Cert.SconvKernelIdeal.main_arg0)
      ∧ r.2.mem ((c.tc : Thread Cert.SconvKernelIdeal.nD Cert.SconvKernelIdeal.τ).loc Cert.SconvKernelIdeal.main_arg1) = m ((c.tc : Thread Cert.SconvKernelIdeal.nD Cert.SconvKernelIdeal.τ).loc Cert.SconvKernelIdeal.main_arg1)
      ∧ r.2.mem ((c.tc : Thread Cert.SconvKernelIdeal.nD Cert.SconvKernelIdeal.τ).loc Cert.SconvKernelIdeal.main_arg2) = m ((c.tc : Thread Cert.SconvKernelIdeal.nD Cert.SconvKernelIdeal.τ).loc Cert.SconvKernelIdeal.main_arg2))
      ∧ r.2.sem = fun _ => 0)

def quiescent_SconvReferenceIdeal [hSconvReferenceIdeal : Cert.SconvReferenceIdeal.Facts] : Prop :=
  ∀ (m : (ℓ : Loc Cert.SconvReferenceIdeal.nD Cert.SconvReferenceIdeal.τ Cert.SconvReferenceIdeal.sig) → Buf (Elt Ideal) ℓ) (g : Dev Cert.SconvReferenceIdeal.nD → PrngReg), Pre_SconvReferenceIdeal m →
    θ_run (Cert.SconvReferenceIdeal.defs (F := Ideal)) (onTc (τ := Cert.SconvReferenceIdeal.τ) (Cert.SconvReferenceIdeal.main (F := Ideal))) ⟨m, fun _ => 0, g⟩ (fun r => (∀ c : Dev Cert.SconvReferenceIdeal.nD,
      r.2.mem ((c.tc : Thread Cert.SconvReferenceIdeal.nD Cert.SconvReferenceIdeal.τ).loc Cert.SconvReferenceIdeal.main_arg0) = m ((c.tc : Thread Cert.SconvReferenceIdeal.nD Cert.SconvReferenceIdeal.τ).loc Cert.SconvReferenceIdeal.main_arg0)
      ∧ r.2.mem ((c.tc : Thread Cert.SconvReferenceIdeal.nD Cert.SconvReferenceIdeal.τ).loc Cert.SconvReferenceIdeal.main_arg1) = m ((c.tc : Thread Cert.SconvReferenceIdeal.nD Cert.SconvReferenceIdeal.τ).loc Cert.SconvReferenceIdeal.main_arg1)
      ∧ r.2.mem ((c.tc : Thread Cert.SconvReferenceIdeal.nD Cert.SconvReferenceIdeal.τ).loc Cert.SconvReferenceIdeal.main_arg2) = m ((c.tc : Thread Cert.SconvReferenceIdeal.nD Cert.SconvReferenceIdeal.τ).loc Cert.SconvReferenceIdeal.main_arg2))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1)
      ∧ r.2.mem ((c.tc : Thread Cert.UpDxKernel.nD Cert.UpDxKernel.τ).loc Cert.UpDxKernel.main_arg2) = m ((c.tc : Thread Cert.UpDxKernel.nD Cert.UpDxKernel.τ).loc Cert.UpDxKernel.main_arg2)
      ∧ r.2.mem ((c.tc : Thread Cert.UpDxKernel.nD Cert.UpDxKernel.τ).loc Cert.UpDxKernel.main_arg3) = m ((c.tc : Thread Cert.UpDxKernel.nD Cert.UpDxKernel.τ).loc Cert.UpDxKernel.main_arg3)
      ∧ r.2.mem ((c.tc : Thread Cert.UpDxKernel.nD Cert.UpDxKernel.τ).loc Cert.UpDxKernel.main_arg4) = m ((c.tc : Thread Cert.UpDxKernel.nD Cert.UpDxKernel.τ).loc Cert.UpDxKernel.main_arg4))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
      ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
      ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3)
      ∧ r.2.mem ((c.tc : Thread Cert.UpDxKernelIdeal.nD Cert.UpDxKernelIdeal.τ).loc Cert.UpDxKernelIdeal.main_arg4) = m ((c.tc : Thread Cert.UpDxKernelIdeal.nD Cert.UpDxKernelIdeal.τ).loc Cert.UpDxKernelIdeal.main_arg4))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3)
      ∧ r.2.mem ((c.tc : Thread Cert.UpDxReferenceIdeal.nD Cert.UpDxReferenceIdeal.τ).loc Cert.UpDxReferenceIdeal.main_arg4) = m ((c.tc : Thread Cert.UpDxReferenceIdeal.nD Cert.UpDxReferenceIdeal.τ).loc Cert.UpDxReferenceIdeal.main_arg4))
      ∧ r.2.sem = fun _ => 0)

def quiescent_EvenDxKernel [hEvenDxKernel : Cert.EvenDxKernel.Facts] : Prop :=
  ∀ (m : (ℓ : Loc Cert.EvenDxKernel.nD Cert.EvenDxKernel.τ Cert.EvenDxKernel.sig) → Buf (Elt Bits) ℓ) (g : Dev Cert.EvenDxKernel.nD → PrngReg), Pre_EvenDxKernel m →
    θ_run (Cert.EvenDxKernel.defs (F := Bits)) (onTc (τ := Cert.EvenDxKernel.τ) (Cert.EvenDxKernel.main (F := Bits))) ⟨m, fun _ => 0, g⟩ (fun r => (∀ c : Dev Cert.EvenDxKernel.nD,
      r.2.mem ((c.tc : Thread Cert.EvenDxKernel.nD Cert.EvenDxKernel.τ).loc Cert.EvenDxKernel.main_arg0) = m ((c.tc : Thread Cert.EvenDxKernel.nD Cert.EvenDxKernel.τ).loc Cert.EvenDxKernel.main_arg0)
      ∧ r.2.mem ((c.tc : Thread Cert.EvenDxKernel.nD Cert.EvenDxKernel.τ).loc Cert.EvenDxKernel.main_arg1) = m ((c.tc : Thread Cert.EvenDxKernel.nD Cert.EvenDxKernel.τ).loc Cert.EvenDxKernel.main_arg1)
      ∧ r.2.mem ((c.tc : Thread Cert.EvenDxKernel.nD Cert.EvenDxKernel.τ).loc Cert.EvenDxKernel.main_arg2) = m ((c.tc : Thread Cert.EvenDxKernel.nD Cert.EvenDxKernel.τ).loc Cert.EvenDxKernel.main_arg2)
      ∧ r.2.mem ((c.tc : Thread Cert.EvenDxKernel.nD Cert.EvenDxKernel.τ).loc Cert.EvenDxKernel.main_arg3) = m ((c.tc : Thread Cert.EvenDxKernel.nD Cert.EvenDxKernel.τ).loc Cert.EvenDxKernel.main_arg3)
      ∧ r.2.mem ((c.tc : Thread Cert.EvenDxKernel.nD Cert.EvenDxKernel.τ).loc Cert.EvenDxKernel.main_arg4) = m ((c.tc : Thread Cert.EvenDxKernel.nD Cert.EvenDxKernel.τ).loc Cert.EvenDxKernel.main_arg4))
      ∧ r.2.sem = fun _ => 0)

def quiescent_EvenDxKernelIdeal [hEvenDxKernelIdeal : Cert.EvenDxKernelIdeal.Facts] : Prop :=
  ∀ (m : (ℓ : Loc Cert.EvenDxKernelIdeal.nD Cert.EvenDxKernelIdeal.τ Cert.EvenDxKernelIdeal.sig) → Buf (Elt Ideal) ℓ) (g : Dev Cert.EvenDxKernelIdeal.nD → PrngReg), Pre_EvenDxKernelIdeal m →
    θ_run (Cert.EvenDxKernelIdeal.defs (F := Ideal)) (onTc (τ := Cert.EvenDxKernelIdeal.τ) (Cert.EvenDxKernelIdeal.main (F := Ideal))) ⟨m, fun _ => 0, g⟩ (fun r => (∀ c : Dev Cert.EvenDxKernelIdeal.nD,
      r.2.mem ((c.tc : Thread Cert.EvenDxKernelIdeal.nD Cert.EvenDxKernelIdeal.τ).loc Cert.EvenDxKernelIdeal.main_arg0) = m ((c.tc : Thread Cert.EvenDxKernelIdeal.nD Cert.EvenDxKernelIdeal.τ).loc Cert.EvenDxKernelIdeal.main_arg0)
      ∧ r.2.mem ((c.tc : Thread Cert.EvenDxKernelIdeal.nD Cert.EvenDxKernelIdeal.τ).loc Cert.EvenDxKernelIdeal.main_arg1) = m ((c.tc : Thread Cert.EvenDxKernelIdeal.nD Cert.EvenDxKernelIdeal.τ).loc Cert.EvenDxKernelIdeal.main_arg1)
      ∧ r.2.mem ((c.tc : Thread Cert.EvenDxKernelIdeal.nD Cert.EvenDxKernelIdeal.τ).loc Cert.EvenDxKernelIdeal.main_arg2) = m ((c.tc : Thread Cert.EvenDxKernelIdeal.nD Cert.EvenDxKernelIdeal.τ).loc Cert.EvenDxKernelIdeal.main_arg2)
      ∧ r.2.mem ((c.tc : Thread Cert.EvenDxKernelIdeal.nD Cert.EvenDxKernelIdeal.τ).loc Cert.EvenDxKernelIdeal.main_arg3) = m ((c.tc : Thread Cert.EvenDxKernelIdeal.nD Cert.EvenDxKernelIdeal.τ).loc Cert.EvenDxKernelIdeal.main_arg3)
      ∧ r.2.mem ((c.tc : Thread Cert.EvenDxKernelIdeal.nD Cert.EvenDxKernelIdeal.τ).loc Cert.EvenDxKernelIdeal.main_arg4) = m ((c.tc : Thread Cert.EvenDxKernelIdeal.nD Cert.EvenDxKernelIdeal.τ).loc Cert.EvenDxKernelIdeal.main_arg4))
      ∧ r.2.sem = fun _ => 0)

def quiescent_EvenDxReferenceIdeal [hEvenDxReferenceIdeal : Cert.EvenDxReferenceIdeal.Facts] : Prop :=
  ∀ (m : (ℓ : Loc Cert.EvenDxReferenceIdeal.nD Cert.EvenDxReferenceIdeal.τ Cert.EvenDxReferenceIdeal.sig) → Buf (Elt Ideal) ℓ) (g : Dev Cert.EvenDxReferenceIdeal.nD → PrngReg), Pre_EvenDxReferenceIdeal m →
    θ_run (Cert.EvenDxReferenceIdeal.defs (F := Ideal)) (onTc (τ := Cert.EvenDxReferenceIdeal.τ) (Cert.EvenDxReferenceIdeal.main (F := Ideal))) ⟨m, fun _ => 0, g⟩ (fun r => (∀ c : Dev Cert.EvenDxReferenceIdeal.nD,
      r.2.mem ((c.tc : Thread Cert.EvenDxReferenceIdeal.nD Cert.EvenDxReferenceIdeal.τ).loc Cert.EvenDxReferenceIdeal.main_arg0) = m ((c.tc : Thread Cert.EvenDxReferenceIdeal.nD Cert.EvenDxReferenceIdeal.τ).loc Cert.EvenDxReferenceIdeal.main_arg0)
      ∧ r.2.mem ((c.tc : Thread Cert.EvenDxReferenceIdeal.nD Cert.EvenDxReferenceIdeal.τ).loc Cert.EvenDxReferenceIdeal.main_arg1) = m ((c.tc : Thread Cert.EvenDxReferenceIdeal.nD Cert.EvenDxReferenceIdeal.τ).loc Cert.EvenDxReferenceIdeal.main_arg1)
      ∧ r.2.mem ((c.tc : Thread Cert.EvenDxReferenceIdeal.nD Cert.EvenDxReferenceIdeal.τ).loc Cert.EvenDxReferenceIdeal.main_arg2) = m ((c.tc : Thread Cert.EvenDxReferenceIdeal.nD Cert.EvenDxReferenceIdeal.τ).loc Cert.EvenDxReferenceIdeal.main_arg2)
      ∧ r.2.mem ((c.tc : Thread Cert.EvenDxReferenceIdeal.nD Cert.EvenDxReferenceIdeal.τ).loc Cert.EvenDxReferenceIdeal.main_arg3) = m ((c.tc : Thread Cert.EvenDxReferenceIdeal.nD Cert.EvenDxReferenceIdeal.τ).loc Cert.EvenDxReferenceIdeal.main_arg3)
      ∧ r.2.mem ((c.tc : Thread Cert.EvenDxReferenceIdeal.nD Cert.EvenDxReferenceIdeal.τ).loc Cert.EvenDxReferenceIdeal.main_arg4) = m ((c.tc : Thread Cert.EvenDxReferenceIdeal.nD Cert.EvenDxReferenceIdeal.τ).loc Cert.EvenDxReferenceIdeal.main_arg4))
      ∧ r.2.sem = fun _ => 0)

def quiescent_OddDxKernel [hOddDxKernel : Cert.OddDxKernel.Facts] : Prop :=
  ∀ (m : (ℓ : Loc Cert.OddDxKernel.nD Cert.OddDxKernel.τ Cert.OddDxKernel.sig) → Buf (Elt Bits) ℓ) (g : Dev Cert.OddDxKernel.nD → PrngReg), Pre_OddDxKernel m →
    θ_run (Cert.OddDxKernel.defs (F := Bits)) (onTc (τ := Cert.OddDxKernel.τ) (Cert.OddDxKernel.main (F := Bits))) ⟨m, fun _ => 0, g⟩ (fun r => (∀ c : Dev Cert.OddDxKernel.nD,
      r.2.mem ((c.tc : Thread Cert.OddDxKernel.nD Cert.OddDxKernel.τ).loc Cert.OddDxKernel.main_arg0) = m ((c.tc : Thread Cert.OddDxKernel.nD Cert.OddDxKernel.τ).loc Cert.OddDxKernel.main_arg0)
      ∧ r.2.mem ((c.tc : Thread Cert.OddDxKernel.nD Cert.OddDxKernel.τ).loc Cert.OddDxKernel.main_arg1) = m ((c.tc : Thread Cert.OddDxKernel.nD Cert.OddDxKernel.τ).loc Cert.OddDxKernel.main_arg1)
      ∧ r.2.mem ((c.tc : Thread Cert.OddDxKernel.nD Cert.OddDxKernel.τ).loc Cert.OddDxKernel.main_arg2) = m ((c.tc : Thread Cert.OddDxKernel.nD Cert.OddDxKernel.τ).loc Cert.OddDxKernel.main_arg2)
      ∧ r.2.mem ((c.tc : Thread Cert.OddDxKernel.nD Cert.OddDxKernel.τ).loc Cert.OddDxKernel.main_arg3) = m ((c.tc : Thread Cert.OddDxKernel.nD Cert.OddDxKernel.τ).loc Cert.OddDxKernel.main_arg3)
      ∧ r.2.mem ((c.tc : Thread Cert.OddDxKernel.nD Cert.OddDxKernel.τ).loc Cert.OddDxKernel.main_arg4) = m ((c.tc : Thread Cert.OddDxKernel.nD Cert.OddDxKernel.τ).loc Cert.OddDxKernel.main_arg4))
      ∧ r.2.sem = fun _ => 0)

def quiescent_OddDxKernelIdeal [hOddDxKernelIdeal : Cert.OddDxKernelIdeal.Facts] : Prop :=
  ∀ (m : (ℓ : Loc Cert.OddDxKernelIdeal.nD Cert.OddDxKernelIdeal.τ Cert.OddDxKernelIdeal.sig) → Buf (Elt Ideal) ℓ) (g : Dev Cert.OddDxKernelIdeal.nD → PrngReg), Pre_OddDxKernelIdeal m →
    θ_run (Cert.OddDxKernelIdeal.defs (F := Ideal)) (onTc (τ := Cert.OddDxKernelIdeal.τ) (Cert.OddDxKernelIdeal.main (F := Ideal))) ⟨m, fun _ => 0, g⟩ (fun r => (∀ c : Dev Cert.OddDxKernelIdeal.nD,
      r.2.mem ((c.tc : Thread Cert.OddDxKernelIdeal.nD Cert.OddDxKernelIdeal.τ).loc Cert.OddDxKernelIdeal.main_arg0) = m ((c.tc : Thread Cert.OddDxKernelIdeal.nD Cert.OddDxKernelIdeal.τ).loc Cert.OddDxKernelIdeal.main_arg0)
      ∧ r.2.mem ((c.tc : Thread Cert.OddDxKernelIdeal.nD Cert.OddDxKernelIdeal.τ).loc Cert.OddDxKernelIdeal.main_arg1) = m ((c.tc : Thread Cert.OddDxKernelIdeal.nD Cert.OddDxKernelIdeal.τ).loc Cert.OddDxKernelIdeal.main_arg1)
      ∧ r.2.mem ((c.tc : Thread Cert.OddDxKernelIdeal.nD Cert.OddDxKernelIdeal.τ).loc Cert.OddDxKernelIdeal.main_arg2) = m ((c.tc : Thread Cert.OddDxKernelIdeal.nD Cert.OddDxKernelIdeal.τ).loc Cert.OddDxKernelIdeal.main_arg2)
      ∧ r.2.mem ((c.tc : Thread Cert.OddDxKernelIdeal.nD Cert.OddDxKernelIdeal.τ).loc Cert.OddDxKernelIdeal.main_arg3) = m ((c.tc : Thread Cert.OddDxKernelIdeal.nD Cert.OddDxKernelIdeal.τ).loc Cert.OddDxKernelIdeal.main_arg3)
      ∧ r.2.mem ((c.tc : Thread Cert.OddDxKernelIdeal.nD Cert.OddDxKernelIdeal.τ).loc Cert.OddDxKernelIdeal.main_arg4) = m ((c.tc : Thread Cert.OddDxKernelIdeal.nD Cert.OddDxKernelIdeal.τ).loc Cert.OddDxKernelIdeal.main_arg4))
      ∧ r.2.sem = fun _ => 0)

def quiescent_OddDxReferenceIdeal [hOddDxReferenceIdeal : Cert.OddDxReferenceIdeal.Facts] : Prop :=
  ∀ (m : (ℓ : Loc Cert.OddDxReferenceIdeal.nD Cert.OddDxReferenceIdeal.τ Cert.OddDxReferenceIdeal.sig) → Buf (Elt Ideal) ℓ) (g : Dev Cert.OddDxReferenceIdeal.nD → PrngReg), Pre_OddDxReferenceIdeal m →
    θ_run (Cert.OddDxReferenceIdeal.defs (F := Ideal)) (onTc (τ := Cert.OddDxReferenceIdeal.τ) (Cert.OddDxReferenceIdeal.main (F := Ideal))) ⟨m, fun _ => 0, g⟩ (fun r => (∀ c : Dev Cert.OddDxReferenceIdeal.nD,
      r.2.mem ((c.tc : Thread Cert.OddDxReferenceIdeal.nD Cert.OddDxReferenceIdeal.τ).loc Cert.OddDxReferenceIdeal.main_arg0) = m ((c.tc : Thread Cert.OddDxReferenceIdeal.nD Cert.OddDxReferenceIdeal.τ).loc Cert.OddDxReferenceIdeal.main_arg0)
      ∧ r.2.mem ((c.tc : Thread Cert.OddDxReferenceIdeal.nD Cert.OddDxReferenceIdeal.τ).loc Cert.OddDxReferenceIdeal.main_arg1) = m ((c.tc : Thread Cert.OddDxReferenceIdeal.nD Cert.OddDxReferenceIdeal.τ).loc Cert.OddDxReferenceIdeal.main_arg1)
      ∧ r.2.mem ((c.tc : Thread Cert.OddDxReferenceIdeal.nD Cert.OddDxReferenceIdeal.τ).loc Cert.OddDxReferenceIdeal.main_arg2) = m ((c.tc : Thread Cert.OddDxReferenceIdeal.nD Cert.OddDxReferenceIdeal.τ).loc Cert.OddDxReferenceIdeal.main_arg2)
      ∧ r.2.mem ((c.tc : Thread Cert.OddDxReferenceIdeal.nD Cert.OddDxReferenceIdeal.τ).loc Cert.OddDxReferenceIdeal.main_arg3) = m ((c.tc : Thread Cert.OddDxReferenceIdeal.nD Cert.OddDxReferenceIdeal.τ).loc Cert.OddDxReferenceIdeal.main_arg3)
      ∧ r.2.mem ((c.tc : Thread Cert.OddDxReferenceIdeal.nD Cert.OddDxReferenceIdeal.τ).loc Cert.OddDxReferenceIdeal.main_arg4) = m ((c.tc : Thread Cert.OddDxReferenceIdeal.nD Cert.OddDxReferenceIdeal.τ).loc Cert.OddDxReferenceIdeal.main_arg4))
      ∧ r.2.sem = fun _ => 0)

def quiescent_DownDxKernel [hDownDxKernel : Cert.DownDxKernel.Facts] : Prop :=
  ∀ (m : (ℓ : Loc Cert.DownDxKernel.nD Cert.DownDxKernel.τ Cert.DownDxKernel.sig) → Buf (Elt Bits) ℓ) (g : Dev Cert.DownDxKernel.nD → PrngReg), Pre_DownDxKernel m →
    θ_run (Cert.DownDxKernel.defs (F := Bits)) (onTc (τ := Cert.DownDxKernel.τ) (Cert.DownDxKernel.main (F := Bits))) ⟨m, fun _ => 0, g⟩ (fun r => (∀ c : Dev Cert.DownDxKernel.nD,
      r.2.mem ((c.tc : Thread Cert.DownDxKernel.nD Cert.DownDxKernel.τ).loc Cert.DownDxKernel.main_arg0) = m ((c.tc : Thread Cert.DownDxKernel.nD Cert.DownDxKernel.τ).loc Cert.DownDxKernel.main_arg0)
      ∧ r.2.mem ((c.tc : Thread Cert.DownDxKernel.nD Cert.DownDxKernel.τ).loc Cert.DownDxKernel.main_arg1) = m ((c.tc : Thread Cert.DownDxKernel.nD Cert.DownDxKernel.τ).loc Cert.DownDxKernel.main_arg1))
      ∧ r.2.sem = fun _ => 0)

def quiescent_DownDxKernelIdeal [hDownDxKernelIdeal : Cert.DownDxKernelIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg), Pre_DownDxKernelIdeal m →
    θ_run (Cert.DownDxKernelIdeal.defs (F := Ideal)) (onTc (τ := Cert.DownDxKernelIdeal.τ) (Cert.DownDxKernelIdeal.main (F := Ideal))) ⟨m, fun _ => 0, g⟩ (fun r => (∀ c : Dev Cert.DownDxKernelIdeal.nD,
      r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
      ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_OutDxKernel [hOutDxKernel : Cert.OutDxKernel.Facts] : Prop :=
  ∀ (m : (ℓ : Loc Cert.OutDxKernel.nD Cert.OutDxKernel.τ Cert.OutDxKernel.sig) → Buf (Elt Bits) ℓ) (g : Dev Cert.OutDxKernel.nD → PrngReg), Pre_OutDxKernel m →
    θ_run (Cert.OutDxKernel.defs (F := Bits)) (onTc (τ := Cert.OutDxKernel.τ) (Cert.OutDxKernel.main (F := Bits))) ⟨m, fun _ => 0, g⟩ (fun r => (∀ c : Dev Cert.OutDxKernel.nD,
      r.2.mem ((c.tc : Thread Cert.OutDxKernel.nD Cert.OutDxKernel.τ).loc Cert.OutDxKernel.main_arg0) = m ((c.tc : Thread Cert.OutDxKernel.nD Cert.OutDxKernel.τ).loc Cert.OutDxKernel.main_arg0)
      ∧ r.2.mem ((c.tc : Thread Cert.OutDxKernel.nD Cert.OutDxKernel.τ).loc Cert.OutDxKernel.main_arg1) = m ((c.tc : Thread Cert.OutDxKernel.nD Cert.OutDxKernel.τ).loc Cert.OutDxKernel.main_arg1))
      ∧ r.2.sem = fun _ => 0)

def quiescent_OutDxKernelIdeal [hOutDxKernelIdeal : Cert.OutDxKernelIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg), Pre_OutDxKernelIdeal m →
    θ_run (Cert.OutDxKernelIdeal.defs (F := Ideal)) (onTc (τ := Cert.OutDxKernelIdeal.τ) (Cert.OutDxKernelIdeal.main (F := Ideal))) ⟨m, fun _ => 0, g⟩ (fun r => (∀ c : Dev Cert.OutDxKernelIdeal.nD,
      r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
      ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDwKernel [hOutDwKernel : Cert.OutDwKernel.Facts] : Prop :=
  ∀ (m : (ℓ : Loc Cert.OutDwKernel.nD Cert.OutDwKernel.τ Cert.OutDwKernel.sig) → Buf (Elt Bits) ℓ) (g : Dev Cert.OutDwKernel.nD → PrngReg), Pre_OutDwKernel m →
    θ_run (Cert.OutDwKernel.defs (F := Bits)) (onTc (τ := Cert.OutDwKernel.τ) (Cert.OutDwKernel.main (F := Bits))) ⟨m, fun _ => 0, g⟩ (fun r => (∀ c : Dev Cert.OutDwKernel.nD,
      r.2.mem ((c.tc : Thread Cert.OutDwKernel.nD Cert.OutDwKernel.τ).loc Cert.OutDwKernel.main_arg0) = m ((c.tc : Thread Cert.OutDwKernel.nD Cert.OutDwKernel.τ).loc Cert.OutDwKernel.main_arg0)
      ∧ r.2.mem ((c.tc : Thread Cert.OutDwKernel.nD Cert.OutDwKernel.τ).loc Cert.OutDwKernel.main_arg1) = m ((c.tc : Thread Cert.OutDwKernel.nD Cert.OutDwKernel.τ).loc Cert.OutDwKernel.main_arg1))
      ∧ r.2.sem = fun _ => 0)

def quiescent_OutDwKernelIdeal [hOutDwKernelIdeal : Cert.OutDwKernelIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg), Pre_OutDwKernelIdeal m →
    θ_run (Cert.OutDwKernelIdeal.defs (F := Ideal)) (onTc (τ := Cert.OutDwKernelIdeal.τ) (Cert.OutDwKernelIdeal.main (F := Ideal))) ⟨m, fun _ => 0, g⟩ (fun r => (∀ c : Dev Cert.OutDwKernelIdeal.nD,
      r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
      ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_EvenDwKernel [hEvenDwKernel : Cert.EvenDwKernel.Facts] : Prop :=
  ∀ (m : (ℓ : Loc Cert.EvenDwKernel.nD Cert.EvenDwKernel.τ Cert.EvenDwKernel.sig) → Buf (Elt Bits) ℓ) (g : Dev Cert.EvenDwKernel.nD → PrngReg), Pre_EvenDwKernel m →
    θ_run (Cert.EvenDwKernel.defs (F := Bits)) (onTc (τ := Cert.EvenDwKernel.τ) (Cert.EvenDwKernel.main (F := Bits))) ⟨m, fun _ => 0, g⟩ (fun r => (∀ c : Dev Cert.EvenDwKernel.nD,
      r.2.mem ((c.tc : Thread Cert.EvenDwKernel.nD Cert.EvenDwKernel.τ).loc Cert.EvenDwKernel.main_arg0) = m ((c.tc : Thread Cert.EvenDwKernel.nD Cert.EvenDwKernel.τ).loc Cert.EvenDwKernel.main_arg0)
      ∧ r.2.mem ((c.tc : Thread Cert.EvenDwKernel.nD Cert.EvenDwKernel.τ).loc Cert.EvenDwKernel.main_arg1) = m ((c.tc : Thread Cert.EvenDwKernel.nD Cert.EvenDwKernel.τ).loc Cert.EvenDwKernel.main_arg1))
      ∧ r.2.sem = fun _ => 0)

def quiescent_EvenDwKernelIdeal [hEvenDwKernelIdeal : Cert.EvenDwKernelIdeal.Facts] : Prop :=
  ∀ (m : (ℓ : Loc Cert.EvenDwKernelIdeal.nD Cert.EvenDwKernelIdeal.τ Cert.EvenDwKernelIdeal.sig) → Buf (Elt Ideal) ℓ) (g : Dev Cert.EvenDwKernelIdeal.nD → PrngReg), Pre_EvenDwKernelIdeal m →
    θ_run (Cert.EvenDwKernelIdeal.defs (F := Ideal)) (onTc (τ := Cert.EvenDwKernelIdeal.τ) (Cert.EvenDwKernelIdeal.main (F := Ideal))) ⟨m, fun _ => 0, g⟩ (fun r => (∀ c : Dev Cert.EvenDwKernelIdeal.nD,
      r.2.mem ((c.tc : Thread Cert.EvenDwKernelIdeal.nD Cert.EvenDwKernelIdeal.τ).loc Cert.EvenDwKernelIdeal.main_arg0) = m ((c.tc : Thread Cert.EvenDwKernelIdeal.nD Cert.EvenDwKernelIdeal.τ).loc Cert.EvenDwKernelIdeal.main_arg0)
      ∧ r.2.mem ((c.tc : Thread Cert.EvenDwKernelIdeal.nD Cert.EvenDwKernelIdeal.τ).loc Cert.EvenDwKernelIdeal.main_arg1) = m ((c.tc : Thread Cert.EvenDwKernelIdeal.nD Cert.EvenDwKernelIdeal.τ).loc Cert.EvenDwKernelIdeal.main_arg1))
      ∧ r.2.sem = fun _ => 0)

def quiescent_EvenDwReferenceIdeal [hEvenDwReferenceIdeal : Cert.EvenDwReferenceIdeal.Facts] : Prop :=
  ∀ (m : (ℓ : Loc Cert.EvenDwReferenceIdeal.nD Cert.EvenDwReferenceIdeal.τ Cert.EvenDwReferenceIdeal.sig) → Buf (Elt Ideal) ℓ) (g : Dev Cert.EvenDwReferenceIdeal.nD → PrngReg), Pre_EvenDwReferenceIdeal m →
    θ_run (Cert.EvenDwReferenceIdeal.defs (F := Ideal)) (onTc (τ := Cert.EvenDwReferenceIdeal.τ) (Cert.EvenDwReferenceIdeal.main (F := Ideal))) ⟨m, fun _ => 0, g⟩ (fun r => (∀ c : Dev Cert.EvenDwReferenceIdeal.nD,
      r.2.mem ((c.tc : Thread Cert.EvenDwReferenceIdeal.nD Cert.EvenDwReferenceIdeal.τ).loc Cert.EvenDwReferenceIdeal.main_arg0) = m ((c.tc : Thread Cert.EvenDwReferenceIdeal.nD Cert.EvenDwReferenceIdeal.τ).loc Cert.EvenDwReferenceIdeal.main_arg0)
      ∧ r.2.mem ((c.tc : Thread Cert.EvenDwReferenceIdeal.nD Cert.EvenDwReferenceIdeal.τ).loc Cert.EvenDwReferenceIdeal.main_arg1) = m ((c.tc : Thread Cert.EvenDwReferenceIdeal.nD Cert.EvenDwReferenceIdeal.τ).loc Cert.EvenDwReferenceIdeal.main_arg1))
      ∧ r.2.sem = fun _ => 0)

def quiescent_OddDwKernel [hOddDwKernel : Cert.OddDwKernel.Facts] : Prop :=
  ∀ (m : (ℓ : Loc Cert.OddDwKernel.nD Cert.OddDwKernel.τ Cert.OddDwKernel.sig) → Buf (Elt Bits) ℓ) (g : Dev Cert.OddDwKernel.nD → PrngReg), Pre_OddDwKernel m →
    θ_run (Cert.OddDwKernel.defs (F := Bits)) (onTc (τ := Cert.OddDwKernel.τ) (Cert.OddDwKernel.main (F := Bits))) ⟨m, fun _ => 0, g⟩ (fun r => (∀ c : Dev Cert.OddDwKernel.nD,
      r.2.mem ((c.tc : Thread Cert.OddDwKernel.nD Cert.OddDwKernel.τ).loc Cert.OddDwKernel.main_arg0) = m ((c.tc : Thread Cert.OddDwKernel.nD Cert.OddDwKernel.τ).loc Cert.OddDwKernel.main_arg0)
      ∧ r.2.mem ((c.tc : Thread Cert.OddDwKernel.nD Cert.OddDwKernel.τ).loc Cert.OddDwKernel.main_arg1) = m ((c.tc : Thread Cert.OddDwKernel.nD Cert.OddDwKernel.τ).loc Cert.OddDwKernel.main_arg1))
      ∧ r.2.sem = fun _ => 0)

def quiescent_OddDwKernelIdeal [hOddDwKernelIdeal : Cert.OddDwKernelIdeal.Facts] : Prop :=
  ∀ (m : (ℓ : Loc Cert.OddDwKernelIdeal.nD Cert.OddDwKernelIdeal.τ Cert.OddDwKernelIdeal.sig) → Buf (Elt Ideal) ℓ) (g : Dev Cert.OddDwKernelIdeal.nD → PrngReg), Pre_OddDwKernelIdeal m →
    θ_run (Cert.OddDwKernelIdeal.defs (F := Ideal)) (onTc (τ := Cert.OddDwKernelIdeal.τ) (Cert.OddDwKernelIdeal.main (F := Ideal))) ⟨m, fun _ => 0, g⟩ (fun r => (∀ c : Dev Cert.OddDwKernelIdeal.nD,
      r.2.mem ((c.tc : Thread Cert.OddDwKernelIdeal.nD Cert.OddDwKernelIdeal.τ).loc Cert.OddDwKernelIdeal.main_arg0) = m ((c.tc : Thread Cert.OddDwKernelIdeal.nD Cert.OddDwKernelIdeal.τ).loc Cert.OddDwKernelIdeal.main_arg0)
      ∧ r.2.mem ((c.tc : Thread Cert.OddDwKernelIdeal.nD Cert.OddDwKernelIdeal.τ).loc Cert.OddDwKernelIdeal.main_arg1) = m ((c.tc : Thread Cert.OddDwKernelIdeal.nD Cert.OddDwKernelIdeal.τ).loc Cert.OddDwKernelIdeal.main_arg1))
      ∧ r.2.sem = fun _ => 0)

def quiescent_OddDwReferenceIdeal [hOddDwReferenceIdeal : Cert.OddDwReferenceIdeal.Facts] : Prop :=
  ∀ (m : (ℓ : Loc Cert.OddDwReferenceIdeal.nD Cert.OddDwReferenceIdeal.τ Cert.OddDwReferenceIdeal.sig) → Buf (Elt Ideal) ℓ) (g : Dev Cert.OddDwReferenceIdeal.nD → PrngReg), Pre_OddDwReferenceIdeal m →
    θ_run (Cert.OddDwReferenceIdeal.defs (F := Ideal)) (onTc (τ := Cert.OddDwReferenceIdeal.τ) (Cert.OddDwReferenceIdeal.main (F := Ideal))) ⟨m, fun _ => 0, g⟩ (fun r => (∀ c : Dev Cert.OddDwReferenceIdeal.nD,
      r.2.mem ((c.tc : Thread Cert.OddDwReferenceIdeal.nD Cert.OddDwReferenceIdeal.τ).loc Cert.OddDwReferenceIdeal.main_arg0) = m ((c.tc : Thread Cert.OddDwReferenceIdeal.nD Cert.OddDwReferenceIdeal.τ).loc Cert.OddDwReferenceIdeal.main_arg0)
      ∧ r.2.mem ((c.tc : Thread Cert.OddDwReferenceIdeal.nD Cert.OddDwReferenceIdeal.τ).loc Cert.OddDwReferenceIdeal.main_arg1) = m ((c.tc : Thread Cert.OddDwReferenceIdeal.nD Cert.OddDwReferenceIdeal.τ).loc Cert.OddDwReferenceIdeal.main_arg1))
      ∧ r.2.sem = fun _ => 0)

def quiescent_EvenInKernel [hEvenInKernel : Cert.EvenInKernel.Facts] : Prop :=
  ∀ (m : (ℓ : Loc Cert.EvenInKernel.nD Cert.EvenInKernel.τ Cert.EvenInKernel.sig) → Buf (Elt Bits) ℓ) (g : Dev Cert.EvenInKernel.nD → PrngReg), Pre_EvenInKernel m →
    θ_run (Cert.EvenInKernel.defs (F := Bits)) (onTc (τ := Cert.EvenInKernel.τ) (Cert.EvenInKernel.main (F := Bits))) ⟨m, fun _ => 0, g⟩ (fun r => (∀ c : Dev Cert.EvenInKernel.nD,
      r.2.mem ((c.tc : Thread Cert.EvenInKernel.nD Cert.EvenInKernel.τ).loc Cert.EvenInKernel.main_arg0) = m ((c.tc : Thread Cert.EvenInKernel.nD Cert.EvenInKernel.τ).loc Cert.EvenInKernel.main_arg0)
      ∧ r.2.mem ((c.tc : Thread Cert.EvenInKernel.nD Cert.EvenInKernel.τ).loc Cert.EvenInKernel.main_arg1) = m ((c.tc : Thread Cert.EvenInKernel.nD Cert.EvenInKernel.τ).loc Cert.EvenInKernel.main_arg1))
      ∧ r.2.sem = fun _ => 0)

def quiescent_EvenInKernelIdeal [hEvenInKernelIdeal : Cert.EvenInKernelIdeal.Facts] : Prop :=
  ∀ (m : (ℓ : Loc Cert.EvenInKernelIdeal.nD Cert.EvenInKernelIdeal.τ Cert.EvenInKernelIdeal.sig) → Buf (Elt Ideal) ℓ) (g : Dev Cert.EvenInKernelIdeal.nD → PrngReg), Pre_EvenInKernelIdeal m →
    θ_run (Cert.EvenInKernelIdeal.defs (F := Ideal)) (onTc (τ := Cert.EvenInKernelIdeal.τ) (Cert.EvenInKernelIdeal.main (F := Ideal))) ⟨m, fun _ => 0, g⟩ (fun r => (∀ c : Dev Cert.EvenInKernelIdeal.nD,
      r.2.mem ((c.tc : Thread Cert.EvenInKernelIdeal.nD Cert.EvenInKernelIdeal.τ).loc Cert.EvenInKernelIdeal.main_arg0) = m ((c.tc : Thread Cert.EvenInKernelIdeal.nD Cert.EvenInKernelIdeal.τ).loc Cert.EvenInKernelIdeal.main_arg0)
      ∧ r.2.mem ((c.tc : Thread Cert.EvenInKernelIdeal.nD Cert.EvenInKernelIdeal.τ).loc Cert.EvenInKernelIdeal.main_arg1) = m ((c.tc : Thread Cert.EvenInKernelIdeal.nD Cert.EvenInKernelIdeal.τ).loc Cert.EvenInKernelIdeal.main_arg1))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1))
      ∧ r.2.sem = fun _ => 0)

def quiescent_OddInKernel [hOddInKernel : Cert.OddInKernel.Facts] : Prop :=
  ∀ (m : (ℓ : Loc Cert.OddInKernel.nD Cert.OddInKernel.τ Cert.OddInKernel.sig) → Buf (Elt Bits) ℓ) (g : Dev Cert.OddInKernel.nD → PrngReg), Pre_OddInKernel m →
    θ_run (Cert.OddInKernel.defs (F := Bits)) (onTc (τ := Cert.OddInKernel.τ) (Cert.OddInKernel.main (F := Bits))) ⟨m, fun _ => 0, g⟩ (fun r => (∀ c : Dev Cert.OddInKernel.nD,
      r.2.mem ((c.tc : Thread Cert.OddInKernel.nD Cert.OddInKernel.τ).loc Cert.OddInKernel.main_arg0) = m ((c.tc : Thread Cert.OddInKernel.nD Cert.OddInKernel.τ).loc Cert.OddInKernel.main_arg0)
      ∧ r.2.mem ((c.tc : Thread Cert.OddInKernel.nD Cert.OddInKernel.τ).loc Cert.OddInKernel.main_arg1) = m ((c.tc : Thread Cert.OddInKernel.nD Cert.OddInKernel.τ).loc Cert.OddInKernel.main_arg1))
      ∧ r.2.sem = fun _ => 0)

def quiescent_OddInKernelIdeal [hOddInKernelIdeal : Cert.OddInKernelIdeal.Facts] : Prop :=
  ∀ (m : (ℓ : Loc Cert.OddInKernelIdeal.nD Cert.OddInKernelIdeal.τ Cert.OddInKernelIdeal.sig) → Buf (Elt Ideal) ℓ) (g : Dev Cert.OddInKernelIdeal.nD → PrngReg), Pre_OddInKernelIdeal m →
    θ_run (Cert.OddInKernelIdeal.defs (F := Ideal)) (onTc (τ := Cert.OddInKernelIdeal.τ) (Cert.OddInKernelIdeal.main (F := Ideal))) ⟨m, fun _ => 0, g⟩ (fun r => (∀ c : Dev Cert.OddInKernelIdeal.nD,
      r.2.mem ((c.tc : Thread Cert.OddInKernelIdeal.nD Cert.OddInKernelIdeal.τ).loc Cert.OddInKernelIdeal.main_arg0) = m ((c.tc : Thread Cert.OddInKernelIdeal.nD Cert.OddInKernelIdeal.τ).loc Cert.OddInKernelIdeal.main_arg0)
      ∧ r.2.mem ((c.tc : Thread Cert.OddInKernelIdeal.nD Cert.OddInKernelIdeal.τ).loc Cert.OddInKernelIdeal.main_arg1) = m ((c.tc : Thread Cert.OddInKernelIdeal.nD Cert.OddInKernelIdeal.τ).loc Cert.OddInKernelIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_MixOutKernel [hMixOutKernel : Cert.MixOutKernel.Facts] : Prop :=
  ∀ (m : (ℓ : Loc Cert.MixOutKernel.nD Cert.MixOutKernel.τ Cert.MixOutKernel.sig) → Buf (Elt Bits) ℓ) (g : Dev Cert.MixOutKernel.nD → PrngReg), Pre_MixOutKernel m →
    θ_run (Cert.MixOutKernel.defs (F := Bits)) (onTc (τ := Cert.MixOutKernel.τ) (Cert.MixOutKernel.main (F := Bits))) ⟨m, fun _ => 0, g⟩ (fun r => (∀ c : Dev Cert.MixOutKernel.nD,
      r.2.mem ((c.tc : Thread Cert.MixOutKernel.nD Cert.MixOutKernel.τ).loc Cert.MixOutKernel.main_arg0) = m ((c.tc : Thread Cert.MixOutKernel.nD Cert.MixOutKernel.τ).loc Cert.MixOutKernel.main_arg0)
      ∧ r.2.mem ((c.tc : Thread Cert.MixOutKernel.nD Cert.MixOutKernel.τ).loc Cert.MixOutKernel.main_arg1) = m ((c.tc : Thread Cert.MixOutKernel.nD Cert.MixOutKernel.τ).loc Cert.MixOutKernel.main_arg1)
      ∧ r.2.mem ((c.tc : Thread Cert.MixOutKernel.nD Cert.MixOutKernel.τ).loc Cert.MixOutKernel.main_arg2) = m ((c.tc : Thread Cert.MixOutKernel.nD Cert.MixOutKernel.τ).loc Cert.MixOutKernel.main_arg2)
      ∧ r.2.mem ((c.tc : Thread Cert.MixOutKernel.nD Cert.MixOutKernel.τ).loc Cert.MixOutKernel.main_arg3) = m ((c.tc : Thread Cert.MixOutKernel.nD Cert.MixOutKernel.τ).loc Cert.MixOutKernel.main_arg3))
      ∧ r.2.sem = fun _ => 0)

def quiescent_MixOutKernelIdeal [hMixOutKernelIdeal : Cert.MixOutKernelIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_LastDownKernel [hLastDownKernel : Cert.LastDownKernel.Facts] : Prop :=
  ∀ (m : (ℓ : Loc Cert.LastDownKernel.nD Cert.LastDownKernel.τ Cert.LastDownKernel.sig) → Buf (Elt Bits) ℓ) (g : Dev Cert.LastDownKernel.nD → PrngReg), Pre_LastDownKernel m →
    θ_run (Cert.LastDownKernel.defs (F := Bits)) (onTc (τ := Cert.LastDownKernel.τ) (Cert.LastDownKernel.main (F := Bits))) ⟨m, fun _ => 0, g⟩ (fun r => (∀ c : Dev Cert.LastDownKernel.nD,
      r.2.mem ((c.tc : Thread Cert.LastDownKernel.nD Cert.LastDownKernel.τ).loc Cert.LastDownKernel.main_arg0) = m ((c.tc : Thread Cert.LastDownKernel.nD Cert.LastDownKernel.τ).loc Cert.LastDownKernel.main_arg0)
      ∧ r.2.mem ((c.tc : Thread Cert.LastDownKernel.nD Cert.LastDownKernel.τ).loc Cert.LastDownKernel.main_arg1) = m ((c.tc : Thread Cert.LastDownKernel.nD Cert.LastDownKernel.τ).loc Cert.LastDownKernel.main_arg1)
      ∧ r.2.mem ((c.tc : Thread Cert.LastDownKernel.nD Cert.LastDownKernel.τ).loc Cert.LastDownKernel.main_arg2) = m ((c.tc : Thread Cert.LastDownKernel.nD Cert.LastDownKernel.τ).loc Cert.LastDownKernel.main_arg2))
      ∧ r.2.sem = fun _ => 0)

def quiescent_LastDownKernelIdeal [hLastDownKernelIdeal : Cert.LastDownKernelIdeal.Facts] : Prop :=
  ∀ (m : (ℓ : Loc Cert.LastDownKernelIdeal.nD Cert.LastDownKernelIdeal.τ Cert.LastDownKernelIdeal.sig) → Buf (Elt Ideal) ℓ) (g : Dev Cert.LastDownKernelIdeal.nD → PrngReg), Pre_LastDownKernelIdeal m →
    θ_run (Cert.LastDownKernelIdeal.defs (F := Ideal)) (onTc (τ := Cert.LastDownKernelIdeal.τ) (Cert.LastDownKernelIdeal.main (F := Ideal))) ⟨m, fun _ => 0, g⟩ (fun r => (∀ c : Dev Cert.LastDownKernelIdeal.nD,
      r.2.mem ((c.tc : Thread Cert.LastDownKernelIdeal.nD Cert.LastDownKernelIdeal.τ).loc Cert.LastDownKernelIdeal.main_arg0) = m ((c.tc : Thread Cert.LastDownKernelIdeal.nD Cert.LastDownKernelIdeal.τ).loc Cert.LastDownKernelIdeal.main_arg0)
      ∧ r.2.mem ((c.tc : Thread Cert.LastDownKernelIdeal.nD Cert.LastDownKernelIdeal.τ).loc Cert.LastDownKernelIdeal.main_arg1) = m ((c.tc : Thread Cert.LastDownKernelIdeal.nD Cert.LastDownKernelIdeal.τ).loc Cert.LastDownKernelIdeal.main_arg1)
      ∧ r.2.mem ((c.tc : Thread Cert.LastDownKernelIdeal.nD Cert.LastDownKernelIdeal.τ).loc Cert.LastDownKernelIdeal.main_arg2) = m ((c.tc : Thread Cert.LastDownKernelIdeal.nD Cert.LastDownKernelIdeal.τ).loc Cert.LastDownKernelIdeal.main_arg2))
      ∧ r.2.sem = fun _ => 0)

def quiescent_LastDownReferenceIdeal [hLastDownReferenceIdeal : Cert.LastDownReferenceIdeal.Facts] : Prop :=
  ∀ (m : (ℓ : Loc Cert.LastDownReferenceIdeal.nD Cert.LastDownReferenceIdeal.τ Cert.LastDownReferenceIdeal.sig) → Buf (Elt Ideal) ℓ) (g : Dev Cert.LastDownReferenceIdeal.nD → PrngReg), Pre_LastDownReferenceIdeal m →
    θ_run (Cert.LastDownReferenceIdeal.defs (F := Ideal)) (onTc (τ := Cert.LastDownReferenceIdeal.τ) (Cert.LastDownReferenceIdeal.main (F := Ideal))) ⟨m, fun _ => 0, g⟩ (fun r => (∀ c : Dev Cert.LastDownReferenceIdeal.nD,
      r.2.mem ((c.tc : Thread Cert.LastDownReferenceIdeal.nD Cert.LastDownReferenceIdeal.τ).loc Cert.LastDownReferenceIdeal.main_arg0) = m ((c.tc : Thread Cert.LastDownReferenceIdeal.nD Cert.LastDownReferenceIdeal.τ).loc Cert.LastDownReferenceIdeal.main_arg0)
      ∧ r.2.mem ((c.tc : Thread Cert.LastDownReferenceIdeal.nD Cert.LastDownReferenceIdeal.τ).loc Cert.LastDownReferenceIdeal.main_arg1) = m ((c.tc : Thread Cert.LastDownReferenceIdeal.nD Cert.LastDownReferenceIdeal.τ).loc Cert.LastDownReferenceIdeal.main_arg1)
      ∧ r.2.mem ((c.tc : Thread Cert.LastDownReferenceIdeal.nD Cert.LastDownReferenceIdeal.τ).loc Cert.LastDownReferenceIdeal.main_arg2) = m ((c.tc : Thread Cert.LastDownReferenceIdeal.nD Cert.LastDownReferenceIdeal.τ).loc Cert.LastDownReferenceIdeal.main_arg2))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ r.2.sem = fun _ => 0)

def quiescent_GluKernelIdeal_pre_glu_finite [hGluKernelIdeal : Cert.GluKernelIdeal.Facts] [hPre_glu_finite : Cert.Pre_glu_finite.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal_glu_finite m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3))
      ∧ r.2.sem = fun _ => 0)

def quiescent_GluReferenceIdeal_pre_glu_finite [hGluReferenceIdeal : Cert.GluReferenceIdeal.Facts] [hPre_glu_finite : Cert.Pre_glu_finite.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal_glu_finite m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_UpDx0Kernel [hUpDx0Kernel : Cert.UpDx0Kernel.Facts] : Prop :=
  ∀ (m : (ℓ : Loc Cert.UpDx0Kernel.nD Cert.UpDx0Kernel.τ Cert.UpDx0Kernel.sig) → Buf (Elt Bits) ℓ) (g : Dev Cert.UpDx0Kernel.nD → PrngReg), Pre_UpDx0Kernel m →
    θ_run (Cert.UpDx0Kernel.defs (F := Bits)) (onTc (τ := Cert.UpDx0Kernel.τ) (Cert.UpDx0Kernel.main (F := Bits))) ⟨m, fun _ => 0, g⟩ (fun r => (∀ c : Dev Cert.UpDx0Kernel.nD,
      r.2.mem ((c.tc : Thread Cert.UpDx0Kernel.nD Cert.UpDx0Kernel.τ).loc Cert.UpDx0Kernel.main_arg0) = m ((c.tc : Thread Cert.UpDx0Kernel.nD Cert.UpDx0Kernel.τ).loc Cert.UpDx0Kernel.main_arg0)
      ∧ r.2.mem ((c.tc : Thread Cert.UpDx0Kernel.nD Cert.UpDx0Kernel.τ).loc Cert.UpDx0Kernel.main_arg1) = m ((c.tc : Thread Cert.UpDx0Kernel.nD Cert.UpDx0Kernel.τ).loc Cert.UpDx0Kernel.main_arg1)
      ∧ r.2.mem ((c.tc : Thread Cert.UpDx0Kernel.nD Cert.UpDx0Kernel.τ).loc Cert.UpDx0Kernel.main_arg2) = m ((c.tc : Thread Cert.UpDx0Kernel.nD Cert.UpDx0Kernel.τ).loc Cert.UpDx0Kernel.main_arg2)
      ∧ r.2.mem ((c.tc : Thread Cert.UpDx0Kernel.nD Cert.UpDx0Kernel.τ).loc Cert.UpDx0Kernel.main_arg3) = m ((c.tc : Thread Cert.UpDx0Kernel.nD Cert.UpDx0Kernel.τ).loc Cert.UpDx0Kernel.main_arg3)
      ∧ r.2.mem ((c.tc : Thread Cert.UpDx0Kernel.nD Cert.UpDx0Kernel.τ).loc Cert.UpDx0Kernel.main_arg4) = m ((c.tc : Thread Cert.UpDx0Kernel.nD Cert.UpDx0Kernel.τ).loc Cert.UpDx0Kernel.main_arg4))
      ∧ r.2.sem = fun _ => 0)

def quiescent_UpDx0KernelIdeal [hUpDx0KernelIdeal : Cert.UpDx0KernelIdeal.Facts] : Prop :=
  ∀ (m : (ℓ : Loc Cert.UpDx0KernelIdeal.nD Cert.UpDx0KernelIdeal.τ Cert.UpDx0KernelIdeal.sig) → Buf (Elt Ideal) ℓ) (g : Dev Cert.UpDx0KernelIdeal.nD → PrngReg), Pre_UpDx0KernelIdeal m →
    θ_run (Cert.UpDx0KernelIdeal.defs (F := Ideal)) (onTc (τ := Cert.UpDx0KernelIdeal.τ) (Cert.UpDx0KernelIdeal.main (F := Ideal))) ⟨m, fun _ => 0, g⟩ (fun r => (∀ c : Dev Cert.UpDx0KernelIdeal.nD,
      r.2.mem ((c.tc : Thread Cert.UpDx0KernelIdeal.nD Cert.UpDx0KernelIdeal.τ).loc Cert.UpDx0KernelIdeal.main_arg0) = m ((c.tc : Thread Cert.UpDx0KernelIdeal.nD Cert.UpDx0KernelIdeal.τ).loc Cert.UpDx0KernelIdeal.main_arg0)
      ∧ r.2.mem ((c.tc : Thread Cert.UpDx0KernelIdeal.nD Cert.UpDx0KernelIdeal.τ).loc Cert.UpDx0KernelIdeal.main_arg1) = m ((c.tc : Thread Cert.UpDx0KernelIdeal.nD Cert.UpDx0KernelIdeal.τ).loc Cert.UpDx0KernelIdeal.main_arg1)
      ∧ r.2.mem ((c.tc : Thread Cert.UpDx0KernelIdeal.nD Cert.UpDx0KernelIdeal.τ).loc Cert.UpDx0KernelIdeal.main_arg2) = m ((c.tc : Thread Cert.UpDx0KernelIdeal.nD Cert.UpDx0KernelIdeal.τ).loc Cert.UpDx0KernelIdeal.main_arg2)
      ∧ r.2.mem ((c.tc : Thread Cert.UpDx0KernelIdeal.nD Cert.UpDx0KernelIdeal.τ).loc Cert.UpDx0KernelIdeal.main_arg3) = m ((c.tc : Thread Cert.UpDx0KernelIdeal.nD Cert.UpDx0KernelIdeal.τ).loc Cert.UpDx0KernelIdeal.main_arg3)
      ∧ r.2.mem ((c.tc : Thread Cert.UpDx0KernelIdeal.nD Cert.UpDx0KernelIdeal.τ).loc Cert.UpDx0KernelIdeal.main_arg4) = m ((c.tc : Thread Cert.UpDx0KernelIdeal.nD Cert.UpDx0KernelIdeal.τ).loc Cert.UpDx0KernelIdeal.main_arg4))
      ∧ r.2.sem = fun _ => 0)

def quiescent_UpDx0ReferenceIdeal [hUpDx0ReferenceIdeal : Cert.UpDx0ReferenceIdeal.Facts] : Prop :=
  ∀ (m : (ℓ : Loc Cert.UpDx0ReferenceIdeal.nD Cert.UpDx0ReferenceIdeal.τ Cert.UpDx0ReferenceIdeal.sig) → Buf (Elt Ideal) ℓ) (g : Dev Cert.UpDx0ReferenceIdeal.nD → PrngReg), Pre_UpDx0ReferenceIdeal m →
    θ_run (Cert.UpDx0ReferenceIdeal.defs (F := Ideal)) (onTc (τ := Cert.UpDx0ReferenceIdeal.τ) (Cert.UpDx0ReferenceIdeal.main (F := Ideal))) ⟨m, fun _ => 0, g⟩ (fun r => (∀ c : Dev Cert.UpDx0ReferenceIdeal.nD,
      r.2.mem ((c.tc : Thread Cert.UpDx0ReferenceIdeal.nD Cert.UpDx0ReferenceIdeal.τ).loc Cert.UpDx0ReferenceIdeal.main_arg0) = m ((c.tc : Thread Cert.UpDx0ReferenceIdeal.nD Cert.UpDx0ReferenceIdeal.τ).loc Cert.UpDx0ReferenceIdeal.main_arg0)
      ∧ r.2.mem ((c.tc : Thread Cert.UpDx0ReferenceIdeal.nD Cert.UpDx0ReferenceIdeal.τ).loc Cert.UpDx0ReferenceIdeal.main_arg1) = m ((c.tc : Thread Cert.UpDx0ReferenceIdeal.nD Cert.UpDx0ReferenceIdeal.τ).loc Cert.UpDx0ReferenceIdeal.main_arg1)
      ∧ r.2.mem ((c.tc : Thread Cert.UpDx0ReferenceIdeal.nD Cert.UpDx0ReferenceIdeal.τ).loc Cert.UpDx0ReferenceIdeal.main_arg2) = m ((c.tc : Thread Cert.UpDx0ReferenceIdeal.nD Cert.UpDx0ReferenceIdeal.τ).loc Cert.UpDx0ReferenceIdeal.main_arg2)
      ∧ r.2.mem ((c.tc : Thread Cert.UpDx0ReferenceIdeal.nD Cert.UpDx0ReferenceIdeal.τ).loc Cert.UpDx0ReferenceIdeal.main_arg3) = m ((c.tc : Thread Cert.UpDx0ReferenceIdeal.nD Cert.UpDx0ReferenceIdeal.τ).loc Cert.UpDx0ReferenceIdeal.main_arg3)
      ∧ r.2.mem ((c.tc : Thread Cert.UpDx0ReferenceIdeal.nD Cert.UpDx0ReferenceIdeal.τ).loc Cert.UpDx0ReferenceIdeal.main_arg4) = m ((c.tc : Thread Cert.UpDx0ReferenceIdeal.nD Cert.UpDx0ReferenceIdeal.τ).loc Cert.UpDx0ReferenceIdeal.main_arg4))
      ∧ r.2.sem = fun _ => 0)

def quiescent_UpDx1Kernel [hUpDx1Kernel : Cert.UpDx1Kernel.Facts] : Prop :=
  ∀ (m : (ℓ : Loc Cert.UpDx1Kernel.nD Cert.UpDx1Kernel.τ Cert.UpDx1Kernel.sig) → Buf (Elt Bits) ℓ) (g : Dev Cert.UpDx1Kernel.nD → PrngReg), Pre_UpDx1Kernel m →
    θ_run (Cert.UpDx1Kernel.defs (F := Bits)) (onTc (τ := Cert.UpDx1Kernel.τ) (Cert.UpDx1Kernel.main (F := Bits))) ⟨m, fun _ => 0, g⟩ (fun r => (∀ c : Dev Cert.UpDx1Kernel.nD,
      r.2.mem ((c.tc : Thread Cert.UpDx1Kernel.nD Cert.UpDx1Kernel.τ).loc Cert.UpDx1Kernel.main_arg0) = m ((c.tc : Thread Cert.UpDx1Kernel.nD Cert.UpDx1Kernel.τ).loc Cert.UpDx1Kernel.main_arg0)
      ∧ r.2.mem ((c.tc : Thread Cert.UpDx1Kernel.nD Cert.UpDx1Kernel.τ).loc Cert.UpDx1Kernel.main_arg1) = m ((c.tc : Thread Cert.UpDx1Kernel.nD Cert.UpDx1Kernel.τ).loc Cert.UpDx1Kernel.main_arg1)
      ∧ r.2.mem ((c.tc : Thread Cert.UpDx1Kernel.nD Cert.UpDx1Kernel.τ).loc Cert.UpDx1Kernel.main_arg2) = m ((c.tc : Thread Cert.UpDx1Kernel.nD Cert.UpDx1Kernel.τ).loc Cert.UpDx1Kernel.main_arg2)
      ∧ r.2.mem ((c.tc : Thread Cert.UpDx1Kernel.nD Cert.UpDx1Kernel.τ).loc Cert.UpDx1Kernel.main_arg3) = m ((c.tc : Thread Cert.UpDx1Kernel.nD Cert.UpDx1Kernel.τ).loc Cert.UpDx1Kernel.main_arg3)
      ∧ r.2.mem ((c.tc : Thread Cert.UpDx1Kernel.nD Cert.UpDx1Kernel.τ).loc Cert.UpDx1Kernel.main_arg4) = m ((c.tc : Thread Cert.UpDx1Kernel.nD Cert.UpDx1Kernel.τ).loc Cert.UpDx1Kernel.main_arg4))
      ∧ r.2.sem = fun _ => 0)

def quiescent_UpDx1KernelIdeal [hUpDx1KernelIdeal : Cert.UpDx1KernelIdeal.Facts] : Prop :=
  ∀ (m : (ℓ : Loc Cert.UpDx1KernelIdeal.nD Cert.UpDx1KernelIdeal.τ Cert.UpDx1KernelIdeal.sig) → Buf (Elt Ideal) ℓ) (g : Dev Cert.UpDx1KernelIdeal.nD → PrngReg), Pre_UpDx1KernelIdeal m →
    θ_run (Cert.UpDx1KernelIdeal.defs (F := Ideal)) (onTc (τ := Cert.UpDx1KernelIdeal.τ) (Cert.UpDx1KernelIdeal.main (F := Ideal))) ⟨m, fun _ => 0, g⟩ (fun r => (∀ c : Dev Cert.UpDx1KernelIdeal.nD,
      r.2.mem ((c.tc : Thread Cert.UpDx1KernelIdeal.nD Cert.UpDx1KernelIdeal.τ).loc Cert.UpDx1KernelIdeal.main_arg0) = m ((c.tc : Thread Cert.UpDx1KernelIdeal.nD Cert.UpDx1KernelIdeal.τ).loc Cert.UpDx1KernelIdeal.main_arg0)
      ∧ r.2.mem ((c.tc : Thread Cert.UpDx1KernelIdeal.nD Cert.UpDx1KernelIdeal.τ).loc Cert.UpDx1KernelIdeal.main_arg1) = m ((c.tc : Thread Cert.UpDx1KernelIdeal.nD Cert.UpDx1KernelIdeal.τ).loc Cert.UpDx1KernelIdeal.main_arg1)
      ∧ r.2.mem ((c.tc : Thread Cert.UpDx1KernelIdeal.nD Cert.UpDx1KernelIdeal.τ).loc Cert.UpDx1KernelIdeal.main_arg2) = m ((c.tc : Thread Cert.UpDx1KernelIdeal.nD Cert.UpDx1KernelIdeal.τ).loc Cert.UpDx1KernelIdeal.main_arg2)
      ∧ r.2.mem ((c.tc : Thread Cert.UpDx1KernelIdeal.nD Cert.UpDx1KernelIdeal.τ).loc Cert.UpDx1KernelIdeal.main_arg3) = m ((c.tc : Thread Cert.UpDx1KernelIdeal.nD Cert.UpDx1KernelIdeal.τ).loc Cert.UpDx1KernelIdeal.main_arg3)
      ∧ r.2.mem ((c.tc : Thread Cert.UpDx1KernelIdeal.nD Cert.UpDx1KernelIdeal.τ).loc Cert.UpDx1KernelIdeal.main_arg4) = m ((c.tc : Thread Cert.UpDx1KernelIdeal.nD Cert.UpDx1KernelIdeal.τ).loc Cert.UpDx1KernelIdeal.main_arg4))
      ∧ r.2.sem = fun _ => 0)

def quiescent_UpDx1ReferenceIdeal [hUpDx1ReferenceIdeal : Cert.UpDx1ReferenceIdeal.Facts] : Prop :=
  ∀ (m : (ℓ : Loc Cert.UpDx1ReferenceIdeal.nD Cert.UpDx1ReferenceIdeal.τ Cert.UpDx1ReferenceIdeal.sig) → Buf (Elt Ideal) ℓ) (g : Dev Cert.UpDx1ReferenceIdeal.nD → PrngReg), Pre_UpDx1ReferenceIdeal m →
    θ_run (Cert.UpDx1ReferenceIdeal.defs (F := Ideal)) (onTc (τ := Cert.UpDx1ReferenceIdeal.τ) (Cert.UpDx1ReferenceIdeal.main (F := Ideal))) ⟨m, fun _ => 0, g⟩ (fun r => (∀ c : Dev Cert.UpDx1ReferenceIdeal.nD,
      r.2.mem ((c.tc : Thread Cert.UpDx1ReferenceIdeal.nD Cert.UpDx1ReferenceIdeal.τ).loc Cert.UpDx1ReferenceIdeal.main_arg0) = m ((c.tc : Thread Cert.UpDx1ReferenceIdeal.nD Cert.UpDx1ReferenceIdeal.τ).loc Cert.UpDx1ReferenceIdeal.main_arg0)
      ∧ r.2.mem ((c.tc : Thread Cert.UpDx1ReferenceIdeal.nD Cert.UpDx1ReferenceIdeal.τ).loc Cert.UpDx1ReferenceIdeal.main_arg1) = m ((c.tc : Thread Cert.UpDx1ReferenceIdeal.nD Cert.UpDx1ReferenceIdeal.τ).loc Cert.UpDx1ReferenceIdeal.main_arg1)
      ∧ r.2.mem ((c.tc : Thread Cert.UpDx1ReferenceIdeal.nD Cert.UpDx1ReferenceIdeal.τ).loc Cert.UpDx1ReferenceIdeal.main_arg2) = m ((c.tc : Thread Cert.UpDx1ReferenceIdeal.nD Cert.UpDx1ReferenceIdeal.τ).loc Cert.UpDx1ReferenceIdeal.main_arg2)
      ∧ r.2.mem ((c.tc : Thread Cert.UpDx1ReferenceIdeal.nD Cert.UpDx1ReferenceIdeal.τ).loc Cert.UpDx1ReferenceIdeal.main_arg3) = m ((c.tc : Thread Cert.UpDx1ReferenceIdeal.nD Cert.UpDx1ReferenceIdeal.τ).loc Cert.UpDx1ReferenceIdeal.main_arg3)
      ∧ r.2.mem ((c.tc : Thread Cert.UpDx1ReferenceIdeal.nD Cert.UpDx1ReferenceIdeal.τ).loc Cert.UpDx1ReferenceIdeal.main_arg4) = m ((c.tc : Thread Cert.UpDx1ReferenceIdeal.nD Cert.UpDx1ReferenceIdeal.τ).loc Cert.UpDx1ReferenceIdeal.main_arg4))
      ∧ r.2.sem = fun _ => 0)

def quiescent_UpDx2Kernel [hUpDx2Kernel : Cert.UpDx2Kernel.Facts] : Prop :=
  ∀ (m : (ℓ : Loc Cert.UpDx2Kernel.nD Cert.UpDx2Kernel.τ Cert.UpDx2Kernel.sig) → Buf (Elt Bits) ℓ) (g : Dev Cert.UpDx2Kernel.nD → PrngReg), Pre_UpDx2Kernel m →
    θ_run (Cert.UpDx2Kernel.defs (F := Bits)) (onTc (τ := Cert.UpDx2Kernel.τ) (Cert.UpDx2Kernel.main (F := Bits))) ⟨m, fun _ => 0, g⟩ (fun r => (∀ c : Dev Cert.UpDx2Kernel.nD,
      r.2.mem ((c.tc : Thread Cert.UpDx2Kernel.nD Cert.UpDx2Kernel.τ).loc Cert.UpDx2Kernel.main_arg0) = m ((c.tc : Thread Cert.UpDx2Kernel.nD Cert.UpDx2Kernel.τ).loc Cert.UpDx2Kernel.main_arg0)
      ∧ r.2.mem ((c.tc : Thread Cert.UpDx2Kernel.nD Cert.UpDx2Kernel.τ).loc Cert.UpDx2Kernel.main_arg1) = m ((c.tc : Thread Cert.UpDx2Kernel.nD Cert.UpDx2Kernel.τ).loc Cert.UpDx2Kernel.main_arg1)
      ∧ r.2.mem ((c.tc : Thread Cert.UpDx2Kernel.nD Cert.UpDx2Kernel.τ).loc Cert.UpDx2Kernel.main_arg2) = m ((c.tc : Thread Cert.UpDx2Kernel.nD Cert.UpDx2Kernel.τ).loc Cert.UpDx2Kernel.main_arg2)
      ∧ r.2.mem ((c.tc : Thread Cert.UpDx2Kernel.nD Cert.UpDx2Kernel.τ).loc Cert.UpDx2Kernel.main_arg3) = m ((c.tc : Thread Cert.UpDx2Kernel.nD Cert.UpDx2Kernel.τ).loc Cert.UpDx2Kernel.main_arg3)
      ∧ r.2.mem ((c.tc : Thread Cert.UpDx2Kernel.nD Cert.UpDx2Kernel.τ).loc Cert.UpDx2Kernel.main_arg4) = m ((c.tc : Thread Cert.UpDx2Kernel.nD Cert.UpDx2Kernel.τ).loc Cert.UpDx2Kernel.main_arg4))
      ∧ r.2.sem = fun _ => 0)

def quiescent_UpDx2KernelIdeal [hUpDx2KernelIdeal : Cert.UpDx2KernelIdeal.Facts] : Prop :=
  ∀ (m : (ℓ : Loc Cert.UpDx2KernelIdeal.nD Cert.UpDx2KernelIdeal.τ Cert.UpDx2KernelIdeal.sig) → Buf (Elt Ideal) ℓ) (g : Dev Cert.UpDx2KernelIdeal.nD → PrngReg), Pre_UpDx2KernelIdeal m →
    θ_run (Cert.UpDx2KernelIdeal.defs (F := Ideal)) (onTc (τ := Cert.UpDx2KernelIdeal.τ) (Cert.UpDx2KernelIdeal.main (F := Ideal))) ⟨m, fun _ => 0, g⟩ (fun r => (∀ c : Dev Cert.UpDx2KernelIdeal.nD,
      r.2.mem ((c.tc : Thread Cert.UpDx2KernelIdeal.nD Cert.UpDx2KernelIdeal.τ).loc Cert.UpDx2KernelIdeal.main_arg0) = m ((c.tc : Thread Cert.UpDx2KernelIdeal.nD Cert.UpDx2KernelIdeal.τ).loc Cert.UpDx2KernelIdeal.main_arg0)
      ∧ r.2.mem ((c.tc : Thread Cert.UpDx2KernelIdeal.nD Cert.UpDx2KernelIdeal.τ).loc Cert.UpDx2KernelIdeal.main_arg1) = m ((c.tc : Thread Cert.UpDx2KernelIdeal.nD Cert.UpDx2KernelIdeal.τ).loc Cert.UpDx2KernelIdeal.main_arg1)
      ∧ r.2.mem ((c.tc : Thread Cert.UpDx2KernelIdeal.nD Cert.UpDx2KernelIdeal.τ).loc Cert.UpDx2KernelIdeal.main_arg2) = m ((c.tc : Thread Cert.UpDx2KernelIdeal.nD Cert.UpDx2KernelIdeal.τ).loc Cert.UpDx2KernelIdeal.main_arg2)
      ∧ r.2.mem ((c.tc : Thread Cert.UpDx2KernelIdeal.nD Cert.UpDx2KernelIdeal.τ).loc Cert.UpDx2KernelIdeal.main_arg3) = m ((c.tc : Thread Cert.UpDx2KernelIdeal.nD Cert.UpDx2KernelIdeal.τ).loc Cert.UpDx2KernelIdeal.main_arg3)
      ∧ r.2.mem ((c.tc : Thread Cert.UpDx2KernelIdeal.nD Cert.UpDx2KernelIdeal.τ).loc Cert.UpDx2KernelIdeal.main_arg4) = m ((c.tc : Thread Cert.UpDx2KernelIdeal.nD Cert.UpDx2KernelIdeal.τ).loc Cert.UpDx2KernelIdeal.main_arg4))
      ∧ r.2.sem = fun _ => 0)

def quiescent_UpDx2ReferenceIdeal [hUpDx2ReferenceIdeal : Cert.UpDx2ReferenceIdeal.Facts] : Prop :=
  ∀ (m : (ℓ : Loc Cert.UpDx2ReferenceIdeal.nD Cert.UpDx2ReferenceIdeal.τ Cert.UpDx2ReferenceIdeal.sig) → Buf (Elt Ideal) ℓ) (g : Dev Cert.UpDx2ReferenceIdeal.nD → PrngReg), Pre_UpDx2ReferenceIdeal m →
    θ_run (Cert.UpDx2ReferenceIdeal.defs (F := Ideal)) (onTc (τ := Cert.UpDx2ReferenceIdeal.τ) (Cert.UpDx2ReferenceIdeal.main (F := Ideal))) ⟨m, fun _ => 0, g⟩ (fun r => (∀ c : Dev Cert.UpDx2ReferenceIdeal.nD,
      r.2.mem ((c.tc : Thread Cert.UpDx2ReferenceIdeal.nD Cert.UpDx2ReferenceIdeal.τ).loc Cert.UpDx2ReferenceIdeal.main_arg0) = m ((c.tc : Thread Cert.UpDx2ReferenceIdeal.nD Cert.UpDx2ReferenceIdeal.τ).loc Cert.UpDx2ReferenceIdeal.main_arg0)
      ∧ r.2.mem ((c.tc : Thread Cert.UpDx2ReferenceIdeal.nD Cert.UpDx2ReferenceIdeal.τ).loc Cert.UpDx2ReferenceIdeal.main_arg1) = m ((c.tc : Thread Cert.UpDx2ReferenceIdeal.nD Cert.UpDx2ReferenceIdeal.τ).loc Cert.UpDx2ReferenceIdeal.main_arg1)
      ∧ r.2.mem ((c.tc : Thread Cert.UpDx2ReferenceIdeal.nD Cert.UpDx2ReferenceIdeal.τ).loc Cert.UpDx2ReferenceIdeal.main_arg2) = m ((c.tc : Thread Cert.UpDx2ReferenceIdeal.nD Cert.UpDx2ReferenceIdeal.τ).loc Cert.UpDx2ReferenceIdeal.main_arg2)
      ∧ r.2.mem ((c.tc : Thread Cert.UpDx2ReferenceIdeal.nD Cert.UpDx2ReferenceIdeal.τ).loc Cert.UpDx2ReferenceIdeal.main_arg3) = m ((c.tc : Thread Cert.UpDx2ReferenceIdeal.nD Cert.UpDx2ReferenceIdeal.τ).loc Cert.UpDx2ReferenceIdeal.main_arg3)
      ∧ r.2.mem ((c.tc : Thread Cert.UpDx2ReferenceIdeal.nD Cert.UpDx2ReferenceIdeal.τ).loc Cert.UpDx2ReferenceIdeal.main_arg4) = m ((c.tc : Thread Cert.UpDx2ReferenceIdeal.nD Cert.UpDx2ReferenceIdeal.τ).loc Cert.UpDx2ReferenceIdeal.main_arg4))
      ∧ r.2.sem = fun _ => 0)

def quiescent_OddDx1Kernel [hOddDx1Kernel : Cert.OddDx1Kernel.Facts] : Prop :=
  ∀ (m : (ℓ : Loc Cert.OddDx1Kernel.nD Cert.OddDx1Kernel.τ Cert.OddDx1Kernel.sig) → Buf (Elt Bits) ℓ) (g : Dev Cert.OddDx1Kernel.nD → PrngReg), Pre_OddDx1Kernel m →
    θ_run (Cert.OddDx1Kernel.defs (F := Bits)) (onTc (τ := Cert.OddDx1Kernel.τ) (Cert.OddDx1Kernel.main (F := Bits))) ⟨m, fun _ => 0, g⟩ (fun r => (∀ c : Dev Cert.OddDx1Kernel.nD,
      r.2.mem ((c.tc : Thread Cert.OddDx1Kernel.nD Cert.OddDx1Kernel.τ).loc Cert.OddDx1Kernel.main_arg0) = m ((c.tc : Thread Cert.OddDx1Kernel.nD Cert.OddDx1Kernel.τ).loc Cert.OddDx1Kernel.main_arg0)
      ∧ r.2.mem ((c.tc : Thread Cert.OddDx1Kernel.nD Cert.OddDx1Kernel.τ).loc Cert.OddDx1Kernel.main_arg1) = m ((c.tc : Thread Cert.OddDx1Kernel.nD Cert.OddDx1Kernel.τ).loc Cert.OddDx1Kernel.main_arg1)
      ∧ r.2.mem ((c.tc : Thread Cert.OddDx1Kernel.nD Cert.OddDx1Kernel.τ).loc Cert.OddDx1Kernel.main_arg2) = m ((c.tc : Thread Cert.OddDx1Kernel.nD Cert.OddDx1Kernel.τ).loc Cert.OddDx1Kernel.main_arg2)
      ∧ r.2.mem ((c.tc : Thread Cert.OddDx1Kernel.nD Cert.OddDx1Kernel.τ).loc Cert.OddDx1Kernel.main_arg3) = m ((c.tc : Thread Cert.OddDx1Kernel.nD Cert.OddDx1Kernel.τ).loc Cert.OddDx1Kernel.main_arg3)
      ∧ r.2.mem ((c.tc : Thread Cert.OddDx1Kernel.nD Cert.OddDx1Kernel.τ).loc Cert.OddDx1Kernel.main_arg4) = m ((c.tc : Thread Cert.OddDx1Kernel.nD Cert.OddDx1Kernel.τ).loc Cert.OddDx1Kernel.main_arg4))
      ∧ r.2.sem = fun _ => 0)

def quiescent_OddDx1KernelIdeal [hOddDx1KernelIdeal : Cert.OddDx1KernelIdeal.Facts] : Prop :=
  ∀ (m : (ℓ : Loc Cert.OddDx1KernelIdeal.nD Cert.OddDx1KernelIdeal.τ Cert.OddDx1KernelIdeal.sig) → Buf (Elt Ideal) ℓ) (g : Dev Cert.OddDx1KernelIdeal.nD → PrngReg), Pre_OddDx1KernelIdeal m →
    θ_run (Cert.OddDx1KernelIdeal.defs (F := Ideal)) (onTc (τ := Cert.OddDx1KernelIdeal.τ) (Cert.OddDx1KernelIdeal.main (F := Ideal))) ⟨m, fun _ => 0, g⟩ (fun r => (∀ c : Dev Cert.OddDx1KernelIdeal.nD,
      r.2.mem ((c.tc : Thread Cert.OddDx1KernelIdeal.nD Cert.OddDx1KernelIdeal.τ).loc Cert.OddDx1KernelIdeal.main_arg0) = m ((c.tc : Thread Cert.OddDx1KernelIdeal.nD Cert.OddDx1KernelIdeal.τ).loc Cert.OddDx1KernelIdeal.main_arg0)
      ∧ r.2.mem ((c.tc : Thread Cert.OddDx1KernelIdeal.nD Cert.OddDx1KernelIdeal.τ).loc Cert.OddDx1KernelIdeal.main_arg1) = m ((c.tc : Thread Cert.OddDx1KernelIdeal.nD Cert.OddDx1KernelIdeal.τ).loc Cert.OddDx1KernelIdeal.main_arg1)
      ∧ r.2.mem ((c.tc : Thread Cert.OddDx1KernelIdeal.nD Cert.OddDx1KernelIdeal.τ).loc Cert.OddDx1KernelIdeal.main_arg2) = m ((c.tc : Thread Cert.OddDx1KernelIdeal.nD Cert.OddDx1KernelIdeal.τ).loc Cert.OddDx1KernelIdeal.main_arg2)
      ∧ r.2.mem ((c.tc : Thread Cert.OddDx1KernelIdeal.nD Cert.OddDx1KernelIdeal.τ).loc Cert.OddDx1KernelIdeal.main_arg3) = m ((c.tc : Thread Cert.OddDx1KernelIdeal.nD Cert.OddDx1KernelIdeal.τ).loc Cert.OddDx1KernelIdeal.main_arg3)
      ∧ r.2.mem ((c.tc : Thread Cert.OddDx1KernelIdeal.nD Cert.OddDx1KernelIdeal.τ).loc Cert.OddDx1KernelIdeal.main_arg4) = m ((c.tc : Thread Cert.OddDx1KernelIdeal.nD Cert.OddDx1KernelIdeal.τ).loc Cert.OddDx1KernelIdeal.main_arg4))
      ∧ r.2.sem = fun _ => 0)

def quiescent_OddDx1ReferenceIdeal [hOddDx1ReferenceIdeal : Cert.OddDx1ReferenceIdeal.Facts] : Prop :=
  ∀ (m : (ℓ : Loc Cert.OddDx1ReferenceIdeal.nD Cert.OddDx1ReferenceIdeal.τ Cert.OddDx1ReferenceIdeal.sig) → Buf (Elt Ideal) ℓ) (g : Dev Cert.OddDx1ReferenceIdeal.nD → PrngReg), Pre_OddDx1ReferenceIdeal m →
    θ_run (Cert.OddDx1ReferenceIdeal.defs (F := Ideal)) (onTc (τ := Cert.OddDx1ReferenceIdeal.τ) (Cert.OddDx1ReferenceIdeal.main (F := Ideal))) ⟨m, fun _ => 0, g⟩ (fun r => (∀ c : Dev Cert.OddDx1ReferenceIdeal.nD,
      r.2.mem ((c.tc : Thread Cert.OddDx1ReferenceIdeal.nD Cert.OddDx1ReferenceIdeal.τ).loc Cert.OddDx1ReferenceIdeal.main_arg0) = m ((c.tc : Thread Cert.OddDx1ReferenceIdeal.nD Cert.OddDx1ReferenceIdeal.τ).loc Cert.OddDx1ReferenceIdeal.main_arg0)
      ∧ r.2.mem ((c.tc : Thread Cert.OddDx1ReferenceIdeal.nD Cert.OddDx1ReferenceIdeal.τ).loc Cert.OddDx1ReferenceIdeal.main_arg1) = m ((c.tc : Thread Cert.OddDx1ReferenceIdeal.nD Cert.OddDx1ReferenceIdeal.τ).loc Cert.OddDx1ReferenceIdeal.main_arg1)
      ∧ r.2.mem ((c.tc : Thread Cert.OddDx1ReferenceIdeal.nD Cert.OddDx1ReferenceIdeal.τ).loc Cert.OddDx1ReferenceIdeal.main_arg2) = m ((c.tc : Thread Cert.OddDx1ReferenceIdeal.nD Cert.OddDx1ReferenceIdeal.τ).loc Cert.OddDx1ReferenceIdeal.main_arg2)
      ∧ r.2.mem ((c.tc : Thread Cert.OddDx1ReferenceIdeal.nD Cert.OddDx1ReferenceIdeal.τ).loc Cert.OddDx1ReferenceIdeal.main_arg3) = m ((c.tc : Thread Cert.OddDx1ReferenceIdeal.nD Cert.OddDx1ReferenceIdeal.τ).loc Cert.OddDx1ReferenceIdeal.main_arg3)
      ∧ r.2.mem ((c.tc : Thread Cert.OddDx1ReferenceIdeal.nD Cert.OddDx1ReferenceIdeal.τ).loc Cert.OddDx1ReferenceIdeal.main_arg4) = m ((c.tc : Thread Cert.OddDx1ReferenceIdeal.nD Cert.OddDx1ReferenceIdeal.τ).loc Cert.OddDx1ReferenceIdeal.main_arg4))
      ∧ r.2.sem = fun _ => 0)

def quiescent_EvenDx0Kernel [hEvenDx0Kernel : Cert.EvenDx0Kernel.Facts] : Prop :=
  ∀ (m : (ℓ : Loc Cert.EvenDx0Kernel.nD Cert.EvenDx0Kernel.τ Cert.EvenDx0Kernel.sig) → Buf (Elt Bits) ℓ) (g : Dev Cert.EvenDx0Kernel.nD → PrngReg), Pre_EvenDx0Kernel m →
    θ_run (Cert.EvenDx0Kernel.defs (F := Bits)) (onTc (τ := Cert.EvenDx0Kernel.τ) (Cert.EvenDx0Kernel.main (F := Bits))) ⟨m, fun _ => 0, g⟩ (fun r => (∀ c : Dev Cert.EvenDx0Kernel.nD,
      r.2.mem ((c.tc : Thread Cert.EvenDx0Kernel.nD Cert.EvenDx0Kernel.τ).loc Cert.EvenDx0Kernel.main_arg0) = m ((c.tc : Thread Cert.EvenDx0Kernel.nD Cert.EvenDx0Kernel.τ).loc Cert.EvenDx0Kernel.main_arg0)
      ∧ r.2.mem ((c.tc : Thread Cert.EvenDx0Kernel.nD Cert.EvenDx0Kernel.τ).loc Cert.EvenDx0Kernel.main_arg1) = m ((c.tc : Thread Cert.EvenDx0Kernel.nD Cert.EvenDx0Kernel.τ).loc Cert.EvenDx0Kernel.main_arg1)
      ∧ r.2.mem ((c.tc : Thread Cert.EvenDx0Kernel.nD Cert.EvenDx0Kernel.τ).loc Cert.EvenDx0Kernel.main_arg2) = m ((c.tc : Thread Cert.EvenDx0Kernel.nD Cert.EvenDx0Kernel.τ).loc Cert.EvenDx0Kernel.main_arg2)
      ∧ r.2.mem ((c.tc : Thread Cert.EvenDx0Kernel.nD Cert.EvenDx0Kernel.τ).loc Cert.EvenDx0Kernel.main_arg3) = m ((c.tc : Thread Cert.EvenDx0Kernel.nD Cert.EvenDx0Kernel.τ).loc Cert.EvenDx0Kernel.main_arg3)
      ∧ r.2.mem ((c.tc : Thread Cert.EvenDx0Kernel.nD Cert.EvenDx0Kernel.τ).loc Cert.EvenDx0Kernel.main_arg4) = m ((c.tc : Thread Cert.EvenDx0Kernel.nD Cert.EvenDx0Kernel.τ).loc Cert.EvenDx0Kernel.main_arg4))
      ∧ r.2.sem = fun _ => 0)

def quiescent_EvenDx0KernelIdeal [hEvenDx0KernelIdeal : Cert.EvenDx0KernelIdeal.Facts] : Prop :=
  ∀ (m : (ℓ : Loc Cert.EvenDx0KernelIdeal.nD Cert.EvenDx0KernelIdeal.τ Cert.EvenDx0KernelIdeal.sig) → Buf (Elt Ideal) ℓ) (g : Dev Cert.EvenDx0KernelIdeal.nD → PrngReg), Pre_EvenDx0KernelIdeal m →
    θ_run (Cert.EvenDx0KernelIdeal.defs (F := Ideal)) (onTc (τ := Cert.EvenDx0KernelIdeal.τ) (Cert.EvenDx0KernelIdeal.main (F := Ideal))) ⟨m, fun _ => 0, g⟩ (fun r => (∀ c : Dev Cert.EvenDx0KernelIdeal.nD,
      r.2.mem ((c.tc : Thread Cert.EvenDx0KernelIdeal.nD Cert.EvenDx0KernelIdeal.τ).loc Cert.EvenDx0KernelIdeal.main_arg0) = m ((c.tc : Thread Cert.EvenDx0KernelIdeal.nD Cert.EvenDx0KernelIdeal.τ).loc Cert.EvenDx0KernelIdeal.main_arg0)
      ∧ r.2.mem ((c.tc : Thread Cert.EvenDx0KernelIdeal.nD Cert.EvenDx0KernelIdeal.τ).loc Cert.EvenDx0KernelIdeal.main_arg1) = m ((c.tc : Thread Cert.EvenDx0KernelIdeal.nD Cert.EvenDx0KernelIdeal.τ).loc Cert.EvenDx0KernelIdeal.main_arg1)
      ∧ r.2.mem ((c.tc : Thread Cert.EvenDx0KernelIdeal.nD Cert.EvenDx0KernelIdeal.τ).loc Cert.EvenDx0KernelIdeal.main_arg2) = m ((c.tc : Thread Cert.EvenDx0KernelIdeal.nD Cert.EvenDx0KernelIdeal.τ).loc Cert.EvenDx0KernelIdeal.main_arg2)
      ∧ r.2.mem ((c.tc : Thread Cert.EvenDx0KernelIdeal.nD Cert.EvenDx0KernelIdeal.τ).loc Cert.EvenDx0KernelIdeal.main_arg3) = m ((c.tc : Thread Cert.EvenDx0KernelIdeal.nD Cert.EvenDx0KernelIdeal.τ).loc Cert.EvenDx0KernelIdeal.main_arg3)
      ∧ r.2.mem ((c.tc : Thread Cert.EvenDx0KernelIdeal.nD Cert.EvenDx0KernelIdeal.τ).loc Cert.EvenDx0KernelIdeal.main_arg4) = m ((c.tc : Thread Cert.EvenDx0KernelIdeal.nD Cert.EvenDx0KernelIdeal.τ).loc Cert.EvenDx0KernelIdeal.main_arg4))
      ∧ r.2.sem = fun _ => 0)

def quiescent_EvenDx0ReferenceIdeal [hEvenDx0ReferenceIdeal : Cert.EvenDx0ReferenceIdeal.Facts] : Prop :=
  ∀ (m : (ℓ : Loc Cert.EvenDx0ReferenceIdeal.nD Cert.EvenDx0ReferenceIdeal.τ Cert.EvenDx0ReferenceIdeal.sig) → Buf (Elt Ideal) ℓ) (g : Dev Cert.EvenDx0ReferenceIdeal.nD → PrngReg), Pre_EvenDx0ReferenceIdeal m →
    θ_run (Cert.EvenDx0ReferenceIdeal.defs (F := Ideal)) (onTc (τ := Cert.EvenDx0ReferenceIdeal.τ) (Cert.EvenDx0ReferenceIdeal.main (F := Ideal))) ⟨m, fun _ => 0, g⟩ (fun r => (∀ c : Dev Cert.EvenDx0ReferenceIdeal.nD,
      r.2.mem ((c.tc : Thread Cert.EvenDx0ReferenceIdeal.nD Cert.EvenDx0ReferenceIdeal.τ).loc Cert.EvenDx0ReferenceIdeal.main_arg0) = m ((c.tc : Thread Cert.EvenDx0ReferenceIdeal.nD Cert.EvenDx0ReferenceIdeal.τ).loc Cert.EvenDx0ReferenceIdeal.main_arg0)
      ∧ r.2.mem ((c.tc : Thread Cert.EvenDx0ReferenceIdeal.nD Cert.EvenDx0ReferenceIdeal.τ).loc Cert.EvenDx0ReferenceIdeal.main_arg1) = m ((c.tc : Thread Cert.EvenDx0ReferenceIdeal.nD Cert.EvenDx0ReferenceIdeal.τ).loc Cert.EvenDx0ReferenceIdeal.main_arg1)
      ∧ r.2.mem ((c.tc : Thread Cert.EvenDx0ReferenceIdeal.nD Cert.EvenDx0ReferenceIdeal.τ).loc Cert.EvenDx0ReferenceIdeal.main_arg2) = m ((c.tc : Thread Cert.EvenDx0ReferenceIdeal.nD Cert.EvenDx0ReferenceIdeal.τ).loc Cert.EvenDx0ReferenceIdeal.main_arg2)
      ∧ r.2.mem ((c.tc : Thread Cert.EvenDx0ReferenceIdeal.nD Cert.EvenDx0ReferenceIdeal.τ).loc Cert.EvenDx0ReferenceIdeal.main_arg3) = m ((c.tc : Thread Cert.EvenDx0ReferenceIdeal.nD Cert.EvenDx0ReferenceIdeal.τ).loc Cert.EvenDx0ReferenceIdeal.main_arg3)
      ∧ r.2.mem ((c.tc : Thread Cert.EvenDx0ReferenceIdeal.nD Cert.EvenDx0ReferenceIdeal.τ).loc Cert.EvenDx0ReferenceIdeal.main_arg4) = m ((c.tc : Thread Cert.EvenDx0ReferenceIdeal.nD Cert.EvenDx0ReferenceIdeal.τ).loc Cert.EvenDx0ReferenceIdeal.main_arg4))
      ∧ r.2.sem = fun _ => 0)

def quiescent_MixOut0Kernel [hMixOut0Kernel : Cert.MixOut0Kernel.Facts] : Prop :=
  ∀ (m : (ℓ : Loc Cert.MixOut0Kernel.nD Cert.MixOut0Kernel.τ Cert.MixOut0Kernel.sig) → Buf (Elt Bits) ℓ) (g : Dev Cert.MixOut0Kernel.nD → PrngReg), Pre_MixOut0Kernel m →
    θ_run (Cert.MixOut0Kernel.defs (F := Bits)) (onTc (τ := Cert.MixOut0Kernel.τ) (Cert.MixOut0Kernel.main (F := Bits))) ⟨m, fun _ => 0, g⟩ (fun r => (∀ c : Dev Cert.MixOut0Kernel.nD,
      r.2.mem ((c.tc : Thread Cert.MixOut0Kernel.nD Cert.MixOut0Kernel.τ).loc Cert.MixOut0Kernel.main_arg0) = m ((c.tc : Thread Cert.MixOut0Kernel.nD Cert.MixOut0Kernel.τ).loc Cert.MixOut0Kernel.main_arg0)
      ∧ r.2.mem ((c.tc : Thread Cert.MixOut0Kernel.nD Cert.MixOut0Kernel.τ).loc Cert.MixOut0Kernel.main_arg1) = m ((c.tc : Thread Cert.MixOut0Kernel.nD Cert.MixOut0Kernel.τ).loc Cert.MixOut0Kernel.main_arg1)
      ∧ r.2.mem ((c.tc : Thread Cert.MixOut0Kernel.nD Cert.MixOut0Kernel.τ).loc Cert.MixOut0Kernel.main_arg2) = m ((c.tc : Thread Cert.MixOut0Kernel.nD Cert.MixOut0Kernel.τ).loc Cert.MixOut0Kernel.main_arg2)
      ∧ r.2.mem ((c.tc : Thread Cert.MixOut0Kernel.nD Cert.MixOut0Kernel.τ).loc Cert.MixOut0Kernel.main_arg3) = m ((c.tc : Thread Cert.MixOut0Kernel.nD Cert.MixOut0Kernel.τ).loc Cert.MixOut0Kernel.main_arg3))
      ∧ r.2.sem = fun _ => 0)

def quiescent_MixOut0KernelIdeal [hMixOut0KernelIdeal : Cert.MixOut0KernelIdeal.Facts] : Prop :=
  ∀ (m : (ℓ : Loc Cert.MixOut0KernelIdeal.nD Cert.MixOut0KernelIdeal.τ Cert.MixOut0KernelIdeal.sig) → Buf (Elt Ideal) ℓ) (g : Dev Cert.MixOut0KernelIdeal.nD → PrngReg), Pre_MixOut0KernelIdeal m →
    θ_run (Cert.MixOut0KernelIdeal.defs (F := Ideal)) (onTc (τ := Cert.MixOut0KernelIdeal.τ) (Cert.MixOut0KernelIdeal.main (F := Ideal))) ⟨m, fun _ => 0, g⟩ (fun r => (∀ c : Dev Cert.MixOut0KernelIdeal.nD,
      r.2.mem ((c.tc : Thread Cert.MixOut0KernelIdeal.nD Cert.MixOut0KernelIdeal.τ).loc Cert.MixOut0KernelIdeal.main_arg0) = m ((c.tc : Thread Cert.MixOut0KernelIdeal.nD Cert.MixOut0KernelIdeal.τ).loc Cert.MixOut0KernelIdeal.main_arg0)
      ∧ r.2.mem ((c.tc : Thread Cert.MixOut0KernelIdeal.nD Cert.MixOut0KernelIdeal.τ).loc Cert.MixOut0KernelIdeal.main_arg1) = m ((c.tc : Thread Cert.MixOut0KernelIdeal.nD Cert.MixOut0KernelIdeal.τ).loc Cert.MixOut0KernelIdeal.main_arg1)
      ∧ r.2.mem ((c.tc : Thread Cert.MixOut0KernelIdeal.nD Cert.MixOut0KernelIdeal.τ).loc Cert.MixOut0KernelIdeal.main_arg2) = m ((c.tc : Thread Cert.MixOut0KernelIdeal.nD Cert.MixOut0KernelIdeal.τ).loc Cert.MixOut0KernelIdeal.main_arg2)
      ∧ r.2.mem ((c.tc : Thread Cert.MixOut0KernelIdeal.nD Cert.MixOut0KernelIdeal.τ).loc Cert.MixOut0KernelIdeal.main_arg3) = m ((c.tc : Thread Cert.MixOut0KernelIdeal.nD Cert.MixOut0KernelIdeal.τ).loc Cert.MixOut0KernelIdeal.main_arg3))
      ∧ r.2.sem = fun _ => 0)

def quiescent_MixOut0ReferenceIdeal [hMixOut0ReferenceIdeal : Cert.MixOut0ReferenceIdeal.Facts] : Prop :=
  ∀ (m : (ℓ : Loc Cert.MixOut0ReferenceIdeal.nD Cert.MixOut0ReferenceIdeal.τ Cert.MixOut0ReferenceIdeal.sig) → Buf (Elt Ideal) ℓ) (g : Dev Cert.MixOut0ReferenceIdeal.nD → PrngReg), Pre_MixOut0ReferenceIdeal m →
    θ_run (Cert.MixOut0ReferenceIdeal.defs (F := Ideal)) (onTc (τ := Cert.MixOut0ReferenceIdeal.τ) (Cert.MixOut0ReferenceIdeal.main (F := Ideal))) ⟨m, fun _ => 0, g⟩ (fun r => (∀ c : Dev Cert.MixOut0ReferenceIdeal.nD,
      r.2.mem ((c.tc : Thread Cert.MixOut0ReferenceIdeal.nD Cert.MixOut0ReferenceIdeal.τ).loc Cert.MixOut0ReferenceIdeal.main_arg0) = m ((c.tc : Thread Cert.MixOut0ReferenceIdeal.nD Cert.MixOut0ReferenceIdeal.τ).loc Cert.MixOut0ReferenceIdeal.main_arg0)
      ∧ r.2.mem ((c.tc : Thread Cert.MixOut0ReferenceIdeal.nD Cert.MixOut0ReferenceIdeal.τ).loc Cert.MixOut0ReferenceIdeal.main_arg1) = m ((c.tc : Thread Cert.MixOut0ReferenceIdeal.nD Cert.MixOut0ReferenceIdeal.τ).loc Cert.MixOut0ReferenceIdeal.main_arg1)
      ∧ r.2.mem ((c.tc : Thread Cert.MixOut0ReferenceIdeal.nD Cert.MixOut0ReferenceIdeal.τ).loc Cert.MixOut0ReferenceIdeal.main_arg2) = m ((c.tc : Thread Cert.MixOut0ReferenceIdeal.nD Cert.MixOut0ReferenceIdeal.τ).loc Cert.MixOut0ReferenceIdeal.main_arg2)
      ∧ r.2.mem ((c.tc : Thread Cert.MixOut0ReferenceIdeal.nD Cert.MixOut0ReferenceIdeal.τ).loc Cert.MixOut0ReferenceIdeal.main_arg3) = m ((c.tc : Thread Cert.MixOut0ReferenceIdeal.nD Cert.MixOut0ReferenceIdeal.τ).loc Cert.MixOut0ReferenceIdeal.main_arg3))
      ∧ r.2.sem = fun _ => 0)

def quiescent_MixOut1Kernel [hMixOut1Kernel : Cert.MixOut1Kernel.Facts] : Prop :=
  ∀ (m : (ℓ : Loc Cert.MixOut1Kernel.nD Cert.MixOut1Kernel.τ Cert.MixOut1Kernel.sig) → Buf (Elt Bits) ℓ) (g : Dev Cert.MixOut1Kernel.nD → PrngReg), Pre_MixOut1Kernel m →
    θ_run (Cert.MixOut1Kernel.defs (F := Bits)) (onTc (τ := Cert.MixOut1Kernel.τ) (Cert.MixOut1Kernel.main (F := Bits))) ⟨m, fun _ => 0, g⟩ (fun r => (∀ c : Dev Cert.MixOut1Kernel.nD,
      r.2.mem ((c.tc : Thread Cert.MixOut1Kernel.nD Cert.MixOut1Kernel.τ).loc Cert.MixOut1Kernel.main_arg0) = m ((c.tc : Thread Cert.MixOut1Kernel.nD Cert.MixOut1Kernel.τ).loc Cert.MixOut1Kernel.main_arg0)
      ∧ r.2.mem ((c.tc : Thread Cert.MixOut1Kernel.nD Cert.MixOut1Kernel.τ).loc Cert.MixOut1Kernel.main_arg1) = m ((c.tc : Thread Cert.MixOut1Kernel.nD Cert.MixOut1Kernel.τ).loc Cert.MixOut1Kernel.main_arg1)
      ∧ r.2.mem ((c.tc : Thread Cert.MixOut1Kernel.nD Cert.MixOut1Kernel.τ).loc Cert.MixOut1Kernel.main_arg2) = m ((c.tc : Thread Cert.MixOut1Kernel.nD Cert.MixOut1Kernel.τ).loc Cert.MixOut1Kernel.main_arg2)
      ∧ r.2.mem ((c.tc : Thread Cert.MixOut1Kernel.nD Cert.MixOut1Kernel.τ).loc Cert.MixOut1Kernel.main_arg3) = m ((c.tc : Thread Cert.MixOut1Kernel.nD Cert.MixOut1Kernel.τ).loc Cert.MixOut1Kernel.main_arg3))
      ∧ r.2.sem = fun _ => 0)

def quiescent_MixOut1KernelIdeal [hMixOut1KernelIdeal : Cert.MixOut1KernelIdeal.Facts] : Prop :=
  ∀ (m : (ℓ : Loc Cert.MixOut1KernelIdeal.nD Cert.MixOut1KernelIdeal.τ Cert.MixOut1KernelIdeal.sig) → Buf (Elt Ideal) ℓ) (g : Dev Cert.MixOut1KernelIdeal.nD → PrngReg), Pre_MixOut1KernelIdeal m →
    θ_run (Cert.MixOut1KernelIdeal.defs (F := Ideal)) (onTc (τ := Cert.MixOut1KernelIdeal.τ) (Cert.MixOut1KernelIdeal.main (F := Ideal))) ⟨m, fun _ => 0, g⟩ (fun r => (∀ c : Dev Cert.MixOut1KernelIdeal.nD,
      r.2.mem ((c.tc : Thread Cert.MixOut1KernelIdeal.nD Cert.MixOut1KernelIdeal.τ).loc Cert.MixOut1KernelIdeal.main_arg0) = m ((c.tc : Thread Cert.MixOut1KernelIdeal.nD Cert.MixOut1KernelIdeal.τ).loc Cert.MixOut1KernelIdeal.main_arg0)
      ∧ r.2.mem ((c.tc : Thread Cert.MixOut1KernelIdeal.nD Cert.MixOut1KernelIdeal.τ).loc Cert.MixOut1KernelIdeal.main_arg1) = m ((c.tc : Thread Cert.MixOut1KernelIdeal.nD Cert.MixOut1KernelIdeal.τ).loc Cert.MixOut1KernelIdeal.main_arg1)
      ∧ r.2.mem ((c.tc : Thread Cert.MixOut1KernelIdeal.nD Cert.MixOut1KernelIdeal.τ).loc Cert.MixOut1KernelIdeal.main_arg2) = m ((c.tc : Thread Cert.MixOut1KernelIdeal.nD Cert.MixOut1KernelIdeal.τ).loc Cert.MixOut1KernelIdeal.main_arg2)
      ∧ r.2.mem ((c.tc : Thread Cert.MixOut1KernelIdeal.nD Cert.MixOut1KernelIdeal.τ).loc Cert.MixOut1KernelIdeal.main_arg3) = m ((c.tc : Thread Cert.MixOut1KernelIdeal.nD Cert.MixOut1KernelIdeal.τ).loc Cert.MixOut1KernelIdeal.main_arg3))
      ∧ r.2.sem = fun _ => 0)

def quiescent_MixOut1ReferenceIdeal [hMixOut1ReferenceIdeal : Cert.MixOut1ReferenceIdeal.Facts] : Prop :=
  ∀ (m : (ℓ : Loc Cert.MixOut1ReferenceIdeal.nD Cert.MixOut1ReferenceIdeal.τ Cert.MixOut1ReferenceIdeal.sig) → Buf (Elt Ideal) ℓ) (g : Dev Cert.MixOut1ReferenceIdeal.nD → PrngReg), Pre_MixOut1ReferenceIdeal m →
    θ_run (Cert.MixOut1ReferenceIdeal.defs (F := Ideal)) (onTc (τ := Cert.MixOut1ReferenceIdeal.τ) (Cert.MixOut1ReferenceIdeal.main (F := Ideal))) ⟨m, fun _ => 0, g⟩ (fun r => (∀ c : Dev Cert.MixOut1ReferenceIdeal.nD,
      r.2.mem ((c.tc : Thread Cert.MixOut1ReferenceIdeal.nD Cert.MixOut1ReferenceIdeal.τ).loc Cert.MixOut1ReferenceIdeal.main_arg0) = m ((c.tc : Thread Cert.MixOut1ReferenceIdeal.nD Cert.MixOut1ReferenceIdeal.τ).loc Cert.MixOut1ReferenceIdeal.main_arg0)
      ∧ r.2.mem ((c.tc : Thread Cert.MixOut1ReferenceIdeal.nD Cert.MixOut1ReferenceIdeal.τ).loc Cert.MixOut1ReferenceIdeal.main_arg1) = m ((c.tc : Thread Cert.MixOut1ReferenceIdeal.nD Cert.MixOut1ReferenceIdeal.τ).loc Cert.MixOut1ReferenceIdeal.main_arg1)
      ∧ r.2.mem ((c.tc : Thread Cert.MixOut1ReferenceIdeal.nD Cert.MixOut1ReferenceIdeal.τ).loc Cert.MixOut1ReferenceIdeal.main_arg2) = m ((c.tc : Thread Cert.MixOut1ReferenceIdeal.nD Cert.MixOut1ReferenceIdeal.τ).loc Cert.MixOut1ReferenceIdeal.main_arg2)
      ∧ r.2.mem ((c.tc : Thread Cert.MixOut1ReferenceIdeal.nD Cert.MixOut1ReferenceIdeal.τ).loc Cert.MixOut1ReferenceIdeal.main_arg3) = m ((c.tc : Thread Cert.MixOut1ReferenceIdeal.nD Cert.MixOut1ReferenceIdeal.τ).loc Cert.MixOut1ReferenceIdeal.main_arg3))
      ∧ r.2.sem = fun _ => 0)

def quiescent_MixOut2Kernel [hMixOut2Kernel : Cert.MixOut2Kernel.Facts] : Prop :=
  ∀ (m : (ℓ : Loc Cert.MixOut2Kernel.nD Cert.MixOut2Kernel.τ Cert.MixOut2Kernel.sig) → Buf (Elt Bits) ℓ) (g : Dev Cert.MixOut2Kernel.nD → PrngReg), Pre_MixOut2Kernel m →
    θ_run (Cert.MixOut2Kernel.defs (F := Bits)) (onTc (τ := Cert.MixOut2Kernel.τ) (Cert.MixOut2Kernel.main (F := Bits))) ⟨m, fun _ => 0, g⟩ (fun r => (∀ c : Dev Cert.MixOut2Kernel.nD,
      r.2.mem ((c.tc : Thread Cert.MixOut2Kernel.nD Cert.MixOut2Kernel.τ).loc Cert.MixOut2Kernel.main_arg0) = m ((c.tc : Thread Cert.MixOut2Kernel.nD Cert.MixOut2Kernel.τ).loc Cert.MixOut2Kernel.main_arg0)
      ∧ r.2.mem ((c.tc : Thread Cert.MixOut2Kernel.nD Cert.MixOut2Kernel.τ).loc Cert.MixOut2Kernel.main_arg1) = m ((c.tc : Thread Cert.MixOut2Kernel.nD Cert.MixOut2Kernel.τ).loc Cert.MixOut2Kernel.main_arg1)
      ∧ r.2.mem ((c.tc : Thread Cert.MixOut2Kernel.nD Cert.MixOut2Kernel.τ).loc Cert.MixOut2Kernel.main_arg2) = m ((c.tc : Thread Cert.MixOut2Kernel.nD Cert.MixOut2Kernel.τ).loc Cert.MixOut2Kernel.main_arg2)
      ∧ r.2.mem ((c.tc : Thread Cert.MixOut2Kernel.nD Cert.MixOut2Kernel.τ).loc Cert.MixOut2Kernel.main_arg3) = m ((c.tc : Thread Cert.MixOut2Kernel.nD Cert.MixOut2Kernel.τ).loc Cert.MixOut2Kernel.main_arg3))
      ∧ r.2.sem = fun _ => 0)

def quiescent_MixOut2KernelIdeal [hMixOut2KernelIdeal : Cert.MixOut2KernelIdeal.Facts] : Prop :=
  ∀ (m : (ℓ : Loc Cert.MixOut2KernelIdeal.nD Cert.MixOut2KernelIdeal.τ Cert.MixOut2KernelIdeal.sig) → Buf (Elt Ideal) ℓ) (g : Dev Cert.MixOut2KernelIdeal.nD → PrngReg), Pre_MixOut2KernelIdeal m →
    θ_run (Cert.MixOut2KernelIdeal.defs (F := Ideal)) (onTc (τ := Cert.MixOut2KernelIdeal.τ) (Cert.MixOut2KernelIdeal.main (F := Ideal))) ⟨m, fun _ => 0, g⟩ (fun r => (∀ c : Dev Cert.MixOut2KernelIdeal.nD,
      r.2.mem ((c.tc : Thread Cert.MixOut2KernelIdeal.nD Cert.MixOut2KernelIdeal.τ).loc Cert.MixOut2KernelIdeal.main_arg0) = m ((c.tc : Thread Cert.MixOut2KernelIdeal.nD Cert.MixOut2KernelIdeal.τ).loc Cert.MixOut2KernelIdeal.main_arg0)
      ∧ r.2.mem ((c.tc : Thread Cert.MixOut2KernelIdeal.nD Cert.MixOut2KernelIdeal.τ).loc Cert.MixOut2KernelIdeal.main_arg1) = m ((c.tc : Thread Cert.MixOut2KernelIdeal.nD Cert.MixOut2KernelIdeal.τ).loc Cert.MixOut2KernelIdeal.main_arg1)
      ∧ r.2.mem ((c.tc : Thread Cert.MixOut2KernelIdeal.nD Cert.MixOut2KernelIdeal.τ).loc Cert.MixOut2KernelIdeal.main_arg2) = m ((c.tc : Thread Cert.MixOut2KernelIdeal.nD Cert.MixOut2KernelIdeal.τ).loc Cert.MixOut2KernelIdeal.main_arg2)
      ∧ r.2.mem ((c.tc : Thread Cert.MixOut2KernelIdeal.nD Cert.MixOut2KernelIdeal.τ).loc Cert.MixOut2KernelIdeal.main_arg3) = m ((c.tc : Thread Cert.MixOut2KernelIdeal.nD Cert.MixOut2KernelIdeal.τ).loc Cert.MixOut2KernelIdeal.main_arg3))
      ∧ r.2.sem = fun _ => 0)

def quiescent_MixOut2ReferenceIdeal [hMixOut2ReferenceIdeal : Cert.MixOut2ReferenceIdeal.Facts] : Prop :=
  ∀ (m : (ℓ : Loc Cert.MixOut2ReferenceIdeal.nD Cert.MixOut2ReferenceIdeal.τ Cert.MixOut2ReferenceIdeal.sig) → Buf (Elt Ideal) ℓ) (g : Dev Cert.MixOut2ReferenceIdeal.nD → PrngReg), Pre_MixOut2ReferenceIdeal m →
    θ_run (Cert.MixOut2ReferenceIdeal.defs (F := Ideal)) (onTc (τ := Cert.MixOut2ReferenceIdeal.τ) (Cert.MixOut2ReferenceIdeal.main (F := Ideal))) ⟨m, fun _ => 0, g⟩ (fun r => (∀ c : Dev Cert.MixOut2ReferenceIdeal.nD,
      r.2.mem ((c.tc : Thread Cert.MixOut2ReferenceIdeal.nD Cert.MixOut2ReferenceIdeal.τ).loc Cert.MixOut2ReferenceIdeal.main_arg0) = m ((c.tc : Thread Cert.MixOut2ReferenceIdeal.nD Cert.MixOut2ReferenceIdeal.τ).loc Cert.MixOut2ReferenceIdeal.main_arg0)
      ∧ r.2.mem ((c.tc : Thread Cert.MixOut2ReferenceIdeal.nD Cert.MixOut2ReferenceIdeal.τ).loc Cert.MixOut2ReferenceIdeal.main_arg1) = m ((c.tc : Thread Cert.MixOut2ReferenceIdeal.nD Cert.MixOut2ReferenceIdeal.τ).loc Cert.MixOut2ReferenceIdeal.main_arg1)
      ∧ r.2.mem ((c.tc : Thread Cert.MixOut2ReferenceIdeal.nD Cert.MixOut2ReferenceIdeal.τ).loc Cert.MixOut2ReferenceIdeal.main_arg2) = m ((c.tc : Thread Cert.MixOut2ReferenceIdeal.nD Cert.MixOut2ReferenceIdeal.τ).loc Cert.MixOut2ReferenceIdeal.main_arg2)
      ∧ r.2.mem ((c.tc : Thread Cert.MixOut2ReferenceIdeal.nD Cert.MixOut2ReferenceIdeal.τ).loc Cert.MixOut2ReferenceIdeal.main_arg3) = m ((c.tc : Thread Cert.MixOut2ReferenceIdeal.nD Cert.MixOut2ReferenceIdeal.τ).loc Cert.MixOut2ReferenceIdeal.main_arg3))
      ∧ r.2.sem = fun _ => 0)

def quiescent_Down1Kernel [hDown1Kernel : Cert.Down1Kernel.Facts] : Prop :=
  ∀ (m : (ℓ : Loc Cert.Down1Kernel.nD Cert.Down1Kernel.τ Cert.Down1Kernel.sig) → Buf (Elt Bits) ℓ) (g : Dev Cert.Down1Kernel.nD → PrngReg), Pre_Down1Kernel m →
    θ_run (Cert.Down1Kernel.defs (F := Bits)) (onTc (τ := Cert.Down1Kernel.τ) (Cert.Down1Kernel.main (F := Bits))) ⟨m, fun _ => 0, g⟩ (fun r => (∀ c : Dev Cert.Down1Kernel.nD,
      r.2.mem ((c.tc : Thread Cert.Down1Kernel.nD Cert.Down1Kernel.τ).loc Cert.Down1Kernel.main_arg0) = m ((c.tc : Thread Cert.Down1Kernel.nD Cert.Down1Kernel.τ).loc Cert.Down1Kernel.main_arg0)
      ∧ r.2.mem ((c.tc : Thread Cert.Down1Kernel.nD Cert.Down1Kernel.τ).loc Cert.Down1Kernel.main_arg1) = m ((c.tc : Thread Cert.Down1Kernel.nD Cert.Down1Kernel.τ).loc Cert.Down1Kernel.main_arg1)
      ∧ r.2.mem ((c.tc : Thread Cert.Down1Kernel.nD Cert.Down1Kernel.τ).loc Cert.Down1Kernel.main_arg2) = m ((c.tc : Thread Cert.Down1Kernel.nD Cert.Down1Kernel.τ).loc Cert.Down1Kernel.main_arg2)
      ∧ r.2.mem ((c.tc : Thread Cert.Down1Kernel.nD Cert.Down1Kernel.τ).loc Cert.Down1Kernel.main_arg3) = m ((c.tc : Thread Cert.Down1Kernel.nD Cert.Down1Kernel.τ).loc Cert.Down1Kernel.main_arg3))
      ∧ r.2.sem = fun _ => 0)

def quiescent_Down1KernelIdeal [hDown1KernelIdeal : Cert.Down1KernelIdeal.Facts] : Prop :=
  ∀ (m : (ℓ : Loc Cert.Down1KernelIdeal.nD Cert.Down1KernelIdeal.τ Cert.Down1KernelIdeal.sig) → Buf (Elt Ideal) ℓ) (g : Dev Cert.Down1KernelIdeal.nD → PrngReg), Pre_Down1KernelIdeal m →
    θ_run (Cert.Down1KernelIdeal.defs (F := Ideal)) (onTc (τ := Cert.Down1KernelIdeal.τ) (Cert.Down1KernelIdeal.main (F := Ideal))) ⟨m, fun _ => 0, g⟩ (fun r => (∀ c : Dev Cert.Down1KernelIdeal.nD,
      r.2.mem ((c.tc : Thread Cert.Down1KernelIdeal.nD Cert.Down1KernelIdeal.τ).loc Cert.Down1KernelIdeal.main_arg0) = m ((c.tc : Thread Cert.Down1KernelIdeal.nD Cert.Down1KernelIdeal.τ).loc Cert.Down1KernelIdeal.main_arg0)
      ∧ r.2.mem ((c.tc : Thread Cert.Down1KernelIdeal.nD Cert.Down1KernelIdeal.τ).loc Cert.Down1KernelIdeal.main_arg1) = m ((c.tc : Thread Cert.Down1KernelIdeal.nD Cert.Down1KernelIdeal.τ).loc Cert.Down1KernelIdeal.main_arg1)
      ∧ r.2.mem ((c.tc : Thread Cert.Down1KernelIdeal.nD Cert.Down1KernelIdeal.τ).loc Cert.Down1KernelIdeal.main_arg2) = m ((c.tc : Thread Cert.Down1KernelIdeal.nD Cert.Down1KernelIdeal.τ).loc Cert.Down1KernelIdeal.main_arg2)
      ∧ r.2.mem ((c.tc : Thread Cert.Down1KernelIdeal.nD Cert.Down1KernelIdeal.τ).loc Cert.Down1KernelIdeal.main_arg3) = m ((c.tc : Thread Cert.Down1KernelIdeal.nD Cert.Down1KernelIdeal.τ).loc Cert.Down1KernelIdeal.main_arg3))
      ∧ r.2.sem = fun _ => 0)

def quiescent_Down1ReferenceIdeal [hDown1ReferenceIdeal : Cert.Down1ReferenceIdeal.Facts] : Prop :=
  ∀ (m : (ℓ : Loc Cert.Down1ReferenceIdeal.nD Cert.Down1ReferenceIdeal.τ Cert.Down1ReferenceIdeal.sig) → Buf (Elt Ideal) ℓ) (g : Dev Cert.Down1ReferenceIdeal.nD → PrngReg), Pre_Down1ReferenceIdeal m →
    θ_run (Cert.Down1ReferenceIdeal.defs (F := Ideal)) (onTc (τ := Cert.Down1ReferenceIdeal.τ) (Cert.Down1ReferenceIdeal.main (F := Ideal))) ⟨m, fun _ => 0, g⟩ (fun r => (∀ c : Dev Cert.Down1ReferenceIdeal.nD,
      r.2.mem ((c.tc : Thread Cert.Down1ReferenceIdeal.nD Cert.Down1ReferenceIdeal.τ).loc Cert.Down1ReferenceIdeal.main_arg0) = m ((c.tc : Thread Cert.Down1ReferenceIdeal.nD Cert.Down1ReferenceIdeal.τ).loc Cert.Down1ReferenceIdeal.main_arg0)
      ∧ r.2.mem ((c.tc : Thread Cert.Down1ReferenceIdeal.nD Cert.Down1ReferenceIdeal.τ).loc Cert.Down1ReferenceIdeal.main_arg1) = m ((c.tc : Thread Cert.Down1ReferenceIdeal.nD Cert.Down1ReferenceIdeal.τ).loc Cert.Down1ReferenceIdeal.main_arg1)
      ∧ r.2.mem ((c.tc : Thread Cert.Down1ReferenceIdeal.nD Cert.Down1ReferenceIdeal.τ).loc Cert.Down1ReferenceIdeal.main_arg2) = m ((c.tc : Thread Cert.Down1ReferenceIdeal.nD Cert.Down1ReferenceIdeal.τ).loc Cert.Down1ReferenceIdeal.main_arg2)
      ∧ r.2.mem ((c.tc : Thread Cert.Down1ReferenceIdeal.nD Cert.Down1ReferenceIdeal.τ).loc Cert.Down1ReferenceIdeal.main_arg3) = m ((c.tc : Thread Cert.Down1ReferenceIdeal.nD Cert.Down1ReferenceIdeal.τ).loc Cert.Down1ReferenceIdeal.main_arg3))
      ∧ r.2.sem = fun _ => 0)

def quiescent_Down3Kernel [hDown3Kernel : Cert.Down3Kernel.Facts] : Prop :=
  ∀ (m : (ℓ : Loc Cert.Down3Kernel.nD Cert.Down3Kernel.τ Cert.Down3Kernel.sig) → Buf (Elt Bits) ℓ) (g : Dev Cert.Down3Kernel.nD → PrngReg), Pre_Down3Kernel m →
    θ_run (Cert.Down3Kernel.defs (F := Bits)) (onTc (τ := Cert.Down3Kernel.τ) (Cert.Down3Kernel.main (F := Bits))) ⟨m, fun _ => 0, g⟩ (fun r => (∀ c : Dev Cert.Down3Kernel.nD,
      r.2.mem ((c.tc : Thread Cert.Down3Kernel.nD Cert.Down3Kernel.τ).loc Cert.Down3Kernel.main_arg0) = m ((c.tc : Thread Cert.Down3Kernel.nD Cert.Down3Kernel.τ).loc Cert.Down3Kernel.main_arg0)
      ∧ r.2.mem ((c.tc : Thread Cert.Down3Kernel.nD Cert.Down3Kernel.τ).loc Cert.Down3Kernel.main_arg1) = m ((c.tc : Thread Cert.Down3Kernel.nD Cert.Down3Kernel.τ).loc Cert.Down3Kernel.main_arg1)
      ∧ r.2.mem ((c.tc : Thread Cert.Down3Kernel.nD Cert.Down3Kernel.τ).loc Cert.Down3Kernel.main_arg2) = m ((c.tc : Thread Cert.Down3Kernel.nD Cert.Down3Kernel.τ).loc Cert.Down3Kernel.main_arg2)
      ∧ r.2.mem ((c.tc : Thread Cert.Down3Kernel.nD Cert.Down3Kernel.τ).loc Cert.Down3Kernel.main_arg3) = m ((c.tc : Thread Cert.Down3Kernel.nD Cert.Down3Kernel.τ).loc Cert.Down3Kernel.main_arg3))
      ∧ r.2.sem = fun _ => 0)

def quiescent_Down3KernelIdeal [hDown3KernelIdeal : Cert.Down3KernelIdeal.Facts] : Prop :=
  ∀ (m : (ℓ : Loc Cert.Down3KernelIdeal.nD Cert.Down3KernelIdeal.τ Cert.Down3KernelIdeal.sig) → Buf (Elt Ideal) ℓ) (g : Dev Cert.Down3KernelIdeal.nD → PrngReg), Pre_Down3KernelIdeal m →
    θ_run (Cert.Down3KernelIdeal.defs (F := Ideal)) (onTc (τ := Cert.Down3KernelIdeal.τ) (Cert.Down3KernelIdeal.main (F := Ideal))) ⟨m, fun _ => 0, g⟩ (fun r => (∀ c : Dev Cert.Down3KernelIdeal.nD,
      r.2.mem ((c.tc : Thread Cert.Down3KernelIdeal.nD Cert.Down3KernelIdeal.τ).loc Cert.Down3KernelIdeal.main_arg0) = m ((c.tc : Thread Cert.Down3KernelIdeal.nD Cert.Down3KernelIdeal.τ).loc Cert.Down3KernelIdeal.main_arg0)
      ∧ r.2.mem ((c.tc : Thread Cert.Down3KernelIdeal.nD Cert.Down3KernelIdeal.τ).loc Cert.Down3KernelIdeal.main_arg1) = m ((c.tc : Thread Cert.Down3KernelIdeal.nD Cert.Down3KernelIdeal.τ).loc Cert.Down3KernelIdeal.main_arg1)
      ∧ r.2.mem ((c.tc : Thread Cert.Down3KernelIdeal.nD Cert.Down3KernelIdeal.τ).loc Cert.Down3KernelIdeal.main_arg2) = m ((c.tc : Thread Cert.Down3KernelIdeal.nD Cert.Down3KernelIdeal.τ).loc Cert.Down3KernelIdeal.main_arg2)
      ∧ r.2.mem ((c.tc : Thread Cert.Down3KernelIdeal.nD Cert.Down3KernelIdeal.τ).loc Cert.Down3KernelIdeal.main_arg3) = m ((c.tc : Thread Cert.Down3KernelIdeal.nD Cert.Down3KernelIdeal.τ).loc Cert.Down3KernelIdeal.main_arg3))
      ∧ r.2.sem = fun _ => 0)

def quiescent_Down3ReferenceIdeal [hDown3ReferenceIdeal : Cert.Down3ReferenceIdeal.Facts] : Prop :=
  ∀ (m : (ℓ : Loc Cert.Down3ReferenceIdeal.nD Cert.Down3ReferenceIdeal.τ Cert.Down3ReferenceIdeal.sig) → Buf (Elt Ideal) ℓ) (g : Dev Cert.Down3ReferenceIdeal.nD → PrngReg), Pre_Down3ReferenceIdeal m →
    θ_run (Cert.Down3ReferenceIdeal.defs (F := Ideal)) (onTc (τ := Cert.Down3ReferenceIdeal.τ) (Cert.Down3ReferenceIdeal.main (F := Ideal))) ⟨m, fun _ => 0, g⟩ (fun r => (∀ c : Dev Cert.Down3ReferenceIdeal.nD,
      r.2.mem ((c.tc : Thread Cert.Down3ReferenceIdeal.nD Cert.Down3ReferenceIdeal.τ).loc Cert.Down3ReferenceIdeal.main_arg0) = m ((c.tc : Thread Cert.Down3ReferenceIdeal.nD Cert.Down3ReferenceIdeal.τ).loc Cert.Down3ReferenceIdeal.main_arg0)
      ∧ r.2.mem ((c.tc : Thread Cert.Down3ReferenceIdeal.nD Cert.Down3ReferenceIdeal.τ).loc Cert.Down3ReferenceIdeal.main_arg1) = m ((c.tc : Thread Cert.Down3ReferenceIdeal.nD Cert.Down3ReferenceIdeal.τ).loc Cert.Down3ReferenceIdeal.main_arg1)
      ∧ r.2.mem ((c.tc : Thread Cert.Down3ReferenceIdeal.nD Cert.Down3ReferenceIdeal.τ).loc Cert.Down3ReferenceIdeal.main_arg2) = m ((c.tc : Thread Cert.Down3ReferenceIdeal.nD Cert.Down3ReferenceIdeal.τ).loc Cert.Down3ReferenceIdeal.main_arg2)
      ∧ r.2.mem ((c.tc : Thread Cert.Down3ReferenceIdeal.nD Cert.Down3ReferenceIdeal.τ).loc Cert.Down3ReferenceIdeal.main_arg3) = m ((c.tc : Thread Cert.Down3ReferenceIdeal.nD Cert.Down3ReferenceIdeal.τ).loc Cert.Down3ReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_RmsFwdKernel [hRmsFwdKernel : Cert.RmsFwdKernel.Facts] : Prop :=
  ∀ (m : (ℓ : Loc Cert.RmsFwdKernel.nD Cert.RmsFwdKernel.τ Cert.RmsFwdKernel.sig) → Buf (Elt Bits) ℓ) (g : Dev Cert.RmsFwdKernel.nD → PrngReg), Pre_RmsFwdKernel m →
    θ_run (Cert.RmsFwdKernel.defs (F := Bits)) (onTc (τ := Cert.RmsFwdKernel.τ) (Cert.RmsFwdKernel.main (F := Bits))) ⟨m, fun _ => 0, g⟩ (fun r => (∀ c : Dev Cert.RmsFwdKernel.nD,
      r.2.mem ((c.tc : Thread Cert.RmsFwdKernel.nD Cert.RmsFwdKernel.τ).loc Cert.RmsFwdKernel.main_arg0) = m ((c.tc : Thread Cert.RmsFwdKernel.nD Cert.RmsFwdKernel.τ).loc Cert.RmsFwdKernel.main_arg0)
      ∧ r.2.mem ((c.tc : Thread Cert.RmsFwdKernel.nD Cert.RmsFwdKernel.τ).loc Cert.RmsFwdKernel.main_arg1) = m ((c.tc : Thread Cert.RmsFwdKernel.nD Cert.RmsFwdKernel.τ).loc Cert.RmsFwdKernel.main_arg1))
      ∧ r.2.sem = fun _ => 0)

def quiescent_RmsFwdKernelIdeal [hRmsFwdKernelIdeal : Cert.RmsFwdKernelIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg), Pre_RmsFwdKernelIdeal m →
    θ_run (Cert.RmsFwdKernelIdeal.defs (F := Ideal)) (onTc (τ := Cert.RmsFwdKernelIdeal.τ) (Cert.RmsFwdKernelIdeal.main (F := Ideal))) ⟨m, fun _ => 0, g⟩ (fun r => (∀ c : Dev Cert.RmsFwdKernelIdeal.nD,
      r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
      ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_GluFwdKernel [hGluFwdKernel : Cert.GluFwdKernel.Facts] : Prop :=
  ∀ (m : (ℓ : Loc Cert.GluFwdKernel.nD Cert.GluFwdKernel.τ Cert.GluFwdKernel.sig) → Buf (Elt Bits) ℓ) (g : Dev Cert.GluFwdKernel.nD → PrngReg), Pre_GluFwdKernel m →
    θ_run (Cert.GluFwdKernel.defs (F := Bits)) (onTc (τ := Cert.GluFwdKernel.τ) (Cert.GluFwdKernel.main (F := Bits))) ⟨m, fun _ => 0, g⟩ (fun r => (∀ c : Dev Cert.GluFwdKernel.nD,
      r.2.mem ((c.tc : Thread Cert.GluFwdKernel.nD Cert.GluFwdKernel.τ).loc Cert.GluFwdKernel.main_arg0) = m ((c.tc : Thread Cert.GluFwdKernel.nD Cert.GluFwdKernel.τ).loc Cert.GluFwdKernel.main_arg0)
      ∧ r.2.mem ((c.tc : Thread Cert.GluFwdKernel.nD Cert.GluFwdKernel.τ).loc Cert.GluFwdKernel.main_arg1) = m ((c.tc : Thread Cert.GluFwdKernel.nD Cert.GluFwdKernel.τ).loc Cert.GluFwdKernel.main_arg1)
      ∧ r.2.mem ((c.tc : Thread Cert.GluFwdKernel.nD Cert.GluFwdKernel.τ).loc Cert.GluFwdKernel.main_arg2) = m ((c.tc : Thread Cert.GluFwdKernel.nD Cert.GluFwdKernel.τ).loc Cert.GluFwdKernel.main_arg2)
      ∧ r.2.mem ((c.tc : Thread Cert.GluFwdKernel.nD Cert.GluFwdKernel.τ).loc Cert.GluFwdKernel.main_arg3) = m ((c.tc : Thread Cert.GluFwdKernel.nD Cert.GluFwdKernel.τ).loc Cert.GluFwdKernel.main_arg3))
      ∧ r.2.sem = fun _ => 0)

def quiescent_GluFwdKernelIdeal [hGluFwdKernelIdeal : Cert.GluFwdKernelIdeal.Facts] : Prop :=
  ∀ (m : (ℓ : Loc Cert.GluFwdKernelIdeal.nD Cert.GluFwdKernelIdeal.τ Cert.GluFwdKernelIdeal.sig) → Buf (Elt Ideal) ℓ) (g : Dev Cert.GluFwdKernelIdeal.nD → PrngReg), Pre_GluFwdKernelIdeal m →
    θ_run (Cert.GluFwdKernelIdeal.defs (F := Ideal)) (onTc (τ := Cert.GluFwdKernelIdeal.τ) (Cert.GluFwdKernelIdeal.main (F := Ideal))) ⟨m, fun _ => 0, g⟩ (fun r => (∀ c : Dev Cert.GluFwdKernelIdeal.nD,
      r.2.mem ((c.tc : Thread Cert.GluFwdKernelIdeal.nD Cert.GluFwdKernelIdeal.τ).loc Cert.GluFwdKernelIdeal.main_arg0) = m ((c.tc : Thread Cert.GluFwdKernelIdeal.nD Cert.GluFwdKernelIdeal.τ).loc Cert.GluFwdKernelIdeal.main_arg0)
      ∧ r.2.mem ((c.tc : Thread Cert.GluFwdKernelIdeal.nD Cert.GluFwdKernelIdeal.τ).loc Cert.GluFwdKernelIdeal.main_arg1) = m ((c.tc : Thread Cert.GluFwdKernelIdeal.nD Cert.GluFwdKernelIdeal.τ).loc Cert.GluFwdKernelIdeal.main_arg1)
      ∧ r.2.mem ((c.tc : Thread Cert.GluFwdKernelIdeal.nD Cert.GluFwdKernelIdeal.τ).loc Cert.GluFwdKernelIdeal.main_arg2) = m ((c.tc : Thread Cert.GluFwdKernelIdeal.nD Cert.GluFwdKernelIdeal.τ).loc Cert.GluFwdKernelIdeal.main_arg2)
      ∧ r.2.mem ((c.tc : Thread Cert.GluFwdKernelIdeal.nD Cert.GluFwdKernelIdeal.τ).loc Cert.GluFwdKernelIdeal.main_arg3) = m ((c.tc : Thread Cert.GluFwdKernelIdeal.nD Cert.GluFwdKernelIdeal.τ).loc Cert.GluFwdKernelIdeal.main_arg3))
      ∧ r.2.sem = fun _ => 0)

def quiescent_GluFwdReferenceIdeal [hGluFwdReferenceIdeal : Cert.GluFwdReferenceIdeal.Facts] : Prop :=
  ∀ (m : (ℓ : Loc Cert.GluFwdReferenceIdeal.nD Cert.GluFwdReferenceIdeal.τ Cert.GluFwdReferenceIdeal.sig) → Buf (Elt Ideal) ℓ) (g : Dev Cert.GluFwdReferenceIdeal.nD → PrngReg), Pre_GluFwdReferenceIdeal m →
    θ_run (Cert.GluFwdReferenceIdeal.defs (F := Ideal)) (onTc (τ := Cert.GluFwdReferenceIdeal.τ) (Cert.GluFwdReferenceIdeal.main (F := Ideal))) ⟨m, fun _ => 0, g⟩ (fun r => (∀ c : Dev Cert.GluFwdReferenceIdeal.nD,
      r.2.mem ((c.tc : Thread Cert.GluFwdReferenceIdeal.nD Cert.GluFwdReferenceIdeal.τ).loc Cert.GluFwdReferenceIdeal.main_arg0) = m ((c.tc : Thread Cert.GluFwdReferenceIdeal.nD Cert.GluFwdReferenceIdeal.τ).loc Cert.GluFwdReferenceIdeal.main_arg0)
      ∧ r.2.mem ((c.tc : Thread Cert.GluFwdReferenceIdeal.nD Cert.GluFwdReferenceIdeal.τ).loc Cert.GluFwdReferenceIdeal.main_arg1) = m ((c.tc : Thread Cert.GluFwdReferenceIdeal.nD Cert.GluFwdReferenceIdeal.τ).loc Cert.GluFwdReferenceIdeal.main_arg1)
      ∧ r.2.mem ((c.tc : Thread Cert.GluFwdReferenceIdeal.nD Cert.GluFwdReferenceIdeal.τ).loc Cert.GluFwdReferenceIdeal.main_arg2) = m ((c.tc : Thread Cert.GluFwdReferenceIdeal.nD Cert.GluFwdReferenceIdeal.τ).loc Cert.GluFwdReferenceIdeal.main_arg2)
      ∧ r.2.mem ((c.tc : Thread Cert.GluFwdReferenceIdeal.nD Cert.GluFwdReferenceIdeal.τ).loc Cert.GluFwdReferenceIdeal.main_arg3) = m ((c.tc : Thread Cert.GluFwdReferenceIdeal.nD Cert.GluFwdReferenceIdeal.τ).loc Cert.GluFwdReferenceIdeal.main_arg3))
      ∧ r.2.sem = fun _ => 0)

def quiescent_SconvFwdKernel [hSconvFwdKernel : Cert.SconvFwdKernel.Facts] : Prop :=
  ∀ (m : (ℓ : Loc Cert.SconvFwdKernel.nD Cert.SconvFwdKernel.τ Cert.SconvFwdKernel.sig) → Buf (Elt Bits) ℓ) (g : Dev Cert.SconvFwdKernel.nD → PrngReg), Pre_SconvFwdKernel m →
    θ_run (Cert.SconvFwdKernel.defs (F := Bits)) (onTc (τ := Cert.SconvFwdKernel.τ) (Cert.SconvFwdKernel.main (F := Bits))) ⟨m, fun _ => 0, g⟩ (fun r => (∀ c : Dev Cert.SconvFwdKernel.nD,
      r.2.mem ((c.tc : Thread Cert.SconvFwdKernel.nD Cert.SconvFwdKernel.τ).loc Cert.SconvFwdKernel.main_arg0) = m ((c.tc : Thread Cert.SconvFwdKernel.nD Cert.SconvFwdKernel.τ).loc Cert.SconvFwdKernel.main_arg0)
      ∧ r.2.mem ((c.tc : Thread Cert.SconvFwdKernel.nD Cert.SconvFwdKernel.τ).loc Cert.SconvFwdKernel.main_arg1) = m ((c.tc : Thread Cert.SconvFwdKernel.nD Cert.SconvFwdKernel.τ).loc Cert.SconvFwdKernel.main_arg1))
      ∧ r.2.sem = fun _ => 0)

def quiescent_SconvFwdKernelIdeal [hSconvFwdKernelIdeal : Cert.SconvFwdKernelIdeal.Facts] : Prop :=
  ∀ (m : (ℓ : Loc Cert.SconvFwdKernelIdeal.nD Cert.SconvFwdKernelIdeal.τ Cert.SconvFwdKernelIdeal.sig) → Buf (Elt Ideal) ℓ) (g : Dev Cert.SconvFwdKernelIdeal.nD → PrngReg), Pre_SconvFwdKernelIdeal m →
    θ_run (Cert.SconvFwdKernelIdeal.defs (F := Ideal)) (onTc (τ := Cert.SconvFwdKernelIdeal.τ) (Cert.SconvFwdKernelIdeal.main (F := Ideal))) ⟨m, fun _ => 0, g⟩ (fun r => (∀ c : Dev Cert.SconvFwdKernelIdeal.nD,
      r.2.mem ((c.tc : Thread Cert.SconvFwdKernelIdeal.nD Cert.SconvFwdKernelIdeal.τ).loc Cert.SconvFwdKernelIdeal.main_arg0) = m ((c.tc : Thread Cert.SconvFwdKernelIdeal.nD Cert.SconvFwdKernelIdeal.τ).loc Cert.SconvFwdKernelIdeal.main_arg0)
      ∧ r.2.mem ((c.tc : Thread Cert.SconvFwdKernelIdeal.nD Cert.SconvFwdKernelIdeal.τ).loc Cert.SconvFwdKernelIdeal.main_arg1) = m ((c.tc : Thread Cert.SconvFwdKernelIdeal.nD Cert.SconvFwdKernelIdeal.τ).loc Cert.SconvFwdKernelIdeal.main_arg1))
      ∧ r.2.sem = fun _ => 0)

def quiescent_SconvFwdReferenceIdeal [hSconvFwdReferenceIdeal : Cert.SconvFwdReferenceIdeal.Facts] : Prop :=
  ∀ (m : (ℓ : Loc Cert.SconvFwdReferenceIdeal.nD Cert.SconvFwdReferenceIdeal.τ Cert.SconvFwdReferenceIdeal.sig) → Buf (Elt Ideal) ℓ) (g : Dev Cert.SconvFwdReferenceIdeal.nD → PrngReg), Pre_SconvFwdReferenceIdeal m →
    θ_run (Cert.SconvFwdReferenceIdeal.defs (F := Ideal)) (onTc (τ := Cert.SconvFwdReferenceIdeal.τ) (Cert.SconvFwdReferenceIdeal.main (F := Ideal))) ⟨m, fun _ => 0, g⟩ (fun r => (∀ c : Dev Cert.SconvFwdReferenceIdeal.nD,
      r.2.mem ((c.tc : Thread Cert.SconvFwdReferenceIdeal.nD Cert.SconvFwdReferenceIdeal.τ).loc Cert.SconvFwdReferenceIdeal.main_arg0) = m ((c.tc : Thread Cert.SconvFwdReferenceIdeal.nD Cert.SconvFwdReferenceIdeal.τ).loc Cert.SconvFwdReferenceIdeal.main_arg0)
      ∧ r.2.mem ((c.tc : Thread Cert.SconvFwdReferenceIdeal.nD Cert.SconvFwdReferenceIdeal.τ).loc Cert.SconvFwdReferenceIdeal.main_arg1) = m ((c.tc : Thread Cert.SconvFwdReferenceIdeal.nD Cert.SconvFwdReferenceIdeal.τ).loc Cert.SconvFwdReferenceIdeal.main_arg1))
      ∧ r.2.sem = fun _ => 0)

def preserves_SconvKernel_SconvKernelIdeal : Prop :=
  True

def algebraic_SconvKernelIdeal_SconvReferenceIdeal [hSconvKernelIdeal : Cert.SconvKernelIdeal.Facts] [hSconvReferenceIdeal : Cert.SconvReferenceIdeal.Facts] : Prop :=
  ∀ (m : (ℓ : Loc Cert.SconvKernelIdeal.nD Cert.SconvKernelIdeal.τ Cert.SconvKernelIdeal.sig) → Buf (Elt Ideal) ℓ) (g : Dev Cert.SconvKernelIdeal.nD → PrngReg)
    (m' : (ℓ : Loc Cert.SconvReferenceIdeal.nD Cert.SconvReferenceIdeal.τ Cert.SconvReferenceIdeal.sig) → Buf (Elt Ideal) ℓ) (g' : Dev Cert.SconvReferenceIdeal.nD → PrngReg), Pre_SconvKernelIdeal m →
    (∀ c : Dev Cert.SconvKernelIdeal.nD,
      m' ((c.tc : Thread Cert.SconvReferenceIdeal.nD Cert.SconvReferenceIdeal.τ).loc Cert.SconvReferenceIdeal.main_arg0) = m ((c.tc : Thread Cert.SconvKernelIdeal.nD Cert.SconvKernelIdeal.τ).loc Cert.SconvKernelIdeal.main_arg0)
      ∧ m' ((c.tc : Thread Cert.SconvReferenceIdeal.nD Cert.SconvReferenceIdeal.τ).loc Cert.SconvReferenceIdeal.main_arg1) = m ((c.tc : Thread Cert.SconvKernelIdeal.nD Cert.SconvKernelIdeal.τ).loc Cert.SconvKernelIdeal.main_arg1)
      ∧ m' ((c.tc : Thread Cert.SconvReferenceIdeal.nD Cert.SconvReferenceIdeal.τ).loc Cert.SconvReferenceIdeal.main_arg2) = m ((c.tc : Thread Cert.SconvKernelIdeal.nD Cert.SconvKernelIdeal.τ).loc Cert.SconvKernelIdeal.main_arg2)) →
    ∃ (v0 : (c : Dev Cert.SconvKernelIdeal.nD) → Buf (Elt Ideal) ((c.tc : Thread Cert.SconvKernelIdeal.nD Cert.SconvKernelIdeal.τ).loc Cert.SconvKernelIdeal.main_v0_0)) (v1 : (c : Dev Cert.SconvKernelIdeal.nD) → Buf (Elt Ideal) ((c.tc : Thread Cert.SconvKernelIdeal.nD Cert.SconvKernelIdeal.τ).loc Cert.SconvKernelIdeal.main_v0_1)) (v2 : (c : Dev Cert.SconvKernelIdeal.nD) → Buf (Elt Ideal) ((c.tc : Thread Cert.SconvKernelIdeal.nD Cert.SconvKernelIdeal.τ).loc Cert.SconvKernelIdeal.main_v0_2)) (v3 : (c : Dev Cert.SconvKernelIdeal.nD) → Buf (Elt Ideal) ((c.tc : Thread Cert.SconvKernelIdeal.nD Cert.SconvKernelIdeal.τ).loc Cert.SconvKernelIdeal.main_v0_3)),
      θ_run (Cert.SconvKernelIdeal.defs (F := Ideal)) (onTc (τ := Cert.SconvKernelIdeal.τ) (Cert.SconvKernelIdeal.main (F := Ideal))) ⟨m, fun _ => 0, g⟩ (fun r => ∀ c : Dev Cert.SconvKernelIdeal.nD,
          r.2.mem ((c.tc : Thread Cert.SconvKernelIdeal.nD Cert.SconvKernelIdeal.τ).loc Cert.SconvKernelIdeal.main_v0_0) = v0 c
          ∧ r.2.mem ((c.tc : Thread Cert.SconvKernelIdeal.nD Cert.SconvKernelIdeal.τ).loc Cert.SconvKernelIdeal.main_v0_1) = v1 c
          ∧ r.2.mem ((c.tc : Thread Cert.SconvKernelIdeal.nD Cert.SconvKernelIdeal.τ).loc Cert.SconvKernelIdeal.main_v0_2) = v2 c
          ∧ r.2.mem ((c.tc : Thread Cert.SconvKernelIdeal.nD Cert.SconvKernelIdeal.τ).loc Cert.SconvKernelIdeal.main_v0_3) = v3 c
          ∧ r.2.mem ((c.tc : Thread Cert.SconvKernelIdeal.nD Cert.SconvKernelIdeal.τ).loc Cert.SconvKernelIdeal.main_arg0) = m ((c.tc : Thread Cert.SconvKernelIdeal.nD Cert.SconvKernelIdeal.τ).loc Cert.SconvKernelIdeal.main_arg0)
          ∧ r.2.mem ((c.tc : Thread Cert.SconvKernelIdeal.nD Cert.SconvKernelIdeal.τ).loc Cert.SconvKernelIdeal.main_arg1) = m ((c.tc : Thread Cert.SconvKernelIdeal.nD Cert.SconvKernelIdeal.τ).loc Cert.SconvKernelIdeal.main_arg1)
          ∧ r.2.mem ((c.tc : Thread Cert.SconvKernelIdeal.nD Cert.SconvKernelIdeal.τ).loc Cert.SconvKernelIdeal.main_arg2) = m ((c.tc : Thread Cert.SconvKernelIdeal.nD Cert.SconvKernelIdeal.τ).loc Cert.SconvKernelIdeal.main_arg2))
      ∧ θ_run (Cert.SconvReferenceIdeal.defs (F := Ideal)) (onTc (τ := Cert.SconvReferenceIdeal.τ) (Cert.SconvReferenceIdeal.main (F := Ideal))) ⟨m', fun _ => 0, g'⟩ (fun r => ∀ c : Dev Cert.SconvReferenceIdeal.nD,
          r.2.mem ((c.tc : Thread Cert.SconvReferenceIdeal.nD Cert.SconvReferenceIdeal.τ).loc Cert.SconvReferenceIdeal.main_v71) = v0 c
          ∧ r.2.mem ((c.tc : Thread Cert.SconvReferenceIdeal.nD Cert.SconvReferenceIdeal.τ).loc Cert.SconvReferenceIdeal.main_v73) = v1 c
          ∧ r.2.mem ((c.tc : Thread Cert.SconvReferenceIdeal.nD Cert.SconvReferenceIdeal.τ).loc Cert.SconvReferenceIdeal.main_v75) = v2 c
          ∧ r.2.mem ((c.tc : Thread Cert.SconvReferenceIdeal.nD Cert.SconvReferenceIdeal.τ).loc Cert.SconvReferenceIdeal.main_v63) = v3 c
          ∧ r.2.mem ((c.tc : Thread Cert.SconvReferenceIdeal.nD Cert.SconvReferenceIdeal.τ).loc Cert.SconvReferenceIdeal.main_arg0) = m' ((c.tc : Thread Cert.SconvReferenceIdeal.nD Cert.SconvReferenceIdeal.τ).loc Cert.SconvReferenceIdeal.main_arg0)
          ∧ r.2.mem ((c.tc : Thread Cert.SconvReferenceIdeal.nD Cert.SconvReferenceIdeal.τ).loc Cert.SconvReferenceIdeal.main_arg1) = m' ((c.tc : Thread Cert.SconvReferenceIdeal.nD Cert.SconvReferenceIdeal.τ).loc Cert.SconvReferenceIdeal.main_arg1)
          ∧ r.2.mem ((c.tc : Thread Cert.SconvReferenceIdeal.nD Cert.SconvReferenceIdeal.τ).loc Cert.SconvReferenceIdeal.main_arg2) = m' ((c.tc : Thread Cert.SconvReferenceIdeal.nD Cert.SconvReferenceIdeal.τ).loc Cert.SconvReferenceIdeal.main_arg2))

def preserves_UpDxKernel_UpDxKernelIdeal : Prop :=
  True

def algebraic_UpDxKernelIdeal_UpDxReferenceIdeal [hUpDxKernelIdeal : Cert.UpDxKernelIdeal.Facts] [hUpDxReferenceIdeal : Cert.UpDxReferenceIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)
      ∧ m' ((c.tc : Thread Cert.UpDxReferenceIdeal.nD Cert.UpDxReferenceIdeal.τ).loc Cert.UpDxReferenceIdeal.main_arg2) = m ((c.tc : Thread Cert.UpDxKernelIdeal.nD Cert.UpDxKernelIdeal.τ).loc Cert.UpDxKernelIdeal.main_arg2)
      ∧ m' ((c.tc : Thread Cert.UpDxReferenceIdeal.nD Cert.UpDxReferenceIdeal.τ).loc Cert.UpDxReferenceIdeal.main_arg3) = m ((c.tc : Thread Cert.UpDxKernelIdeal.nD Cert.UpDxKernelIdeal.τ).loc Cert.UpDxKernelIdeal.main_arg3)
      ∧ m' ((c.tc : Thread Cert.UpDxReferenceIdeal.nD Cert.UpDxReferenceIdeal.τ).loc Cert.UpDxReferenceIdeal.main_arg4) = m ((c.tc : Thread Cert.UpDxKernelIdeal.nD Cert.UpDxKernelIdeal.τ).loc Cert.UpDxKernelIdeal.main_arg4)) →
    ∃ (v0 : (c : Dev Cert.UpDxKernelIdeal.nD) → Buf (Elt Ideal) ((c.tc : Thread Cert.UpDxKernelIdeal.nD Cert.UpDxKernelIdeal.τ).loc Cert.UpDxKernelIdeal.main_v1_0)) (v1 : (c : Dev Cert.UpDxKernelIdeal.nD) → Buf (Elt Ideal) ((c.tc : Thread Cert.UpDxKernelIdeal.nD Cert.UpDxKernelIdeal.τ).loc Cert.UpDxKernelIdeal.main_v1_1)) (v2 : (c : Dev Cert.UpDxKernelIdeal.nD) → Buf (Elt Ideal) ((c.tc : Thread Cert.UpDxKernelIdeal.nD Cert.UpDxKernelIdeal.τ).loc Cert.UpDxKernelIdeal.main_v1_2)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v1_0) = v0 c
          ∧ r.2.mem ((c.tc : Thread Cert.UpDxKernelIdeal.nD Cert.UpDxKernelIdeal.τ).loc Cert.UpDxKernelIdeal.main_v1_1) = v1 c
          ∧ r.2.mem ((c.tc : Thread Cert.UpDxKernelIdeal.nD Cert.UpDxKernelIdeal.τ).loc Cert.UpDxKernelIdeal.main_v1_2) = v2 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
          ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
          ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3)
          ∧ r.2.mem ((c.tc : Thread Cert.UpDxKernelIdeal.nD Cert.UpDxKernelIdeal.τ).loc Cert.UpDxKernelIdeal.main_arg4) = m ((c.tc : Thread Cert.UpDxKernelIdeal.nD Cert.UpDxKernelIdeal.τ).loc Cert.UpDxKernelIdeal.main_arg4))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v47) = v0 c
          ∧ r.2.mem ((c.tc : Thread Cert.UpDxReferenceIdeal.nD Cert.UpDxReferenceIdeal.τ).loc Cert.UpDxReferenceIdeal.main_v48) = v1 c
          ∧ r.2.mem ((c.tc : Thread Cert.UpDxReferenceIdeal.nD Cert.UpDxReferenceIdeal.τ).loc Cert.UpDxReferenceIdeal.main_v49) = v2 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3)
          ∧ r.2.mem ((c.tc : Thread Cert.UpDxReferenceIdeal.nD Cert.UpDxReferenceIdeal.τ).loc Cert.UpDxReferenceIdeal.main_arg4) = m' ((c.tc : Thread Cert.UpDxReferenceIdeal.nD Cert.UpDxReferenceIdeal.τ).loc Cert.UpDxReferenceIdeal.main_arg4))

def preserves_EvenDxKernel_EvenDxKernelIdeal : Prop :=
  True

def algebraic_EvenDxKernelIdeal_EvenDxReferenceIdeal [hEvenDxKernelIdeal : Cert.EvenDxKernelIdeal.Facts] [hEvenDxReferenceIdeal : Cert.EvenDxReferenceIdeal.Facts] : Prop :=
  ∀ (m : (ℓ : Loc Cert.EvenDxKernelIdeal.nD Cert.EvenDxKernelIdeal.τ Cert.EvenDxKernelIdeal.sig) → Buf (Elt Ideal) ℓ) (g : Dev Cert.EvenDxKernelIdeal.nD → PrngReg)
    (m' : (ℓ : Loc Cert.EvenDxReferenceIdeal.nD Cert.EvenDxReferenceIdeal.τ Cert.EvenDxReferenceIdeal.sig) → Buf (Elt Ideal) ℓ) (g' : Dev Cert.EvenDxReferenceIdeal.nD → PrngReg), Pre_EvenDxKernelIdeal m →
    (∀ c : Dev Cert.EvenDxKernelIdeal.nD,
      m' ((c.tc : Thread Cert.EvenDxReferenceIdeal.nD Cert.EvenDxReferenceIdeal.τ).loc Cert.EvenDxReferenceIdeal.main_arg0) = m ((c.tc : Thread Cert.EvenDxKernelIdeal.nD Cert.EvenDxKernelIdeal.τ).loc Cert.EvenDxKernelIdeal.main_arg0)
      ∧ m' ((c.tc : Thread Cert.EvenDxReferenceIdeal.nD Cert.EvenDxReferenceIdeal.τ).loc Cert.EvenDxReferenceIdeal.main_arg1) = m ((c.tc : Thread Cert.EvenDxKernelIdeal.nD Cert.EvenDxKernelIdeal.τ).loc Cert.EvenDxKernelIdeal.main_arg1)
      ∧ m' ((c.tc : Thread Cert.EvenDxReferenceIdeal.nD Cert.EvenDxReferenceIdeal.τ).loc Cert.EvenDxReferenceIdeal.main_arg2) = m ((c.tc : Thread Cert.EvenDxKernelIdeal.nD Cert.EvenDxKernelIdeal.τ).loc Cert.EvenDxKernelIdeal.main_arg2)
      ∧ m' ((c.tc : Thread Cert.EvenDxReferenceIdeal.nD Cert.EvenDxReferenceIdeal.τ).loc Cert.EvenDxReferenceIdeal.main_arg3) = m ((c.tc : Thread Cert.EvenDxKernelIdeal.nD Cert.EvenDxKernelIdeal.τ).loc Cert.EvenDxKernelIdeal.main_arg3)
      ∧ m' ((c.tc : Thread Cert.EvenDxReferenceIdeal.nD Cert.EvenDxReferenceIdeal.τ).loc Cert.EvenDxReferenceIdeal.main_arg4) = m ((c.tc : Thread Cert.EvenDxKernelIdeal.nD Cert.EvenDxKernelIdeal.τ).loc Cert.EvenDxKernelIdeal.main_arg4)) →
    ∃ (v0 : (c : Dev Cert.EvenDxKernelIdeal.nD) → Buf (Elt Ideal) ((c.tc : Thread Cert.EvenDxKernelIdeal.nD Cert.EvenDxKernelIdeal.τ).loc Cert.EvenDxKernelIdeal.main_v1_0)) (v1 : (c : Dev Cert.EvenDxKernelIdeal.nD) → Buf (Elt Ideal) ((c.tc : Thread Cert.EvenDxKernelIdeal.nD Cert.EvenDxKernelIdeal.τ).loc Cert.EvenDxKernelIdeal.main_v1_1)) (v2 : (c : Dev Cert.EvenDxKernelIdeal.nD) → Buf (Elt Ideal) ((c.tc : Thread Cert.EvenDxKernelIdeal.nD Cert.EvenDxKernelIdeal.τ).loc Cert.EvenDxKernelIdeal.main_v1_2)),
      θ_run (Cert.EvenDxKernelIdeal.defs (F := Ideal)) (onTc (τ := Cert.EvenDxKernelIdeal.τ) (Cert.EvenDxKernelIdeal.main (F := Ideal))) ⟨m, fun _ => 0, g⟩ (fun r => ∀ c : Dev Cert.EvenDxKernelIdeal.nD,
          r.2.mem ((c.tc : Thread Cert.EvenDxKernelIdeal.nD Cert.EvenDxKernelIdeal.τ).loc Cert.EvenDxKernelIdeal.main_v1_0) = v0 c
          ∧ r.2.mem ((c.tc : Thread Cert.EvenDxKernelIdeal.nD Cert.EvenDxKernelIdeal.τ).loc Cert.EvenDxKernelIdeal.main_v1_1) = v1 c
          ∧ r.2.mem ((c.tc : Thread Cert.EvenDxKernelIdeal.nD Cert.EvenDxKernelIdeal.τ).loc Cert.EvenDxKernelIdeal.main_v1_2) = v2 c
          ∧ r.2.mem ((c.tc : Thread Cert.EvenDxKernelIdeal.nD Cert.EvenDxKernelIdeal.τ).loc Cert.EvenDxKernelIdeal.main_arg0) = m ((c.tc : Thread Cert.EvenDxKernelIdeal.nD Cert.EvenDxKernelIdeal.τ).loc Cert.EvenDxKernelIdeal.main_arg0)
          ∧ r.2.mem ((c.tc : Thread Cert.EvenDxKernelIdeal.nD Cert.EvenDxKernelIdeal.τ).loc Cert.EvenDxKernelIdeal.main_arg1) = m ((c.tc : Thread Cert.EvenDxKernelIdeal.nD Cert.EvenDxKernelIdeal.τ).loc Cert.EvenDxKernelIdeal.main_arg1)
          ∧ r.2.mem ((c.tc : Thread Cert.EvenDxKernelIdeal.nD Cert.EvenDxKernelIdeal.τ).loc Cert.EvenDxKernelIdeal.main_arg2) = m ((c.tc : Thread Cert.EvenDxKernelIdeal.nD Cert.EvenDxKernelIdeal.τ).loc Cert.EvenDxKernelIdeal.main_arg2)
          ∧ r.2.mem ((c.tc : Thread Cert.EvenDxKernelIdeal.nD Cert.EvenDxKernelIdeal.τ).loc Cert.EvenDxKernelIdeal.main_arg3) = m ((c.tc : Thread Cert.EvenDxKernelIdeal.nD Cert.EvenDxKernelIdeal.τ).loc Cert.EvenDxKernelIdeal.main_arg3)
          ∧ r.2.mem ((c.tc : Thread Cert.EvenDxKernelIdeal.nD Cert.EvenDxKernelIdeal.τ).loc Cert.EvenDxKernelIdeal.main_arg4) = m ((c.tc : Thread Cert.EvenDxKernelIdeal.nD Cert.EvenDxKernelIdeal.τ).loc Cert.EvenDxKernelIdeal.main_arg4))
      ∧ θ_run (Cert.EvenDxReferenceIdeal.defs (F := Ideal)) (onTc (τ := Cert.EvenDxReferenceIdeal.τ) (Cert.EvenDxReferenceIdeal.main (F := Ideal))) ⟨m', fun _ => 0, g'⟩ (fun r => ∀ c : Dev Cert.EvenDxReferenceIdeal.nD,
          r.2.mem ((c.tc : Thread Cert.EvenDxReferenceIdeal.nD Cert.EvenDxReferenceIdeal.τ).loc Cert.EvenDxReferenceIdeal.main_v42) = v0 c
          ∧ r.2.mem ((c.tc : Thread Cert.EvenDxReferenceIdeal.nD Cert.EvenDxReferenceIdeal.τ).loc Cert.EvenDxReferenceIdeal.main_v43) = v1 c
          ∧ r.2.mem ((c.tc : Thread Cert.EvenDxReferenceIdeal.nD Cert.EvenDxReferenceIdeal.τ).loc Cert.EvenDxReferenceIdeal.main_v44) = v2 c
          ∧ r.2.mem ((c.tc : Thread Cert.EvenDxReferenceIdeal.nD Cert.EvenDxReferenceIdeal.τ).loc Cert.EvenDxReferenceIdeal.main_arg0) = m' ((c.tc : Thread Cert.EvenDxReferenceIdeal.nD Cert.EvenDxReferenceIdeal.τ).loc Cert.EvenDxReferenceIdeal.main_arg0)
          ∧ r.2.mem ((c.tc : Thread Cert.EvenDxReferenceIdeal.nD Cert.EvenDxReferenceIdeal.τ).loc Cert.EvenDxReferenceIdeal.main_arg1) = m' ((c.tc : Thread Cert.EvenDxReferenceIdeal.nD Cert.EvenDxReferenceIdeal.τ).loc Cert.EvenDxReferenceIdeal.main_arg1)
          ∧ r.2.mem ((c.tc : Thread Cert.EvenDxReferenceIdeal.nD Cert.EvenDxReferenceIdeal.τ).loc Cert.EvenDxReferenceIdeal.main_arg2) = m' ((c.tc : Thread Cert.EvenDxReferenceIdeal.nD Cert.EvenDxReferenceIdeal.τ).loc Cert.EvenDxReferenceIdeal.main_arg2)
          ∧ r.2.mem ((c.tc : Thread Cert.EvenDxReferenceIdeal.nD Cert.EvenDxReferenceIdeal.τ).loc Cert.EvenDxReferenceIdeal.main_arg3) = m' ((c.tc : Thread Cert.EvenDxReferenceIdeal.nD Cert.EvenDxReferenceIdeal.τ).loc Cert.EvenDxReferenceIdeal.main_arg3)
          ∧ r.2.mem ((c.tc : Thread Cert.EvenDxReferenceIdeal.nD Cert.EvenDxReferenceIdeal.τ).loc Cert.EvenDxReferenceIdeal.main_arg4) = m' ((c.tc : Thread Cert.EvenDxReferenceIdeal.nD Cert.EvenDxReferenceIdeal.τ).loc Cert.EvenDxReferenceIdeal.main_arg4))

def preserves_OddDxKernel_OddDxKernelIdeal : Prop :=
  True

def algebraic_OddDxKernelIdeal_OddDxReferenceIdeal [hOddDxKernelIdeal : Cert.OddDxKernelIdeal.Facts] [hOddDxReferenceIdeal : Cert.OddDxReferenceIdeal.Facts] : Prop :=
  ∀ (m : (ℓ : Loc Cert.OddDxKernelIdeal.nD Cert.OddDxKernelIdeal.τ Cert.OddDxKernelIdeal.sig) → Buf (Elt Ideal) ℓ) (g : Dev Cert.OddDxKernelIdeal.nD → PrngReg)
    (m' : (ℓ : Loc Cert.OddDxReferenceIdeal.nD Cert.OddDxReferenceIdeal.τ Cert.OddDxReferenceIdeal.sig) → Buf (Elt Ideal) ℓ) (g' : Dev Cert.OddDxReferenceIdeal.nD → PrngReg), Pre_OddDxKernelIdeal m →
    (∀ c : Dev Cert.OddDxKernelIdeal.nD,
      m' ((c.tc : Thread Cert.OddDxReferenceIdeal.nD Cert.OddDxReferenceIdeal.τ).loc Cert.OddDxReferenceIdeal.main_arg0) = m ((c.tc : Thread Cert.OddDxKernelIdeal.nD Cert.OddDxKernelIdeal.τ).loc Cert.OddDxKernelIdeal.main_arg0)
      ∧ m' ((c.tc : Thread Cert.OddDxReferenceIdeal.nD Cert.OddDxReferenceIdeal.τ).loc Cert.OddDxReferenceIdeal.main_arg1) = m ((c.tc : Thread Cert.OddDxKernelIdeal.nD Cert.OddDxKernelIdeal.τ).loc Cert.OddDxKernelIdeal.main_arg1)
      ∧ m' ((c.tc : Thread Cert.OddDxReferenceIdeal.nD Cert.OddDxReferenceIdeal.τ).loc Cert.OddDxReferenceIdeal.main_arg2) = m ((c.tc : Thread Cert.OddDxKernelIdeal.nD Cert.OddDxKernelIdeal.τ).loc Cert.OddDxKernelIdeal.main_arg2)
      ∧ m' ((c.tc : Thread Cert.OddDxReferenceIdeal.nD Cert.OddDxReferenceIdeal.τ).loc Cert.OddDxReferenceIdeal.main_arg3) = m ((c.tc : Thread Cert.OddDxKernelIdeal.nD Cert.OddDxKernelIdeal.τ).loc Cert.OddDxKernelIdeal.main_arg3)
      ∧ m' ((c.tc : Thread Cert.OddDxReferenceIdeal.nD Cert.OddDxReferenceIdeal.τ).loc Cert.OddDxReferenceIdeal.main_arg4) = m ((c.tc : Thread Cert.OddDxKernelIdeal.nD Cert.OddDxKernelIdeal.τ).loc Cert.OddDxKernelIdeal.main_arg4)) →
    ∃ (v0 : (c : Dev Cert.OddDxKernelIdeal.nD) → Buf (Elt Ideal) ((c.tc : Thread Cert.OddDxKernelIdeal.nD Cert.OddDxKernelIdeal.τ).loc Cert.OddDxKernelIdeal.main_v1_0)) (v1 : (c : Dev Cert.OddDxKernelIdeal.nD) → Buf (Elt Ideal) ((c.tc : Thread Cert.OddDxKernelIdeal.nD Cert.OddDxKernelIdeal.τ).loc Cert.OddDxKernelIdeal.main_v1_1)) (v2 : (c : Dev Cert.OddDxKernelIdeal.nD) → Buf (Elt Ideal) ((c.tc : Thread Cert.OddDxKernelIdeal.nD Cert.OddDxKernelIdeal.τ).loc Cert.OddDxKernelIdeal.main_v1_2)),
      θ_run (Cert.OddDxKernelIdeal.defs (F := Ideal)) (onTc (τ := Cert.OddDxKernelIdeal.τ) (Cert.OddDxKernelIdeal.main (F := Ideal))) ⟨m, fun _ => 0, g⟩ (fun r => ∀ c : Dev Cert.OddDxKernelIdeal.nD,
          r.2.mem ((c.tc : Thread Cert.OddDxKernelIdeal.nD Cert.OddDxKernelIdeal.τ).loc Cert.OddDxKernelIdeal.main_v1_0) = v0 c
          ∧ r.2.mem ((c.tc : Thread Cert.OddDxKernelIdeal.nD Cert.OddDxKernelIdeal.τ).loc Cert.OddDxKernelIdeal.main_v1_1) = v1 c
          ∧ r.2.mem ((c.tc : Thread Cert.OddDxKernelIdeal.nD Cert.OddDxKernelIdeal.τ).loc Cert.OddDxKernelIdeal.main_v1_2) = v2 c
          ∧ r.2.mem ((c.tc : Thread Cert.OddDxKernelIdeal.nD Cert.OddDxKernelIdeal.τ).loc Cert.OddDxKernelIdeal.main_arg0) = m ((c.tc : Thread Cert.OddDxKernelIdeal.nD Cert.OddDxKernelIdeal.τ).loc Cert.OddDxKernelIdeal.main_arg0)
          ∧ r.2.mem ((c.tc : Thread Cert.OddDxKernelIdeal.nD Cert.OddDxKernelIdeal.τ).loc Cert.OddDxKernelIdeal.main_arg1) = m ((c.tc : Thread Cert.OddDxKernelIdeal.nD Cert.OddDxKernelIdeal.τ).loc Cert.OddDxKernelIdeal.main_arg1)
          ∧ r.2.mem ((c.tc : Thread Cert.OddDxKernelIdeal.nD Cert.OddDxKernelIdeal.τ).loc Cert.OddDxKernelIdeal.main_arg2) = m ((c.tc : Thread Cert.OddDxKernelIdeal.nD Cert.OddDxKernelIdeal.τ).loc Cert.OddDxKernelIdeal.main_arg2)
          ∧ r.2.mem ((c.tc : Thread Cert.OddDxKernelIdeal.nD Cert.OddDxKernelIdeal.τ).loc Cert.OddDxKernelIdeal.main_arg3) = m ((c.tc : Thread Cert.OddDxKernelIdeal.nD Cert.OddDxKernelIdeal.τ).loc Cert.OddDxKernelIdeal.main_arg3)
          ∧ r.2.mem ((c.tc : Thread Cert.OddDxKernelIdeal.nD Cert.OddDxKernelIdeal.τ).loc Cert.OddDxKernelIdeal.main_arg4) = m ((c.tc : Thread Cert.OddDxKernelIdeal.nD Cert.OddDxKernelIdeal.τ).loc Cert.OddDxKernelIdeal.main_arg4))
      ∧ θ_run (Cert.OddDxReferenceIdeal.defs (F := Ideal)) (onTc (τ := Cert.OddDxReferenceIdeal.τ) (Cert.OddDxReferenceIdeal.main (F := Ideal))) ⟨m', fun _ => 0, g'⟩ (fun r => ∀ c : Dev Cert.OddDxReferenceIdeal.nD,
          r.2.mem ((c.tc : Thread Cert.OddDxReferenceIdeal.nD Cert.OddDxReferenceIdeal.τ).loc Cert.OddDxReferenceIdeal.main_v42) = v0 c
          ∧ r.2.mem ((c.tc : Thread Cert.OddDxReferenceIdeal.nD Cert.OddDxReferenceIdeal.τ).loc Cert.OddDxReferenceIdeal.main_v43) = v1 c
          ∧ r.2.mem ((c.tc : Thread Cert.OddDxReferenceIdeal.nD Cert.OddDxReferenceIdeal.τ).loc Cert.OddDxReferenceIdeal.main_v44) = v2 c
          ∧ r.2.mem ((c.tc : Thread Cert.OddDxReferenceIdeal.nD Cert.OddDxReferenceIdeal.τ).loc Cert.OddDxReferenceIdeal.main_arg0) = m' ((c.tc : Thread Cert.OddDxReferenceIdeal.nD Cert.OddDxReferenceIdeal.τ).loc Cert.OddDxReferenceIdeal.main_arg0)
          ∧ r.2.mem ((c.tc : Thread Cert.OddDxReferenceIdeal.nD Cert.OddDxReferenceIdeal.τ).loc Cert.OddDxReferenceIdeal.main_arg1) = m' ((c.tc : Thread Cert.OddDxReferenceIdeal.nD Cert.OddDxReferenceIdeal.τ).loc Cert.OddDxReferenceIdeal.main_arg1)
          ∧ r.2.mem ((c.tc : Thread Cert.OddDxReferenceIdeal.nD Cert.OddDxReferenceIdeal.τ).loc Cert.OddDxReferenceIdeal.main_arg2) = m' ((c.tc : Thread Cert.OddDxReferenceIdeal.nD Cert.OddDxReferenceIdeal.τ).loc Cert.OddDxReferenceIdeal.main_arg2)
          ∧ r.2.mem ((c.tc : Thread Cert.OddDxReferenceIdeal.nD Cert.OddDxReferenceIdeal.τ).loc Cert.OddDxReferenceIdeal.main_arg3) = m' ((c.tc : Thread Cert.OddDxReferenceIdeal.nD Cert.OddDxReferenceIdeal.τ).loc Cert.OddDxReferenceIdeal.main_arg3)
          ∧ r.2.mem ((c.tc : Thread Cert.OddDxReferenceIdeal.nD Cert.OddDxReferenceIdeal.τ).loc Cert.OddDxReferenceIdeal.main_arg4) = m' ((c.tc : Thread Cert.OddDxReferenceIdeal.nD Cert.OddDxReferenceIdeal.τ).loc Cert.OddDxReferenceIdeal.main_arg4))

def preserves_DownDxKernel_DownDxKernelIdeal : Prop :=
  True

def algebraic_DownDxKernelIdeal_DownDxReferenceIdeal [hDownDxKernelIdeal : Cert.DownDxKernelIdeal.Facts] [hDownDxReferenceIdeal : Cert.DownDxReferenceIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxKernelIdeal m →
    (∀ c : Dev Cert.DownDxKernelIdeal.nD,
      m' ((c.tc : Thread Cert.DownDxReferenceIdeal.nD Cert.DownDxReferenceIdeal.τ).loc Cert.DownDxReferenceIdeal.main_arg0) = m ((c.tc : Thread Cert.DownDxKernelIdeal.nD Cert.DownDxKernelIdeal.τ).loc Cert.DownDxKernelIdeal.main_arg0)
      ∧ m' ((c.tc : Thread Cert.DownDxReferenceIdeal.nD Cert.DownDxReferenceIdeal.τ).loc Cert.DownDxReferenceIdeal.main_arg1) = m ((c.tc : Thread Cert.DownDxKernelIdeal.nD Cert.DownDxKernelIdeal.τ).loc Cert.DownDxKernelIdeal.main_arg1)) →
    ∃ (v0 : (c : Dev Cert.DownDxKernelIdeal.nD) → Buf (Elt Ideal) ((c.tc : Thread Cert.DownDxKernelIdeal.nD Cert.DownDxKernelIdeal.τ).loc Cert.DownDxKernelIdeal.main_v0)),
      θ_run (Cert.DownDxKernelIdeal.defs (F := Ideal)) (onTc (τ := Cert.DownDxKernelIdeal.τ) (Cert.DownDxKernelIdeal.main (F := Ideal))) ⟨m, fun _ => 0, g⟩ (fun r => ∀ c : Dev Cert.DownDxKernelIdeal.nD,
          r.2.mem ((c.tc : Thread Cert.DownDxKernelIdeal.nD Cert.DownDxKernelIdeal.τ).loc Cert.DownDxKernelIdeal.main_v0) = v0 c
          ∧ r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
          ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v5) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)) →
    ∃ (v0 : (c : Dev Cert.DownDwKernelIdeal.nD) → Buf (Elt Ideal) ((c.tc : Thread Cert.DownDwKernelIdeal.nD Cert.DownDwKernelIdeal.τ).loc Cert.DownDwKernelIdeal.main_v0)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v0) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m' ((c.tc : Thread Cert.UpDwReferenceIdeal.nD Cert.UpDwReferenceIdeal.τ).loc Cert.UpDwReferenceIdeal.main_arg0) = m ((c.tc : Thread Cert.UpDwKernelIdeal.nD Cert.UpDwKernelIdeal.τ).loc Cert.UpDwKernelIdeal.main_arg0)
      ∧ m' ((c.tc : Thread Cert.UpDwReferenceIdeal.nD Cert.UpDwReferenceIdeal.τ).loc Cert.UpDwReferenceIdeal.main_arg1) = m ((c.tc : Thread Cert.UpDwKernelIdeal.nD Cert.UpDwKernelIdeal.τ).loc Cert.UpDwKernelIdeal.main_arg1)) →
    ∃ (v0 : (c : Dev Cert.UpDwKernelIdeal.nD) → Buf (Elt Ideal) ((c.tc : Thread Cert.UpDwKernelIdeal.nD Cert.UpDwKernelIdeal.τ).loc Cert.UpDwKernelIdeal.main_v0)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v0) = v0 c
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v11) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_OutDxKernel_OutDxKernelIdeal : Prop :=
  True

def algebraic_OutDxKernelIdeal_OutDxReferenceIdeal [hOutDxKernelIdeal : Cert.OutDxKernelIdeal.Facts] [hOutDxReferenceIdeal : Cert.OutDxReferenceIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxKernelIdeal m →
    (∀ c : Dev Cert.OutDxKernelIdeal.nD,
      m' ((c.tc : Thread Cert.OutDxReferenceIdeal.nD Cert.OutDxReferenceIdeal.τ).loc Cert.OutDxReferenceIdeal.main_arg0) = m ((c.tc : Thread Cert.OutDxKernelIdeal.nD Cert.OutDxKernelIdeal.τ).loc Cert.OutDxKernelIdeal.main_arg0)
      ∧ m' ((c.tc : Thread Cert.OutDxReferenceIdeal.nD Cert.OutDxReferenceIdeal.τ).loc Cert.OutDxReferenceIdeal.main_arg1) = m ((c.tc : Thread Cert.OutDxKernelIdeal.nD Cert.OutDxKernelIdeal.τ).loc Cert.OutDxKernelIdeal.main_arg1)) →
    ∃ (v0 : (c : Dev Cert.OutDxKernelIdeal.nD) → Buf (Elt Ideal) ((c.tc : Thread Cert.OutDxKernelIdeal.nD Cert.OutDxKernelIdeal.τ).loc Cert.OutDxKernelIdeal.main_v0)),
      θ_run (Cert.OutDxKernelIdeal.defs (F := Ideal)) (onTc (τ := Cert.OutDxKernelIdeal.τ) (Cert.OutDxKernelIdeal.main (F := Ideal))) ⟨m, fun _ => 0, g⟩ (fun r => ∀ c : Dev Cert.OutDxKernelIdeal.nD,
          r.2.mem ((c.tc : Thread Cert.OutDxKernelIdeal.nD Cert.OutDxKernelIdeal.τ).loc Cert.OutDxKernelIdeal.main_v0) = v0 c
          ∧ r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
          ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v4) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDwKernel_OutDwKernelIdeal : Prop :=
  True

def algebraic_OutDwKernelIdeal_OutDwReferenceIdeal [hOutDwKernelIdeal : Cert.OutDwKernelIdeal.Facts] [hOutDwReferenceIdeal : Cert.OutDwReferenceIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwKernelIdeal m →
    (∀ c : Dev Cert.OutDwKernelIdeal.nD,
      m' ((c.tc : Thread Cert.OutDwReferenceIdeal.nD Cert.OutDwReferenceIdeal.τ).loc Cert.OutDwReferenceIdeal.main_arg0) = m ((c.tc : Thread Cert.OutDwKernelIdeal.nD Cert.OutDwKernelIdeal.τ).loc Cert.OutDwKernelIdeal.main_arg0)
      ∧ m' ((c.tc : Thread Cert.OutDwReferenceIdeal.nD Cert.OutDwReferenceIdeal.τ).loc Cert.OutDwReferenceIdeal.main_arg1) = m ((c.tc : Thread Cert.OutDwKernelIdeal.nD Cert.OutDwKernelIdeal.τ).loc Cert.OutDwKernelIdeal.main_arg1)) →
    ∃ (v0 : (c : Dev Cert.OutDwKernelIdeal.nD) → Buf (Elt Ideal) ((c.tc : Thread Cert.OutDwKernelIdeal.nD Cert.OutDwKernelIdeal.τ).loc Cert.OutDwKernelIdeal.main_v0)),
      θ_run (Cert.OutDwKernelIdeal.defs (F := Ideal)) (onTc (τ := Cert.OutDwKernelIdeal.τ) (Cert.OutDwKernelIdeal.main (F := Ideal))) ⟨m, fun _ => 0, g⟩ (fun r => ∀ c : Dev Cert.OutDwKernelIdeal.nD,
          r.2.mem ((c.tc : Thread Cert.OutDwKernelIdeal.nD Cert.OutDwKernelIdeal.τ).loc Cert.OutDwKernelIdeal.main_v0) = v0 c
          ∧ r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
          ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v6) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_EvenDwKernel_EvenDwKernelIdeal : Prop :=
  True

def algebraic_EvenDwKernelIdeal_EvenDwReferenceIdeal [hEvenDwKernelIdeal : Cert.EvenDwKernelIdeal.Facts] [hEvenDwReferenceIdeal : Cert.EvenDwReferenceIdeal.Facts] : Prop :=
  ∀ (m : (ℓ : Loc Cert.EvenDwKernelIdeal.nD Cert.EvenDwKernelIdeal.τ Cert.EvenDwKernelIdeal.sig) → Buf (Elt Ideal) ℓ) (g : Dev Cert.EvenDwKernelIdeal.nD → PrngReg)
    (m' : (ℓ : Loc Cert.EvenDwReferenceIdeal.nD Cert.EvenDwReferenceIdeal.τ Cert.EvenDwReferenceIdeal.sig) → Buf (Elt Ideal) ℓ) (g' : Dev Cert.EvenDwReferenceIdeal.nD → PrngReg), Pre_EvenDwKernelIdeal m →
    (∀ c : Dev Cert.EvenDwKernelIdeal.nD,
      m' ((c.tc : Thread Cert.EvenDwReferenceIdeal.nD Cert.EvenDwReferenceIdeal.τ).loc Cert.EvenDwReferenceIdeal.main_arg0) = m ((c.tc : Thread Cert.EvenDwKernelIdeal.nD Cert.EvenDwKernelIdeal.τ).loc Cert.EvenDwKernelIdeal.main_arg0)
      ∧ m' ((c.tc : Thread Cert.EvenDwReferenceIdeal.nD Cert.EvenDwReferenceIdeal.τ).loc Cert.EvenDwReferenceIdeal.main_arg1) = m ((c.tc : Thread Cert.EvenDwKernelIdeal.nD Cert.EvenDwKernelIdeal.τ).loc Cert.EvenDwKernelIdeal.main_arg1)) →
    ∃ (v0 : (c : Dev Cert.EvenDwKernelIdeal.nD) → Buf (Elt Ideal) ((c.tc : Thread Cert.EvenDwKernelIdeal.nD Cert.EvenDwKernelIdeal.τ).loc Cert.EvenDwKernelIdeal.main_v0)),
      θ_run (Cert.EvenDwKernelIdeal.defs (F := Ideal)) (onTc (τ := Cert.EvenDwKernelIdeal.τ) (Cert.EvenDwKernelIdeal.main (F := Ideal))) ⟨m, fun _ => 0, g⟩ (fun r => ∀ c : Dev Cert.EvenDwKernelIdeal.nD,
          r.2.mem ((c.tc : Thread Cert.EvenDwKernelIdeal.nD Cert.EvenDwKernelIdeal.τ).loc Cert.EvenDwKernelIdeal.main_v0) = v0 c
          ∧ r.2.mem ((c.tc : Thread Cert.EvenDwKernelIdeal.nD Cert.EvenDwKernelIdeal.τ).loc Cert.EvenDwKernelIdeal.main_arg0) = m ((c.tc : Thread Cert.EvenDwKernelIdeal.nD Cert.EvenDwKernelIdeal.τ).loc Cert.EvenDwKernelIdeal.main_arg0)
          ∧ r.2.mem ((c.tc : Thread Cert.EvenDwKernelIdeal.nD Cert.EvenDwKernelIdeal.τ).loc Cert.EvenDwKernelIdeal.main_arg1) = m ((c.tc : Thread Cert.EvenDwKernelIdeal.nD Cert.EvenDwKernelIdeal.τ).loc Cert.EvenDwKernelIdeal.main_arg1))
      ∧ θ_run (Cert.EvenDwReferenceIdeal.defs (F := Ideal)) (onTc (τ := Cert.EvenDwReferenceIdeal.τ) (Cert.EvenDwReferenceIdeal.main (F := Ideal))) ⟨m', fun _ => 0, g'⟩ (fun r => ∀ c : Dev Cert.EvenDwReferenceIdeal.nD,
          r.2.mem ((c.tc : Thread Cert.EvenDwReferenceIdeal.nD Cert.EvenDwReferenceIdeal.τ).loc Cert.EvenDwReferenceIdeal.main_v6) = v0 c
          ∧ r.2.mem ((c.tc : Thread Cert.EvenDwReferenceIdeal.nD Cert.EvenDwReferenceIdeal.τ).loc Cert.EvenDwReferenceIdeal.main_arg0) = m' ((c.tc : Thread Cert.EvenDwReferenceIdeal.nD Cert.EvenDwReferenceIdeal.τ).loc Cert.EvenDwReferenceIdeal.main_arg0)
          ∧ r.2.mem ((c.tc : Thread Cert.EvenDwReferenceIdeal.nD Cert.EvenDwReferenceIdeal.τ).loc Cert.EvenDwReferenceIdeal.main_arg1) = m' ((c.tc : Thread Cert.EvenDwReferenceIdeal.nD Cert.EvenDwReferenceIdeal.τ).loc Cert.EvenDwReferenceIdeal.main_arg1))

def preserves_OddDwKernel_OddDwKernelIdeal : Prop :=
  True

def algebraic_OddDwKernelIdeal_OddDwReferenceIdeal [hOddDwKernelIdeal : Cert.OddDwKernelIdeal.Facts] [hOddDwReferenceIdeal : Cert.OddDwReferenceIdeal.Facts] : Prop :=
  ∀ (m : (ℓ : Loc Cert.OddDwKernelIdeal.nD Cert.OddDwKernelIdeal.τ Cert.OddDwKernelIdeal.sig) → Buf (Elt Ideal) ℓ) (g : Dev Cert.OddDwKernelIdeal.nD → PrngReg)
    (m' : (ℓ : Loc Cert.OddDwReferenceIdeal.nD Cert.OddDwReferenceIdeal.τ Cert.OddDwReferenceIdeal.sig) → Buf (Elt Ideal) ℓ) (g' : Dev Cert.OddDwReferenceIdeal.nD → PrngReg), Pre_OddDwKernelIdeal m →
    (∀ c : Dev Cert.OddDwKernelIdeal.nD,
      m' ((c.tc : Thread Cert.OddDwReferenceIdeal.nD Cert.OddDwReferenceIdeal.τ).loc Cert.OddDwReferenceIdeal.main_arg0) = m ((c.tc : Thread Cert.OddDwKernelIdeal.nD Cert.OddDwKernelIdeal.τ).loc Cert.OddDwKernelIdeal.main_arg0)
      ∧ m' ((c.tc : Thread Cert.OddDwReferenceIdeal.nD Cert.OddDwReferenceIdeal.τ).loc Cert.OddDwReferenceIdeal.main_arg1) = m ((c.tc : Thread Cert.OddDwKernelIdeal.nD Cert.OddDwKernelIdeal.τ).loc Cert.OddDwKernelIdeal.main_arg1)) →
    ∃ (v0 : (c : Dev Cert.OddDwKernelIdeal.nD) → Buf (Elt Ideal) ((c.tc : Thread Cert.OddDwKernelIdeal.nD Cert.OddDwKernelIdeal.τ).loc Cert.OddDwKernelIdeal.main_v0)),
      θ_run (Cert.OddDwKernelIdeal.defs (F := Ideal)) (onTc (τ := Cert.OddDwKernelIdeal.τ) (Cert.OddDwKernelIdeal.main (F := Ideal))) ⟨m, fun _ => 0, g⟩ (fun r => ∀ c : Dev Cert.OddDwKernelIdeal.nD,
          r.2.mem ((c.tc : Thread Cert.OddDwKernelIdeal.nD Cert.OddDwKernelIdeal.τ).loc Cert.OddDwKernelIdeal.main_v0) = v0 c
          ∧ r.2.mem ((c.tc : Thread Cert.OddDwKernelIdeal.nD Cert.OddDwKernelIdeal.τ).loc Cert.OddDwKernelIdeal.main_arg0) = m ((c.tc : Thread Cert.OddDwKernelIdeal.nD Cert.OddDwKernelIdeal.τ).loc Cert.OddDwKernelIdeal.main_arg0)
          ∧ r.2.mem ((c.tc : Thread Cert.OddDwKernelIdeal.nD Cert.OddDwKernelIdeal.τ).loc Cert.OddDwKernelIdeal.main_arg1) = m ((c.tc : Thread Cert.OddDwKernelIdeal.nD Cert.OddDwKernelIdeal.τ).loc Cert.OddDwKernelIdeal.main_arg1))
      ∧ θ_run (Cert.OddDwReferenceIdeal.defs (F := Ideal)) (onTc (τ := Cert.OddDwReferenceIdeal.τ) (Cert.OddDwReferenceIdeal.main (F := Ideal))) ⟨m', fun _ => 0, g'⟩ (fun r => ∀ c : Dev Cert.OddDwReferenceIdeal.nD,
          r.2.mem ((c.tc : Thread Cert.OddDwReferenceIdeal.nD Cert.OddDwReferenceIdeal.τ).loc Cert.OddDwReferenceIdeal.main_v6) = v0 c
          ∧ r.2.mem ((c.tc : Thread Cert.OddDwReferenceIdeal.nD Cert.OddDwReferenceIdeal.τ).loc Cert.OddDwReferenceIdeal.main_arg0) = m' ((c.tc : Thread Cert.OddDwReferenceIdeal.nD Cert.OddDwReferenceIdeal.τ).loc Cert.OddDwReferenceIdeal.main_arg0)
          ∧ r.2.mem ((c.tc : Thread Cert.OddDwReferenceIdeal.nD Cert.OddDwReferenceIdeal.τ).loc Cert.OddDwReferenceIdeal.main_arg1) = m' ((c.tc : Thread Cert.OddDwReferenceIdeal.nD Cert.OddDwReferenceIdeal.τ).loc Cert.OddDwReferenceIdeal.main_arg1))

def preserves_EvenInKernel_EvenInKernelIdeal : Prop :=
  True

def algebraic_EvenInKernelIdeal_EvenInReferenceIdeal [hEvenInKernelIdeal : Cert.EvenInKernelIdeal.Facts] [hEvenInReferenceIdeal : Cert.EvenInReferenceIdeal.Facts] : Prop :=
  ∀ (m : (ℓ : Loc Cert.EvenInKernelIdeal.nD Cert.EvenInKernelIdeal.τ Cert.EvenInKernelIdeal.sig) → Buf (Elt Ideal) ℓ) (g : Dev Cert.EvenInKernelIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInKernelIdeal m →
    (∀ c : Dev Cert.EvenInKernelIdeal.nD,
      m' ((c.tc : Thread Cert.EvenInReferenceIdeal.nD Cert.EvenInReferenceIdeal.τ).loc Cert.EvenInReferenceIdeal.main_arg0) = m ((c.tc : Thread Cert.EvenInKernelIdeal.nD Cert.EvenInKernelIdeal.τ).loc Cert.EvenInKernelIdeal.main_arg0)
      ∧ m' ((c.tc : Thread Cert.EvenInReferenceIdeal.nD Cert.EvenInReferenceIdeal.τ).loc Cert.EvenInReferenceIdeal.main_arg1) = m ((c.tc : Thread Cert.EvenInKernelIdeal.nD Cert.EvenInKernelIdeal.τ).loc Cert.EvenInKernelIdeal.main_arg1)) →
    ∃ (v0 : (c : Dev Cert.EvenInKernelIdeal.nD) → Buf (Elt Ideal) ((c.tc : Thread Cert.EvenInKernelIdeal.nD Cert.EvenInKernelIdeal.τ).loc Cert.EvenInKernelIdeal.main_v0)),
      θ_run (Cert.EvenInKernelIdeal.defs (F := Ideal)) (onTc (τ := Cert.EvenInKernelIdeal.τ) (Cert.EvenInKernelIdeal.main (F := Ideal))) ⟨m, fun _ => 0, g⟩ (fun r => ∀ c : Dev Cert.EvenInKernelIdeal.nD,
          r.2.mem ((c.tc : Thread Cert.EvenInKernelIdeal.nD Cert.EvenInKernelIdeal.τ).loc Cert.EvenInKernelIdeal.main_v0) = v0 c
          ∧ r.2.mem ((c.tc : Thread Cert.EvenInKernelIdeal.nD Cert.EvenInKernelIdeal.τ).loc Cert.EvenInKernelIdeal.main_arg0) = m ((c.tc : Thread Cert.EvenInKernelIdeal.nD Cert.EvenInKernelIdeal.τ).loc Cert.EvenInKernelIdeal.main_arg0)
          ∧ r.2.mem ((c.tc : Thread Cert.EvenInKernelIdeal.nD Cert.EvenInKernelIdeal.τ).loc Cert.EvenInKernelIdeal.main_arg1) = m ((c.tc : Thread Cert.EvenInKernelIdeal.nD Cert.EvenInKernelIdeal.τ).loc Cert.EvenInKernelIdeal.main_arg1))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v2) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1))

def preserves_OddInKernel_OddInKernelIdeal : Prop :=
  True

def algebraic_OddInKernelIdeal_OddInReferenceIdeal [hOddInKernelIdeal : Cert.OddInKernelIdeal.Facts] [hOddInReferenceIdeal : Cert.OddInReferenceIdeal.Facts] : Prop :=
  ∀ (m : (ℓ : Loc Cert.OddInKernelIdeal.nD Cert.OddInKernelIdeal.τ Cert.OddInKernelIdeal.sig) → Buf (Elt Ideal) ℓ) (g : Dev Cert.OddInKernelIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInKernelIdeal m →
    (∀ c : Dev Cert.OddInKernelIdeal.nD,
      m' ((c.tc : Thread Cert.OddInReferenceIdeal.nD Cert.OddInReferenceIdeal.τ).loc Cert.OddInReferenceIdeal.main_arg0) = m ((c.tc : Thread Cert.OddInKernelIdeal.nD Cert.OddInKernelIdeal.τ).loc Cert.OddInKernelIdeal.main_arg0)
      ∧ m' ((c.tc : Thread Cert.OddInReferenceIdeal.nD Cert.OddInReferenceIdeal.τ).loc Cert.OddInReferenceIdeal.main_arg1) = m ((c.tc : Thread Cert.OddInKernelIdeal.nD Cert.OddInKernelIdeal.τ).loc Cert.OddInKernelIdeal.main_arg1)) →
    ∃ (v0 : (c : Dev Cert.OddInKernelIdeal.nD) → Buf (Elt Ideal) ((c.tc : Thread Cert.OddInKernelIdeal.nD Cert.OddInKernelIdeal.τ).loc Cert.OddInKernelIdeal.main_v0)),
      θ_run (Cert.OddInKernelIdeal.defs (F := Ideal)) (onTc (τ := Cert.OddInKernelIdeal.τ) (Cert.OddInKernelIdeal.main (F := Ideal))) ⟨m, fun _ => 0, g⟩ (fun r => ∀ c : Dev Cert.OddInKernelIdeal.nD,
          r.2.mem ((c.tc : Thread Cert.OddInKernelIdeal.nD Cert.OddInKernelIdeal.τ).loc Cert.OddInKernelIdeal.main_v0) = v0 c
          ∧ r.2.mem ((c.tc : Thread Cert.OddInKernelIdeal.nD Cert.OddInKernelIdeal.τ).loc Cert.OddInKernelIdeal.main_arg0) = m ((c.tc : Thread Cert.OddInKernelIdeal.nD Cert.OddInKernelIdeal.τ).loc Cert.OddInKernelIdeal.main_arg0)
          ∧ r.2.mem ((c.tc : Thread Cert.OddInKernelIdeal.nD Cert.OddInKernelIdeal.τ).loc Cert.OddInKernelIdeal.main_arg1) = m ((c.tc : Thread Cert.OddInKernelIdeal.nD Cert.OddInKernelIdeal.τ).loc Cert.OddInKernelIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v2) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_MixOutKernel_MixOutKernelIdeal : Prop :=
  True

def algebraic_MixOutKernelIdeal_MixOutReferenceIdeal [hMixOutKernelIdeal : Cert.MixOutKernelIdeal.Facts] [hMixOutReferenceIdeal : Cert.MixOutReferenceIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutKernelIdeal m →
    (∀ c : Dev Cert.MixOutKernelIdeal.nD,
      m' ((c.tc : Thread Cert.MixOutReferenceIdeal.nD Cert.MixOutReferenceIdeal.τ).loc Cert.MixOutReferenceIdeal.main_arg0) = m ((c.tc : Thread Cert.MixOutKernelIdeal.nD Cert.MixOutKernelIdeal.τ).loc Cert.MixOutKernelIdeal.main_arg0)
      ∧ m' ((c.tc : Thread Cert.MixOutReferenceIdeal.nD Cert.MixOutReferenceIdeal.τ).loc Cert.MixOutReferenceIdeal.main_arg1) = m ((c.tc : Thread Cert.MixOutKernelIdeal.nD Cert.MixOutKernelIdeal.τ).loc Cert.MixOutKernelIdeal.main_arg1)
      ∧ m' ((c.tc : Thread Cert.MixOutReferenceIdeal.nD Cert.MixOutReferenceIdeal.τ).loc Cert.MixOutReferenceIdeal.main_arg2) = m ((c.tc : Thread Cert.MixOutKernelIdeal.nD Cert.MixOutKernelIdeal.τ).loc Cert.MixOutKernelIdeal.main_arg2)
      ∧ m' ((c.tc : Thread Cert.MixOutReferenceIdeal.nD Cert.MixOutReferenceIdeal.τ).loc Cert.MixOutReferenceIdeal.main_arg3) = m ((c.tc : Thread Cert.MixOutKernelIdeal.nD Cert.MixOutKernelIdeal.τ).loc Cert.MixOutKernelIdeal.main_arg3)) →
    ∃ (v0 : (c : Dev Cert.MixOutKernelIdeal.nD) → Buf (Elt Ideal) ((c.tc : Thread Cert.MixOutKernelIdeal.nD Cert.MixOutKernelIdeal.τ).loc Cert.MixOutKernelIdeal.main_v1_0)) (v1 : (c : Dev Cert.MixOutKernelIdeal.nD) → Buf (Elt Ideal) ((c.tc : Thread Cert.MixOutKernelIdeal.nD Cert.MixOutKernelIdeal.τ).loc Cert.MixOutKernelIdeal.main_v1_1)),
      θ_run (Cert.MixOutKernelIdeal.defs (F := Ideal)) (onTc (τ := Cert.MixOutKernelIdeal.τ) (Cert.MixOutKernelIdeal.main (F := Ideal))) ⟨m, fun _ => 0, g⟩ (fun r => ∀ c : Dev Cert.MixOutKernelIdeal.nD,
          r.2.mem ((c.tc : Thread Cert.MixOutKernelIdeal.nD Cert.MixOutKernelIdeal.τ).loc Cert.MixOutKernelIdeal.main_v1_0) = v0 c
          ∧ r.2.mem ((c.tc : Thread Cert.MixOutKernelIdeal.nD Cert.MixOutKernelIdeal.τ).loc Cert.MixOutKernelIdeal.main_v1_1) = v1 c
          ∧ r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
          ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
          ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
          ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v5) = v0 c
          ∧ r.2.mem ((c.tc : Thread Cert.MixOutReferenceIdeal.nD Cert.MixOutReferenceIdeal.τ).loc Cert.MixOutReferenceIdeal.main_v19) = v1 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v1_0)) (v1 : (c : Dev Cert.DownKernelIdeal.nD) → Buf (Elt Ideal) ((c.tc : Thread Cert.DownKernelIdeal.nD Cert.DownKernelIdeal.τ).loc Cert.DownKernelIdeal.main_v1_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v1_0) = v0 c
          ∧ r.2.mem ((c.tc : Thread Cert.DownKernelIdeal.nD Cert.DownKernelIdeal.τ).loc Cert.DownKernelIdeal.main_v1_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_v19) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_LastDownKernel_LastDownKernelIdeal : Prop :=
  True

def algebraic_LastDownKernelIdeal_LastDownReferenceIdeal [hLastDownKernelIdeal : Cert.LastDownKernelIdeal.Facts] [hLastDownReferenceIdeal : Cert.LastDownReferenceIdeal.Facts] : Prop :=
  ∀ (m : (ℓ : Loc Cert.LastDownKernelIdeal.nD Cert.LastDownKernelIdeal.τ Cert.LastDownKernelIdeal.sig) → Buf (Elt Ideal) ℓ) (g : Dev Cert.LastDownKernelIdeal.nD → PrngReg)
    (m' : (ℓ : Loc Cert.LastDownReferenceIdeal.nD Cert.LastDownReferenceIdeal.τ Cert.LastDownReferenceIdeal.sig) → Buf (Elt Ideal) ℓ) (g' : Dev Cert.LastDownReferenceIdeal.nD → PrngReg), Pre_LastDownKernelIdeal m →
    (∀ c : Dev Cert.LastDownKernelIdeal.nD,
      m' ((c.tc : Thread Cert.LastDownReferenceIdeal.nD Cert.LastDownReferenceIdeal.τ).loc Cert.LastDownReferenceIdeal.main_arg0) = m ((c.tc : Thread Cert.LastDownKernelIdeal.nD Cert.LastDownKernelIdeal.τ).loc Cert.LastDownKernelIdeal.main_arg0)
      ∧ m' ((c.tc : Thread Cert.LastDownReferenceIdeal.nD Cert.LastDownReferenceIdeal.τ).loc Cert.LastDownReferenceIdeal.main_arg1) = m ((c.tc : Thread Cert.LastDownKernelIdeal.nD Cert.LastDownKernelIdeal.τ).loc Cert.LastDownKernelIdeal.main_arg1)
      ∧ m' ((c.tc : Thread Cert.LastDownReferenceIdeal.nD Cert.LastDownReferenceIdeal.τ).loc Cert.LastDownReferenceIdeal.main_arg2) = m ((c.tc : Thread Cert.LastDownKernelIdeal.nD Cert.LastDownKernelIdeal.τ).loc Cert.LastDownKernelIdeal.main_arg2)) →
    ∃ (v0 : (c : Dev Cert.LastDownKernelIdeal.nD) → Buf (Elt Ideal) ((c.tc : Thread Cert.LastDownKernelIdeal.nD Cert.LastDownKernelIdeal.τ).loc Cert.LastDownKernelIdeal.main_v0)),
      θ_run (Cert.LastDownKernelIdeal.defs (F := Ideal)) (onTc (τ := Cert.LastDownKernelIdeal.τ) (Cert.LastDownKernelIdeal.main (F := Ideal))) ⟨m, fun _ => 0, g⟩ (fun r => ∀ c : Dev Cert.LastDownKernelIdeal.nD,
          r.2.mem ((c.tc : Thread Cert.LastDownKernelIdeal.nD Cert.LastDownKernelIdeal.τ).loc Cert.LastDownKernelIdeal.main_v0) = v0 c
          ∧ r.2.mem ((c.tc : Thread Cert.LastDownKernelIdeal.nD Cert.LastDownKernelIdeal.τ).loc Cert.LastDownKernelIdeal.main_arg0) = m ((c.tc : Thread Cert.LastDownKernelIdeal.nD Cert.LastDownKernelIdeal.τ).loc Cert.LastDownKernelIdeal.main_arg0)
          ∧ r.2.mem ((c.tc : Thread Cert.LastDownKernelIdeal.nD Cert.LastDownKernelIdeal.τ).loc Cert.LastDownKernelIdeal.main_arg1) = m ((c.tc : Thread Cert.LastDownKernelIdeal.nD Cert.LastDownKernelIdeal.τ).loc Cert.LastDownKernelIdeal.main_arg1)
          ∧ r.2.mem ((c.tc : Thread Cert.LastDownKernelIdeal.nD Cert.LastDownKernelIdeal.τ).loc Cert.LastDownKernelIdeal.main_arg2) = m ((c.tc : Thread Cert.LastDownKernelIdeal.nD Cert.LastDownKernelIdeal.τ).loc Cert.LastDownKernelIdeal.main_arg2))
      ∧ θ_run (Cert.LastDownReferenceIdeal.defs (F := Ideal)) (onTc (τ := Cert.LastDownReferenceIdeal.τ) (Cert.LastDownReferenceIdeal.main (F := Ideal))) ⟨m', fun _ => 0, g'⟩ (fun r => ∀ c : Dev Cert.LastDownReferenceIdeal.nD,
          r.2.mem ((c.tc : Thread Cert.LastDownReferenceIdeal.nD Cert.LastDownReferenceIdeal.τ).loc Cert.LastDownReferenceIdeal.main_v3) = v0 c
          ∧ r.2.mem ((c.tc : Thread Cert.LastDownReferenceIdeal.nD Cert.LastDownReferenceIdeal.τ).loc Cert.LastDownReferenceIdeal.main_arg0) = m' ((c.tc : Thread Cert.LastDownReferenceIdeal.nD Cert.LastDownReferenceIdeal.τ).loc Cert.LastDownReferenceIdeal.main_arg0)
          ∧ r.2.mem ((c.tc : Thread Cert.LastDownReferenceIdeal.nD Cert.LastDownReferenceIdeal.τ).loc Cert.LastDownReferenceIdeal.main_arg1) = m' ((c.tc : Thread Cert.LastDownReferenceIdeal.nD Cert.LastDownReferenceIdeal.τ).loc Cert.LastDownReferenceIdeal.main_arg1)
          ∧ r.2.mem ((c.tc : Thread Cert.LastDownReferenceIdeal.nD Cert.LastDownReferenceIdeal.τ).loc Cert.LastDownReferenceIdeal.main_arg2) = m' ((c.tc : Thread Cert.LastDownReferenceIdeal.nD Cert.LastDownReferenceIdeal.τ).loc Cert.LastDownReferenceIdeal.main_arg2))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_GluKernel_GluKernelIdeal : Prop :=
  IdealRules.named_const.Statement Cert.GluKernelIdeal.κ "gelu_c" .f32 0x3D372713#32 ((8943 / 200000 : ℝ) : EReal)
  ∧ IdealRules.named_const.Statement Cert.GluKernelIdeal.κ "gelu_3c" .f32 0x3E095D4F#32 ((26829 / 200000 : ℝ) : EReal)

def algebraic_GluKernelIdeal_GluReferenceIdeal_pre_glu_finite [hGluKernelIdeal : Cert.GluKernelIdeal.Facts] [hGluReferenceIdeal : Cert.GluReferenceIdeal.Facts] [hPre_glu_finite : Cert.Pre_glu_finite.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal_glu_finite m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)) →
    ∃ (v0 : (c : Dev Cert.GluKernelIdeal.nD) → Buf (Elt Ideal) ((c.tc : Thread Cert.GluKernelIdeal.nD Cert.GluKernelIdeal.τ).loc Cert.GluKernelIdeal.main_v2_0)) (v1 : (c : Dev Cert.GluKernelIdeal.nD) → Buf (Elt Ideal) ((c.tc : Thread Cert.GluKernelIdeal.nD Cert.GluKernelIdeal.τ).loc Cert.GluKernelIdeal.main_v2_1)) (v2 : (c : Dev Cert.GluKernelIdeal.nD) → Buf (Elt Ideal) ((c.tc : Thread Cert.GluKernelIdeal.nD Cert.GluKernelIdeal.τ).loc Cert.GluKernelIdeal.main_v2_2)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v2_0) = v0 c
          ∧ r.2.mem ((c.tc : Thread Cert.GluKernelIdeal.nD Cert.GluKernelIdeal.τ).loc Cert.GluKernelIdeal.main_v2_1) = v1 c
          ∧ r.2.mem ((c.tc : Thread Cert.GluKernelIdeal.nD Cert.GluKernelIdeal.τ).loc Cert.GluKernelIdeal.main_v2_2) = v2 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v61) = v0 c
          ∧ r.2.mem ((c.tc : Thread Cert.GluReferenceIdeal.nD Cert.GluReferenceIdeal.τ).loc Cert.GluReferenceIdeal.main_v45) = v1 c
          ∧ r.2.mem ((c.tc : Thread Cert.GluReferenceIdeal.nD Cert.GluReferenceIdeal.τ).loc Cert.GluReferenceIdeal.main_v62) = v2 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v1_0)) (v1 : (c : Dev Cert.FfnKernelIdeal.nD) → Buf (Elt Ideal) ((c.tc : Thread Cert.FfnKernelIdeal.nD Cert.FfnKernelIdeal.τ).loc Cert.FfnKernelIdeal.main_v2_0)) (v2 : (c : Dev Cert.FfnKernelIdeal.nD) → Buf (Elt Ideal) ((c.tc : Thread Cert.FfnKernelIdeal.nD Cert.FfnKernelIdeal.τ).loc Cert.FfnKernelIdeal.main_v7)) (v3 : (c : Dev Cert.FfnKernelIdeal.nD) → Buf (Elt Ideal) ((c.tc : Thread Cert.FfnKernelIdeal.nD Cert.FfnKernelIdeal.τ).loc Cert.FfnKernelIdeal.main_v12)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v1_0) = v0 c
          ∧ r.2.mem ((c.tc : Thread Cert.FfnKernelIdeal.nD Cert.FfnKernelIdeal.τ).loc Cert.FfnKernelIdeal.main_v2_0) = v1 c
          ∧ r.2.mem ((c.tc : Thread Cert.FfnKernelIdeal.nD Cert.FfnKernelIdeal.τ).loc Cert.FfnKernelIdeal.main_v7) = v2 c
          ∧ r.2.mem ((c.tc : Thread Cert.FfnKernelIdeal.nD Cert.FfnKernelIdeal.τ).loc Cert.FfnKernelIdeal.main_v12) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v74) = v0 c
          ∧ r.2.mem ((c.tc : Thread Cert.FfnReferenceIdeal.nD Cert.FfnReferenceIdeal.τ).loc Cert.FfnReferenceIdeal.main_v81) = v1 c
          ∧ r.2.mem ((c.tc : Thread Cert.FfnReferenceIdeal.nD Cert.FfnReferenceIdeal.τ).loc Cert.FfnReferenceIdeal.main_v68) = v2 c
          ∧ r.2.mem ((c.tc : Thread Cert.FfnReferenceIdeal.nD Cert.FfnReferenceIdeal.τ).loc Cert.FfnReferenceIdeal.main_v82) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_UpDx0Kernel_UpDx0KernelIdeal : Prop :=
  True

def algebraic_UpDx0KernelIdeal_UpDx0ReferenceIdeal [hUpDx0KernelIdeal : Cert.UpDx0KernelIdeal.Facts] [hUpDx0ReferenceIdeal : Cert.UpDx0ReferenceIdeal.Facts] : Prop :=
  ∀ (m : (ℓ : Loc Cert.UpDx0KernelIdeal.nD Cert.UpDx0KernelIdeal.τ Cert.UpDx0KernelIdeal.sig) → Buf (Elt Ideal) ℓ) (g : Dev Cert.UpDx0KernelIdeal.nD → PrngReg)
    (m' : (ℓ : Loc Cert.UpDx0ReferenceIdeal.nD Cert.UpDx0ReferenceIdeal.τ Cert.UpDx0ReferenceIdeal.sig) → Buf (Elt Ideal) ℓ) (g' : Dev Cert.UpDx0ReferenceIdeal.nD → PrngReg), Pre_UpDx0KernelIdeal m →
    (∀ c : Dev Cert.UpDx0KernelIdeal.nD,
      m' ((c.tc : Thread Cert.UpDx0ReferenceIdeal.nD Cert.UpDx0ReferenceIdeal.τ).loc Cert.UpDx0ReferenceIdeal.main_arg0) = m ((c.tc : Thread Cert.UpDx0KernelIdeal.nD Cert.UpDx0KernelIdeal.τ).loc Cert.UpDx0KernelIdeal.main_arg0)
      ∧ m' ((c.tc : Thread Cert.UpDx0ReferenceIdeal.nD Cert.UpDx0ReferenceIdeal.τ).loc Cert.UpDx0ReferenceIdeal.main_arg1) = m ((c.tc : Thread Cert.UpDx0KernelIdeal.nD Cert.UpDx0KernelIdeal.τ).loc Cert.UpDx0KernelIdeal.main_arg1)
      ∧ m' ((c.tc : Thread Cert.UpDx0ReferenceIdeal.nD Cert.UpDx0ReferenceIdeal.τ).loc Cert.UpDx0ReferenceIdeal.main_arg2) = m ((c.tc : Thread Cert.UpDx0KernelIdeal.nD Cert.UpDx0KernelIdeal.τ).loc Cert.UpDx0KernelIdeal.main_arg2)
      ∧ m' ((c.tc : Thread Cert.UpDx0ReferenceIdeal.nD Cert.UpDx0ReferenceIdeal.τ).loc Cert.UpDx0ReferenceIdeal.main_arg3) = m ((c.tc : Thread Cert.UpDx0KernelIdeal.nD Cert.UpDx0KernelIdeal.τ).loc Cert.UpDx0KernelIdeal.main_arg3)
      ∧ m' ((c.tc : Thread Cert.UpDx0ReferenceIdeal.nD Cert.UpDx0ReferenceIdeal.τ).loc Cert.UpDx0ReferenceIdeal.main_arg4) = m ((c.tc : Thread Cert.UpDx0KernelIdeal.nD Cert.UpDx0KernelIdeal.τ).loc Cert.UpDx0KernelIdeal.main_arg4)) →
    ∃ (v0 : (c : Dev Cert.UpDx0KernelIdeal.nD) → Buf (Elt Ideal) ((c.tc : Thread Cert.UpDx0KernelIdeal.nD Cert.UpDx0KernelIdeal.τ).loc Cert.UpDx0KernelIdeal.main_v1_0)) (v1 : (c : Dev Cert.UpDx0KernelIdeal.nD) → Buf (Elt Ideal) ((c.tc : Thread Cert.UpDx0KernelIdeal.nD Cert.UpDx0KernelIdeal.τ).loc Cert.UpDx0KernelIdeal.main_v1_1)) (v2 : (c : Dev Cert.UpDx0KernelIdeal.nD) → Buf (Elt Ideal) ((c.tc : Thread Cert.UpDx0KernelIdeal.nD Cert.UpDx0KernelIdeal.τ).loc Cert.UpDx0KernelIdeal.main_v1_2)),
      θ_run (Cert.UpDx0KernelIdeal.defs (F := Ideal)) (onTc (τ := Cert.UpDx0KernelIdeal.τ) (Cert.UpDx0KernelIdeal.main (F := Ideal))) ⟨m, fun _ => 0, g⟩ (fun r => ∀ c : Dev Cert.UpDx0KernelIdeal.nD,
          r.2.mem ((c.tc : Thread Cert.UpDx0KernelIdeal.nD Cert.UpDx0KernelIdeal.τ).loc Cert.UpDx0KernelIdeal.main_v1_0) = v0 c
          ∧ r.2.mem ((c.tc : Thread Cert.UpDx0KernelIdeal.nD Cert.UpDx0KernelIdeal.τ).loc Cert.UpDx0KernelIdeal.main_v1_1) = v1 c
          ∧ r.2.mem ((c.tc : Thread Cert.UpDx0KernelIdeal.nD Cert.UpDx0KernelIdeal.τ).loc Cert.UpDx0KernelIdeal.main_v1_2) = v2 c
          ∧ r.2.mem ((c.tc : Thread Cert.UpDx0KernelIdeal.nD Cert.UpDx0KernelIdeal.τ).loc Cert.UpDx0KernelIdeal.main_arg0) = m ((c.tc : Thread Cert.UpDx0KernelIdeal.nD Cert.UpDx0KernelIdeal.τ).loc Cert.UpDx0KernelIdeal.main_arg0)
          ∧ r.2.mem ((c.tc : Thread Cert.UpDx0KernelIdeal.nD Cert.UpDx0KernelIdeal.τ).loc Cert.UpDx0KernelIdeal.main_arg1) = m ((c.tc : Thread Cert.UpDx0KernelIdeal.nD Cert.UpDx0KernelIdeal.τ).loc Cert.UpDx0KernelIdeal.main_arg1)
          ∧ r.2.mem ((c.tc : Thread Cert.UpDx0KernelIdeal.nD Cert.UpDx0KernelIdeal.τ).loc Cert.UpDx0KernelIdeal.main_arg2) = m ((c.tc : Thread Cert.UpDx0KernelIdeal.nD Cert.UpDx0KernelIdeal.τ).loc Cert.UpDx0KernelIdeal.main_arg2)
          ∧ r.2.mem ((c.tc : Thread Cert.UpDx0KernelIdeal.nD Cert.UpDx0KernelIdeal.τ).loc Cert.UpDx0KernelIdeal.main_arg3) = m ((c.tc : Thread Cert.UpDx0KernelIdeal.nD Cert.UpDx0KernelIdeal.τ).loc Cert.UpDx0KernelIdeal.main_arg3)
          ∧ r.2.mem ((c.tc : Thread Cert.UpDx0KernelIdeal.nD Cert.UpDx0KernelIdeal.τ).loc Cert.UpDx0KernelIdeal.main_arg4) = m ((c.tc : Thread Cert.UpDx0KernelIdeal.nD Cert.UpDx0KernelIdeal.τ).loc Cert.UpDx0KernelIdeal.main_arg4))
      ∧ θ_run (Cert.UpDx0ReferenceIdeal.defs (F := Ideal)) (onTc (τ := Cert.UpDx0ReferenceIdeal.τ) (Cert.UpDx0ReferenceIdeal.main (F := Ideal))) ⟨m', fun _ => 0, g'⟩ (fun r => ∀ c : Dev Cert.UpDx0ReferenceIdeal.nD,
          r.2.mem ((c.tc : Thread Cert.UpDx0ReferenceIdeal.nD Cert.UpDx0ReferenceIdeal.τ).loc Cert.UpDx0ReferenceIdeal.main_v47) = v0 c
          ∧ r.2.mem ((c.tc : Thread Cert.UpDx0ReferenceIdeal.nD Cert.UpDx0ReferenceIdeal.τ).loc Cert.UpDx0ReferenceIdeal.main_v48) = v1 c
          ∧ r.2.mem ((c.tc : Thread Cert.UpDx0ReferenceIdeal.nD Cert.UpDx0ReferenceIdeal.τ).loc Cert.UpDx0ReferenceIdeal.main_v49) = v2 c
          ∧ r.2.mem ((c.tc : Thread Cert.UpDx0ReferenceIdeal.nD Cert.UpDx0ReferenceIdeal.τ).loc Cert.UpDx0ReferenceIdeal.main_arg0) = m' ((c.tc : Thread Cert.UpDx0ReferenceIdeal.nD Cert.UpDx0ReferenceIdeal.τ).loc Cert.UpDx0ReferenceIdeal.main_arg0)
          ∧ r.2.mem ((c.tc : Thread Cert.UpDx0ReferenceIdeal.nD Cert.UpDx0ReferenceIdeal.τ).loc Cert.UpDx0ReferenceIdeal.main_arg1) = m' ((c.tc : Thread Cert.UpDx0ReferenceIdeal.nD Cert.UpDx0ReferenceIdeal.τ).loc Cert.UpDx0ReferenceIdeal.main_arg1)
          ∧ r.2.mem ((c.tc : Thread Cert.UpDx0ReferenceIdeal.nD Cert.UpDx0ReferenceIdeal.τ).loc Cert.UpDx0ReferenceIdeal.main_arg2) = m' ((c.tc : Thread Cert.UpDx0ReferenceIdeal.nD Cert.UpDx0ReferenceIdeal.τ).loc Cert.UpDx0ReferenceIdeal.main_arg2)
          ∧ r.2.mem ((c.tc : Thread Cert.UpDx0ReferenceIdeal.nD Cert.UpDx0ReferenceIdeal.τ).loc Cert.UpDx0ReferenceIdeal.main_arg3) = m' ((c.tc : Thread Cert.UpDx0ReferenceIdeal.nD Cert.UpDx0ReferenceIdeal.τ).loc Cert.UpDx0ReferenceIdeal.main_arg3)
          ∧ r.2.mem ((c.tc : Thread Cert.UpDx0ReferenceIdeal.nD Cert.UpDx0ReferenceIdeal.τ).loc Cert.UpDx0ReferenceIdeal.main_arg4) = m' ((c.tc : Thread Cert.UpDx0ReferenceIdeal.nD Cert.UpDx0ReferenceIdeal.τ).loc Cert.UpDx0ReferenceIdeal.main_arg4))

def preserves_UpDx1Kernel_UpDx1KernelIdeal : Prop :=
  True

def algebraic_UpDx1KernelIdeal_UpDx1ReferenceIdeal [hUpDx1KernelIdeal : Cert.UpDx1KernelIdeal.Facts] [hUpDx1ReferenceIdeal : Cert.UpDx1ReferenceIdeal.Facts] : Prop :=
  ∀ (m : (ℓ : Loc Cert.UpDx1KernelIdeal.nD Cert.UpDx1KernelIdeal.τ Cert.UpDx1KernelIdeal.sig) → Buf (Elt Ideal) ℓ) (g : Dev Cert.UpDx1KernelIdeal.nD → PrngReg)
    (m' : (ℓ : Loc Cert.UpDx1ReferenceIdeal.nD Cert.UpDx1ReferenceIdeal.τ Cert.UpDx1ReferenceIdeal.sig) → Buf (Elt Ideal) ℓ) (g' : Dev Cert.UpDx1ReferenceIdeal.nD → PrngReg), Pre_UpDx1KernelIdeal m →
    (∀ c : Dev Cert.UpDx1KernelIdeal.nD,
      m' ((c.tc : Thread Cert.UpDx1ReferenceIdeal.nD Cert.UpDx1ReferenceIdeal.τ).loc Cert.UpDx1ReferenceIdeal.main_arg0) = m ((c.tc : Thread Cert.UpDx1KernelIdeal.nD Cert.UpDx1KernelIdeal.τ).loc Cert.UpDx1KernelIdeal.main_arg0)
      ∧ m' ((c.tc : Thread Cert.UpDx1ReferenceIdeal.nD Cert.UpDx1ReferenceIdeal.τ).loc Cert.UpDx1ReferenceIdeal.main_arg1) = m ((c.tc : Thread Cert.UpDx1KernelIdeal.nD Cert.UpDx1KernelIdeal.τ).loc Cert.UpDx1KernelIdeal.main_arg1)
      ∧ m' ((c.tc : Thread Cert.UpDx1ReferenceIdeal.nD Cert.UpDx1ReferenceIdeal.τ).loc Cert.UpDx1ReferenceIdeal.main_arg2) = m ((c.tc : Thread Cert.UpDx1KernelIdeal.nD Cert.UpDx1KernelIdeal.τ).loc Cert.UpDx1KernelIdeal.main_arg2)
      ∧ m' ((c.tc : Thread Cert.UpDx1ReferenceIdeal.nD Cert.UpDx1ReferenceIdeal.τ).loc Cert.UpDx1ReferenceIdeal.main_arg3) = m ((c.tc : Thread Cert.UpDx1KernelIdeal.nD Cert.UpDx1KernelIdeal.τ).loc Cert.UpDx1KernelIdeal.main_arg3)
      ∧ m' ((c.tc : Thread Cert.UpDx1ReferenceIdeal.nD Cert.UpDx1ReferenceIdeal.τ).loc Cert.UpDx1ReferenceIdeal.main_arg4) = m ((c.tc : Thread Cert.UpDx1KernelIdeal.nD Cert.UpDx1KernelIdeal.τ).loc Cert.UpDx1KernelIdeal.main_arg4)) →
    ∃ (v0 : (c : Dev Cert.UpDx1KernelIdeal.nD) → Buf (Elt Ideal) ((c.tc : Thread Cert.UpDx1KernelIdeal.nD Cert.UpDx1KernelIdeal.τ).loc Cert.UpDx1KernelIdeal.main_v1_0)) (v1 : (c : Dev Cert.UpDx1KernelIdeal.nD) → Buf (Elt Ideal) ((c.tc : Thread Cert.UpDx1KernelIdeal.nD Cert.UpDx1KernelIdeal.τ).loc Cert.UpDx1KernelIdeal.main_v1_1)) (v2 : (c : Dev Cert.UpDx1KernelIdeal.nD) → Buf (Elt Ideal) ((c.tc : Thread Cert.UpDx1KernelIdeal.nD Cert.UpDx1KernelIdeal.τ).loc Cert.UpDx1KernelIdeal.main_v1_2)),
      θ_run (Cert.UpDx1KernelIdeal.defs (F := Ideal)) (onTc (τ := Cert.UpDx1KernelIdeal.τ) (Cert.UpDx1KernelIdeal.main (F := Ideal))) ⟨m, fun _ => 0, g⟩ (fun r => ∀ c : Dev Cert.UpDx1KernelIdeal.nD,
          r.2.mem ((c.tc : Thread Cert.UpDx1KernelIdeal.nD Cert.UpDx1KernelIdeal.τ).loc Cert.UpDx1KernelIdeal.main_v1_0) = v0 c
          ∧ r.2.mem ((c.tc : Thread Cert.UpDx1KernelIdeal.nD Cert.UpDx1KernelIdeal.τ).loc Cert.UpDx1KernelIdeal.main_v1_1) = v1 c
          ∧ r.2.mem ((c.tc : Thread Cert.UpDx1KernelIdeal.nD Cert.UpDx1KernelIdeal.τ).loc Cert.UpDx1KernelIdeal.main_v1_2) = v2 c
          ∧ r.2.mem ((c.tc : Thread Cert.UpDx1KernelIdeal.nD Cert.UpDx1KernelIdeal.τ).loc Cert.UpDx1KernelIdeal.main_arg0) = m ((c.tc : Thread Cert.UpDx1KernelIdeal.nD Cert.UpDx1KernelIdeal.τ).loc Cert.UpDx1KernelIdeal.main_arg0)
          ∧ r.2.mem ((c.tc : Thread Cert.UpDx1KernelIdeal.nD Cert.UpDx1KernelIdeal.τ).loc Cert.UpDx1KernelIdeal.main_arg1) = m ((c.tc : Thread Cert.UpDx1KernelIdeal.nD Cert.UpDx1KernelIdeal.τ).loc Cert.UpDx1KernelIdeal.main_arg1)
          ∧ r.2.mem ((c.tc : Thread Cert.UpDx1KernelIdeal.nD Cert.UpDx1KernelIdeal.τ).loc Cert.UpDx1KernelIdeal.main_arg2) = m ((c.tc : Thread Cert.UpDx1KernelIdeal.nD Cert.UpDx1KernelIdeal.τ).loc Cert.UpDx1KernelIdeal.main_arg2)
          ∧ r.2.mem ((c.tc : Thread Cert.UpDx1KernelIdeal.nD Cert.UpDx1KernelIdeal.τ).loc Cert.UpDx1KernelIdeal.main_arg3) = m ((c.tc : Thread Cert.UpDx1KernelIdeal.nD Cert.UpDx1KernelIdeal.τ).loc Cert.UpDx1KernelIdeal.main_arg3)
          ∧ r.2.mem ((c.tc : Thread Cert.UpDx1KernelIdeal.nD Cert.UpDx1KernelIdeal.τ).loc Cert.UpDx1KernelIdeal.main_arg4) = m ((c.tc : Thread Cert.UpDx1KernelIdeal.nD Cert.UpDx1KernelIdeal.τ).loc Cert.UpDx1KernelIdeal.main_arg4))
      ∧ θ_run (Cert.UpDx1ReferenceIdeal.defs (F := Ideal)) (onTc (τ := Cert.UpDx1ReferenceIdeal.τ) (Cert.UpDx1ReferenceIdeal.main (F := Ideal))) ⟨m', fun _ => 0, g'⟩ (fun r => ∀ c : Dev Cert.UpDx1ReferenceIdeal.nD,
          r.2.mem ((c.tc : Thread Cert.UpDx1ReferenceIdeal.nD Cert.UpDx1ReferenceIdeal.τ).loc Cert.UpDx1ReferenceIdeal.main_v47) = v0 c
          ∧ r.2.mem ((c.tc : Thread Cert.UpDx1ReferenceIdeal.nD Cert.UpDx1ReferenceIdeal.τ).loc Cert.UpDx1ReferenceIdeal.main_v48) = v1 c
          ∧ r.2.mem ((c.tc : Thread Cert.UpDx1ReferenceIdeal.nD Cert.UpDx1ReferenceIdeal.τ).loc Cert.UpDx1ReferenceIdeal.main_v49) = v2 c
          ∧ r.2.mem ((c.tc : Thread Cert.UpDx1ReferenceIdeal.nD Cert.UpDx1ReferenceIdeal.τ).loc Cert.UpDx1ReferenceIdeal.main_arg0) = m' ((c.tc : Thread Cert.UpDx1ReferenceIdeal.nD Cert.UpDx1ReferenceIdeal.τ).loc Cert.UpDx1ReferenceIdeal.main_arg0)
          ∧ r.2.mem ((c.tc : Thread Cert.UpDx1ReferenceIdeal.nD Cert.UpDx1ReferenceIdeal.τ).loc Cert.UpDx1ReferenceIdeal.main_arg1) = m' ((c.tc : Thread Cert.UpDx1ReferenceIdeal.nD Cert.UpDx1ReferenceIdeal.τ).loc Cert.UpDx1ReferenceIdeal.main_arg1)
          ∧ r.2.mem ((c.tc : Thread Cert.UpDx1ReferenceIdeal.nD Cert.UpDx1ReferenceIdeal.τ).loc Cert.UpDx1ReferenceIdeal.main_arg2) = m' ((c.tc : Thread Cert.UpDx1ReferenceIdeal.nD Cert.UpDx1ReferenceIdeal.τ).loc Cert.UpDx1ReferenceIdeal.main_arg2)
          ∧ r.2.mem ((c.tc : Thread Cert.UpDx1ReferenceIdeal.nD Cert.UpDx1ReferenceIdeal.τ).loc Cert.UpDx1ReferenceIdeal.main_arg3) = m' ((c.tc : Thread Cert.UpDx1ReferenceIdeal.nD Cert.UpDx1ReferenceIdeal.τ).loc Cert.UpDx1ReferenceIdeal.main_arg3)
          ∧ r.2.mem ((c.tc : Thread Cert.UpDx1ReferenceIdeal.nD Cert.UpDx1ReferenceIdeal.τ).loc Cert.UpDx1ReferenceIdeal.main_arg4) = m' ((c.tc : Thread Cert.UpDx1ReferenceIdeal.nD Cert.UpDx1ReferenceIdeal.τ).loc Cert.UpDx1ReferenceIdeal.main_arg4))

def preserves_UpDx2Kernel_UpDx2KernelIdeal : Prop :=
  True

def algebraic_UpDx2KernelIdeal_UpDx2ReferenceIdeal [hUpDx2KernelIdeal : Cert.UpDx2KernelIdeal.Facts] [hUpDx2ReferenceIdeal : Cert.UpDx2ReferenceIdeal.Facts] : Prop :=
  ∀ (m : (ℓ : Loc Cert.UpDx2KernelIdeal.nD Cert.UpDx2KernelIdeal.τ Cert.UpDx2KernelIdeal.sig) → Buf (Elt Ideal) ℓ) (g : Dev Cert.UpDx2KernelIdeal.nD → PrngReg)
    (m' : (ℓ : Loc Cert.UpDx2ReferenceIdeal.nD Cert.UpDx2ReferenceIdeal.τ Cert.UpDx2ReferenceIdeal.sig) → Buf (Elt Ideal) ℓ) (g' : Dev Cert.UpDx2ReferenceIdeal.nD → PrngReg), Pre_UpDx2KernelIdeal m →
    (∀ c : Dev Cert.UpDx2KernelIdeal.nD,
      m' ((c.tc : Thread Cert.UpDx2ReferenceIdeal.nD Cert.UpDx2ReferenceIdeal.τ).loc Cert.UpDx2ReferenceIdeal.main_arg0) = m ((c.tc : Thread Cert.UpDx2KernelIdeal.nD Cert.UpDx2KernelIdeal.τ).loc Cert.UpDx2KernelIdeal.main_arg0)
      ∧ m' ((c.tc : Thread Cert.UpDx2ReferenceIdeal.nD Cert.UpDx2ReferenceIdeal.τ).loc Cert.UpDx2ReferenceIdeal.main_arg1) = m ((c.tc : Thread Cert.UpDx2KernelIdeal.nD Cert.UpDx2KernelIdeal.τ).loc Cert.UpDx2KernelIdeal.main_arg1)
      ∧ m' ((c.tc : Thread Cert.UpDx2ReferenceIdeal.nD Cert.UpDx2ReferenceIdeal.τ).loc Cert.UpDx2ReferenceIdeal.main_arg2) = m ((c.tc : Thread Cert.UpDx2KernelIdeal.nD Cert.UpDx2KernelIdeal.τ).loc Cert.UpDx2KernelIdeal.main_arg2)
      ∧ m' ((c.tc : Thread Cert.UpDx2ReferenceIdeal.nD Cert.UpDx2ReferenceIdeal.τ).loc Cert.UpDx2ReferenceIdeal.main_arg3) = m ((c.tc : Thread Cert.UpDx2KernelIdeal.nD Cert.UpDx2KernelIdeal.τ).loc Cert.UpDx2KernelIdeal.main_arg3)
      ∧ m' ((c.tc : Thread Cert.UpDx2ReferenceIdeal.nD Cert.UpDx2ReferenceIdeal.τ).loc Cert.UpDx2ReferenceIdeal.main_arg4) = m ((c.tc : Thread Cert.UpDx2KernelIdeal.nD Cert.UpDx2KernelIdeal.τ).loc Cert.UpDx2KernelIdeal.main_arg4)) →
    ∃ (v0 : (c : Dev Cert.UpDx2KernelIdeal.nD) → Buf (Elt Ideal) ((c.tc : Thread Cert.UpDx2KernelIdeal.nD Cert.UpDx2KernelIdeal.τ).loc Cert.UpDx2KernelIdeal.main_v1_0)) (v1 : (c : Dev Cert.UpDx2KernelIdeal.nD) → Buf (Elt Ideal) ((c.tc : Thread Cert.UpDx2KernelIdeal.nD Cert.UpDx2KernelIdeal.τ).loc Cert.UpDx2KernelIdeal.main_v1_1)) (v2 : (c : Dev Cert.UpDx2KernelIdeal.nD) → Buf (Elt Ideal) ((c.tc : Thread Cert.UpDx2KernelIdeal.nD Cert.UpDx2KernelIdeal.τ).loc Cert.UpDx2KernelIdeal.main_v1_2)),
      θ_run (Cert.UpDx2KernelIdeal.defs (F := Ideal)) (onTc (τ := Cert.UpDx2KernelIdeal.τ) (Cert.UpDx2KernelIdeal.main (F := Ideal))) ⟨m, fun _ => 0, g⟩ (fun r => ∀ c : Dev Cert.UpDx2KernelIdeal.nD,
          r.2.mem ((c.tc : Thread Cert.UpDx2KernelIdeal.nD Cert.UpDx2KernelIdeal.τ).loc Cert.UpDx2KernelIdeal.main_v1_0) = v0 c
          ∧ r.2.mem ((c.tc : Thread Cert.UpDx2KernelIdeal.nD Cert.UpDx2KernelIdeal.τ).loc Cert.UpDx2KernelIdeal.main_v1_1) = v1 c
          ∧ r.2.mem ((c.tc : Thread Cert.UpDx2KernelIdeal.nD Cert.UpDx2KernelIdeal.τ).loc Cert.UpDx2KernelIdeal.main_v1_2) = v2 c
          ∧ r.2.mem ((c.tc : Thread Cert.UpDx2KernelIdeal.nD Cert.UpDx2KernelIdeal.τ).loc Cert.UpDx2KernelIdeal.main_arg0) = m ((c.tc : Thread Cert.UpDx2KernelIdeal.nD Cert.UpDx2KernelIdeal.τ).loc Cert.UpDx2KernelIdeal.main_arg0)
          ∧ r.2.mem ((c.tc : Thread Cert.UpDx2KernelIdeal.nD Cert.UpDx2KernelIdeal.τ).loc Cert.UpDx2KernelIdeal.main_arg1) = m ((c.tc : Thread Cert.UpDx2KernelIdeal.nD Cert.UpDx2KernelIdeal.τ).loc Cert.UpDx2KernelIdeal.main_arg1)
          ∧ r.2.mem ((c.tc : Thread Cert.UpDx2KernelIdeal.nD Cert.UpDx2KernelIdeal.τ).loc Cert.UpDx2KernelIdeal.main_arg2) = m ((c.tc : Thread Cert.UpDx2KernelIdeal.nD Cert.UpDx2KernelIdeal.τ).loc Cert.UpDx2KernelIdeal.main_arg2)
          ∧ r.2.mem ((c.tc : Thread Cert.UpDx2KernelIdeal.nD Cert.UpDx2KernelIdeal.τ).loc Cert.UpDx2KernelIdeal.main_arg3) = m ((c.tc : Thread Cert.UpDx2KernelIdeal.nD Cert.UpDx2KernelIdeal.τ).loc Cert.UpDx2KernelIdeal.main_arg3)
          ∧ r.2.mem ((c.tc : Thread Cert.UpDx2KernelIdeal.nD Cert.UpDx2KernelIdeal.τ).loc Cert.UpDx2KernelIdeal.main_arg4) = m ((c.tc : Thread Cert.UpDx2KernelIdeal.nD Cert.UpDx2KernelIdeal.τ).loc Cert.UpDx2KernelIdeal.main_arg4))
      ∧ θ_run (Cert.UpDx2ReferenceIdeal.defs (F := Ideal)) (onTc (τ := Cert.UpDx2ReferenceIdeal.τ) (Cert.UpDx2ReferenceIdeal.main (F := Ideal))) ⟨m', fun _ => 0, g'⟩ (fun r => ∀ c : Dev Cert.UpDx2ReferenceIdeal.nD,
          r.2.mem ((c.tc : Thread Cert.UpDx2ReferenceIdeal.nD Cert.UpDx2ReferenceIdeal.τ).loc Cert.UpDx2ReferenceIdeal.main_v47) = v0 c
          ∧ r.2.mem ((c.tc : Thread Cert.UpDx2ReferenceIdeal.nD Cert.UpDx2ReferenceIdeal.τ).loc Cert.UpDx2ReferenceIdeal.main_v48) = v1 c
          ∧ r.2.mem ((c.tc : Thread Cert.UpDx2ReferenceIdeal.nD Cert.UpDx2ReferenceIdeal.τ).loc Cert.UpDx2ReferenceIdeal.main_v49) = v2 c
          ∧ r.2.mem ((c.tc : Thread Cert.UpDx2ReferenceIdeal.nD Cert.UpDx2ReferenceIdeal.τ).loc Cert.UpDx2ReferenceIdeal.main_arg0) = m' ((c.tc : Thread Cert.UpDx2ReferenceIdeal.nD Cert.UpDx2ReferenceIdeal.τ).loc Cert.UpDx2ReferenceIdeal.main_arg0)
          ∧ r.2.mem ((c.tc : Thread Cert.UpDx2ReferenceIdeal.nD Cert.UpDx2ReferenceIdeal.τ).loc Cert.UpDx2ReferenceIdeal.main_arg1) = m' ((c.tc : Thread Cert.UpDx2ReferenceIdeal.nD Cert.UpDx2ReferenceIdeal.τ).loc Cert.UpDx2ReferenceIdeal.main_arg1)
          ∧ r.2.mem ((c.tc : Thread Cert.UpDx2ReferenceIdeal.nD Cert.UpDx2ReferenceIdeal.τ).loc Cert.UpDx2ReferenceIdeal.main_arg2) = m' ((c.tc : Thread Cert.UpDx2ReferenceIdeal.nD Cert.UpDx2ReferenceIdeal.τ).loc Cert.UpDx2ReferenceIdeal.main_arg2)
          ∧ r.2.mem ((c.tc : Thread Cert.UpDx2ReferenceIdeal.nD Cert.UpDx2ReferenceIdeal.τ).loc Cert.UpDx2ReferenceIdeal.main_arg3) = m' ((c.tc : Thread Cert.UpDx2ReferenceIdeal.nD Cert.UpDx2ReferenceIdeal.τ).loc Cert.UpDx2ReferenceIdeal.main_arg3)
          ∧ r.2.mem ((c.tc : Thread Cert.UpDx2ReferenceIdeal.nD Cert.UpDx2ReferenceIdeal.τ).loc Cert.UpDx2ReferenceIdeal.main_arg4) = m' ((c.tc : Thread Cert.UpDx2ReferenceIdeal.nD Cert.UpDx2ReferenceIdeal.τ).loc Cert.UpDx2ReferenceIdeal.main_arg4))

def preserves_OddDx1Kernel_OddDx1KernelIdeal : Prop :=
  True

def algebraic_OddDx1KernelIdeal_OddDx1ReferenceIdeal [hOddDx1KernelIdeal : Cert.OddDx1KernelIdeal.Facts] [hOddDx1ReferenceIdeal : Cert.OddDx1ReferenceIdeal.Facts] : Prop :=
  ∀ (m : (ℓ : Loc Cert.OddDx1KernelIdeal.nD Cert.OddDx1KernelIdeal.τ Cert.OddDx1KernelIdeal.sig) → Buf (Elt Ideal) ℓ) (g : Dev Cert.OddDx1KernelIdeal.nD → PrngReg)
    (m' : (ℓ : Loc Cert.OddDx1ReferenceIdeal.nD Cert.OddDx1ReferenceIdeal.τ Cert.OddDx1ReferenceIdeal.sig) → Buf (Elt Ideal) ℓ) (g' : Dev Cert.OddDx1ReferenceIdeal.nD → PrngReg), Pre_OddDx1KernelIdeal m →
    (∀ c : Dev Cert.OddDx1KernelIdeal.nD,
      m' ((c.tc : Thread Cert.OddDx1ReferenceIdeal.nD Cert.OddDx1ReferenceIdeal.τ).loc Cert.OddDx1ReferenceIdeal.main_arg0) = m ((c.tc : Thread Cert.OddDx1KernelIdeal.nD Cert.OddDx1KernelIdeal.τ).loc Cert.OddDx1KernelIdeal.main_arg0)
      ∧ m' ((c.tc : Thread Cert.OddDx1ReferenceIdeal.nD Cert.OddDx1ReferenceIdeal.τ).loc Cert.OddDx1ReferenceIdeal.main_arg1) = m ((c.tc : Thread Cert.OddDx1KernelIdeal.nD Cert.OddDx1KernelIdeal.τ).loc Cert.OddDx1KernelIdeal.main_arg1)
      ∧ m' ((c.tc : Thread Cert.OddDx1ReferenceIdeal.nD Cert.OddDx1ReferenceIdeal.τ).loc Cert.OddDx1ReferenceIdeal.main_arg2) = m ((c.tc : Thread Cert.OddDx1KernelIdeal.nD Cert.OddDx1KernelIdeal.τ).loc Cert.OddDx1KernelIdeal.main_arg2)
      ∧ m' ((c.tc : Thread Cert.OddDx1ReferenceIdeal.nD Cert.OddDx1ReferenceIdeal.τ).loc Cert.OddDx1ReferenceIdeal.main_arg3) = m ((c.tc : Thread Cert.OddDx1KernelIdeal.nD Cert.OddDx1KernelIdeal.τ).loc Cert.OddDx1KernelIdeal.main_arg3)
      ∧ m' ((c.tc : Thread Cert.OddDx1ReferenceIdeal.nD Cert.OddDx1ReferenceIdeal.τ).loc Cert.OddDx1ReferenceIdeal.main_arg4) = m ((c.tc : Thread Cert.OddDx1KernelIdeal.nD Cert.OddDx1KernelIdeal.τ).loc Cert.OddDx1KernelIdeal.main_arg4)) →
    ∃ (v0 : (c : Dev Cert.OddDx1KernelIdeal.nD) → Buf (Elt Ideal) ((c.tc : Thread Cert.OddDx1KernelIdeal.nD Cert.OddDx1KernelIdeal.τ).loc Cert.OddDx1KernelIdeal.main_v1_0)) (v1 : (c : Dev Cert.OddDx1KernelIdeal.nD) → Buf (Elt Ideal) ((c.tc : Thread Cert.OddDx1KernelIdeal.nD Cert.OddDx1KernelIdeal.τ).loc Cert.OddDx1KernelIdeal.main_v1_1)) (v2 : (c : Dev Cert.OddDx1KernelIdeal.nD) → Buf (Elt Ideal) ((c.tc : Thread Cert.OddDx1KernelIdeal.nD Cert.OddDx1KernelIdeal.τ).loc Cert.OddDx1KernelIdeal.main_v1_2)),
      θ_run (Cert.OddDx1KernelIdeal.defs (F := Ideal)) (onTc (τ := Cert.OddDx1KernelIdeal.τ) (Cert.OddDx1KernelIdeal.main (F := Ideal))) ⟨m, fun _ => 0, g⟩ (fun r => ∀ c : Dev Cert.OddDx1KernelIdeal.nD,
          r.2.mem ((c.tc : Thread Cert.OddDx1KernelIdeal.nD Cert.OddDx1KernelIdeal.τ).loc Cert.OddDx1KernelIdeal.main_v1_0) = v0 c
          ∧ r.2.mem ((c.tc : Thread Cert.OddDx1KernelIdeal.nD Cert.OddDx1KernelIdeal.τ).loc Cert.OddDx1KernelIdeal.main_v1_1) = v1 c
          ∧ r.2.mem ((c.tc : Thread Cert.OddDx1KernelIdeal.nD Cert.OddDx1KernelIdeal.τ).loc Cert.OddDx1KernelIdeal.main_v1_2) = v2 c
          ∧ r.2.mem ((c.tc : Thread Cert.OddDx1KernelIdeal.nD Cert.OddDx1KernelIdeal.τ).loc Cert.OddDx1KernelIdeal.main_arg0) = m ((c.tc : Thread Cert.OddDx1KernelIdeal.nD Cert.OddDx1KernelIdeal.τ).loc Cert.OddDx1KernelIdeal.main_arg0)
          ∧ r.2.mem ((c.tc : Thread Cert.OddDx1KernelIdeal.nD Cert.OddDx1KernelIdeal.τ).loc Cert.OddDx1KernelIdeal.main_arg1) = m ((c.tc : Thread Cert.OddDx1KernelIdeal.nD Cert.OddDx1KernelIdeal.τ).loc Cert.OddDx1KernelIdeal.main_arg1)
          ∧ r.2.mem ((c.tc : Thread Cert.OddDx1KernelIdeal.nD Cert.OddDx1KernelIdeal.τ).loc Cert.OddDx1KernelIdeal.main_arg2) = m ((c.tc : Thread Cert.OddDx1KernelIdeal.nD Cert.OddDx1KernelIdeal.τ).loc Cert.OddDx1KernelIdeal.main_arg2)
          ∧ r.2.mem ((c.tc : Thread Cert.OddDx1KernelIdeal.nD Cert.OddDx1KernelIdeal.τ).loc Cert.OddDx1KernelIdeal.main_arg3) = m ((c.tc : Thread Cert.OddDx1KernelIdeal.nD Cert.OddDx1KernelIdeal.τ).loc Cert.OddDx1KernelIdeal.main_arg3)
          ∧ r.2.mem ((c.tc : Thread Cert.OddDx1KernelIdeal.nD Cert.OddDx1KernelIdeal.τ).loc Cert.OddDx1KernelIdeal.main_arg4) = m ((c.tc : Thread Cert.OddDx1KernelIdeal.nD Cert.OddDx1KernelIdeal.τ).loc Cert.OddDx1KernelIdeal.main_arg4))
      ∧ θ_run (Cert.OddDx1ReferenceIdeal.defs (F := Ideal)) (onTc (τ := Cert.OddDx1ReferenceIdeal.τ) (Cert.OddDx1ReferenceIdeal.main (F := Ideal))) ⟨m', fun _ => 0, g'⟩ (fun r => ∀ c : Dev Cert.OddDx1ReferenceIdeal.nD,
          r.2.mem ((c.tc : Thread Cert.OddDx1ReferenceIdeal.nD Cert.OddDx1ReferenceIdeal.τ).loc Cert.OddDx1ReferenceIdeal.main_v42) = v0 c
          ∧ r.2.mem ((c.tc : Thread Cert.OddDx1ReferenceIdeal.nD Cert.OddDx1ReferenceIdeal.τ).loc Cert.OddDx1ReferenceIdeal.main_v43) = v1 c
          ∧ r.2.mem ((c.tc : Thread Cert.OddDx1ReferenceIdeal.nD Cert.OddDx1ReferenceIdeal.τ).loc Cert.OddDx1ReferenceIdeal.main_v44) = v2 c
          ∧ r.2.mem ((c.tc : Thread Cert.OddDx1ReferenceIdeal.nD Cert.OddDx1ReferenceIdeal.τ).loc Cert.OddDx1ReferenceIdeal.main_arg0) = m' ((c.tc : Thread Cert.OddDx1ReferenceIdeal.nD Cert.OddDx1ReferenceIdeal.τ).loc Cert.OddDx1ReferenceIdeal.main_arg0)
          ∧ r.2.mem ((c.tc : Thread Cert.OddDx1ReferenceIdeal.nD Cert.OddDx1ReferenceIdeal.τ).loc Cert.OddDx1ReferenceIdeal.main_arg1) = m' ((c.tc : Thread Cert.OddDx1ReferenceIdeal.nD Cert.OddDx1ReferenceIdeal.τ).loc Cert.OddDx1ReferenceIdeal.main_arg1)
          ∧ r.2.mem ((c.tc : Thread Cert.OddDx1ReferenceIdeal.nD Cert.OddDx1ReferenceIdeal.τ).loc Cert.OddDx1ReferenceIdeal.main_arg2) = m' ((c.tc : Thread Cert.OddDx1ReferenceIdeal.nD Cert.OddDx1ReferenceIdeal.τ).loc Cert.OddDx1ReferenceIdeal.main_arg2)
          ∧ r.2.mem ((c.tc : Thread Cert.OddDx1ReferenceIdeal.nD Cert.OddDx1ReferenceIdeal.τ).loc Cert.OddDx1ReferenceIdeal.main_arg3) = m' ((c.tc : Thread Cert.OddDx1ReferenceIdeal.nD Cert.OddDx1ReferenceIdeal.τ).loc Cert.OddDx1ReferenceIdeal.main_arg3)
          ∧ r.2.mem ((c.tc : Thread Cert.OddDx1ReferenceIdeal.nD Cert.OddDx1ReferenceIdeal.τ).loc Cert.OddDx1ReferenceIdeal.main_arg4) = m' ((c.tc : Thread Cert.OddDx1ReferenceIdeal.nD Cert.OddDx1ReferenceIdeal.τ).loc Cert.OddDx1ReferenceIdeal.main_arg4))

def preserves_EvenDx0Kernel_EvenDx0KernelIdeal : Prop :=
  True

def algebraic_EvenDx0KernelIdeal_EvenDx0ReferenceIdeal [hEvenDx0KernelIdeal : Cert.EvenDx0KernelIdeal.Facts] [hEvenDx0ReferenceIdeal : Cert.EvenDx0ReferenceIdeal.Facts] : Prop :=
  ∀ (m : (ℓ : Loc Cert.EvenDx0KernelIdeal.nD Cert.EvenDx0KernelIdeal.τ Cert.EvenDx0KernelIdeal.sig) → Buf (Elt Ideal) ℓ) (g : Dev Cert.EvenDx0KernelIdeal.nD → PrngReg)
    (m' : (ℓ : Loc Cert.EvenDx0ReferenceIdeal.nD Cert.EvenDx0ReferenceIdeal.τ Cert.EvenDx0ReferenceIdeal.sig) → Buf (Elt Ideal) ℓ) (g' : Dev Cert.EvenDx0ReferenceIdeal.nD → PrngReg), Pre_EvenDx0KernelIdeal m →
    (∀ c : Dev Cert.EvenDx0KernelIdeal.nD,
      m' ((c.tc : Thread Cert.EvenDx0ReferenceIdeal.nD Cert.EvenDx0ReferenceIdeal.τ).loc Cert.EvenDx0ReferenceIdeal.main_arg0) = m ((c.tc : Thread Cert.EvenDx0KernelIdeal.nD Cert.EvenDx0KernelIdeal.τ).loc Cert.EvenDx0KernelIdeal.main_arg0)
      ∧ m' ((c.tc : Thread Cert.EvenDx0ReferenceIdeal.nD Cert.EvenDx0ReferenceIdeal.τ).loc Cert.EvenDx0ReferenceIdeal.main_arg1) = m ((c.tc : Thread Cert.EvenDx0KernelIdeal.nD Cert.EvenDx0KernelIdeal.τ).loc Cert.EvenDx0KernelIdeal.main_arg1)
      ∧ m' ((c.tc : Thread Cert.EvenDx0ReferenceIdeal.nD Cert.EvenDx0ReferenceIdeal.τ).loc Cert.EvenDx0ReferenceIdeal.main_arg2) = m ((c.tc : Thread Cert.EvenDx0KernelIdeal.nD Cert.EvenDx0KernelIdeal.τ).loc Cert.EvenDx0KernelIdeal.main_arg2)
      ∧ m' ((c.tc : Thread Cert.EvenDx0ReferenceIdeal.nD Cert.EvenDx0ReferenceIdeal.τ).loc Cert.EvenDx0ReferenceIdeal.main_arg3) = m ((c.tc : Thread Cert.EvenDx0KernelIdeal.nD Cert.EvenDx0KernelIdeal.τ).loc Cert.EvenDx0KernelIdeal.main_arg3)
      ∧ m' ((c.tc : Thread Cert.EvenDx0ReferenceIdeal.nD Cert.EvenDx0ReferenceIdeal.τ).loc Cert.EvenDx0ReferenceIdeal.main_arg4) = m ((c.tc : Thread Cert.EvenDx0KernelIdeal.nD Cert.EvenDx0KernelIdeal.τ).loc Cert.EvenDx0KernelIdeal.main_arg4)) →
    ∃ (v0 : (c : Dev Cert.EvenDx0KernelIdeal.nD) → Buf (Elt Ideal) ((c.tc : Thread Cert.EvenDx0KernelIdeal.nD Cert.EvenDx0KernelIdeal.τ).loc Cert.EvenDx0KernelIdeal.main_v1_0)) (v1 : (c : Dev Cert.EvenDx0KernelIdeal.nD) → Buf (Elt Ideal) ((c.tc : Thread Cert.EvenDx0KernelIdeal.nD Cert.EvenDx0KernelIdeal.τ).loc Cert.EvenDx0KernelIdeal.main_v1_1)) (v2 : (c : Dev Cert.EvenDx0KernelIdeal.nD) → Buf (Elt Ideal) ((c.tc : Thread Cert.EvenDx0KernelIdeal.nD Cert.EvenDx0KernelIdeal.τ).loc Cert.EvenDx0KernelIdeal.main_v1_2)),
      θ_run (Cert.EvenDx0KernelIdeal.defs (F := Ideal)) (onTc (τ := Cert.EvenDx0KernelIdeal.τ) (Cert.EvenDx0KernelIdeal.main (F := Ideal))) ⟨m, fun _ => 0, g⟩ (fun r => ∀ c : Dev Cert.EvenDx0KernelIdeal.nD,
          r.2.mem ((c.tc : Thread Cert.EvenDx0KernelIdeal.nD Cert.EvenDx0KernelIdeal.τ).loc Cert.EvenDx0KernelIdeal.main_v1_0) = v0 c
          ∧ r.2.mem ((c.tc : Thread Cert.EvenDx0KernelIdeal.nD Cert.EvenDx0KernelIdeal.τ).loc Cert.EvenDx0KernelIdeal.main_v1_1) = v1 c
          ∧ r.2.mem ((c.tc : Thread Cert.EvenDx0KernelIdeal.nD Cert.EvenDx0KernelIdeal.τ).loc Cert.EvenDx0KernelIdeal.main_v1_2) = v2 c
          ∧ r.2.mem ((c.tc : Thread Cert.EvenDx0KernelIdeal.nD Cert.EvenDx0KernelIdeal.τ).loc Cert.EvenDx0KernelIdeal.main_arg0) = m ((c.tc : Thread Cert.EvenDx0KernelIdeal.nD Cert.EvenDx0KernelIdeal.τ).loc Cert.EvenDx0KernelIdeal.main_arg0)
          ∧ r.2.mem ((c.tc : Thread Cert.EvenDx0KernelIdeal.nD Cert.EvenDx0KernelIdeal.τ).loc Cert.EvenDx0KernelIdeal.main_arg1) = m ((c.tc : Thread Cert.EvenDx0KernelIdeal.nD Cert.EvenDx0KernelIdeal.τ).loc Cert.EvenDx0KernelIdeal.main_arg1)
          ∧ r.2.mem ((c.tc : Thread Cert.EvenDx0KernelIdeal.nD Cert.EvenDx0KernelIdeal.τ).loc Cert.EvenDx0KernelIdeal.main_arg2) = m ((c.tc : Thread Cert.EvenDx0KernelIdeal.nD Cert.EvenDx0KernelIdeal.τ).loc Cert.EvenDx0KernelIdeal.main_arg2)
          ∧ r.2.mem ((c.tc : Thread Cert.EvenDx0KernelIdeal.nD Cert.EvenDx0KernelIdeal.τ).loc Cert.EvenDx0KernelIdeal.main_arg3) = m ((c.tc : Thread Cert.EvenDx0KernelIdeal.nD Cert.EvenDx0KernelIdeal.τ).loc Cert.EvenDx0KernelIdeal.main_arg3)
          ∧ r.2.mem ((c.tc : Thread Cert.EvenDx0KernelIdeal.nD Cert.EvenDx0KernelIdeal.τ).loc Cert.EvenDx0KernelIdeal.main_arg4) = m ((c.tc : Thread Cert.EvenDx0KernelIdeal.nD Cert.EvenDx0KernelIdeal.τ).loc Cert.EvenDx0KernelIdeal.main_arg4))
      ∧ θ_run (Cert.EvenDx0ReferenceIdeal.defs (F := Ideal)) (onTc (τ := Cert.EvenDx0ReferenceIdeal.τ) (Cert.EvenDx0ReferenceIdeal.main (F := Ideal))) ⟨m', fun _ => 0, g'⟩ (fun r => ∀ c : Dev Cert.EvenDx0ReferenceIdeal.nD,
          r.2.mem ((c.tc : Thread Cert.EvenDx0ReferenceIdeal.nD Cert.EvenDx0ReferenceIdeal.τ).loc Cert.EvenDx0ReferenceIdeal.main_v42) = v0 c
          ∧ r.2.mem ((c.tc : Thread Cert.EvenDx0ReferenceIdeal.nD Cert.EvenDx0ReferenceIdeal.τ).loc Cert.EvenDx0ReferenceIdeal.main_v43) = v1 c
          ∧ r.2.mem ((c.tc : Thread Cert.EvenDx0ReferenceIdeal.nD Cert.EvenDx0ReferenceIdeal.τ).loc Cert.EvenDx0ReferenceIdeal.main_v44) = v2 c
          ∧ r.2.mem ((c.tc : Thread Cert.EvenDx0ReferenceIdeal.nD Cert.EvenDx0ReferenceIdeal.τ).loc Cert.EvenDx0ReferenceIdeal.main_arg0) = m' ((c.tc : Thread Cert.EvenDx0ReferenceIdeal.nD Cert.EvenDx0ReferenceIdeal.τ).loc Cert.EvenDx0ReferenceIdeal.main_arg0)
          ∧ r.2.mem ((c.tc : Thread Cert.EvenDx0ReferenceIdeal.nD Cert.EvenDx0ReferenceIdeal.τ).loc Cert.EvenDx0ReferenceIdeal.main_arg1) = m' ((c.tc : Thread Cert.EvenDx0ReferenceIdeal.nD Cert.EvenDx0ReferenceIdeal.τ).loc Cert.EvenDx0ReferenceIdeal.main_arg1)
          ∧ r.2.mem ((c.tc : Thread Cert.EvenDx0ReferenceIdeal.nD Cert.EvenDx0ReferenceIdeal.τ).loc Cert.EvenDx0ReferenceIdeal.main_arg2) = m' ((c.tc : Thread Cert.EvenDx0ReferenceIdeal.nD Cert.EvenDx0ReferenceIdeal.τ).loc Cert.EvenDx0ReferenceIdeal.main_arg2)
          ∧ r.2.mem ((c.tc : Thread Cert.EvenDx0ReferenceIdeal.nD Cert.EvenDx0ReferenceIdeal.τ).loc Cert.EvenDx0ReferenceIdeal.main_arg3) = m' ((c.tc : Thread Cert.EvenDx0ReferenceIdeal.nD Cert.EvenDx0ReferenceIdeal.τ).loc Cert.EvenDx0ReferenceIdeal.main_arg3)
          ∧ r.2.mem ((c.tc : Thread Cert.EvenDx0ReferenceIdeal.nD Cert.EvenDx0ReferenceIdeal.τ).loc Cert.EvenDx0ReferenceIdeal.main_arg4) = m' ((c.tc : Thread Cert.EvenDx0ReferenceIdeal.nD Cert.EvenDx0ReferenceIdeal.τ).loc Cert.EvenDx0ReferenceIdeal.main_arg4))

def preserves_MixOut0Kernel_MixOut0KernelIdeal : Prop :=
  True

def algebraic_MixOut0KernelIdeal_MixOut0ReferenceIdeal [hMixOut0KernelIdeal : Cert.MixOut0KernelIdeal.Facts] [hMixOut0ReferenceIdeal : Cert.MixOut0ReferenceIdeal.Facts] : Prop :=
  ∀ (m : (ℓ : Loc Cert.MixOut0KernelIdeal.nD Cert.MixOut0KernelIdeal.τ Cert.MixOut0KernelIdeal.sig) → Buf (Elt Ideal) ℓ) (g : Dev Cert.MixOut0KernelIdeal.nD → PrngReg)
    (m' : (ℓ : Loc Cert.MixOut0ReferenceIdeal.nD Cert.MixOut0ReferenceIdeal.τ Cert.MixOut0ReferenceIdeal.sig) → Buf (Elt Ideal) ℓ) (g' : Dev Cert.MixOut0ReferenceIdeal.nD → PrngReg), Pre_MixOut0KernelIdeal m →
    (∀ c : Dev Cert.MixOut0KernelIdeal.nD,
      m' ((c.tc : Thread Cert.MixOut0ReferenceIdeal.nD Cert.MixOut0ReferenceIdeal.τ).loc Cert.MixOut0ReferenceIdeal.main_arg0) = m ((c.tc : Thread Cert.MixOut0KernelIdeal.nD Cert.MixOut0KernelIdeal.τ).loc Cert.MixOut0KernelIdeal.main_arg0)
      ∧ m' ((c.tc : Thread Cert.MixOut0ReferenceIdeal.nD Cert.MixOut0ReferenceIdeal.τ).loc Cert.MixOut0ReferenceIdeal.main_arg1) = m ((c.tc : Thread Cert.MixOut0KernelIdeal.nD Cert.MixOut0KernelIdeal.τ).loc Cert.MixOut0KernelIdeal.main_arg1)
      ∧ m' ((c.tc : Thread Cert.MixOut0ReferenceIdeal.nD Cert.MixOut0ReferenceIdeal.τ).loc Cert.MixOut0ReferenceIdeal.main_arg2) = m ((c.tc : Thread Cert.MixOut0KernelIdeal.nD Cert.MixOut0KernelIdeal.τ).loc Cert.MixOut0KernelIdeal.main_arg2)
      ∧ m' ((c.tc : Thread Cert.MixOut0ReferenceIdeal.nD Cert.MixOut0ReferenceIdeal.τ).loc Cert.MixOut0ReferenceIdeal.main_arg3) = m ((c.tc : Thread Cert.MixOut0KernelIdeal.nD Cert.MixOut0KernelIdeal.τ).loc Cert.MixOut0KernelIdeal.main_arg3)) →
    ∃ (v0 : (c : Dev Cert.MixOut0KernelIdeal.nD) → Buf (Elt Ideal) ((c.tc : Thread Cert.MixOut0KernelIdeal.nD Cert.MixOut0KernelIdeal.τ).loc Cert.MixOut0KernelIdeal.main_v1_0)) (v1 : (c : Dev Cert.MixOut0KernelIdeal.nD) → Buf (Elt Ideal) ((c.tc : Thread Cert.MixOut0KernelIdeal.nD Cert.MixOut0KernelIdeal.τ).loc Cert.MixOut0KernelIdeal.main_v1_1)),
      θ_run (Cert.MixOut0KernelIdeal.defs (F := Ideal)) (onTc (τ := Cert.MixOut0KernelIdeal.τ) (Cert.MixOut0KernelIdeal.main (F := Ideal))) ⟨m, fun _ => 0, g⟩ (fun r => ∀ c : Dev Cert.MixOut0KernelIdeal.nD,
          r.2.mem ((c.tc : Thread Cert.MixOut0KernelIdeal.nD Cert.MixOut0KernelIdeal.τ).loc Cert.MixOut0KernelIdeal.main_v1_0) = v0 c
          ∧ r.2.mem ((c.tc : Thread Cert.MixOut0KernelIdeal.nD Cert.MixOut0KernelIdeal.τ).loc Cert.MixOut0KernelIdeal.main_v1_1) = v1 c
          ∧ r.2.mem ((c.tc : Thread Cert.MixOut0KernelIdeal.nD Cert.MixOut0KernelIdeal.τ).loc Cert.MixOut0KernelIdeal.main_arg0) = m ((c.tc : Thread Cert.MixOut0KernelIdeal.nD Cert.MixOut0KernelIdeal.τ).loc Cert.MixOut0KernelIdeal.main_arg0)
          ∧ r.2.mem ((c.tc : Thread Cert.MixOut0KernelIdeal.nD Cert.MixOut0KernelIdeal.τ).loc Cert.MixOut0KernelIdeal.main_arg1) = m ((c.tc : Thread Cert.MixOut0KernelIdeal.nD Cert.MixOut0KernelIdeal.τ).loc Cert.MixOut0KernelIdeal.main_arg1)
          ∧ r.2.mem ((c.tc : Thread Cert.MixOut0KernelIdeal.nD Cert.MixOut0KernelIdeal.τ).loc Cert.MixOut0KernelIdeal.main_arg2) = m ((c.tc : Thread Cert.MixOut0KernelIdeal.nD Cert.MixOut0KernelIdeal.τ).loc Cert.MixOut0KernelIdeal.main_arg2)
          ∧ r.2.mem ((c.tc : Thread Cert.MixOut0KernelIdeal.nD Cert.MixOut0KernelIdeal.τ).loc Cert.MixOut0KernelIdeal.main_arg3) = m ((c.tc : Thread Cert.MixOut0KernelIdeal.nD Cert.MixOut0KernelIdeal.τ).loc Cert.MixOut0KernelIdeal.main_arg3))
      ∧ θ_run (Cert.MixOut0ReferenceIdeal.defs (F := Ideal)) (onTc (τ := Cert.MixOut0ReferenceIdeal.τ) (Cert.MixOut0ReferenceIdeal.main (F := Ideal))) ⟨m', fun _ => 0, g'⟩ (fun r => ∀ c : Dev Cert.MixOut0ReferenceIdeal.nD,
          r.2.mem ((c.tc : Thread Cert.MixOut0ReferenceIdeal.nD Cert.MixOut0ReferenceIdeal.τ).loc Cert.MixOut0ReferenceIdeal.main_v5) = v0 c
          ∧ r.2.mem ((c.tc : Thread Cert.MixOut0ReferenceIdeal.nD Cert.MixOut0ReferenceIdeal.τ).loc Cert.MixOut0ReferenceIdeal.main_v19) = v1 c
          ∧ r.2.mem ((c.tc : Thread Cert.MixOut0ReferenceIdeal.nD Cert.MixOut0ReferenceIdeal.τ).loc Cert.MixOut0ReferenceIdeal.main_arg0) = m' ((c.tc : Thread Cert.MixOut0ReferenceIdeal.nD Cert.MixOut0ReferenceIdeal.τ).loc Cert.MixOut0ReferenceIdeal.main_arg0)
          ∧ r.2.mem ((c.tc : Thread Cert.MixOut0ReferenceIdeal.nD Cert.MixOut0ReferenceIdeal.τ).loc Cert.MixOut0ReferenceIdeal.main_arg1) = m' ((c.tc : Thread Cert.MixOut0ReferenceIdeal.nD Cert.MixOut0ReferenceIdeal.τ).loc Cert.MixOut0ReferenceIdeal.main_arg1)
          ∧ r.2.mem ((c.tc : Thread Cert.MixOut0ReferenceIdeal.nD Cert.MixOut0ReferenceIdeal.τ).loc Cert.MixOut0ReferenceIdeal.main_arg2) = m' ((c.tc : Thread Cert.MixOut0ReferenceIdeal.nD Cert.MixOut0ReferenceIdeal.τ).loc Cert.MixOut0ReferenceIdeal.main_arg2)
          ∧ r.2.mem ((c.tc : Thread Cert.MixOut0ReferenceIdeal.nD Cert.MixOut0ReferenceIdeal.τ).loc Cert.MixOut0ReferenceIdeal.main_arg3) = m' ((c.tc : Thread Cert.MixOut0ReferenceIdeal.nD Cert.MixOut0ReferenceIdeal.τ).loc Cert.MixOut0ReferenceIdeal.main_arg3))

def preserves_MixOut1Kernel_MixOut1KernelIdeal : Prop :=
  True

def algebraic_MixOut1KernelIdeal_MixOut1ReferenceIdeal [hMixOut1KernelIdeal : Cert.MixOut1KernelIdeal.Facts] [hMixOut1ReferenceIdeal : Cert.MixOut1ReferenceIdeal.Facts] : Prop :=
  ∀ (m : (ℓ : Loc Cert.MixOut1KernelIdeal.nD Cert.MixOut1KernelIdeal.τ Cert.MixOut1KernelIdeal.sig) → Buf (Elt Ideal) ℓ) (g : Dev Cert.MixOut1KernelIdeal.nD → PrngReg)
    (m' : (ℓ : Loc Cert.MixOut1ReferenceIdeal.nD Cert.MixOut1ReferenceIdeal.τ Cert.MixOut1ReferenceIdeal.sig) → Buf (Elt Ideal) ℓ) (g' : Dev Cert.MixOut1ReferenceIdeal.nD → PrngReg), Pre_MixOut1KernelIdeal m →
    (∀ c : Dev Cert.MixOut1KernelIdeal.nD,
      m' ((c.tc : Thread Cert.MixOut1ReferenceIdeal.nD Cert.MixOut1ReferenceIdeal.τ).loc Cert.MixOut1ReferenceIdeal.main_arg0) = m ((c.tc : Thread Cert.MixOut1KernelIdeal.nD Cert.MixOut1KernelIdeal.τ).loc Cert.MixOut1KernelIdeal.main_arg0)
      ∧ m' ((c.tc : Thread Cert.MixOut1ReferenceIdeal.nD Cert.MixOut1ReferenceIdeal.τ).loc Cert.MixOut1ReferenceIdeal.main_arg1) = m ((c.tc : Thread Cert.MixOut1KernelIdeal.nD Cert.MixOut1KernelIdeal.τ).loc Cert.MixOut1KernelIdeal.main_arg1)
      ∧ m' ((c.tc : Thread Cert.MixOut1ReferenceIdeal.nD Cert.MixOut1ReferenceIdeal.τ).loc Cert.MixOut1ReferenceIdeal.main_arg2) = m ((c.tc : Thread Cert.MixOut1KernelIdeal.nD Cert.MixOut1KernelIdeal.τ).loc Cert.MixOut1KernelIdeal.main_arg2)
      ∧ m' ((c.tc : Thread Cert.MixOut1ReferenceIdeal.nD Cert.MixOut1ReferenceIdeal.τ).loc Cert.MixOut1ReferenceIdeal.main_arg3) = m ((c.tc : Thread Cert.MixOut1KernelIdeal.nD Cert.MixOut1KernelIdeal.τ).loc Cert.MixOut1KernelIdeal.main_arg3)) →
    ∃ (v0 : (c : Dev Cert.MixOut1KernelIdeal.nD) → Buf (Elt Ideal) ((c.tc : Thread Cert.MixOut1KernelIdeal.nD Cert.MixOut1KernelIdeal.τ).loc Cert.MixOut1KernelIdeal.main_v1_0)) (v1 : (c : Dev Cert.MixOut1KernelIdeal.nD) → Buf (Elt Ideal) ((c.tc : Thread Cert.MixOut1KernelIdeal.nD Cert.MixOut1KernelIdeal.τ).loc Cert.MixOut1KernelIdeal.main_v1_1)),
      θ_run (Cert.MixOut1KernelIdeal.defs (F := Ideal)) (onTc (τ := Cert.MixOut1KernelIdeal.τ) (Cert.MixOut1KernelIdeal.main (F := Ideal))) ⟨m, fun _ => 0, g⟩ (fun r => ∀ c : Dev Cert.MixOut1KernelIdeal.nD,
          r.2.mem ((c.tc : Thread Cert.MixOut1KernelIdeal.nD Cert.MixOut1KernelIdeal.τ).loc Cert.MixOut1KernelIdeal.main_v1_0) = v0 c
          ∧ r.2.mem ((c.tc : Thread Cert.MixOut1KernelIdeal.nD Cert.MixOut1KernelIdeal.τ).loc Cert.MixOut1KernelIdeal.main_v1_1) = v1 c
          ∧ r.2.mem ((c.tc : Thread Cert.MixOut1KernelIdeal.nD Cert.MixOut1KernelIdeal.τ).loc Cert.MixOut1KernelIdeal.main_arg0) = m ((c.tc : Thread Cert.MixOut1KernelIdeal.nD Cert.MixOut1KernelIdeal.τ).loc Cert.MixOut1KernelIdeal.main_arg0)
          ∧ r.2.mem ((c.tc : Thread Cert.MixOut1KernelIdeal.nD Cert.MixOut1KernelIdeal.τ).loc Cert.MixOut1KernelIdeal.main_arg1) = m ((c.tc : Thread Cert.MixOut1KernelIdeal.nD Cert.MixOut1KernelIdeal.τ).loc Cert.MixOut1KernelIdeal.main_arg1)
          ∧ r.2.mem ((c.tc : Thread Cert.MixOut1KernelIdeal.nD Cert.MixOut1KernelIdeal.τ).loc Cert.MixOut1KernelIdeal.main_arg2) = m ((c.tc : Thread Cert.MixOut1KernelIdeal.nD Cert.MixOut1KernelIdeal.τ).loc Cert.MixOut1KernelIdeal.main_arg2)
          ∧ r.2.mem ((c.tc : Thread Cert.MixOut1KernelIdeal.nD Cert.MixOut1KernelIdeal.τ).loc Cert.MixOut1KernelIdeal.main_arg3) = m ((c.tc : Thread Cert.MixOut1KernelIdeal.nD Cert.MixOut1KernelIdeal.τ).loc Cert.MixOut1KernelIdeal.main_arg3))
      ∧ θ_run (Cert.MixOut1ReferenceIdeal.defs (F := Ideal)) (onTc (τ := Cert.MixOut1ReferenceIdeal.τ) (Cert.MixOut1ReferenceIdeal.main (F := Ideal))) ⟨m', fun _ => 0, g'⟩ (fun r => ∀ c : Dev Cert.MixOut1ReferenceIdeal.nD,
          r.2.mem ((c.tc : Thread Cert.MixOut1ReferenceIdeal.nD Cert.MixOut1ReferenceIdeal.τ).loc Cert.MixOut1ReferenceIdeal.main_v5) = v0 c
          ∧ r.2.mem ((c.tc : Thread Cert.MixOut1ReferenceIdeal.nD Cert.MixOut1ReferenceIdeal.τ).loc Cert.MixOut1ReferenceIdeal.main_v19) = v1 c
          ∧ r.2.mem ((c.tc : Thread Cert.MixOut1ReferenceIdeal.nD Cert.MixOut1ReferenceIdeal.τ).loc Cert.MixOut1ReferenceIdeal.main_arg0) = m' ((c.tc : Thread Cert.MixOut1ReferenceIdeal.nD Cert.MixOut1ReferenceIdeal.τ).loc Cert.MixOut1ReferenceIdeal.main_arg0)
          ∧ r.2.mem ((c.tc : Thread Cert.MixOut1ReferenceIdeal.nD Cert.MixOut1ReferenceIdeal.τ).loc Cert.MixOut1ReferenceIdeal.main_arg1) = m' ((c.tc : Thread Cert.MixOut1ReferenceIdeal.nD Cert.MixOut1ReferenceIdeal.τ).loc Cert.MixOut1ReferenceIdeal.main_arg1)
          ∧ r.2.mem ((c.tc : Thread Cert.MixOut1ReferenceIdeal.nD Cert.MixOut1ReferenceIdeal.τ).loc Cert.MixOut1ReferenceIdeal.main_arg2) = m' ((c.tc : Thread Cert.MixOut1ReferenceIdeal.nD Cert.MixOut1ReferenceIdeal.τ).loc Cert.MixOut1ReferenceIdeal.main_arg2)
          ∧ r.2.mem ((c.tc : Thread Cert.MixOut1ReferenceIdeal.nD Cert.MixOut1ReferenceIdeal.τ).loc Cert.MixOut1ReferenceIdeal.main_arg3) = m' ((c.tc : Thread Cert.MixOut1ReferenceIdeal.nD Cert.MixOut1ReferenceIdeal.τ).loc Cert.MixOut1ReferenceIdeal.main_arg3))

def preserves_MixOut2Kernel_MixOut2KernelIdeal : Prop :=
  True

def algebraic_MixOut2KernelIdeal_MixOut2ReferenceIdeal [hMixOut2KernelIdeal : Cert.MixOut2KernelIdeal.Facts] [hMixOut2ReferenceIdeal : Cert.MixOut2ReferenceIdeal.Facts] : Prop :=
  ∀ (m : (ℓ : Loc Cert.MixOut2KernelIdeal.nD Cert.MixOut2KernelIdeal.τ Cert.MixOut2KernelIdeal.sig) → Buf (Elt Ideal) ℓ) (g : Dev Cert.MixOut2KernelIdeal.nD → PrngReg)
    (m' : (ℓ : Loc Cert.MixOut2ReferenceIdeal.nD Cert.MixOut2ReferenceIdeal.τ Cert.MixOut2ReferenceIdeal.sig) → Buf (Elt Ideal) ℓ) (g' : Dev Cert.MixOut2ReferenceIdeal.nD → PrngReg), Pre_MixOut2KernelIdeal m →
    (∀ c : Dev Cert.MixOut2KernelIdeal.nD,
      m' ((c.tc : Thread Cert.MixOut2ReferenceIdeal.nD Cert.MixOut2ReferenceIdeal.τ).loc Cert.MixOut2ReferenceIdeal.main_arg0) = m ((c.tc : Thread Cert.MixOut2KernelIdeal.nD Cert.MixOut2KernelIdeal.τ).loc Cert.MixOut2KernelIdeal.main_arg0)
      ∧ m' ((c.tc : Thread Cert.MixOut2ReferenceIdeal.nD Cert.MixOut2ReferenceIdeal.τ).loc Cert.MixOut2ReferenceIdeal.main_arg1) = m ((c.tc : Thread Cert.MixOut2KernelIdeal.nD Cert.MixOut2KernelIdeal.τ).loc Cert.MixOut2KernelIdeal.main_arg1)
      ∧ m' ((c.tc : Thread Cert.MixOut2ReferenceIdeal.nD Cert.MixOut2ReferenceIdeal.τ).loc Cert.MixOut2ReferenceIdeal.main_arg2) = m ((c.tc : Thread Cert.MixOut2KernelIdeal.nD Cert.MixOut2KernelIdeal.τ).loc Cert.MixOut2KernelIdeal.main_arg2)
      ∧ m' ((c.tc : Thread Cert.MixOut2ReferenceIdeal.nD Cert.MixOut2ReferenceIdeal.τ).loc Cert.MixOut2ReferenceIdeal.main_arg3) = m ((c.tc : Thread Cert.MixOut2KernelIdeal.nD Cert.MixOut2KernelIdeal.τ).loc Cert.MixOut2KernelIdeal.main_arg3)) →
    ∃ (v0 : (c : Dev Cert.MixOut2KernelIdeal.nD) → Buf (Elt Ideal) ((c.tc : Thread Cert.MixOut2KernelIdeal.nD Cert.MixOut2KernelIdeal.τ).loc Cert.MixOut2KernelIdeal.main_v1_0)) (v1 : (c : Dev Cert.MixOut2KernelIdeal.nD) → Buf (Elt Ideal) ((c.tc : Thread Cert.MixOut2KernelIdeal.nD Cert.MixOut2KernelIdeal.τ).loc Cert.MixOut2KernelIdeal.main_v1_1)),
      θ_run (Cert.MixOut2KernelIdeal.defs (F := Ideal)) (onTc (τ := Cert.MixOut2KernelIdeal.τ) (Cert.MixOut2KernelIdeal.main (F := Ideal))) ⟨m, fun _ => 0, g⟩ (fun r => ∀ c : Dev Cert.MixOut2KernelIdeal.nD,
          r.2.mem ((c.tc : Thread Cert.MixOut2KernelIdeal.nD Cert.MixOut2KernelIdeal.τ).loc Cert.MixOut2KernelIdeal.main_v1_0) = v0 c
          ∧ r.2.mem ((c.tc : Thread Cert.MixOut2KernelIdeal.nD Cert.MixOut2KernelIdeal.τ).loc Cert.MixOut2KernelIdeal.main_v1_1) = v1 c
          ∧ r.2.mem ((c.tc : Thread Cert.MixOut2KernelIdeal.nD Cert.MixOut2KernelIdeal.τ).loc Cert.MixOut2KernelIdeal.main_arg0) = m ((c.tc : Thread Cert.MixOut2KernelIdeal.nD Cert.MixOut2KernelIdeal.τ).loc Cert.MixOut2KernelIdeal.main_arg0)
          ∧ r.2.mem ((c.tc : Thread Cert.MixOut2KernelIdeal.nD Cert.MixOut2KernelIdeal.τ).loc Cert.MixOut2KernelIdeal.main_arg1) = m ((c.tc : Thread Cert.MixOut2KernelIdeal.nD Cert.MixOut2KernelIdeal.τ).loc Cert.MixOut2KernelIdeal.main_arg1)
          ∧ r.2.mem ((c.tc : Thread Cert.MixOut2KernelIdeal.nD Cert.MixOut2KernelIdeal.τ).loc Cert.MixOut2KernelIdeal.main_arg2) = m ((c.tc : Thread Cert.MixOut2KernelIdeal.nD Cert.MixOut2KernelIdeal.τ).loc Cert.MixOut2KernelIdeal.main_arg2)
          ∧ r.2.mem ((c.tc : Thread Cert.MixOut2KernelIdeal.nD Cert.MixOut2KernelIdeal.τ).loc Cert.MixOut2KernelIdeal.main_arg3) = m ((c.tc : Thread Cert.MixOut2KernelIdeal.nD Cert.MixOut2KernelIdeal.τ).loc Cert.MixOut2KernelIdeal.main_arg3))
      ∧ θ_run (Cert.MixOut2ReferenceIdeal.defs (F := Ideal)) (onTc (τ := Cert.MixOut2ReferenceIdeal.τ) (Cert.MixOut2ReferenceIdeal.main (F := Ideal))) ⟨m', fun _ => 0, g'⟩ (fun r => ∀ c : Dev Cert.MixOut2ReferenceIdeal.nD,
          r.2.mem ((c.tc : Thread Cert.MixOut2ReferenceIdeal.nD Cert.MixOut2ReferenceIdeal.τ).loc Cert.MixOut2ReferenceIdeal.main_v5) = v0 c
          ∧ r.2.mem ((c.tc : Thread Cert.MixOut2ReferenceIdeal.nD Cert.MixOut2ReferenceIdeal.τ).loc Cert.MixOut2ReferenceIdeal.main_v19) = v1 c
          ∧ r.2.mem ((c.tc : Thread Cert.MixOut2ReferenceIdeal.nD Cert.MixOut2ReferenceIdeal.τ).loc Cert.MixOut2ReferenceIdeal.main_arg0) = m' ((c.tc : Thread Cert.MixOut2ReferenceIdeal.nD Cert.MixOut2ReferenceIdeal.τ).loc Cert.MixOut2ReferenceIdeal.main_arg0)
          ∧ r.2.mem ((c.tc : Thread Cert.MixOut2ReferenceIdeal.nD Cert.MixOut2ReferenceIdeal.τ).loc Cert.MixOut2ReferenceIdeal.main_arg1) = m' ((c.tc : Thread Cert.MixOut2ReferenceIdeal.nD Cert.MixOut2ReferenceIdeal.τ).loc Cert.MixOut2ReferenceIdeal.main_arg1)
          ∧ r.2.mem ((c.tc : Thread Cert.MixOut2ReferenceIdeal.nD Cert.MixOut2ReferenceIdeal.τ).loc Cert.MixOut2ReferenceIdeal.main_arg2) = m' ((c.tc : Thread Cert.MixOut2ReferenceIdeal.nD Cert.MixOut2ReferenceIdeal.τ).loc Cert.MixOut2ReferenceIdeal.main_arg2)
          ∧ r.2.mem ((c.tc : Thread Cert.MixOut2ReferenceIdeal.nD Cert.MixOut2ReferenceIdeal.τ).loc Cert.MixOut2ReferenceIdeal.main_arg3) = m' ((c.tc : Thread Cert.MixOut2ReferenceIdeal.nD Cert.MixOut2ReferenceIdeal.τ).loc Cert.MixOut2ReferenceIdeal.main_arg3))

def preserves_Down1Kernel_Down1KernelIdeal : Prop :=
  True

def algebraic_Down1KernelIdeal_Down1ReferenceIdeal [hDown1KernelIdeal : Cert.Down1KernelIdeal.Facts] [hDown1ReferenceIdeal : Cert.Down1ReferenceIdeal.Facts] : Prop :=
  ∀ (m : (ℓ : Loc Cert.Down1KernelIdeal.nD Cert.Down1KernelIdeal.τ Cert.Down1KernelIdeal.sig) → Buf (Elt Ideal) ℓ) (g : Dev Cert.Down1KernelIdeal.nD → PrngReg)
    (m' : (ℓ : Loc Cert.Down1ReferenceIdeal.nD Cert.Down1ReferenceIdeal.τ Cert.Down1ReferenceIdeal.sig) → Buf (Elt Ideal) ℓ) (g' : Dev Cert.Down1ReferenceIdeal.nD → PrngReg), Pre_Down1KernelIdeal m →
    (∀ c : Dev Cert.Down1KernelIdeal.nD,
      m' ((c.tc : Thread Cert.Down1ReferenceIdeal.nD Cert.Down1ReferenceIdeal.τ).loc Cert.Down1ReferenceIdeal.main_arg0) = m ((c.tc : Thread Cert.Down1KernelIdeal.nD Cert.Down1KernelIdeal.τ).loc Cert.Down1KernelIdeal.main_arg0)
      ∧ m' ((c.tc : Thread Cert.Down1ReferenceIdeal.nD Cert.Down1ReferenceIdeal.τ).loc Cert.Down1ReferenceIdeal.main_arg1) = m ((c.tc : Thread Cert.Down1KernelIdeal.nD Cert.Down1KernelIdeal.τ).loc Cert.Down1KernelIdeal.main_arg1)
      ∧ m' ((c.tc : Thread Cert.Down1ReferenceIdeal.nD Cert.Down1ReferenceIdeal.τ).loc Cert.Down1ReferenceIdeal.main_arg2) = m ((c.tc : Thread Cert.Down1KernelIdeal.nD Cert.Down1KernelIdeal.τ).loc Cert.Down1KernelIdeal.main_arg2)
      ∧ m' ((c.tc : Thread Cert.Down1ReferenceIdeal.nD Cert.Down1ReferenceIdeal.τ).loc Cert.Down1ReferenceIdeal.main_arg3) = m ((c.tc : Thread Cert.Down1KernelIdeal.nD Cert.Down1KernelIdeal.τ).loc Cert.Down1KernelIdeal.main_arg3)) →
    ∃ (v0 : (c : Dev Cert.Down1KernelIdeal.nD) → Buf (Elt Ideal) ((c.tc : Thread Cert.Down1KernelIdeal.nD Cert.Down1KernelIdeal.τ).loc Cert.Down1KernelIdeal.main_v1_0)) (v1 : (c : Dev Cert.Down1KernelIdeal.nD) → Buf (Elt Ideal) ((c.tc : Thread Cert.Down1KernelIdeal.nD Cert.Down1KernelIdeal.τ).loc Cert.Down1KernelIdeal.main_v1_1)),
      θ_run (Cert.Down1KernelIdeal.defs (F := Ideal)) (onTc (τ := Cert.Down1KernelIdeal.τ) (Cert.Down1KernelIdeal.main (F := Ideal))) ⟨m, fun _ => 0, g⟩ (fun r => ∀ c : Dev Cert.Down1KernelIdeal.nD,
          r.2.mem ((c.tc : Thread Cert.Down1KernelIdeal.nD Cert.Down1KernelIdeal.τ).loc Cert.Down1KernelIdeal.main_v1_0) = v0 c
          ∧ r.2.mem ((c.tc : Thread Cert.Down1KernelIdeal.nD Cert.Down1KernelIdeal.τ).loc Cert.Down1KernelIdeal.main_v1_1) = v1 c
          ∧ r.2.mem ((c.tc : Thread Cert.Down1KernelIdeal.nD Cert.Down1KernelIdeal.τ).loc Cert.Down1KernelIdeal.main_arg0) = m ((c.tc : Thread Cert.Down1KernelIdeal.nD Cert.Down1KernelIdeal.τ).loc Cert.Down1KernelIdeal.main_arg0)
          ∧ r.2.mem ((c.tc : Thread Cert.Down1KernelIdeal.nD Cert.Down1KernelIdeal.τ).loc Cert.Down1KernelIdeal.main_arg1) = m ((c.tc : Thread Cert.Down1KernelIdeal.nD Cert.Down1KernelIdeal.τ).loc Cert.Down1KernelIdeal.main_arg1)
          ∧ r.2.mem ((c.tc : Thread Cert.Down1KernelIdeal.nD Cert.Down1KernelIdeal.τ).loc Cert.Down1KernelIdeal.main_arg2) = m ((c.tc : Thread Cert.Down1KernelIdeal.nD Cert.Down1KernelIdeal.τ).loc Cert.Down1KernelIdeal.main_arg2)
          ∧ r.2.mem ((c.tc : Thread Cert.Down1KernelIdeal.nD Cert.Down1KernelIdeal.τ).loc Cert.Down1KernelIdeal.main_arg3) = m ((c.tc : Thread Cert.Down1KernelIdeal.nD Cert.Down1KernelIdeal.τ).loc Cert.Down1KernelIdeal.main_arg3))
      ∧ θ_run (Cert.Down1ReferenceIdeal.defs (F := Ideal)) (onTc (τ := Cert.Down1ReferenceIdeal.τ) (Cert.Down1ReferenceIdeal.main (F := Ideal))) ⟨m', fun _ => 0, g'⟩ (fun r => ∀ c : Dev Cert.Down1ReferenceIdeal.nD,
          r.2.mem ((c.tc : Thread Cert.Down1ReferenceIdeal.nD Cert.Down1ReferenceIdeal.τ).loc Cert.Down1ReferenceIdeal.main_v5) = v0 c
          ∧ r.2.mem ((c.tc : Thread Cert.Down1ReferenceIdeal.nD Cert.Down1ReferenceIdeal.τ).loc Cert.Down1ReferenceIdeal.main_v19) = v1 c
          ∧ r.2.mem ((c.tc : Thread Cert.Down1ReferenceIdeal.nD Cert.Down1ReferenceIdeal.τ).loc Cert.Down1ReferenceIdeal.main_arg0) = m' ((c.tc : Thread Cert.Down1ReferenceIdeal.nD Cert.Down1ReferenceIdeal.τ).loc Cert.Down1ReferenceIdeal.main_arg0)
          ∧ r.2.mem ((c.tc : Thread Cert.Down1ReferenceIdeal.nD Cert.Down1ReferenceIdeal.τ).loc Cert.Down1ReferenceIdeal.main_arg1) = m' ((c.tc : Thread Cert.Down1ReferenceIdeal.nD Cert.Down1ReferenceIdeal.τ).loc Cert.Down1ReferenceIdeal.main_arg1)
          ∧ r.2.mem ((c.tc : Thread Cert.Down1ReferenceIdeal.nD Cert.Down1ReferenceIdeal.τ).loc Cert.Down1ReferenceIdeal.main_arg2) = m' ((c.tc : Thread Cert.Down1ReferenceIdeal.nD Cert.Down1ReferenceIdeal.τ).loc Cert.Down1ReferenceIdeal.main_arg2)
          ∧ r.2.mem ((c.tc : Thread Cert.Down1ReferenceIdeal.nD Cert.Down1ReferenceIdeal.τ).loc Cert.Down1ReferenceIdeal.main_arg3) = m' ((c.tc : Thread Cert.Down1ReferenceIdeal.nD Cert.Down1ReferenceIdeal.τ).loc Cert.Down1ReferenceIdeal.main_arg3))

def preserves_Down3Kernel_Down3KernelIdeal : Prop :=
  True

def algebraic_Down3KernelIdeal_Down3ReferenceIdeal [hDown3KernelIdeal : Cert.Down3KernelIdeal.Facts] [hDown3ReferenceIdeal : Cert.Down3ReferenceIdeal.Facts] : Prop :=
  ∀ (m : (ℓ : Loc Cert.Down3KernelIdeal.nD Cert.Down3KernelIdeal.τ Cert.Down3KernelIdeal.sig) → Buf (Elt Ideal) ℓ) (g : Dev Cert.Down3KernelIdeal.nD → PrngReg)
    (m' : (ℓ : Loc Cert.Down3ReferenceIdeal.nD Cert.Down3ReferenceIdeal.τ Cert.Down3ReferenceIdeal.sig) → Buf (Elt Ideal) ℓ) (g' : Dev Cert.Down3ReferenceIdeal.nD → PrngReg), Pre_Down3KernelIdeal m →
    (∀ c : Dev Cert.Down3KernelIdeal.nD,
      m' ((c.tc : Thread Cert.Down3ReferenceIdeal.nD Cert.Down3ReferenceIdeal.τ).loc Cert.Down3ReferenceIdeal.main_arg0) = m ((c.tc : Thread Cert.Down3KernelIdeal.nD Cert.Down3KernelIdeal.τ).loc Cert.Down3KernelIdeal.main_arg0)
      ∧ m' ((c.tc : Thread Cert.Down3ReferenceIdeal.nD Cert.Down3ReferenceIdeal.τ).loc Cert.Down3ReferenceIdeal.main_arg1) = m ((c.tc : Thread Cert.Down3KernelIdeal.nD Cert.Down3KernelIdeal.τ).loc Cert.Down3KernelIdeal.main_arg1)
      ∧ m' ((c.tc : Thread Cert.Down3ReferenceIdeal.nD Cert.Down3ReferenceIdeal.τ).loc Cert.Down3ReferenceIdeal.main_arg2) = m ((c.tc : Thread Cert.Down3KernelIdeal.nD Cert.Down3KernelIdeal.τ).loc Cert.Down3KernelIdeal.main_arg2)
      ∧ m' ((c.tc : Thread Cert.Down3ReferenceIdeal.nD Cert.Down3ReferenceIdeal.τ).loc Cert.Down3ReferenceIdeal.main_arg3) = m ((c.tc : Thread Cert.Down3KernelIdeal.nD Cert.Down3KernelIdeal.τ).loc Cert.Down3KernelIdeal.main_arg3)) →
    ∃ (v0 : (c : Dev Cert.Down3KernelIdeal.nD) → Buf (Elt Ideal) ((c.tc : Thread Cert.Down3KernelIdeal.nD Cert.Down3KernelIdeal.τ).loc Cert.Down3KernelIdeal.main_v1_0)) (v1 : (c : Dev Cert.Down3KernelIdeal.nD) → Buf (Elt Ideal) ((c.tc : Thread Cert.Down3KernelIdeal.nD Cert.Down3KernelIdeal.τ).loc Cert.Down3KernelIdeal.main_v1_1)),
      θ_run (Cert.Down3KernelIdeal.defs (F := Ideal)) (onTc (τ := Cert.Down3KernelIdeal.τ) (Cert.Down3KernelIdeal.main (F := Ideal))) ⟨m, fun _ => 0, g⟩ (fun r => ∀ c : Dev Cert.Down3KernelIdeal.nD,
          r.2.mem ((c.tc : Thread Cert.Down3KernelIdeal.nD Cert.Down3KernelIdeal.τ).loc Cert.Down3KernelIdeal.main_v1_0) = v0 c
          ∧ r.2.mem ((c.tc : Thread Cert.Down3KernelIdeal.nD Cert.Down3KernelIdeal.τ).loc Cert.Down3KernelIdeal.main_v1_1) = v1 c
          ∧ r.2.mem ((c.tc : Thread Cert.Down3KernelIdeal.nD Cert.Down3KernelIdeal.τ).loc Cert.Down3KernelIdeal.main_arg0) = m ((c.tc : Thread Cert.Down3KernelIdeal.nD Cert.Down3KernelIdeal.τ).loc Cert.Down3KernelIdeal.main_arg0)
          ∧ r.2.mem ((c.tc : Thread Cert.Down3KernelIdeal.nD Cert.Down3KernelIdeal.τ).loc Cert.Down3KernelIdeal.main_arg1) = m ((c.tc : Thread Cert.Down3KernelIdeal.nD Cert.Down3KernelIdeal.τ).loc Cert.Down3KernelIdeal.main_arg1)
          ∧ r.2.mem ((c.tc : Thread Cert.Down3KernelIdeal.nD Cert.Down3KernelIdeal.τ).loc Cert.Down3KernelIdeal.main_arg2) = m ((c.tc : Thread Cert.Down3KernelIdeal.nD Cert.Down3KernelIdeal.τ).loc Cert.Down3KernelIdeal.main_arg2)
          ∧ r.2.mem ((c.tc : Thread Cert.Down3KernelIdeal.nD Cert.Down3KernelIdeal.τ).loc Cert.Down3KernelIdeal.main_arg3) = m ((c.tc : Thread Cert.Down3KernelIdeal.nD Cert.Down3KernelIdeal.τ).loc Cert.Down3KernelIdeal.main_arg3))
      ∧ θ_run (Cert.Down3ReferenceIdeal.defs (F := Ideal)) (onTc (τ := Cert.Down3ReferenceIdeal.τ) (Cert.Down3ReferenceIdeal.main (F := Ideal))) ⟨m', fun _ => 0, g'⟩ (fun r => ∀ c : Dev Cert.Down3ReferenceIdeal.nD,
          r.2.mem ((c.tc : Thread Cert.Down3ReferenceIdeal.nD Cert.Down3ReferenceIdeal.τ).loc Cert.Down3ReferenceIdeal.main_v5) = v0 c
          ∧ r.2.mem ((c.tc : Thread Cert.Down3ReferenceIdeal.nD Cert.Down3ReferenceIdeal.τ).loc Cert.Down3ReferenceIdeal.main_v19) = v1 c
          ∧ r.2.mem ((c.tc : Thread Cert.Down3ReferenceIdeal.nD Cert.Down3ReferenceIdeal.τ).loc Cert.Down3ReferenceIdeal.main_arg0) = m' ((c.tc : Thread Cert.Down3ReferenceIdeal.nD Cert.Down3ReferenceIdeal.τ).loc Cert.Down3ReferenceIdeal.main_arg0)
          ∧ r.2.mem ((c.tc : Thread Cert.Down3ReferenceIdeal.nD Cert.Down3ReferenceIdeal.τ).loc Cert.Down3ReferenceIdeal.main_arg1) = m' ((c.tc : Thread Cert.Down3ReferenceIdeal.nD Cert.Down3ReferenceIdeal.τ).loc Cert.Down3ReferenceIdeal.main_arg1)
          ∧ r.2.mem ((c.tc : Thread Cert.Down3ReferenceIdeal.nD Cert.Down3ReferenceIdeal.τ).loc Cert.Down3ReferenceIdeal.main_arg2) = m' ((c.tc : Thread Cert.Down3ReferenceIdeal.nD Cert.Down3ReferenceIdeal.τ).loc Cert.Down3ReferenceIdeal.main_arg2)
          ∧ r.2.mem ((c.tc : Thread Cert.Down3ReferenceIdeal.nD Cert.Down3ReferenceIdeal.τ).loc Cert.Down3ReferenceIdeal.main_arg3) = m' ((c.tc : Thread Cert.Down3ReferenceIdeal.nD Cert.Down3ReferenceIdeal.τ).loc Cert.Down3ReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v53) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_RmsFwdKernel_RmsFwdKernelIdeal : Prop :=
  True

def algebraic_RmsFwdKernelIdeal_RmsFwdReferenceIdeal [hRmsFwdKernelIdeal : Cert.RmsFwdKernelIdeal.Facts] [hRmsFwdReferenceIdeal : Cert.RmsFwdReferenceIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdKernelIdeal m →
    (∀ c : Dev Cert.RmsFwdKernelIdeal.nD,
      m' ((c.tc : Thread Cert.RmsFwdReferenceIdeal.nD Cert.RmsFwdReferenceIdeal.τ).loc Cert.RmsFwdReferenceIdeal.main_arg0) = m ((c.tc : Thread Cert.RmsFwdKernelIdeal.nD Cert.RmsFwdKernelIdeal.τ).loc Cert.RmsFwdKernelIdeal.main_arg0)
      ∧ m' ((c.tc : Thread Cert.RmsFwdReferenceIdeal.nD Cert.RmsFwdReferenceIdeal.τ).loc Cert.RmsFwdReferenceIdeal.main_arg1) = m ((c.tc : Thread Cert.RmsFwdKernelIdeal.nD Cert.RmsFwdKernelIdeal.τ).loc Cert.RmsFwdKernelIdeal.main_arg1)) →
    ∃ (v0 : (c : Dev Cert.RmsFwdKernelIdeal.nD) → Buf (Elt Ideal) ((c.tc : Thread Cert.RmsFwdKernelIdeal.nD Cert.RmsFwdKernelIdeal.τ).loc Cert.RmsFwdKernelIdeal.main_v1)),
      θ_run (Cert.RmsFwdKernelIdeal.defs (F := Ideal)) (onTc (τ := Cert.RmsFwdKernelIdeal.τ) (Cert.RmsFwdKernelIdeal.main (F := Ideal))) ⟨m, fun _ => 0, g⟩ (fun r => ∀ c : Dev Cert.RmsFwdKernelIdeal.nD,
          r.2.mem ((c.tc : Thread Cert.RmsFwdKernelIdeal.nD Cert.RmsFwdKernelIdeal.τ).loc Cert.RmsFwdKernelIdeal.main_v1) = v0 c
          ∧ r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
          ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v13) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_GluFwdKernel_GluFwdKernelIdeal : Prop :=
  IdealRules.named_const.Statement Cert.GluFwdKernelIdeal.κ "gelu_c" .f32 0x3D372713#32 ((8943 / 200000 : ℝ) : EReal)

def algebraic_GluFwdKernelIdeal_GluFwdReferenceIdeal [hGluFwdKernelIdeal : Cert.GluFwdKernelIdeal.Facts] [hGluFwdReferenceIdeal : Cert.GluFwdReferenceIdeal.Facts] : Prop :=
  ∀ (m : (ℓ : Loc Cert.GluFwdKernelIdeal.nD Cert.GluFwdKernelIdeal.τ Cert.GluFwdKernelIdeal.sig) → Buf (Elt Ideal) ℓ) (g : Dev Cert.GluFwdKernelIdeal.nD → PrngReg)
    (m' : (ℓ : Loc Cert.GluFwdReferenceIdeal.nD Cert.GluFwdReferenceIdeal.τ Cert.GluFwdReferenceIdeal.sig) → Buf (Elt Ideal) ℓ) (g' : Dev Cert.GluFwdReferenceIdeal.nD → PrngReg), Pre_GluFwdKernelIdeal m →
    (∀ c : Dev Cert.GluFwdKernelIdeal.nD,
      m' ((c.tc : Thread Cert.GluFwdReferenceIdeal.nD Cert.GluFwdReferenceIdeal.τ).loc Cert.GluFwdReferenceIdeal.main_arg0) = m ((c.tc : Thread Cert.GluFwdKernelIdeal.nD Cert.GluFwdKernelIdeal.τ).loc Cert.GluFwdKernelIdeal.main_arg0)
      ∧ m' ((c.tc : Thread Cert.GluFwdReferenceIdeal.nD Cert.GluFwdReferenceIdeal.τ).loc Cert.GluFwdReferenceIdeal.main_arg1) = m ((c.tc : Thread Cert.GluFwdKernelIdeal.nD Cert.GluFwdKernelIdeal.τ).loc Cert.GluFwdKernelIdeal.main_arg1)
      ∧ m' ((c.tc : Thread Cert.GluFwdReferenceIdeal.nD Cert.GluFwdReferenceIdeal.τ).loc Cert.GluFwdReferenceIdeal.main_arg2) = m ((c.tc : Thread Cert.GluFwdKernelIdeal.nD Cert.GluFwdKernelIdeal.τ).loc Cert.GluFwdKernelIdeal.main_arg2)
      ∧ m' ((c.tc : Thread Cert.GluFwdReferenceIdeal.nD Cert.GluFwdReferenceIdeal.τ).loc Cert.GluFwdReferenceIdeal.main_arg3) = m ((c.tc : Thread Cert.GluFwdKernelIdeal.nD Cert.GluFwdKernelIdeal.τ).loc Cert.GluFwdKernelIdeal.main_arg3)) →
    ∃ (v0 : (c : Dev Cert.GluFwdKernelIdeal.nD) → Buf (Elt Ideal) ((c.tc : Thread Cert.GluFwdKernelIdeal.nD Cert.GluFwdKernelIdeal.τ).loc Cert.GluFwdKernelIdeal.main_v2)),
      θ_run (Cert.GluFwdKernelIdeal.defs (F := Ideal)) (onTc (τ := Cert.GluFwdKernelIdeal.τ) (Cert.GluFwdKernelIdeal.main (F := Ideal))) ⟨m, fun _ => 0, g⟩ (fun r => ∀ c : Dev Cert.GluFwdKernelIdeal.nD,
          r.2.mem ((c.tc : Thread Cert.GluFwdKernelIdeal.nD Cert.GluFwdKernelIdeal.τ).loc Cert.GluFwdKernelIdeal.main_v2) = v0 c
          ∧ r.2.mem ((c.tc : Thread Cert.GluFwdKernelIdeal.nD Cert.GluFwdKernelIdeal.τ).loc Cert.GluFwdKernelIdeal.main_arg0) = m ((c.tc : Thread Cert.GluFwdKernelIdeal.nD Cert.GluFwdKernelIdeal.τ).loc Cert.GluFwdKernelIdeal.main_arg0)
          ∧ r.2.mem ((c.tc : Thread Cert.GluFwdKernelIdeal.nD Cert.GluFwdKernelIdeal.τ).loc Cert.GluFwdKernelIdeal.main_arg1) = m ((c.tc : Thread Cert.GluFwdKernelIdeal.nD Cert.GluFwdKernelIdeal.τ).loc Cert.GluFwdKernelIdeal.main_arg1)
          ∧ r.2.mem ((c.tc : Thread Cert.GluFwdKernelIdeal.nD Cert.GluFwdKernelIdeal.τ).loc Cert.GluFwdKernelIdeal.main_arg2) = m ((c.tc : Thread Cert.GluFwdKernelIdeal.nD Cert.GluFwdKernelIdeal.τ).loc Cert.GluFwdKernelIdeal.main_arg2)
          ∧ r.2.mem ((c.tc : Thread Cert.GluFwdKernelIdeal.nD Cert.GluFwdKernelIdeal.τ).loc Cert.GluFwdKernelIdeal.main_arg3) = m ((c.tc : Thread Cert.GluFwdKernelIdeal.nD Cert.GluFwdKernelIdeal.τ).loc Cert.GluFwdKernelIdeal.main_arg3))
      ∧ θ_run (Cert.GluFwdReferenceIdeal.defs (F := Ideal)) (onTc (τ := Cert.GluFwdReferenceIdeal.τ) (Cert.GluFwdReferenceIdeal.main (F := Ideal))) ⟨m', fun _ => 0, g'⟩ (fun r => ∀ c : Dev Cert.GluFwdReferenceIdeal.nD,
          r.2.mem ((c.tc : Thread Cert.GluFwdReferenceIdeal.nD Cert.GluFwdReferenceIdeal.τ).loc Cert.GluFwdReferenceIdeal.main_v28) = v0 c
          ∧ r.2.mem ((c.tc : Thread Cert.GluFwdReferenceIdeal.nD Cert.GluFwdReferenceIdeal.τ).loc Cert.GluFwdReferenceIdeal.main_arg0) = m' ((c.tc : Thread Cert.GluFwdReferenceIdeal.nD Cert.GluFwdReferenceIdeal.τ).loc Cert.GluFwdReferenceIdeal.main_arg0)
          ∧ r.2.mem ((c.tc : Thread Cert.GluFwdReferenceIdeal.nD Cert.GluFwdReferenceIdeal.τ).loc Cert.GluFwdReferenceIdeal.main_arg1) = m' ((c.tc : Thread Cert.GluFwdReferenceIdeal.nD Cert.GluFwdReferenceIdeal.τ).loc Cert.GluFwdReferenceIdeal.main_arg1)
          ∧ r.2.mem ((c.tc : Thread Cert.GluFwdReferenceIdeal.nD Cert.GluFwdReferenceIdeal.τ).loc Cert.GluFwdReferenceIdeal.main_arg2) = m' ((c.tc : Thread Cert.GluFwdReferenceIdeal.nD Cert.GluFwdReferenceIdeal.τ).loc Cert.GluFwdReferenceIdeal.main_arg2)
          ∧ r.2.mem ((c.tc : Thread Cert.GluFwdReferenceIdeal.nD Cert.GluFwdReferenceIdeal.τ).loc Cert.GluFwdReferenceIdeal.main_arg3) = m' ((c.tc : Thread Cert.GluFwdReferenceIdeal.nD Cert.GluFwdReferenceIdeal.τ).loc Cert.GluFwdReferenceIdeal.main_arg3))

def preserves_SconvFwdKernel_SconvFwdKernelIdeal : Prop :=
  True

def algebraic_SconvFwdKernelIdeal_SconvFwdReferenceIdeal [hSconvFwdKernelIdeal : Cert.SconvFwdKernelIdeal.Facts] [hSconvFwdReferenceIdeal : Cert.SconvFwdReferenceIdeal.Facts] : Prop :=
  ∀ (m : (ℓ : Loc Cert.SconvFwdKernelIdeal.nD Cert.SconvFwdKernelIdeal.τ Cert.SconvFwdKernelIdeal.sig) → Buf (Elt Ideal) ℓ) (g : Dev Cert.SconvFwdKernelIdeal.nD → PrngReg)
    (m' : (ℓ : Loc Cert.SconvFwdReferenceIdeal.nD Cert.SconvFwdReferenceIdeal.τ Cert.SconvFwdReferenceIdeal.sig) → Buf (Elt Ideal) ℓ) (g' : Dev Cert.SconvFwdReferenceIdeal.nD → PrngReg), Pre_SconvFwdKernelIdeal m →
    (∀ c : Dev Cert.SconvFwdKernelIdeal.nD,
      m' ((c.tc : Thread Cert.SconvFwdReferenceIdeal.nD Cert.SconvFwdReferenceIdeal.τ).loc Cert.SconvFwdReferenceIdeal.main_arg0) = m ((c.tc : Thread Cert.SconvFwdKernelIdeal.nD Cert.SconvFwdKernelIdeal.τ).loc Cert.SconvFwdKernelIdeal.main_arg0)
      ∧ m' ((c.tc : Thread Cert.SconvFwdReferenceIdeal.nD Cert.SconvFwdReferenceIdeal.τ).loc Cert.SconvFwdReferenceIdeal.main_arg1) = m ((c.tc : Thread Cert.SconvFwdKernelIdeal.nD Cert.SconvFwdKernelIdeal.τ).loc Cert.SconvFwdKernelIdeal.main_arg1)) →
    ∃ (v0 : (c : Dev Cert.SconvFwdKernelIdeal.nD) → Buf (Elt Ideal) ((c.tc : Thread Cert.SconvFwdKernelIdeal.nD Cert.SconvFwdKernelIdeal.τ).loc Cert.SconvFwdKernelIdeal.main_v1)),
      θ_run (Cert.SconvFwdKernelIdeal.defs (F := Ideal)) (onTc (τ := Cert.SconvFwdKernelIdeal.τ) (Cert.SconvFwdKernelIdeal.main (F := Ideal))) ⟨m, fun _ => 0, g⟩ (fun r => ∀ c : Dev Cert.SconvFwdKernelIdeal.nD,
          r.2.mem ((c.tc : Thread Cert.SconvFwdKernelIdeal.nD Cert.SconvFwdKernelIdeal.τ).loc Cert.SconvFwdKernelIdeal.main_v1) = v0 c
          ∧ r.2.mem ((c.tc : Thread Cert.SconvFwdKernelIdeal.nD Cert.SconvFwdKernelIdeal.τ).loc Cert.SconvFwdKernelIdeal.main_arg0) = m ((c.tc : Thread Cert.SconvFwdKernelIdeal.nD Cert.SconvFwdKernelIdeal.τ).loc Cert.SconvFwdKernelIdeal.main_arg0)
          ∧ r.2.mem ((c.tc : Thread Cert.SconvFwdKernelIdeal.nD Cert.SconvFwdKernelIdeal.τ).loc Cert.SconvFwdKernelIdeal.main_arg1) = m ((c.tc : Thread Cert.SconvFwdKernelIdeal.nD Cert.SconvFwdKernelIdeal.τ).loc Cert.SconvFwdKernelIdeal.main_arg1))
      ∧ θ_run (Cert.SconvFwdReferenceIdeal.defs (F := Ideal)) (onTc (τ := Cert.SconvFwdReferenceIdeal.τ) (Cert.SconvFwdReferenceIdeal.main (F := Ideal))) ⟨m', fun _ => 0, g'⟩ (fun r => ∀ c : Dev Cert.SconvFwdReferenceIdeal.nD,
          r.2.mem ((c.tc : Thread Cert.SconvFwdReferenceIdeal.nD Cert.SconvFwdReferenceIdeal.τ).loc Cert.SconvFwdReferenceIdeal.main_v31) = v0 c
          ∧ r.2.mem ((c.tc : Thread Cert.SconvFwdReferenceIdeal.nD Cert.SconvFwdReferenceIdeal.τ).loc Cert.SconvFwdReferenceIdeal.main_arg0) = m' ((c.tc : Thread Cert.SconvFwdReferenceIdeal.nD Cert.SconvFwdReferenceIdeal.τ).loc Cert.SconvFwdReferenceIdeal.main_arg0)
          ∧ r.2.mem ((c.tc : Thread Cert.SconvFwdReferenceIdeal.nD Cert.SconvFwdReferenceIdeal.τ).loc Cert.SconvFwdReferenceIdeal.main_arg1) = m' ((c.tc : Thread Cert.SconvFwdReferenceIdeal.nD Cert.SconvFwdReferenceIdeal.τ).loc Cert.SconvFwdReferenceIdeal.main_arg1))

def Claim : Prop :=
  ∃ (hSconvKernel : Cert.SconvKernel.Facts) (hSconvKernelIdeal : Cert.SconvKernelIdeal.Facts) (hSconvReferenceIdeal : Cert.SconvReferenceIdeal.Facts) (hUpDxKernel : Cert.UpDxKernel.Facts) (hUpDxKernelIdeal : Cert.UpDxKernelIdeal.Facts) (hUpDxReferenceIdeal : Cert.UpDxReferenceIdeal.Facts) (hEvenDxKernel : Cert.EvenDxKernel.Facts) (hEvenDxKernelIdeal : Cert.EvenDxKernelIdeal.Facts) (hEvenDxReferenceIdeal : Cert.EvenDxReferenceIdeal.Facts) (hOddDxKernel : Cert.OddDxKernel.Facts) (hOddDxKernelIdeal : Cert.OddDxKernelIdeal.Facts) (hOddDxReferenceIdeal : Cert.OddDxReferenceIdeal.Facts) (hDownDxKernel : Cert.DownDxKernel.Facts) (hDownDxKernelIdeal : Cert.DownDxKernelIdeal.Facts) (hDownDxReferenceIdeal : Cert.DownDxReferenceIdeal.Facts) (hDownDwKernel : Cert.DownDwKernel.Facts) (hDownDwKernelIdeal : Cert.DownDwKernelIdeal.Facts) (hDownDwReferenceIdeal : Cert.DownDwReferenceIdeal.Facts) (hUpDwKernel : Cert.UpDwKernel.Facts) (hUpDwKernelIdeal : Cert.UpDwKernelIdeal.Facts) (hUpDwReferenceIdeal : Cert.UpDwReferenceIdeal.Facts) (hOutDxKernel : Cert.OutDxKernel.Facts) (hOutDxKernelIdeal : Cert.OutDxKernelIdeal.Facts) (hOutDxReferenceIdeal : Cert.OutDxReferenceIdeal.Facts) (hOutDwKernel : Cert.OutDwKernel.Facts) (hOutDwKernelIdeal : Cert.OutDwKernelIdeal.Facts) (hOutDwReferenceIdeal : Cert.OutDwReferenceIdeal.Facts) (hEvenDwKernel : Cert.EvenDwKernel.Facts) (hEvenDwKernelIdeal : Cert.EvenDwKernelIdeal.Facts) (hEvenDwReferenceIdeal : Cert.EvenDwReferenceIdeal.Facts) (hOddDwKernel : Cert.OddDwKernel.Facts) (hOddDwKernelIdeal : Cert.OddDwKernelIdeal.Facts) (hOddDwReferenceIdeal : Cert.OddDwReferenceIdeal.Facts) (hEvenInKernel : Cert.EvenInKernel.Facts) (hEvenInKernelIdeal : Cert.EvenInKernelIdeal.Facts) (hEvenInReferenceIdeal : Cert.EvenInReferenceIdeal.Facts) (hOddInKernel : Cert.OddInKernel.Facts) (hOddInKernelIdeal : Cert.OddInKernelIdeal.Facts) (hOddInReferenceIdeal : Cert.OddInReferenceIdeal.Facts) (hMixOutKernel : Cert.MixOutKernel.Facts) (hMixOutKernelIdeal : Cert.MixOutKernelIdeal.Facts) (hMixOutReferenceIdeal : Cert.MixOutReferenceIdeal.Facts) (hDownKernel : Cert.DownKernel.Facts) (hDownKernelIdeal : Cert.DownKernelIdeal.Facts) (hDownReferenceIdeal : Cert.DownReferenceIdeal.Facts) (hLastDownKernel : Cert.LastDownKernel.Facts) (hLastDownKernelIdeal : Cert.LastDownKernelIdeal.Facts) (hLastDownReferenceIdeal : Cert.LastDownReferenceIdeal.Facts) (hUpKernel : Cert.UpKernel.Facts) (hUpKernelIdeal : Cert.UpKernelIdeal.Facts) (hUpReferenceIdeal : Cert.UpReferenceIdeal.Facts) (hGluKernel : Cert.GluKernel.Facts) (hGluKernelIdeal : Cert.GluKernelIdeal.Facts) (hGluReferenceIdeal : Cert.GluReferenceIdeal.Facts) (hFfnKernel : Cert.FfnKernel.Facts) (hFfnKernelIdeal : Cert.FfnKernelIdeal.Facts) (hFfnReferenceIdeal : Cert.FfnReferenceIdeal.Facts) (hUpDx0Kernel : Cert.UpDx0Kernel.Facts) (hUpDx0KernelIdeal : Cert.UpDx0KernelIdeal.Facts) (hUpDx0ReferenceIdeal : Cert.UpDx0ReferenceIdeal.Facts) (hUpDx1Kernel : Cert.UpDx1Kernel.Facts) (hUpDx1KernelIdeal : Cert.UpDx1KernelIdeal.Facts) (hUpDx1ReferenceIdeal : Cert.UpDx1ReferenceIdeal.Facts) (hUpDx2Kernel : Cert.UpDx2Kernel.Facts) (hUpDx2KernelIdeal : Cert.UpDx2KernelIdeal.Facts) (hUpDx2ReferenceIdeal : Cert.UpDx2ReferenceIdeal.Facts) (hOddDx1Kernel : Cert.OddDx1Kernel.Facts) (hOddDx1KernelIdeal : Cert.OddDx1KernelIdeal.Facts) (hOddDx1ReferenceIdeal : Cert.OddDx1ReferenceIdeal.Facts) (hEvenDx0Kernel : Cert.EvenDx0Kernel.Facts) (hEvenDx0KernelIdeal : Cert.EvenDx0KernelIdeal.Facts) (hEvenDx0ReferenceIdeal : Cert.EvenDx0ReferenceIdeal.Facts) (hMixOut0Kernel : Cert.MixOut0Kernel.Facts) (hMixOut0KernelIdeal : Cert.MixOut0KernelIdeal.Facts) (hMixOut0ReferenceIdeal : Cert.MixOut0ReferenceIdeal.Facts) (hMixOut1Kernel : Cert.MixOut1Kernel.Facts) (hMixOut1KernelIdeal : Cert.MixOut1KernelIdeal.Facts) (hMixOut1ReferenceIdeal : Cert.MixOut1ReferenceIdeal.Facts) (hMixOut2Kernel : Cert.MixOut2Kernel.Facts) (hMixOut2KernelIdeal : Cert.MixOut2KernelIdeal.Facts) (hMixOut2ReferenceIdeal : Cert.MixOut2ReferenceIdeal.Facts) (hDown1Kernel : Cert.Down1Kernel.Facts) (hDown1KernelIdeal : Cert.Down1KernelIdeal.Facts) (hDown1ReferenceIdeal : Cert.Down1ReferenceIdeal.Facts) (hDown3Kernel : Cert.Down3Kernel.Facts) (hDown3KernelIdeal : Cert.Down3KernelIdeal.Facts) (hDown3ReferenceIdeal : Cert.Down3ReferenceIdeal.Facts) (hLossKernel : Cert.LossKernel.Facts) (hLossKernelIdeal : Cert.LossKernelIdeal.Facts) (hLossReferenceIdeal : Cert.LossReferenceIdeal.Facts) (hRmsFwdKernel : Cert.RmsFwdKernel.Facts) (hRmsFwdKernelIdeal : Cert.RmsFwdKernelIdeal.Facts) (hRmsFwdReferenceIdeal : Cert.RmsFwdReferenceIdeal.Facts) (hGluFwdKernel : Cert.GluFwdKernel.Facts) (hGluFwdKernelIdeal : Cert.GluFwdKernelIdeal.Facts) (hGluFwdReferenceIdeal : Cert.GluFwdReferenceIdeal.Facts) (hSconvFwdKernel : Cert.SconvFwdKernel.Facts) (hSconvFwdKernelIdeal : Cert.SconvFwdKernelIdeal.Facts) (hSconvFwdReferenceIdeal : Cert.SconvFwdReferenceIdeal.Facts) (hPre_glu_finite : Cert.Pre_glu_finite.Facts) (hPre_ffn_finite : Cert.Pre_ffn_finite.Facts),
    quiescent_SconvKernel (hSconvKernel := hSconvKernel)
    ∧ quiescent_SconvKernelIdeal (hSconvKernelIdeal := hSconvKernelIdeal)
    ∧ quiescent_SconvReferenceIdeal (hSconvReferenceIdeal := hSconvReferenceIdeal)
    ∧ quiescent_UpDxKernel (hUpDxKernel := hUpDxKernel)
    ∧ quiescent_UpDxKernelIdeal (hUpDxKernelIdeal := hUpDxKernelIdeal)
    ∧ quiescent_UpDxReferenceIdeal (hUpDxReferenceIdeal := hUpDxReferenceIdeal)
    ∧ quiescent_EvenDxKernel (hEvenDxKernel := hEvenDxKernel)
    ∧ quiescent_EvenDxKernelIdeal (hEvenDxKernelIdeal := hEvenDxKernelIdeal)
    ∧ quiescent_EvenDxReferenceIdeal (hEvenDxReferenceIdeal := hEvenDxReferenceIdeal)
    ∧ quiescent_OddDxKernel (hOddDxKernel := hOddDxKernel)
    ∧ quiescent_OddDxKernelIdeal (hOddDxKernelIdeal := hOddDxKernelIdeal)
    ∧ quiescent_OddDxReferenceIdeal (hOddDxReferenceIdeal := hOddDxReferenceIdeal)
    ∧ quiescent_DownDxKernel (hDownDxKernel := hDownDxKernel)
    ∧ quiescent_DownDxKernelIdeal (hDownDxKernelIdeal := hDownDxKernelIdeal)
    ∧ quiescent_DownDxReferenceIdeal (hDownDxReferenceIdeal := hDownDxReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_OutDxKernel (hOutDxKernel := hOutDxKernel)
    ∧ quiescent_OutDxKernelIdeal (hOutDxKernelIdeal := hOutDxKernelIdeal)
    ∧ quiescent_OutDxReferenceIdeal (hOutDxReferenceIdeal := hOutDxReferenceIdeal)
    ∧ quiescent_OutDwKernel (hOutDwKernel := hOutDwKernel)
    ∧ quiescent_OutDwKernelIdeal (hOutDwKernelIdeal := hOutDwKernelIdeal)
    ∧ quiescent_OutDwReferenceIdeal (hOutDwReferenceIdeal := hOutDwReferenceIdeal)
    ∧ quiescent_EvenDwKernel (hEvenDwKernel := hEvenDwKernel)
    ∧ quiescent_EvenDwKernelIdeal (hEvenDwKernelIdeal := hEvenDwKernelIdeal)
    ∧ quiescent_EvenDwReferenceIdeal (hEvenDwReferenceIdeal := hEvenDwReferenceIdeal)
    ∧ quiescent_OddDwKernel (hOddDwKernel := hOddDwKernel)
    ∧ quiescent_OddDwKernelIdeal (hOddDwKernelIdeal := hOddDwKernelIdeal)
    ∧ quiescent_OddDwReferenceIdeal (hOddDwReferenceIdeal := hOddDwReferenceIdeal)
    ∧ quiescent_EvenInKernel (hEvenInKernel := hEvenInKernel)
    ∧ quiescent_EvenInKernelIdeal (hEvenInKernelIdeal := hEvenInKernelIdeal)
    ∧ quiescent_EvenInReferenceIdeal (hEvenInReferenceIdeal := hEvenInReferenceIdeal)
    ∧ quiescent_OddInKernel (hOddInKernel := hOddInKernel)
    ∧ quiescent_OddInKernelIdeal (hOddInKernelIdeal := hOddInKernelIdeal)
    ∧ quiescent_OddInReferenceIdeal (hOddInReferenceIdeal := hOddInReferenceIdeal)
    ∧ quiescent_MixOutKernel (hMixOutKernel := hMixOutKernel)
    ∧ quiescent_MixOutKernelIdeal (hMixOutKernelIdeal := hMixOutKernelIdeal)
    ∧ quiescent_MixOutReferenceIdeal (hMixOutReferenceIdeal := hMixOutReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_LastDownKernel (hLastDownKernel := hLastDownKernel)
    ∧ quiescent_LastDownKernelIdeal (hLastDownKernelIdeal := hLastDownKernelIdeal)
    ∧ quiescent_LastDownReferenceIdeal (hLastDownReferenceIdeal := hLastDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_GluKernel (hGluKernel := hGluKernel)
    ∧ quiescent_GluKernelIdeal (hGluKernelIdeal := hGluKernelIdeal)
    ∧ quiescent_GluKernelIdeal_pre_glu_finite (hGluKernelIdeal := hGluKernelIdeal) (hPre_glu_finite := hPre_glu_finite)
    ∧ quiescent_GluReferenceIdeal (hGluReferenceIdeal := hGluReferenceIdeal)
    ∧ quiescent_GluReferenceIdeal_pre_glu_finite (hGluReferenceIdeal := hGluReferenceIdeal) (hPre_glu_finite := hPre_glu_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_UpDx0Kernel (hUpDx0Kernel := hUpDx0Kernel)
    ∧ quiescent_UpDx0KernelIdeal (hUpDx0KernelIdeal := hUpDx0KernelIdeal)
    ∧ quiescent_UpDx0ReferenceIdeal (hUpDx0ReferenceIdeal := hUpDx0ReferenceIdeal)
    ∧ quiescent_UpDx1Kernel (hUpDx1Kernel := hUpDx1Kernel)
    ∧ quiescent_UpDx1KernelIdeal (hUpDx1KernelIdeal := hUpDx1KernelIdeal)
    ∧ quiescent_UpDx1ReferenceIdeal (hUpDx1ReferenceIdeal := hUpDx1ReferenceIdeal)
    ∧ quiescent_UpDx2Kernel (hUpDx2Kernel := hUpDx2Kernel)
    ∧ quiescent_UpDx2KernelIdeal (hUpDx2KernelIdeal := hUpDx2KernelIdeal)
    ∧ quiescent_UpDx2ReferenceIdeal (hUpDx2ReferenceIdeal := hUpDx2ReferenceIdeal)
    ∧ quiescent_OddDx1Kernel (hOddDx1Kernel := hOddDx1Kernel)
    ∧ quiescent_OddDx1KernelIdeal (hOddDx1KernelIdeal := hOddDx1KernelIdeal)
    ∧ quiescent_OddDx1ReferenceIdeal (hOddDx1ReferenceIdeal := hOddDx1ReferenceIdeal)
    ∧ quiescent_EvenDx0Kernel (hEvenDx0Kernel := hEvenDx0Kernel)
    ∧ quiescent_EvenDx0KernelIdeal (hEvenDx0KernelIdeal := hEvenDx0KernelIdeal)
    ∧ quiescent_EvenDx0ReferenceIdeal (hEvenDx0ReferenceIdeal := hEvenDx0ReferenceIdeal)
    ∧ quiescent_MixOut0Kernel (hMixOut0Kernel := hMixOut0Kernel)
    ∧ quiescent_MixOut0KernelIdeal (hMixOut0KernelIdeal := hMixOut0KernelIdeal)
    ∧ quiescent_MixOut0ReferenceIdeal (hMixOut0ReferenceIdeal := hMixOut0ReferenceIdeal)
    ∧ quiescent_MixOut1Kernel (hMixOut1Kernel := hMixOut1Kernel)
    ∧ quiescent_MixOut1KernelIdeal (hMixOut1KernelIdeal := hMixOut1KernelIdeal)
    ∧ quiescent_MixOut1ReferenceIdeal (hMixOut1ReferenceIdeal := hMixOut1ReferenceIdeal)
    ∧ quiescent_MixOut2Kernel (hMixOut2Kernel := hMixOut2Kernel)
    ∧ quiescent_MixOut2KernelIdeal (hMixOut2KernelIdeal := hMixOut2KernelIdeal)
    ∧ quiescent_MixOut2ReferenceIdeal (hMixOut2ReferenceIdeal := hMixOut2ReferenceIdeal)
    ∧ quiescent_Down1Kernel (hDown1Kernel := hDown1Kernel)
    ∧ quiescent_Down1KernelIdeal (hDown1KernelIdeal := hDown1KernelIdeal)
    ∧ quiescent_Down1ReferenceIdeal (hDown1ReferenceIdeal := hDown1ReferenceIdeal)
    ∧ quiescent_Down3Kernel (hDown3Kernel := hDown3Kernel)
    ∧ quiescent_Down3KernelIdeal (hDown3KernelIdeal := hDown3KernelIdeal)
    ∧ quiescent_Down3ReferenceIdeal (hDown3ReferenceIdeal := hDown3ReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_RmsFwdKernel (hRmsFwdKernel := hRmsFwdKernel)
    ∧ quiescent_RmsFwdKernelIdeal (hRmsFwdKernelIdeal := hRmsFwdKernelIdeal)
    ∧ quiescent_RmsFwdReferenceIdeal (hRmsFwdReferenceIdeal := hRmsFwdReferenceIdeal)
    ∧ quiescent_GluFwdKernel (hGluFwdKernel := hGluFwdKernel)
    ∧ quiescent_GluFwdKernelIdeal (hGluFwdKernelIdeal := hGluFwdKernelIdeal)
    ∧ quiescent_GluFwdReferenceIdeal (hGluFwdReferenceIdeal := hGluFwdReferenceIdeal)
    ∧ quiescent_SconvFwdKernel (hSconvFwdKernel := hSconvFwdKernel)
    ∧ quiescent_SconvFwdKernelIdeal (hSconvFwdKernelIdeal := hSconvFwdKernelIdeal)
    ∧ quiescent_SconvFwdReferenceIdeal (hSconvFwdReferenceIdeal := hSconvFwdReferenceIdeal)
    ∧ preserves_SconvKernel_SconvKernelIdeal
    ∧ algebraic_SconvKernelIdeal_SconvReferenceIdeal (hSconvKernelIdeal := hSconvKernelIdeal) (hSconvReferenceIdeal := hSconvReferenceIdeal)
    ∧ preserves_UpDxKernel_UpDxKernelIdeal
    ∧ algebraic_UpDxKernelIdeal_UpDxReferenceIdeal (hUpDxKernelIdeal := hUpDxKernelIdeal) (hUpDxReferenceIdeal := hUpDxReferenceIdeal)
    ∧ preserves_EvenDxKernel_EvenDxKernelIdeal
    ∧ algebraic_EvenDxKernelIdeal_EvenDxReferenceIdeal (hEvenDxKernelIdeal := hEvenDxKernelIdeal) (hEvenDxReferenceIdeal := hEvenDxReferenceIdeal)
    ∧ preserves_OddDxKernel_OddDxKernelIdeal
    ∧ algebraic_OddDxKernelIdeal_OddDxReferenceIdeal (hOddDxKernelIdeal := hOddDxKernelIdeal) (hOddDxReferenceIdeal := hOddDxReferenceIdeal)
    ∧ preserves_DownDxKernel_DownDxKernelIdeal
    ∧ algebraic_DownDxKernelIdeal_DownDxReferenceIdeal (hDownDxKernelIdeal := hDownDxKernelIdeal) (hDownDxReferenceIdeal := hDownDxReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_OutDxKernel_OutDxKernelIdeal
    ∧ algebraic_OutDxKernelIdeal_OutDxReferenceIdeal (hOutDxKernelIdeal := hOutDxKernelIdeal) (hOutDxReferenceIdeal := hOutDxReferenceIdeal)
    ∧ preserves_OutDwKernel_OutDwKernelIdeal
    ∧ algebraic_OutDwKernelIdeal_OutDwReferenceIdeal (hOutDwKernelIdeal := hOutDwKernelIdeal) (hOutDwReferenceIdeal := hOutDwReferenceIdeal)
    ∧ preserves_EvenDwKernel_EvenDwKernelIdeal
    ∧ algebraic_EvenDwKernelIdeal_EvenDwReferenceIdeal (hEvenDwKernelIdeal := hEvenDwKernelIdeal) (hEvenDwReferenceIdeal := hEvenDwReferenceIdeal)
    ∧ preserves_OddDwKernel_OddDwKernelIdeal
    ∧ algebraic_OddDwKernelIdeal_OddDwReferenceIdeal (hOddDwKernelIdeal := hOddDwKernelIdeal) (hOddDwReferenceIdeal := hOddDwReferenceIdeal)
    ∧ preserves_EvenInKernel_EvenInKernelIdeal
    ∧ algebraic_EvenInKernelIdeal_EvenInReferenceIdeal (hEvenInKernelIdeal := hEvenInKernelIdeal) (hEvenInReferenceIdeal := hEvenInReferenceIdeal)
    ∧ preserves_OddInKernel_OddInKernelIdeal
    ∧ algebraic_OddInKernelIdeal_OddInReferenceIdeal (hOddInKernelIdeal := hOddInKernelIdeal) (hOddInReferenceIdeal := hOddInReferenceIdeal)
    ∧ preserves_MixOutKernel_MixOutKernelIdeal
    ∧ algebraic_MixOutKernelIdeal_MixOutReferenceIdeal (hMixOutKernelIdeal := hMixOutKernelIdeal) (hMixOutReferenceIdeal := hMixOutReferenceIdeal)
    ∧ preserves_DownKernel_DownKernelIdeal
    ∧ algebraic_DownKernelIdeal_DownReferenceIdeal (hDownKernelIdeal := hDownKernelIdeal) (hDownReferenceIdeal := hDownReferenceIdeal)
    ∧ preserves_LastDownKernel_LastDownKernelIdeal
    ∧ algebraic_LastDownKernelIdeal_LastDownReferenceIdeal (hLastDownKernelIdeal := hLastDownKernelIdeal) (hLastDownReferenceIdeal := hLastDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_GluKernel_GluKernelIdeal
    ∧ algebraic_GluKernelIdeal_GluReferenceIdeal_pre_glu_finite (hGluKernelIdeal := hGluKernelIdeal) (hGluReferenceIdeal := hGluReferenceIdeal) (hPre_glu_finite := hPre_glu_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_UpDx0Kernel_UpDx0KernelIdeal
    ∧ algebraic_UpDx0KernelIdeal_UpDx0ReferenceIdeal (hUpDx0KernelIdeal := hUpDx0KernelIdeal) (hUpDx0ReferenceIdeal := hUpDx0ReferenceIdeal)
    ∧ preserves_UpDx1Kernel_UpDx1KernelIdeal
    ∧ algebraic_UpDx1KernelIdeal_UpDx1ReferenceIdeal (hUpDx1KernelIdeal := hUpDx1KernelIdeal) (hUpDx1ReferenceIdeal := hUpDx1ReferenceIdeal)
    ∧ preserves_UpDx2Kernel_UpDx2KernelIdeal
    ∧ algebraic_UpDx2KernelIdeal_UpDx2ReferenceIdeal (hUpDx2KernelIdeal := hUpDx2KernelIdeal) (hUpDx2ReferenceIdeal := hUpDx2ReferenceIdeal)
    ∧ preserves_OddDx1Kernel_OddDx1KernelIdeal
    ∧ algebraic_OddDx1KernelIdeal_OddDx1ReferenceIdeal (hOddDx1KernelIdeal := hOddDx1KernelIdeal) (hOddDx1ReferenceIdeal := hOddDx1ReferenceIdeal)
    ∧ preserves_EvenDx0Kernel_EvenDx0KernelIdeal
    ∧ algebraic_EvenDx0KernelIdeal_EvenDx0ReferenceIdeal (hEvenDx0KernelIdeal := hEvenDx0KernelIdeal) (hEvenDx0ReferenceIdeal := hEvenDx0ReferenceIdeal)
    ∧ preserves_MixOut0Kernel_MixOut0KernelIdeal
    ∧ algebraic_MixOut0KernelIdeal_MixOut0ReferenceIdeal (hMixOut0KernelIdeal := hMixOut0KernelIdeal) (hMixOut0ReferenceIdeal := hMixOut0ReferenceIdeal)
    ∧ preserves_MixOut1Kernel_MixOut1KernelIdeal
    ∧ algebraic_MixOut1KernelIdeal_MixOut1ReferenceIdeal (hMixOut1KernelIdeal := hMixOut1KernelIdeal) (hMixOut1ReferenceIdeal := hMixOut1ReferenceIdeal)
    ∧ preserves_MixOut2Kernel_MixOut2KernelIdeal
    ∧ algebraic_MixOut2KernelIdeal_MixOut2ReferenceIdeal (hMixOut2KernelIdeal := hMixOut2KernelIdeal) (hMixOut2ReferenceIdeal := hMixOut2ReferenceIdeal)
    ∧ preserves_Down1Kernel_Down1KernelIdeal
    ∧ algebraic_Down1KernelIdeal_Down1ReferenceIdeal (hDown1KernelIdeal := hDown1KernelIdeal) (hDown1ReferenceIdeal := hDown1ReferenceIdeal)
    ∧ preserves_Down3Kernel_Down3KernelIdeal
    ∧ algebraic_Down3KernelIdeal_Down3ReferenceIdeal (hDown3KernelIdeal := hDown3KernelIdeal) (hDown3ReferenceIdeal := hDown3ReferenceIdeal)
    ∧ preserves_LossKernel_LossKernelIdeal
    ∧ algebraic_LossKernelIdeal_LossReferenceIdeal (hLossKernelIdeal := hLossKernelIdeal) (hLossReferenceIdeal := hLossReferenceIdeal)
    ∧ preserves_RmsFwdKernel_RmsFwdKernelIdeal
    ∧ algebraic_RmsFwdKernelIdeal_RmsFwdReferenceIdeal (hRmsFwdKernelIdeal := hRmsFwdKernelIdeal) (hRmsFwdReferenceIdeal := hRmsFwdReferenceIdeal)
    ∧ preserves_GluFwdKernel_GluFwdKernelIdeal
    ∧ algebraic_GluFwdKernelIdeal_GluFwdReferenceIdeal (hGluFwdKernelIdeal := hGluFwdKernelIdeal) (hGluFwdReferenceIdeal := hGluFwdReferenceIdeal)
    ∧ preserves_SconvFwdKernel_SconvFwdKernelIdeal
    ∧ algebraic_SconvFwdKernelIdeal_SconvFwdReferenceIdeal (hSconvFwdKernelIdeal := hSconvFwdKernelIdeal) (hSconvFwdReferenceIdeal := hSconvFwdReferenceIdeal)
-- ==== Pre_ffn_finite.lean ====
abbrev S4096x5632 : Shape := ⟨2, ![4096, 5632]⟩
abbrev S4096x2816 : Shape := ⟨2, ![4096, 2816]⟩
abbrev S3x5632 : Shape := ⟨2, ![3, 5632]⟩
abbrev S5632 : Shape := ⟨1, ![5632]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v14 : IVec S_ 1) (main_v15 : FVec F S5632 .f32) (main_v16 : FVec F S5632 .f32) : IVec S_ 1 :=
  let main_v17 : IVec S5632 1 := cmpf .olt main_v15 main_v16
  let main_c_5 : IVec S_ 1 := constantI S_ 1 1#1
  let main_v18 : IVec S_ 1 := (fun x v => Host.reduce IntOp.andi x v reducesTo_S5632_S_d0 h_S_) main_v17 main_c_5
  let main_v19 : IVec S_ 1 := andi main_v14 main_v18
  main_v19

def fn {F : FTy → Type} [FloatOps F] (main_arg0 : FVec F S4096x5632 .f32) (main_arg1 : FVec F S4096x2816 .bf16) (main_arg2 : FVec F S3x5632 .f32) (main_arg3 : FVec F S5632 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_c_1 : IVec S_ 1 := constantI S_ 1 1#1
  let main_v8 : IVec S_ 1 := (fun x v => Host.reduce IntOp.andi x v reducesTo_S4096x2816_S_d0_1 h_S_) main_v7 main_c_1
  let main_v9 : IVec S_ 1 := andi main_v3 main_v8
  let main_v10 : FVec F S3x5632 .f32 := Host.absf main_arg2
  let main_cst_2 : FVec F S_ .f32 := constant S_ .f32 0x7F800000#32
  let main_v11 : FVec F S3x5632 .f32 := broadcastInDim S3x5632 ![] bcast_S_S3x5632 main_cst_2
  let main_v12 : IVec S3x5632 1 := cmpf .olt main_v10 main_v11
  let main_c_3 : IVec S_ 1 := constantI S_ 1 1#1
  let main_v13 : IVec S_ 1 := (fun x v => Host.reduce IntOp.andi x v reducesTo_S3x5632_S_d0_1 h_S_) main_v12 main_c_3
  let main_v14 : IVec S_ 1 := andi main_v9 main_v13
  let main_v15 : FVec F S5632 .f32 := Host.absf main_arg3
  let main_cst_4 : FVec F S_ .f32 := constant S_ .f32 0x7F800000#32
  let main_v16 : FVec F S5632 .f32 := broadcastInDim S5632 ![] bcast_S_S5632 main_cst_4
  fn_part1 (F := F) main_v14 main_v15 main_v16
-- ==== Pre_glu_finite.lean ====
abbrev S4096x1024 : Shape := ⟨2, ![4096, 1024]⟩
abbrev S4096x512 : Shape := ⟨2, ![4096, 512]⟩
abbrev S512x512 : Shape := ⟨2, ![512, 512]⟩
abbrev S512 : Shape := ⟨1, ![512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4096x1024 .f32) (main_arg1 : FVec F S4096x512 .f32) (main_arg2 : FVec F S512x512 .f32) (main_arg3 : FVec F S512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== SconvKernel.lean ====
abbrev S4096x2048 : Shape := ⟨2, ![4096, 2048]⟩
abbrev S4096x1024 : Shape := ⟨2, ![4096, 1024]⟩
abbrev S3x512 : Shape := ⟨2, ![3, 512]⟩
abbrev S4096x512 : Shape := ⟨2, ![4096, 512]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S4088x128 : Shape := ⟨2, ![4088, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S3x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SconvReferenceIdeal.lean ====
abbrev S4096x2048 : Shape := ⟨2, ![4096, 2048]⟩
abbrev S4096x1024 : Shape := ⟨2, ![4096, 1024]⟩
abbrev S3x512 : Shape := ⟨2, ![3, 512]⟩
abbrev S4096x512 : Shape := ⟨2, ![4096, 512]⟩
abbrev S1x4096x512 : Shape := ⟨3, ![1, 4096, 512]⟩
abbrev S_ : Shape := ⟨0, ![]⟩
abbrev S1x2x512 : Shape := ⟨3, ![1, 2, 512]⟩
abbrev S1x4098x512 : Shape := ⟨3, ![1, 4098, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S3x512, .f32⟩
  | .hbm, ⟨3, _⟩ => ⟨S4096x512, .f32⟩
  | .hbm, ⟨4, _⟩ => ⟨S1x4096x512, .f32⟩
  | .hbm, ⟨5, _⟩ => ⟨S4096x512, .f32⟩
  | .hbm, ⟨6, _⟩ => ⟨S1x4096x512, .f32⟩
  | .hbm, ⟨7, _⟩ => ⟨S4096x512, .f32⟩
  | .hbm, ⟨8, _⟩ => ⟨S1x4096x512, .f32⟩
  | .hbm, ⟨9, _⟩ => ⟨S1x4096x512, .f32⟩
  | .hbm, ⟨10, _⟩ => ⟨S_, .f32⟩
  | .hbm, ⟨11, _⟩ => ⟨S1x2x512, .f32⟩
  | .hbm, ⟨12, _⟩ => ⟨S1x4098x512, .f32⟩
  | .hbm, ⟨13, _⟩ => ⟨S_, .f32⟩
  | .hbm, ⟨14, _⟩ => ⟨S1x2x512, .f32⟩
  | .hbm, ⟨15, _⟩ => ⟨S1x4096x512, .f32⟩
  | .hbm, ⟨16, _⟩ => ⟨S1x512, .f32⟩
  | .hbm, ⟨17, _⟩ => ⟨S512, .f32⟩
  | .hbm, ⟨18, _⟩ => ⟨S1x1x512, .f32⟩
  | .hbm, ⟨19, _⟩ => ⟨S1x4096x512, .f32⟩
  | .hbm, ⟨20, _⟩ => ⟨S1x4096x512, .f32⟩
  | .hbm, ⟨21, _⟩ => ⟨S1x4096x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S1x4096x512, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S4096x512, .f32⟩
  | .hbm, ⟨37, _⟩ => ⟨S1x4096x512, .f32⟩
  | .hbm, ⟨38, _⟩ => ⟨S1x4096x512, .f32⟩
  | .hbm, ⟨39, _⟩ => ⟨S1x4096x512, .f32⟩
  | .hbm, ⟨40, _⟩ => ⟨S1x4096x512, .f32⟩
  | .hbm, ⟨41, _⟩ => ⟨S_, .f32⟩
  | .hbm, ⟨42, _⟩ => ⟨S1x512, .f32⟩
  | .hbm, ⟨43, _⟩ => ⟨S1x1x512, .f32⟩
  | .hbm, ⟨44, _⟩ => ⟨S1x4096x512, .f32⟩
  | .hbm, ⟨45, _⟩ => ⟨S1x4096x512, .f32⟩
  | .hbm, ⟨46, _⟩ => ⟨S_, .f32⟩
  | .hbm, ⟨47, _⟩ => ⟨S512, .f32⟩
  | .hbm, ⟨48, _⟩ => ⟨S1x512, .f32⟩
  | .hbm, ⟨49, _⟩ => ⟨S_, .f32⟩
  | .hbm, ⟨50, _⟩ => ⟨S3x512, .f32⟩
  | .hbm, ⟨51, _⟩ => ⟨S_, .f32⟩
  | .hbm, ⟨52, _⟩ => ⟨S1x4098x512, .f32⟩
  | .hbm, ⟨53, _⟩ => ⟨S1x4096x512, .f32⟩
  | .hbm, ⟨54, _⟩ => ⟨S_, .f32⟩
  | .hbm, ⟨55, _⟩ => ⟨S1x512, .f32⟩
  | .hbm, ⟨56, _⟩ => ⟨S1x1x512, .f32⟩
  | .hbm, ⟨57, _⟩ => ⟨S1x4096x512, .f32⟩
  | .hbm, ⟨58, _⟩ => ⟨S1x4096x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S3x512, .f32⟩
  | .hbm, ⟨64, _⟩ => ⟨S3x512, .f32⟩
  | .hbm, ⟨65, _⟩ => ⟨S_, .f32⟩
  | .hbm, ⟨66, _⟩ => ⟨S1x4098x512, .f32⟩
  | .hbm, ⟨67, _⟩ => ⟨S1x4098x512, .f32⟩
  | .hbm, ⟨68, _⟩ => ⟨S1x4096x512, .f32⟩
  | .hbm, ⟨69, _⟩ => ⟨S_, .f32⟩
  | .hbm, ⟨70, _⟩ => ⟨S1x512, .f32⟩
  | .hbm, ⟨71, _⟩ => ⟨S1x1x512, .f32⟩
  | .hbm, ⟨72, _⟩ => ⟨S1x4096x512, .f32⟩
  | .hbm, ⟨73, _⟩ => ⟨S1x4096x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S_, .f32⟩
  | .hbm, ⟨78, _⟩ => ⟨S3x512, .f32⟩
  | .hbm, ⟨79, _⟩ => ⟨S3x512, .f32⟩
  | .hbm, ⟨80, _⟩ => ⟨S_, .f32⟩
  | .hbm, ⟨81, _⟩ => ⟨S1x4098x512, .f32⟩
  | .hbm, ⟨82, _⟩ => ⟨S1x4098x512, .f32⟩
  | .hbm, ⟨83, _⟩ => ⟨S1x2x512, .f32⟩
  | .hbm, ⟨84, _⟩ => ⟨S1x4096x512, .f32⟩
  | .hbm, ⟨85, _⟩ => ⟨S1x4096x512, .f32⟩
  | .hbm, ⟨86, _⟩ => ⟨S1x4096x512, .f32⟩
  | .hbm, ⟨87, _⟩ => ⟨S4096x512, .f32⟩
  | .hbm, ⟨88, _⟩ => ⟨S4096x512, .bf16⟩
  | .hbm, ⟨89, _⟩ => ⟨S4096x512, .f32⟩
  | .hbm, ⟨90, _⟩ => ⟨S4096x512, .bf16⟩
  | .hbm, ⟨91, _⟩ => ⟨S4096x512, .f32⟩
  | .hbm, ⟨92, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== UpDxKernel.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x512x2816 : Shape := ⟨3, ![1, 512, 2816]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpDxReferenceIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S1x4096x2816 : Shape := ⟨3, ![1, 4096, 2816]⟩
abbrev S4096x2816 : Shape := ⟨2, ![4096, 2816]⟩
abbrev S4096x5632 : Shape := ⟨2, ![4096, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S1x1024, .f32⟩
  | .hbm, ⟨11, _⟩ => ⟨S1024, .f32⟩
  | .hbm, ⟨12, _⟩ => ⟨S1024x5632, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x5632, .f32⟩
  | .hbm, ⟨34, _⟩ => ⟨S4096x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== EvenDxKernel.lean ====
abbrev S4096x2048 : Shape := ⟨2, ![4096, 2048]⟩
abbrev S1024x2048 : Shape := ⟨2, ![1024, 2048]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== EvenDxReferenceIdeal.lean ====
abbrev S4096x2048 : Shape := ⟨2, ![4096, 2048]⟩
abbrev S1024x2048 : Shape := ⟨2, ![1024, 2048]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1024x2048, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2048, .f32⟩
  | .hbm, ⟨29, _⟩ => ⟨S4096x2048, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== OddDxKernel.lean ====
abbrev S4096x1536 : Shape := ⟨2, ![4096, 1536]⟩
abbrev S1024x1536 : Shape := ⟨2, ![1024, 1536]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x1536 : Shape := ⟨2, ![512, 1536]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== OddDxReferenceIdeal.lean ====
abbrev S4096x1536 : Shape := ⟨2, ![4096, 1536]⟩
abbrev S1024x1536 : Shape := ⟨2, ![1024, 1536]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1024x1536, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1536, .f32⟩
  | .hbm, ⟨29, _⟩ => ⟨S4096x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== DownDxKernel.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDwKernel.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDwKernel.lean ====
abbrev S4096x1024 : Shape := ⟨2, ![4096, 1024]⟩
abbrev S2x4096x2816 : Shape := ⟨3, ![2, 4096, 2816]⟩
abbrev S1024x5632 : Shape := ⟨2, ![1024, 5632]⟩
abbrev S1x4096x1408 : Shape := ⟨3, ![1, 4096, 1408]⟩
abbrev S1024x1408 : Shape := ⟨2, ![1024, 1408]⟩
abbrev S4096x1408 : Shape := ⟨2, ![4096, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1024x5632, .bf16⟩
  | .local _ .vmem, ⟨0, _⟩ => ⟨S4096x1024, .bf16⟩
  | .local _ .vmem, ⟨1, _⟩ => ⟨S1x4096x1408, .bf16⟩
  | .local _ .vmem, ⟨2, _⟩ => ⟨S1x4096x1408, .bf16⟩
  | .local _ .vmem, ⟨3, _⟩ => ⟨S1024x1408, .bf16⟩
  | .local _ .vmem, ⟨4, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwReferenceIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S_, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== OutDxKernel.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDwKernel.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenDwKernel.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenDwReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddDwKernel.lean ====
abbrev S4096x1024 : Shape := ⟨2, ![4096, 1024]⟩
abbrev S4096x1536 : Shape := ⟨2, ![4096, 1536]⟩
abbrev S1024x1536 : Shape := ⟨2, ![1024, 1536]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddDwReferenceIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenInKernel.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddInKernel.lean ====
abbrev S4096x1024 : Shape := ⟨2, ![4096, 1024]⟩
abbrev S1024x1536 : Shape := ⟨2, ![1024, 1536]⟩
abbrev S4096x1536 : Shape := ⟨2, ![4096, 1536]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInReferenceIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutKernel.lean ====
abbrev S4096x1024 : Shape := ⟨2, ![4096, 1024]⟩
abbrev S1024x1024 : Shape := ⟨2, ![1024, 1024]⟩
abbrev S4x1024 : Shape := ⟨2, ![4, 1024]⟩
abbrev S4x1x1024 : Shape := ⟨3, ![4, 1, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutReferenceIdeal.lean ====
abbrev S4096x1024 : Shape := ⟨2, ![4096, 1024]⟩
abbrev S1024x1024 : Shape := ⟨2, ![1024, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DownKernel.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S4096x1024, .f32⟩
  | .hbm, ⟨6, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== LastDownKernel.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastDownReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpKernel.lean ====
abbrev S4096x1024 : Shape := ⟨2, ![4096, 1024]⟩
abbrev S1024x5632 : Shape := ⟨2, ![1024, 5632]⟩
abbrev S4096x5632 : Shape := ⟨2, ![4096, 5632]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S4096x1024, .bf16⟩
  | .local _ .vmem, ⟨1, _⟩ => ⟨S1024x512, .bf16⟩
  | .local _ .vmem, ⟨2, _⟩ => ⟨S1024x512, .bf16⟩
  | .local _ .vmem, ⟨3, _⟩ => ⟨S4096x512, .f32⟩
  | .local _ .vmem, ⟨4, _⟩ => ⟨S4096x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GluKernel.lean ====
abbrev S4096x1024 : Shape := ⟨2, ![4096, 1024]⟩
abbrev S4096x512 : Shape := ⟨2, ![4096, 512]⟩
abbrev S512x512 : Shape := ⟨2, ![512, 512]⟩
abbrev S512 : Shape := ⟨1, ![512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512x512, .f32⟩
  | .hbm, ⟨3, _⟩ => ⟨S512, .f32⟩
  | .hbm, ⟨4, _⟩ => ⟨S512x512, .bf16⟩
  | .hbm, ⟨5, _⟩ => ⟨S1x512, .f32⟩
  | .hbm, ⟨6, _⟩ => ⟨S4096x512, .f32⟩
  | .hbm, ⟨7, _⟩ => ⟨S512x512, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluKernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== GluReferenceIdeal.lean ====
abbrev S4096x1024 : Shape := ⟨2, ![4096, 1024]⟩
abbrev S4096x512 : Shape := ⟨2, ![4096, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S512x512, .f32⟩
  | .hbm, ⟨3, _⟩ => ⟨S512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S_, .f32⟩
  | .hbm, ⟨60, _⟩ => ⟨S512, .f32⟩
  | .hbm, ⟨61, _⟩ => ⟨S512x512, .f32⟩
  | .hbm, ⟨62, _⟩ => ⟨S512x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S_, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S_, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== FfnKernel.lean ====
abbrev S4096x5632 : Shape := ⟨2, ![4096, 5632]⟩
abbrev S4096x2816 : Shape := ⟨2, ![4096, 2816]⟩
abbrev S3x5632 : Shape := ⟨2, ![3, 5632]⟩
abbrev S5632 : Shape := ⟨1, ![5632]⟩
abbrev S1x5632 : Shape := ⟨2, ![1, 5632]⟩
abbrev S2x4096x2816 : Shape := ⟨3, ![2, 4096, 2816]⟩
abbrev S4096x128 : Shape := ⟨2, ![4096, 128]⟩
abbrev S3x128 : Shape := ⟨2, ![3, 128]⟩
abbrev S1x128 : Shape := ⟨2, ![1, 128]⟩
abbrev S2x4096x128 : Shape := ⟨3, ![2, 4096, 128]⟩
abbrev S8x128 : Shape := ⟨2, ![8, 128]⟩
abbrev S4088x128 : Shape := ⟨2, ![4088, 128]⟩
abbrev S1x4096x128 : Shape := ⟨3, ![1, 4096, 128]⟩
abbrev S2x3x2816 : Shape := ⟨3, ![2, 3, 2816]⟩
abbrev S2x1x2816 : Shape := ⟨3, ![2, 1, 2816]⟩
abbrev S2x3x128 : Shape := ⟨3, ![2, 3, 128]⟩
abbrev S2x1x128 : Shape := ⟨3, ![2, 1, 128]⟩
abbrev S128 : Shape := ⟨1, ![128]⟩
abbrev S1x1x128 : Shape := ⟨3, ![1, 1, 128]⟩
abbrev S1x3x128 : Shape := ⟨3, ![1, 3, 128]⟩
abbrev S1x3x2816 : Shape := ⟨3, ![1, 3, 2816]⟩
abbrev S3x2816 : Shape := ⟨2, ![3, 2816]⟩
abbrev S1x1x2816 : Shape := ⟨3, ![1, 1, 2816]⟩
abbrev S1x2816 : Shape := ⟨2, ![1, 2816]⟩

abbrev nBuf : Space → Nat
  | .hbm => 20
  | .vmem => 34
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S4096x2816, .bf16⟩
  | .hbm, ⟨6, _⟩ => ⟨S2x4096x2816, .f32⟩
  | .hbm, ⟨7, _⟩ => ⟨S2x4096x2816, .bf16⟩
  | .hbm, ⟨8, _⟩ => ⟨S2x3x2816, .f32⟩
  | .hbm, ⟨9, _⟩ => ⟨S2x1x2816, .f32⟩
  | .hbm, ⟨10, _⟩ => ⟨S1x3x2816, .f32⟩
  | .hbm, ⟨11, _⟩ => ⟨S3x2816, .f32⟩
  | .hbm, ⟨12, _⟩ => ⟨S1x3x2816, .f32⟩
  | .hbm, ⟨13, _⟩ => ⟨S3x2816, .f32⟩
  | .hbm, ⟨14, _⟩ => ⟨S3x5632, .f32⟩
  | .hbm, ⟨15, _⟩ => ⟨S1x1x2816, .f32⟩
  | .hbm, ⟨16, _⟩ => ⟨S1x2816, .f32⟩
  | .hbm, ⟨17, _⟩ => ⟨S1x1x2816, .f32⟩
  | .hbm, ⟨18, _⟩ => ⟨S1x2816, .f32⟩
  | .hbm, ⟨19, _⟩ => ⟨S1x5632, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | .local _ .vmem, ⟨14, _⟩ => ⟨S2x4096x128, .f32⟩
  | .local _ .vmem, ⟨15, _⟩ => ⟨S2x4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S2x4096x128, .f32⟩
  | .local _ .vmem, ⟨21, _⟩ => ⟨S2x4096x128, .f32⟩
  | .local _ .vmem, ⟨22, _⟩ => ⟨S4096x128, .bf16⟩
  | .local _ .vmem, ⟨23, _⟩ => ⟨S4096x128, .bf16⟩
  | .local _ .vmem, ⟨24, _⟩ => ⟨S3x128, .f32⟩
  | .local _ .vmem, ⟨25, _⟩ => ⟨S3x128, .f32⟩
  | .local _ .vmem, ⟨26, _⟩ => ⟨S3x128, .f32⟩
  | .local _ .vmem, ⟨27, _⟩ => ⟨S3x128, .f32⟩
  | .local _ .vmem, ⟨28, _⟩ => ⟨S2x4096x128, .bf16⟩
  | .local _ .vmem, ⟨29, _⟩ => ⟨S2x4096x128, .bf16⟩
  | .local _ .vmem, ⟨30, _⟩ => ⟨S2x3x128, .f32⟩
  | .local _ .vmem, ⟨31, _⟩ => ⟨S2x3x128, .f32⟩
  | .local _ .vmem, ⟨32, _⟩ => ⟨S2x1x128, .f32⟩
  | .local _ .vmem, ⟨33, _⟩ => ⟨S2x1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x3x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== FfnReferenceIdeal.lean ====
abbrev S4096x5632 : Shape := ⟨2, ![4096, 5632]⟩
abbrev S4096x2816 : Shape := ⟨2, ![4096, 2816]⟩
abbrev S3x5632 : Shape := ⟨2, ![3, 5632]⟩
abbrev S5632 : Shape := ⟨1, ![5632]⟩
abbrev S1x4096x5632 : Shape := ⟨3, ![1, 4096, 5632]⟩
abbrev S_ : Shape := ⟨0, ![]⟩
abbrev S1x2x5632 : Shape := ⟨3, ![1, 2, 5632]⟩
abbrev S1x4098x5632 : Shape := ⟨3, ![1, 4098, 5632]⟩
abbrev S1x5632 : Shape := ⟨2, ![1, 5632]⟩
abbrev S1x1x5632 : Shape := ⟨3, ![1, 1, 5632]⟩
abbrev S1x4096x2816 : Shape := ⟨3, ![1, 4096, 2816]⟩
abbrev S2x4096x2816 : Shape := ⟨3, ![2, 4096, 2816]⟩

abbrev nBuf : Space → Nat
  | .hbm => 118
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .hbm, ⟨2, _⟩ => ⟨S3x5632, .f32⟩
  | .hbm, ⟨3, _⟩ => ⟨S5632, .f32⟩
  | .hbm, ⟨4, _⟩ => ⟨S1x4096x5632, .f32⟩
  | .hbm, ⟨5, _⟩ => ⟨S_, .f32⟩
  | .hbm, ⟨6, _⟩ => ⟨S1x2x5632, .f32⟩
  | .hbm, ⟨7, _⟩ => ⟨S1x4098x5632, .f32⟩
  | .hbm, ⟨8, _⟩ => ⟨S_, .f32⟩
  | .hbm, ⟨9, _⟩ => ⟨S1x2x5632, .f32⟩
  | .hbm, ⟨10, _⟩ => ⟨S1x4096x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S1x4096x5632, .f32⟩
  | .hbm, ⟨15, _⟩ => ⟨S1x4096x5632, .f32⟩
  | .hbm, ⟨16, _⟩ => ⟨S1x4096x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S1x4096x5632, .f32⟩
  | .hbm, ⟨21, _⟩ => ⟨S1x4096x5632, .f32⟩
  | .hbm, ⟨22, _⟩ => ⟨S1x4096x5632, .f32⟩
  | .hbm, ⟨23, _⟩ => ⟨S1x4096x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S1x4096x5632, .f32⟩
  | .hbm, ⟨28, _⟩ => ⟨S1x4096x5632, .f32⟩
  | .hbm, ⟨29, _⟩ => ⟨S1x4096x5632, .f32⟩
  | .hbm, ⟨30, _⟩ => ⟨S1x1x5632, .f32⟩
  | .hbm, ⟨31, _⟩ => ⟨S1x4096x5632, .f32⟩
  | .hbm, ⟨32, _⟩ => ⟨S1x4096x5632, .f32⟩
  | .hbm, ⟨33, _⟩ => ⟨S1x4096x2816, .f32⟩
  | .hbm, ⟨34, _⟩ => ⟨S1x4096x2816, .f32⟩
  | .hbm, ⟨35, _⟩ => ⟨S1x4096x2816, .f32⟩
  | .hbm, ⟨36, _⟩ => ⟨S1x4096x2816, .f32⟩
  | .hbm, ⟨37, _⟩ => ⟨S_, .f32⟩
  | .hbm, ⟨38, _⟩ => ⟨S1x4096x2816, .f32⟩
  | .hbm, ⟨39, _⟩ => ⟨S1x4096x2816, .f32⟩
  | .hbm, ⟨40, _⟩ => ⟨S_, .f32⟩
  | .hbm, ⟨41, _⟩ => ⟨S1x4096x2816, .f32⟩
  | .hbm, ⟨42, _⟩ => ⟨S1x4096x2816, .f32⟩
  | .hbm, ⟨43, _⟩ => ⟨S_, .f32⟩
  | .hbm, ⟨44, _⟩ => ⟨S1x4096x2816, .f32⟩
  | .hbm, ⟨45, _⟩ => ⟨S1x4096x2816, .f32⟩
  | .hbm, ⟨46, _⟩ => ⟨S1x4096x2816, .f32⟩
  | .hbm, ⟨47, _⟩ => ⟨S1x4096x2816, .f32⟩
  | .hbm, ⟨48, _⟩ => ⟨S1x4096x2816, .f32⟩
  | .hbm, ⟨49, _⟩ => ⟨S1x4096x2816, .bf16⟩
  | .hbm, ⟨50, _⟩ => ⟨S1x4096x2816, .f32⟩
  | .hbm, ⟨51, _⟩ => ⟨S1x4096x2816, .f32⟩
  | .hbm, ⟨52, _⟩ => ⟨S1x4096x2816, .f32⟩
  | .hbm, ⟨53, _⟩ => ⟨S1x4096x2816, .f32⟩
  | .hbm, ⟨54, _⟩ => ⟨S1x4096x2816, .f32⟩
  | .hbm, ⟨55, _⟩ => ⟨S1x4096x2816, .f32⟩
  | .hbm, ⟨56, _⟩ => ⟨S1x4096x2816, .f32⟩
  | .hbm, ⟨57, _⟩ => ⟨S1x4096x5632, .f32⟩
  | .hbm, ⟨58, _⟩ => ⟨S_, .f32⟩
  | .hbm, ⟨59, _⟩ => ⟨S1x5632, .f32⟩
  | .hbm, ⟨60, _⟩ => ⟨S1x1x5632, .f32⟩
  | .hbm, ⟨61, _⟩ => ⟨S_, .f32⟩
  | .hbm, ⟨62, _⟩ => ⟨S5632, .f32⟩
  | .hbm, ⟨63, _⟩ => ⟨S1x4096x5632, .f32⟩
  | .hbm, ⟨64, _⟩ => ⟨S_, .f32⟩
  | .hbm, ⟨65, _⟩ => ⟨S1x5632, .f32⟩
  | .hbm, ⟨66, _⟩ => ⟨S1x1x5632, .f32⟩
  | .hbm, ⟨67, _⟩ => ⟨S1x4096x5632, .f32⟩
  | .hbm, ⟨68, _⟩ => ⟨S1x4096x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S_, .f32⟩
  | .hbm, ⟨75, _⟩ => ⟨S1x4098x5632, .f32⟩
  | .hbm, ⟨76, _⟩ => ⟨S1x4096x5632, .f32⟩
  | .hbm, ⟨77, _⟩ => ⟨S_, .f32⟩
  | .hbm, ⟨78, _⟩ => ⟨S1x5632, .f32⟩
  | .hbm, ⟨79, _⟩ => ⟨S1x1x5632, .f32⟩
  | .hbm, ⟨80, _⟩ => ⟨S1x4096x5632, .f32⟩
  | .hbm, ⟨81, _⟩ => ⟨S1x4096x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S_, .f32⟩
  | .hbm, ⟨89, _⟩ => ⟨S1x4098x5632, .f32⟩
  | .hbm, ⟨90, _⟩ => ⟨S1x4098x5632, .f32⟩
  | .hbm, ⟨91, _⟩ => ⟨S1x4096x5632, .f32⟩
  | .hbm, ⟨92, _⟩ => ⟨S_, .f32⟩
  | .hbm, ⟨93, _⟩ => ⟨S1x5632, .f32⟩
  | .hbm, ⟨94, _⟩ => ⟨S1x1x5632, .f32⟩
  | .hbm, ⟨95, _⟩ => ⟨S1x4096x5632, .f32⟩
  | .hbm, ⟨96, _⟩ => ⟨S1x4096x5632, .f32⟩
  | .hbm, ⟨97, _⟩ => ⟨S_, .f32⟩
  | .hbm, ⟨98, _⟩ => ⟨S5632, .f32⟩
  | .hbm, ⟨99, _⟩ => ⟨S1x5632, .f32⟩
  | .hbm, ⟨100, _⟩ => ⟨S_, .f32⟩
  | .hbm, ⟨101, _⟩ => ⟨S3x5632, .f32⟩
  | .hbm, ⟨102, _⟩ => ⟨S3x5632, .f32⟩
  | .hbm, ⟨103, _⟩ => ⟨S_, .f32⟩
  | .hbm, ⟨104, _⟩ => ⟨S1x4098x5632, .f32⟩
  | .hbm, ⟨105, _⟩ => ⟨S1x4098x5632, .f32⟩
  | .hbm, ⟨106, _⟩ => ⟨S1x2x5632, .f32⟩
  | .hbm, ⟨107, _⟩ => ⟨S1x4096x5632, .f32⟩
  | .hbm, ⟨108, _⟩ => ⟨S4096x2816, .f32⟩
  | .hbm, ⟨109, _⟩ => ⟨S4096x2816, .bf16⟩
  | .hbm, ⟨110, _⟩ => ⟨S4096x5632, .f32⟩
  | .hbm, ⟨111, _⟩ => ⟨S4096x2816, .f32⟩
  | .hbm, ⟨112, _⟩ => ⟨S4096x2816, .f32⟩
  | .hbm, ⟨113, _⟩ => ⟨S1x4096x2816, .f32⟩
  | .hbm, ⟨114, _⟩ => ⟨S1x4096x2816, .f32⟩
  | .hbm, ⟨115, _⟩ => ⟨S2x4096x2816, .f32⟩
  | .hbm, ⟨116, _⟩ => ⟨S2x4096x2816, .bf16⟩
  | .hbm, ⟨117, _⟩ => ⟨S1x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_cst_1 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]
-- ==== UpDx0Kernel.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x512x2816 : Shape := ⟨3, ![1, 512, 2816]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpDx0ReferenceIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S1x4096x2816 : Shape := ⟨3, ![1, 4096, 2816]⟩
abbrev S4096x2816 : Shape := ⟨2, ![4096, 2816]⟩
abbrev S4096x5632 : Shape := ⟨2, ![4096, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S1x1024, .f32⟩
  | .hbm, ⟨11, _⟩ => ⟨S1024, .f32⟩
  | .hbm, ⟨12, _⟩ => ⟨S1024x5632, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x5632, .f32⟩
  | .hbm, ⟨34, _⟩ => ⟨S4096x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== UpDx1Kernel.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x512x2816 : Shape := ⟨3, ![1, 512, 2816]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpDx1ReferenceIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S1x4096x2816 : Shape := ⟨3, ![1, 4096, 2816]⟩
abbrev S4096x2816 : Shape := ⟨2, ![4096, 2816]⟩
abbrev S4096x5632 : Shape := ⟨2, ![4096, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S1x1024, .f32⟩
  | .hbm, ⟨11, _⟩ => ⟨S1024, .f32⟩
  | .hbm, ⟨12, _⟩ => ⟨S1024x5632, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x5632, .f32⟩
  | .hbm, ⟨34, _⟩ => ⟨S4096x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== UpDx2Kernel.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S2x512x2816 : Shape := ⟨3, ![2, 512, 2816]⟩
abbrev S512x1024 : Shape := ⟨2, ![512, 1024]⟩
abbrev S1x1x1024 : Shape := ⟨3, ![1, 1, 1024]⟩
abbrev S1x512x2816 : Shape := ⟨3, ![1, 512, 2816]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpDx2ReferenceIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S4x1024 : Shape := ⟨2, ![4, 1024]⟩
abbrev S1x4096x2816 : Shape := ⟨3, ![1, 4096, 2816]⟩
abbrev S4096x2816 : Shape := ⟨2, ![4096, 2816]⟩
abbrev S4096x5632 : Shape := ⟨2, ![4096, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S1x1024, .f32⟩
  | .hbm, ⟨11, _⟩ => ⟨S1024, .f32⟩
  | .hbm, ⟨12, _⟩ => ⟨S1024x5632, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x5632, .f32⟩
  | .hbm, ⟨34, _⟩ => ⟨S4096x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== OddDx1Kernel.lean ====
abbrev S4096x1536 : Shape := ⟨2, ![4096, 1536]⟩
abbrev S1024x1536 : Shape := ⟨2, ![1024, 1536]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x1536 : Shape := ⟨2, ![512, 1536]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== OddDx1ReferenceIdeal.lean ====
abbrev S4096x1536 : Shape := ⟨2, ![4096, 1536]⟩
abbrev S1024x1536 : Shape := ⟨2, ![1024, 1536]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1024x1536, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1536, .f32⟩
  | .hbm, ⟨29, _⟩ => ⟨S4096x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== EvenDx0Kernel.lean ====
abbrev S4096x2048 : Shape := ⟨2, ![4096, 2048]⟩
abbrev S1024x2048 : Shape := ⟨2, ![1024, 2048]⟩
abbrev S4096x1024 : Shape := ⟨2, ![4096, 1024]⟩
abbrev S4x1024 : Shape := ⟨2, ![4, 1024]⟩
abbrev S4x1x1024 : Shape := ⟨3, ![4, 1, 1024]⟩
abbrev S1x1024 : Shape := ⟨2, ![1, 1024]⟩
abbrev S512x2048 : Shape := ⟨2, ![512, 2048]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S4x1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== EvenDx0ReferenceIdeal.lean ====
abbrev S4096x2048 : Shape := ⟨2, ![4096, 2048]⟩
abbrev S1024x2048 : Shape := ⟨2, ![1024, 2048]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1024x2048, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2048, .f32⟩
  | .hbm, ⟨29, _⟩ => ⟨S4096x2048, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== MixOut0Kernel.lean ====
abbrev S4096x1024 : Shape := ⟨2, ![4096, 1024]⟩
abbrev S1024x1024 : Shape := ⟨2, ![1024, 1024]⟩
abbrev S4x1024 : Shape := ⟨2, ![4, 1024]⟩
abbrev S4x1x1024 : Shape := ⟨3, ![4, 1, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOut0ReferenceIdeal.lean ====
abbrev S4096x1024 : Shape := ⟨2, ![4096, 1024]⟩
abbrev S1024x1024 : Shape := ⟨2, ![1024, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MixOut1Kernel.lean ====
abbrev S4096x1024 : Shape := ⟨2, ![4096, 1024]⟩
abbrev S1024x1024 : Shape := ⟨2, ![1024, 1024]⟩
abbrev S4x1024 : Shape := ⟨2, ![4, 1024]⟩
abbrev S4x1x1024 : Shape := ⟨3, ![4, 1, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOut1ReferenceIdeal.lean ====
abbrev S4096x1024 : Shape := ⟨2, ![4096, 1024]⟩
abbrev S1024x1024 : Shape := ⟨2, ![1024, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MixOut2Kernel.lean ====
abbrev S4096x1024 : Shape := ⟨2, ![4096, 1024]⟩
abbrev S1024x1024 : Shape := ⟨2, ![1024, 1024]⟩
abbrev S4x1024 : Shape := ⟨2, ![4, 1024]⟩
abbrev S4x1x1024 : Shape := ⟨3, ![4, 1, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOut2ReferenceIdeal.lean ====
abbrev S4096x1024 : Shape := ⟨2, ![4096, 1024]⟩
abbrev S1024x1024 : Shape := ⟨2, ![1024, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Down1Kernel.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S4096x1024, .f32⟩
  | .hbm, ⟨6, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Down1ReferenceIdeal.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Down3Kernel.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S4x1x1024 : Shape := ⟨3, ![4, 1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4x1024, .f32⟩
  | .hbm, ⟨4, _⟩ => ⟨S4x1x1024, .f32⟩
  | .hbm, ⟨5, _⟩ => ⟨S4096x1024, .f32⟩
  | .hbm, ⟨6, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Down3ReferenceIdeal.lean ====
abbrev S4096x2816 : Shape := ⟨2, ![4096, 2816]⟩
abbrev S2816x1024 : Shape := ⟨2, ![2816, 1024]⟩
abbrev S4096x1024 : Shape := ⟨2, ![4096, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4x1024, .f32⟩
  | .hbm, ⟨4, _⟩ => ⟨S1x1024, .f32⟩
  | .hbm, ⟨5, _⟩ => ⟨S1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== LossKernel.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== RmsFwdKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GluFwdKernel.lean ====
abbrev S4096x512 : Shape := ⟨2, ![4096, 512]⟩
abbrev S512x512 : Shape := ⟨2, ![512, 512]⟩
abbrev S512 : Shape := ⟨1, ![512]⟩
abbrev S4096x1024 : Shape := ⟨2, ![4096, 1024]⟩
abbrev S1x512 : Shape := ⟨2, ![1, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x1024, .bf16⟩
  | .hbm, ⟨4, _⟩ => ⟨S512x512, .bf16⟩
  | .hbm, ⟨5, _⟩ => ⟨S1x512, .f32⟩
  | .hbm, ⟨6, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluFwdKernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== GluFwdReferenceIdeal.lean ====
abbrev S4096x512 : Shape := ⟨2, ![4096, 512]⟩
abbrev S512x512 : Shape := ⟨2, ![512, 512]⟩
abbrev S512 : Shape := ⟨1, ![512]⟩
abbrev S4096x1024 : Shape := ⟨2, ![4096, 1024]⟩
abbrev S_ : Shape := ⟨0, ![]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x1024, .bf16⟩
  | .hbm, ⟨4, _⟩ => ⟨S4096x512, .bf16⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .bf16⟩
  | .hbm, ⟨39, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== SconvFwdKernel.lean ====
abbrev S4096x2048 : Shape := ⟨2, ![4096, 2048]⟩
abbrev S3x512 : Shape := ⟨2, ![3, 512]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S4088x128 : Shape := ⟨2, ![4088, 128]⟩
abbrev S4096x512 : Shape := ⟨2, ![4096, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S3x512, .f32⟩
  | .hbm, ⟨2, _⟩ => ⟨S4096x1024, .bf16⟩
  | .hbm, ⟨3, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SconvFwdReferenceIdeal.lean ====
abbrev S4096x2048 : Shape := ⟨2, ![4096, 2048]⟩
abbrev S3x512 : Shape := ⟨2, ![3, 512]⟩
abbrev S4096x512 : Shape := ⟨2, ![4096, 512]⟩
abbrev S1x4096x512 : Shape := ⟨3, ![1, 4096, 512]⟩
abbrev S_ : Shape := ⟨0, ![]⟩
abbrev S1x2x512 : Shape := ⟨3, ![1, 2, 512]⟩
abbrev S1x4098x512 : Shape := ⟨3, ![1, 4098, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3x512, .f32⟩
  | .hbm, ⟨2, _⟩ => ⟨S4096x512, .f32⟩
  | .hbm, ⟨3, _⟩ => ⟨S1x4096x512, .f32⟩
  | .hbm, ⟨4, _⟩ => ⟨S4096x512, .f32⟩
  | .hbm, ⟨5, _⟩ => ⟨S1x4096x512, .f32⟩
  | .hbm, ⟨6, _⟩ => ⟨S4096x512, .f32⟩
  | .hbm, ⟨7, _⟩ => ⟨S1x4096x512, .f32⟩
  | .hbm, ⟨8, _⟩ => ⟨S1x4096x512, .f32⟩
  | .hbm, ⟨9, _⟩ => ⟨S_, .f32⟩
  | .hbm, ⟨10, _⟩ => ⟨S1x2x512, .f32⟩
  | .hbm, ⟨11, _⟩ => ⟨S1x4098x512, .f32⟩
  | .hbm, ⟨12, _⟩ => ⟨S1x4096x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S1x4096x512, .f32⟩
  | .hbm, ⟨17, _⟩ => ⟨S1x4096x512, .f32⟩
  | .hbm, ⟨18, _⟩ => ⟨S1x4096x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S1x4096x512, .f32⟩
  | .hbm, ⟨23, _⟩ => ⟨S1x4096x512, .f32⟩
  | .hbm, ⟨24, _⟩ => ⟨S1x4096x512, .f32⟩
  | .hbm, ⟨25, _⟩ => ⟨S1x4096x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S1x4096x512, .f32⟩
  | .hbm, ⟨30, _⟩ => ⟨S1x4096x512, .f32⟩
  | .hbm, ⟨31, _⟩ => ⟨S1x4096x512, .f32⟩
  | .hbm, ⟨32, _⟩ => ⟨S1x4096x512, .f32⟩
  | .hbm, ⟨33, _⟩ => ⟨S4096x512, .f32⟩
  | .hbm, ⟨34, _⟩ => ⟨S4096x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== Proof.SconvPure.lean ====
/- The gradient of the short convolution, column by column: what the kernel's values are at one row
   and lane, in terms of columns read some rows earlier or later. -/
module

public import proofs.«01_k».proof.Proof.Gen.SconvKernelIdeal.Skeleton
public import Idealize.ShloMosaic.Lib.Pointwise

@[expose] public section

set_option maxRecDepth 16384

noncomputable section

open Idealize.ShloMosaic Idealize.ShloMosaic.TcCoe Idealize.SL.Sem
open scoped BigOperators
namespace Cert.Sconv
open Cert.SconvKernelIdeal Cert.SconvKernelIdeal.Gen

/-- A column read `n` rows earlier, zero before the first row. -/
def dn (n : ℕ) (f : Fin 4096 → EReal) (r : Fin 4096) : EReal :=
  if n ≤ (r : ℕ) then f ⟨(r : ℕ) - n, lt_of_le_of_lt (Nat.sub_le _ _) r.isLt⟩ else 0

/-- A column read `n` rows later, zero past the last row. -/
def up (n : ℕ) (f : Fin 4096 → EReal) (r : Fin 4096) : EReal :=
  if h : (r : ℕ) + n < 4096 then f ⟨(r : ℕ) + n, h⟩ else 0

/-- Moving one column up or the other down gives the same sum of products. -/
theorem sum_up_mul (n : ℕ) (f g : Fin 4096 → EReal) :
    ∑ r, up n f r * g r = ∑ r, f r * dn n g r := by
  have hl : ∀ r : Fin 4096, up n f r * g r
      = ∑ s : Fin 4096, if (s : ℕ) = (r : ℕ) + n then f s * g r else 0 := by
    intro r
    unfold up
    by_cases h : (r : ℕ) + n < 4096
    · rw [dif_pos h, Finset.sum_eq_single (⟨(r : ℕ) + n, h⟩ : Fin 4096)]
      · simp
      · intro s _ hs
        rw [if_neg]
        intro he
        exact hs (Fin.ext he)
      · simp
    · rw [dif_neg h, zero_mul, Finset.sum_eq_zero]
      intro s _
      rw [if_neg]
      have := s.isLt
      omega
  have hr : ∀ s : Fin 4096, f s * dn n g s
      = ∑ r : Fin 4096, if (s : ℕ) = (r : ℕ) + n then f s * g r else 0 := by
    intro s
    unfold dn
    by_cases h : n ≤ (s : ℕ)
    · rw [if_pos h, Finset.sum_eq_single
        (⟨(s : ℕ) - n, lt_of_le_of_lt (Nat.sub_le _ _) s.isLt⟩ : Fin 4096)]
      · rw [if_pos]
        show (s : ℕ) = (s : ℕ) - n + n
        omega
      · intro r _ hs
        rw [if_neg]
        intro he
        refine hs (Fin.ext ?_)
        show (r : ℕ) = (s : ℕ) - n
        omega
      · simp
    · rw [if_neg h, mul_zero, Finset.sum_eq_zero]
      intro r _
      rw [if_neg]
      omega
  rw [Finset.sum_congr rfl fun r _ => hl r, Finset.sum_congr rfl fun s _ => hr s]
  exact Finset.sum_comm

/-- The four row comparisons of the kernel's masks, on eight rows. -/
theorem sge2 : ∀ k : Fin 8, IntOp.cmpi .sge (BitVec.ofNat 32 (k : ℕ)) 2#32 = if 2 ≤ (k : ℕ) then 1#1 else 0#1 := by decide
theorem sge1 : ∀ k : Fin 8, IntOp.cmpi .sge (BitVec.ofNat 32 (k : ℕ)) 1#32 = if 1 ≤ (k : ℕ) then 1#1 else 0#1 := by decide
theorem slt7 : ∀ k : Fin 8, IntOp.cmpi .slt (BitVec.ofNat 32 (k : ℕ)) 7#32 = if (k : ℕ) < 7 then 1#1 else 0#1 := by decide
theorem slt6 : ∀ k : Fin 8, IntOp.cmpi .slt (BitVec.ofNat 32 (k : ℕ)) 6#32 = if (k : ℕ) < 6 then 1#1 else 0#1 := by decide

set_option maxRecDepth 100000 in
/-- The product column read one row later. -/
theorem pay6 (b d : FVec Ideal S4096x128 .f32) (r : Fin 4096) (l : Fin 128) :
    k0_pay6 (F := Ideal) b d (ix2 r l) = up 1 (fun k => d (ix2 k l) * b (ix2 k l)) r := by
  have hu : ∀ k : Fin 4096, k0_pay5 (F := Ideal) b d (ix2 k l) = d (ix2 k l) * b (ix2 k l) := fun _ => rfl
  unfold k0_pay6 up
  generalize k0_pay5 (F := Ideal) b d = u at hu ⊢
  pointwise
  simp only [← hu]
  by_cases h : (r : ℕ) < 4088
  · have e : ((r : ℕ) + 4096 - 4095) % 4096 = r + 1 := by omega
    have h' : (r : ℕ) + 1 < 4096 := by omega
    simp only [e, dif_pos h, dif_pos h']
  · have hr := r.isLt
    rw [dif_neg h, slt7 ⟨(r : ℕ) - 4088, by omega⟩]
    by_cases h2 : (r : ℕ) + 1 < 4096
    · have h3 : (r : ℕ) - 4088 < 7 := by omega
      have e : (4088 + ((r : ℕ) - 4088) + 4096 - 4095) % 4096 = r + 1 := by omega
      simp only [e, if_pos h3, dif_pos h2]; rfl
    · have h3 : ¬ (r : ℕ) - 4088 < 7 := by omega
      simp only [if_neg h3, dif_neg h2]; rfl

set_option maxRecDepth 100000 in
/-- The product column read two rows later. -/
theorem pay7 (b d : FVec Ideal S4096x128 .f32) (r : Fin 4096) (l : Fin 128) :
    k0_pay7 (F := Ideal) b d (ix2 r l) = up 2 (fun k => d (ix2 k l) * b (ix2 k l)) r := by
  have hu : ∀ k : Fin 4096, k0_pay5 (F := Ideal) b d (ix2 k l) = d (ix2 k l) * b (ix2 k l) := fun _ => rfl
  unfold k0_pay7 up
  generalize k0_pay5 (F := Ideal) b d = u at hu ⊢
  pointwise
  simp only [← hu]
  by_cases h : (r : ℕ) < 4088
  · have e : ((r : ℕ) + 4096 - 4094) % 4096 = r + 2 := by omega
    have h' : (r : ℕ) + 2 < 4096 := by omega
    simp only [e, dif_pos h, dif_pos h']
  · have hr := r.isLt
    rw [dif_neg h, slt6 ⟨(r : ℕ) - 4088, by omega⟩]
    by_cases h2 : (r : ℕ) + 2 < 4096
    · have h3 : (r : ℕ) - 4088 < 6 := by omega
      have e : (4088 + ((r : ℕ) - 4088) + 4096 - 4094) % 4096 = r + 2 := by omega
      simp only [e, if_pos h3, dif_pos h2]; rfl
    · have h3 : ¬ (r : ℕ) - 4088 < 6 := by omega
      simp only [if_neg h3, dif_neg h2]; rfl

/-- The convolution's cotangent, as the kernel adds its three taps. -/
theorem pay9 (b d : FVec Ideal S4096x128 .f32) (w2 w1 w0 : FVec Ideal S1x128 .f32) (r : Fin 4096) (l : Fin 128) :
    k0_pay9 (F := Ideal) b d w2 w1 w0 (ix2 r l)
      = w2 (ix2 0 l) * (d (ix2 r l) * b (ix2 r l)) + w1 (ix2 0 l) * up 1 (fun k => d (ix2 k l) * b (ix2 k l)) r
        + w0 (ix2 0 l) * up 2 (fun k => d (ix2 k l) * b (ix2 k l)) r := by
  rw [← pay6, ← pay7]
  pointwise [k0_pay9]
  rfl

/-- The gradient of the three taps: a sum over the rows for each. -/
theorem pay8 (b d u : FVec Ideal S4096x128 .f32) (r : Fin 3) (l : Fin 128) :
    k0_pay8 (F := Ideal) b d u (ix2 r l)
      = if (r : ℕ) = 0 then ∑ x, up 2 (fun k => d (ix2 k l) * b (ix2 k l)) x * u (ix2 x l)
        else if (r : ℕ) = 1 then ∑ x, up 1 (fun k => d (ix2 k l) * b (ix2 k l)) x * u (ix2 x l)
        else ∑ x, d (ix2 x l) * b (ix2 x l) * u (ix2 x l) := by
  pointwise [k0_pay8]
  simp only [pay6, pay7]
  by_cases h0 : (r : ℕ) = 0
  · rw [if_pos h0, dif_pos (by omega)]
  · rw [if_neg h0, dif_neg (by omega)]
    by_cases h1 : (r : ℕ) = 1
    · rw [if_pos h1, dif_pos (by omega)]
    · rw [if_neg h1, dif_neg (by omega)]; rfl

/-- The gradient of the gate: the cotangent times the convolution. -/
theorem pay4 (a c d : FVec Ideal S4096x128 .f32) (w0 w1 w2 : FVec Ideal S1x128 .f32) (r : Fin 4096) (l : Fin 128) :
    k0_pay4 (F := Ideal) a c d w0 w1 w2 (ix2 r l) = d (ix2 r l) * (w0 (ix2 0 l) * dn 2 (fun k => c (ix2 k l) * a (ix2 k l)) r + w1 (ix2 0 l) * dn 1 (fun k => c (ix2 k l) * a (ix2 k l)) r + w2 (ix2 0 l) * (c (ix2 r l) * a (ix2 r l))) := by
  pointwise [k0_pay4, k0_pay3]
  refine congrArg₂ _ rfl (congrArg₂ _ (congrArg₂ _ (congrArg₂ _ rfl ?_) (congrArg₂ _ rfl ?_)) rfl)
  · unfold dn
    by_cases h : (r : ℕ) < 8
    · rw [dif_pos h, sge2 ⟨r, h⟩]
      by_cases h2 : 2 ≤ (r : ℕ)
      · have e : ((r : ℕ) + 4096 - 2) % 4096 = r - 2 := by omega
        simp only [e, if_pos h2]; rfl
      · simp only [if_neg h2]; rfl
    · have e : (8 + ((r : ℕ) - 8) + 4096 - 2) % 4096 = r - 2 := by omega
      have h2 : 2 ≤ (r : ℕ) := by omega
      simp only [e, dif_neg h, if_pos h2]
  · unfold dn
    by_cases h : (r : ℕ) < 8
    · rw [dif_pos h, sge1 ⟨r, h⟩]
      by_cases h2 : 1 ≤ (r : ℕ)
      · have e : ((r : ℕ) + 4096 - 1) % 4096 = r - 1 := by omega
        simp only [e, if_pos h2]; rfl
      · simp only [if_neg h2]; rfl
    · have e : (8 + ((r : ℕ) - 8) + 4096 - 1) % 4096 = r - 1 := by omega
      have h2 : 1 ≤ (r : ℕ) := by omega
      simp only [e, dif_neg h, if_pos h2]
end Cert.Sconv
-- ==== Proof.SconvKer.lean ====
/- What the kernel's run leaves in its four result arrays: the gradient of the short convolution,
   written out on the argument arrays. -/
module

public import proofs.«01_k».proof.Proof.Gen.SconvKernelIdeal.Frame
public import proofs.«01_k».proof.Proof.SconvPure
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
namespace Cert.Sconv
open Cert.SconvKernelIdeal Cert.SconvKernelIdeal.Gen

/-- The column of products the convolution runs over: the second gate times the input. -/
def uCol (X : FVec Ideal S4096x2048 .f32) (n : Fin 512) (k : Fin 4096) : EReal :=
  X (ix2 k ⟨1024 + (n : ℕ), by omega⟩) * X (ix2 k ⟨(n : ℕ), by omega⟩)

/-- The column the convolution's cotangent is: the incoming cotangent times the first gate. -/
def dCol (X : FVec Ideal S4096x2048 .f32) (G : FVec Ideal S4096x1024 .f32) (n : Fin 512) (k : Fin 4096) : EReal :=
  G (ix2 k ⟨(n : ℕ), by omega⟩) * X (ix2 k ⟨512 + (n : ℕ), by omega⟩)

/-- The cotangent of the products: the three taps applied backwards. -/
def dU (X : FVec Ideal S4096x2048 .f32) (G : FVec Ideal S4096x1024 .f32) (W : FVec Ideal S3x512 .f32) (n : Fin 512) (r : Fin 4096) : EReal :=
  W (ix2 2 n) * dCol X G n r + W (ix2 1 n) * up 1 (dCol X G n) r + W (ix2 0 n) * up 2 (dCol X G n) r

/-- The gradient of the input slice. -/
def specX (X : FVec Ideal S4096x2048 .f32) (G : FVec Ideal S4096x1024 .f32) (W : FVec Ideal S3x512 .f32) : FVec Ideal S4096x512 .bf16 :=
  fun j => dU X G W (j 1) (j 0) * X (ix2 (j 0) ⟨1024 + (j 1 : ℕ), by have := (j 1).isLt; change (j 1 : ℕ) < 512 at this; omega⟩)

/-- The gradient of the first gate. -/
def specB (X : FVec Ideal S4096x2048 .f32) (G : FVec Ideal S4096x1024 .f32) (W : FVec Ideal S3x512 .f32) : FVec Ideal S4096x512 .bf16 :=
  fun j => G (ix2 (j 0) ⟨(j 1 : ℕ), by have := (j 1).isLt; change (j 1 : ℕ) < 512 at this; omega⟩)
    * (W (ix2 0 (j 1)) * dn 2 (uCol X (j 1)) (j 0) + W (ix2 1 (j 1)) * dn 1 (uCol X (j 1)) (j 0) + W (ix2 2 (j 1)) * uCol X (j 1) (j 0))

/-- The gradient of the second gate. -/
def specC (X : FVec Ideal S4096x2048 .f32) (G : FVec Ideal S4096x1024 .f32) (W : FVec Ideal S3x512 .f32) : FVec Ideal S4096x512 .bf16 :=
  fun j => dU X G W (j 1) (j 0) * X (ix2 (j 0) ⟨(j 1 : ℕ), by have := (j 1).isLt; change (j 1 : ℕ) < 512 at this; omega⟩)

/-- The gradient of the taps. -/
def specW (X : FVec Ideal S4096x2048 .f32) (G : FVec Ideal S4096x1024 .f32) : FVec Ideal S3x512 .f32 :=
  fun j => if (j 0 : ℕ) = 0 then ∑ x, up 2 (dCol X G (j 1)) x * uCol X (j 1) x
    else if (j 0 : ℕ) = 1 then ∑ x, up 1 (dCol X G (j 1)) x * uCol X (j 1) x
    else ∑ x, dCol X G (j 1) x * uCol X (j 1) x

/-- The windows' block indices at every grid point. -/
theorem idx : ∀ t : Fin cfg0.N, win0_0.index t = ![0, t.val]
    ∧ win0_1.index t = ![0, t.val + 4]
    ∧ win0_2.index t = ![0, t.val + 8]
    ∧ win0_3.index t = ![0, t.val]
    ∧ win0_4.index t = ![0, t.val]
    ∧ win0_5.index t = ![0, t.val]
    ∧ win0_6.index t = ![0, t.val]
    ∧ win0_7.index t = ![0, t.val]
    ∧ win0_8.index t = ![0, t.val] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- Lane `l` of the block at point `t`. -/
def lane (t : Fin cfg0.N) (l : Fin 128) : Fin 512 := ⟨t.val * 128 + l, by have := t_lt t; omega⟩

theorem rd0 (c : Dev nD) (t : Fin cfg0.N) (r : Fin 4096) (l : Fin 128) :
    iblk m c 0 t (ix2 r l) = m ((c : Thread nD τ).loc main_arg0) (ix2 r ⟨(lane t l : ℕ), by omega⟩) := by
  unfold lane; blk_ext [iblk, V, idx t]
theorem rd1 (c : Dev nD) (t : Fin cfg0.N) (r : Fin 4096) (l : Fin 128) :
    iblk m c 1 t (ix2 r l) = m ((c : Thread nD τ).loc main_arg0) (ix2 r ⟨512 + (lane t l : ℕ), by omega⟩) := by
  unfold lane; blk_ext [iblk, V, idx t]
theorem rd2 (c : Dev nD) (t : Fin cfg0.N) (r : Fin 4096) (l : Fin 128) :
    iblk m c 2 t (ix2 r l) = m ((c : Thread nD τ).loc main_arg0) (ix2 r ⟨1024 + (lane t l : ℕ), by omega⟩) := by
  unfold lane; blk_ext [iblk, V, idx t]
theorem rd3 (c : Dev nD) (t : Fin cfg0.N) (r : Fin 4096) (l : Fin 128) :
    iblk m c 3 t (ix2 r l) = m ((c : Thread nD τ).loc main_arg1) (ix2 r ⟨(lane t l : ℕ), by omega⟩) := by
  unfold lane; blk_ext [iblk, V, idx t]
theorem rd4 (c : Dev nD) (t : Fin cfg0.N) (r : Fin 3) (l : Fin 128) :
    iblk m c 4 t (ix2 r l) = m ((c : Thread nD τ).loc main_arg2) (ix2 r (lane t l)) := by
  unfold lane; blk_ext [iblk, V, idx t]

/-- The product columns of a block are those of the arrays. -/
theorem dCol_blk (c : Dev nD) (t : Fin cfg0.N) (l : Fin 128) :
    (fun k : Fin 4096 => (show FVec Ideal S4096x128 .f32 from iblk m c 3 t) (ix2 k l) * (show FVec Ideal S4096x128 .f32 from iblk m c 1 t) (ix2 k l))
      = dCol (m ((c : Thread nD τ).loc main_arg0)) (m ((c : Thread nD τ).loc main_arg1)) (lane t l) :=
  funext fun k => congrArg₂ (· * ·) (rd3 m c t k l) (rd1 m c t k l)
theorem uCol_blk (c : Dev nD) (t : Fin cfg0.N) (l : Fin 128) :
    (fun k : Fin 4096 => (show FVec Ideal S4096x128 .f32 from iblk m c 2 t) (ix2 k l) * (show FVec Ideal S4096x128 .f32 from iblk m c 0 t) (ix2 k l))
      = uCol (m ((c : Thread nD τ).loc main_arg0)) (lane t l) :=
  funext fun k => congrArg₂ (· * ·) (rd2 m c t k l) (rd0 m c t k l)

theorem emb5 (t : Fin cfg0.N) (r : Fin 4096) (l : Fin 128) : ((cfg0.win 5).blk t).view.emb (ix2 r l) = ix2 r (lane t l) := by
  unfold lane; blk_ext [idx t]
theorem emb6 (t : Fin cfg0.N) (r : Fin 4096) (l : Fin 128) : ((cfg0.win 6).blk t).view.emb (ix2 r l) = ix2 r (lane t l) := by
  unfold lane; blk_ext [idx t]
theorem emb7 (t : Fin cfg0.N) (r : Fin 4096) (l : Fin 128) : ((cfg0.win 7).blk t).view.emb (ix2 r l) = ix2 r (lane t l) := by
  unfold lane; blk_ext [idx t]
theorem emb8 (t : Fin cfg0.N) (r : Fin 3) (l : Fin 128) : ((cfg0.win 8).blk t).view.emb (ix2 r l) = ix2 r (lane t l) := by
  unfold lane; blk_ext [idx t]

/-- The stored block of the input's gradient, over blocks read as whole vectors. -/
theorem blk5 (x0 x1 x2 x3 : FVec Ideal S4096x128 .f32) (x4 : FVec Ideal S3x128 .f32) (r : Fin 4096) (l : Fin 128) :
    k0_pay10 (F := Ideal) x0 x1 x2 x3 x4 (ix2 r l)
      = x4 (ix2 2 l) * (x3 (ix2 r l) * x1 (ix2 r l)) + x4 (ix2 1 l) * up 1 (fun k => x3 (ix2 k l) * x1 (ix2 k l)) r
        + x4 (ix2 0 l) * up 2 (fun k => x3 (ix2 k l) * x1 (ix2 k l)) r := by
  unfold k0_pay10
  rw [pay9]
  pointwise

/-- The cotangent of the products at a block's lane is that of the arrays. -/
theorem dU_blk (c : Dev nD) (t : Fin cfg0.N) (r : Fin 4096) (l : Fin 128) :
    k0_pay10 (F := Ideal) (iblk m c 0 t) (iblk m c 1 t) (iblk m c 2 t) (iblk m c 3 t) (iblk m c 4 t) (ix2 r l)
      = dU (m ((c : Thread nD τ).loc main_arg0)) (m ((c : Thread nD τ).loc main_arg1)) (m ((c : Thread nD τ).loc main_arg2)) (lane t l) r := by
  refine (blk5 _ _ _ _ _ r l).trans ?_
  rw [dCol_blk]
  exact congrArg₂ (· + ·) (congrArg₂ (· + ·) (congrArg₂ (· * ·) (rd4 m c t 2 l) (congrFun (dCol_blk m c t l) r))
    (congrArg₂ (· * ·) (rd4 m c t 1 l) rfl)) (congrArg₂ (· * ·) (rd4 m c t 0 l) rfl)

/-- The run leaves the input's gradient. -/
theorem final5 (c : Dev nD) : (dats m 0 c).arrAt 5 (cfgs 0).N
    = specX (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp; rw [after0_5]; frame_out
  obtain ⟨r, l, rfl⟩ : ∃ (r : Fin 4096) (l : Fin 128), y = ix2 r l := ⟨y 0, y 1, eq_ix2 y⟩
  refine Eq.trans ?_ (congrArg _ (emb5 t r l)).symm
  exact congrArg₂ (· * ·) (dU_blk m c t r l) (rd2 m c t r l)

/-- The run leaves the first gate's gradient. -/
theorem final6 (c : Dev nD) : (dats m 0 c).arrAt 6 (cfgs 0).N
    = specB (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp; rw [after0_6]; frame_out
  obtain ⟨r, l, rfl⟩ : ∃ (r : Fin 4096) (l : Fin 128), y = ix2 r l := ⟨y 0, y 1, eq_ix2 y⟩
  refine Eq.trans ?_ (congrArg _ (emb6 t r l)).symm
  refine (pay4 _ _ _ _ _ _ r l).trans ?_
  rw [uCol_blk]
  refine congrArg₂ (· * ·) (rd3 m c t r l) (congrArg₂ (· + ·) (congrArg₂ (· + ·) (congrArg₂ (· * ·) ?_ rfl)
    (congrArg₂ (· * ·) ?_ rfl)) (congrArg₂ (· * ·) ?_ (congrFun (uCol_blk m c t l) r)))
  · pointwise; exact rd4 m c t 0 l
  · pointwise; exact rd4 m c t 1 l
  · pointwise; exact rd4 m c t 2 l

/-- The run leaves the second gate's gradient. -/
theorem final7 (c : Dev nD) : (dats m 0 c).arrAt 7 (cfgs 0).N
    = specC (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp; rw [after0_7]; frame_out
  obtain ⟨r, l, rfl⟩ : ∃ (r : Fin 4096) (l : Fin 128), y = ix2 r l := ⟨y 0, y 1, eq_ix2 y⟩
  refine Eq.trans ?_ (congrArg _ (emb7 t r l)).symm
  exact congrArg₂ (· * ·) (dU_blk m c t r l) (rd0 m c t r l)

/-- The run leaves the taps' gradient. -/
theorem final8 (c : Dev nD) : (dats m 0 c).arrAt 8 (cfgs 0).N
    = specW (m ((c : Thread nD τ).loc main_arg0)) (m ((c : Thread nD τ).loc main_arg1)) := by
  refine (dats m 0 c).arrAt_eq_of_covers 8 _ (by decide +kernel) fun t _ y => ?_
  blk_simp; rw [after0_8]; frame_out
  obtain ⟨r, l, rfl⟩ : ∃ (r : Fin 3) (l : Fin 128), y = ix2 r l := ⟨y 0, y 1, eq_ix2 y⟩
  refine Eq.trans ?_ (congrArg _ (emb8 t r l)).symm
  refine (pay8 _ _ _ r l).trans ?_
  rw [dCol_blk]
  unfold specW
  have hu : ∀ x : Fin 4096, k0_pay3 (F := Ideal) (iblk m c 0 t) (iblk m c 2 t) (ix2 x l) = uCol (m ((c : Thread nD τ).loc main_arg0)) (lane t l) x := fun x => congrFun (uCol_blk m c t l) x
  have hd := congrFun (dCol_blk m c t l)
  simp only [hu]
  exact if_congr Iff.rfl rfl (if_congr Iff.rfl rfl (Finset.sum_congr rfl fun x _ => congrArg₂ (· * ·) (hd x) rfl))

/-- Every run of the kernel ends with the four gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0_0) = specX (m ((c : Thread nD τ).loc main_arg0)) (m ((c : Thread nD τ).loc main_arg1)) (m ((c : Thread nD τ).loc main_arg2))
    ∧ r.2.mem ((c.tc : Thread nD τ).loc main_v0_1) = specB (m ((c : Thread nD τ).loc main_arg0)) (m ((c : Thread nD τ).loc main_arg1)) (m ((c : Thread nD τ).loc main_arg2))
    ∧ r.2.mem ((c.tc : Thread nD τ).loc main_v0_2) = specC (m ((c : Thread nD τ).loc main_arg0)) (m ((c : Thread nD τ).loc main_arg1)) (m ((c : Thread nD τ).loc main_arg2))
    ∧ r.2.mem ((c.tc : Thread nD τ).loc main_v0_3) = specW (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  run_from Cert.SconvKernelIdeal.Gen.run_main m ρ
  · exact final5 m c
  · exact final6 m c
  · exact final7 m c
  · exact final8 m c

end Cert.Sconv
-- ==== Proof.HostSums.lean ====
/- Host sums over the first two axes of a rank-three array, read at an index. -/
module

public import Idealize.ShloMosaic.Lib.Pointwise

@[expose] public section

noncomputable section

open Idealize.ShloMosaic
open scoped BigOperators
namespace Cert.HostSums

/-- A host sum over axes 0 and 1 of a rank-three array is the double sum along these axes. -/
theorem sum01 {a b n : ℕ} (h : (⟨3, ![a, b, n]⟩ : Shape).ReducesTo [0, 1] ⟨1, ![n]⟩)
    (v : (⟨3, ![a, b, n]⟩ : Shape).Idx → EReal) (init : EReal) (k : Fin n) :
    Ideal.hostReduceAdd h v init (ix1 k) = init + ∑ i : Fin a, ∑ r : Fin b, v (ix3 i r k) := by
  unfold Ideal.hostReduceAdd
  refine congrArg₂ (· + ·) rfl ?_
  rw [← Fintype.sum_prod_type' (f := fun (i : Fin a) (r : Fin b) => v (ix3 i r k))]
  symm
  refine Finset.sum_bij (fun p _ => ix3 p.1 p.2 k) ?_ ?_ ?_ ?_
  · intro p _
    refine Finset.mem_filter.2 ⟨Finset.mem_univ _, ?_⟩
    funext d
    match d with
    | ⟨0, _⟩ => exact Fin.ext rfl
    | ⟨d + 1, hd⟩ => exact absurd hd (by show ¬ d + 1 < 1; omega)
  · intro p _ q _ e
    exact Prod.ext (congrFun e 0) (congrFun e 1)
  · intro i hi
    have hd := (Finset.mem_filter.1 hi).2
    refine ⟨(i 0, i 1), Finset.mem_univ _, ?_⟩
    funext d
    match d with
    | ⟨0, _⟩ => rfl
    | ⟨1, _⟩ => rfl
    | ⟨2, _⟩ => exact Fin.ext (congrArg Fin.val (congrFun hd ⟨0, Nat.one_pos⟩)).symm
  · intro p _
    rfl

end Cert.HostSums
-- ==== Proof.SconvRef.lean ====
/- What the reference's run leaves: the same gradient, written out on the argument arrays. -/
module

public import proofs.«01_k».proof.Proof.Gen.SconvReferenceIdeal.Run
public import proofs.«01_k».proof.Proof.SconvKer
public import Idealize.ShloMosaic.Lib.Claim
public import proofs.«01_k».proof.Proof.HostSums

@[expose] public section

set_option maxRecDepth 16384

noncomputable section

open Idealize.ShloMosaic Idealize.ShloMosaic.TcCoe Idealize.SL.Sem
open scoped BigOperators
namespace Cert.Sconv
open Cert.SconvReferenceIdeal Cert.SconvReferenceIdeal.Gen

/-- A column read one row later and scaled, as the padded sum has it. -/
theorem up_one (f : Fin 4096 → EReal) (w : EReal) (r : Fin 4096) :
    (if h : 1 ≤ 2 + (r : ℕ) ∧ 2 + (r : ℕ) - 1 < 4096 then f ⟨2 + (r : ℕ) - 1, h.2⟩ * w else 0) = w * up 1 f r := by
  unfold up
  by_cases h : (r : ℕ) + 1 < 4096
  · have e : 2 + (r : ℕ) - 1 = r + 1 := by omega
    rw [dif_pos h, dif_pos ⟨by omega, by omega⟩, mul_comm]
    simp only [e]
  · rw [dif_neg h, dif_neg (by omega), mul_zero]

/-- A column read two rows later and scaled, as the padded sum has it. -/
theorem up_two (f : Fin 4096 → EReal) (w : EReal) (r : Fin 4096) :
    (if h : 2 + (r : ℕ) < 4096 then f ⟨2 + (r : ℕ), h⟩ * w else 0) = w * up 2 f r := by
  unfold up
  by_cases h : (r : ℕ) + 2 < 4096
  · have e : 2 + (r : ℕ) = r + 2 := by omega
    rw [dif_pos h, dif_pos (by omega), mul_comm]
    simp only [e]
  · rw [dif_neg h, dif_neg (by omega), mul_zero]

/-- A column read one row earlier, as the padded slice has it. -/
theorem dn_one (f : Fin 4096 → EReal) (r : Fin 4096) :
    (if h : 1 + (r : ℕ) < 2 then 0 else f ⟨1 + (r : ℕ) - 2, by omega⟩) = dn 1 f r := by
  unfold dn
  by_cases h : 1 ≤ (r : ℕ)
  · have e : 1 + (r : ℕ) - 2 = r - 1 := by omega
    rw [if_pos h, dif_neg (by omega)]
    simp only [e]
  · rw [if_neg h, dif_pos (by omega)]

/-- A column read two rows earlier, as the padded slice has it. -/
theorem dn_two (f : Fin 4096 → EReal) (r : Fin 4096) :
    (if h : (r : ℕ) < 2 then 0 else f ⟨(r : ℕ) - 2, by omega⟩) = dn 2 f r := by
  unfold dn
  by_cases h : 2 ≤ (r : ℕ)
  · rw [if_pos h, dif_neg (by omega)]
  · rw [if_neg h, dif_pos (by omega)]

/-- The sum over the rows two apart, without the two empty rows. -/
theorem sum_up_two (f g : Fin 4096 → EReal) :
    ∑ x : Fin 4094, g ⟨(x : ℕ), by omega⟩ * f ⟨2 + (x : ℕ), by omega⟩ = ∑ x, up 2 f x * g x := by
  have ht := Fin.sum_univ_two_halves 4094 2 rfl fun x : Fin 4096 => up 2 f x * g x
  refine Eq.trans ?_ ht.symm
  rw [Finset.sum_eq_zero (s := (Finset.univ : Finset (Fin 2))), add_zero]
  · refine Finset.sum_congr rfl fun x _ => ?_
    have h : (x : ℕ) + 2 < 4096 := by omega
    have e : 2 + (x : ℕ) = x + 2 := by omega
    unfold up
    rw [dif_pos h, mul_comm]
    simp only [e]
  · intro x _
    unfold up
    rw [dif_neg (by show ¬ 4094 + (x : ℕ) + 2 < 4096; omega), zero_mul]

/-- The cotangent column with its two factors the other way round. -/
def dCol' (X : FVec Ideal S4096x2048 .f32) (G : FVec Ideal S4096x1024 .f32) (n : Fin 512) (k : Fin 4096) : EReal :=
  X (ix2 k ⟨512 + (n : ℕ), by omega⟩) * G (ix2 k ⟨(n : ℕ), by omega⟩)

theorem dCol_comm (X : FVec Ideal S4096x2048 .f32) (G : FVec Ideal S4096x1024 .f32) (n : Fin 512) :
    dCol X G n = dCol' X G n :=
  funext fun _ => mul_comm _ _

/-- The products' cotangent over the other factor order. -/
theorem dU_comm (X : FVec Ideal S4096x2048 .f32) (G : FVec Ideal S4096x1024 .f32) (W : FVec Ideal S3x512 .f32) (n : Fin 512) (r : Fin 4096) :
    W (ix2 2 n) * dCol' X G n r + W (ix2 1 n) * up 1 (dCol' X G n) r + W (ix2 0 n) * up 2 (dCol' X G n) r = dU X G W n r := by
  unfold dU
  rw [dCol_comm]

/-- The taps' gradient over the other factor order, row by row. -/
theorem specW_0 (X : FVec Ideal S4096x2048 .f32) (G : FVec Ideal S4096x1024 .f32) (n : Fin 512) (r : Fin 3) (h : (r : ℕ) = 0) :
    specW X G (ix2 r n) = ∑ x, up 2 (dCol' X G n) x * uCol X n x := by
  rw [← dCol_comm]
  exact if_pos h
theorem specW_1 (X : FVec Ideal S4096x2048 .f32) (G : FVec Ideal S4096x1024 .f32) (n : Fin 512) (r : Fin 3) (h : (r : ℕ) = 1) :
    specW X G (ix2 r n) = ∑ x, dCol' X G n x * dn 1 (uCol X n) x := by
  rw [← sum_up_mul, ← dCol_comm]
  exact (if_neg (by show ¬ (r : ℕ) = 0; omega)).trans (if_pos h)
theorem specW_2 (X : FVec Ideal S4096x2048 .f32) (G : FVec Ideal S4096x1024 .f32) (n : Fin 512) (r : Fin 3) (h : (r : ℕ) = 2) :
    specW X G (ix2 r n) = ∑ x, dCol' X G n x * uCol X n x := by
  rw [← dCol_comm]
  exact (if_neg (by show ¬ (r : ℕ) = 0; omega)).trans (if_neg (by show ¬ (r : ℕ) = 1; omega))

variable (m : (ℓ : Loc nD τ sig) → Buf (Elt Ideal) ℓ)

set_option maxHeartbeats 1600000 in
/-- Every run of the reference ends with the four gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v71) = specX (m ((c : Thread nD τ).loc main_arg0)) (m ((c : Thread nD τ).loc main_arg1)) (m ((c : Thread nD τ).loc main_arg2))
    ∧ r.2.mem ((c.tc : Thread nD τ).loc main_v73) = specB (m ((c : Thread nD τ).loc main_arg0)) (m ((c : Thread nD τ).loc main_arg1)) (m ((c : Thread nD τ).loc main_arg2))
    ∧ r.2.mem ((c.tc : Thread nD τ).loc main_v75) = specC (m ((c : Thread nD τ).loc main_arg0)) (m ((c : Thread nD τ).loc main_arg1)) (m ((c : Thread nD τ).loc main_arg2))
    ∧ r.2.mem ((c.tc : Thread nD τ).loc main_v63) = specW (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  run_from Cert.SconvReferenceIdeal.Value.run m ρ
  · funext j
    idx_vars j
    pointwise
    refine (mul_comm _ _).trans (congrArg₂ (· * ·) (Eq.trans (congrArg₂ (· + ·) (congrArg₂ (· + ·) (mul_comm _ _) ?_) ?_) (dU_comm _ _ _ j1 j0)) rfl)
    · exact up_one (dCol' (m ((c : Thread nD τ).loc main_arg0)) (m ((c : Thread nD τ).loc main_arg1)) j1) _ j0
    · exact up_two (dCol' (m ((c : Thread nD τ).loc main_arg0)) (m ((c : Thread nD τ).loc main_arg1)) j1) _ j0
  · funext j
    idx_vars j
    pointwise
    refine congrArg₂ (· * ·) rfl (congrArg₂ (· + ·) (congrArg₂ (· + ·) ?_ ?_) (mul_comm _ _))
    · exact (mul_comm _ _).trans (congrArg₂ (· * ·) rfl (dn_two (uCol (m ((c : Thread nD τ).loc main_arg0)) j1) j0))
    · exact (mul_comm _ _).trans (congrArg₂ (· * ·) rfl (dn_one (uCol (m ((c : Thread nD τ).loc main_arg0)) j1) j0))
  · funext j
    idx_vars j
    pointwise
    refine congrArg₂ (· * ·) (Eq.trans (congrArg₂ (· + ·) (congrArg₂ (· + ·) (mul_comm _ _) ?_) ?_) (dU_comm _ _ _ j1 j0)) rfl
    · exact up_one (dCol' (m ((c : Thread nD τ).loc main_arg0)) (m ((c : Thread nD τ).loc main_arg1)) j1) _ j0
    · exact up_two (dCol' (m ((c : Thread nD τ).loc main_arg0)) (m ((c : Thread nD τ).loc main_arg1)) j1) _ j0
  · funext j
    idx_vars j
    pointwise [Value.res_main_v63, HostSums.sum01]
    simp only [Fin.sum_univ_one, zero_mul, Finset.sum_const_zero, zero_add]
    rcases (by omega : (j0 : ℕ) = 0 ∨ (j0 : ℕ) = 1 ∨ (j0 : ℕ) = 2) with h | h | h
    · refine Eq.trans ?_ (specW_0 _ _ j1 j0 h).symm
      rw [dif_neg (by omega), dif_neg (by omega), dif_pos (by omega), zero_add, zero_add]
      exact sum_up_two (dCol' (m ((c : Thread nD τ).loc main_arg0)) (m ((c : Thread nD τ).loc main_arg1)) j1) (uCol (m ((c : Thread nD τ).loc main_arg0)) j1)
    · refine Eq.trans ?_ (specW_1 _ _ j1 j0 h).symm
      rw [dif_neg (by omega), dif_pos (by omega), dif_neg (by omega), zero_add, add_zero]
      show (_ : EReal) = _
      exact Finset.sum_congr rfl fun x _ => (mul_comm _ _).trans (congrArg₂ (· * ·) rfl (dn_one (uCol (m ((c : Thread nD τ).loc main_arg0)) j1) x))
    · refine Eq.trans ?_ (specW_2 _ _ j1 j0 h).symm
      rw [dif_pos (by omega), dif_neg (by omega), dif_neg (by omega), add_zero, add_zero]
      show (_ : EReal) = _
      exact Finset.sum_congr rfl fun x _ => mul_comm (G := EReal) _ _

end Cert.Sconv
-- ==== Proof.SconvClaims.lean ====
/- The claims about the short convolution's gradient. -/
module

public import proofs.«01_k».proof.Defs
public import proofs.«01_k».proof.Proof.Gen.SconvKernel.Frame
public import proofs.«01_k».proof.Proof.Gen.SconvKernelIdeal.Frame
public import proofs.«01_k».proof.Proof.SconvKer
public import proofs.«01_k».proof.Proof.SconvRef
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.Sconv

instance : Cert.SconvKernel.Facts := Cert.SconvKernel.Gen.facts
instance : Cert.SconvKernelIdeal.Facts := Cert.SconvKernelIdeal.Gen.facts
instance : Cert.SconvReferenceIdeal.Facts := Cert.SconvReferenceIdeal.Gen.facts

/-- The kernel runs to its end on machine floats and leaves its arguments as they were. -/
theorem frame_P : Cert.quiescent_SconvKernel := fun m ρ _ => Cert.SconvKernel.Gen.frame m ρ

/-- The same over the extended reals. -/
theorem frame_PI : Cert.quiescent_SconvKernelIdeal := fun m ρ _ => Cert.SconvKernelIdeal.Gen.frame m ρ

/-- The reference runs to its end over the extended reals and leaves its arguments as they were. -/
theorem frame_RI : Cert.quiescent_SconvReferenceIdeal := by
  intro m g _
  hlo_run
  · exact fun _ => ⟨trivial, trivial, trivial⟩
  · exact sem_eq_zero_of_no_sems (sig := Cert.SconvReferenceIdeal.sig) (by decide) _

/-- Kernel and reference end with equal gradients. -/
theorem value : Cert.algebraic_SconvKernelIdeal_SconvReferenceIdeal := by
  pair_intro
  · run_from run_ker m g
  · run_from run_ref m' g'

end Cert.Sconv
-- ==== Proof.NormPure.lean ====
/- The scalar facts behind the root-mean-square norm's gradient, over the extended reals. -/
module

public import Idealize.ShloMosaic.Lib.Pointwise
public import Idealize.ShloMosaic.Lib.IdealHost

@[expose] public section

noncomputable section

open Idealize.ShloMosaic
open scoped BigOperators
namespace Cert.Norm

/-- The bits of 1024. -/
theorem c1024 : Ideal.ofBits .f32 0x44800000#32 = ((1024 : ℝ) : EReal) := by
  simp [Ideal.ofBits, Ideal.ieee]; rw [← EReal.coe_mul]; norm_num
/-- The bits of minus one half. -/
theorem cNegHalf : Ideal.ofBits .f32 0xBF000000#32 = ((-(1 / 2) : ℝ) : EReal) := by
  simp [Ideal.ofBits, Ideal.ieee]; rw [← EReal.coe_mul]; norm_num
/-- The bits of the norm's small constant are a positive real. -/
theorem cEps : ∃ e : ℝ, 0 < e ∧ Ideal.ofBits .f32 0x358637BD#32 = (e : EReal) := by
  refine ⟨_, ?_, by simp [Ideal.ofBits, Ideal.ieee]; rfl⟩
  positivity

/-- A square is not negative. -/
theorem sq_nonneg (x : EReal) : 0 ≤ x * x := by
  induction x with
  | bot => simp
  | top => simp
  | coe r => rw [← EReal.coe_mul]; exact_mod_cast mul_self_nonneg r

/-- Division by 1024 is a multiplication. -/
theorem div_1024 (x : EReal) : Ideal.div x ((1024 : ℝ) : EReal) = x * ((1024⁻¹ : ℝ) : EReal) := by
  unfold Ideal.div
  rw [if_neg (by norm_num), EReal.coe_inv]

/-- Mean square and the small constant: infinite, or a positive real. -/
theorem pos {n : ℕ} (x : Fin n → EReal) :
    (Ideal.div (∑ k, x k * x k) (Ideal.ofBits .f32 0x44800000#32) + Ideal.ofBits .f32 0x358637BD#32 = ⊤)
    ∨ ∃ v : ℝ, 0 < v ∧ Ideal.div (∑ k, x k * x k) (Ideal.ofBits .f32 0x44800000#32) + Ideal.ofBits .f32 0x358637BD#32 = (v : EReal) := by
  obtain ⟨e, he, hE⟩ := cEps
  rw [hE, c1024, div_1024]
  have hs : 0 ≤ ∑ k, x k * x k := Finset.sum_nonneg fun k _ => sq_nonneg _
  generalize (∑ k, x k * x k) = s at hs
  induction s with
  | bot => simp at hs
  | top => left; rw [EReal.top_mul_of_pos (by exact_mod_cast (by norm_num : (0 : ℝ) < 1024⁻¹))]; rfl
  | coe r =>
    right
    have hr : 0 ≤ r := by exact_mod_cast hs
    exact ⟨r * 1024⁻¹ + e, by positivity, by push_cast; rfl⟩

/-- The inverse root over its argument is the inverse root's cube. -/
theorem rsqrt_div {v : EReal} (hv : v = ⊤ ∨ ∃ r : ℝ, 0 < r ∧ v = (r : EReal)) :
    Ideal.div (Ideal.rsqrt v) v = Ideal.rsqrt v * Ideal.rsqrt v * Ideal.rsqrt v := by
  rcases hv with rfl | ⟨r, hr, rfl⟩
  · simp [Ideal.div]
  · have h0 : (r : EReal) ≠ 0 := by exact_mod_cast hr.ne'
    have hs : Real.sqrt r ≠ 0 := (Real.sqrt_pos.2 hr).ne'
    unfold Ideal.div
    rw [if_neg h0, Ideal.rsqrt_coe, if_neg (not_lt.2 hr.le), if_neg hr.ne', ← EReal.coe_inv, ← EReal.coe_mul, ← EReal.coe_mul, ← EReal.coe_mul]
    congr 1
    rw [mul_assoc, ← mul_inv (√r) (√r), Real.mul_self_sqrt hr.le]

/-- Twice an extended real. -/
theorem add_self (y : EReal) : y + y = ((2 : ℝ) : EReal) * y := by
  induction y with
  | bot => rw [EReal.coe_mul_bot_of_pos (by norm_num)]; rfl
  | top => rw [EReal.coe_mul_top_of_pos (by norm_num)]; rfl
  | coe r => rw [← EReal.coe_mul, ← EReal.coe_add]; congr 1; ring

/-- The two halves of the mean square's gradient make the one term the kernel subtracts. -/
theorem grad_eq {n : ℕ} (z : Fin n → EReal) (x a S res : EReal) (i : Fin n) (hx : z i = x) (v : EReal)
    (hv : v = Ideal.div (∑ k, z k * z k) (Ideal.ofBits .f32 0x44800000#32) + Ideal.ofBits .f32 0x358637BD#32) :
    res + a * Ideal.rsqrt v + x * Ideal.div (S * (Ideal.ofBits .f32 0xBF000000#32 * Ideal.div (Ideal.rsqrt v) v)) (Ideal.ofBits .f32 0x44800000#32)
      + Ideal.div (S * (Ideal.ofBits .f32 0xBF000000#32 * Ideal.div (Ideal.rsqrt v) v)) (Ideal.ofBits .f32 0x44800000#32) * x
    = Ideal.rsqrt v * a - x * (Ideal.rsqrt v * Ideal.rsqrt v * Ideal.rsqrt v) * Ideal.div S (Ideal.ofBits .f32 0x44800000#32) + res := by
  rw [rsqrt_div (hv ▸ pos z), c1024, cNegHalf, div_1024, div_1024]
  generalize Ideal.rsqrt v * Ideal.rsqrt v * Ideal.rsqrt v = q
  generalize Ideal.rsqrt v = r
  have h2 : ((2 : ℝ) : EReal) * ((-(1 / 2) : ℝ) : EReal) = ((-1 : ℝ) : EReal) := by rw [← EReal.coe_mul]; norm_num
  have h : x * (S * (((-(1 / 2) : ℝ) : EReal) * q) * ((1024⁻¹ : ℝ) : EReal)) + S * (((-(1 / 2) : ℝ) : EReal) * q) * ((1024⁻¹ : ℝ) : EReal) * x
      = -(x * q * (S * ((1024⁻¹ : ℝ) : EReal))) := by
    rw [mul_comm (S * _ * _) x, add_self]
    calc _ = (((2 : ℝ) : EReal) * ((-(1 / 2) : ℝ) : EReal)) * (x * q * (S * ((1024⁻¹ : ℝ) : EReal))) := by ac_rfl
      _ = _ := by rw [h2]; simp
  rw [add_assoc, h, sub_eq_add_neg, mul_comm a r]
  ac_rfl

/-- Mean square plus the small constant of a row. -/
def msq (x : Fin 1024 → EReal) : EReal := Ideal.div (∑ k, x k * x k) (Ideal.ofBits .f32 0x44800000#32) + Ideal.ofBits .f32 0x358637BD#32

/-- The gradient of a row through the norm, `d` the gradient of the normed row: the kernel's form, a residual added. -/
def dx (d x g : Fin 1024 → EReal) (res : EReal) (c : Fin 1024) : EReal :=
  Ideal.rsqrt (msq x) * (d c * g c)
    - x c * (Ideal.rsqrt (msq x) * Ideal.rsqrt (msq x) * Ideal.rsqrt (msq x)) * Ideal.div (∑ k, d k * g k * x k) (Ideal.ofBits .f32 0x44800000#32)
    + res

/-- The same gradient as the chain rule gives it. -/
def dxRef (d x g : Fin 1024 → EReal) (res : EReal) (c : Fin 1024) : EReal :=
  res + d c * g c * Ideal.rsqrt (msq x)
    + x c * Ideal.div ((∑ k, x k * (d k * g k)) * (Ideal.ofBits .f32 0xBF000000#32 * Ideal.div (Ideal.rsqrt (msq x)) (msq x))) (Ideal.ofBits .f32 0x44800000#32)
    + Ideal.div ((∑ k, x k * (d k * g k)) * (Ideal.ofBits .f32 0xBF000000#32 * Ideal.div (Ideal.rsqrt (msq x)) (msq x))) (Ideal.ofBits .f32 0x44800000#32) * x c

/-- The two forms are equal. -/
theorem dxRef_eq (d x g : Fin 1024 → EReal) (res : EReal) (c : Fin 1024) : dxRef d x g res c = dx d x g res c := by
  unfold dxRef dx
  rw [grad_eq x (x c) (d c * g c) _ res c rfl (msq x) rfl]
  simp only [mul_comm (x _) (d _ * g _)]

/-- A gain's gradient: the rows' sum. -/
def dg {n : ℕ} (d x : Fin n → Fin 1024 → EReal) (c : Fin 1024) : EReal := ∑ i, d i c * (x i c * Ideal.rsqrt (msq (x i)))

end Cert.Norm
-- ==== Proof.UpDx.lean ====
/- The gradient of the feed-forward layer's up projection in its input, and on through the norm before it. -/
module

public import proofs.«01_k».proof.Defs
public import proofs.«01_k».proof.Proof.Gen.UpDxKernel.Frame
public import proofs.«01_k».proof.Proof.Gen.UpDxKernelIdeal.Frame
public import proofs.«01_k».proof.Proof.Gen.UpDxReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.UpDx

section Ker
open Cert.UpDxKernelIdeal Cert.UpDxKernelIdeal.Gen

/-- A column of the first half and of the second half. -/
def lo (k : Fin 2816) : Fin 5632 := ⟨k, by omega⟩
def hi (k : Fin 2816) : Fin 5632 := ⟨2816 + k, by omega⟩

/-- The gradient of the normed row: the product of each half with its half of the weight's columns. -/
def dh (A : FVec Ideal S2x4096x2816 .bf16) (W : FVec Ideal S1024x5632 .bf16) (i : Fin 4096) (c : Fin 1024) : EReal :=
  ∑ k : Fin 2816, A (ix3 (0 : Fin 2) i k) * W (ix2 c (lo k)) + ∑ k : Fin 2816, A (ix3 (1 : Fin 2) i k) * W (ix2 c (hi k))

/-- The gradient of the norm's input, the residual's added. -/
def specDx (A : FVec Ideal S2x4096x2816 .bf16) (W : FVec Ideal S1024x5632 .bf16) (x : FVec Ideal S4096x1024 .f32) (g : FVec Ideal S4x1024 .f32)
    (res : FVec Ideal S4096x1024 .f32) : FVec Ideal S4096x1024 .f32 :=
  fun j => Norm.dx (dh A W (j 0)) (fun k => x (ix2 (j 0) k)) (fun k => g (ix2 (3 : Fin 4) k)) (res j) (j 1)

/-- The gradient of the gains. -/
def specDg (A : FVec Ideal S2x4096x2816 .bf16) (W : FVec Ideal S1024x5632 .bf16) (x : FVec Ideal S4096x1024 .f32) : FVec Ideal S1x1024 .f32 :=
  fun j => Norm.dg (dh A W) (fun i k => x (ix2 i k)) (j 1)

/-- The windows' block indices at every grid point. -/
theorem idx : ∀ t : Fin cfg0.N, win0_0.index t = ![0, t.val, 0] ∧ win0_1.index t = ![0, 0] ∧ win0_2.index t = ![t.val, 0]
    ∧ win0_3.index t = ![3, 0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (h : Fin 2) (r : Fin 512) (k : Fin 2816) :
    iblk m c 0 t (ix3 h r k) = m ((c : Thread nD τ).loc main_arg0) (ix3 h (row t r) k) := by
  unfold row; blk_ext [iblk, V, idx t]
theorem rd1 (c : Dev nD) (t : Fin cfg0.N) (l : Fin 1024) (k : Fin 5632) :
    iblk m c 1 t (ix2 l k) = m ((c : Thread nD τ).loc main_arg1) (ix2 l k) := by
  blk_ext [iblk, V, idx t]
theorem ldA0 (c : Dev nD) (t : Fin cfg0.N) (r : Fin 512) (k : Fin 2816) :
    (View.ld (iblk m c 0 t) (Rect.unit ![0, 0, 0] ![1, 512, 2816] inb_S2x512x2816_S1x512x2816_0_0_0)) (ix3 (0 : Fin 1) r k) = (m ((c : Thread nD τ).loc main_arg0)) (ix3 (0 : Fin 2) (row t r) k) := by
  refine Eq.trans ?_ (rd0 m c t 0 r k); pointwise
theorem ldA1 (c : Dev nD) (t : Fin cfg0.N) (r : Fin 512) (k : Fin 2816) :
    (View.ld (iblk m c 0 t) (Rect.unit ![1, 0, 0] ![1, 512, 2816] inb_S2x512x2816_S1x512x2816_1_0_0)) (ix3 (0 : Fin 1) r k) = (m ((c : Thread nD τ).loc main_arg0)) (ix3 (1 : Fin 2) (row t r) k) := by
  refine Eq.trans ?_ (rd0 m c t 1 r k); pointwise
theorem ldW0 (c : Dev nD) (t : Fin cfg0.N) (l : Fin 1024) (k : Fin 2816) :
    (View.ld (iblk m c 1 t) (Rect.unit ![0, 0] ![1024, 2816] inb_S1024x5632_S1024x2816_0_0)) (ix2 l k) = (m ((c : Thread nD τ).loc main_arg1)) (ix2 l (lo k)) := by
  refine Eq.trans ?_ (rd1 m c t l (lo k)); pointwise [lo]
theorem ldW1 (c : Dev nD) (t : Fin cfg0.N) (l : Fin 1024) (k : Fin 2816) :
    (View.ld (iblk m c 1 t) (Rect.unit ![0, 2816] ![1024, 2816] inb_S1024x5632_S1024x2816_0_2816)) (ix2 l k) = (m ((c : Thread nD τ).loc main_arg1)) (ix2 l (hi k)) := by
  refine Eq.trans ?_ (rd1 m c t l (hi k)); pointwise [hi]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (3 : Fin 4) k) := by
  blk_simp [iblk, idx t]; entry_read; pointwise; blk_ext [idx t]
theorem rd4 (c : Dev nD) (t : Fin cfg0.N) (r : Fin 512) (k : Fin 1024) :
    iblk m c 4 t (ix2 r k) = m ((c : Thread nD τ).loc main_arg4) (ix2 (row t r) k) := by
  unfold row; blk_ext [iblk, V, idx t]
theorem emb5 (t : Fin cfg0.N) (r : Fin 512) (l : Fin 1024) : ((cfg0.win 5).blk t).view.emb (ix2 r l) = ix2 (row t r) l := by
  unfold row; blk_ext [idx t]
theorem emb6 (t : Fin cfg0.N) (r : Fin 512) (l : Fin 1024) : ((cfg0.win 6).blk t).view.emb (ix2 r l) = ix2 (row t r) l := by
  unfold row; blk_ext [idx t]

/-- A block of the product. -/
theorem payD (v0 : FVec Ideal S1x512x2816 .bf16) (v2 : FVec Ideal S1024x2816 .bf16) (v4 : FVec Ideal S1x512x2816 .bf16) (v6 : FVec Ideal S1024x2816 .bf16)
    (r : Fin 512) (l : Fin 1024) :
    k0_pay4 (F := Ideal) v0 v2 v4 v6 (ix2 r l)
      = ∑ k : Fin 2816, v0 (ix3 (0 : Fin 1) r k) * v2 (ix2 l k) + ∑ k : Fin 2816, v4 (ix3 (0 : Fin 1) r k) * v6 (ix2 l k) := by
  pointwise [k0_pay4]
/-- A block's inverse roots. -/
theorem payR (x : FVec Ideal S512x1024 .f32) (r : Fin 512) (z : Fin 1) :
    k0_pay6 (F := Ideal) x (ix2 r z) = Ideal.rsqrt (Norm.msq fun k => x (ix2 r k)) := by
  pointwise [k0_pay6, Norm.msq]
/-- A block of the input's gradient. -/
theorem payX (v0 : FVec Ideal S1x512x2816 .bf16) (v2 : FVec Ideal S1024x2816 .bf16) (v4 : FVec Ideal S1x512x2816 .bf16) (v6 : FVec Ideal S1024x2816 .bf16)
    (x : FVec Ideal S512x1024 .f32) (g : FVec Ideal S1x1x1024 .f32) (res : FVec Ideal S512x1024 .f32) (r : Fin 512) (l : Fin 1024) :
    k0_pay1 (F := Ideal) x (k0_pay6 x) (k0_pay8 v0 v2 v4 v6 x g) (k0_pay9 v0 v2 v4 v6 x g) (k0_pay10 x) res (ix2 r l)
      = Norm.dx (fun k => k0_pay4 (F := Ideal) v0 v2 v4 v6 (ix2 r k)) (fun k => x (ix2 r k)) (fun k => g (ix3 0 0 k)) (res (ix2 r l)) l := by
  pointwise [k0_pay1, k0_pay7, k0_pay8, k0_pay9, k0_pay10, payR, Norm.dx]
/-- The gains' gradient: what the buffer held and a block's part. -/
theorem payG (d x : FVec Ideal S512x1024 .f32) (v : FVec Ideal S512x1 .f32) (acc : FVec Ideal S1x1024 .f32) (j : S1x1024.Idx) :
    k0_pay3 (F := Ideal) d x v acc j = acc j + ∑ r : Fin 512, d (ix2 r (j 1)) * (x (ix2 r (j 1)) * v (ix2 r 0)) := by
  idx_vars j
  pointwise [k0_pay3]
theorem payZ (j : S1x1024.Idx) : k0_pay5 (F := Ideal) j = 0 := by
  pointwise! [k0_pay5]

/-- A block of the normed row's gradient. -/
theorem blkD (c : Dev nD) (t : Fin cfg0.N) (r : Fin 512) (l : Fin 1024) :
    k0_pay4 (F := Ideal) (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (ix2 r l)
      = dh (m ((c : Thread nD τ).loc main_arg0)) (m ((c : Thread nD τ).loc main_arg1)) (row t r) l :=
  (payD _ _ _ _ r l).trans (congrArg₂ (· + ·)
    (Finset.sum_congr rfl fun k _ => congrArg₂ (· * ·) (ldA0 m c t r k) (ldW0 m c t l k))
    (Finset.sum_congr rfl fun k _ => congrArg₂ (· * ·) (ldA1 m c t r k) (ldW1 m c t l k)))

/-- The block that the grid point `t` writes of the input's gradient. -/
theorem blkX (c : Dev nD) (t : Fin cfg0.N) (y : S512x1024.Idx) :
    k0_pay1 (F := Ideal) (iblk m c 2 t) (k0_pay6 (iblk m c 2 t)) (k0_pay8 (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (iblk m c 2 t) (iblk m c 3 t))
      (k0_pay9 (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (iblk m c 2 t) (iblk m c 3 t)) (k0_pay10 (iblk m c 2 t)) (iblk m c 4 t) y
      = specDx (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1)) := by
  obtain ⟨r, l, rfl⟩ : ∃ (r : Fin 512) (l : Fin 1024), y = ix2 r l := ⟨y 0, y 1, eq_ix2 y⟩
  refine (payX _ _ _ _ _ _ _ r l).trans ?_
  rw [funext fun l => blkD m c t r l, funext fun k => rd2 m c t r k, funext fun k => rd3 m c t k, rd4 m c t r l]
  rfl

/-- One row's part of the gains' gradient. -/
def rowG (A : FVec Ideal S2x4096x2816 .bf16) (W : FVec Ideal S1024x5632 .bf16) (x : FVec Ideal S4096x1024 .f32) (l : Fin 1024) (i : Fin 4096) : EReal :=
  dh A W i l * (x (ix2 i l) * Ideal.rsqrt (Norm.msq fun k => x (ix2 i k)))

theorem blkG (c : Dev nD) (t : Fin cfg0.N) (r : Fin 512) (l : Fin 1024) (X : FVec Ideal S512x1024 .f32) (hX : X = iblk m c 2 t) :
    k0_pay4 (F := Ideal) (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (ix2 r l) * (X (ix2 r l) * k0_pay6 (F := Ideal) X (ix2 r 0))
      = rowG (m ((c : Thread nD τ).loc main_arg0)) (m ((c : Thread nD τ).loc main_arg1)) (m ((c : Thread nD τ).loc main_arg2)) l (row t r) := by
  subst hX
  rw [blkD, payR, rd2, funext fun k => rd2 m c t r k]
  rfl

/-- The run leaves the input's gradient -/
theorem final5 (c : Dev nD) : (dats m 0 c).arrAt 5 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- The copy of it in the narrow format. -/
theorem final6 (c : Dev nD) : (dats m 0 c).arrAt 6 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]
  obtain ⟨r, l, rfl⟩ : ∃ (r : Fin 512) (l : Fin 1024), y = ix2 r l := ⟨y 0, y 1, eq_ix2 y⟩
  refine Eq.trans ?_ (congrArg _ (emb6 t r l)).symm
  by_cases h : t.val % 8 = 0
  · rw [outsAt0_A m c t h]; frame_out; exact blkX m c t _
  · rw [outsAt0_B m c t h]; frame_out; exact blkX m c t _

/-- The run leaves the gains' gradient. -/
theorem final7 (c : Dev nD) : (dats m 0 c).arrAt 7 (cfgs 0).N
    = specDg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ _ j).trans ?_; rw [payZ]; exact congrArg _ (Finset.sum_congr rfl fun r _ => blkG m c t r (j 1) _ rfl))
    (fun t h j => by rw [outsAt0_B m c t h]; frame_out; refine (payG _ _ _ _ j).trans ?_; exact congrArg _ (Finset.sum_congr rfl fun r _ => blkG m c t r (j 1) _ rfl))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_1) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_2) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.UpDxKernelIdeal.Gen.run_main m ρ
  · exact final5 m c
  · exact final6 m c
  · exact final7 m c

end Ker

section Ref
open Cert.UpDxReferenceIdeal Cert.UpDxReferenceIdeal.Gen

variable (m : (ℓ : Loc nD τ sig) → Buf (Elt Ideal) ℓ)

/-- The reference's first result is the same gradient. -/
theorem ref0 (c : Dev nD) : Value.res_out0 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  idx_vars j
  refine Eq.trans ?_ (Norm.dxRef_eq _ _ _ _ _)
  pointwise [Value.res_out0, Value.res_main_v47, Norm.dxRef, Norm.msq, dh, lo, hi]
  simp only [Finset.univ_unique, Finset.sum_singleton]

/-- Its second result is the first. -/
theorem ref1 (c : Dev nD) : Value.res_out1 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (ref0 m c)
  rfl

/-- Every run of the reference ends with the same gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v47) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v48) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v49) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.UpDxReferenceIdeal.Value.run m ρ
  · exact ref0 m c
  · exact ref1 m c
  · funext j
    idx_vars j
    pointwise [specDg, Norm.dg, Norm.msq, dh, lo, hi]
    refine (Fin.sum_univ_one (M := EReal) _).trans ?_
    exact Finset.sum_congr rfl fun i _ => mul_comm (G := EReal) _ _

end Ref

instance : Cert.UpDxKernel.Facts := Cert.UpDxKernel.Gen.facts
instance : Cert.UpDxKernelIdeal.Facts := Cert.UpDxKernelIdeal.Gen.facts
instance : Cert.UpDxReferenceIdeal.Facts := Cert.UpDxReferenceIdeal.Gen.facts

/-- The kernel runs to its end on machine floats and leaves its arguments as they were. -/
theorem frame_P : Cert.quiescent_UpDxKernel := fun m ρ _ => Cert.UpDxKernel.Gen.frame m ρ

/-- The same over the extended reals. -/
theorem frame_PI : Cert.quiescent_UpDxKernelIdeal := fun m ρ _ => Cert.UpDxKernelIdeal.Gen.frame m ρ

/-- The reference runs to its end over the extended reals and leaves its arguments as they were. -/
theorem frame_RI : Cert.quiescent_UpDxReferenceIdeal := by
  intro m g _
  hlo_run
  · exact fun _ => ⟨trivial, trivial, trivial, trivial, trivial⟩
  · exact sem_eq_zero_of_no_sems (sig := Cert.UpDxReferenceIdeal.sig) (by decide) _

/-- Kernel and reference end with equal results. -/
theorem value : Cert.algebraic_UpDxKernelIdeal_UpDxReferenceIdeal := by
  pair_intro
  · run_from run_ker m g
  · run_from run_ref m' g'

end Cert.UpDx
-- ==== Proof.EvenDx.lean ====
/- The gradient of the even mixers' input projection in its input, and on through the norm before it. -/
module

public import proofs.«01_k».proof.Defs
public import proofs.«01_k».proof.Proof.Gen.EvenDxKernel.Frame
public import proofs.«01_k».proof.Proof.Gen.EvenDxKernelIdeal.Frame
public import proofs.«01_k».proof.Proof.Gen.EvenDxReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.EvenDx

section Ker
open Cert.EvenDxKernelIdeal Cert.EvenDxKernelIdeal.Gen

/-- The gradient of the normed row: a plain product. -/
def dh (A : FVec Ideal S4096x2048 .bf16) (W : FVec Ideal S1024x2048 .bf16) (i : Fin 4096) (c : Fin 1024) : EReal :=
  ∑ k : Fin 2048, A (ix2 i k) * W (ix2 c k)

/-- The gradient of the norm's input, the residual's added. -/
def specDx (A : FVec Ideal S4096x2048 .bf16) (W : FVec Ideal S1024x2048 .bf16) (x : FVec Ideal S4096x1024 .f32) (g : FVec Ideal S4x1024 .f32)
    (res : FVec Ideal S4096x1024 .f32) : FVec Ideal S4096x1024 .f32 :=
  fun j => Norm.dx (dh A W (j 0)) (fun k => x (ix2 (j 0) k)) (fun k => g (ix2 (2 : Fin 4) k)) (res j) (j 1)

/-- The gradient of the gains. -/
def specDg (A : FVec Ideal S4096x2048 .bf16) (W : FVec Ideal S1024x2048 .bf16) (x : FVec Ideal S4096x1024 .f32) : FVec Ideal S1x1024 .f32 :=
  fun j => Norm.dg (dh A W) (fun i k => x (ix2 i k)) (j 1)

/-- The windows' block indices at every grid point. -/
theorem idx : ∀ t : Fin cfg0.N, win0_0.index t = ![t.val, 0] ∧ win0_1.index t = ![0, 0] ∧ win0_2.index t = ![t.val, 0]
    ∧ win0_3.index t = ![2, 0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 2048) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 2048) :
    iblk m c 1 t (ix2 l k) = m ((c : Thread nD τ).loc main_arg1) (ix2 l k) := by
  blk_ext [iblk, V, idx t]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (2 : Fin 4) k) := by
  blk_simp [iblk, idx t]; entry_read; pointwise; blk_ext [idx t]
theorem rd4 (c : Dev nD) (t : Fin cfg0.N) (r : Fin 512) (k : Fin 1024) :
    iblk m c 4 t (ix2 r k) = m ((c : Thread nD τ).loc main_arg4) (ix2 (row t r) k) := by
  unfold row; blk_ext [iblk, V, idx t]
theorem emb5 (t : Fin cfg0.N) (r : Fin 512) (l : Fin 1024) : ((cfg0.win 5).blk t).view.emb (ix2 r l) = ix2 (row t r) l := by
  unfold row; blk_ext [idx t]
theorem emb6 (t : Fin cfg0.N) (r : Fin 512) (l : Fin 1024) : ((cfg0.win 6).blk t).view.emb (ix2 r l) = ix2 (row t r) l := by
  unfold row; blk_ext [idx t]

/-- A block of the product. -/
theorem payD (v0 : FVec Ideal S512x2048 .bf16) (v1 : FVec Ideal S1024x2048 .bf16) (r : Fin 512) (l : Fin 1024) :
    k0_pay3 (F := Ideal) v0 v1 (ix2 r l) = ∑ k : Fin 2048, v0 (ix2 r k) * v1 (ix2 l k) := by
  pointwise [k0_pay3]
/-- A block's inverse roots. -/
theorem payR (x : FVec Ideal S512x1024 .f32) (r : Fin 512) (z : Fin 1) :
    k0_pay5 (F := Ideal) x (ix2 r z) = Ideal.rsqrt (Norm.msq fun k => x (ix2 r k)) := by
  pointwise [k0_pay5, Norm.msq]
/-- A block of the input's gradient. -/
theorem payX (v0 : FVec Ideal S512x2048 .bf16) (v1 : FVec Ideal S1024x2048 .bf16) (x : FVec Ideal S512x1024 .f32) (g : FVec Ideal S1x1x1024 .f32)
    (res : FVec Ideal S512x1024 .f32) (r : Fin 512) (l : Fin 1024) :
    k0_pay7 (F := Ideal) v0 v1 x g res (ix2 r l)
      = Norm.dx (fun k => k0_pay3 (F := Ideal) v0 v1 (ix2 r k)) (fun k => x (ix2 r k)) (fun k => g (ix3 0 0 k)) (res (ix2 r l)) l := by
  pointwise [k0_pay7, payR, Norm.dx]
/-- The gains' gradient: what the buffer held and a block's part. -/
theorem payG (d v34 : FVec Ideal S512x1024 .f32) (acc : FVec Ideal S1x1024 .f32) (j : S1x1024.Idx) :
    k0_pay2 (F := Ideal) d v34 acc j = acc j + ∑ r : Fin 512, d (ix2 r (j 1)) * v34 (ix2 r (j 1)) := by
  idx_vars j
  pointwise [k0_pay2]
theorem payZ (j : S1x1024.Idx) : k0_pay4 (F := Ideal) j = 0 := by
  pointwise! [k0_pay4]
theorem payN (x : FVec Ideal S512x1024 .f32) (r : Fin 512) (l : Fin 1024) :
    k0_pay6 (F := Ideal) x (ix2 r l) = x (ix2 r l) * Ideal.rsqrt (Norm.msq fun k => x (ix2 r k)) := by
  pointwise [k0_pay6, payR]

/-- The block that the grid point `t` writes of the input's gradient. -/
theorem blkX (c : Dev nD) (t : Fin cfg0.N) (y : S512x1024.Idx) :
    k0_pay7 (F := Ideal) (iblk m c 0 t) (iblk m c 1 t) (iblk m c 2 t) (iblk m c 3 t) (iblk m c 4 t) y
      = specDx (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1)) := by
  obtain ⟨r, l, rfl⟩ : ∃ (r : Fin 512) (l : Fin 1024), y = ix2 r l := ⟨y 0, y 1, eq_ix2 y⟩
  refine (payX _ _ _ _ _ r l).trans ?_
  have h0 : (fun k => k0_pay3 (F := Ideal) (iblk m c 0 t) (iblk m c 1 t) (ix2 r k))
      = dh (m ((c : Thread nD τ).loc main_arg0)) (m ((c : Thread nD τ).loc main_arg1)) (row t r) :=
    funext fun l => (payD _ _ r l).trans (Finset.sum_congr rfl fun k _ => congrArg₂ (· * ·) (rd0 m c t r k) (rd1 m c t l k))
  rw [h0, funext fun k => rd2 m c t r k, funext fun k => rd3 m c t k, rd4 m c t r l]
  rfl

/-- One row's part of the gains' gradient. -/
def rowG (A : FVec Ideal S4096x2048 .bf16) (W : FVec Ideal S1024x2048 .bf16) (x : FVec Ideal S4096x1024 .f32) (l : Fin 1024) (i : Fin 4096) : EReal :=
  dh A W i l * (x (ix2 i l) * Ideal.rsqrt (Norm.msq fun k => x (ix2 i k)))

theorem blkG (c : Dev nD) (t : Fin cfg0.N) (r : Fin 512) (l : Fin 1024) :
    k0_pay3 (F := Ideal) (iblk m c 0 t) (iblk m c 1 t) (ix2 r l) * k0_pay6 (F := Ideal) (iblk m c 2 t) (ix2 r l) = rowG (m ((c : Thread nD τ).loc main_arg0)) (m ((c : Thread nD τ).loc main_arg1)) (m ((c : Thread nD τ).loc main_arg2)) l (row t r) := by
  have h0 : k0_pay3 (F := Ideal) (iblk m c 0 t) (iblk m c 1 t) (ix2 r l)
      = dh (m ((c : Thread nD τ).loc main_arg0)) (m ((c : Thread nD τ).loc main_arg1)) (row t r) l :=
    (payD _ _ r l).trans (Finset.sum_congr rfl fun k _ => congrArg₂ (· * ·) (rd0 m c t r k) (rd1 m c t l k))
  rw [h0, payN, rd2, funext fun k => rd2 m c t r k]
  rfl

/-- The run leaves the input's gradient -/
theorem final5 (c : Dev nD) : (dats m 0 c).arrAt 5 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- The copy of it in the narrow format. -/
theorem final6 (c : Dev nD) : (dats m 0 c).arrAt 6 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]
  obtain ⟨r, l, rfl⟩ : ∃ (r : Fin 512) (l : Fin 1024), y = ix2 r l := ⟨y 0, y 1, eq_ix2 y⟩
  refine Eq.trans ?_ (congrArg _ (emb6 t r l)).symm
  by_cases h : t.val % 8 = 0
  · rw [outsAt0_A m c t h]; frame_out; exact blkX m c t _
  · rw [outsAt0_B m c t h]; frame_out; exact blkX m c t _

/-- The run leaves the gains' gradient. -/
theorem final7 (c : Dev nD) : (dats m 0 c).arrAt 7 (cfgs 0).N
    = specDg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ j).trans ?_; rw [payZ]; exact congrArg _ (Finset.sum_congr rfl fun r _ => blkG m c t r (j 1)))
    (fun t h j => by rw [outsAt0_B m c t h]; frame_out; refine (payG _ _ _ j).trans ?_; exact congrArg _ (Finset.sum_congr rfl fun r _ => blkG m c t r (j 1)))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_1) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_2) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.EvenDxKernelIdeal.Gen.run_main m ρ
  · exact final5 m c
  · exact final6 m c
  · exact final7 m c

end Ker

section Ref
open Cert.EvenDxReferenceIdeal Cert.EvenDxReferenceIdeal.Gen

variable (m : (ℓ : Loc nD τ sig) → Buf (Elt Ideal) ℓ)

/-- The reference's first result is the same gradient. -/
theorem ref0 (c : Dev nD) : Value.res_out0 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  idx_vars j
  refine Eq.trans ?_ (Norm.dxRef_eq _ _ _ _ _)
  pointwise [Value.res_out0, Value.res_main_v42, Norm.dxRef, Norm.msq, dh]
  simp only [Finset.univ_unique, Finset.sum_singleton]

/-- Its second result is the first. -/
theorem ref1 (c : Dev nD) : Value.res_out1 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (ref0 m c)
  rfl

/-- Every run of the reference ends with the same gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v42) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v43) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v44) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.EvenDxReferenceIdeal.Value.run m ρ
  · exact ref0 m c
  · exact ref1 m c
  · funext j
    idx_vars j
    pointwise [specDg, Norm.dg, Norm.msq, dh]
    refine (Fin.sum_univ_one (M := EReal) _).trans ?_
    exact Finset.sum_congr rfl fun i _ => mul_comm (G := EReal) _ _

end Ref

instance : Cert.EvenDxKernel.Facts := Cert.EvenDxKernel.Gen.facts
instance : Cert.EvenDxKernelIdeal.Facts := Cert.EvenDxKernelIdeal.Gen.facts
instance : Cert.EvenDxReferenceIdeal.Facts := Cert.EvenDxReferenceIdeal.Gen.facts

/-- The kernel runs to its end on machine floats and leaves its arguments as they were. -/
theorem frame_P : Cert.quiescent_EvenDxKernel := fun m ρ _ => Cert.EvenDxKernel.Gen.frame m ρ

/-- The same over the extended reals. -/
theorem frame_PI : Cert.quiescent_EvenDxKernelIdeal := fun m ρ _ => Cert.EvenDxKernelIdeal.Gen.frame m ρ

/-- The reference runs to its end over the extended reals and leaves its arguments as they were. -/
theorem frame_RI : Cert.quiescent_EvenDxReferenceIdeal := by
  intro m g _
  hlo_run
  · exact fun _ => ⟨trivial, trivial, trivial, trivial, trivial⟩
  · exact sem_eq_zero_of_no_sems (sig := Cert.EvenDxReferenceIdeal.sig) (by decide) _

/-- Kernel and reference end with equal results. -/
theorem value : Cert.algebraic_EvenDxKernelIdeal_EvenDxReferenceIdeal := by
  pair_intro
  · run_from run_ker m g
  · run_from run_ref m' g'

end Cert.EvenDx
-- ==== Proof.OddDx.lean ====
/- The gradient of the odd mixers' input projection in its input, and on through the norm before it. -/
module

public import proofs.«01_k».proof.Defs
public import proofs.«01_k».proof.Proof.Gen.OddDxKernel.Frame
public import proofs.«01_k».proof.Proof.Gen.OddDxKernelIdeal.Frame
public import proofs.«01_k».proof.Proof.Gen.OddDxReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.OddDx

section Ker
open Cert.OddDxKernelIdeal Cert.OddDxKernelIdeal.Gen

/-- The gradient of the normed row: a plain product. -/
def dh (A : FVec Ideal S4096x1536 .bf16) (W : FVec Ideal S1024x1536 .bf16) (i : Fin 4096) (c : Fin 1024) : EReal :=
  ∑ k : Fin 1536, A (ix2 i k) * W (ix2 c k)

/-- The gradient of the norm's input, the residual's added. -/
def specDx (A : FVec Ideal S4096x1536 .bf16) (W : FVec Ideal S1024x1536 .bf16) (x : FVec Ideal S4096x1024 .f32) (g : FVec Ideal S4x1024 .f32)
    (res : FVec Ideal S4096x1024 .f32) : FVec Ideal S4096x1024 .f32 :=
  fun j => Norm.dx (dh A W (j 0)) (fun k => x (ix2 (j 0) k)) (fun k => g (ix2 (3 : Fin 4) k)) (res j) (j 1)

/-- The gradient of the gains. -/
def specDg (A : FVec Ideal S4096x1536 .bf16) (W : FVec Ideal S1024x1536 .bf16) (x : FVec Ideal S4096x1024 .f32) : FVec Ideal S1x1024 .f32 :=
  fun j => Norm.dg (dh A W) (fun i k => x (ix2 i k)) (j 1)

/-- The windows' block indices at every grid point. -/
theorem idx : ∀ t : Fin cfg0.N, win0_0.index t = ![t.val, 0] ∧ win0_1.index t = ![0, 0] ∧ win0_2.index t = ![t.val, 0]
    ∧ win0_3.index t = ![3, 0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 1536) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 1536) :
    iblk m c 1 t (ix2 l k) = m ((c : Thread nD τ).loc main_arg1) (ix2 l k) := by
  blk_ext [iblk, V, idx t]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (3 : Fin 4) k) := by
  blk_simp [iblk, idx t]; entry_read; pointwise; blk_ext [idx t]
theorem rd4 (c : Dev nD) (t : Fin cfg0.N) (r : Fin 512) (k : Fin 1024) :
    iblk m c 4 t (ix2 r k) = m ((c : Thread nD τ).loc main_arg4) (ix2 (row t r) k) := by
  unfold row; blk_ext [iblk, V, idx t]
theorem emb5 (t : Fin cfg0.N) (r : Fin 512) (l : Fin 1024) : ((cfg0.win 5).blk t).view.emb (ix2 r l) = ix2 (row t r) l := by
  unfold row; blk_ext [idx t]
theorem emb6 (t : Fin cfg0.N) (r : Fin 512) (l : Fin 1024) : ((cfg0.win 6).blk t).view.emb (ix2 r l) = ix2 (row t r) l := by
  unfold row; blk_ext [idx t]

/-- A block of the product. -/
theorem payD (v0 : FVec Ideal S512x1536 .bf16) (v1 : FVec Ideal S1024x1536 .bf16) (r : Fin 512) (l : Fin 1024) :
    k0_pay3 (F := Ideal) v0 v1 (ix2 r l) = ∑ k : Fin 1536, v0 (ix2 r k) * v1 (ix2 l k) := by
  pointwise [k0_pay3]
/-- A block's inverse roots. -/
theorem payR (x : FVec Ideal S512x1024 .f32) (r : Fin 512) (z : Fin 1) :
    k0_pay5 (F := Ideal) x (ix2 r z) = Ideal.rsqrt (Norm.msq fun k => x (ix2 r k)) := by
  pointwise [k0_pay5, Norm.msq]
/-- A block of the input's gradient. -/
theorem payX (v0 : FVec Ideal S512x1536 .bf16) (v1 : FVec Ideal S1024x1536 .bf16) (x : FVec Ideal S512x1024 .f32) (g : FVec Ideal S1x1x1024 .f32)
    (res : FVec Ideal S512x1024 .f32) (r : Fin 512) (l : Fin 1024) :
    k0_pay7 (F := Ideal) v0 v1 x g res (ix2 r l)
      = Norm.dx (fun k => k0_pay3 (F := Ideal) v0 v1 (ix2 r k)) (fun k => x (ix2 r k)) (fun k => g (ix3 0 0 k)) (res (ix2 r l)) l := by
  pointwise [k0_pay7, payR, Norm.dx]
/-- The gains' gradient: what the buffer held and a block's part. -/
theorem payG (d v34 : FVec Ideal S512x1024 .f32) (acc : FVec Ideal S1x1024 .f32) (j : S1x1024.Idx) :
    k0_pay2 (F := Ideal) d v34 acc j = acc j + ∑ r : Fin 512, d (ix2 r (j 1)) * v34 (ix2 r (j 1)) := by
  idx_vars j
  pointwise [k0_pay2]
theorem payZ (j : S1x1024.Idx) : k0_pay4 (F := Ideal) j = 0 := by
  pointwise! [k0_pay4]
theorem payN (x : FVec Ideal S512x1024 .f32) (r : Fin 512) (l : Fin 1024) :
    k0_pay6 (F := Ideal) x (ix2 r l) = x (ix2 r l) * Ideal.rsqrt (Norm.msq fun k => x (ix2 r k)) := by
  pointwise [k0_pay6, payR]

/-- The block that the grid point `t` writes of the input's gradient. -/
theorem blkX (c : Dev nD) (t : Fin cfg0.N) (y : S512x1024.Idx) :
    k0_pay7 (F := Ideal) (iblk m c 0 t) (iblk m c 1 t) (iblk m c 2 t) (iblk m c 3 t) (iblk m c 4 t) y
      = specDx (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1)) := by
  obtain ⟨r, l, rfl⟩ : ∃ (r : Fin 512) (l : Fin 1024), y = ix2 r l := ⟨y 0, y 1, eq_ix2 y⟩
  refine (payX _ _ _ _ _ r l).trans ?_
  have h0 : (fun k => k0_pay3 (F := Ideal) (iblk m c 0 t) (iblk m c 1 t) (ix2 r k))
      = dh (m ((c : Thread nD τ).loc main_arg0)) (m ((c : Thread nD τ).loc main_arg1)) (row t r) :=
    funext fun l => (payD _ _ r l).trans (Finset.sum_congr rfl fun k _ => congrArg₂ (· * ·) (rd0 m c t r k) (rd1 m c t l k))
  rw [h0, funext fun k => rd2 m c t r k, funext fun k => rd3 m c t k, rd4 m c t r l]
  rfl

/-- One row's part of the gains' gradient. -/
def rowG (A : FVec Ideal S4096x1536 .bf16) (W : FVec Ideal S1024x1536 .bf16) (x : FVec Ideal S4096x1024 .f32) (l : Fin 1024) (i : Fin 4096) : EReal :=
  dh A W i l * (x (ix2 i l) * Ideal.rsqrt (Norm.msq fun k => x (ix2 i k)))

theorem blkG (c : Dev nD) (t : Fin cfg0.N) (r : Fin 512) (l : Fin 1024) :
    k0_pay3 (F := Ideal) (iblk m c 0 t) (iblk m c 1 t) (ix2 r l) * k0_pay6 (F := Ideal) (iblk m c 2 t) (ix2 r l) = rowG (m ((c : Thread nD τ).loc main_arg0)) (m ((c : Thread nD τ).loc main_arg1)) (m ((c : Thread nD τ).loc main_arg2)) l (row t r) := by
  have h0 : k0_pay3 (F := Ideal) (iblk m c 0 t) (iblk m c 1 t) (ix2 r l)
      = dh (m ((c : Thread nD τ).loc main_arg0)) (m ((c : Thread nD τ).loc main_arg1)) (row t r) l :=
    (payD _ _ r l).trans (Finset.sum_congr rfl fun k _ => congrArg₂ (· * ·) (rd0 m c t r k) (rd1 m c t l k))
  rw [h0, payN, rd2, funext fun k => rd2 m c t r k]
  rfl

/-- The run leaves the input's gradient -/
theorem final5 (c : Dev nD) : (dats m 0 c).arrAt 5 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- The copy of it in the narrow format. -/
theorem final6 (c : Dev nD) : (dats m 0 c).arrAt 6 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]
  obtain ⟨r, l, rfl⟩ : ∃ (r : Fin 512) (l : Fin 1024), y = ix2 r l := ⟨y 0, y 1, eq_ix2 y⟩
  refine Eq.trans ?_ (congrArg _ (emb6 t r l)).symm
  by_cases h : t.val % 8 = 0
  · rw [outsAt0_A m c t h]; frame_out; exact blkX m c t _
  · rw [outsAt0_B m c t h]; frame_out; exact blkX m c t _

/-- The run leaves the gains' gradient. -/
theorem final7 (c : Dev nD) : (dats m 0 c).arrAt 7 (cfgs 0).N
    = specDg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ j).trans ?_; rw [payZ]; exact congrArg _ (Finset.sum_congr rfl fun r _ => blkG m c t r (j 1)))
    (fun t h j => by rw [outsAt0_B m c t h]; frame_out; refine (payG _ _ _ j).trans ?_; exact congrArg _ (Finset.sum_congr rfl fun r _ => blkG m c t r (j 1)))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_1) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_2) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.OddDxKernelIdeal.Gen.run_main m ρ
  · exact final5 m c
  · exact final6 m c
  · exact final7 m c

end Ker

section Ref
open Cert.OddDxReferenceIdeal Cert.OddDxReferenceIdeal.Gen

variable (m : (ℓ : Loc nD τ sig) → Buf (Elt Ideal) ℓ)

/-- The reference's first result is the same gradient. -/
theorem ref0 (c : Dev nD) : Value.res_out0 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  idx_vars j
  refine Eq.trans ?_ (Norm.dxRef_eq _ _ _ _ _)
  pointwise [Value.res_out0, Value.res_main_v42, Norm.dxRef, Norm.msq, dh]
  simp only [Finset.univ_unique, Finset.sum_singleton]

/-- Its second result is the first. -/
theorem ref1 (c : Dev nD) : Value.res_out1 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (ref0 m c)
  rfl

/-- Every run of the reference ends with the same gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v42) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v43) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v44) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.OddDxReferenceIdeal.Value.run m ρ
  · exact ref0 m c
  · exact ref1 m c
  · funext j
    idx_vars j
    pointwise [specDg, Norm.dg, Norm.msq, dh]
    refine (Fin.sum_univ_one (M := EReal) _).trans ?_
    exact Finset.sum_congr rfl fun i _ => mul_comm (G := EReal) _ _

end Ref

instance : Cert.OddDxKernel.Facts := Cert.OddDxKernel.Gen.facts
instance : Cert.OddDxKernelIdeal.Facts := Cert.OddDxKernelIdeal.Gen.facts
instance : Cert.OddDxReferenceIdeal.Facts := Cert.OddDxReferenceIdeal.Gen.facts

/-- The kernel runs to its end on machine floats and leaves its arguments as they were. -/
theorem frame_P : Cert.quiescent_OddDxKernel := fun m ρ _ => Cert.OddDxKernel.Gen.frame m ρ

/-- The same over the extended reals. -/
theorem frame_PI : Cert.quiescent_OddDxKernelIdeal := fun m ρ _ => Cert.OddDxKernelIdeal.Gen.frame m ρ

/-- The reference runs to its end over the extended reals and leaves its arguments as they were. -/
theorem frame_RI : Cert.quiescent_OddDxReferenceIdeal := by
  intro m g _
  hlo_run
  · exact fun _ => ⟨trivial, trivial, trivial, trivial, trivial⟩
  · exact sem_eq_zero_of_no_sems (sig := Cert.OddDxReferenceIdeal.sig) (by decide) _

/-- Kernel and reference end with equal results. -/
theorem value : Cert.algebraic_OddDxKernelIdeal_OddDxReferenceIdeal := by
  pair_intro
  · run_from run_ker m g
  · run_from run_ref m' g'

end Cert.OddDx
-- ==== Proof.DownDx.lean ====
/- The gradient of the down projection in its input: the product with the transposed weights. -/
module

public import proofs.«01_k».proof.Defs
public import proofs.«01_k».proof.Proof.Gen.DownDxKernel.Frame
public import proofs.«01_k».proof.Proof.Gen.DownDxKernelIdeal.Frame
public import proofs.«01_k».proof.Proof.Gen.DownDxReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.DownDx

section Ker
open Cert.DownDxKernelIdeal Cert.DownDxKernelIdeal.Gen

/-- The product, entry by entry. -/
def spec (A : FVec Ideal S4096x1024 .bf16) (B : FVec Ideal S2816x1024 .bf16) : FVec Ideal S4096x2816 .bf16 :=
  fun j => ∑ k : Fin 1024, A (ix2 (j 0) k) * B (ix2 (j 1) k)

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row and the column of the result a block's entry sits at. -/
def row (t : Fin cfg0.N) (r : Fin 1024) : Fin 4096 := ⟨t.val * 1024 + r, by have := t_lt t; omega⟩
def col (t : Fin cfg0.N) (l : Fin 2816) : Fin 2816 := ⟨(l : ℕ), by have := t_lt t; omega⟩

theorem rd0 (c : Dev nD) (t : Fin cfg0.N) (r : Fin 1024) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 2816) (k : Fin 1024) :
    iblk m c 1 t (ix2 l k) = m ((c : Thread nD τ).loc main_arg1) (ix2 (col t l) k) := by
  unfold col; blk_ext [iblk, V, idx t]
theorem emb2 (t : Fin cfg0.N) (r : Fin 1024) (l : Fin 2816) : ((cfg0.win 2).blk t).view.emb (ix2 r l) = ix2 (row t r) (col t l) := by
  unfold row col; blk_ext [idx t]

/-- A block's product, entry by entry. -/
theorem pay (x0 : FVec Ideal S1024x1024 .bf16) (x1 : FVec Ideal S2816x1024 .bf16) (r : Fin 1024) (l : Fin 2816) :
    k0_pay1 (F := Ideal) x0 x1 (ix2 r l) = ∑ k : Fin 1024, x0 (ix2 r k) * x1 (ix2 l k) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 1024) (l : Fin 2816), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.DownDxKernelIdeal.Gen.run_main m ρ
  exact final m c

end Ker

section Ref
open Cert.DownDxReferenceIdeal Cert.DownDxReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v5) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.DownDxReferenceIdeal.Value.run m ρ
  funext j
  idx_vars j
  pointwise
  rfl

end Ref

instance : Cert.DownDxKernel.Facts := Cert.DownDxKernel.Gen.facts
instance : Cert.DownDxKernelIdeal.Facts := Cert.DownDxKernelIdeal.Gen.facts
instance : Cert.DownDxReferenceIdeal.Facts := Cert.DownDxReferenceIdeal.Gen.facts

/-- The kernel runs to its end on machine floats and leaves its arguments as they were. -/
theorem frame_P : Cert.quiescent_DownDxKernel := fun m ρ _ => Cert.DownDxKernel.Gen.frame m ρ

/-- The same over the extended reals. -/
theorem frame_PI : Cert.quiescent_DownDxKernelIdeal := fun m ρ _ => Cert.DownDxKernelIdeal.Gen.frame m ρ

/-- The reference runs to its end over the extended reals and leaves its arguments as they were. -/
theorem frame_RI : Cert.quiescent_DownDxReferenceIdeal := by
  intro m g _
  hlo_run
  · exact fun _ => ⟨trivial, trivial⟩
  · exact sem_eq_zero_of_no_sems (sig := Cert.DownDxReferenceIdeal.sig) (by decide) _

/-- Kernel and reference end with equal results. -/
theorem value : Cert.algebraic_DownDxKernelIdeal_DownDxReferenceIdeal := by
  pair_intro
  · run_from run_ker m g
  · run_from run_ref m' g'

end Cert.DownDx
-- ==== Proof.DownDw.lean ====
/- The gradient of the down projection in its weights: the transposed activations times the gradient. -/
module

public import proofs.«01_k».proof.Defs
public import proofs.«01_k».proof.Proof.Gen.DownDwKernel.Frame
public import proofs.«01_k».proof.Proof.Gen.DownDwKernelIdeal.Frame
public import proofs.«01_k».proof.Proof.Gen.DownDwReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.DownDw

section Ker
open Cert.DownDwKernelIdeal Cert.DownDwKernelIdeal.Gen

/-- The product, entry by entry. -/
def spec (A : FVec Ideal S4096x2816 .bf16) (B : FVec Ideal S4096x1024 .bf16) : FVec Ideal S2816x1024 .bf16 :=
  fun j => ∑ k : Fin 4096, A (ix2 k (j 0)) * B (ix2 k (j 1))

/-- The windows' block indices at every grid point. -/
theorem idx : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ)

theorem t_lt (t : Fin cfg0.N) : (t : ℕ) < 11 := lt_of_lt_of_eq t.isLt N_0

/-- The row and the column of the result a block's entry sits at. -/
def row (t : Fin cfg0.N) (r : Fin 256) : Fin 2816 := ⟨t.val * 256 + r, by have := t_lt t; omega⟩
def col (t : Fin cfg0.N) (l : Fin 1024) : Fin 1024 := ⟨(l : ℕ), by have := t_lt t; omega⟩

theorem rd0 (c : Dev nD) (t : Fin cfg0.N) (r : Fin 256) (k : Fin 4096) :
    iblk m c 0 t (ix2 k r) = m ((c : Thread nD τ).loc main_arg0) (ix2 k (row t r)) := by
  unfold row; blk_ext [iblk, V, idx t]
theorem rd1 (c : Dev nD) (t : Fin cfg0.N) (l : Fin 1024) (k : Fin 4096) :
    iblk m c 1 t (ix2 k l) = m ((c : Thread nD τ).loc main_arg1) (ix2 k (col t l)) := by
  unfold col; blk_ext [iblk, V, idx t]
theorem emb2 (t : Fin cfg0.N) (r : Fin 256) (l : Fin 1024) : ((cfg0.win 2).blk t).view.emb (ix2 r l) = ix2 (row t r) (col t l) := by
  unfold row col; blk_ext [idx t]

/-- A block's product, entry by entry. -/
theorem pay (x0 : FVec Ideal S4096x256 .bf16) (x1 : FVec Ideal S4096x1024 .bf16) (r : Fin 256) (l : Fin 1024) :
    k0_pay1 (F := Ideal) x0 x1 (ix2 r l) = ∑ k : Fin 4096, x0 (ix2 k r) * x1 (ix2 k l) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 256) (l : Fin 1024), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.DownDwKernelIdeal.Gen.run_main m ρ
  exact final m c

end Ker

section Ref
open Cert.DownDwReferenceIdeal Cert.DownDwReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v6) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.DownDwReferenceIdeal.Value.run m ρ
  funext j
  idx_vars j
  pointwise
  show (_ : EReal) = _
  exact Finset.sum_congr rfl fun x _ => mul_comm (G := EReal) _ _

end Ref

instance : Cert.DownDwKernel.Facts := Cert.DownDwKernel.Gen.facts
instance : Cert.DownDwKernelIdeal.Facts := Cert.DownDwKernelIdeal.Gen.facts
instance : Cert.DownDwReferenceIdeal.Facts := Cert.DownDwReferenceIdeal.Gen.facts

/-- The kernel runs to its end on machine floats and leaves its arguments as they were. -/
theorem frame_P : Cert.quiescent_DownDwKernel := fun m ρ _ => Cert.DownDwKernel.Gen.frame m ρ

/-- The same over the extended reals. -/
theorem frame_PI : Cert.quiescent_DownDwKernelIdeal := fun m ρ _ => Cert.DownDwKernelIdeal.Gen.frame m ρ

/-- The reference runs to its end over the extended reals and leaves its arguments as they were. -/
theorem frame_RI : Cert.quiescent_DownDwReferenceIdeal := by
  intro m g _
  hlo_run
  · exact fun _ => ⟨trivial, trivial⟩
  · exact sem_eq_zero_of_no_sems (sig := Cert.DownDwReferenceIdeal.sig) (by decide) _

/-- Kernel and reference end with equal results. -/
theorem value : Cert.algebraic_DownDwKernelIdeal_DownDwReferenceIdeal := by
  pair_intro
  · run_from run_ker m g
  · run_from run_ref m' g'

end Cert.DownDw
-- ==== Proof.UpDw.lean ====
/- The gradient of the up projection in its weights; the two halves of the gradient lie one after the other. -/
module

public import proofs.«01_k».proof.Defs
public import proofs.«01_k».proof.Proof.Gen.UpDwKernel.Frame
public import proofs.«01_k».proof.Proof.Gen.UpDwKernelIdeal.Frame
public import proofs.«01_k».proof.Proof.Gen.UpDwReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.UpDw

section Ker
open Cert.UpDwKernelIdeal Cert.UpDwKernelIdeal.Gen

/-- The two halves of the gradient, one after the other. -/
def cat (B : FVec Ideal S2x4096x2816 .bf16) (k : Fin 4096) (n : Fin 5632) : EReal :=
  if h : (n : ℕ) < 2816 then B (ix3 0 k ⟨n, h⟩) else B (ix3 1 k ⟨(n : ℕ) - 2816, by omega⟩)

/-- The product, entry by entry. -/
def spec (A : FVec Ideal S4096x1024 .bf16) (B : FVec Ideal S2x4096x2816 .bf16) : FVec Ideal S1024x5632 .bf16 :=
  fun j => ∑ k : Fin 4096, A (ix2 k (j 0)) * cat B k (j 1)

/-- The windows' block indices at every grid point. -/
theorem idx : ∀ t : Fin cfg0.N, win0_0.index t = ![0, 0] ∧ win0_1.index t = ![t.val / 2, 0, t.val % 2] ∧ win0_2.index t = ![0, t.val] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row and the column of the result a block's entry sits at. -/
def row (t : Fin cfg0.N) (r : Fin 1024) : Fin 1024 := ⟨(r : ℕ), by have := t_lt t; omega⟩
def col (t : Fin cfg0.N) (l : Fin 1408) : Fin 5632 := ⟨t.val * 1408 + l, by have := t_lt t; omega⟩

theorem rd0 (c : Dev nD) (t : Fin cfg0.N) (r : Fin 1024) (k : Fin 4096) :
    iblk m c 0 t (ix2 k r) = m ((c : Thread nD τ).loc main_arg0) (ix2 k (row t r)) := by
  unfold row; blk_ext [iblk, V, idx t]
theorem rd1 (c : Dev nD) (t : Fin cfg0.N) (l : Fin 1408) (k : Fin 4096) :
    iblk m c 1 t (ix3 0 k l) = m ((c : Thread nD τ).loc main_arg1) (ix3 (⟨t.val / 2, by have := t_lt t; omega⟩ : Fin 2) k ⟨t.val % 2 * 1408 + l, by omega⟩) := by
  blk_ext [iblk, V, idx t]
/-- A block's column is one of the joined halves. -/
theorem cat_blk (B : FVec Ideal S2x4096x2816 .bf16) (t : Fin cfg0.N) (l : Fin 1408) (k : Fin 4096) :
    B (ix3 (⟨t.val / 2, by have := t_lt t; omega⟩ : Fin 2) k ⟨t.val % 2 * 1408 + l, by omega⟩) = cat B k (col t l) := by
  have := t_lt t
  unfold cat col
  split_ifs with h
  · refine congrArg B ((ix3_inj ..).2 ⟨Fin.ext ?_, rfl, Fin.ext ?_⟩)
    · show t.val / 2 = 0; change t.val * 1408 + (l : ℕ) < 2816 at h; omega
    · show t.val % 2 * 1408 + (l : ℕ) = t.val * 1408 + l; change t.val * 1408 + (l : ℕ) < 2816 at h; omega
  · refine congrArg B ((ix3_inj ..).2 ⟨Fin.ext ?_, rfl, Fin.ext ?_⟩)
    · show t.val / 2 = 1; change ¬ t.val * 1408 + (l : ℕ) < 2816 at h; omega
    · show t.val % 2 * 1408 + (l : ℕ) = t.val * 1408 + l - 2816; change ¬ t.val * 1408 + (l : ℕ) < 2816 at h; omega
theorem emb2 (t : Fin cfg0.N) (r : Fin 1024) (l : Fin 1408) : ((cfg0.win 2).blk t).view.emb (ix2 r l) = ix2 (row t r) (col t l) := by
  unfold row col; blk_ext [idx t]

/-- A block's product, entry by entry. -/
theorem pay (x0 : FVec Ideal S4096x1024 .bf16) (x1 : FVec Ideal S1x4096x1408 .bf16) (r : Fin 1024) (l : Fin 1408) :
    k0_pay1 (F := Ideal) x0 x1 (ix2 r l) = ∑ k : Fin 4096, x0 (ix2 k r) * x1 (ix3 0 k l) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 1024) (l : Fin 1408), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) ((rd1 m c t l k).trans (cat_blk _ t l k))

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.UpDwKernelIdeal.Gen.run_main m ρ
  exact final m c

end Ker

section Ref
open Cert.UpDwReferenceIdeal Cert.UpDwReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v11) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.UpDwReferenceIdeal.Value.run m ρ
  funext j
  idx_vars j
  pointwise
  show (_ : EReal) = _
  exact Finset.sum_congr rfl fun x _ => mul_comm (G := EReal) _ _

end Ref

instance : Cert.UpDwKernel.Facts := Cert.UpDwKernel.Gen.facts
instance : Cert.UpDwKernelIdeal.Facts := Cert.UpDwKernelIdeal.Gen.facts
instance : Cert.UpDwReferenceIdeal.Facts := Cert.UpDwReferenceIdeal.Gen.facts

/-- The kernel runs to its end on machine floats and leaves its arguments as they were. -/
theorem frame_P : Cert.quiescent_UpDwKernel := fun m ρ _ => Cert.UpDwKernel.Gen.frame m ρ

/-- The same over the extended reals. -/
theorem frame_PI : Cert.quiescent_UpDwKernelIdeal := fun m ρ _ => Cert.UpDwKernelIdeal.Gen.frame m ρ

/-- The reference runs to its end over the extended reals and leaves its arguments as they were. -/
theorem frame_RI : Cert.quiescent_UpDwReferenceIdeal := by
  intro m g _
  hlo_run
  · exact fun _ => ⟨trivial, trivial⟩
  · exact sem_eq_zero_of_no_sems (sig := Cert.UpDwReferenceIdeal.sig) (by decide) _

/-- Kernel and reference end with equal results. -/
theorem value : Cert.algebraic_UpDwKernelIdeal_UpDwReferenceIdeal := by
  pair_intro
  · run_from run_ker m g
  · run_from run_ref m' g'

end Cert.UpDw
-- ==== Proof.OutDx.lean ====
/- The gradient of the output projection of a mixer in its input. -/
module

public import proofs.«01_k».proof.Defs
public import proofs.«01_k».proof.Proof.Gen.OutDxKernel.Frame
public import proofs.«01_k».proof.Proof.Gen.OutDxKernelIdeal.Frame
public import proofs.«01_k».proof.Proof.Gen.OutDxReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.OutDx

section Ker
open Cert.OutDxKernelIdeal Cert.OutDxKernelIdeal.Gen

/-- The product, entry by entry. -/
def spec (A : FVec Ideal S4096x1024 .bf16) (B : FVec Ideal S1024x1024 .bf16) : FVec Ideal S4096x1024 .f32 :=
  fun j => ∑ k : Fin 1024, A (ix2 (j 0) k) * B (ix2 (j 1) k)

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

theorem t_lt (t : Fin cfg0.N) : (t : ℕ) < 2 := lt_of_lt_of_eq t.isLt N_0

/-- The row and the column of the result a block's entry sits at. -/
def row (t : Fin cfg0.N) (r : Fin 2048) : Fin 4096 := ⟨t.val * 2048 + r, by have := t_lt t; omega⟩
def col (t : Fin cfg0.N) (l : Fin 1024) : Fin 1024 := ⟨(l : ℕ), by have := t_lt t; omega⟩

theorem rd0 (c : Dev nD) (t : Fin cfg0.N) (r : Fin 2048) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 1024) :
    iblk m c 1 t (ix2 l k) = m ((c : Thread nD τ).loc main_arg1) (ix2 (col t l) k) := by
  unfold col; blk_ext [iblk, V, idx t]
theorem emb2 (t : Fin cfg0.N) (r : Fin 2048) (l : Fin 1024) : ((cfg0.win 2).blk t).view.emb (ix2 r l) = ix2 (row t r) (col t l) := by
  unfold row col; blk_ext [idx t]

/-- A block's product, entry by entry. -/
theorem pay (x0 : FVec Ideal S2048x1024 .bf16) (x1 : FVec Ideal S1024x1024 .bf16) (r : Fin 2048) (l : Fin 1024) :
    k0_pay1 (F := Ideal) x0 x1 (ix2 r l) = ∑ k : Fin 1024, x0 (ix2 r k) * x1 (ix2 l k) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 2048) (l : Fin 1024), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.OutDxKernelIdeal.Gen.run_main m ρ
  exact final m c

end Ker

section Ref
open Cert.OutDxReferenceIdeal Cert.OutDxReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v4) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.OutDxReferenceIdeal.Value.run m ρ
  funext j
  idx_vars j
  pointwise
  rfl

end Ref

instance : Cert.OutDxKernel.Facts := Cert.OutDxKernel.Gen.facts
instance : Cert.OutDxKernelIdeal.Facts := Cert.OutDxKernelIdeal.Gen.facts
instance : Cert.OutDxReferenceIdeal.Facts := Cert.OutDxReferenceIdeal.Gen.facts

/-- The kernel runs to its end on machine floats and leaves its arguments as they were. -/
theorem frame_P : Cert.quiescent_OutDxKernel := fun m ρ _ => Cert.OutDxKernel.Gen.frame m ρ

/-- The same over the extended reals. -/
theorem frame_PI : Cert.quiescent_OutDxKernelIdeal := fun m ρ _ => Cert.OutDxKernelIdeal.Gen.frame m ρ

/-- The reference runs to its end over the extended reals and leaves its arguments as they were. -/
theorem frame_RI : Cert.quiescent_OutDxReferenceIdeal := by
  intro m g _
  hlo_run
  · exact fun _ => ⟨trivial, trivial⟩
  · exact sem_eq_zero_of_no_sems (sig := Cert.OutDxReferenceIdeal.sig) (by decide) _

/-- Kernel and reference end with equal results. -/
theorem value : Cert.algebraic_OutDxKernelIdeal_OutDxReferenceIdeal := by
  pair_intro
  · run_from run_ker m g
  · run_from run_ref m' g'

end Cert.OutDx
-- ==== Proof.OutDw.lean ====
/- The gradient of the output projection of a mixer in its weights. -/
module

public import proofs.«01_k».proof.Defs
public import proofs.«01_k».proof.Proof.Gen.OutDwKernel.Frame
public import proofs.«01_k».proof.Proof.Gen.OutDwKernelIdeal.Frame
public import proofs.«01_k».proof.Proof.Gen.OutDwReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.OutDw

section Ker
open Cert.OutDwKernelIdeal Cert.OutDwKernelIdeal.Gen

/-- The product, entry by entry. -/
def spec (A : FVec Ideal S4096x1024 .bf16) (B : FVec Ideal S4096x1024 .bf16) : FVec Ideal S1024x1024 .bf16 :=
  fun j => ∑ k : Fin 4096, A (ix2 k (j 0)) * B (ix2 k (j 1))

/-- The windows' block indices at every grid point. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

theorem t_lt (t : Fin cfg0.N) : (t : ℕ) < 2 := lt_of_lt_of_eq t.isLt N_0

/-- The row and the column of the result a block's entry sits at. -/
def row (t : Fin cfg0.N) (r : Fin 1024) : Fin 1024 := ⟨(r : ℕ), by have := t_lt t; omega⟩
def col (t : Fin cfg0.N) (l : Fin 512) : Fin 1024 := ⟨t.val * 512 + l, by have := t_lt t; omega⟩

theorem rd0 (c : Dev nD) (t : Fin cfg0.N) (r : Fin 1024) (k : Fin 4096) :
    iblk m c 0 t (ix2 k r) = m ((c : Thread nD τ).loc main_arg0) (ix2 k (row t r)) := by
  unfold row; blk_ext [iblk, V, idx t]
theorem rd1 (c : Dev nD) (t : Fin cfg0.N) (l : Fin 512) (k : Fin 4096) :
    iblk m c 1 t (ix2 k l) = m ((c : Thread nD τ).loc main_arg1) (ix2 k (col t l)) := by
  unfold col; blk_ext [iblk, V, idx t]
theorem emb2 (t : Fin cfg0.N) (r : Fin 1024) (l : Fin 512) : ((cfg0.win 2).blk t).view.emb (ix2 r l) = ix2 (row t r) (col t l) := by
  unfold row col; blk_ext [idx t]

/-- A block's product, entry by entry. -/
theorem pay (x0 : FVec Ideal S4096x1024 .bf16) (x1 : FVec Ideal S4096x512 .bf16) (r : Fin 1024) (l : Fin 512) :
    k0_pay1 (F := Ideal) x0 x1 (ix2 r l) = ∑ k : Fin 4096, x0 (ix2 k r) * x1 (ix2 k l) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 1024) (l : Fin 512), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.OutDwKernelIdeal.Gen.run_main m ρ
  exact final m c

end Ker

section Ref
open Cert.OutDwReferenceIdeal Cert.OutDwReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v6) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.OutDwReferenceIdeal.Value.run m ρ
  funext j
  idx_vars j
  pointwise
  show (_ : EReal) = _
  exact Finset.sum_congr rfl fun x _ => mul_comm (G := EReal) _ _

end Ref

instance : Cert.OutDwKernel.Facts := Cert.OutDwKernel.Gen.facts
instance : Cert.OutDwKernelIdeal.Facts := Cert.OutDwKernelIdeal.Gen.facts
instance : Cert.OutDwReferenceIdeal.Facts := Cert.OutDwReferenceIdeal.Gen.facts

/-- The kernel runs to its end on machine floats and leaves its arguments as they were. -/
theorem frame_P : Cert.quiescent_OutDwKernel := fun m ρ _ => Cert.OutDwKernel.Gen.frame m ρ

/-- The same over the extended reals. -/
theorem frame_PI : Cert.quiescent_OutDwKernelIdeal := fun m ρ _ => Cert.OutDwKernelIdeal.Gen.frame m ρ

/-- The reference runs to its end over the extended reals and leaves its arguments as they were. -/
theorem frame_RI : Cert.quiescent_OutDwReferenceIdeal := by
  intro m g _
  hlo_run
  · exact fun _ => ⟨trivial, trivial⟩
  · exact sem_eq_zero_of_no_sems (sig := Cert.OutDwReferenceIdeal.sig) (by decide) _

/-- Kernel and reference end with equal results. -/
theorem value : Cert.algebraic_OutDwKernelIdeal_OutDwReferenceIdeal := by
  pair_intro
  · run_from run_ker m g
  · run_from run_ref m' g'

end Cert.OutDw
-- ==== Proof.EvenDw.lean ====
/- The gradient of the input projection of an even layer in its weights. -/
module

public import proofs.«01_k».proof.Defs
public import proofs.«01_k».proof.Proof.Gen.EvenDwKernel.Frame
public import proofs.«01_k».proof.Proof.Gen.EvenDwKernelIdeal.Frame
public import proofs.«01_k».proof.Proof.Gen.EvenDwReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.EvenDw

section Ker
open Cert.EvenDwKernelIdeal Cert.EvenDwKernelIdeal.Gen

/-- The product, entry by entry. -/
def spec (A : FVec Ideal S4096x1024 .bf16) (B : FVec Ideal S4096x2048 .bf16) : FVec Ideal S1024x2048 .bf16 :=
  fun j => ∑ k : Fin 4096, A (ix2 k (j 0)) * B (ix2 k (j 1))

/-- The windows' block indices at every grid point. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row and the column of the result a block's entry sits at. -/
def row (t : Fin cfg0.N) (r : Fin 1024) : Fin 1024 := ⟨(r : ℕ), by have := t_lt t; omega⟩
def col (t : Fin cfg0.N) (l : Fin 512) : Fin 2048 := ⟨t.val * 512 + l, by have := t_lt t; omega⟩

theorem rd0 (c : Dev nD) (t : Fin cfg0.N) (r : Fin 1024) (k : Fin 4096) :
    iblk m c 0 t (ix2 k r) = m ((c : Thread nD τ).loc main_arg0) (ix2 k (row t r)) := by
  unfold row; blk_ext [iblk, V, idx t]
theorem rd1 (c : Dev nD) (t : Fin cfg0.N) (l : Fin 512) (k : Fin 4096) :
    iblk m c 1 t (ix2 k l) = m ((c : Thread nD τ).loc main_arg1) (ix2 k (col t l)) := by
  unfold col; blk_ext [iblk, V, idx t]
theorem emb2 (t : Fin cfg0.N) (r : Fin 1024) (l : Fin 512) : ((cfg0.win 2).blk t).view.emb (ix2 r l) = ix2 (row t r) (col t l) := by
  unfold row col; blk_ext [idx t]

/-- A block's product, entry by entry. -/
theorem pay (x0 : FVec Ideal S4096x1024 .bf16) (x1 : FVec Ideal S4096x512 .bf16) (r : Fin 1024) (l : Fin 512) :
    k0_pay1 (F := Ideal) x0 x1 (ix2 r l) = ∑ k : Fin 4096, x0 (ix2 k r) * x1 (ix2 k l) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 1024) (l : Fin 512), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.EvenDwKernelIdeal.Gen.run_main m ρ
  exact final m c

end Ker

section Ref
open Cert.EvenDwReferenceIdeal Cert.EvenDwReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v6) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.EvenDwReferenceIdeal.Value.run m ρ
  funext j
  idx_vars j
  pointwise
  show (_ : EReal) = _
  exact Finset.sum_congr rfl fun x _ => mul_comm (G := EReal) _ _

end Ref

instance : Cert.EvenDwKernel.Facts := Cert.EvenDwKernel.Gen.facts
instance : Cert.EvenDwKernelIdeal.Facts := Cert.EvenDwKernelIdeal.Gen.facts
instance : Cert.EvenDwReferenceIdeal.Facts := Cert.EvenDwReferenceIdeal.Gen.facts

/-- The kernel runs to its end on machine floats and leaves its arguments as they were. -/
theorem frame_P : Cert.quiescent_EvenDwKernel := fun m ρ _ => Cert.EvenDwKernel.Gen.frame m ρ

/-- The same over the extended reals. -/
theorem frame_PI : Cert.quiescent_EvenDwKernelIdeal := fun m ρ _ => Cert.EvenDwKernelIdeal.Gen.frame m ρ

/-- The reference runs to its end over the extended reals and leaves its arguments as they were. -/
theorem frame_RI : Cert.quiescent_EvenDwReferenceIdeal := by
  intro m g _
  hlo_run
  · exact fun _ => ⟨trivial, trivial⟩
  · exact sem_eq_zero_of_no_sems (sig := Cert.EvenDwReferenceIdeal.sig) (by decide) _

/-- Kernel and reference end with equal results. -/
theorem value : Cert.algebraic_EvenDwKernelIdeal_EvenDwReferenceIdeal := by
  pair_intro
  · run_from run_ker m g
  · run_from run_ref m' g'

end Cert.EvenDw
-- ==== Proof.OddDw.lean ====
/- The gradient of the input projection of an odd layer in its weights. -/
module

public import proofs.«01_k».proof.Defs
public import proofs.«01_k».proof.Proof.Gen.OddDwKernel.Frame
public import proofs.«01_k».proof.Proof.Gen.OddDwKernelIdeal.Frame
public import proofs.«01_k».proof.Proof.Gen.OddDwReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.OddDw

section Ker
open Cert.OddDwKernelIdeal Cert.OddDwKernelIdeal.Gen

/-- The product, entry by entry. -/
def spec (A : FVec Ideal S4096x1024 .bf16) (B : FVec Ideal S4096x1536 .bf16) : FVec Ideal S1024x1536 .bf16 :=
  fun j => ∑ k : Fin 4096, A (ix2 k (j 0)) * B (ix2 k (j 1))

/-- The windows' block indices at every grid point. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

theorem t_lt (t : Fin cfg0.N) : (t : ℕ) < 3 := lt_of_lt_of_eq t.isLt N_0

/-- The row and the column of the result a block's entry sits at. -/
def row (t : Fin cfg0.N) (r : Fin 1024) : Fin 1024 := ⟨(r : ℕ), by have := t_lt t; omega⟩
def col (t : Fin cfg0.N) (l : Fin 512) : Fin 1536 := ⟨t.val * 512 + l, by have := t_lt t; omega⟩

theorem rd0 (c : Dev nD) (t : Fin cfg0.N) (r : Fin 1024) (k : Fin 4096) :
    iblk m c 0 t (ix2 k r) = m ((c : Thread nD τ).loc main_arg0) (ix2 k (row t r)) := by
  unfold row; blk_ext [iblk, V, idx t]
theorem rd1 (c : Dev nD) (t : Fin cfg0.N) (l : Fin 512) (k : Fin 4096) :
    iblk m c 1 t (ix2 k l) = m ((c : Thread nD τ).loc main_arg1) (ix2 k (col t l)) := by
  unfold col; blk_ext [iblk, V, idx t]
theorem emb2 (t : Fin cfg0.N) (r : Fin 1024) (l : Fin 512) : ((cfg0.win 2).blk t).view.emb (ix2 r l) = ix2 (row t r) (col t l) := by
  unfold row col; blk_ext [idx t]

/-- A block's product, entry by entry. -/
theorem pay (x0 : FVec Ideal S4096x1024 .bf16) (x1 : FVec Ideal S4096x512 .bf16) (r : Fin 1024) (l : Fin 512) :
    k0_pay1 (F := Ideal) x0 x1 (ix2 r l) = ∑ k : Fin 4096, x0 (ix2 k r) * x1 (ix2 k l) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 1024) (l : Fin 512), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.OddDwKernelIdeal.Gen.run_main m ρ
  exact final m c

end Ker

section Ref
open Cert.OddDwReferenceIdeal Cert.OddDwReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v6) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.OddDwReferenceIdeal.Value.run m ρ
  funext j
  idx_vars j
  pointwise
  show (_ : EReal) = _
  exact Finset.sum_congr rfl fun x _ => mul_comm (G := EReal) _ _

end Ref

instance : Cert.OddDwKernel.Facts := Cert.OddDwKernel.Gen.facts
instance : Cert.OddDwKernelIdeal.Facts := Cert.OddDwKernelIdeal.Gen.facts
instance : Cert.OddDwReferenceIdeal.Facts := Cert.OddDwReferenceIdeal.Gen.facts

/-- The kernel runs to its end on machine floats and leaves its arguments as they were. -/
theorem frame_P : Cert.quiescent_OddDwKernel := fun m ρ _ => Cert.OddDwKernel.Gen.frame m ρ

/-- The same over the extended reals. -/
theorem frame_PI : Cert.quiescent_OddDwKernelIdeal := fun m ρ _ => Cert.OddDwKernelIdeal.Gen.frame m ρ

/-- The reference runs to its end over the extended reals and leaves its arguments as they were. -/
theorem frame_RI : Cert.quiescent_OddDwReferenceIdeal := by
  intro m g _
  hlo_run
  · exact fun _ => ⟨trivial, trivial⟩
  · exact sem_eq_zero_of_no_sems (sig := Cert.OddDwReferenceIdeal.sig) (by decide) _

/-- Kernel and reference end with equal results. -/
theorem value : Cert.algebraic_OddDwKernelIdeal_OddDwReferenceIdeal := by
  pair_intro
  · run_from run_ker m g
  · run_from run_ref m' g'

end Cert.OddDw
-- ==== Proof.EvenIn.lean ====
/- The input projection of an even layer: a plain product. -/
module

public import proofs.«01_k».proof.Defs
public import proofs.«01_k».proof.Proof.Gen.EvenInKernel.Frame
public import proofs.«01_k».proof.Proof.Gen.EvenInKernelIdeal.Frame
public import proofs.«01_k».proof.Proof.Gen.EvenInReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.EvenIn

section Ker
open Cert.EvenInKernelIdeal Cert.EvenInKernelIdeal.Gen

/-- The product, entry by entry. -/
def spec (A : FVec Ideal S4096x1024 .bf16) (B : FVec Ideal S1024x2048 .bf16) : FVec Ideal S4096x2048 .f32 :=
  fun j => ∑ k : Fin 1024, A (ix2 (j 0) k) * B (ix2 k (j 1))

/-- The windows' block indices at every grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row and the column of the result a block's entry sits at. -/
def row (t : Fin cfg0.N) (r : Fin 2048) : Fin 4096 := ⟨t.val / 2 * 2048 + r, by have := t_lt t; omega⟩
def col (t : Fin cfg0.N) (l : Fin 1024) : Fin 2048 := ⟨t.val % 2 * 1024 + l, by have := t_lt t; omega⟩

theorem rd0 (c : Dev nD) (t : Fin cfg0.N) (r : Fin 2048) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 1024) :
    iblk m c 1 t (ix2 k l) = m ((c : Thread nD τ).loc main_arg1) (ix2 k (col t l)) := by
  unfold col; blk_ext [iblk, V, idx t]
theorem emb2 (t : Fin cfg0.N) (r : Fin 2048) (l : Fin 1024) : ((cfg0.win 2).blk t).view.emb (ix2 r l) = ix2 (row t r) (col t l) := by
  unfold row col; blk_ext [idx t]

/-- A block's product, entry by entry. -/
theorem pay (x0 : FVec Ideal S2048x1024 .bf16) (x1 : FVec Ideal S1024x1024 .bf16) (r : Fin 2048) (l : Fin 1024) :
    k0_pay1 (F := Ideal) x0 x1 (ix2 r l) = ∑ k : Fin 1024, x0 (ix2 r k) * x1 (ix2 k l) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 2048) (l : Fin 1024), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.EvenInKernelIdeal.Gen.run_main m ρ
  exact final m c

end Ker

section Ref
open Cert.EvenInReferenceIdeal Cert.EvenInReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v2) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.EvenInReferenceIdeal.Value.run m ρ
  funext j
  idx_vars j
  pointwise
  rfl

end Ref

instance : Cert.EvenInKernel.Facts := Cert.EvenInKernel.Gen.facts
instance : Cert.EvenInKernelIdeal.Facts := Cert.EvenInKernelIdeal.Gen.facts
instance : Cert.EvenInReferenceIdeal.Facts := Cert.EvenInReferenceIdeal.Gen.facts

/-- The kernel runs to its end on machine floats and leaves its arguments as they were. -/
theorem frame_P : Cert.quiescent_EvenInKernel := fun m ρ _ => Cert.EvenInKernel.Gen.frame m ρ

/-- The same over the extended reals. -/
theorem frame_PI : Cert.quiescent_EvenInKernelIdeal := fun m ρ _ => Cert.EvenInKernelIdeal.Gen.frame m ρ

/-- The reference runs to its end over the extended reals and leaves its arguments as they were. -/
theorem frame_RI : Cert.quiescent_EvenInReferenceIdeal := by
  intro m g _
  hlo_run
  · exact fun _ => ⟨trivial, trivial⟩
  · exact sem_eq_zero_of_no_sems (sig := Cert.EvenInReferenceIdeal.sig) (by decide) _

/-- Kernel and reference end with equal results. -/
theorem value : Cert.algebraic_EvenInKernelIdeal_EvenInReferenceIdeal := by
  pair_intro
  · run_from run_ker m g
  · run_from run_ref m' g'

end Cert.EvenIn
-- ==== Proof.OddIn.lean ====
/- The input projection of an odd layer: a plain product. -/
module

public import proofs.«01_k».proof.Defs
public import proofs.«01_k».proof.Proof.Gen.OddInKernel.Frame
public import proofs.«01_k».proof.Proof.Gen.OddInKernelIdeal.Frame
public import proofs.«01_k».proof.Proof.Gen.OddInReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.OddIn

section Ker
open Cert.OddInKernelIdeal Cert.OddInKernelIdeal.Gen

/-- The product, entry by entry. -/
def spec (A : FVec Ideal S4096x1024 .bf16) (B : FVec Ideal S1024x1536 .bf16) : FVec Ideal S4096x1536 .f32 :=
  fun j => ∑ k : Fin 1024, A (ix2 (j 0) k) * B (ix2 k (j 1))

/-- The windows' block indices at every grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row and the column of the result a block's entry sits at. -/
def row (t : Fin cfg0.N) (r : Fin 2048) : Fin 4096 := ⟨t.val / 2 * 2048 + r, by have := t_lt t; omega⟩
def col (t : Fin cfg0.N) (l : Fin 768) : Fin 1536 := ⟨t.val % 2 * 768 + l, by have := t_lt t; omega⟩

theorem rd0 (c : Dev nD) (t : Fin cfg0.N) (r : Fin 2048) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 768) (k : Fin 1024) :
    iblk m c 1 t (ix2 k l) = m ((c : Thread nD τ).loc main_arg1) (ix2 k (col t l)) := by
  unfold col; blk_ext [iblk, V, idx t]
theorem emb2 (t : Fin cfg0.N) (r : Fin 2048) (l : Fin 768) : ((cfg0.win 2).blk t).view.emb (ix2 r l) = ix2 (row t r) (col t l) := by
  unfold row col; blk_ext [idx t]

/-- A block's product, entry by entry. -/
theorem pay (x0 : FVec Ideal S2048x1024 .bf16) (x1 : FVec Ideal S1024x768 .bf16) (r : Fin 2048) (l : Fin 768) :
    k0_pay1 (F := Ideal) x0 x1 (ix2 r l) = ∑ k : Fin 1024, x0 (ix2 r k) * x1 (ix2 k l) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 2048) (l : Fin 768), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.OddInKernelIdeal.Gen.run_main m ρ
  exact final m c

end Ker

section Ref
open Cert.OddInReferenceIdeal Cert.OddInReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v2) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.OddInReferenceIdeal.Value.run m ρ
  funext j
  idx_vars j
  pointwise
  rfl

end Ref

instance : Cert.OddInKernel.Facts := Cert.OddInKernel.Gen.facts
instance : Cert.OddInKernelIdeal.Facts := Cert.OddInKernelIdeal.Gen.facts
instance : Cert.OddInReferenceIdeal.Facts := Cert.OddInReferenceIdeal.Gen.facts

/-- The kernel runs to its end on machine floats and leaves its arguments as they were. -/
theorem frame_P : Cert.quiescent_OddInKernel := fun m ρ _ => Cert.OddInKernel.Gen.frame m ρ

/-- The same over the extended reals. -/
theorem frame_PI : Cert.quiescent_OddInKernelIdeal := fun m ρ _ => Cert.OddInKernelIdeal.Gen.frame m ρ

/-- The reference runs to its end over the extended reals and leaves its arguments as they were. -/
theorem frame_RI : Cert.quiescent_OddInReferenceIdeal := by
  intro m g _
  hlo_run
  · exact fun _ => ⟨trivial, trivial⟩
  · exact sem_eq_zero_of_no_sems (sig := Cert.OddInReferenceIdeal.sig) (by decide) _

/-- Kernel and reference end with equal results. -/
theorem value : Cert.algebraic_OddInKernelIdeal_OddInReferenceIdeal := by
  pair_intro
  · run_from run_ker m g
  · run_from run_ref m' g'

end Cert.OddIn
-- ==== Proof.MixOut.lean ====
/- The output projection of a mixer, added to the residual stream, and the norm of the sum. -/
module

public import proofs.«01_k».proof.Defs
public import proofs.«01_k».proof.Proof.Gen.MixOutKernel.Frame
public import proofs.«01_k».proof.Proof.Gen.MixOutKernelIdeal.Frame
public import proofs.«01_k».proof.Proof.Gen.MixOutReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MixOut

section Ker
open Cert.MixOutKernelIdeal Cert.MixOutKernelIdeal.Gen

/-- The residual stream and the product. -/
def spec (A : FVec Ideal S4096x1024 .bf16) (B : FVec Ideal S1024x1024 .bf16) (x : FVec Ideal S4096x1024 .f32) : FVec Ideal S4096x1024 .f32 :=
  fun j => x j + ∑ k : Fin 1024, A (ix2 (j 0) k) * B (ix2 k (j 1))

/-- Its rows normed. -/
def specN (A : FVec Ideal S4096x1024 .bf16) (B : FVec Ideal S1024x1024 .bf16) (x : FVec Ideal S4096x1024 .f32) (g : FVec Ideal S4x1024 .f32) :
    FVec Ideal S4096x1024 .bf16 :=
  fun j => spec A B x j * Ideal.rsqrt (Norm.msq fun k => spec A B x (ix2 (j 0) k)) * g (ix2 (3 : Fin 4) (j 1))

/-- The windows' block indices at every grid point. -/
theorem idx : ∀ t : Fin cfg0.N, win0_0.index t = ![t.val, 0] ∧ win0_1.index t = ![0, 0] ∧ win0_2.index t = ![t.val, 0]
    ∧ win0_3.index t = ![3, 0, 0] ∧ win0_4.index t = ![t.val, 0] ∧ win0_5.index t = ![t.val, 0] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row of the result a block's row sits at. -/
def row (t : Fin cfg0.N) (r : Fin 1024) : Fin 4096 := ⟨t.val * 1024 + r, by have := t_lt t; omega⟩

theorem rd0 (c : Dev nD) (t : Fin cfg0.N) (r : Fin 1024) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 1024) :
    iblk m c 1 t (ix2 k l) = m ((c : Thread nD τ).loc main_arg1) (ix2 k l) := by
  blk_ext [iblk, V, idx t]
theorem rd2 (c : Dev nD) (t : Fin cfg0.N) (r : Fin 1024) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (3 : Fin 4) k) := by
  blk_simp [iblk, idx t]; entry_read; pointwise; blk_ext [idx t]
theorem emb4 (t : Fin cfg0.N) (r : Fin 1024) (l : Fin 1024) : ((cfg0.win 4).blk t).view.emb (ix2 r l) = ix2 (row t r) l := by
  unfold row; blk_ext [idx t]
theorem emb5 (t : Fin cfg0.N) (r : Fin 1024) (l : Fin 1024) : ((cfg0.win 5).blk t).view.emb (ix2 r l) = ix2 (row t r) l := by
  unfold row; blk_ext [idx t]

/-- A block of the sum. -/
theorem pay (x0 : FVec Ideal S1024x1024 .bf16) (x1 : FVec Ideal S1024x1024 .bf16) (x2 : FVec Ideal S1024x1024 .f32) (r : Fin 1024) (l : Fin 1024) :
    k0_pay1 (F := Ideal) x0 x1 x2 (ix2 r l) = x2 (ix2 r l) + ∑ k : Fin 1024, x0 (ix2 r k) * x1 (ix2 k l) := by
  pointwise [k0_pay1]
  exact add_comm (G := EReal) _ _

theorem blkS (c : Dev nD) (t : Fin cfg0.N) (r : Fin 1024) (l : Fin 1024) :
    k0_pay1 (F := Ideal) (iblk m c 0 t) (iblk m c 1 t) (iblk m c 2 t) (ix2 r l) = spec (m ((c : Thread nD τ).loc main_arg0)) (m ((c : Thread nD τ).loc main_arg1)) (m ((c : Thread nD τ).loc main_arg2)) (ix2 (row t r) l) :=
  (pay _ _ _ r l).trans (congrArg₂ (· + ·) (rd2 m c t r l) (Finset.sum_congr rfl fun k _ => congrArg₂ (· * ·) (rd0 m c t r k) (rd1 m c t l k)))

/-- The run leaves the sum. -/
theorem final4 (c : Dev nD) : (dats m 0 c).arrAt 4 (cfgs 0).N = spec (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  obtain ⟨r, l, rfl⟩ : ∃ (r : Fin 1024) (l : Fin 1024), y = ix2 r l := ⟨y 0, y 1, eq_ix2 y⟩
  refine Eq.trans ?_ (congrArg _ (emb4 t r l)).symm
  exact blkS m c t r l

theorem payN (x0 : FVec Ideal S1024x1024 .bf16) (x1 : FVec Ideal S1024x1024 .bf16) (x2 : FVec Ideal S1024x1024 .f32) (g : FVec Ideal S1x1x1024 .f32) (r : Fin 1024) (l : Fin 1024) :
    k0_pay2 (F := Ideal) x0 x1 x2 g (ix2 r l) = k0_pay1 (F := Ideal) x0 x1 x2 (ix2 r l)
      * Ideal.rsqrt (Norm.msq fun k => k0_pay1 (F := Ideal) x0 x1 x2 (ix2 r k)) * g (ix3 0 0 l) := by
  pointwise [k0_pay2, Norm.msq]

/-- The run leaves the normed rows. -/
theorem final5 (c : Dev nD) : (dats m 0 c).arrAt 5 (cfgs 0).N = specN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  obtain ⟨r, l, rfl⟩ : ∃ (r : Fin 1024) (l : Fin 1024), y = ix2 r l := ⟨y 0, y 1, eq_ix2 y⟩
  refine Eq.trans ?_ (congrArg _ (emb5 t r l)).symm
  refine (payN _ _ _ _ r l).trans ?_
  rw [funext fun k => blkS m c t r k, blkS m c t r l, rd3 m c t l]
  rfl

/-- Every run of the kernel ends with the spec in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = spec (m ((c : Thread nD τ).loc main_arg0)) (m ((c : Thread nD τ).loc main_arg1)) (m ((c : Thread nD τ).loc main_arg2))
    ∧ r.2.mem ((c.tc : Thread nD τ).loc main_v1_1) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.MixOutKernelIdeal.Gen.run_main m ρ
  · exact final4 m c
  · exact final5 m c

end Ker

section Ref
open Cert.MixOutReferenceIdeal Cert.MixOutReferenceIdeal.Gen

variable (m : (ℓ : Loc nD τ sig) → Buf (Elt Ideal) ℓ)

attribute [local irreducible] spec specN

/-- Every run of the reference ends with the spec in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v5) = spec (m ((c : Thread nD τ).loc main_arg0)) (m ((c : Thread nD τ).loc main_arg1)) (m ((c : Thread nD τ).loc main_arg2))
    ∧ r.2.mem ((c.tc : Thread nD τ).loc main_v19) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.MixOutReferenceIdeal.Value.run m ρ
  · funext j
    idx_vars j
    unfold spec
    pointwise
  · funext j
    idx_vars j
    unfold specN spec
    pointwise [Norm.msq]

end Ref

instance : Cert.MixOutKernel.Facts := Cert.MixOutKernel.Gen.facts
instance : Cert.MixOutKernelIdeal.Facts := Cert.MixOutKernelIdeal.Gen.facts
instance : Cert.MixOutReferenceIdeal.Facts := Cert.MixOutReferenceIdeal.Gen.facts

/-- The kernel runs to its end on machine floats and leaves its arguments as they were. -/
theorem frame_P : Cert.quiescent_MixOutKernel := fun m ρ _ => Cert.MixOutKernel.Gen.frame m ρ

/-- The same over the extended reals. -/
theorem frame_PI : Cert.quiescent_MixOutKernelIdeal := fun m ρ _ => Cert.MixOutKernelIdeal.Gen.frame m ρ

/-- The reference runs to its end over the extended reals and leaves its arguments as they were. -/
theorem frame_RI : Cert.quiescent_MixOutReferenceIdeal := by
  intro m g _
  hlo_run
  · exact fun _ => ⟨trivial, trivial, trivial, trivial⟩
  · exact sem_eq_zero_of_no_sems (sig := Cert.MixOutReferenceIdeal.sig) (by decide) _

/-- Kernel and reference end with equal results. -/
theorem value : Cert.algebraic_MixOutKernelIdeal_MixOutReferenceIdeal := by
  pair_intro
  · run_from run_ker m g
  · run_from run_ref m' g'

end Cert.MixOut
-- ==== Proof.Down.lean ====
/- The down projection of a layer, added to the residual stream, and the norm of the sum. -/
module

public import proofs.«01_k».proof.Defs
public import proofs.«01_k».proof.Proof.Gen.DownKernel.Frame
public import proofs.«01_k».proof.Proof.Gen.DownKernelIdeal.Frame
public import proofs.«01_k».proof.Proof.Gen.DownReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Down

section Ker
open Cert.DownKernelIdeal Cert.DownKernelIdeal.Gen

/-- The residual stream and the product. -/
def spec (A : FVec Ideal S4096x2816 .bf16) (B : FVec Ideal S2816x1024 .bf16) (x : FVec Ideal S4096x1024 .f32) : FVec Ideal S4096x1024 .f32 :=
  fun j => x j + ∑ k : Fin 2816, A (ix2 (j 0) k) * B (ix2 k (j 1))

/-- Its rows normed. -/
def specN (A : FVec Ideal S4096x2816 .bf16) (B : FVec Ideal S2816x1024 .bf16) (x : FVec Ideal S4096x1024 .f32) (g : FVec Ideal S4x1024 .f32) :
    FVec Ideal S4096x1024 .bf16 :=
  fun j => spec A B x j * Ideal.rsqrt (Norm.msq fun k => spec A B x (ix2 (j 0) k)) * g (ix2 (2 : Fin 4) (j 1))

/-- The windows' block indices at every grid point. -/
theorem idx : ∀ t : Fin cfg0.N, win0_0.index t = ![t.val, 0] ∧ win0_1.index t = ![0, 0] ∧ win0_2.index t = ![t.val, 0]
    ∧ win0_3.index t = ![2, 0, 0] ∧ win0_4.index t = ![t.val, 0] ∧ win0_5.index t = ![t.val, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 2816) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 2816) :
    iblk m c 1 t (ix2 k l) = m ((c : Thread nD τ).loc main_arg1) (ix2 k l) := by
  blk_ext [iblk, V, idx t]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (2 : Fin 4) k) := by
  blk_simp [iblk, idx t]; entry_read; pointwise; blk_ext [idx t]
theorem emb4 (t : Fin cfg0.N) (r : Fin 512) (l : Fin 1024) : ((cfg0.win 4).blk t).view.emb (ix2 r l) = ix2 (row t r) l := by
  unfold row; blk_ext [idx t]
theorem emb5 (t : Fin cfg0.N) (r : Fin 512) (l : Fin 1024) : ((cfg0.win 5).blk t).view.emb (ix2 r l) = ix2 (row t r) l := by
  unfold row; blk_ext [idx t]

/-- A block of the sum. -/
theorem pay (x0 : FVec Ideal S512x2816 .bf16) (x1 : FVec Ideal S2816x1024 .bf16) (x2 : FVec Ideal S512x1024 .f32) (r : Fin 512) (l : Fin 1024) :
    k0_pay1 (F := Ideal) x0 x1 x2 (ix2 r l) = x2 (ix2 r l) + ∑ k : Fin 2816, x0 (ix2 r k) * x1 (ix2 k l) := by
  pointwise [k0_pay1]
  exact add_comm (G := EReal) _ _

theorem blkS (c : Dev nD) (t : Fin cfg0.N) (r : Fin 512) (l : Fin 1024) :
    k0_pay1 (F := Ideal) (iblk m c 0 t) (iblk m c 1 t) (iblk m c 2 t) (ix2 r l) = spec (m ((c : Thread nD τ).loc main_arg0)) (m ((c : Thread nD τ).loc main_arg1)) (m ((c : Thread nD τ).loc main_arg2)) (ix2 (row t r) l) :=
  (pay _ _ _ r l).trans (congrArg₂ (· + ·) (rd2 m c t r l) (Finset.sum_congr rfl fun k _ => congrArg₂ (· * ·) (rd0 m c t r k) (rd1 m c t l k)))

/-- The run leaves the sum. -/
theorem final4 (c : Dev nD) : (dats m 0 c).arrAt 4 (cfgs 0).N = spec (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  obtain ⟨r, l, rfl⟩ : ∃ (r : Fin 512) (l : Fin 1024), y = ix2 r l := ⟨y 0, y 1, eq_ix2 y⟩
  refine Eq.trans ?_ (congrArg _ (emb4 t r l)).symm
  exact blkS m c t r l

theorem payN (x0 : FVec Ideal S512x2816 .bf16) (x1 : FVec Ideal S2816x1024 .bf16) (x2 : FVec Ideal S512x1024 .f32) (g : FVec Ideal S1x1x1024 .f32) (r : Fin 512) (l : Fin 1024) :
    k0_pay2 (F := Ideal) x0 x1 x2 g (ix2 r l) = k0_pay1 (F := Ideal) x0 x1 x2 (ix2 r l)
      * Ideal.rsqrt (Norm.msq fun k => k0_pay1 (F := Ideal) x0 x1 x2 (ix2 r k)) * g (ix3 0 0 l) := by
  pointwise [k0_pay2, Norm.msq]

/-- The run leaves the normed rows. -/
theorem final5 (c : Dev nD) : (dats m 0 c).arrAt 5 (cfgs 0).N = specN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  obtain ⟨r, l, rfl⟩ : ∃ (r : Fin 512) (l : Fin 1024), y = ix2 r l := ⟨y 0, y 1, eq_ix2 y⟩
  refine Eq.trans ?_ (congrArg _ (emb5 t r l)).symm
  refine (payN _ _ _ _ r l).trans ?_
  rw [funext fun k => blkS m c t r k, blkS m c t r l, rd3 m c t l]
  rfl

/-- Every run of the kernel ends with the spec in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = spec (m ((c : Thread nD τ).loc main_arg0)) (m ((c : Thread nD τ).loc main_arg1)) (m ((c : Thread nD τ).loc main_arg2))
    ∧ r.2.mem ((c.tc : Thread nD τ).loc main_v1_1) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.DownKernelIdeal.Gen.run_main m ρ
  · exact final4 m c
  · exact final5 m c

end Ker

section Ref
open Cert.DownReferenceIdeal Cert.DownReferenceIdeal.Gen

variable (m : (ℓ : Loc nD τ sig) → Buf (Elt Ideal) ℓ)

attribute [local irreducible] spec specN

/-- Every run of the reference ends with the spec in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v5) = spec (m ((c : Thread nD τ).loc main_arg0)) (m ((c : Thread nD τ).loc main_arg1)) (m ((c : Thread nD τ).loc main_arg2))
    ∧ r.2.mem ((c.tc : Thread nD τ).loc main_v19) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.DownReferenceIdeal.Value.run m ρ
  · funext j
    idx_vars j
    unfold spec
    pointwise
  · funext j
    idx_vars j
    unfold specN spec
    pointwise [Norm.msq]

end Ref

instance : Cert.DownKernel.Facts := Cert.DownKernel.Gen.facts
instance : Cert.DownKernelIdeal.Facts := Cert.DownKernelIdeal.Gen.facts
instance : Cert.DownReferenceIdeal.Facts := Cert.DownReferenceIdeal.Gen.facts

/-- The kernel runs to its end on machine floats and leaves its arguments as they were. -/
theorem frame_P : Cert.quiescent_DownKernel := fun m ρ _ => Cert.DownKernel.Gen.frame m ρ

/-- The same over the extended reals. -/
theorem frame_PI : Cert.quiescent_DownKernelIdeal := fun m ρ _ => Cert.DownKernelIdeal.Gen.frame m ρ

/-- The reference runs to its end over the extended reals and leaves its arguments as they were. -/
theorem frame_RI : Cert.quiescent_DownReferenceIdeal := by
  intro m g _
  hlo_run
  · exact fun _ => ⟨trivial, trivial, trivial, trivial⟩
  · exact sem_eq_zero_of_no_sems (sig := Cert.DownReferenceIdeal.sig) (by decide) _

/-- Kernel and reference end with equal results. -/
theorem value : Cert.algebraic_DownKernelIdeal_DownReferenceIdeal := by
  pair_intro
  · run_from run_ker m g
  · run_from run_ref m' g'

end Cert.Down
-- ==== Proof.LastDown.lean ====
/- The down projection of the last layer, added to the residual stream. -/
module

public import proofs.«01_k».proof.Defs
public import proofs.«01_k».proof.Proof.Gen.LastDownKernel.Frame
public import proofs.«01_k».proof.Proof.Gen.LastDownKernelIdeal.Frame
public import proofs.«01_k».proof.Proof.Gen.LastDownReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.LastDown

section Ker
open Cert.LastDownKernelIdeal Cert.LastDownKernelIdeal.Gen

/-- The residual stream and the product. -/
def spec (A : FVec Ideal S4096x2816 .bf16) (B : FVec Ideal S2816x1024 .bf16) (x : FVec Ideal S4096x1024 .f32) : FVec Ideal S4096x1024 .f32 :=
  fun j => x j + ∑ k : Fin 2816, A (ix2 (j 0) k) * B (ix2 k (j 1))

/-- The windows' block indices at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 2816) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 2816) :
    iblk m c 1 t (ix2 k l) = m ((c : Thread nD τ).loc main_arg1) (ix2 k l) := by
  blk_ext [iblk, V, idx t]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem emb3 (t : Fin cfg0.N) (r : Fin 512) (l : Fin 1024) : ((cfg0.win 3).blk t).view.emb (ix2 r l) = ix2 (row t r) l := by
  unfold row; blk_ext [idx t]

/-- A block of the sum. -/
theorem pay (x0 : FVec Ideal S512x2816 .bf16) (x1 : FVec Ideal S2816x1024 .bf16) (x2 : FVec Ideal S512x1024 .f32) (r : Fin 512) (l : Fin 1024) :
    k0_pay1 (F := Ideal) x0 x1 x2 (ix2 r l) = x2 (ix2 r l) + ∑ k : Fin 2816, x0 (ix2 r k) * x1 (ix2 k l) := by
  pointwise [k0_pay1]
  exact add_comm (G := EReal) _ _

theorem blkS (c : Dev nD) (t : Fin cfg0.N) (r : Fin 512) (l : Fin 1024) :
    k0_pay1 (F := Ideal) (iblk m c 0 t) (iblk m c 1 t) (iblk m c 2 t) (ix2 r l) = spec (m ((c : Thread nD τ).loc main_arg0)) (m ((c : Thread nD τ).loc main_arg1)) (m ((c : Thread nD τ).loc main_arg2)) (ix2 (row t r) l) :=
  (pay _ _ _ r l).trans (congrArg₂ (· + ·) (rd2 m c t r l) (Finset.sum_congr rfl fun k _ => congrArg₂ (· * ·) (rd0 m c t r k) (rd1 m c t l k)))

/-- The run leaves the sum. -/
theorem final3 (c : Dev nD) : (dats m 0 c).arrAt 3 (cfgs 0).N = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp; rw [after0_3]; frame_out
  obtain ⟨r, l, rfl⟩ : ∃ (r : Fin 512) (l : Fin 1024), y = ix2 r l := ⟨y 0, y 1, eq_ix2 y⟩
  refine Eq.trans ?_ (congrArg _ (emb3 t r l)).symm
  exact blkS m c t r l

/-- Every run of the kernel ends with the spec in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  run_from Cert.LastDownKernelIdeal.Gen.run_main m ρ
  exact final3 m c

end Ker

section Ref
open Cert.LastDownReferenceIdeal Cert.LastDownReferenceIdeal.Gen

variable (m : (ℓ : Loc nD τ sig) → Buf (Elt Ideal) ℓ)

attribute [local irreducible] spec

/-- Every run of the reference ends with the spec in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v3) = spec (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  run_from Cert.LastDownReferenceIdeal.Value.run m ρ
  funext j
  idx_vars j
  unfold spec
  pointwise

end Ref

instance : Cert.LastDownKernel.Facts := Cert.LastDownKernel.Gen.facts
instance : Cert.LastDownKernelIdeal.Facts := Cert.LastDownKernelIdeal.Gen.facts
instance : Cert.LastDownReferenceIdeal.Facts := Cert.LastDownReferenceIdeal.Gen.facts

/-- The kernel runs to its end on machine floats and leaves its arguments as they were. -/
theorem frame_P : Cert.quiescent_LastDownKernel := fun m ρ _ => Cert.LastDownKernel.Gen.frame m ρ

/-- The same over the extended reals. -/
theorem frame_PI : Cert.quiescent_LastDownKernelIdeal := fun m ρ _ => Cert.LastDownKernelIdeal.Gen.frame m ρ

/-- The reference runs to its end over the extended reals and leaves its arguments as they were. -/
theorem frame_RI : Cert.quiescent_LastDownReferenceIdeal := by
  intro m g _
  hlo_run
  · exact fun _ => ⟨trivial, trivial, trivial⟩
  · exact sem_eq_zero_of_no_sems (sig := Cert.LastDownReferenceIdeal.sig) (by decide) _

/-- Kernel and reference end with equal results. -/
theorem value : Cert.algebraic_LastDownKernelIdeal_LastDownReferenceIdeal := by
  pair_intro
  · run_from run_ker m g
  · run_from run_ref m' g'

end Cert.LastDown
-- ==== Proof.Up.lean ====
/- The up projection of a layer: a plain product. -/
module

public import proofs.«01_k».proof.Defs
public import proofs.«01_k».proof.Proof.Gen.UpKernel.Frame
public import proofs.«01_k».proof.Proof.Gen.UpKernelIdeal.Frame
public import proofs.«01_k».proof.Proof.Gen.UpReferenceIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Up

section Ker
open Cert.UpKernelIdeal Cert.UpKernelIdeal.Gen

/-- The product, entry by entry. -/
def spec (A : FVec Ideal S4096x1024 .bf16) (B : FVec Ideal S1024x5632 .bf16) : FVec Ideal S4096x5632 .f32 :=
  fun j => ∑ k : Fin 1024, A (ix2 (j 0) k) * B (ix2 k (j 1))

/-- The windows' block indices at every grid point. -/
theorem idx : ∀ t : Fin cfg0.N, win0_0.index t = ![t.val / 11, 0] ∧ win0_1.index t = ![0, t.val % 11] ∧ win0_2.index t = ![t.val / 11, t.val % 11] :=
  (by decide +kernel : ∀ t : Fin grid0.N, _)

variable (m : (ℓ : Loc nD τ sig) → Buf (Elt Ideal) ℓ)

theorem t_lt (t : Fin cfg0.N) : (t : ℕ) < 11 := lt_of_lt_of_eq t.isLt N_0

/-- The row and the column of the result a block's entry sits at. -/
def row (t : Fin cfg0.N) (r : Fin 4096) : Fin 4096 := ⟨t.val / 11 * 4096 + r, by have := t_lt t; omega⟩
def col (t : Fin cfg0.N) (l : Fin 512) : Fin 5632 := ⟨t.val % 11 * 512 + l, by have := t_lt t; omega⟩

theorem rd0 (c : Dev nD) (t : Fin cfg0.N) (r : Fin 4096) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 512) (k : Fin 1024) :
    iblk m c 1 t (ix2 k l) = m ((c : Thread nD τ).loc main_arg1) (ix2 k (col t l)) := by
  unfold col; blk_ext [iblk, V, idx t]
theorem emb2 (t : Fin cfg0.N) (r : Fin 4096) (l : Fin 512) : ((cfg0.win 2).blk t).view.emb (ix2 r l) = ix2 (row t r) (col t l) := by
  unfold row col; blk_ext [idx t]

/-- A block's product, entry by entry. -/
theorem pay (x0 : FVec Ideal S4096x1024 .bf16) (x1 : FVec Ideal S1024x512 .bf16) (r : Fin 4096) (l : Fin 512) :
    k0_pay1 (F := Ideal) x0 x1 (ix2 r l) = ∑ k : Fin 1024, x0 (ix2 r k) * x1 (ix2 k l) := by
  pointwise [k0_pay1]

/-- The run leaves the product. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 4096) (l : Fin 512), y = ix2 r l := ⟨y 0, y 1, eq_ix2 y⟩
  refine Eq.trans ?_ (congrArg _ (emb2 t r l)).symm
  refine (pay _ _ r l).trans ?_
  exact Finset.sum_congr rfl fun k _ => congrArg₂ (· * ·) (rd0 m c t r k) (rd1 m c t l k)

/-- Every run of the kernel ends with the product in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v0) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.UpKernelIdeal.Gen.run_main m ρ
  exact final m c

end Ker

section Ref
open Cert.UpReferenceIdeal Cert.UpReferenceIdeal.Gen

variable (m : (ℓ : Loc nD τ sig) → Buf (Elt Ideal) ℓ)

/-- Every run of the reference ends with the product in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v2) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.UpReferenceIdeal.Value.run m ρ
  funext j
  idx_vars j
  pointwise
  rfl

end Ref

instance : Cert.UpKernel.Facts := Cert.UpKernel.Gen.facts
instance : Cert.UpKernelIdeal.Facts := Cert.UpKernelIdeal.Gen.facts
instance : Cert.UpReferenceIdeal.Facts := Cert.UpReferenceIdeal.Gen.facts

/-- The kernel runs to its end on machine floats and leaves its arguments as they were. -/
theorem frame_P : Cert.quiescent_UpKernel := fun m ρ _ => Cert.UpKernel.Gen.frame m ρ

/-- The same over the extended reals. -/
theorem frame_PI : Cert.quiescent_UpKernelIdeal := fun m ρ _ => Cert.UpKernelIdeal.Gen.frame m ρ

/-- The reference runs to its end over the extended reals and leaves its arguments as they were. -/
theorem frame_RI : Cert.quiescent_UpReferenceIdeal := by
  intro m g _
  hlo_run
  · exact fun _ => ⟨trivial, trivial⟩
  · exact sem_eq_zero_of_no_sems (sig := Cert.UpReferenceIdeal.sig) (by decide) _

/-- Kernel and reference end with equal results. -/
theorem value : Cert.algebraic_UpKernelIdeal_UpReferenceIdeal := by
  pair_intro
  · run_from run_ker m g
  · run_from run_ref m' g'

end Cert.Up
-- ==== Proof.GeluPure.lean ====
/- The scalar facts behind the gates' gradients, over the extended reals: the two spellings of the logistic function and of
   its gate, the tanh form of gelu and its derivative, and what a bounded absolute value says. -/
module

public import proofs.«01_k».proof.Proof.NormPure
public import Idealize.ShloMosaic.Lib.ReduceAll

@[expose] public section

noncomputable section

open Idealize.ShloMosaic
open scoped BigOperators
namespace Cert.Gelu

/-- The bits of one half. -/
theorem cHalf : Ideal.ofBits .f32 0x3F000000#32 = ((1 / 2 : ℝ) : EReal) := by
  simp [Ideal.ofBits, Ideal.ieee]; rw [← EReal.coe_mul]; norm_num
/-- The bits of one. -/
theorem cOne : Ideal.ofBits .f32 0x3F800000#32 = ((1 : ℝ) : EReal) := by
  simp [Ideal.ofBits, Ideal.ieee]; rw [← EReal.coe_mul]; norm_num
/-- The bits of three. -/
theorem cThree : Ideal.ofBits .f32 0x40400000#32 = ((3 : ℝ) : EReal) := by
  simp [Ideal.ofBits, Ideal.ieee]; rw [← EReal.coe_mul]; norm_num
/-- The bits of 44715. -/
theorem cNum : Ideal.ofBits .f32 0x472EAB00#32 = ((44715 : ℝ) : EReal) := by
  simp [Ideal.ofBits, Ideal.ieee]; rw [← EReal.coe_mul]; norm_num
/-- The bits of a million. -/
theorem cDen : Ideal.ofBits .f32 0x49742400#32 = ((1000000 : ℝ) : EReal) := by
  simp [Ideal.ofBits, Ideal.ieee]; rw [← EReal.coe_mul]; norm_num
/-- The bits of the root of two over pi are a real. -/
theorem cK : ∃ k : ℝ, Ideal.ofBits .f32 0x3F4C422A#32 = (k : EReal) := ⟨_, by simp [Ideal.ofBits, Ideal.ieee]; rfl⟩
/-- The bits of plus infinity. -/
theorem cInf : Ideal.ofBits .f32 0x7F800000#32 = ⊤ := by
  simp [Ideal.ofBits, Ideal.ieee]

/-- The logistic function by the hyperbolic tangent. -/
def sig (z : EReal) : EReal :=
  Ideal.ofBits .f32 0x3F000000#32 + Ideal.ofBits .f32 0x3F000000#32 * Ideal.tanh (Ideal.ofBits .f32 0x3F000000#32 * z)

/-- The logistic function of a real. -/
theorem sig_coe (z : ℝ) : sig (z : EReal) = ((1 / (1 + Real.exp (-z)) : ℝ) : EReal) := by
  rw [sig, cHalf, ← EReal.coe_mul, Ideal.tanh_coe, ← EReal.coe_mul, ← EReal.coe_add]
  congr 1
  have h : Real.exp (-z) = Real.exp (-(1 / 2 * z)) * Real.exp (-(1 / 2 * z)) := by rw [← Real.exp_add]; congr 1; ring
  have hp := Real.exp_pos (1 / 2 * z)
  have hn : Real.exp (-(1 / 2 * z)) = (Real.exp (1 / 2 * z))⁻¹ := Real.exp_neg _
  rw [Real.tanh_eq_sinh_div_cosh, Real.sinh_eq, Real.cosh_eq, h, hn]
  field_simp
  ring

/-- The logistic function by the exponential is the one by the hyperbolic tangent. -/
theorem sig_eq (z : EReal) :
    Ideal.div (Ideal.ofBits .f32 0x3F800000#32) (Ideal.ofBits .f32 0x3F800000#32 + Ideal.exp (-z)) = sig z := by
  rw [cOne]
  induction z with
  | bot =>
    have : ((1 : ℝ) : EReal) + Ideal.exp (-⊥) = ⊤ := by rw [EReal.neg_bot, Ideal.exp_top]; rfl
    rw [this, sig, cHalf, EReal.coe_mul_bot_of_pos (by norm_num), Ideal.tanh_bot]
    unfold Ideal.div
    rw [if_neg (by simp), EReal.inv_top, mul_zero, ← EReal.coe_one, ← EReal.coe_neg, ← EReal.coe_mul, ← EReal.coe_add]
    norm_num
  | top =>
    rw [EReal.neg_top, Ideal.exp_bot, add_zero, sig, cHalf, EReal.coe_mul_top_of_pos (by norm_num), Ideal.tanh_top, Ideal.div_coe one_ne_zero,
      ← EReal.coe_one, ← EReal.coe_mul, ← EReal.coe_mul, ← EReal.coe_add]
    norm_num
  | coe z =>
    rw [sig_coe, ← EReal.coe_neg, Ideal.exp_coe, ← EReal.coe_add, Ideal.div_coe (by positivity), ← EReal.coe_mul, one_mul]

/-- The logistic function is a real everywhere. -/
theorem sig_real (z : EReal) : ∃ s : ℝ, sig z = (s : EReal) := by
  induction z with
  | bot => exact ⟨0, by rw [sig, cHalf, EReal.coe_mul_bot_of_pos (by norm_num), Ideal.tanh_bot, ← EReal.coe_one, ← EReal.coe_neg, ← EReal.coe_mul, ← EReal.coe_add]; norm_num⟩
  | top => exact ⟨1, by rw [sig, cHalf, EReal.coe_mul_top_of_pos (by norm_num), Ideal.tanh_top, ← EReal.coe_one, ← EReal.coe_mul, ← EReal.coe_add]; norm_num⟩
  | coe z => exact ⟨_, sig_coe z⟩

/-- The hyperbolic tangent inside gelu. -/
def th (x : EReal) : EReal :=
  Ideal.tanh (Ideal.ofBits .f32 0x3F4C422A#32 * (x + ((8943 / 200000 : ℝ) : EReal) * x * x * x))

/-- The cube with its factor written as a quotient. -/
theorem th_eq (x : EReal) :
    Ideal.tanh (Ideal.ofBits .f32 0x3F4C422A#32
      * (x + Ideal.div (x * x * x * Ideal.ofBits .f32 0x472EAB00#32) (Ideal.ofBits .f32 0x49742400#32))) = th x := by
  rw [th, cNum, cDen, Ideal.div_coe (by norm_num), mul_assoc (x * x * x), ← EReal.coe_mul, mul_comm (x * x * x)]
  norm_num
  simp only [mul_assoc]

/-- gelu, in its tanh form. -/
def gelu (x : EReal) : EReal := Ideal.ofBits .f32 0x3F000000#32 * x * (Ideal.ofBits .f32 0x3F800000#32 + th x)

/-- gelu's derivative, in its tanh form. -/
def geluD (x : EReal) : EReal :=
  Ideal.ofBits .f32 0x3F000000#32 * (Ideal.ofBits .f32 0x3F800000#32 + th x)
    + Ideal.ofBits .f32 0x3F000000#32 * x * (Ideal.ofBits .f32 0x3F800000#32 - th x * th x)
      * (Ideal.ofBits .f32 0x3F4C422A#32 * (Ideal.ofBits .f32 0x3F800000#32 + ((26829 / 200000 : ℝ) : EReal) * x * x))

/-- gelu with its half moved. -/
theorem gelu_eq (x : EReal) :
    x * (Ideal.ofBits .f32 0x3F000000#32 * (Ideal.ofBits .f32 0x3F800000#32 + th x)) = gelu x := by
  rw [gelu, ← mul_assoc, mul_comm x]

/-- The tangent of a real is a real. -/
theorem th_real (x : ℝ) : ∃ t : ℝ, th (x : EReal) = (t : EReal) := by
  obtain ⟨k, hk⟩ := cK
  exact ⟨_, by rw [th, hk, ← EReal.coe_mul, ← EReal.coe_mul, ← EReal.coe_mul, ← EReal.coe_add, ← EReal.coe_mul, Ideal.tanh_coe]⟩

/-- gelu of a real is a real. -/
theorem gelu_real (x : ℝ) : ∃ y : ℝ, gelu (x : EReal) = (y : EReal) := by
  obtain ⟨t, ht⟩ := th_real x
  exact ⟨_, by rw [gelu, ht, cHalf, cOne, ← EReal.coe_mul, ← EReal.coe_add, ← EReal.coe_mul]⟩

/-- gelu's derivative at a real is a real. -/
theorem geluD_real (x : ℝ) : ∃ y : ℝ, geluD (x : EReal) = (y : EReal) := by
  obtain ⟨t, ht⟩ := th_real x
  obtain ⟨k, hk⟩ := cK
  exact ⟨_, by rw [geluD, ht, hk, cHalf, cOne]; norm_cast⟩

/-- The chain rule's three terms of gelu's gradient at reals are the product with the derivative. -/
theorem grad_eq (x d : ℝ) :
    (d : EReal) * (Ideal.ofBits .f32 0x3F000000#32 * (Ideal.ofBits .f32 0x3F800000#32 + th x))
      + Ideal.ofBits .f32 0x3F4C422A#32 * (Ideal.ofBits .f32 0x3F000000#32 * ((x : EReal) * d)
          * ((Ideal.ofBits .f32 0x3F800000#32 + th x) * (Ideal.ofBits .f32 0x3F800000#32 - th x)))
      + Ideal.div (Ideal.ofBits .f32 0x3F4C422A#32 * (Ideal.ofBits .f32 0x3F000000#32 * ((x : EReal) * d)
          * ((Ideal.ofBits .f32 0x3F800000#32 + th x) * (Ideal.ofBits .f32 0x3F800000#32 - th x)))) (Ideal.ofBits .f32 0x49742400#32)
        * Ideal.ofBits .f32 0x472EAB00#32 * (Ideal.ofBits .f32 0x40400000#32 * ((x : EReal) * x))
    = (d : EReal) * geluD x := by
  obtain ⟨t, ht⟩ := th_real x
  obtain ⟨k, hk⟩ := cK
  rw [geluD, ht, hk, cHalf, cOne, cThree, cNum, cDen, Ideal.div_coe (by norm_num)]
  norm_cast
  ring

/-- A sum of reals is a real. -/
theorem coe_sum {n : ℕ} (f : Fin n → ℝ) : ((∑ q : Fin n, f q : ℝ) : EReal) = ∑ q : Fin n, (f q : EReal) := by
  induction n with
  | zero => simp
  | succ n ih => rw [Fin.sum_univ_succ, Fin.sum_univ_succ, EReal.coe_add, ih]

/-- The bits of one are the one. -/
theorem cOne' : Ideal.ofBits .f32 0x3F800000#32 = 1 := cOne

/-- The logistic function by the exponential, its ones written out. -/
theorem sig_eq' (z : EReal) : Ideal.div 1 (1 + Ideal.exp (-z)) = sig z := by
  have := sig_eq z
  rwa [cOne'] at this

/-- gelu with its half moved, its one written out. -/
theorem gelu_eq' (x : EReal) : x * (Ideal.ofBits .f32 0x3F000000#32 * (1 + th x)) = gelu x := by
  have := gelu_eq x
  rwa [cOne'] at this

/-- An extended real whose absolute value lies under the bits of infinity is a real. -/
theorem real_of_lt {x : EReal} (h : Ideal.cmp .olt (max x (-x)) (Ideal.ofBits .f32 0x7F800000#32) = 1#1) : ∃ r : ℝ, x = (r : EReal) := by
  rw [cInf] at h
  induction x with
  | bot => simp [Ideal.cmp] at h
  | top => simp [Ideal.cmp] at h
  | coe r => exact ⟨r, rfl⟩

end Cert.Gelu
-- ==== Proof.Glu.lean ====
/- The gradients of the gated activation: of its input, of the gate's matrix and of the gate's bias. -/
module

public import proofs.«01_k».proof.Defs
public import proofs.«01_k».proof.Proof.Gen.GluKernel.Frame
public import proofs.«01_k».proof.Proof.Gen.GluKernelIdeal.Frame
public import proofs.«01_k».proof.Proof.Gen.GluReferenceIdeal.Run
public import proofs.«01_k».proof.Proof.Gen.Pre_glu_finite
public import proofs.«01_k».proof.Proof.GeluPure
public import Idealize.ShloMosaic.Lib.Pipeline.ValueKit
public import Idealize.ShloMosaic.Lib.Claim
public import Idealize.ShloMosaic.Lib.Quiescent
public import Idealize.ShloMosaic.Lib.Affine

@[expose] public section

set_option maxRecDepth 16384

noncomputable section

open Idealize.ShloMosaic Idealize.ShloMosaic.TcCoe Idealize.SL.Sem
open Idealize.ShloMosaic.Pipeline (Dat)
open scoped BigOperators

namespace Cert.Glu
open Cert.Gelu

/-- One entry of the gate of a row `x`, at the matrix `W` and the bias `b`. -/
def gate (x : Fin 512 → EReal) (W : Fin 512 → Fin 512 → EReal) (b : Fin 512 → EReal) (k : Fin 512) : EReal :=
  sig ((∑ q : Fin 512, gelu (x q) * W q k) + b k)

/-- The gradient of what the gate's logistic function takes. -/
def dz (dy x : Fin 512 → EReal) (W : Fin 512 → Fin 512 → EReal) (b : Fin 512 → EReal) (k : Fin 512) : EReal :=
  dy k * gelu (x k) * gate x W b k * (Ideal.ofBits .f32 0x3F800000#32 - gate x W b k)

/-- The gradient of what gelu gives: through the product and through the gate. -/
def dg (dy x : Fin 512 → EReal) (W : Fin 512 → Fin 512 → EReal) (b : Fin 512 → EReal) (k : Fin 512) : EReal :=
  dy k * gate x W b k + ∑ q : Fin 512, dz dy x W b q * W k q

/-- The second half of a row of the joined gradient. -/
def hi (k : Fin 512) : Fin 1024 := ⟨512 + k.val, by omega⟩

section Real
variable {dy x : Fin 512 → EReal} {W : Fin 512 → Fin 512 → EReal} {b : Fin 512 → EReal}

/-- Of real rows the gradient of the logistic function's argument is real. -/
theorem dz_real (hdy : ∀ k, ∃ r : ℝ, dy k = (r : EReal)) (hx : ∀ k, ∃ r : ℝ, x k = (r : EReal)) (k : Fin 512) :
    ∃ r : ℝ, dz dy x W b k = (r : EReal) := by
  obtain ⟨d, hd⟩ := hdy k
  obtain ⟨s, hs⟩ := sig_real ((∑ q : Fin 512, gelu (x q) * W q k) + b k)
  obtain ⟨y, hy⟩ := hx k
  obtain ⟨g, hg⟩ := gelu_real y
  exact ⟨d * g * s * (1 - s), by rw [dz, gate, hs, hd, hy, hg, cOne]; norm_cast⟩

/-- Of real rows and a real matrix the gradient of what gelu gives is real. -/
theorem dg_real (hdy : ∀ k, ∃ r : ℝ, dy k = (r : EReal)) (hx : ∀ k, ∃ r : ℝ, x k = (r : EReal))
    (hW : ∀ k q, ∃ r : ℝ, W k q = (r : EReal)) (k : Fin 512) : ∃ r : ℝ, dg dy x W b k = (r : EReal) := by
  obtain ⟨d, hd⟩ := hdy k
  obtain ⟨s, hs⟩ := sig_real ((∑ q : Fin 512, gelu (x q) * W q k) + b k)
  choose z hz using fun q => dz_real (W := W) (b := b) hdy hx q
  choose w hw using hW k
  refine ⟨d * s + ∑ q : Fin 512, z q * w q, ?_⟩
  rw [dg, gate, hs, hd, EReal.coe_add, EReal.coe_mul, coe_sum]
  refine congrArg _ (Finset.sum_congr rfl fun q _ => ?_)
  rw [hz, hw, EReal.coe_mul]

end Real

section Ker
open Cert.GluKernelIdeal Cert.GluKernelIdeal.Gen

/-- The gradient of the activation's input. -/
def specX (A : FVec Ideal S4096x1024 .f32) (X : FVec Ideal S4096x512 .f32) (W : FVec Ideal S512x512 .f32) (b : FVec Ideal S512 .f32) : FVec Ideal S4096x512 .f32 :=
  fun j => dg (fun k => A (ix2 (j 0) (hi k))) (fun k => X (ix2 (j 0) k)) (fun q k => W (ix2 q k)) (fun k => b (ix1 k)) (j 1) * geluD (X (ix2 (j 0) (j 1)))

/-- One row of the gradient of what the logistic function takes. -/
def rowZ (A : FVec Ideal S4096x1024 .f32) (X : FVec Ideal S4096x512 .f32) (W : FVec Ideal S512x512 .f32) (b : FVec Ideal S512 .f32) (i : Fin 4096) (k : Fin 512) : EReal :=
  dz (fun k => A (ix2 i (hi k))) (fun k => X (ix2 i k)) (fun q k => W (ix2 q k)) (fun k => b (ix1 k)) k

/-- The gradient of the gate's matrix. -/
def specW (A : FVec Ideal S4096x1024 .f32) (X : FVec Ideal S4096x512 .f32) (W : FVec Ideal S512x512 .f32) (b : FVec Ideal S512 .f32) : FVec Ideal S512x512 .f32 :=
  fun j => ∑ i : Fin 4096, gelu (X (ix2 i (j 0))) * rowZ A X W b i (j 1)

/-- The gradient of the gate's bias. -/
def specB (A : FVec Ideal S4096x1024 .f32) (X : FVec Ideal S4096x512 .f32) (W : FVec Ideal S512x512 .f32) (b : FVec Ideal S512 .f32) : FVec Ideal S1x512 .f32 :=
  fun j => ∑ i : Fin 4096, rowZ A X W b i (j 1)

/-- The windows' block indices at every grid point. -/
theorem idx : ∀ t : Fin cfg0.N, win0_0.index t = ![t.val, 1] ∧ win0_1.index t = ![t.val, 0] ∧ win0_2.index t = ![0, 0]
    ∧ win0_3.index t = ![0, 0] ∧ win0_4.index t = ![t.val, 0] ∧ win0_5.index t = ![0, 0] ∧ win0_6.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 512) : iblk m c 0 t (ix2 r k) = (m ((c : Thread nD τ).loc main_arg0)) (ix2 (row t r) (hi k)) := by
  unfold row hi; blk_ext [iblk, V, idx t]
theorem rd1 (c : Dev nD) (t : Fin cfg0.N) (r : Fin 512) (k : Fin 512) : iblk m c 1 t (ix2 r k) = (m ((c : Thread nD τ).loc main_arg1)) (ix2 (row t r) k) := by
  unfold row; blk_ext [iblk, V, idx t]
theorem rd2 (c : Dev nD) (t : Fin cfg0.N) (l : Fin 512) (k : Fin 512) : iblk m c 2 t (ix2 l k) = (m ((c : Thread nD τ).loc main_arg2)) (ix2 l k) := by
  blk_simp [iblk, idx t]; entry_read; pointwise; blk_ext [idx t]
theorem rd3 (c : Dev nD) (t : Fin cfg0.N) (k : Fin 512) : iblk m c 3 t (ix2 (0 : Fin 1) k) = (m ((c : Thread nD τ).loc main_arg3)) (ix1 k) := by
  blk_simp [iblk, idx t]; entry_read; pointwise; blk_ext [idx t]
theorem emb4 (t : Fin cfg0.N) (r : Fin 512) (l : Fin 512) : ((cfg0.win 4).blk t).view.emb (ix2 r l) = ix2 (row t r) l := by
  unfold row; blk_ext [idx t]

/-- The two named constants' values. -/
theorem nC : Named.named (F := Ideal) Cert.GluKernelIdeal.κ "gelu_c" (φ := .f32) 0x3D372713#32 = ((8943 / 200000 : ℝ) : EReal) :=
  IdealRules.named_const.ideal_named_scalar _ _ _ _ rfl
theorem n3C : Named.named (F := Ideal) Cert.GluKernelIdeal.κ "gelu_3c" (φ := .f32) 0x3E095D4F#32 = ((26829 / 200000 : ℝ) : EReal) :=
  IdealRules.named_const.ideal_named_scalar _ _ _ _ rfl

/-- A block of gelu. -/
theorem payA (x : FVec Ideal S512x512 .f32) (r l : Fin 512) : k0_pay4 (F := Ideal) x (ix2 r l) = gelu (x (ix2 r l)) := by
  pointwise [k0_pay4, nC, gelu, th]
/-- A block of the gate. -/
theorem payS (x : FVec Ideal S512x512 .f32) (w : FVec Ideal S512x512 .bf16) (b : FVec Ideal S1x512 .f32) (r l : Fin 512) :
    k0_pay5 (F := Ideal) x w b (ix2 r l)
      = gate (fun k => x (ix2 r k)) (fun q k => w (ix2 q k)) (fun k => b (ix2 (0 : Fin 1) k)) l := by
  pointwise [k0_pay5, payA, gate, Gelu.sig]
/-- A block of the gradient of what the logistic function takes. -/
theorem payZ (x dy : FVec Ideal S512x512 .f32) (w : FVec Ideal S512x512 .bf16) (b : FVec Ideal S1x512 .f32) (r l : Fin 512) :
    k0_pay6 (F := Ideal) x dy w b (ix2 r l)
      = dz (fun k => dy (ix2 r k)) (fun k => x (ix2 r k)) (fun q k => w (ix2 q k)) (fun k => b (ix2 (0 : Fin 1) k)) l := by
  pointwise [k0_pay6, payA, payS, dz]
/-- A block of the part of gelu's gradient through the product. -/
theorem payP (x dy : FVec Ideal S512x512 .f32) (w : FVec Ideal S512x512 .bf16) (b : FVec Ideal S1x512 .f32) (r l : Fin 512) :
    k0_pay7 (F := Ideal) x dy w b (ix2 r l)
      = dy (ix2 r l) * gate (fun k => x (ix2 r k)) (fun q k => w (ix2 q k)) (fun k => b (ix2 (0 : Fin 1) k)) l := by
  pointwise [k0_pay7, payS]
/-- A block of the input's gradient. -/
theorem payX (x z p : FVec Ideal S512x512 .f32) (w : FVec Ideal S512x512 .bf16) (r l : Fin 512) :
    k0_pay8 (F := Ideal) x z p w (ix2 r l)
      = (p (ix2 r l) + ∑ q : Fin 512, z (ix2 r q) * w (ix2 l q)) * geluD (x (ix2 r l)) := by
  pointwise [k0_pay8, nC, n3C, geluD, th]
/-- The matrix's gradient: what the buffer held and a block's part. -/
theorem payW (a z acc : FVec Ideal S512x512 .f32) (j : S512x512.Idx) :
    k0_pay9 (F := Ideal) a z acc j = acc j + ∑ r : Fin 512, a (ix2 r (j 0)) * z (ix2 r (j 1)) := by
  idx_vars j
  pointwise [k0_pay9]
/-- The bias's gradient: what the buffer held and a block's part. -/
theorem payB (z : FVec Ideal S512x512 .f32) (acc : FVec Ideal S1x512 .f32) (j : S1x512.Idx) :
    k0_pay1 (F := Ideal) z acc j = acc j + ∑ r : Fin 512, z (ix2 r (j 1)) := by
  idx_vars j
  pointwise [k0_pay1]
theorem payO5 (j : S512x512.Idx) : k0_pay2 (F := Ideal) j = 0 := by
  pointwise! [k0_pay2]
theorem payO6 (j : S1x512.Idx) : k0_pay3 (F := Ideal) j = 0 := by
  pointwise! [k0_pay3]

theorem blkZ (c : Dev nD) (t : Fin cfg0.N) (r l : Fin 512) :
    k0_pay6 (F := Ideal) (iblk m c 1 t) (iblk m c 0 t) (iblk m c 2 t) (iblk m c 3 t) (ix2 r l) = rowZ (m ((c : Thread nD τ).loc main_arg0)) (m ((c : Thread nD τ).loc main_arg1)) (m ((c : Thread nD τ).loc main_arg2)) (m ((c : Thread nD τ).loc main_arg3)) (row t r) l := by
  refine (payZ _ _ _ _ r l).trans ?_
  rw [funext fun k => rd0 m c t r k, funext fun k => rd1 m c t r k, funext fun q => funext fun k => rd2 m c t q k, funext fun k => rd3 m c t k]
  rfl

theorem blkA (c : Dev nD) (t : Fin cfg0.N) (r l : Fin 512) :
    k0_pay4 (F := Ideal) (iblk m c 1 t) (ix2 r l) = gelu ((m ((c : Thread nD τ).loc main_arg1)) (ix2 (row t r) l)) :=
  (payA _ r l).trans (congrArg gelu (rd1 m c t r l))

/-- The block that the grid point `t` writes of the input's gradient. -/
theorem blkX (c : Dev nD) (t : Fin cfg0.N) (y : S512x512.Idx) :
    k0_pay8 (F := Ideal) (iblk m c 1 t) (k0_pay6 (F := Ideal) (iblk m c 1 t) (iblk m c 0 t) (iblk m c 2 t) (iblk m c 3 t))
        (k0_pay7 (F := Ideal) (iblk m c 1 t) (iblk m c 0 t) (iblk m c 2 t) (iblk m c 3 t)) (iblk m c 2 t) y
      = specX (m ((c : Thread nD τ).loc main_arg0)) (m ((c : Thread nD τ).loc main_arg1)) (m ((c : Thread nD τ).loc main_arg2)) (m ((c : Thread nD τ).loc main_arg3)) (ix2 (row t (y 0)) (y 1)) := by
  obtain ⟨r, l, rfl⟩ : ∃ (r : Fin 512) (l : Fin 512), y = ix2 r l := ⟨y 0, y 1, eq_ix2 y⟩
  refine (payX _ _ _ _ r l).trans ?_
  rw [funext fun q => congrArg₂ (· * ·) (blkZ m c t r q) (rd2 m c t l q), payP, rd0, rd1, funext fun k => rd1 m c t r k,
    funext fun q => funext fun k => rd2 m c t q k, funext fun k => rd3 m c t k]
  rfl

/-- The run leaves the input's gradient -/
theorem final4 (c : Dev nD) : (dats m 0 c).arrAt 4 (cfgs 0).N = specX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]
  obtain ⟨r, l, rfl⟩ : ∃ (r : Fin 512) (l : Fin 512), y = ix2 r l := ⟨y 0, y 1, eq_ix2 y⟩
  refine Eq.trans ?_ (congrArg _ (emb4 t r l)).symm
  by_cases h : t.val % 8 = 0
  · rw [outsAt0_A m c t h]; frame_out; exact blkX m c t _
  · rw [outsAt0_B m c t h]; frame_out; exact blkX m c t _

theorem row_eq (t : Fin cfg0.N) (k : Fin 512) (hl : t.val % 8 * 512 + k.val < 4096) : row t k = ⟨t.val % 8 * 512 + k.val, hl⟩ := by
  have ht : t.val % 8 = t.val := Nat.mod_eq_of_lt (t_lt t)
  exact Fin.ext (by show t.val * 512 + k.val = t.val % 8 * 512 + k.val; omega)

/-- What the first grid point leaves of the matrix's gradient, and what each later one adds. -/
theorem stepA5 (c : Dev nD) (t : Fin cfg0.N) (h : t.val % 8 = 0) (j : S512x512.Idx) :
    (outsAt0 m c t.val t.isLt).2.1 j = 0 + ∑ r : Fin 512, gelu ((m ((c : Thread nD τ).loc main_arg1)) (ix2 (row t r) (j 0))) * rowZ (m ((c : Thread nD τ).loc main_arg0)) (m ((c : Thread nD τ).loc main_arg1)) (m ((c : Thread nD τ).loc main_arg2)) (m ((c : Thread nD τ).loc main_arg3)) (row t r) (j 1) := by
  rw [outsAt0_A m c t h]; frame_out; refine (payW _ _ _ j).trans ?_
  rw [payO5]; exact congrArg _ (Finset.sum_congr rfl fun r _ => congrArg₂ (· * ·) (blkA m c t r (j 0)) (blkZ m c t r (j 1)))
theorem stepB5 (c : Dev nD) (t : Fin cfg0.N) (h : ¬t.val % 8 = 0) (j : S512x512.Idx) :
    (outsAt0 m c t.val t.isLt).2.1 j = (outsAt0 m c (t.val - 1) (Nat.lt_of_le_of_lt (Nat.sub_le _ _) t.isLt)).2.1 j + ∑ r : Fin 512, gelu ((m ((c : Thread nD τ).loc main_arg1)) (ix2 (row t r) (j 0))) * rowZ (m ((c : Thread nD τ).loc main_arg0)) (m ((c : Thread nD τ).loc main_arg1)) (m ((c : Thread nD τ).loc main_arg2)) (m ((c : Thread nD τ).loc main_arg3)) (row t r) (j 1) := by
  rw [outsAt0_B m c t h]; frame_out; refine (payW _ _ _ j).trans ?_
  exact congrArg _ (Finset.sum_congr rfl fun r _ => congrArg₂ (· * ·) (blkA m c t r (j 0)) (blkZ m c t r (j 1)))

/-- The run leaves the matrix's gradient. -/
theorem final5 (c : Dev nD) : (dats m 0 c).arrAt 5 (cfgs 0).N = specW (m ((c : Thread nD τ).loc main_arg0)) (m ((c : Thread nD τ).loc main_arg1)) (m ((c : Thread nD τ).loc main_arg2)) (m ((c : Thread nD τ).loc main_arg3)) := by
  refine (dats m 0 c).arrAt_eq_of_after_last 5 t0_7 (by decide +kernel) _ fun j => ?_
  blk_simp
  rw [after0_5]
  refine (Pipeline.eq_sum_fin_of_reset_step_apply_last (fun n h => (outsAt0 m c n h).2.1) 8 (fun _ => 0)
    (fun t j => ∑ r : Fin 512, gelu ((m ((c : Thread nD τ).loc main_arg1)) (ix2 (row t r) (j 0))) * rowZ (m ((c : Thread nD τ).loc main_arg0)) (m ((c : Thread nD τ).loc main_arg1)) (m ((c : Thread nD τ).loc main_arg2)) (m ((c : Thread nD τ).loc main_arg3)) (row t r) (j 1)) (stepA5 m c) (stepB5 m c) (le_of_eq N_0) t0_7 rfl j).trans ?_
  rw [zero_add]
  refine (Fin.sum_points_lanes_congr 8 (A := 1) (L := 4096)
    (g := fun _ i => gelu ((m ((c : Thread nD τ).loc main_arg1)) (ix2 i (j 0))) * rowZ (m ((c : Thread nD τ).loc main_arg0)) (m ((c : Thread nD τ).loc main_arg1)) (m ((c : Thread nD τ).loc main_arg2)) (m ((c : Thread nD τ).loc main_arg3)) i (j 1))
    (fun t k ha hl => ?_) N_0 rfl).trans ((Fin.sum_univ_one _).trans rfl)
  rw [row_eq t k hl]

/-- What the first grid point leaves of the bias's gradient, and what each later one adds. -/
theorem stepA6 (c : Dev nD) (t : Fin cfg0.N) (h : t.val % 8 = 0) (j : S1x512.Idx) :
    (outsAt0 m c t.val t.isLt).2.2 j = 0 + ∑ r : Fin 512, rowZ (m ((c : Thread nD τ).loc main_arg0)) (m ((c : Thread nD τ).loc main_arg1)) (m ((c : Thread nD τ).loc main_arg2)) (m ((c : Thread nD τ).loc main_arg3)) (row t r) (j 1) := by
  rw [outsAt0_A m c t h]; frame_out; refine (payB _ _ j).trans ?_
  rw [payO6]; exact congrArg _ (Finset.sum_congr rfl fun r _ => blkZ m c t r (j 1))
theorem stepB6 (c : Dev nD) (t : Fin cfg0.N) (h : ¬t.val % 8 = 0) (j : S1x512.Idx) :
    (outsAt0 m c t.val t.isLt).2.2 j = (outsAt0 m c (t.val - 1) (Nat.lt_of_le_of_lt (Nat.sub_le _ _) t.isLt)).2.2 j + ∑ r : Fin 512, rowZ (m ((c : Thread nD τ).loc main_arg0)) (m ((c : Thread nD τ).loc main_arg1)) (m ((c : Thread nD τ).loc main_arg2)) (m ((c : Thread nD τ).loc main_arg3)) (row t r) (j 1) := by
  rw [outsAt0_B m c t h]; frame_out; refine (payB _ _ j).trans ?_
  exact congrArg _ (Finset.sum_congr rfl fun r _ => blkZ m c t r (j 1))

/-- The run leaves the bias's gradient. -/
theorem final6 (c : Dev nD) : (dats m 0 c).arrAt 6 (cfgs 0).N = specB (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_7 (by decide +kernel) _ fun j => ?_
  blk_simp
  rw [after0_6]
  refine (Pipeline.eq_sum_fin_of_reset_step_apply_last (fun n h => (outsAt0 m c n h).2.2) 8 (fun _ => 0)
    (fun t j => ∑ r : Fin 512, rowZ (m ((c : Thread nD τ).loc main_arg0)) (m ((c : Thread nD τ).loc main_arg1)) (m ((c : Thread nD τ).loc main_arg2)) (m ((c : Thread nD τ).loc main_arg3)) (row t r) (j 1)) (stepA6 m c) (stepB6 m c) (le_of_eq N_0) t0_7 rfl j).trans ?_
  rw [zero_add]
  refine (Fin.sum_points_lanes_congr 8 (A := 1) (L := 4096)
    (g := fun _ i => rowZ (m ((c : Thread nD τ).loc main_arg0)) (m ((c : Thread nD τ).loc main_arg1)) (m ((c : Thread nD τ).loc main_arg2)) (m ((c : Thread nD τ).loc main_arg3)) i (j 1))
    (fun t k ha hl => ?_) N_0 rfl).trans ((Fin.sum_univ_one _).trans rfl)
  rw [row_eq t k hl]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v2_0) = specX (m ((c : Thread nD τ).loc main_arg0)) (m ((c : Thread nD τ).loc main_arg1)) (m ((c : Thread nD τ).loc main_arg2)) (m ((c : Thread nD τ).loc main_arg3))
    ∧ r.2.mem ((c.tc : Thread nD τ).loc main_v2_1) = specW (m ((c : Thread nD τ).loc main_arg0)) (m ((c : Thread nD τ).loc main_arg1)) (m ((c : Thread nD τ).loc main_arg2)) (m ((c : Thread nD τ).loc main_arg3))
    ∧ r.2.mem ((c.tc : Thread nD τ).loc main_v2_2) = specB (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.GluKernelIdeal.Gen.run_main m ρ
  · exact final4 m c
  · exact final5 m c
  · exact final6 m c

end Ker

section Ref
open Cert.GluReferenceIdeal Cert.GluReferenceIdeal.Gen

/-- The reference's gradient of the logistic function's argument is the kernel's, its factors in another order. -/
theorem dzRef (a x s : EReal) :
    x * a * (s * (1 - s)) = a * x * s * (1 - s) := by
  ac_rfl

variable (m : (ℓ : Loc nD τ sig) → Buf (Elt Ideal) ℓ)

attribute [local irreducible] Cert.Gelu.sig Cert.Gelu.th Cert.Gelu.gelu Cert.Gelu.geluD

/-- The reference's first result is the same gradient, where the arguments are real. -/
theorem ref0 (c : Dev nD) (h0 : ∀ j, ∃ r : ℝ, (m ((c : Thread nD τ).loc main_arg0)) j = (r : EReal)) (h1 : ∀ j, ∃ r : ℝ, (m ((c : Thread nD τ).loc main_arg1)) j = (r : EReal))
    (h2 : ∀ j, ∃ r : ℝ, (m ((c : Thread nD τ).loc main_arg2)) j = (r : EReal)) : Value.res_out0 m c = specX (m ((c : Thread nD τ).loc main_arg0)) (m ((c : Thread nD τ).loc main_arg1)) (m ((c : Thread nD τ).loc main_arg2)) (m ((c : Thread nD τ).loc main_arg3)) := by
  funext j
  idx_vars j
  obtain ⟨x, hx⟩ := h1 (ix2 j0 j1)
  obtain ⟨d, hd⟩ := dg_real (dy := fun k => (m ((c : Thread nD τ).loc main_arg0)) (ix2 j0 (hi k))) (x := fun k => (m ((c : Thread nD τ).loc main_arg1)) (ix2 j0 k)) (W := fun q k => (m ((c : Thread nD τ).loc main_arg2)) (ix2 q k)) (b := fun k => (m ((c : Thread nD τ).loc main_arg3)) (ix1 k))
    (fun k => h0 _) (fun k => h1 _) (fun k q => h2 _) j1
  have hg := grad_eq x d
  rw [cOne'] at hg
  refine Eq.trans ?_ (hg.trans ?_)
  · rw [← hd, ← hx]
    pointwise [Value.res_out0, Value.res_main_v61, dg, dz, gate, hi]
    simp only [th_eq, sig_eq', gelu_eq', dzRef]
  · rw [← hd, ← hx]; rfl

/-- Its second result is the same gradient. -/
theorem ref1 (c : Dev nD) : Value.res_out1 m c = specW (m ((c : Thread nD τ).loc main_arg0)) (m ((c : Thread nD τ).loc main_arg1)) (m ((c : Thread nD τ).loc main_arg2)) (m ((c : Thread nD τ).loc main_arg3)) := by
  funext j
  idx_vars j
  pointwise [Value.res_out1, Value.res_main_v45, specW, rowZ, dz, gate, hi]
  simp only [th_eq, sig_eq', gelu_eq', dzRef]
  refine Finset.sum_congr (M := EReal) rfl fun i _ => ?_
  exact EReal.mul_comm _ _

/-- Every run of the reference from real arguments ends with the same gradients in its results and its arguments unchanged. -/
theorem run_ref (ρ : Dev nD → PrngReg) (h0 : ∀ (c : Dev nD) j, ∃ r : ℝ, (m ((c : Thread nD τ).loc main_arg0)) j = (r : EReal)) (h1 : ∀ (c : Dev nD) j, ∃ r : ℝ, (m ((c : Thread nD τ).loc main_arg1)) j = (r : EReal))
    (h2 : ∀ (c : Dev nD) j, ∃ r : ℝ, (m ((c : Thread nD τ).loc main_arg2)) j = (r : EReal)) : θ_run defs (onTc (τ := τ) (main (F := Ideal))) ⟨m, fun _ => 0, ρ⟩ fun r => ∀ c : Dev nD,
    r.2.mem ((c.tc : Thread nD τ).loc main_v61) = specX (m ((c : Thread nD τ).loc main_arg0)) (m ((c : Thread nD τ).loc main_arg1)) (m ((c : Thread nD τ).loc main_arg2)) (m ((c : Thread nD τ).loc main_arg3))
    ∧ r.2.mem ((c.tc : Thread nD τ).loc main_v45) = specW (m ((c : Thread nD τ).loc main_arg0)) (m ((c : Thread nD τ).loc main_arg1)) (m ((c : Thread nD τ).loc main_arg2)) (m ((c : Thread nD τ).loc main_arg3))
    ∧ r.2.mem ((c.tc : Thread nD τ).loc main_v62) = specB (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.GluReferenceIdeal.Value.run m ρ
  · exact ref0 m c (h0 c) (h1 c) (h2 c)
  · exact ref1 m c
  · funext j
    idx_vars j
    pointwise [specB, rowZ, dz, gate, hi]
    refine (Fin.sum_univ_one (M := EReal) _).trans ?_
    simp only [th_eq, sig_eq', gelu_eq', dzRef]

end Ref

instance : Cert.GluKernel.Facts := Cert.GluKernel.Gen.facts
instance : Cert.GluKernelIdeal.Facts := Cert.GluKernelIdeal.Gen.facts
instance : Cert.GluReferenceIdeal.Facts := Cert.GluReferenceIdeal.Gen.facts
instance : Cert.Pre_glu_finite.Facts := Cert.Pre_glu_finite.Gen.facts

/-- Where the condition holds the first three arrays are real. -/
theorem pre_real (A : FVec Ideal Cert.Pre_glu_finite.S4096x1024 .f32) (X : FVec Ideal Cert.Pre_glu_finite.S4096x512 .f32)
    (W : FVec Ideal Cert.Pre_glu_finite.S512x512 .f32) (b : FVec Ideal Cert.Pre_glu_finite.S512 .f32)
    (h : Cert.Pre_glu_finite.fn (F := Ideal) A X W b = fun _ => 1#1) :
    (∀ j, ∃ r : ℝ, A j = (r : EReal)) ∧ (∀ j, ∃ r : ℝ, X j = (r : EReal)) ∧ (∀ j, ∃ r : ℝ, W j = (r : EReal)) := by
  have hs : Subsingleton Cert.Pre_glu_finite.S_.Idx := ⟨fun a b => funext fun i => i.elim0⟩
  have e := congrFun h (fun i => i.elim0)
  obtain ⟨e2, eW⟩ := IntOp.andi_eq_one.mp e
  obtain ⟨eA, eX⟩ := IntOp.andi_eq_one.mp e2
  exact ⟨fun j => real_of_lt (Host.reduce_andi_all _ _ _ _ _ eA j), fun j => real_of_lt (Host.reduce_andi_all _ _ _ _ _ eX j),
    fun j => real_of_lt (Host.reduce_andi_all _ _ _ _ _ eW j)⟩

/-- The kernel runs to its end on machine floats and leaves its arguments as they were. -/
theorem frame_P : Cert.quiescent_GluKernel := fun m ρ _ => Cert.GluKernel.Gen.frame m ρ

/-- The same over the extended reals. -/
theorem frame_PI : Cert.quiescent_GluKernelIdeal := fun m ρ _ => Cert.GluKernelIdeal.Gen.frame m ρ

/-- The same where the condition holds. -/
theorem frame_PI_pre : Cert.quiescent_GluKernelIdeal_pre_glu_finite := fun m ρ _ => Cert.GluKernelIdeal.Gen.frame m ρ

/-- The reference runs to its end over the extended reals and leaves its arguments as they were. -/
theorem frame_RI : Cert.quiescent_GluReferenceIdeal := by
  intro m g _
  hlo_run
  · exact fun _ => ⟨trivial, trivial, trivial, trivial⟩
  · exact sem_eq_zero_of_no_sems (sig := Cert.GluReferenceIdeal.sig) (by decide) _

/-- The same where the condition holds. -/
theorem frame_RI_pre : Cert.quiescent_GluReferenceIdeal_pre_glu_finite := fun m g _ => frame_RI m g trivial

/-- The two named constants are the values that their bits stand for. -/
theorem pres : Cert.preserves_GluKernel_GluKernelIdeal :=
  ⟨IdealRules.named_const.statement Cert.GluKernelIdeal.κ "gelu_c" .f32 0x3D372713#32 ((8943 / 200000 : ℝ) : EReal) rfl,
    IdealRules.named_const.statement Cert.GluKernelIdeal.κ "gelu_3c" .f32 0x3E095D4F#32 ((26829 / 200000 : ℝ) : EReal) rfl⟩

/-- Kernel and reference end with equal results, where the condition holds. -/
theorem value : Cert.algebraic_GluKernelIdeal_GluReferenceIdeal_pre_glu_finite := by
  pair_intro
  · run_from run_ker m g
  · run_from run_ref m' g'
      (fun c j => by rw [(hagree c).1]; exact (pre_real _ _ _ _ (hpre c)).1 j)
      (fun c j => by rw [(hagree c).2.1]; exact (pre_real _ _ _ _ (hpre c)).2.1 j)
      (fun c j => by rw [(hagree c).2.2.1]; exact (pre_real _ _ _ _ (hpre c)).2.2 j)

end Cert.Glu
-- ==== Proof.FfnPure.lean ====
/- The gated convolution of the feed forward block and its gradient, column by column: what the two
   kernels' values are at one row and lane. -/
module

public import proofs.«01_k».proof.Proof.Gen.FfnKernelIdeal.Skeleton
public import proofs.«01_k».proof.Proof.SconvPure
public import proofs.«01_k».proof.Proof.GeluPure
public import Idealize.ShloMosaic.Lib.Pointwise

@[expose] public section

set_option maxRecDepth 16384

noncomputable section

open Idealize.ShloMosaic Idealize.ShloMosaic.TcCoe Idealize.SL.Sem
open scoped BigOperators
namespace Cert.Ffn
open Cert.Sconv (dn up sum_up_mul sge1 sge2 slt6 slt7)
open Cert.Gelu (cHalf cOne' sig_real)
open Cert.FfnKernelIdeal Cert.FfnKernelIdeal.Gen

/-- Three taps and a bias over a column. -/
def conv (w0 w1 w2 b : EReal) (f : Fin 4096 → EReal) (r : Fin 4096) : EReal :=
  w0 * dn 2 f r + w1 * dn 1 f r + w2 * f r + b

/-- The three taps applied backwards. -/
def back (w0 w1 w2 : EReal) (f : Fin 4096 → EReal) (r : Fin 4096) : EReal :=
  w2 * f r + w1 * up 1 f r + w0 * up 2 f r

/-- The gate's half of the cotangent: `d` the incoming one, `g` the gate, `v` the value. -/
def dGate (d g v : EReal) : EReal := d * v * (Gelu.sig g * (1 + g * (1 - Gelu.sig g)))

/-- The value's half. -/
def dVal (d g : EReal) : EReal := d * (g * Gelu.sig g)

/-- A block's shift by two rows down, read at a row. -/
theorem shift2 (f : Fin 4096 → EReal) (r : Fin 4096) :
    (if h : (r : ℕ) < 8 then if IntOp.cmpi .sge (BitVec.ofNat 32 (r : ℕ)) 2#32 = 1#1 then f ⟨((r : ℕ) + 4096 - 2) % 4096, Nat.mod_lt _ (by norm_num)⟩ else 0
      else f ⟨(8 + ((r : ℕ) - 8) + 4096 - 2) % 4096, Nat.mod_lt _ (by norm_num)⟩) = dn 2 f r := by
  unfold dn
  by_cases h : (r : ℕ) < 8
  · rw [dif_pos h, sge2 ⟨r, h⟩]
    by_cases h2 : 2 ≤ (r : ℕ)
    · have e : ((r : ℕ) + 4096 - 2) % 4096 = r - 2 := by omega
      simp only [e, if_pos h2]; rfl
    · simp only [if_neg h2]; rfl
  · have e : (8 + ((r : ℕ) - 8) + 4096 - 2) % 4096 = r - 2 := by omega
    have h2 : 2 ≤ (r : ℕ) := by omega
    simp only [e, dif_neg h, if_pos h2]

/-- A block's shift by one row down, read at a row. -/
theorem shift1 (f : Fin 4096 → EReal) (r : Fin 4096) :
    (if h : (r : ℕ) < 8 then if IntOp.cmpi .sge (BitVec.ofNat 32 (r : ℕ)) 1#32 = 1#1 then f ⟨((r : ℕ) + 4096 - 1) % 4096, Nat.mod_lt _ (by norm_num)⟩ else 0
      else f ⟨(8 + ((r : ℕ) - 8) + 4096 - 1) % 4096, Nat.mod_lt _ (by norm_num)⟩) = dn 1 f r := by
  unfold dn
  by_cases h : (r : ℕ) < 8
  · rw [dif_pos h, sge1 ⟨r, h⟩]
    by_cases h2 : 1 ≤ (r : ℕ)
    · have e : ((r : ℕ) + 4096 - 1) % 4096 = r - 1 := by omega
      simp only [e, if_pos h2]; rfl
    · simp only [if_neg h2]; rfl
  · have e : (8 + ((r : ℕ) - 8) + 4096 - 1) % 4096 = r - 1 := by omega
    have h2 : 1 ≤ (r : ℕ) := by omega
    simp only [e, dif_neg h, if_pos h2]

/-- The gate's convolution. -/
theorem conv_g (x : FVec Ideal S4096x128 .f32) (w0 w1 w2 b : FVec Ideal S1x128 .f32) (r : Fin 4096) (l : Fin 128) :
    k0_pay2 (F := Ideal) x w0 w1 w2 b (ix2 r l)
      = conv (w0 (ix2 0 l)) (w1 (ix2 0 l)) (w2 (ix2 0 l)) (b (ix2 0 l)) (fun k => x (ix2 k l)) r := by
  pointwise [k0_pay2]
  unfold conv
  rw [← shift2, ← shift1]
  rfl

/-- The value's convolution. -/
theorem conv_v (x : FVec Ideal S4096x128 .f32) (w0 w1 w2 b : FVec Ideal S1x128 .f32) (r : Fin 4096) (l : Fin 128) :
    k0_pay4 (F := Ideal) x w0 (k0_pay3 x) (iota .tc S8x128 32 [0] iota_S8x128_d0_w32) w1 w2 b (ix2 r l)
      = conv (w0 (ix2 0 l)) (w1 (ix2 0 l)) (w2 (ix2 0 l)) (b (ix2 0 l)) (fun k => x (ix2 k l)) r := by
  pointwise [k0_pay4, k0_pay3]
  unfold conv
  rw [← shift2, ← shift1]
  rfl

/-- The gated product. -/
theorem act_at (g v : FVec Ideal S4096x128 .f32) (r : Fin 4096) (l : Fin 128) :
    k0_pay1 (F := Ideal) g v (k0_pay7 g) (Scalar.ofBits .f32 0x3F000000#32) (ix2 r l)
      = g (ix2 r l) * Gelu.sig (g (ix2 r l)) * v (ix2 r l) := by
  pointwise [k0_pay1, k0_pay7]
  rfl

/-- The gate's half of the cotangent at a row and lane. -/
theorem gate_at (g v : FVec Ideal S1x4096x128 .f32) (d : FVec Ideal S4096x128 .bf16) (r : Fin 4096) (l : Fin 128) :
    k1_pay4 (F := Ideal) g v d (ix2 r l) = dGate (d (ix2 r l)) (g (ix3 0 r l)) (v (ix3 0 r l)) := by
  pointwise [k1_pay4, k1_pay3, k1_pay2]
  rfl

/-- The value's half of the cotangent at a row and lane. -/
theorem val_at (g : FVec Ideal S1x4096x128 .f32) (d : FVec Ideal S4096x128 .bf16) (r : Fin 4096) (l : Fin 128) :
    k1_pay15 (F := Ideal) (k1_pay2 g) d (k1_pay3 g) (ix2 r l) = dVal (d (ix2 r l)) (g (ix3 0 r l)) := by
  pointwise [k1_pay15, k1_pay3, k1_pay2]
  rfl

/-- A block's shift by one row up, read at a row. -/
theorem shiftUp1 (f : Fin 4096 → EReal) (r : Fin 4096) :
    (if h : (r : ℕ) < 4088 then f ⟨((r : ℕ) + 4096 - 4095) % 4096, Nat.mod_lt _ (by norm_num)⟩
      else if IntOp.cmpi .slt (BitVec.ofNat 32 ((r : ℕ) - 4088)) 7#32 = 1#1 then f ⟨(4088 + ((r : ℕ) - 4088) + 4096 - 4095) % 4096, Nat.mod_lt _ (by norm_num)⟩ else 0)
      = up 1 f r := by
  unfold up
  by_cases h : (r : ℕ) < 4088
  · have e : ((r : ℕ) + 4096 - 4095) % 4096 = r + 1 := by omega
    have h' : (r : ℕ) + 1 < 4096 := by omega
    simp only [e, dif_pos h, dif_pos h']
  · have hr := r.isLt
    rw [dif_neg h, slt7 ⟨(r : ℕ) - 4088, by omega⟩]
    by_cases h2 : (r : ℕ) + 1 < 4096
    · have h3 : (r : ℕ) - 4088 < 7 := by omega
      have e : (4088 + ((r : ℕ) - 4088) + 4096 - 4095) % 4096 = r + 1 := by omega
      simp only [e, if_pos h3, dif_pos h2]; rfl
    · have h3 : ¬ (r : ℕ) - 4088 < 7 := by omega
      simp only [if_neg h3, dif_neg h2]; rfl

/-- A block's shift by two rows up, read at a row. -/
theorem shiftUp2 (f : Fin 4096 → EReal) (r : Fin 4096) :
    (if h : (r : ℕ) < 4088 then f ⟨((r : ℕ) + 4096 - 4094) % 4096, Nat.mod_lt _ (by norm_num)⟩
      else if IntOp.cmpi .slt (BitVec.ofNat 32 ((r : ℕ) - 4088)) 6#32 = 1#1 then f ⟨(4088 + ((r : ℕ) - 4088) + 4096 - 4094) % 4096, Nat.mod_lt _ (by norm_num)⟩ else 0)
      = up 2 f r := by
  unfold up
  by_cases h : (r : ℕ) < 4088
  · have e : ((r : ℕ) + 4096 - 4094) % 4096 = r + 2 := by omega
    have h' : (r : ℕ) + 2 < 4096 := by omega
    simp only [e, dif_pos h, dif_pos h']
  · have hr := r.isLt
    rw [dif_neg h, slt6 ⟨(r : ℕ) - 4088, by omega⟩]
    by_cases h2 : (r : ℕ) + 2 < 4096
    · have h3 : (r : ℕ) - 4088 < 6 := by omega
      have e : (4088 + ((r : ℕ) - 4088) + 4096 - 4094) % 4096 = r + 2 := by omega
      simp only [e, if_pos h3, dif_pos h2]; rfl
    · have h3 : ¬ (r : ℕ) - 4088 < 6 := by omega
      simp only [if_neg h3, dif_neg h2]; rfl

set_option maxRecDepth 100000 in
/-- The gate's cotangent read one row later. -/
theorem gate_up1 (g v : FVec Ideal S1x4096x128 .f32) (d : FVec Ideal S4096x128 .bf16) (r : Fin 4096) (l : Fin 128) :
    k1_pay5 (F := Ideal) g v d (ix2 r l) = up 1 (fun k => k1_pay4 (F := Ideal) g v d (ix2 k l)) r := by
  unfold k1_pay5
  generalize k1_pay4 (F := Ideal) g v d = u
  pointwise
  rw [← shiftUp1]
  rfl

set_option maxRecDepth 100000 in
/-- The gate's cotangent read two rows later. -/
theorem gate_up2 (g v : FVec Ideal S1x4096x128 .f32) (d : FVec Ideal S4096x128 .bf16) (r : Fin 4096) (l : Fin 128) :
    k1_pay11 (F := Ideal) (k1_pay7 g v d) k1_pay8 (k1_pay9 g v d) k1_pay10 (ix2 r l) = up 2 (fun k => k1_pay4 (F := Ideal) g v d (ix2 k l)) r := by
  unfold k1_pay11 k1_pay7 k1_pay9 k1_pay6
  generalize k1_pay4 (F := Ideal) g v d = u
  pointwise [k1_pay8, k1_pay10]
  rw [← shiftUp2]
  rfl

set_option maxRecDepth 100000 in
/-- A block read one row later, and two. -/
theorem val_up1 (u : FVec Ideal S4096x128 .f32) (r : Fin 4096) (l : Fin 128) :
    k1_pay16 (F := Ideal) u (ix2 r l) = up 1 (fun k => u (ix2 k l)) r := by
  pointwise [k1_pay16]
  rw [← shiftUp1]
  rfl
set_option maxRecDepth 100000 in
theorem val_up2 (u : FVec Ideal S4096x128 .f32) (r : Fin 4096) (l : Fin 128) :
    k1_pay17 (F := Ideal) u (ix2 r l) = up 2 (fun k => u (ix2 k l)) r := by
  pointwise [k1_pay17]
  rw [← shiftUp2]
  rfl

/-- The taps' gradient over a column of cotangents `f` and a column of inputs `x`. -/
def taps (f x : Fin 4096 → EReal) (r : ℕ) : EReal :=
  if r = 0 then ∑ k, up 2 f k * x k else if r = 1 then ∑ k, up 1 f k * x k else ∑ k, f k * x k

/-- The gate's half of the stored gradients: the input's, the taps' and the bias's. -/
theorem gate_dup (g v : FVec Ideal S1x4096x128 .f32) (d : FVec Ideal S4096x128 .bf16) (w2 w1 w0 : FVec Ideal S1x128 .f32) (r : Fin 4096) (l : Fin 128) :
    k1_pay14 (F := Ideal) (k1_pay4 g v d) (k1_pay5 g v d) (k1_pay7 g v d) k1_pay8 (k1_pay9 g v d) k1_pay10 w2 w1 w0 (ix3 0 r l)
      = back (w0 (ix2 0 l)) (w1 (ix2 0 l)) (w2 (ix2 0 l)) (fun k => k1_pay4 (F := Ideal) g v d (ix2 k l)) r := by
  unfold back
  rw [← gate_up1, ← gate_up2]
  pointwise [k1_pay14]
theorem gate_dcw (g v : FVec Ideal S1x4096x128 .f32) (d : FVec Ideal S4096x128 .bf16) (x : FVec Ideal S4096x128 .f32) (r : Fin 3) (l : Fin 128) :
    k1_pay13 (F := Ideal) (k1_pay4 g v d) x (k1_pay5 g v d) (k1_pay7 g v d) k1_pay8 (k1_pay9 g v d) k1_pay10 (ix3 0 r l)
      = taps (fun k => k1_pay4 (F := Ideal) g v d (ix2 k l)) (fun k => x (ix2 k l)) r := by
  unfold taps
  simp only [← gate_up1, ← gate_up2]
  pointwise [k1_pay13]
  by_cases h0 : (r : ℕ) = 0
  · rw [if_pos h0, dif_pos (by omega)]
  · rw [if_neg h0, dif_neg (by omega)]
    by_cases h1 : (r : ℕ) = 1
    · rw [if_pos h1, dif_pos (by omega)]
    · rw [if_neg h1, dif_neg (by omega)]
theorem bias_at (u : FVec Ideal S4096x128 .f32) (l : Fin 128) : k1_pay12 (F := Ideal) u (ix3 0 0 l) = ∑ k, u (ix2 k l) := by
  pointwise [k1_pay12]

/-- The value's half of the stored gradients. -/
theorem val_dup (u : FVec Ideal S4096x128 .f32) (w2 w1 w0 : FVec Ideal S1x128 .f32) (r : Fin 4096) (l : Fin 128) :
    k1_pay1 (F := Ideal) u (k1_pay16 u) (k1_pay17 u) w2 w1 w0 (ix3 0 r l)
      = back (w0 (ix2 0 l)) (w1 (ix2 0 l)) (w2 (ix2 0 l)) (fun k => u (ix2 k l)) r := by
  unfold back
  rw [← val_up1, ← val_up2]
  pointwise [k1_pay1]
theorem val_dcw (u x : FVec Ideal S4096x128 .f32) (r : Fin 3) (l : Fin 128) :
    k1_pay19 (F := Ideal) u x (ix3 0 r l) = taps (fun k => u (ix2 k l)) (fun k => x (ix2 k l)) r := by
  unfold taps
  simp only [← val_up1, ← val_up2]
  pointwise [k1_pay19]
  by_cases h0 : (r : ℕ) = 0
  · rw [if_pos h0, dif_pos (by omega)]
  · rw [if_neg h0, dif_neg (by omega)]
    by_cases h1 : (r : ℕ) = 1
    · rw [if_pos h1, dif_pos (by omega)]
    · rw [if_neg h1, dif_neg (by omega)]
theorem val_bias (u : FVec Ideal S4096x128 .f32) (l : Fin 128) : k1_pay18 (F := Ideal) u (ix3 0 0 l) = ∑ k, u (ix2 k l) := by
  pointwise [k1_pay18]

end Cert.Ffn
-- ==== Proof.FfnKer.lean ====
/- What the run of the two kernels leaves: the gated convolution, and the gradients of its input, taps and bias, written
   out on the argument arrays. -/
module

public import proofs.«01_k».proof.Proof.Gen.FfnKernelIdeal.Frame
public import proofs.«01_k».proof.Proof.FfnPure
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
namespace Cert.Ffn
open Cert.FfnKernelIdeal Cert.FfnKernelIdeal.Gen

/-- Channel `l` of half `h`. -/
def half (h : Fin 2) (l : Fin 2816) : Fin 5632 := ⟨(h : ℕ) * 2816 + l, by omega⟩

/-- The convolution's column at a channel. -/
def cc (U : FVec Ideal S4096x5632 .f32) (W : FVec Ideal S3x5632 .f32) (b : Fin 5632 → EReal) (n : Fin 5632) (r : Fin 4096) : EReal :=
  conv (W (ix2 0 n)) (W (ix2 1 n)) (W (ix2 2 n)) (b n) (fun k => U (ix2 k n)) r

/-- The gated product. -/
def specAct (U : FVec Ideal S4096x5632 .f32) (W : FVec Ideal S3x5632 .f32) (b : Fin 5632 → EReal) : FVec Ideal S4096x2816 .bf16 :=
  fun j => cc U W b (half 0 (j 1)) (j 0) * Gelu.sig (cc U W b (half 0 (j 1)) (j 0)) * cc U W b (half 1 (j 1)) (j 0)

/-- Gate and value, as the first kernel hands them to the second. -/
def specGv (U : FVec Ideal S4096x5632 .f32) (W : FVec Ideal S3x5632 .f32) (b : Fin 5632 → EReal) : FVec Ideal S2x4096x2816 .f32 :=
  fun j => cc U W b (half (j 0) (j 2)) (j 1)

/-- The cotangent's column at a channel of a half. -/
def dc (A : FVec Ideal S4096x2816 .bf16) (G : FVec Ideal S2x4096x2816 .f32) (h : Fin 2) (l : Fin 2816) (k : Fin 4096) : EReal :=
  if (h : ℕ) = 0 then dGate (A (ix2 k l)) (G (ix3 0 k l)) (G (ix3 1 k l)) else dVal (A (ix2 k l)) (G (ix3 0 k l))

/-- The gradient of the convolution's input. -/
def specDup (A : FVec Ideal S4096x2816 .bf16) (G : FVec Ideal S2x4096x2816 .f32) (W : FVec Ideal S3x5632 .f32) : FVec Ideal S2x4096x2816 .bf16 :=
  fun j => back (W (ix2 0 (half (j 0) (j 2)))) (W (ix2 1 (half (j 0) (j 2)))) (W (ix2 2 (half (j 0) (j 2)))) (dc A G (j 0) (j 2)) (j 1)

/-- The gradient of the taps, the halves apart. -/
def specDcw (A : FVec Ideal S4096x2816 .bf16) (G : FVec Ideal S2x4096x2816 .f32) (U : FVec Ideal S4096x5632 .f32) : FVec Ideal S2x3x2816 .f32 :=
  fun j => taps (dc A G (j 0) (j 2)) (fun k => U (ix2 k (half (j 0) (j 2)))) (j 1 : ℕ)

/-- The gradient of the bias, the halves apart. -/
def specDcb (A : FVec Ideal S4096x2816 .bf16) (G : FVec Ideal S2x4096x2816 .f32) : FVec Ideal S2x1x2816 .f32 :=
  fun j => ∑ k, dc A G (j 0) (j 2) k

/-- The first kernel's block indices at every grid point. -/
theorem idx0 : ∀ t : Fin cfg0.N, win0_0.index t = ![0, t.val] ∧ win0_1.index t = ![0, t.val + 22] ∧ win0_2.index t = ![0, t.val]
    ∧ win0_3.index t = ![0, t.val + 22] ∧ win0_4.index t = ![0, t.val] ∧ win0_5.index t = ![0, t.val + 22]
    ∧ win0_6.index t = ![0, t.val] ∧ win0_7.index t = ![0, 0, t.val] :=
  (by decide +kernel : ∀ t : Fin grid0.N, _)
/-- The second kernel's. -/
theorem idx1 : ∀ t : Fin cfg1.N, win1_0.index t = ![0, t.val] ∧ win1_1.index t = ![0, t.val + 22] ∧ win1_2.index t = ![0, 0, t.val]
    ∧ win1_3.index t = ![0, t.val] ∧ win1_4.index t = ![0, t.val] ∧ win1_5.index t = ![0, t.val + 22]
    ∧ win1_6.index t = ![0, 0, t.val] ∧ win1_7.index t = ![0, 0, t.val] ∧ win1_8.index t = ![0, 0, t.val] :=
  (by decide +kernel : ∀ t : Fin grid1.N, _)

theorem t_lt0 (t : Fin cfg0.N) : (t : ℕ) < 22 := lt_of_lt_of_eq t.isLt N_0
theorem t_lt1 (t : Fin cfg1.N) : (t : ℕ) < 22 := lt_of_lt_of_eq t.isLt N_1

/-- Lane `l` of block `t`. -/
def lane (t : ℕ) (ht : t < 22) (l : Fin 128) : Fin 2816 := ⟨t * 128 + l, by omega⟩

section First
variable (V : (c : Dev nD) → (b : Ref sig .tc) → Buf (Elt Ideal) ((c : Thread nD τ).loc b)) (c : Dev nD) (t : Fin cfg0.N)

theorem rd00 (r : Fin 4096) (l : Fin 128) : iblk0 V c 0 t (ix2 r l) = V c main_arg0 (ix2 r (half 0 (lane t (t_lt0 t) l))) := by
  unfold half lane; blk_ext [iblk0, idx0 t]
theorem rd01 (r : Fin 4096) (l : Fin 128) : iblk0 V c 1 t (ix2 r l) = V c main_arg0 (ix2 r (half 1 (lane t (t_lt0 t) l))) := by
  unfold half lane; blk_ext [iblk0, idx0 t]
theorem rd02 (r : Fin 3) (l : Fin 128) : iblk0 V c 2 t (ix2 r l) = V c main_arg2 (ix2 r (half 0 (lane t (t_lt0 t) l))) := by
  unfold half lane; blk_ext [iblk0, idx0 t]
theorem rd03 (r : Fin 3) (l : Fin 128) : iblk0 V c 3 t (ix2 r l) = V c main_arg2 (ix2 r (half 1 (lane t (t_lt0 t) l))) := by
  unfold half lane; blk_ext [iblk0, idx0 t]
theorem rd04 (l : Fin 128) : iblk0 V c 4 t (ix2 0 l) = V c main_v0 (ix2 0 (half 0 (lane t (t_lt0 t) l))) := by
  unfold half lane; blk_ext [iblk0, idx0 t]
theorem rd05 (l : Fin 128) : iblk0 V c 5 t (ix2 0 l) = V c main_v0 (ix2 0 (half 1 (lane t (t_lt0 t) l))) := by
  unfold half lane; blk_ext [iblk0, idx0 t]
theorem emb06 (r : Fin 4096) (l : Fin 128) : ((cfg0.win 6).blk t).view.emb (ix2 r l) = ix2 r (lane t (t_lt0 t) l) := by
  unfold lane; blk_ext [idx0 t]
theorem emb07 (h : Fin 2) (r : Fin 4096) (l : Fin 128) : ((cfg0.win 7).blk t).view.emb (ix3 h r l) = ix3 h r (lane t (t_lt0 t) l) := by
  unfold lane; blk_ext [idx0 t]

/-- A block's column of the gate, and of the value, is the arrays'. -/
theorem cg_blk (x : FVec Ideal S4096x128 .f32) (w0 w1 w2 b : FVec Ideal S1x128 .f32) (l : Fin 128)
    (U : FVec Ideal S4096x5632 .f32) (W : FVec Ideal S3x5632 .f32) (B : Fin 5632 → EReal) (n : Fin 5632)
    (hx : ∀ k, x (ix2 k l) = U (ix2 k n)) (h0 : w0 (ix2 0 l) = W (ix2 0 n)) (h1 : w1 (ix2 0 l) = W (ix2 1 n)) (h2 : w2 (ix2 0 l) = W (ix2 2 n))
    (hb : b (ix2 0 l) = B n) (r : Fin 4096) :
    k0_pay2 (F := Ideal) x w0 w1 w2 b (ix2 r l) = cc U W B n r := by
  rw [conv_g, h0, h1, h2, hb]
  unfold cc
  exact congrArg (fun f => conv _ _ _ _ f r) (funext hx)
theorem cv_blk (x : FVec Ideal S4096x128 .f32) (w0 w1 w2 b : FVec Ideal S1x128 .f32) (l : Fin 128)
    (U : FVec Ideal S4096x5632 .f32) (W : FVec Ideal S3x5632 .f32) (B : Fin 5632 → EReal) (n : Fin 5632)
    (hx : ∀ k, x (ix2 k l) = U (ix2 k n)) (h0 : w0 (ix2 0 l) = W (ix2 0 n)) (h1 : w1 (ix2 0 l) = W (ix2 1 n)) (h2 : w2 (ix2 0 l) = W (ix2 2 n))
    (hb : b (ix2 0 l) = B n) (r : Fin 4096) :
    k0_pay4 (F := Ideal) x w0 (k0_pay3 x) (iota .tc S8x128 32 [0] iota_S8x128_d0_w32) w1 w2 b (ix2 r l) = cc U W B n r := by
  rw [conv_v, h0, h1, h2, hb]
  unfold cc
  exact congrArg (fun f => conv _ _ _ _ f r) (funext hx)

end First

/-- The first kernel leaves the gated product. -/
theorem final06 (V : (c : Dev nD) → (b : Ref sig .tc) → Buf (Elt Ideal) ((c : Thread nD τ).loc b)) (c : Dev nD) :
    (dat0 V c).arrAt 6 cfg0.N = specAct (V c main_arg0) (V c main_arg2) (fun n => V c main_v0 (ix2 0 n)) := by
  refine (dat0 V c).arrAt_eq_of_covers 6 _ (by decide +kernel) fun t _ y => ?_
  blk_simp; rw [after0_6]; unfold_out out0_6; frame_out
  obtain ⟨r, l, rfl⟩ : ∃ (r : Fin 4096) (l : Fin 128), y = ix2 r l := ⟨y 0, y 1, eq_ix2 y⟩
  refine Eq.trans ?_ (congrArg _ (emb06 t r l)).symm
  refine (act_at _ _ r l).trans ?_
  refine congrArg₂ (· * ·) (congrArg (fun g : EReal => g * Gelu.sig g) ?_) ?_
  · refine cg_blk _ _ _ _ _ l (V c main_arg0) (V c main_arg2) (fun n => V c main_v0 (ix2 0 n)) (half 0 (lane t (t_lt0 t) l)) (fun k => rd00 V c t k l) ?_ ?_ ?_ (rd04 V c t l) r
    · pointwise; exact rd02 V c t 0 l
    · pointwise; exact rd02 V c t 1 l
    · pointwise; exact rd02 V c t 2 l
  · refine cv_blk _ _ _ _ _ l (V c main_arg0) (V c main_arg2) (fun n => V c main_v0 (ix2 0 n)) (half 1 (lane t (t_lt0 t) l)) (fun k => rd01 V c t k l) ?_ ?_ ?_ (rd05 V c t l) r
    · pointwise; exact rd03 V c t 0 l
    · pointwise; exact rd03 V c t 1 l
    · pointwise; exact rd03 V c t 2 l

/-- And gate and value for the second. -/
theorem final07 (V : (c : Dev nD) → (b : Ref sig .tc) → Buf (Elt Ideal) ((c : Thread nD τ).loc b)) (c : Dev nD) :
    (dat0 V c).arrAt 7 cfg0.N = specGv (V c main_arg0) (V c main_arg2) (fun n => V c main_v0 (ix2 0 n)) := by
  refine (dat0 V c).arrAt_eq_of_covers 7 _ (by decide +kernel) fun t _ y => ?_
  blk_simp; rw [after0_7]; unfold_out out0_7; frame_out
  obtain ⟨q, r, l, rfl⟩ : ∃ (q : Fin 2) (r : Fin 4096) (l : Fin 128), y = ix3 q r l := ⟨y 0, y 1, y 2, eq_ix3 y⟩
  refine Eq.trans ?_ (congrArg _ (emb07 t q r l)).symm
  canon_tiles x h
  · obtain rfl : q = 1 := Fin.ext (by change (q : ℕ) = 1 + _ at h0; show (q : ℕ) = 1; omega)
    obtain rfl : x = ix3 0 r l := by
      rw [eq_ix3 x]
      congr 1
      · exact Fin.ext (by show (x 0 : ℕ) = 0; omega)
      · exact Fin.ext h1.symm
      · exact Fin.ext h2.symm
    unfold k0_pay6
    pointwise
    refine cv_blk _ _ _ _ _ l (V c main_arg0) (V c main_arg2) (fun n => V c main_v0 (ix2 0 n)) (half 1 (lane t (t_lt0 t) l)) (fun k => rd01 V c t k l) ?_ ?_ ?_ (rd05 V c t l) r
    · pointwise; exact rd03 V c t 0 l
    · pointwise; exact rd03 V c t 1 l
    · pointwise; exact rd03 V c t 2 l
  · obtain rfl : q = 0 := Fin.ext (by change (q : ℕ) = _ at h0; show (q : ℕ) = 0; omega)
    obtain rfl : x = ix3 0 r l := by
      rw [eq_ix3 x]
      congr 1
      · exact Fin.ext (by show (x 0 : ℕ) = 0; omega)
      · exact Fin.ext h1.symm
      · exact Fin.ext h2.symm
    unfold k0_pay5
    pointwise
    refine cg_blk _ _ _ _ _ l (V c main_arg0) (V c main_arg2) (fun n => V c main_v0 (ix2 0 n)) (half 0 (lane t (t_lt0 t) l)) (fun k => rd00 V c t k l) ?_ ?_ ?_ (rd04 V c t l) r
    · pointwise; exact rd02 V c t 0 l
    · pointwise; exact rd02 V c t 1 l
    · pointwise; exact rd02 V c t 2 l

section Second
variable (V : (c : Dev nD) → (b : Ref sig .tc) → Buf (Elt Ideal) ((c : Thread nD τ).loc b)) (c : Dev nD) (t : Fin cfg1.N)

theorem rd10 (r : Fin 4096) (l : Fin 128) : iblk1 V c 0 t (ix2 r l) = V c main_arg0 (ix2 r (half 0 (lane t (t_lt1 t) l))) := by
  unfold half lane; blk_ext [iblk1, idx1 t]
theorem rd11 (r : Fin 4096) (l : Fin 128) : iblk1 V c 1 t (ix2 r l) = V c main_arg0 (ix2 r (half 1 (lane t (t_lt1 t) l))) := by
  unfold half lane; blk_ext [iblk1, idx1 t]
theorem rd12 (q : Fin 2) (r : Fin 4096) (l : Fin 128) : iblk1 V c 2 t (ix3 q r l) = V c main_v1_1 (ix3 q r (lane t (t_lt1 t) l)) := by
  unfold lane; blk_ext [iblk1, idx1 t]
theorem rd13 (r : Fin 4096) (l : Fin 128) : iblk1 V c 3 t (ix2 r l) = V c main_arg1 (ix2 r (lane t (t_lt1 t) l)) := by
  unfold lane; blk_ext [iblk1, idx1 t]
theorem rd14 (r : Fin 3) (l : Fin 128) : iblk1 V c 4 t (ix2 r l) = V c main_arg2 (ix2 r (half 0 (lane t (t_lt1 t) l))) := by
  unfold half lane; blk_ext [iblk1, idx1 t]
theorem rd15 (r : Fin 3) (l : Fin 128) : iblk1 V c 5 t (ix2 r l) = V c main_arg2 (ix2 r (half 1 (lane t (t_lt1 t) l))) := by
  unfold half lane; blk_ext [iblk1, idx1 t]
theorem emb16 (q : Fin 2) (r : Fin 4096) (l : Fin 128) : ((cfg1.win 6).blk t).view.emb (ix3 q r l) = ix3 q r (lane t (t_lt1 t) l) := by
  unfold lane; blk_ext [idx1 t]
theorem emb17 (q : Fin 2) (r : Fin 3) (l : Fin 128) : ((cfg1.win 7).blk t).view.emb (ix3 q r l) = ix3 q r (lane t (t_lt1 t) l) := by
  unfold lane; blk_ext [idx1 t]
theorem emb18 (q : Fin 2) (r : Fin 1) (l : Fin 128) : ((cfg1.win 8).blk t).view.emb (ix3 q r l) = ix3 q r (lane t (t_lt1 t) l) := by
  unfold lane; blk_ext [idx1 t]

/-- The column a block's gate cotangent is, and the value's. -/
theorem dg_blk (g v : FVec Ideal S1x4096x128 .f32) (d : FVec Ideal S4096x128 .bf16) (l : Fin 128)
    (A : FVec Ideal S4096x2816 .bf16) (G : FVec Ideal S2x4096x2816 .f32) (n : Fin 2816)
    (hg : ∀ k, g (ix3 0 k l) = G (ix3 0 k n)) (hv : ∀ k, v (ix3 0 k l) = G (ix3 1 k n)) (hd : ∀ k, d (ix2 k l) = A (ix2 k n)) :
    (fun k => k1_pay4 (F := Ideal) g v d (ix2 k l)) = dc A G 0 n :=
  funext fun k => by
    rw [gate_at, hg, hv, hd]
    exact (if_pos rfl).symm
theorem dv_blk (g : FVec Ideal S1x4096x128 .f32) (d : FVec Ideal S4096x128 .bf16) (l : Fin 128)
    (A : FVec Ideal S4096x2816 .bf16) (G : FVec Ideal S2x4096x2816 .f32) (n : Fin 2816)
    (hg : ∀ k, g (ix3 0 k l) = G (ix3 0 k n)) (hd : ∀ k, d (ix2 k l) = A (ix2 k n)) :
    (fun k => k1_pay15 (F := Ideal) (k1_pay2 g) d (k1_pay3 g) (ix2 k l)) = dc A G 1 n :=
  funext fun k => by
    rw [val_at, hg, hd]
    exact (if_neg (by decide)).symm

end Second

/-- The second kernel leaves the gradient of the convolution's input. -/
theorem final16 (V : (c : Dev nD) → (b : Ref sig .tc) → Buf (Elt Ideal) ((c : Thread nD τ).loc b)) (c : Dev nD) :
    (dat1 V c).arrAt 6 cfg1.N = specDup (V c main_arg1) (V c main_v1_1) (V c main_arg2) := by
  refine (dat1 V c).arrAt_eq_of_covers 6 _ (by decide +kernel) fun t _ y => ?_
  blk_simp; rw [after1_6]; unfold_out out1_6; frame_out
  obtain ⟨q, r, l, rfl⟩ : ∃ (q : Fin 2) (r : Fin 4096) (l : Fin 128), y = ix3 q r l := ⟨y 0, y 1, y 2, eq_ix3 y⟩
  refine Eq.trans ?_ (congrArg _ (emb16 t q r l)).symm
  canon_tiles x h
  · obtain rfl : q = 1 := Fin.ext (by change (q : ℕ) = 1 + _ at h0; show (q : ℕ) = 1; omega)
    obtain rfl : x = ix3 0 r l := by
      rw [eq_ix3 x]
      congr 1
      · exact Fin.ext (by show (x 0 : ℕ) = 0; omega)
      · exact Fin.ext h1.symm
      · exact Fin.ext h2.symm
    refine (val_dup _ _ _ _ r l).trans ?_
    rw [dv_blk _ _ l (V c main_arg1) (V c main_v1_1) (lane t (t_lt1 t) l) ?_ (fun k => rd13 V c t k l)]
    · unfold specDup
      refine congrFun (congrArg₂ (fun a b => a b) (congrArg₂ (fun a b => a b) (congrArg₂ back ?_ ?_) ?_) rfl) r
      · pointwise; exact rd15 V c t 0 l
      · pointwise; exact rd15 V c t 1 l
      · pointwise; exact rd15 V c t 2 l
    · intro k; pointwise; exact rd12 V c t 0 k l
  · obtain rfl : q = 0 := Fin.ext (by change (q : ℕ) = _ at h0; show (q : ℕ) = 0; omega)
    obtain rfl : x = ix3 0 r l := by
      rw [eq_ix3 x]
      congr 1
      · exact Fin.ext (by show (x 0 : ℕ) = 0; omega)
      · exact Fin.ext h1.symm
      · exact Fin.ext h2.symm
    refine (gate_dup _ _ _ _ _ _ r l).trans ?_
    rw [dg_blk _ _ _ l (V c main_arg1) (V c main_v1_1) (lane t (t_lt1 t) l) ?_ ?_ (fun k => rd13 V c t k l)]
    · unfold specDup
      refine congrFun (congrArg₂ (fun a b => a b) (congrArg₂ (fun a b => a b) (congrArg₂ back ?_ ?_) ?_) rfl) r
      · pointwise; exact rd14 V c t 0 l
      · pointwise; exact rd14 V c t 1 l
      · pointwise; exact rd14 V c t 2 l
    · intro k; pointwise; exact rd12 V c t 0 k l
    · intro k; pointwise; exact rd12 V c t 1 k l

/-- The gradient of the taps. -/
theorem final17 (V : (c : Dev nD) → (b : Ref sig .tc) → Buf (Elt Ideal) ((c : Thread nD τ).loc b)) (c : Dev nD) :
    (dat1 V c).arrAt 7 cfg1.N = specDcw (V c main_arg1) (V c main_v1_1) (V c main_arg0) := by
  refine (dat1 V c).arrAt_eq_of_covers 7 _ (by decide +kernel) fun t _ y => ?_
  blk_simp; rw [after1_7]; unfold_out out1_7; frame_out
  obtain ⟨q, r, l, rfl⟩ : ∃ (q : Fin 2) (r : Fin 3) (l : Fin 128), y = ix3 q r l := ⟨y 0, y 1, y 2, eq_ix3 y⟩
  refine Eq.trans ?_ (congrArg _ (emb17 t q r l)).symm
  canon_tiles x h
  · obtain rfl : q = 1 := Fin.ext (by change (q : ℕ) = 1 + _ at h0; show (q : ℕ) = 1; omega)
    obtain rfl : x = ix3 0 r l := by
      rw [eq_ix3 x]
      congr 1
      · exact Fin.ext (by show (x 0 : ℕ) = 0; omega)
      · exact Fin.ext h1.symm
      · exact Fin.ext h2.symm
    refine (val_dcw _ _ r l).trans ?_
    rw [dv_blk _ _ l (V c main_arg1) (V c main_v1_1) (lane t (t_lt1 t) l) ?_ (fun k => rd13 V c t k l)]
    · exact congrArg (fun f => taps _ f (r : ℕ)) (funext fun k => rd11 V c t k l)
    · intro k; pointwise; exact rd12 V c t 0 k l
  · obtain rfl : q = 0 := Fin.ext (by change (q : ℕ) = _ at h0; show (q : ℕ) = 0; omega)
    obtain rfl : x = ix3 0 r l := by
      rw [eq_ix3 x]
      congr 1
      · exact Fin.ext (by show (x 0 : ℕ) = 0; omega)
      · exact Fin.ext h1.symm
      · exact Fin.ext h2.symm
    refine (gate_dcw _ _ _ _ r l).trans ?_
    rw [dg_blk _ _ _ l (V c main_arg1) (V c main_v1_1) (lane t (t_lt1 t) l) ?_ ?_ (fun k => rd13 V c t k l)]
    · exact congrArg (fun f => taps _ f (r : ℕ)) (funext fun k => rd10 V c t k l)
    · intro k; pointwise; exact rd12 V c t 0 k l
    · intro k; pointwise; exact rd12 V c t 1 k l

/-- The gradient of the bias. -/
theorem final18 (V : (c : Dev nD) → (b : Ref sig .tc) → Buf (Elt Ideal) ((c : Thread nD τ).loc b)) (c : Dev nD) :
    (dat1 V c).arrAt 8 cfg1.N = specDcb (V c main_arg1) (V c main_v1_1) := by
  refine (dat1 V c).arrAt_eq_of_covers 8 _ (by decide +kernel) fun t _ y => ?_
  blk_simp; rw [after1_8]; unfold_out out1_8; frame_out
  obtain ⟨q, r, l, rfl⟩ : ∃ (q : Fin 2) (r : Fin 1) (l : Fin 128), y = ix3 q r l := ⟨y 0, y 1, y 2, eq_ix3 y⟩
  refine Eq.trans ?_ (congrArg _ (emb18 t q r l)).symm
  canon_tiles x h
  · obtain rfl : q = 1 := Fin.ext (by change (q : ℕ) = 1 + _ at h0; show (q : ℕ) = 1; omega)
    obtain rfl : x = ix3 0 0 l := by
      rw [eq_ix3 x]
      congr 1
      · exact Fin.ext (by show (x 0 : ℕ) = 0; omega)
      · exact Fin.ext (by show (x 1 : ℕ) = 0; omega)
      · exact Fin.ext h2.symm
    refine (val_bias _ l).trans ?_
    refine Finset.sum_congr (M := EReal) rfl fun k _ => congrFun (dv_blk _ _ l (V c main_arg1) (V c main_v1_1) (lane t (t_lt1 t) l) ?_ (fun k => rd13 V c t k l)) k
    intro k; pointwise; exact rd12 V c t 0 k l
  · obtain rfl : q = 0 := Fin.ext (by change (q : ℕ) = _ at h0; show (q : ℕ) = 0; omega)
    obtain rfl : x = ix3 0 0 l := by
      rw [eq_ix3 x]
      congr 1
      · exact Fin.ext (by show (x 0 : ℕ) = 0; omega)
      · exact Fin.ext (by show (x 1 : ℕ) = 0; omega)
      · exact Fin.ext h2.symm
    refine (bias_at _ l).trans ?_
    refine Finset.sum_congr (M := EReal) rfl fun k _ => congrFun (dg_blk _ _ _ l (V c main_arg1) (V c main_v1_1) (lane t (t_lt1 t) l) ?_ ?_ (fun k => rd13 V c t k l)) k
    · intro k; pointwise; exact rd12 V c t 0 k l
    · intro k; pointwise; exact rd12 V c t 1 k l

end Cert.Ffn
-- ==== Proof.FfnRun.lean ====
/- The run of the two kernels, one after the other, and the host's lines around them. -/
module

public import proofs.«01_k».proof.Proof.FfnKer

@[expose] public section

set_option maxRecDepth 16384

noncomputable section

open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem
open Idealize.ShloMosaic.Rounds
namespace Cert.Ffn
open Cert.FfnKernelIdeal Cert.FfnKernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each buffer as the last boundary of the program has it. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The bias as a function of the channel. -/
def bias (B : FVec Ideal S5632 .f32) (n : Fin 5632) : EReal := B (ix1 n)

/-- The first kernel's bias row is the bias. -/
theorem entry_bias (c : Dev nD) : (fun n => V1 m ρ c main_v0 (ix2 0 n)) = bias (m ((c : Thread nD τ).loc main_arg3)) := by
  funext n
  show W1 m ρ c (Proc.devRef .tc main_v0) (ix2 0 n) = _
  unfold bias
  after_results
  pointwise
theorem V1_arg0 (c : Dev nD) : V1 m ρ c main_arg0 = m ((c : Thread nD τ).loc main_arg0) := W1_args m ρ c main_arg0 (by decide)
theorem V1_arg2 (c : Dev nD) : V1 m ρ c main_arg2 = m ((c : Thread nD τ).loc main_arg2) := W1_args m ρ c main_arg2 (by decide)
theorem V2_arg0 (c : Dev nD) : V2 m ρ c main_arg0 = m ((c : Thread nD τ).loc main_arg0) := W2_args m ρ c main_arg0 (by decide)
theorem V2_arg1 (c : Dev nD) : V2 m ρ c main_arg1 = m ((c : Thread nD τ).loc main_arg1) := W2_args m ρ c main_arg1 (by decide)
theorem V2_arg2 (c : Dev nD) : V2 m ρ c main_arg2 = m ((c : Thread nD τ).loc main_arg2) := W2_args m ρ c main_arg2 (by decide)

/-- The first kernel's two results over the program's arguments. -/
def gv (U : FVec Ideal S4096x5632 .f32) (W : FVec Ideal S3x5632 .f32) (B : FVec Ideal S5632 .f32) : FVec Ideal S2x4096x2816 .f32 :=
  specGv U W (bias B)
theorem V2_gv (c : Dev nD) : V2 m ρ c main_v1_1 = gv (m ((c : Thread nD τ).loc main_arg0)) (m ((c : Thread nD τ).loc main_arg2)) (m ((c : Thread nD τ).loc main_arg3)) := by
  unfold gv
  refine (W2_arr m ρ c 7).trans ?_
  rw [final07, entry_bias, V1_arg0, V1_arg2]
theorem W4_act (c : Dev nD) : W4 m ρ c (Proc.devRef .tc main_v1_0) = specAct (m ((c : Thread nD τ).loc main_arg0)) (m ((c : Thread nD τ).loc main_arg2)) (bias (m ((c : Thread nD τ).loc main_arg3))) := by
  refine (W4_of m ρ c main_v1_0 (by decide)).trans ((W3_of m ρ c main_v1_0 (by decide)).trans ((W2_arr m ρ c 6).trans ?_))
  rw [final06, entry_bias, V1_arg0, V1_arg2]

/-- The second kernel's three. -/
theorem W3_dup (c : Dev nD) : W3 m ρ c (Proc.devRef .tc main_v2_0) = specDup (m ((c : Thread nD τ).loc main_arg1)) (gv (m ((c : Thread nD τ).loc main_arg0)) (m ((c : Thread nD τ).loc main_arg2)) (m ((c : Thread nD τ).loc main_arg3))) (m ((c : Thread nD τ).loc main_arg2)) := by
  refine (W3_arr m ρ c 6).trans ?_
  rw [final16, V2_gv, V2_arg1, V2_arg2]
theorem W3_dcw (c : Dev nD) : W3 m ρ c (Proc.devRef .tc main_v2_1) = specDcw (m ((c : Thread nD τ).loc main_arg1)) (gv (m ((c : Thread nD τ).loc main_arg0)) (m ((c : Thread nD τ).loc main_arg2)) (m ((c : Thread nD τ).loc main_arg3))) (m ((c : Thread nD τ).loc main_arg0)) := by
  refine (W3_arr m ρ c 7).trans ?_
  rw [final17, V2_gv, V2_arg1, V2_arg0]
theorem W3_dcb (c : Dev nD) : W3 m ρ c (Proc.devRef .tc main_v2_2) = specDcb (m ((c : Thread nD τ).loc main_arg1)) (gv (m ((c : Thread nD τ).loc main_arg0)) (m ((c : Thread nD τ).loc main_arg2)) (m ((c : Thread nD τ).loc main_arg3))) := by
  refine (W3_arr m ρ c 8).trans ?_
  rw [final18, V2_gv, V2_arg1]

/-- The two halves of an array side by side along the channels. -/
def joinW (X : FVec Ideal S2x3x2816 .f32) : FVec Ideal S3x5632 .f32 := fun j =>
  if h : (j 1 : ℕ) < 2816 then X (ix3 0 (j 0) ⟨j 1, h⟩) else X (ix3 1 (j 0) ⟨(j 1 : ℕ) - 2816, by have : (j 1 : ℕ) < 5632 := (j 1).isLt; omega⟩)
def joinB (X : FVec Ideal S2x1x2816 .f32) : FVec Ideal S1x5632 .f32 := fun j =>
  if h : (j 1 : ℕ) < 2816 then X (ix3 0 (j 0) ⟨j 1, h⟩) else X (ix3 1 (j 0) ⟨(j 1 : ℕ) - 2816, by have : (j 1 : ℕ) < 5632 := (j 1).isLt; omega⟩)

/-- The host joins the halves. -/
theorem W4_dcw (c : Dev nD) : W4 m ρ c (Proc.devRef .tc main_v7) = joinW (W3 m ρ c (Proc.devRef .tc main_v2_1)) := by
  after_results
  generalize W3 m ρ c (Proc.devRef .tc main_v2_1) = X
  funext j
  idx_vars j
  unfold joinW
  pointwise
theorem W4_dcb (c : Dev nD) : W4 m ρ c (Proc.devRef .tc main_v12) = joinB (W3 m ρ c (Proc.devRef .tc main_v2_2)) := by
  after_results
  generalize W3 m ρ c (Proc.devRef .tc main_v2_2) = X
  funext j
  idx_vars j
  obtain rfl : j0 = 0 := Fin.fin_one_eq_zero j0
  unfold joinB
  pointwise

/-- Every run of the kernel ends with the gated product and the three gradients in its results and its arguments unchanged. -/
theorem run_ker : θ_run defs (onTc (τ := τ) (main (F := Ideal))) ⟨m, fun _ => 0, ρ⟩ (fun r => ∀ c : Dev nD,
    r.2.mem ((c.tc : Thread nD τ).loc main_v1_0) = specAct (m ((c : Thread nD τ).loc main_arg0)) (m ((c : Thread nD τ).loc main_arg2)) (bias (m ((c : Thread nD τ).loc main_arg3)))
    ∧ r.2.mem ((c.tc : Thread nD τ).loc main_v2_0) = specDup (m ((c : Thread nD τ).loc main_arg1)) (gv (m ((c : Thread nD τ).loc main_arg0)) (m ((c : Thread nD τ).loc main_arg2)) (m ((c : Thread nD τ).loc main_arg3))) (m ((c : Thread nD τ).loc main_arg2))
    ∧ r.2.mem ((c.tc : Thread nD τ).loc main_v7) = joinW (specDcw (m ((c : Thread nD τ).loc main_arg1)) (gv (m ((c : Thread nD τ).loc main_arg0)) (m ((c : Thread nD τ).loc main_arg2)) (m ((c : Thread nD τ).loc main_arg3))) (m ((c : Thread nD τ).loc main_arg0)))
    ∧ r.2.mem ((c.tc : Thread nD τ).loc main_v12) = joinB (specDcb (m ((c : Thread nD τ).loc main_arg1)) (gv (m ((c : Thread nD τ).loc main_arg0)) (m ((c : Thread nD τ).loc main_arg2)) (m ((c : Thread nD τ).loc main_arg3))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run _ _ _).mono (fun _ h c =>
    ⟨(h c _ (mem_uc main_v1_0 (by decide))).trans (W4_act m ρ c),
     (h c _ (mem_uc main_v2_0 (by decide))).trans ((W4_of m ρ c main_v2_0 (by decide)).trans (W3_dup m ρ c)),
     (h c _ (mem_uc main_v7 (by decide))).trans ((W4_dcw m ρ c).trans (congrArg joinW (W3_dcw m ρ c))),
     (h c _ (mem_uc main_v12 (by decide))).trans ((W4_dcb m ρ c).trans (congrArg joinB (W3_dcb m ρ c))),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Ffn
-- ==== Proof.FfnRef.lean ====
/- What the reference's run leaves: the same gated product and gradients, over the two halves at once. -/
module

public import proofs.«01_k».proof.Proof.Gen.FfnReferenceIdeal.Run
public import proofs.«01_k».proof.Proof.FfnRun
public import proofs.«01_k».proof.Proof.SconvRef
public import proofs.«01_k».proof.Proof.HostSums
public import Idealize.ShloMosaic.Lib.Claim

@[expose] public section

set_option maxRecDepth 16384

noncomputable section

open Idealize.ShloMosaic Idealize.ShloMosaic.TcCoe Idealize.SL.Sem
open scoped BigOperators
namespace Cert.Ffn
open Cert.FfnReferenceIdeal Cert.FfnReferenceIdeal.Gen
open Cert.Sconv (dn up sum_up_mul up_one up_two dn_one dn_two)

/-- A column of reals moved down is real. -/
theorem dn_real (n : ℕ) (f : Fin 4096 → EReal) (hf : ∀ k, ∃ x : ℝ, f k = (x : EReal)) (r : Fin 4096) : ∃ x : ℝ, dn n f r = (x : EReal) := by
  unfold dn
  by_cases h : n ≤ (r : ℕ)
  · rw [if_pos h]; exact hf _
  · rw [if_neg h]; exact ⟨0, rfl⟩

/-- The convolution of reals is real. -/
theorem conv_real (w0 w1 w2 b : EReal) (f : Fin 4096 → EReal) (h0 : ∃ x : ℝ, w0 = (x : EReal)) (h1 : ∃ x : ℝ, w1 = (x : EReal))
    (h2 : ∃ x : ℝ, w2 = (x : EReal)) (hb : ∃ x : ℝ, b = (x : EReal)) (hf : ∀ k, ∃ x : ℝ, f k = (x : EReal)) (r : Fin 4096) :
    ∃ x : ℝ, conv w0 w1 w2 b f r = (x : EReal) := by
  obtain ⟨x0, rfl⟩ := h0
  obtain ⟨x1, rfl⟩ := h1
  obtain ⟨x2, rfl⟩ := h2
  obtain ⟨y, rfl⟩ := hb
  obtain ⟨a2, e2⟩ := dn_real 2 f hf r
  obtain ⟨a1, e1⟩ := dn_real 1 f hf r
  obtain ⟨a0, e0⟩ := hf r
  refine ⟨x0 * a2 + x1 * a1 + x2 * a0 + y, ?_⟩
  unfold conv
  rw [e2, e1, e0]
  norm_cast

/-- For reals the gate's cotangent may be written as a sum of the two terms of the product rule. -/
theorem gate_law (d g v : EReal) (hd : ∃ x : ℝ, d = (x : EReal)) (hg : ∃ x : ℝ, g = (x : EReal)) (hv : ∃ x : ℝ, v = (x : EReal)) :
    (d * v) * Gelu.sig g + (g * (d * v)) * (Gelu.sig g * (1 - Gelu.sig g)) = dGate d g v := by
  obtain ⟨s, hs⟩ := Gelu.sig_real g
  obtain ⟨x, rfl⟩ := hd
  obtain ⟨y, rfl⟩ := hg
  obtain ⟨z, rfl⟩ := hv
  unfold dGate
  rw [hs, ← EReal.coe_one]
  norm_cast
  ring_nf

/-- The cotangent's column at a channel of both halves. -/
def dAll (A : FVec Ideal S4096x2816 .bf16) (G : FVec Ideal S2x4096x2816 .f32) (n : Fin 5632) (k : Fin 4096) : EReal :=
  if h : (n : ℕ) < 2816 then dc A G 0 ⟨n, h⟩ k else dc A G 1 ⟨(n : ℕ) - 2816, by omega⟩ k

/-- The convolution's and the cotangent's arrays. -/
def cArr (U : FVec Ideal S4096x5632 .f32) (W : FVec Ideal S3x5632 .f32) (B : FVec Ideal S5632 .f32) : FVec Ideal S1x4096x5632 .f32 :=
  fun j => cc U W (bias B) (j 2) (j 1)
def dArr (A : FVec Ideal S4096x2816 .bf16) (G : FVec Ideal S2x4096x2816 .f32) : FVec Ideal S1x4096x5632 .f32 :=
  fun j => dAll A G (j 2) (j 1)

theorem dAll_lo (A : FVec Ideal S4096x2816 .bf16) (G : FVec Ideal S2x4096x2816 .f32) (l : Fin 2816) : dAll A G (half 0 l) = dc A G 0 l := by
  funext k
  have e : ((half 0 l : Fin 5632) : ℕ) = l := by show 0 * 2816 + (l : ℕ) = l; omega
  unfold dAll
  rw [dif_pos (by omega)]
  exact congrArg (fun l => dc A G 0 l k) (Fin.ext e)
theorem dAll_hi (A : FVec Ideal S4096x2816 .bf16) (G : FVec Ideal S2x4096x2816 .f32) (l : Fin 2816) : dAll A G (half 1 l) = dc A G 1 l := by
  funext k
  have e : ((half 1 l : Fin 5632) : ℕ) = 2816 + l := by show 1 * 2816 + (l : ℕ) = 2816 + l; omega
  unfold dAll
  rw [dif_neg (by omega)]
  exact congrArg (fun l => dc A G 1 l k) (Fin.ext (by show ((half 1 l : Fin 5632) : ℕ) - 2816 = l; omega))

/-- Channel `n` as a half and a channel of it. -/
theorem half_lo (n : Fin 5632) (h : (n : ℕ) < 2816) : half 0 ⟨n, h⟩ = n := Fin.ext (by show 0 * 2816 + (n : ℕ) = n; omega)
theorem half_hi (n : Fin 5632) (h : ¬ (n : ℕ) < 2816) : half 1 ⟨(n : ℕ) - 2816, by omega⟩ = n := Fin.ext (by show 1 * 2816 + ((n : ℕ) - 2816) = n; omega)

/-- The joined gradients at a channel of both halves. -/
theorem joinW_at (A : FVec Ideal S4096x2816 .bf16) (G : FVec Ideal S2x4096x2816 .f32) (U : FVec Ideal S4096x5632 .f32) (r : Fin 3) (n : Fin 5632) :
    joinW (specDcw A G U) (ix2 r n) = taps (dAll A G n) (fun k => U (ix2 k n)) (r : ℕ) := by
  by_cases h : (n : ℕ) < 2816
  · refine (dif_pos h).trans ?_
    have e := dAll_lo A G ⟨n, h⟩
    rw [half_lo n h] at e
    rw [e]
    exact congrArg (fun q : Fin 5632 => taps (dc A G 0 ⟨n, h⟩) (fun k => U (ix2 k q)) (r : ℕ)) (half_lo n h)
  · refine (dif_neg h).trans ?_
    have e := dAll_hi A G ⟨(n : ℕ) - 2816, by omega⟩
    rw [half_hi n h] at e
    rw [e]
    exact congrArg (fun q : Fin 5632 => taps (dc A G 1 ⟨(n : ℕ) - 2816, by omega⟩) (fun k => U (ix2 k q)) (r : ℕ)) (half_hi n h)
theorem joinB_at (A : FVec Ideal S4096x2816 .bf16) (G : FVec Ideal S2x4096x2816 .f32) (r : Fin 1) (n : Fin 5632) :
    joinB (specDcb A G) (ix2 r n) = ∑ k, dAll A G n k := by
  by_cases h : (n : ℕ) < 2816
  · refine (dif_pos h).trans ?_
    have e := dAll_lo A G ⟨n, h⟩
    rw [half_lo n h] at e
    rw [e]
    rfl
  · refine (dif_neg h).trans ?_
    have e := dAll_hi A G ⟨(n : ℕ) - 2816, by omega⟩
    rw [half_hi n h] at e
    rw [e]
    rfl

variable (m : (ℓ : Loc nD τ sig) → Buf (Elt Ideal) ℓ)

/-- The reference's convolution. -/
theorem ref_conv (c : Dev nD) : Value.res_main_v26 (StableHlo.launchContents m c) = cArr (m ((c : Thread nD τ).loc main_arg0)) (m ((c : Thread nD τ).loc main_arg2)) (m ((c : Thread nD τ).loc main_arg3)) := by
  unfold Value.res_main_v26 Value.res_main_v4 Value.res_main_v7 Value.res_main_v10 Value.res_main_v13 Value.res_main_v17 Value.res_main_v20 Value.res_main_v2
  funext j
  idx_vars j
  pointwise
  refine congrArg₂ (· + ·) (congrArg₂ (· + ·) (congrArg₂ (· + ·) ?_ ?_) (mul_comm _ _)) rfl
  · exact (mul_comm _ _).trans (congrArg₂ (· * ·) rfl (dn_two (fun k => m ((c : Thread nD τ).loc main_arg0) (ix2 k j2)) j1))
  · exact (mul_comm _ _).trans (congrArg₂ (· * ·) rfl (dn_one (fun k => m ((c : Thread nD τ).loc main_arg0) (ix2 k j2)) j1))

/-- Its sigmoid, at the gate's channels. -/
theorem ref_sig (c : Dev nD) (r : Fin 4096) (l : Fin 2816) : Value.res_main_v29_2 (StableHlo.launchContents m c) (ix3 0 r l)
    = Gelu.sig (cc (m ((c : Thread nD τ).loc main_arg0)) (m ((c : Thread nD τ).loc main_arg2)) (bias (m ((c : Thread nD τ).loc main_arg3))) (half 0 l) r) := by
  unfold Value.res_main_v29_2 Value.res_main_v27
  rw [ref_conv]
  generalize hC : cArr (m ((c : Thread nD τ).loc main_arg0)) (m ((c : Thread nD τ).loc main_arg2)) (m ((c : Thread nD τ).loc main_arg3)) = C
  pointwise
  subst hC
  refine (Gelu.sig_eq' _).trans (congrArg Gelu.sig (congrArg (fun n => cc _ _ _ n r) (Fin.ext ?_)))
  show (l : ℕ) = 0 * 2816 + l
  omega
/-- Its gate and its value. -/
theorem ref_gate (c : Dev nD) (r : Fin 4096) (l : Fin 2816) : Value.res_main_v27 (StableHlo.launchContents m c) (ix3 0 r l)
    = cc (m ((c : Thread nD τ).loc main_arg0)) (m ((c : Thread nD τ).loc main_arg2)) (bias (m ((c : Thread nD τ).loc main_arg3))) (half 0 l) r := by
  unfold Value.res_main_v27
  rw [ref_conv]
  generalize hC : cArr (m ((c : Thread nD τ).loc main_arg0)) (m ((c : Thread nD τ).loc main_arg2)) (m ((c : Thread nD τ).loc main_arg3)) = C
  pointwise
  subst hC
  refine congrArg (fun n => cc _ _ _ n r) (Fin.ext ?_)
  show (l : ℕ) = 0 * 2816 + l
  omega
theorem ref_val (c : Dev nD) (r : Fin 4096) (l : Fin 2816) : Value.res_main_v28 (StableHlo.launchContents m c) (ix3 0 r l)
    = cc (m ((c : Thread nD τ).loc main_arg0)) (m ((c : Thread nD τ).loc main_arg2)) (bias (m ((c : Thread nD τ).loc main_arg3))) (half 1 l) r := by
  unfold Value.res_main_v28
  rw [ref_conv]
  generalize hC : cArr (m ((c : Thread nD τ).loc main_arg0)) (m ((c : Thread nD τ).loc main_arg2)) (m ((c : Thread nD τ).loc main_arg3)) = C
  pointwise
  subst hC
  refine congrArg (fun n => cc _ _ _ n r) (Fin.ext ?_)
  show 2816 + (l : ℕ) = 1 * 2816 + l
  omega

/-- Its cotangent of the gate and the value, where the arguments are real. -/
theorem ref_cot (c : Dev nD) (hU : ∀ j, ∃ x : ℝ, (m ((c : Thread nD τ).loc main_arg0) : FVec Ideal S4096x5632 .f32) j = (x : EReal))
    (hA : ∀ j, ∃ x : ℝ, (m ((c : Thread nD τ).loc main_arg1) : FVec Ideal S4096x2816 .bf16) j = (x : EReal))
    (hW : ∀ j, ∃ x : ℝ, (m ((c : Thread nD τ).loc main_arg2) : FVec Ideal S3x5632 .f32) j = (x : EReal))
    (hB : ∀ j, ∃ x : ℝ, (m ((c : Thread nD τ).loc main_arg3) : FVec Ideal S5632 .f32) j = (x : EReal)) :
    Value.res_main_v36 (StableHlo.launchContents m c) = dArr (m ((c : Thread nD τ).loc main_arg1)) (gv (m ((c : Thread nD τ).loc main_arg0)) (m ((c : Thread nD τ).loc main_arg2)) (m ((c : Thread nD τ).loc main_arg3))) := by
  have hc : ∀ n r, ∃ x : ℝ, cc (m ((c : Thread nD τ).loc main_arg0)) (m ((c : Thread nD τ).loc main_arg2)) (bias (m ((c : Thread nD τ).loc main_arg3))) n r = (x : EReal) :=
    fun n r => conv_real _ _ _ _ _ (hW _) (hW _) (hW _) (hB _) (fun k => hU _) r
  have hs := ref_sig m c
  have hg := ref_gate m c
  have hv := ref_val m c
  funext j
  idx_vars j
  obtain rfl : j0 = 0 := Fin.fin_one_eq_zero j0
  unfold Value.res_main_v36 Value.res_main_v34 Value.res_main_v29_0 Value.res_main_v32
  revert hs hg hv
  generalize Value.res_main_v29_2 (StableHlo.launchContents m c) = s
  generalize Value.res_main_v27 (StableHlo.launchContents m c) = g
  generalize Value.res_main_v28 (StableHlo.launchContents m c) = v
  intro hs hg hv
  pointwise
  refine Eq.trans ?_ (show dAll (m ((c : Thread nD τ).loc main_arg1)) (gv (m ((c : Thread nD τ).loc main_arg0)) (m ((c : Thread nD τ).loc main_arg2)) (m ((c : Thread nD τ).loc main_arg3))) j2 j1 = _ from rfl)
  unfold dAll
  by_cases h : (j2 : ℕ) < 2816
  · rw [dif_pos h, dif_pos h, hs, hg, hv]
    exact (gate_law _ _ _ (hA _) (hc _ _) (hc _ _)).trans (if_pos rfl).symm
  · rw [dif_neg h, dif_neg h, hs, hg]
    exact (EReal.mul_comm _ _).trans (if_neg (show ¬ ((1 : Fin 2) : ℕ) = 0 by decide)).symm

/-- The taps applied backwards as three padded products summed. -/
def padSum (D : FVec Ideal S1x4096x5632 .f32) (w2 w1 w0 : FVec Ideal S1x1x5632 .f32) : FVec Ideal S4096x5632 .f32 :=
  shapeCast _ (extractStridedSlice S1x4096x5632 ![0, 2, 0] (addf (addf (pad S1x4098x5632 ![0, 2, 0] ![0, 0, 0] ![0, 0, 0] (mulf D (broadcastInDim S1x4096x5632 ![0, 1, 2] bcast_S1x1x5632_S1x4096x5632_0_1_2 w2)) (constant S_ .f32 0x00000000#32) pads_S1x4096x5632_S1x4098x5632_000_200_000 h_S_) (pad S1x4098x5632 ![0, 1, 0] ![0, 1, 0] ![0, 0, 0] (mulf D (broadcastInDim S1x4096x5632 ![0, 1, 2] bcast_S1x1x5632_S1x4096x5632_0_1_2 w1)) (constant S_ .f32 0x00000000#32) pads_S1x4096x5632_S1x4098x5632_000_110_000 h_S_)) (pad S1x4098x5632 ![0, 0, 0] ![0, 2, 0] ![0, 0, 0] (mulf D (broadcastInDim S1x4096x5632 ![0, 1, 2] bcast_S1x1x5632_S1x4096x5632_0_1_2 w0)) (constant S_ .f32 0x00000000#32) pads_S1x4096x5632_S1x4098x5632_000_020_000 h_S_)) slices_S1x4098x5632_S1x4096x5632_0_2_0) shapeCasts_S1x4096x5632_S4096x5632

theorem padSum_at (D : FVec Ideal S1x4096x5632 .f32) (w2 w1 w0 : FVec Ideal S1x1x5632 .f32) (r : Fin 4096) (n : Fin 5632) :
    padSum D w2 w1 w0 (ix2 r n) = back (w0 (ix3 0 0 n)) (w1 (ix3 0 0 n)) (w2 (ix3 0 0 n)) (fun k => D (ix3 0 k n)) r := by
  unfold padSum back
  pointwise
  refine congrArg₂ (· + ·) (congrArg₂ (· + ·) (mul_comm _ _) ?_) ?_
  · exact up_one (fun k => D (ix3 0 k n)) _ r
  · exact up_two (fun k => D (ix3 0 k n)) _ r

/-- The convolution's gradient over both halves. -/
def bArr (D : FVec Ideal S1x4096x5632 .f32) (W : FVec Ideal S3x5632 .f32) : FVec Ideal S4096x5632 .f32 :=
  fun j => back (W (ix2 0 (j 1))) (W (ix2 1 (j 1))) (W (ix2 2 (j 1))) (fun k => D (ix3 0 k (j 1))) (j 0)

/-- The reference's gradient of the convolution's input. -/
theorem ref_back (c : Dev nD) (hU : ∀ j, ∃ x : ℝ, (m ((c : Thread nD τ).loc main_arg0) : FVec Ideal S4096x5632 .f32) j = (x : EReal))
    (hA : ∀ j, ∃ x : ℝ, (m ((c : Thread nD τ).loc main_arg1) : FVec Ideal S4096x2816 .bf16) j = (x : EReal))
    (hW : ∀ j, ∃ x : ℝ, (m ((c : Thread nD τ).loc main_arg2) : FVec Ideal S3x5632 .f32) j = (x : EReal))
    (hB : ∀ j, ∃ x : ℝ, (m ((c : Thread nD τ).loc main_arg3) : FVec Ideal S5632 .f32) j = (x : EReal)) :
    Value.res_main_v75 (StableHlo.launchContents m c) = bArr (dArr (m ((c : Thread nD τ).loc main_arg1)) (gv (m ((c : Thread nD τ).loc main_arg0)) (m ((c : Thread nD τ).loc main_arg2)) (m ((c : Thread nD τ).loc main_arg3)))) (m ((c : Thread nD τ).loc main_arg2)) := by
  rw [← ref_cot m c hU hA hW hB]
  show padSum (Value.res_main_v36 (StableHlo.launchContents m c)) (Value.res_main_v20 (StableHlo.launchContents m c)) (Value.res_main_v13 (StableHlo.launchContents m c)) (Value.res_main_v7 (StableHlo.launchContents m c)) = _
  generalize Value.res_main_v36 (StableHlo.launchContents m c) = D
  funext j
  idx_vars j
  refine (padSum_at _ _ _ _ j0 j1).trans ?_
  unfold Value.res_main_v20 Value.res_main_v13 Value.res_main_v7
  pointwise
  rfl

set_option maxHeartbeats 1600000 in
/-- Every run of the reference ends with the same four results, where the arguments are real, and its arguments unchanged. -/
theorem run_ref (ρ : Dev nD → PrngReg) (hU : ∀ (c : Dev nD) j, ∃ x : ℝ, (m ((c : Thread nD τ).loc main_arg0) : FVec Ideal S4096x5632 .f32) j = (x : EReal))
    (hA : ∀ (c : Dev nD) j, ∃ x : ℝ, (m ((c : Thread nD τ).loc main_arg1) : FVec Ideal S4096x2816 .bf16) j = (x : EReal))
    (hW : ∀ (c : Dev nD) j, ∃ x : ℝ, (m ((c : Thread nD τ).loc main_arg2) : FVec Ideal S3x5632 .f32) j = (x : EReal))
    (hB : ∀ (c : Dev nD) j, ∃ x : ℝ, (m ((c : Thread nD τ).loc main_arg3) : FVec Ideal S5632 .f32) j = (x : EReal)) :
    θ_run defs (onTc (τ := τ) (main (F := Ideal))) ⟨m, fun _ => 0, ρ⟩ fun r => ∀ c : Dev nD,
    r.2.mem ((c.tc : Thread nD τ).loc main_v74) = specAct (m ((c : Thread nD τ).loc main_arg0)) (m ((c : Thread nD τ).loc main_arg2)) (bias (m ((c : Thread nD τ).loc main_arg3)))
    ∧ r.2.mem ((c.tc : Thread nD τ).loc main_v81) = specDup (m ((c : Thread nD τ).loc main_arg1)) (gv (m ((c : Thread nD τ).loc main_arg0)) (m ((c : Thread nD τ).loc main_arg2)) (m ((c : Thread nD τ).loc main_arg3))) (m ((c : Thread nD τ).loc main_arg2))
    ∧ r.2.mem ((c.tc : Thread nD τ).loc main_v68) = joinW (specDcw (m ((c : Thread nD τ).loc main_arg1)) (gv (m ((c : Thread nD τ).loc main_arg0)) (m ((c : Thread nD τ).loc main_arg2)) (m ((c : Thread nD τ).loc main_arg3))) (m ((c : Thread nD τ).loc main_arg0)))
    ∧ r.2.mem ((c.tc : Thread nD τ).loc main_v82) = joinB (specDcb (m ((c : Thread nD τ).loc main_arg1)) (gv (m ((c : Thread nD τ).loc main_arg0)) (m ((c : Thread nD τ).loc main_arg2)) (m ((c : Thread nD τ).loc main_arg3))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.FfnReferenceIdeal.Value.run m ρ
  · have hs := ref_sig m c
    have hg := ref_gate m c
    have hv := ref_val m c
    unfold Value.res_main_v29_0
    revert hs hg hv
    generalize Value.res_main_v29_2 (StableHlo.launchContents m c) = s
    generalize Value.res_main_v27 (StableHlo.launchContents m c) = g
    generalize Value.res_main_v28 (StableHlo.launchContents m c) = v
    intro hs hg hv
    funext j
    idx_vars j
    pointwise
    rw [hs, hg, hv]
    rfl
  · rw [ref_back m c (hU c) (hA c) (hW c) (hB c)]
    generalize hE : bArr (dArr (m ((c : Thread nD τ).loc main_arg1)) (gv (m ((c : Thread nD τ).loc main_arg0)) (m ((c : Thread nD τ).loc main_arg2)) (m ((c : Thread nD τ).loc main_arg3)))) (m ((c : Thread nD τ).loc main_arg2)) = E
    funext j
    idx_vars j
    pointwise
    subst hE
    rcases (by omega : (j0 : ℕ) = 0 ∨ (j0 : ℕ) = 1) with h | h
    · obtain rfl : j0 = 0 := Fin.ext h
      refine (dif_pos (by decide)).trans ?_
      refine Eq.trans (congrArg (fun n : Fin 5632 => bArr (dArr (m ((c : Thread nD τ).loc main_arg1)) (gv (m ((c : Thread nD τ).loc main_arg0)) (m ((c : Thread nD τ).loc main_arg2)) (m ((c : Thread nD τ).loc main_arg3)))) (m ((c : Thread nD τ).loc main_arg2)) (ix2 j1 n)) (Fin.ext (by show (j2 : ℕ) = 0 * 2816 + j2; omega) : _ = half 0 j2)) ?_
      exact congrArg (fun f => back _ _ _ f j1) (dAll_lo _ _ j2)
    · obtain rfl : j0 = 1 := Fin.ext h
      refine (dif_neg (by decide)).trans ?_
      refine Eq.trans (congrArg (fun n : Fin 5632 => bArr (dArr (m ((c : Thread nD τ).loc main_arg1)) (gv (m ((c : Thread nD τ).loc main_arg0)) (m ((c : Thread nD τ).loc main_arg2)) (m ((c : Thread nD τ).loc main_arg3)))) (m ((c : Thread nD τ).loc main_arg2)) (ix2 j1 n)) (Fin.ext (by show 2816 + (j2 : ℕ) = 1 * 2816 + j2; omega) : _ = half 1 j2)) ?_
      exact congrArg (fun f => back _ _ _ f j1) (dAll_hi _ _ j2)
  · rw [ref_cot m c (hU c) (hA c) (hW c) (hB c)]
    generalize hD : dArr (m ((c : Thread nD τ).loc main_arg1)) (gv (m ((c : Thread nD τ).loc main_arg0)) (m ((c : Thread nD τ).loc main_arg2)) (m ((c : Thread nD τ).loc main_arg3))) = D
    funext j
    idx_vars j
    pointwise [Value.res_main_v4, Value.res_main_v10, Value.res_main_v17, Value.res_main_v2, HostSums.sum01]
    refine Eq.trans ?_ (joinW_at _ _ _ j0 j1).symm
    subst hD
    simp only [Fin.sum_univ_one, zero_mul, Finset.sum_const_zero, zero_add]
    rcases (by omega : (j0 : ℕ) = 0 ∨ (j0 : ℕ) = 1 ∨ (j0 : ℕ) = 2) with h | h | h
    · rw [dif_neg (by omega), dif_neg (by omega), dif_pos (by omega), zero_add, zero_add]
      refine Eq.trans ?_ (if_pos h).symm
      exact Cert.Sconv.sum_up_two (dAll _ _ j1) (fun k => m ((c : Thread nD τ).loc main_arg0) (ix2 k j1))
    · rw [dif_neg (by omega), dif_pos (by omega), dif_neg (by omega), zero_add, add_zero]
      refine Eq.trans ?_ ((if_neg (by omega)).trans ((if_pos h).trans (sum_up_mul 1 _ _))).symm
      show (_ : EReal) = _
      exact Finset.sum_congr rfl fun x _ => (mul_comm _ _).trans (congrArg₂ (· * ·) rfl (dn_one (fun k => m ((c : Thread nD τ).loc main_arg0) (ix2 k j1)) x))
    · rw [dif_pos (by omega), dif_neg (by omega), dif_neg (by omega), add_zero, add_zero]
      refine Eq.trans ?_ ((if_neg (by omega)).trans (if_neg (by omega))).symm
      show (_ : EReal) = _
      exact Finset.sum_congr rfl fun x _ => mul_comm (G := EReal) _ _
  · rw [ref_cot m c (hU c) (hA c) (hW c) (hB c)]
    generalize hD : dArr (m ((c : Thread nD τ).loc main_arg1)) (gv (m ((c : Thread nD τ).loc main_arg0)) (m ((c : Thread nD τ).loc main_arg2)) (m ((c : Thread nD τ).loc main_arg3))) = D
    funext j
    idx_vars j
    pointwise [HostSums.sum01]
    refine Eq.trans ?_ (joinB_at _ _ j0 j1).symm
    subst hD
    simp only [Fin.sum_univ_one]
    rfl

end Cert.Ffn
-- ==== Proof.Ffn.lean ====
/- The claims about the gated convolution's activation and its gradient. -/
module

public import proofs.«01_k».proof.Defs
public import proofs.«01_k».proof.Proof.Gen.FfnKernel.Frame
public import proofs.«01_k».proof.Proof.Gen.FfnKernelIdeal.Frame
public import proofs.«01_k».proof.Proof.Gen.Pre_ffn_finite
public import proofs.«01_k».proof.Proof.FfnRun
public import proofs.«01_k».proof.Proof.FfnRef
public import proofs.«01_k».proof.Proof.GeluPure
public import Idealize.ShloMosaic.Lib.Claim
public import Idealize.ShloMosaic.Lib.Quiescent

@[expose] public section

set_option maxRecDepth 16384

noncomputable section

open Idealize.ShloMosaic Idealize.ShloMosaic.TcCoe Idealize.SL.Sem
namespace Cert.Ffn
open Cert.Gelu (real_of_lt)

instance : Cert.FfnKernel.Facts := Cert.FfnKernel.Gen.facts
instance : Cert.FfnKernelIdeal.Facts := Cert.FfnKernelIdeal.Gen.facts
instance : Cert.FfnReferenceIdeal.Facts := Cert.FfnReferenceIdeal.Gen.facts
instance : Cert.Pre_ffn_finite.Facts := Cert.Pre_ffn_finite.Gen.facts

/-- Where the condition holds the four arrays are real. -/
theorem pre_real (U : FVec Ideal Cert.Pre_ffn_finite.S4096x5632 .f32) (A : FVec Ideal Cert.Pre_ffn_finite.S4096x2816 .bf16)
    (W : FVec Ideal Cert.Pre_ffn_finite.S3x5632 .f32) (b : FVec Ideal Cert.Pre_ffn_finite.S5632 .f32)
    (h : Cert.Pre_ffn_finite.fn (F := Ideal) U A W b = fun _ => 1#1) :
    (∀ j, ∃ r : ℝ, U j = (r : EReal)) ∧ (∀ j, ∃ r : ℝ, A j = (r : EReal)) ∧ (∀ j, ∃ r : ℝ, W j = (r : EReal)) ∧ (∀ j, ∃ r : ℝ, b j = (r : EReal)) := by
  have hs : Subsingleton Cert.Pre_ffn_finite.S_.Idx := ⟨fun a b => funext fun i => i.elim0⟩
  have e := congrFun h (fun i => i.elim0)
  unfold Cert.Pre_ffn_finite.fn Cert.Pre_ffn_finite.fn_part1 at e
  obtain ⟨e3, eb⟩ := IntOp.andi_eq_one.mp e
  obtain ⟨e2, eW⟩ := IntOp.andi_eq_one.mp e3
  obtain ⟨eU, eA⟩ := IntOp.andi_eq_one.mp e2
  exact ⟨fun j => real_of_lt (Host.reduce_andi_all _ _ _ _ _ eU j), fun j => real_of_lt (Host.reduce_andi_all _ _ _ _ _ eA j),
    fun j => real_of_lt (Host.reduce_andi_all _ _ _ _ _ eW j), fun j => real_of_lt (Host.reduce_andi_all _ _ _ _ _ eb j)⟩

/-- The kernel runs to its end on machine floats and leaves its arguments as they were. -/
theorem frame_P : Cert.quiescent_FfnKernel := fun m ρ _ => Cert.FfnKernel.Gen.frame m ρ

/-- The same over the extended reals. -/
theorem frame_PI : Cert.quiescent_FfnKernelIdeal := fun m ρ _ => Cert.FfnKernelIdeal.Gen.frame m ρ

/-- The same where the condition holds. -/
theorem frame_PI_pre : Cert.quiescent_FfnKernelIdeal_pre_ffn_finite := fun m ρ _ => Cert.FfnKernelIdeal.Gen.frame m ρ

/-- The reference runs to its end over the extended reals and leaves its arguments as they were. -/
theorem frame_RI : Cert.quiescent_FfnReferenceIdeal := by
  intro m g _
  hlo_run
  · exact fun _ => ⟨trivial, trivial, trivial, trivial⟩
  · exact sem_eq_zero_of_no_sems (sig := Cert.FfnReferenceIdeal.sig) (by decide) _

/-- The same where the condition holds. -/
theorem frame_RI_pre : Cert.quiescent_FfnReferenceIdeal_pre_ffn_finite := fun m g _ => frame_RI m g trivial

/-- Where the condition holds kernel and reference end with equal products and gradients. -/
theorem value : Cert.algebraic_FfnKernelIdeal_FfnReferenceIdeal_pre_ffn_finite := by
  pair_intro
  · run_from run_ker m g
  · run_from run_ref m' g'
      (fun c j => by rw [(hagree c).1]; exact (pre_real _ _ _ _ (hpre c)).1 j)
      (fun c j => by rw [(hagree c).2.1]; exact (pre_real _ _ _ _ (hpre c)).2.1 j)
      (fun c j => by rw [(hagree c).2.2.1]; exact (pre_real _ _ _ _ (hpre c)).2.2.1 j)
      (fun c j => by rw [(hagree c).2.2.2]; exact (pre_real _ _ _ _ (hpre c)).2.2.2 j)

end Cert.Ffn
-- ==== Proof.UpDx0.lean ====
/- The gradient of the feed-forward layer's up projection in its input, and on through the norm before it. -/
module

public import proofs.«01_k».proof.Defs
public import proofs.«01_k».proof.Proof.Gen.UpDx0Kernel.Frame
public import proofs.«01_k».proof.Proof.Gen.UpDx0KernelIdeal.Frame
public import proofs.«01_k».proof.Proof.Gen.UpDx0ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.UpDx0

section Ker
open Cert.UpDx0KernelIdeal Cert.UpDx0KernelIdeal.Gen

/-- A column of the first half and of the second half. -/
def lo (k : Fin 2816) : Fin 5632 := ⟨k, by omega⟩
def hi (k : Fin 2816) : Fin 5632 := ⟨2816 + k, by omega⟩

/-- The gradient of the normed row: the product of each half with its half of the weight's columns. -/
def dh (A : FVec Ideal S2x4096x2816 .bf16) (W : FVec Ideal S1024x5632 .bf16) (i : Fin 4096) (c : Fin 1024) : EReal :=
  ∑ k : Fin 2816, A (ix3 (0 : Fin 2) i k) * W (ix2 c (lo k)) + ∑ k : Fin 2816, A (ix3 (1 : Fin 2) i k) * W (ix2 c (hi k))

/-- The gradient of the norm's input, the residual's added. -/
def specDx (A : FVec Ideal S2x4096x2816 .bf16) (W : FVec Ideal S1024x5632 .bf16) (x : FVec Ideal S4096x1024 .f32) (g : FVec Ideal S4x1024 .f32)
    (res : FVec Ideal S4096x1024 .f32) : FVec Ideal S4096x1024 .f32 :=
  fun j => Norm.dx (dh A W (j 0)) (fun k => x (ix2 (j 0) k)) (fun k => g (ix2 (0 : Fin 4) k)) (res j) (j 1)

/-- The gradient of the gains. -/
def specDg (A : FVec Ideal S2x4096x2816 .bf16) (W : FVec Ideal S1024x5632 .bf16) (x : FVec Ideal S4096x1024 .f32) : FVec Ideal S1x1024 .f32 :=
  fun j => Norm.dg (dh A W) (fun i k => x (ix2 i k)) (j 1)

/-- The windows' block indices at every grid point. -/
theorem idx : ∀ t : Fin cfg0.N, win0_0.index t = ![0, t.val, 0] ∧ win0_1.index t = ![0, 0] ∧ win0_2.index t = ![t.val, 0]
    ∧ win0_3.index t = ![0, 0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (h : Fin 2) (r : Fin 512) (k : Fin 2816) :
    iblk m c 0 t (ix3 h r k) = m ((c : Thread nD τ).loc main_arg0) (ix3 h (row t r) k) := by
  unfold row; blk_ext [iblk, V, idx t]
theorem rd1 (c : Dev nD) (t : Fin cfg0.N) (l : Fin 1024) (k : Fin 5632) :
    iblk m c 1 t (ix2 l k) = m ((c : Thread nD τ).loc main_arg1) (ix2 l k) := by
  blk_ext [iblk, V, idx t]
theorem ldA0 (c : Dev nD) (t : Fin cfg0.N) (r : Fin 512) (k : Fin 2816) :
    (View.ld (iblk m c 0 t) (Rect.unit ![0, 0, 0] ![1, 512, 2816] inb_S2x512x2816_S1x512x2816_0_0_0)) (ix3 (0 : Fin 1) r k) = (m ((c : Thread nD τ).loc main_arg0)) (ix3 (0 : Fin 2) (row t r) k) := by
  refine Eq.trans ?_ (rd0 m c t 0 r k); pointwise
theorem ldA1 (c : Dev nD) (t : Fin cfg0.N) (r : Fin 512) (k : Fin 2816) :
    (View.ld (iblk m c 0 t) (Rect.unit ![1, 0, 0] ![1, 512, 2816] inb_S2x512x2816_S1x512x2816_1_0_0)) (ix3 (0 : Fin 1) r k) = (m ((c : Thread nD τ).loc main_arg0)) (ix3 (1 : Fin 2) (row t r) k) := by
  refine Eq.trans ?_ (rd0 m c t 1 r k); pointwise
theorem ldW0 (c : Dev nD) (t : Fin cfg0.N) (l : Fin 1024) (k : Fin 2816) :
    (View.ld (iblk m c 1 t) (Rect.unit ![0, 0] ![1024, 2816] inb_S1024x5632_S1024x2816_0_0)) (ix2 l k) = (m ((c : Thread nD τ).loc main_arg1)) (ix2 l (lo k)) := by
  refine Eq.trans ?_ (rd1 m c t l (lo k)); pointwise [lo]
theorem ldW1 (c : Dev nD) (t : Fin cfg0.N) (l : Fin 1024) (k : Fin 2816) :
    (View.ld (iblk m c 1 t) (Rect.unit ![0, 2816] ![1024, 2816] inb_S1024x5632_S1024x2816_0_2816)) (ix2 l k) = (m ((c : Thread nD τ).loc main_arg1)) (ix2 l (hi k)) := by
  refine Eq.trans ?_ (rd1 m c t l (hi k)); pointwise [hi]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (0 : Fin 4) k) := by
  blk_simp [iblk, idx t]; entry_read; pointwise; blk_ext [idx t]
theorem rd4 (c : Dev nD) (t : Fin cfg0.N) (r : Fin 512) (k : Fin 1024) :
    iblk m c 4 t (ix2 r k) = m ((c : Thread nD τ).loc main_arg4) (ix2 (row t r) k) := by
  unfold row; blk_ext [iblk, V, idx t]
theorem emb5 (t : Fin cfg0.N) (r : Fin 512) (l : Fin 1024) : ((cfg0.win 5).blk t).view.emb (ix2 r l) = ix2 (row t r) l := by
  unfold row; blk_ext [idx t]
theorem emb6 (t : Fin cfg0.N) (r : Fin 512) (l : Fin 1024) : ((cfg0.win 6).blk t).view.emb (ix2 r l) = ix2 (row t r) l := by
  unfold row; blk_ext [idx t]

/-- A block of the product. -/
theorem payD (v0 : FVec Ideal S1x512x2816 .bf16) (v2 : FVec Ideal S1024x2816 .bf16) (v4 : FVec Ideal S1x512x2816 .bf16) (v6 : FVec Ideal S1024x2816 .bf16)
    (r : Fin 512) (l : Fin 1024) :
    k0_pay4 (F := Ideal) v0 v2 v4 v6 (ix2 r l)
      = ∑ k : Fin 2816, v0 (ix3 (0 : Fin 1) r k) * v2 (ix2 l k) + ∑ k : Fin 2816, v4 (ix3 (0 : Fin 1) r k) * v6 (ix2 l k) := by
  pointwise [k0_pay4]
/-- A block's inverse roots. -/
theorem payR (x : FVec Ideal S512x1024 .f32) (r : Fin 512) (z : Fin 1) :
    k0_pay6 (F := Ideal) x (ix2 r z) = Ideal.rsqrt (Norm.msq fun k => x (ix2 r k)) := by
  pointwise [k0_pay6, Norm.msq]
/-- A block of the input's gradient. -/
theorem payX (v0 : FVec Ideal S1x512x2816 .bf16) (v2 : FVec Ideal S1024x2816 .bf16) (v4 : FVec Ideal S1x512x2816 .bf16) (v6 : FVec Ideal S1024x2816 .bf16)
    (x : FVec Ideal S512x1024 .f32) (g : FVec Ideal S1x1x1024 .f32) (res : FVec Ideal S512x1024 .f32) (r : Fin 512) (l : Fin 1024) :
    k0_pay1 (F := Ideal) x (k0_pay6 x) (k0_pay8 v0 v2 v4 v6 x g) (k0_pay9 v0 v2 v4 v6 x g) (k0_pay10 x) res (ix2 r l)
      = Norm.dx (fun k => k0_pay4 (F := Ideal) v0 v2 v4 v6 (ix2 r k)) (fun k => x (ix2 r k)) (fun k => g (ix3 0 0 k)) (res (ix2 r l)) l := by
  pointwise [k0_pay1, k0_pay7, k0_pay8, k0_pay9, k0_pay10, payR, Norm.dx]
/-- The gains' gradient: what the buffer held and a block's part. -/
theorem payG (d x : FVec Ideal S512x1024 .f32) (v : FVec Ideal S512x1 .f32) (acc : FVec Ideal S1x1024 .f32) (j : S1x1024.Idx) :
    k0_pay3 (F := Ideal) d x v acc j = acc j + ∑ r : Fin 512, d (ix2 r (j 1)) * (x (ix2 r (j 1)) * v (ix2 r 0)) := by
  idx_vars j
  pointwise [k0_pay3]
theorem payZ (j : S1x1024.Idx) : k0_pay5 (F := Ideal) j = 0 := by
  pointwise! [k0_pay5]

/-- A block of the normed row's gradient. -/
theorem blkD (c : Dev nD) (t : Fin cfg0.N) (r : Fin 512) (l : Fin 1024) :
    k0_pay4 (F := Ideal) (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (ix2 r l)
      = dh (m ((c : Thread nD τ).loc main_arg0)) (m ((c : Thread nD τ).loc main_arg1)) (row t r) l :=
  (payD _ _ _ _ r l).trans (congrArg₂ (· + ·)
    (Finset.sum_congr rfl fun k _ => congrArg₂ (· * ·) (ldA0 m c t r k) (ldW0 m c t l k))
    (Finset.sum_congr rfl fun k _ => congrArg₂ (· * ·) (ldA1 m c t r k) (ldW1 m c t l k)))

/-- The block that the grid point `t` writes of the input's gradient. -/
theorem blkX (c : Dev nD) (t : Fin cfg0.N) (y : S512x1024.Idx) :
    k0_pay1 (F := Ideal) (iblk m c 2 t) (k0_pay6 (iblk m c 2 t)) (k0_pay8 (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (iblk m c 2 t) (iblk m c 3 t))
      (k0_pay9 (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (iblk m c 2 t) (iblk m c 3 t)) (k0_pay10 (iblk m c 2 t)) (iblk m c 4 t) y
      = specDx (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1)) := by
  obtain ⟨r, l, rfl⟩ : ∃ (r : Fin 512) (l : Fin 1024), y = ix2 r l := ⟨y 0, y 1, eq_ix2 y⟩
  refine (payX _ _ _ _ _ _ _ r l).trans ?_
  rw [funext fun l => blkD m c t r l, funext fun k => rd2 m c t r k, funext fun k => rd3 m c t k, rd4 m c t r l]
  rfl

/-- One row's part of the gains' gradient. -/
def rowG (A : FVec Ideal S2x4096x2816 .bf16) (W : FVec Ideal S1024x5632 .bf16) (x : FVec Ideal S4096x1024 .f32) (l : Fin 1024) (i : Fin 4096) : EReal :=
  dh A W i l * (x (ix2 i l) * Ideal.rsqrt (Norm.msq fun k => x (ix2 i k)))

theorem blkG (c : Dev nD) (t : Fin cfg0.N) (r : Fin 512) (l : Fin 1024) (X : FVec Ideal S512x1024 .f32) (hX : X = iblk m c 2 t) :
    k0_pay4 (F := Ideal) (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (ix2 r l) * (X (ix2 r l) * k0_pay6 (F := Ideal) X (ix2 r 0))
      = rowG (m ((c : Thread nD τ).loc main_arg0)) (m ((c : Thread nD τ).loc main_arg1)) (m ((c : Thread nD τ).loc main_arg2)) l (row t r) := by
  subst hX
  rw [blkD, payR, rd2, funext fun k => rd2 m c t r k]
  rfl

/-- The run leaves the input's gradient -/
theorem final5 (c : Dev nD) : (dats m 0 c).arrAt 5 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- The copy of it in the narrow format. -/
theorem final6 (c : Dev nD) : (dats m 0 c).arrAt 6 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]
  obtain ⟨r, l, rfl⟩ : ∃ (r : Fin 512) (l : Fin 1024), y = ix2 r l := ⟨y 0, y 1, eq_ix2 y⟩
  refine Eq.trans ?_ (congrArg _ (emb6 t r l)).symm
  by_cases h : t.val % 8 = 0
  · rw [outsAt0_A m c t h]; frame_out; exact blkX m c t _
  · rw [outsAt0_B m c t h]; frame_out; exact blkX m c t _

/-- The run leaves the gains' gradient. -/
theorem final7 (c : Dev nD) : (dats m 0 c).arrAt 7 (cfgs 0).N
    = specDg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ _ j).trans ?_; rw [payZ]; exact congrArg _ (Finset.sum_congr rfl fun r _ => blkG m c t r (j 1) _ rfl))
    (fun t h j => by rw [outsAt0_B m c t h]; frame_out; refine (payG _ _ _ _ j).trans ?_; exact congrArg _ (Finset.sum_congr rfl fun r _ => blkG m c t r (j 1) _ rfl))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_1) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_2) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.UpDx0KernelIdeal.Gen.run_main m ρ
  · exact final5 m c
  · exact final6 m c
  · exact final7 m c

end Ker

section Ref
open Cert.UpDx0ReferenceIdeal Cert.UpDx0ReferenceIdeal.Gen

variable (m : (ℓ : Loc nD τ sig) → Buf (Elt Ideal) ℓ)

/-- The reference's first result is the same gradient. -/
theorem ref0 (c : Dev nD) : Value.res_out0 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  idx_vars j
  refine Eq.trans ?_ (Norm.dxRef_eq _ _ _ _ _)
  pointwise [Value.res_out0, Value.res_main_v47, Norm.dxRef, Norm.msq, dh, lo, hi]
  simp only [Finset.univ_unique, Finset.sum_singleton]

/-- Its second result is the first. -/
theorem ref1 (c : Dev nD) : Value.res_out1 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (ref0 m c)
  rfl

/-- Every run of the reference ends with the same gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v47) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v48) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v49) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.UpDx0ReferenceIdeal.Value.run m ρ
  · exact ref0 m c
  · exact ref1 m c
  · funext j
    idx_vars j
    pointwise [specDg, Norm.dg, Norm.msq, dh, lo, hi]
    refine (Fin.sum_univ_one (M := EReal) _).trans ?_
    exact Finset.sum_congr rfl fun i _ => mul_comm (G := EReal) _ _

end Ref

instance : Cert.UpDx0Kernel.Facts := Cert.UpDx0Kernel.Gen.facts
instance : Cert.UpDx0KernelIdeal.Facts := Cert.UpDx0KernelIdeal.Gen.facts
instance : Cert.UpDx0ReferenceIdeal.Facts := Cert.UpDx0ReferenceIdeal.Gen.facts

/-- The kernel runs to its end on machine floats and leaves its arguments as they were. -/
theorem frame_P : Cert.quiescent_UpDx0Kernel := fun m ρ _ => Cert.UpDx0Kernel.Gen.frame m ρ

/-- The same over the extended reals. -/
theorem frame_PI : Cert.quiescent_UpDx0KernelIdeal := fun m ρ _ => Cert.UpDx0KernelIdeal.Gen.frame m ρ

/-- The reference runs to its end over the extended reals and leaves its arguments as they were. -/
theorem frame_RI : Cert.quiescent_UpDx0ReferenceIdeal := by
  intro m g _
  hlo_run
  · exact fun _ => ⟨trivial, trivial, trivial, trivial, trivial⟩
  · exact sem_eq_zero_of_no_sems (sig := Cert.UpDx0ReferenceIdeal.sig) (by decide) _

/-- Kernel and reference end with equal results. -/
theorem value : Cert.algebraic_UpDx0KernelIdeal_UpDx0ReferenceIdeal := by
  pair_intro
  · run_from run_ker m g
  · run_from run_ref m' g'

end Cert.UpDx0
-- ==== Proof.UpDx1.lean ====
/- The gradient of the feed-forward layer's up projection in its input, and on through the norm before it. -/
module

public import proofs.«01_k».proof.Defs
public import proofs.«01_k».proof.Proof.Gen.UpDx1Kernel.Frame
public import proofs.«01_k».proof.Proof.Gen.UpDx1KernelIdeal.Frame
public import proofs.«01_k».proof.Proof.Gen.UpDx1ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.UpDx1

section Ker
open Cert.UpDx1KernelIdeal Cert.UpDx1KernelIdeal.Gen

/-- A column of the first half and of the second half. -/
def lo (k : Fin 2816) : Fin 5632 := ⟨k, by omega⟩
def hi (k : Fin 2816) : Fin 5632 := ⟨2816 + k, by omega⟩

/-- The gradient of the normed row: the product of each half with its half of the weight's columns. -/
def dh (A : FVec Ideal S2x4096x2816 .bf16) (W : FVec Ideal S1024x5632 .bf16) (i : Fin 4096) (c : Fin 1024) : EReal :=
  ∑ k : Fin 2816, A (ix3 (0 : Fin 2) i k) * W (ix2 c (lo k)) + ∑ k : Fin 2816, A (ix3 (1 : Fin 2) i k) * W (ix2 c (hi k))

/-- The gradient of the norm's input, the residual's added. -/
def specDx (A : FVec Ideal S2x4096x2816 .bf16) (W : FVec Ideal S1024x5632 .bf16) (x : FVec Ideal S4096x1024 .f32) (g : FVec Ideal S4x1024 .f32)
    (res : FVec Ideal S4096x1024 .f32) : FVec Ideal S4096x1024 .f32 :=
  fun j => Norm.dx (dh A W (j 0)) (fun k => x (ix2 (j 0) k)) (fun k => g (ix2 (1 : Fin 4) k)) (res j) (j 1)

/-- The gradient of the gains. -/
def specDg (A : FVec Ideal S2x4096x2816 .bf16) (W : FVec Ideal S1024x5632 .bf16) (x : FVec Ideal S4096x1024 .f32) : FVec Ideal S1x1024 .f32 :=
  fun j => Norm.dg (dh A W) (fun i k => x (ix2 i k)) (j 1)

/-- The windows' block indices at every grid point. -/
theorem idx : ∀ t : Fin cfg0.N, win0_0.index t = ![0, t.val, 0] ∧ win0_1.index t = ![0, 0] ∧ win0_2.index t = ![t.val, 0]
    ∧ win0_3.index t = ![1, 0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (h : Fin 2) (r : Fin 512) (k : Fin 2816) :
    iblk m c 0 t (ix3 h r k) = m ((c : Thread nD τ).loc main_arg0) (ix3 h (row t r) k) := by
  unfold row; blk_ext [iblk, V, idx t]
theorem rd1 (c : Dev nD) (t : Fin cfg0.N) (l : Fin 1024) (k : Fin 5632) :
    iblk m c 1 t (ix2 l k) = m ((c : Thread nD τ).loc main_arg1) (ix2 l k) := by
  blk_ext [iblk, V, idx t]
theorem ldA0 (c : Dev nD) (t : Fin cfg0.N) (r : Fin 512) (k : Fin 2816) :
    (View.ld (iblk m c 0 t) (Rect.unit ![0, 0, 0] ![1, 512, 2816] inb_S2x512x2816_S1x512x2816_0_0_0)) (ix3 (0 : Fin 1) r k) = (m ((c : Thread nD τ).loc main_arg0)) (ix3 (0 : Fin 2) (row t r) k) := by
  refine Eq.trans ?_ (rd0 m c t 0 r k); pointwise
theorem ldA1 (c : Dev nD) (t : Fin cfg0.N) (r : Fin 512) (k : Fin 2816) :
    (View.ld (iblk m c 0 t) (Rect.unit ![1, 0, 0] ![1, 512, 2816] inb_S2x512x2816_S1x512x2816_1_0_0)) (ix3 (0 : Fin 1) r k) = (m ((c : Thread nD τ).loc main_arg0)) (ix3 (1 : Fin 2) (row t r) k) := by
  refine Eq.trans ?_ (rd0 m c t 1 r k); pointwise
theorem ldW0 (c : Dev nD) (t : Fin cfg0.N) (l : Fin 1024) (k : Fin 2816) :
    (View.ld (iblk m c 1 t) (Rect.unit ![0, 0] ![1024, 2816] inb_S1024x5632_S1024x2816_0_0)) (ix2 l k) = (m ((c : Thread nD τ).loc main_arg1)) (ix2 l (lo k)) := by
  refine Eq.trans ?_ (rd1 m c t l (lo k)); pointwise [lo]
theorem ldW1 (c : Dev nD) (t : Fin cfg0.N) (l : Fin 1024) (k : Fin 2816) :
    (View.ld (iblk m c 1 t) (Rect.unit ![0, 2816] ![1024, 2816] inb_S1024x5632_S1024x2816_0_2816)) (ix2 l k) = (m ((c : Thread nD τ).loc main_arg1)) (ix2 l (hi k)) := by
  refine Eq.trans ?_ (rd1 m c t l (hi k)); pointwise [hi]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (1 : Fin 4) k) := by
  blk_simp [iblk, idx t]; entry_read; pointwise; blk_ext [idx t]
theorem rd4 (c : Dev nD) (t : Fin cfg0.N) (r : Fin 512) (k : Fin 1024) :
    iblk m c 4 t (ix2 r k) = m ((c : Thread nD τ).loc main_arg4) (ix2 (row t r) k) := by
  unfold row; blk_ext [iblk, V, idx t]
theorem emb5 (t : Fin cfg0.N) (r : Fin 512) (l : Fin 1024) : ((cfg0.win 5).blk t).view.emb (ix2 r l) = ix2 (row t r) l := by
  unfold row; blk_ext [idx t]
theorem emb6 (t : Fin cfg0.N) (r : Fin 512) (l : Fin 1024) : ((cfg0.win 6).blk t).view.emb (ix2 r l) = ix2 (row t r) l := by
  unfold row; blk_ext [idx t]

/-- A block of the product. -/
theorem payD (v0 : FVec Ideal S1x512x2816 .bf16) (v2 : FVec Ideal S1024x2816 .bf16) (v4 : FVec Ideal S1x512x2816 .bf16) (v6 : FVec Ideal S1024x2816 .bf16)
    (r : Fin 512) (l : Fin 1024) :
    k0_pay4 (F := Ideal) v0 v2 v4 v6 (ix2 r l)
      = ∑ k : Fin 2816, v0 (ix3 (0 : Fin 1) r k) * v2 (ix2 l k) + ∑ k : Fin 2816, v4 (ix3 (0 : Fin 1) r k) * v6 (ix2 l k) := by
  pointwise [k0_pay4]
/-- A block's inverse roots. -/
theorem payR (x : FVec Ideal S512x1024 .f32) (r : Fin 512) (z : Fin 1) :
    k0_pay6 (F := Ideal) x (ix2 r z) = Ideal.rsqrt (Norm.msq fun k => x (ix2 r k)) := by
  pointwise [k0_pay6, Norm.msq]
/-- A block of the input's gradient. -/
theorem payX (v0 : FVec Ideal S1x512x2816 .bf16) (v2 : FVec Ideal S1024x2816 .bf16) (v4 : FVec Ideal S1x512x2816 .bf16) (v6 : FVec Ideal S1024x2816 .bf16)
    (x : FVec Ideal S512x1024 .f32) (g : FVec Ideal S1x1x1024 .f32) (res : FVec Ideal S512x1024 .f32) (r : Fin 512) (l : Fin 1024) :
    k0_pay1 (F := Ideal) x (k0_pay6 x) (k0_pay8 v0 v2 v4 v6 x g) (k0_pay9 v0 v2 v4 v6 x g) (k0_pay10 x) res (ix2 r l)
      = Norm.dx (fun k => k0_pay4 (F := Ideal) v0 v2 v4 v6 (ix2 r k)) (fun k => x (ix2 r k)) (fun k => g (ix3 0 0 k)) (res (ix2 r l)) l := by
  pointwise [k0_pay1, k0_pay7, k0_pay8, k0_pay9, k0_pay10, payR, Norm.dx]
/-- The gains' gradient: what the buffer held and a block's part. -/
theorem payG (d x : FVec Ideal S512x1024 .f32) (v : FVec Ideal S512x1 .f32) (acc : FVec Ideal S1x1024 .f32) (j : S1x1024.Idx) :
    k0_pay3 (F := Ideal) d x v acc j = acc j + ∑ r : Fin 512, d (ix2 r (j 1)) * (x (ix2 r (j 1)) * v (ix2 r 0)) := by
  idx_vars j
  pointwise [k0_pay3]
theorem payZ (j : S1x1024.Idx) : k0_pay5 (F := Ideal) j = 0 := by
  pointwise! [k0_pay5]

/-- A block of the normed row's gradient. -/
theorem blkD (c : Dev nD) (t : Fin cfg0.N) (r : Fin 512) (l : Fin 1024) :
    k0_pay4 (F := Ideal) (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (ix2 r l)
      = dh (m ((c : Thread nD τ).loc main_arg0)) (m ((c : Thread nD τ).loc main_arg1)) (row t r) l :=
  (payD _ _ _ _ r l).trans (congrArg₂ (· + ·)
    (Finset.sum_congr rfl fun k _ => congrArg₂ (· * ·) (ldA0 m c t r k) (ldW0 m c t l k))
    (Finset.sum_congr rfl fun k _ => congrArg₂ (· * ·) (ldA1 m c t r k) (ldW1 m c t l k)))

/-- The block that the grid point `t` writes of the input's gradient. -/
theorem blkX (c : Dev nD) (t : Fin cfg0.N) (y : S512x1024.Idx) :
    k0_pay1 (F := Ideal) (iblk m c 2 t) (k0_pay6 (iblk m c 2 t)) (k0_pay8 (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (iblk m c 2 t) (iblk m c 3 t))
      (k0_pay9 (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (iblk m c 2 t) (iblk m c 3 t)) (k0_pay10 (iblk m c 2 t)) (iblk m c 4 t) y
      = specDx (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1)) := by
  obtain ⟨r, l, rfl⟩ : ∃ (r : Fin 512) (l : Fin 1024), y = ix2 r l := ⟨y 0, y 1, eq_ix2 y⟩
  refine (payX _ _ _ _ _ _ _ r l).trans ?_
  rw [funext fun l => blkD m c t r l, funext fun k => rd2 m c t r k, funext fun k => rd3 m c t k, rd4 m c t r l]
  rfl

/-- One row's part of the gains' gradient. -/
def rowG (A : FVec Ideal S2x4096x2816 .bf16) (W : FVec Ideal S1024x5632 .bf16) (x : FVec Ideal S4096x1024 .f32) (l : Fin 1024) (i : Fin 4096) : EReal :=
  dh A W i l * (x (ix2 i l) * Ideal.rsqrt (Norm.msq fun k => x (ix2 i k)))

theorem blkG (c : Dev nD) (t : Fin cfg0.N) (r : Fin 512) (l : Fin 1024) (X : FVec Ideal S512x1024 .f32) (hX : X = iblk m c 2 t) :
    k0_pay4 (F := Ideal) (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (ix2 r l) * (X (ix2 r l) * k0_pay6 (F := Ideal) X (ix2 r 0))
      = rowG (m ((c : Thread nD τ).loc main_arg0)) (m ((c : Thread nD τ).loc main_arg1)) (m ((c : Thread nD τ).loc main_arg2)) l (row t r) := by
  subst hX
  rw [blkD, payR, rd2, funext fun k => rd2 m c t r k]
  rfl

/-- The run leaves the input's gradient -/
theorem final5 (c : Dev nD) : (dats m 0 c).arrAt 5 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- The copy of it in the narrow format. -/
theorem final6 (c : Dev nD) : (dats m 0 c).arrAt 6 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]
  obtain ⟨r, l, rfl⟩ : ∃ (r : Fin 512) (l : Fin 1024), y = ix2 r l := ⟨y 0, y 1, eq_ix2 y⟩
  refine Eq.trans ?_ (congrArg _ (emb6 t r l)).symm
  by_cases h : t.val % 8 = 0
  · rw [outsAt0_A m c t h]; frame_out; exact blkX m c t _
  · rw [outsAt0_B m c t h]; frame_out; exact blkX m c t _

/-- The run leaves the gains' gradient. -/
theorem final7 (c : Dev nD) : (dats m 0 c).arrAt 7 (cfgs 0).N
    = specDg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ _ j).trans ?_; rw [payZ]; exact congrArg _ (Finset.sum_congr rfl fun r _ => blkG m c t r (j 1) _ rfl))
    (fun t h j => by rw [outsAt0_B m c t h]; frame_out; refine (payG _ _ _ _ j).trans ?_; exact congrArg _ (Finset.sum_congr rfl fun r _ => blkG m c t r (j 1) _ rfl))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_1) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_2) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.UpDx1KernelIdeal.Gen.run_main m ρ
  · exact final5 m c
  · exact final6 m c
  · exact final7 m c

end Ker

section Ref
open Cert.UpDx1ReferenceIdeal Cert.UpDx1ReferenceIdeal.Gen

variable (m : (ℓ : Loc nD τ sig) → Buf (Elt Ideal) ℓ)

/-- The reference's first result is the same gradient. -/
theorem ref0 (c : Dev nD) : Value.res_out0 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  idx_vars j
  refine Eq.trans ?_ (Norm.dxRef_eq _ _ _ _ _)
  pointwise [Value.res_out0, Value.res_main_v47, Norm.dxRef, Norm.msq, dh, lo, hi]
  simp only [Finset.univ_unique, Finset.sum_singleton]

/-- Its second result is the first. -/
theorem ref1 (c : Dev nD) : Value.res_out1 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (ref0 m c)
  rfl

/-- Every run of the reference ends with the same gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v47) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v48) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v49) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.UpDx1ReferenceIdeal.Value.run m ρ
  · exact ref0 m c
  · exact ref1 m c
  · funext j
    idx_vars j
    pointwise [specDg, Norm.dg, Norm.msq, dh, lo, hi]
    refine (Fin.sum_univ_one (M := EReal) _).trans ?_
    exact Finset.sum_congr rfl fun i _ => mul_comm (G := EReal) _ _

end Ref

instance : Cert.UpDx1Kernel.Facts := Cert.UpDx1Kernel.Gen.facts
instance : Cert.UpDx1KernelIdeal.Facts := Cert.UpDx1KernelIdeal.Gen.facts
instance : Cert.UpDx1ReferenceIdeal.Facts := Cert.UpDx1ReferenceIdeal.Gen.facts

/-- The kernel runs to its end on machine floats and leaves its arguments as they were. -/
theorem frame_P : Cert.quiescent_UpDx1Kernel := fun m ρ _ => Cert.UpDx1Kernel.Gen.frame m ρ

/-- The same over the extended reals. -/
theorem frame_PI : Cert.quiescent_UpDx1KernelIdeal := fun m ρ _ => Cert.UpDx1KernelIdeal.Gen.frame m ρ

/-- The reference runs to its end over the extended reals and leaves its arguments as they were. -/
theorem frame_RI : Cert.quiescent_UpDx1ReferenceIdeal := by
  intro m g _
  hlo_run
  · exact fun _ => ⟨trivial, trivial, trivial, trivial, trivial⟩
  · exact sem_eq_zero_of_no_sems (sig := Cert.UpDx1ReferenceIdeal.sig) (by decide) _

/-- Kernel and reference end with equal results. -/
theorem value : Cert.algebraic_UpDx1KernelIdeal_UpDx1ReferenceIdeal := by
  pair_intro
  · run_from run_ker m g
  · run_from run_ref m' g'

end Cert.UpDx1
-- ==== Proof.UpDx2.lean ====
/- The gradient of the feed-forward layer's up projection in its input, and on through the norm before it. -/
module

public import proofs.«01_k».proof.Defs
public import proofs.«01_k».proof.Proof.Gen.UpDx2Kernel.Frame
public import proofs.«01_k».proof.Proof.Gen.UpDx2KernelIdeal.Frame
public import proofs.«01_k».proof.Proof.Gen.UpDx2ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.UpDx2

section Ker
open Cert.UpDx2KernelIdeal Cert.UpDx2KernelIdeal.Gen

/-- A column of the first half and of the second half. -/
def lo (k : Fin 2816) : Fin 5632 := ⟨k, by omega⟩
def hi (k : Fin 2816) : Fin 5632 := ⟨2816 + k, by omega⟩

/-- The gradient of the normed row: the product of each half with its half of the weight's columns. -/
def dh (A : FVec Ideal S2x4096x2816 .bf16) (W : FVec Ideal S1024x5632 .bf16) (i : Fin 4096) (c : Fin 1024) : EReal :=
  ∑ k : Fin 2816, A (ix3 (0 : Fin 2) i k) * W (ix2 c (lo k)) + ∑ k : Fin 2816, A (ix3 (1 : Fin 2) i k) * W (ix2 c (hi k))

/-- The gradient of the norm's input, the residual's added. -/
def specDx (A : FVec Ideal S2x4096x2816 .bf16) (W : FVec Ideal S1024x5632 .bf16) (x : FVec Ideal S4096x1024 .f32) (g : FVec Ideal S4x1024 .f32)
    (res : FVec Ideal S4096x1024 .f32) : FVec Ideal S4096x1024 .f32 :=
  fun j => Norm.dx (dh A W (j 0)) (fun k => x (ix2 (j 0) k)) (fun k => g (ix2 (2 : Fin 4) k)) (res j) (j 1)

/-- The gradient of the gains. -/
def specDg (A : FVec Ideal S2x4096x2816 .bf16) (W : FVec Ideal S1024x5632 .bf16) (x : FVec Ideal S4096x1024 .f32) : FVec Ideal S1x1024 .f32 :=
  fun j => Norm.dg (dh A W) (fun i k => x (ix2 i k)) (j 1)

/-- The windows' block indices at every grid point. -/
theorem idx : ∀ t : Fin cfg0.N, win0_0.index t = ![0, t.val, 0] ∧ win0_1.index t = ![0, 0] ∧ win0_2.index t = ![t.val, 0]
    ∧ win0_3.index t = ![2, 0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (h : Fin 2) (r : Fin 512) (k : Fin 2816) :
    iblk m c 0 t (ix3 h r k) = m ((c : Thread nD τ).loc main_arg0) (ix3 h (row t r) k) := by
  unfold row; blk_ext [iblk, V, idx t]
theorem rd1 (c : Dev nD) (t : Fin cfg0.N) (l : Fin 1024) (k : Fin 5632) :
    iblk m c 1 t (ix2 l k) = m ((c : Thread nD τ).loc main_arg1) (ix2 l k) := by
  blk_ext [iblk, V, idx t]
theorem ldA0 (c : Dev nD) (t : Fin cfg0.N) (r : Fin 512) (k : Fin 2816) :
    (View.ld (iblk m c 0 t) (Rect.unit ![0, 0, 0] ![1, 512, 2816] inb_S2x512x2816_S1x512x2816_0_0_0)) (ix3 (0 : Fin 1) r k) = (m ((c : Thread nD τ).loc main_arg0)) (ix3 (0 : Fin 2) (row t r) k) := by
  refine Eq.trans ?_ (rd0 m c t 0 r k); pointwise
theorem ldA1 (c : Dev nD) (t : Fin cfg0.N) (r : Fin 512) (k : Fin 2816) :
    (View.ld (iblk m c 0 t) (Rect.unit ![1, 0, 0] ![1, 512, 2816] inb_S2x512x2816_S1x512x2816_1_0_0)) (ix3 (0 : Fin 1) r k) = (m ((c : Thread nD τ).loc main_arg0)) (ix3 (1 : Fin 2) (row t r) k) := by
  refine Eq.trans ?_ (rd0 m c t 1 r k); pointwise
theorem ldW0 (c : Dev nD) (t : Fin cfg0.N) (l : Fin 1024) (k : Fin 2816) :
    (View.ld (iblk m c 1 t) (Rect.unit ![0, 0] ![1024, 2816] inb_S1024x5632_S1024x2816_0_0)) (ix2 l k) = (m ((c : Thread nD τ).loc main_arg1)) (ix2 l (lo k)) := by
  refine Eq.trans ?_ (rd1 m c t l (lo k)); pointwise [lo]
theorem ldW1 (c : Dev nD) (t : Fin cfg0.N) (l : Fin 1024) (k : Fin 2816) :
    (View.ld (iblk m c 1 t) (Rect.unit ![0, 2816] ![1024, 2816] inb_S1024x5632_S1024x2816_0_2816)) (ix2 l k) = (m ((c : Thread nD τ).loc main_arg1)) (ix2 l (hi k)) := by
  refine Eq.trans ?_ (rd1 m c t l (hi k)); pointwise [hi]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (2 : Fin 4) k) := by
  blk_simp [iblk, idx t]; entry_read; pointwise; blk_ext [idx t]
theorem rd4 (c : Dev nD) (t : Fin cfg0.N) (r : Fin 512) (k : Fin 1024) :
    iblk m c 4 t (ix2 r k) = m ((c : Thread nD τ).loc main_arg4) (ix2 (row t r) k) := by
  unfold row; blk_ext [iblk, V, idx t]
theorem emb5 (t : Fin cfg0.N) (r : Fin 512) (l : Fin 1024) : ((cfg0.win 5).blk t).view.emb (ix2 r l) = ix2 (row t r) l := by
  unfold row; blk_ext [idx t]
theorem emb6 (t : Fin cfg0.N) (r : Fin 512) (l : Fin 1024) : ((cfg0.win 6).blk t).view.emb (ix2 r l) = ix2 (row t r) l := by
  unfold row; blk_ext [idx t]

/-- A block of the product. -/
theorem payD (v0 : FVec Ideal S1x512x2816 .bf16) (v2 : FVec Ideal S1024x2816 .bf16) (v4 : FVec Ideal S1x512x2816 .bf16) (v6 : FVec Ideal S1024x2816 .bf16)
    (r : Fin 512) (l : Fin 1024) :
    k0_pay4 (F := Ideal) v0 v2 v4 v6 (ix2 r l)
      = ∑ k : Fin 2816, v0 (ix3 (0 : Fin 1) r k) * v2 (ix2 l k) + ∑ k : Fin 2816, v4 (ix3 (0 : Fin 1) r k) * v6 (ix2 l k) := by
  pointwise [k0_pay4]
/-- A block's inverse roots. -/
theorem payR (x : FVec Ideal S512x1024 .f32) (r : Fin 512) (z : Fin 1) :
    k0_pay6 (F := Ideal) x (ix2 r z) = Ideal.rsqrt (Norm.msq fun k => x (ix2 r k)) := by
  pointwise [k0_pay6, Norm.msq]
/-- A block of the input's gradient. -/
theorem payX (v0 : FVec Ideal S1x512x2816 .bf16) (v2 : FVec Ideal S1024x2816 .bf16) (v4 : FVec Ideal S1x512x2816 .bf16) (v6 : FVec Ideal S1024x2816 .bf16)
    (x : FVec Ideal S512x1024 .f32) (g : FVec Ideal S1x1x1024 .f32) (res : FVec Ideal S512x1024 .f32) (r : Fin 512) (l : Fin 1024) :
    k0_pay1 (F := Ideal) x (k0_pay6 x) (k0_pay8 v0 v2 v4 v6 x g) (k0_pay9 v0 v2 v4 v6 x g) (k0_pay10 x) res (ix2 r l)
      = Norm.dx (fun k => k0_pay4 (F := Ideal) v0 v2 v4 v6 (ix2 r k)) (fun k => x (ix2 r k)) (fun k => g (ix3 0 0 k)) (res (ix2 r l)) l := by
  pointwise [k0_pay1, k0_pay7, k0_pay8, k0_pay9, k0_pay10, payR, Norm.dx]
/-- The gains' gradient: what the buffer held and a block's part. -/
theorem payG (d x : FVec Ideal S512x1024 .f32) (v : FVec Ideal S512x1 .f32) (acc : FVec Ideal S1x1024 .f32) (j : S1x1024.Idx) :
    k0_pay3 (F := Ideal) d x v acc j = acc j + ∑ r : Fin 512, d (ix2 r (j 1)) * (x (ix2 r (j 1)) * v (ix2 r 0)) := by
  idx_vars j
  pointwise [k0_pay3]
theorem payZ (j : S1x1024.Idx) : k0_pay5 (F := Ideal) j = 0 := by
  pointwise! [k0_pay5]

/-- A block of the normed row's gradient. -/
theorem blkD (c : Dev nD) (t : Fin cfg0.N) (r : Fin 512) (l : Fin 1024) :
    k0_pay4 (F := Ideal) (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (ix2 r l)
      = dh (m ((c : Thread nD τ).loc main_arg0)) (m ((c : Thread nD τ).loc main_arg1)) (row t r) l :=
  (payD _ _ _ _ r l).trans (congrArg₂ (· + ·)
    (Finset.sum_congr rfl fun k _ => congrArg₂ (· * ·) (ldA0 m c t r k) (ldW0 m c t l k))
    (Finset.sum_congr rfl fun k _ => congrArg₂ (· * ·) (ldA1 m c t r k) (ldW1 m c t l k)))

/-- The block that the grid point `t` writes of the input's gradient. -/
theorem blkX (c : Dev nD) (t : Fin cfg0.N) (y : S512x1024.Idx) :
    k0_pay1 (F := Ideal) (iblk m c 2 t) (k0_pay6 (iblk m c 2 t)) (k0_pay8 (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (iblk m c 2 t) (iblk m c 3 t))
      (k0_pay9 (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (iblk m c 2 t) (iblk m c 3 t)) (k0_pay10 (iblk m c 2 t)) (iblk m c 4 t) y
      = specDx (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1)) := by
  obtain ⟨r, l, rfl⟩ : ∃ (r : Fin 512) (l : Fin 1024), y = ix2 r l := ⟨y 0, y 1, eq_ix2 y⟩
  refine (payX _ _ _ _ _ _ _ r l).trans ?_
  rw [funext fun l => blkD m c t r l, funext fun k => rd2 m c t r k, funext fun k => rd3 m c t k, rd4 m c t r l]
  rfl

/-- One row's part of the gains' gradient. -/
def rowG (A : FVec Ideal S2x4096x2816 .bf16) (W : FVec Ideal S1024x5632 .bf16) (x : FVec Ideal S4096x1024 .f32) (l : Fin 1024) (i : Fin 4096) : EReal :=
  dh A W i l * (x (ix2 i l) * Ideal.rsqrt (Norm.msq fun k => x (ix2 i k)))

theorem blkG (c : Dev nD) (t : Fin cfg0.N) (r : Fin 512) (l : Fin 1024) (X : FVec Ideal S512x1024 .f32) (hX : X = iblk m c 2 t) :
    k0_pay4 (F := Ideal) (View.ld (iblk m c 0 t) (Rect.unit ![0, 0, 0] ![1, 512, 2816] inb_S2x512x2816_S1x512x2816_0_0_0)) (View.ld (iblk m c 1 t) (Rect.unit ![0, 0] ![1024, 2816] inb_S1024x5632_S1024x2816_0_0)) (View.ld (iblk m c 0 t) (Rect.unit ![1, 0, 0] ![1, 512, 2816] inb_S2x512x2816_S1x512x2816_1_0_0)) (View.ld (iblk m c 1 t) (Rect.unit ![0, 2816] ![1024, 2816] inb_S1024x5632_S1024x2816_0_2816)) (ix2 r l) * (X (ix2 r l) * k0_pay6 (F := Ideal) X (ix2 r 0))
      = rowG (m ((c : Thread nD τ).loc main_arg0)) (m ((c : Thread nD τ).loc main_arg1)) (m ((c : Thread nD τ).loc main_arg2)) l (row t r) := by
  subst hX
  rw [blkD, payR, rd2, funext fun k => rd2 m c t r k]
  rfl

/-- The run leaves the input's gradient -/
theorem final5 (c : Dev nD) : (dats m 0 c).arrAt 5 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- The copy of it in the narrow format. -/
theorem final6 (c : Dev nD) : (dats m 0 c).arrAt 6 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]
  obtain ⟨r, l, rfl⟩ : ∃ (r : Fin 512) (l : Fin 1024), y = ix2 r l := ⟨y 0, y 1, eq_ix2 y⟩
  refine Eq.trans ?_ (congrArg _ (emb6 t r l)).symm
  by_cases h : t.val % 8 = 0
  · rw [outsAt0_A m c t h]; frame_out; exact blkX m c t _
  · rw [outsAt0_B m c t h]; frame_out; exact blkX m c t _

/-- The run leaves the gains' gradient. -/
theorem final7 (c : Dev nD) : (dats m 0 c).arrAt 7 (cfgs 0).N
    = specDg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ _ j).trans ?_; rw [payZ]; exact congrArg _ (Finset.sum_congr rfl fun r _ => blkG m c t r (j 1) _ rfl))
    (fun t h j => by rw [outsAt0_B m c t h]; frame_out; refine (payG _ _ _ _ j).trans ?_; exact congrArg _ (Finset.sum_congr rfl fun r _ => blkG m c t r (j 1) _ rfl))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_1) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_2) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.UpDx2KernelIdeal.Gen.run_main m ρ
  · exact final5 m c
  · exact final6 m c
  · exact final7 m c

end Ker

section Ref
open Cert.UpDx2ReferenceIdeal Cert.UpDx2ReferenceIdeal.Gen

variable (m : (ℓ : Loc nD τ sig) → Buf (Elt Ideal) ℓ)

/-- The reference's first result is the same gradient. -/
theorem ref0 (c : Dev nD) : Value.res_out0 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  idx_vars j
  refine Eq.trans ?_ (Norm.dxRef_eq _ _ _ _ _)
  pointwise [Value.res_out0, Value.res_main_v47, Norm.dxRef, Norm.msq, dh, lo, hi]
  simp only [Finset.univ_unique, Finset.sum_singleton]

/-- Its second result is the first. -/
theorem ref1 (c : Dev nD) : Value.res_out1 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (ref0 m c)
  rfl

/-- Every run of the reference ends with the same gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v47) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v48) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v49) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.UpDx2ReferenceIdeal.Value.run m ρ
  · exact ref0 m c
  · exact ref1 m c
  · funext j
    idx_vars j
    pointwise [specDg, Norm.dg, Norm.msq, dh, lo, hi]
    refine (Fin.sum_univ_one (M := EReal) _).trans ?_
    exact Finset.sum_congr rfl fun i _ => mul_comm (G := EReal) _ _

end Ref

instance : Cert.UpDx2Kernel.Facts := Cert.UpDx2Kernel.Gen.facts
instance : Cert.UpDx2KernelIdeal.Facts := Cert.UpDx2KernelIdeal.Gen.facts
instance : Cert.UpDx2ReferenceIdeal.Facts := Cert.UpDx2ReferenceIdeal.Gen.facts

/-- The kernel runs to its end on machine floats and leaves its arguments as they were. -/
theorem frame_P : Cert.quiescent_UpDx2Kernel := fun m ρ _ => Cert.UpDx2Kernel.Gen.frame m ρ

/-- The same over the extended reals. -/
theorem frame_PI : Cert.quiescent_UpDx2KernelIdeal := fun m ρ _ => Cert.UpDx2KernelIdeal.Gen.frame m ρ

/-- The reference runs to its end over the extended reals and leaves its arguments as they were. -/
theorem frame_RI : Cert.quiescent_UpDx2ReferenceIdeal := by
  intro m g _
  hlo_run
  · exact fun _ => ⟨trivial, trivial, trivial, trivial, trivial⟩
  · exact sem_eq_zero_of_no_sems (sig := Cert.UpDx2ReferenceIdeal.sig) (by decide) _

/-- Kernel and reference end with equal results. -/
theorem value : Cert.algebraic_UpDx2KernelIdeal_UpDx2ReferenceIdeal := by
  pair_intro
  · run_from run_ker m g
  · run_from run_ref m' g'

end Cert.UpDx2
-- ==== Proof.OddDx1.lean ====
/- The gradient of the odd mixers' input projection in its input, and on through the norm before it. -/
module

public import proofs.«01_k».proof.Defs
public import proofs.«01_k».proof.Proof.Gen.OddDx1Kernel.Frame
public import proofs.«01_k».proof.Proof.Gen.OddDx1KernelIdeal.Frame
public import proofs.«01_k».proof.Proof.Gen.OddDx1ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.OddDx1

section Ker
open Cert.OddDx1KernelIdeal Cert.OddDx1KernelIdeal.Gen

/-- The gradient of the normed row: a plain product. -/
def dh (A : FVec Ideal S4096x1536 .bf16) (W : FVec Ideal S1024x1536 .bf16) (i : Fin 4096) (c : Fin 1024) : EReal :=
  ∑ k : Fin 1536, A (ix2 i k) * W (ix2 c k)

/-- The gradient of the norm's input, the residual's added. -/
def specDx (A : FVec Ideal S4096x1536 .bf16) (W : FVec Ideal S1024x1536 .bf16) (x : FVec Ideal S4096x1024 .f32) (g : FVec Ideal S4x1024 .f32)
    (res : FVec Ideal S4096x1024 .f32) : FVec Ideal S4096x1024 .f32 :=
  fun j => Norm.dx (dh A W (j 0)) (fun k => x (ix2 (j 0) k)) (fun k => g (ix2 (1 : Fin 4) k)) (res j) (j 1)

/-- The gradient of the gains. -/
def specDg (A : FVec Ideal S4096x1536 .bf16) (W : FVec Ideal S1024x1536 .bf16) (x : FVec Ideal S4096x1024 .f32) : FVec Ideal S1x1024 .f32 :=
  fun j => Norm.dg (dh A W) (fun i k => x (ix2 i k)) (j 1)

/-- The windows' block indices at every grid point. -/
theorem idx : ∀ t : Fin cfg0.N, win0_0.index t = ![t.val, 0] ∧ win0_1.index t = ![0, 0] ∧ win0_2.index t = ![t.val, 0]
    ∧ win0_3.index t = ![1, 0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 1536) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 1536) :
    iblk m c 1 t (ix2 l k) = m ((c : Thread nD τ).loc main_arg1) (ix2 l k) := by
  blk_ext [iblk, V, idx t]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (1 : Fin 4) k) := by
  blk_simp [iblk, idx t]; entry_read; pointwise; blk_ext [idx t]
theorem rd4 (c : Dev nD) (t : Fin cfg0.N) (r : Fin 512) (k : Fin 1024) :
    iblk m c 4 t (ix2 r k) = m ((c : Thread nD τ).loc main_arg4) (ix2 (row t r) k) := by
  unfold row; blk_ext [iblk, V, idx t]
theorem emb5 (t : Fin cfg0.N) (r : Fin 512) (l : Fin 1024) : ((cfg0.win 5).blk t).view.emb (ix2 r l) = ix2 (row t r) l := by
  unfold row; blk_ext [idx t]
theorem emb6 (t : Fin cfg0.N) (r : Fin 512) (l : Fin 1024) : ((cfg0.win 6).blk t).view.emb (ix2 r l) = ix2 (row t r) l := by
  unfold row; blk_ext [idx t]

/-- A block of the product. -/
theorem payD (v0 : FVec Ideal S512x1536 .bf16) (v1 : FVec Ideal S1024x1536 .bf16) (r : Fin 512) (l : Fin 1024) :
    k0_pay3 (F := Ideal) v0 v1 (ix2 r l) = ∑ k : Fin 1536, v0 (ix2 r k) * v1 (ix2 l k) := by
  pointwise [k0_pay3]
/-- A block's inverse roots. -/
theorem payR (x : FVec Ideal S512x1024 .f32) (r : Fin 512) (z : Fin 1) :
    k0_pay5 (F := Ideal) x (ix2 r z) = Ideal.rsqrt (Norm.msq fun k => x (ix2 r k)) := by
  pointwise [k0_pay5, Norm.msq]
/-- A block of the input's gradient. -/
theorem payX (v0 : FVec Ideal S512x1536 .bf16) (v1 : FVec Ideal S1024x1536 .bf16) (x : FVec Ideal S512x1024 .f32) (g : FVec Ideal S1x1x1024 .f32)
    (res : FVec Ideal S512x1024 .f32) (r : Fin 512) (l : Fin 1024) :
    k0_pay7 (F := Ideal) v0 v1 x g res (ix2 r l)
      = Norm.dx (fun k => k0_pay3 (F := Ideal) v0 v1 (ix2 r k)) (fun k => x (ix2 r k)) (fun k => g (ix3 0 0 k)) (res (ix2 r l)) l := by
  pointwise [k0_pay7, payR, Norm.dx]
/-- The gains' gradient: what the buffer held and a block's part. -/
theorem payG (d v34 : FVec Ideal S512x1024 .f32) (acc : FVec Ideal S1x1024 .f32) (j : S1x1024.Idx) :
    k0_pay2 (F := Ideal) d v34 acc j = acc j + ∑ r : Fin 512, d (ix2 r (j 1)) * v34 (ix2 r (j 1)) := by
  idx_vars j
  pointwise [k0_pay2]
theorem payZ (j : S1x1024.Idx) : k0_pay4 (F := Ideal) j = 0 := by
  pointwise! [k0_pay4]
theorem payN (x : FVec Ideal S512x1024 .f32) (r : Fin 512) (l : Fin 1024) :
    k0_pay6 (F := Ideal) x (ix2 r l) = x (ix2 r l) * Ideal.rsqrt (Norm.msq fun k => x (ix2 r k)) := by
  pointwise [k0_pay6, payR]

/-- The block that the grid point `t` writes of the input's gradient. -/
theorem blkX (c : Dev nD) (t : Fin cfg0.N) (y : S512x1024.Idx) :
    k0_pay7 (F := Ideal) (iblk m c 0 t) (iblk m c 1 t) (iblk m c 2 t) (iblk m c 3 t) (iblk m c 4 t) y
      = specDx (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1)) := by
  obtain ⟨r, l, rfl⟩ : ∃ (r : Fin 512) (l : Fin 1024), y = ix2 r l := ⟨y 0, y 1, eq_ix2 y⟩
  refine (payX _ _ _ _ _ r l).trans ?_
  have h0 : (fun k => k0_pay3 (F := Ideal) (iblk m c 0 t) (iblk m c 1 t) (ix2 r k))
      = dh (m ((c : Thread nD τ).loc main_arg0)) (m ((c : Thread nD τ).loc main_arg1)) (row t r) :=
    funext fun l => (payD _ _ r l).trans (Finset.sum_congr rfl fun k _ => congrArg₂ (· * ·) (rd0 m c t r k) (rd1 m c t l k))
  rw [h0, funext fun k => rd2 m c t r k, funext fun k => rd3 m c t k, rd4 m c t r l]
  rfl

/-- One row's part of the gains' gradient. -/
def rowG (A : FVec Ideal S4096x1536 .bf16) (W : FVec Ideal S1024x1536 .bf16) (x : FVec Ideal S4096x1024 .f32) (l : Fin 1024) (i : Fin 4096) : EReal :=
  dh A W i l * (x (ix2 i l) * Ideal.rsqrt (Norm.msq fun k => x (ix2 i k)))

theorem blkG (c : Dev nD) (t : Fin cfg0.N) (r : Fin 512) (l : Fin 1024) :
    k0_pay3 (F := Ideal) (iblk m c 0 t) (iblk m c 1 t) (ix2 r l) * k0_pay6 (F := Ideal) (iblk m c 2 t) (ix2 r l) = rowG (m ((c : Thread nD τ).loc main_arg0)) (m ((c : Thread nD τ).loc main_arg1)) (m ((c : Thread nD τ).loc main_arg2)) l (row t r) := by
  have h0 : k0_pay3 (F := Ideal) (iblk m c 0 t) (iblk m c 1 t) (ix2 r l)
      = dh (m ((c : Thread nD τ).loc main_arg0)) (m ((c : Thread nD τ).loc main_arg1)) (row t r) l :=
    (payD _ _ r l).trans (Finset.sum_congr rfl fun k _ => congrArg₂ (· * ·) (rd0 m c t r k) (rd1 m c t l k))
  rw [h0, payN, rd2, funext fun k => rd2 m c t r k]
  rfl

/-- The run leaves the input's gradient -/
theorem final5 (c : Dev nD) : (dats m 0 c).arrAt 5 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- The copy of it in the narrow format. -/
theorem final6 (c : Dev nD) : (dats m 0 c).arrAt 6 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]
  obtain ⟨r, l, rfl⟩ : ∃ (r : Fin 512) (l : Fin 1024), y = ix2 r l := ⟨y 0, y 1, eq_ix2 y⟩
  refine Eq.trans ?_ (congrArg _ (emb6 t r l)).symm
  by_cases h : t.val % 8 = 0
  · rw [outsAt0_A m c t h]; frame_out; exact blkX m c t _
  · rw [outsAt0_B m c t h]; frame_out; exact blkX m c t _

/-- The run leaves the gains' gradient. -/
theorem final7 (c : Dev nD) : (dats m 0 c).arrAt 7 (cfgs 0).N
    = specDg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ j).trans ?_; rw [payZ]; exact congrArg _ (Finset.sum_congr rfl fun r _ => blkG m c t r (j 1)))
    (fun t h j => by rw [outsAt0_B m c t h]; frame_out; refine (payG _ _ _ j).trans ?_; exact congrArg _ (Finset.sum_congr rfl fun r _ => blkG m c t r (j 1)))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_1) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_2) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.OddDx1KernelIdeal.Gen.run_main m ρ
  · exact final5 m c
  · exact final6 m c
  · exact final7 m c

end Ker

section Ref
open Cert.OddDx1ReferenceIdeal Cert.OddDx1ReferenceIdeal.Gen

variable (m : (ℓ : Loc nD τ sig) → Buf (Elt Ideal) ℓ)

/-- The reference's first result is the same gradient. -/
theorem ref0 (c : Dev nD) : Value.res_out0 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  idx_vars j
  refine Eq.trans ?_ (Norm.dxRef_eq _ _ _ _ _)
  pointwise [Value.res_out0, Value.res_main_v42, Norm.dxRef, Norm.msq, dh]
  simp only [Finset.univ_unique, Finset.sum_singleton]

/-- Its second result is the first. -/
theorem ref1 (c : Dev nD) : Value.res_out1 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (ref0 m c)
  rfl

/-- Every run of the reference ends with the same gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v42) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v43) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v44) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.OddDx1ReferenceIdeal.Value.run m ρ
  · exact ref0 m c
  · exact ref1 m c
  · funext j
    idx_vars j
    pointwise [specDg, Norm.dg, Norm.msq, dh]
    refine (Fin.sum_univ_one (M := EReal) _).trans ?_
    exact Finset.sum_congr rfl fun i _ => mul_comm (G := EReal) _ _

end Ref

instance : Cert.OddDx1Kernel.Facts := Cert.OddDx1Kernel.Gen.facts
instance : Cert.OddDx1KernelIdeal.Facts := Cert.OddDx1KernelIdeal.Gen.facts
instance : Cert.OddDx1ReferenceIdeal.Facts := Cert.OddDx1ReferenceIdeal.Gen.facts

/-- The kernel runs to its end on machine floats and leaves its arguments as they were. -/
theorem frame_P : Cert.quiescent_OddDx1Kernel := fun m ρ _ => Cert.OddDx1Kernel.Gen.frame m ρ

/-- The same over the extended reals. -/
theorem frame_PI : Cert.quiescent_OddDx1KernelIdeal := fun m ρ _ => Cert.OddDx1KernelIdeal.Gen.frame m ρ

/-- The reference runs to its end over the extended reals and leaves its arguments as they were. -/
theorem frame_RI : Cert.quiescent_OddDx1ReferenceIdeal := by
  intro m g _
  hlo_run
  · exact fun _ => ⟨trivial, trivial, trivial, trivial, trivial⟩
  · exact sem_eq_zero_of_no_sems (sig := Cert.OddDx1ReferenceIdeal.sig) (by decide) _

/-- Kernel and reference end with equal results. -/
theorem value : Cert.algebraic_OddDx1KernelIdeal_OddDx1ReferenceIdeal := by
  pair_intro
  · run_from run_ker m g
  · run_from run_ref m' g'

end Cert.OddDx1
-- ==== Proof.EvenDx0.lean ====
/- The gradient of the even mixers' input projection in its input, and on through the norm before it. -/
module

public import proofs.«01_k».proof.Defs
public import proofs.«01_k».proof.Proof.Gen.EvenDx0Kernel.Frame
public import proofs.«01_k».proof.Proof.Gen.EvenDx0KernelIdeal.Frame
public import proofs.«01_k».proof.Proof.Gen.EvenDx0ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.EvenDx0

section Ker
open Cert.EvenDx0KernelIdeal Cert.EvenDx0KernelIdeal.Gen

/-- The gradient of the normed row: a plain product. -/
def dh (A : FVec Ideal S4096x2048 .bf16) (W : FVec Ideal S1024x2048 .bf16) (i : Fin 4096) (c : Fin 1024) : EReal :=
  ∑ k : Fin 2048, A (ix2 i k) * W (ix2 c k)

/-- The gradient of the norm's input, the residual's added. -/
def specDx (A : FVec Ideal S4096x2048 .bf16) (W : FVec Ideal S1024x2048 .bf16) (x : FVec Ideal S4096x1024 .f32) (g : FVec Ideal S4x1024 .f32)
    (res : FVec Ideal S4096x1024 .f32) : FVec Ideal S4096x1024 .f32 :=
  fun j => Norm.dx (dh A W (j 0)) (fun k => x (ix2 (j 0) k)) (fun k => g (ix2 (0 : Fin 4) k)) (res j) (j 1)

/-- The gradient of the gains. -/
def specDg (A : FVec Ideal S4096x2048 .bf16) (W : FVec Ideal S1024x2048 .bf16) (x : FVec Ideal S4096x1024 .f32) : FVec Ideal S1x1024 .f32 :=
  fun j => Norm.dg (dh A W) (fun i k => x (ix2 i k)) (j 1)

/-- The windows' block indices at every grid point. -/
theorem idx : ∀ t : Fin cfg0.N, win0_0.index t = ![t.val, 0] ∧ win0_1.index t = ![0, 0] ∧ win0_2.index t = ![t.val, 0]
    ∧ win0_3.index t = ![0, 0, 0] ∧ win0_4.index t = ![t.val, 0] ∧ win0_5.index t = ![t.val, 0] ∧ win0_6.index t = ![t.val, 0]
    ∧ win0_7.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 2048) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 2048) :
    iblk m c 1 t (ix2 l k) = m ((c : Thread nD τ).loc main_arg1) (ix2 l k) := by
  blk_ext [iblk, V, idx t]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (0 : Fin 4) k) := by
  blk_simp [iblk, idx t]; entry_read; pointwise; blk_ext [idx t]
theorem rd4 (c : Dev nD) (t : Fin cfg0.N) (r : Fin 512) (k : Fin 1024) :
    iblk m c 4 t (ix2 r k) = m ((c : Thread nD τ).loc main_arg4) (ix2 (row t r) k) := by
  unfold row; blk_ext [iblk, V, idx t]
theorem emb5 (t : Fin cfg0.N) (r : Fin 512) (l : Fin 1024) : ((cfg0.win 5).blk t).view.emb (ix2 r l) = ix2 (row t r) l := by
  unfold row; blk_ext [idx t]
theorem emb6 (t : Fin cfg0.N) (r : Fin 512) (l : Fin 1024) : ((cfg0.win 6).blk t).view.emb (ix2 r l) = ix2 (row t r) l := by
  unfold row; blk_ext [idx t]

/-- A block of the product. -/
theorem payD (v0 : FVec Ideal S512x2048 .bf16) (v1 : FVec Ideal S1024x2048 .bf16) (r : Fin 512) (l : Fin 1024) :
    k0_pay3 (F := Ideal) v0 v1 (ix2 r l) = ∑ k : Fin 2048, v0 (ix2 r k) * v1 (ix2 l k) := by
  pointwise [k0_pay3]
/-- A block's inverse roots. -/
theorem payR (x : FVec Ideal S512x1024 .f32) (r : Fin 512) (z : Fin 1) :
    k0_pay5 (F := Ideal) x (ix2 r z) = Ideal.rsqrt (Norm.msq fun k => x (ix2 r k)) := by
  pointwise [k0_pay5, Norm.msq]
/-- A block of the input's gradient. -/
theorem payX (v0 : FVec Ideal S512x2048 .bf16) (v1 : FVec Ideal S1024x2048 .bf16) (x : FVec Ideal S512x1024 .f32) (g : FVec Ideal S1x1x1024 .f32)
    (res : FVec Ideal S512x1024 .f32) (r : Fin 512) (l : Fin 1024) :
    k0_pay7 (F := Ideal) v0 v1 x g res (ix2 r l)
      = Norm.dx (fun k => k0_pay3 (F := Ideal) v0 v1 (ix2 r k)) (fun k => x (ix2 r k)) (fun k => g (ix3 0 0 k)) (res (ix2 r l)) l := by
  pointwise [k0_pay7, payR, Norm.dx]
/-- The gains' gradient: what the buffer held and a block's part. -/
theorem payG (d v34 : FVec Ideal S512x1024 .f32) (acc : FVec Ideal S1x1024 .f32) (j : S1x1024.Idx) :
    k0_pay2 (F := Ideal) d v34 acc j = acc j + ∑ r : Fin 512, d (ix2 r (j 1)) * v34 (ix2 r (j 1)) := by
  idx_vars j
  pointwise [k0_pay2]
theorem payZ (j : S1x1024.Idx) : k0_pay4 (F := Ideal) j = 0 := by
  pointwise! [k0_pay4]
theorem payN (x : FVec Ideal S512x1024 .f32) (r : Fin 512) (l : Fin 1024) :
    k0_pay6 (F := Ideal) x (ix2 r l) = x (ix2 r l) * Ideal.rsqrt (Norm.msq fun k => x (ix2 r k)) := by
  pointwise [k0_pay6, payR]

/-- The block that the grid point `t` writes of the input's gradient. -/
theorem blkX (c : Dev nD) (t : Fin cfg0.N) (y : S512x1024.Idx) :
    k0_pay7 (F := Ideal) (iblk m c 0 t) (iblk m c 1 t) (iblk m c 2 t) (iblk m c 3 t) (iblk m c 4 t) y
      = specDx (m ((c : Thread nD τ).loc main_arg0)) (m ((c : Thread nD τ).loc main_arg1)) (m ((c : Thread nD τ).loc main_arg2))
          (m ((c : Thread nD τ).loc main_arg3)) (m ((c : Thread nD τ).loc main_arg4)) (ix2 (row t (y 0)) (y 1)) := by
  obtain ⟨r, l, rfl⟩ : ∃ (r : Fin 512) (l : Fin 1024), y = ix2 r l := ⟨y 0, y 1, eq_ix2 y⟩
  refine (payX _ _ _ _ _ r l).trans ?_
  have h0 : (fun k => k0_pay3 (F := Ideal) (iblk m c 0 t) (iblk m c 1 t) (ix2 r k))
      = dh (m ((c : Thread nD τ).loc main_arg0)) (m ((c : Thread nD τ).loc main_arg1)) (row t r) :=
    funext fun l => (payD _ _ r l).trans (Finset.sum_congr rfl fun k _ => congrArg₂ (· * ·) (rd0 m c t r k) (rd1 m c t l k))
  rw [h0, funext fun k => rd2 m c t r k, funext fun k => rd3 m c t k, rd4 m c t r l]
  rfl

/-- One row's part of the gains' gradient. -/
def rowG (A : FVec Ideal S4096x2048 .bf16) (W : FVec Ideal S1024x2048 .bf16) (x : FVec Ideal S4096x1024 .f32) (l : Fin 1024) (i : Fin 4096) : EReal :=
  dh A W i l * (x (ix2 i l) * Ideal.rsqrt (Norm.msq fun k => x (ix2 i k)))

theorem blkG (c : Dev nD) (t : Fin cfg0.N) (r : Fin 512) (l : Fin 1024) :
    k0_pay3 (F := Ideal) (iblk m c 0 t) (iblk m c 1 t) (ix2 r l) * k0_pay6 (F := Ideal) (iblk m c 2 t) (ix2 r l) = rowG (m ((c : Thread nD τ).loc main_arg0)) (m ((c : Thread nD τ).loc main_arg1)) (m ((c : Thread nD τ).loc main_arg2)) l (row t r) := by
  have h0 : k0_pay3 (F := Ideal) (iblk m c 0 t) (iblk m c 1 t) (ix2 r l)
      = dh (m ((c : Thread nD τ).loc main_arg0)) (m ((c : Thread nD τ).loc main_arg1)) (row t r) l :=
    (payD _ _ r l).trans (Finset.sum_congr rfl fun k _ => congrArg₂ (· * ·) (rd0 m c t r k) (rd1 m c t l k))
  rw [h0, payN, rd2, funext fun k => rd2 m c t r k]
  rfl

/-- The run leaves the input's gradient -/
theorem final5 (c : Dev nD) : (dats m 0 c).arrAt 5 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- The copy of it in the narrow format. -/
theorem final6 (c : Dev nD) : (dats m 0 c).arrAt 6 (cfgs 0).N
    = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp; rw [after0_6]
  obtain ⟨r, l, rfl⟩ : ∃ (r : Fin 512) (l : Fin 1024), y = ix2 r l := ⟨y 0, y 1, eq_ix2 y⟩
  refine Eq.trans ?_ (congrArg _ (emb6 t r l)).symm
  by_cases h : t.val % 8 = 0
  · rw [outsAt0_A m c t h]; frame_out; exact blkX m c t _
  · rw [outsAt0_B m c t h]; frame_out; exact blkX m c t _

/-- The run leaves the gains' gradient. -/
theorem final7 (c : Dev nD) : (dats m 0 c).arrAt 7 (cfgs 0).N
    = specDg (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ j).trans ?_; rw [payZ]; exact congrArg _ (Finset.sum_congr rfl fun r _ => blkG m c t r (j 1)))
    (fun t h j => by rw [outsAt0_B m c t h]; frame_out; refine (payG _ _ _ j).trans ?_; exact congrArg _ (Finset.sum_congr rfl fun r _ => blkG m c t r (j 1)))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_1) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v1_2) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.EvenDx0KernelIdeal.Gen.run_main m ρ
  · exact final5 m c
  · exact final6 m c
  · exact final7 m c

end Ker

section Ref
open Cert.EvenDx0ReferenceIdeal Cert.EvenDx0ReferenceIdeal.Gen

variable (m : (ℓ : Loc nD τ sig) → Buf (Elt Ideal) ℓ)

/-- The reference's first result is the same gradient. -/
theorem ref0 (c : Dev nD) : Value.res_out0 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  idx_vars j
  refine Eq.trans ?_ (Norm.dxRef_eq _ _ _ _ _)
  pointwise [Value.res_out0, Value.res_main_v42, Norm.dxRef, Norm.msq, dh]
  simp only [Finset.univ_unique, Finset.sum_singleton]

/-- Its second result is the first. -/
theorem ref1 (c : Dev nD) : Value.res_out1 m c = specDx (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (ref0 m c)
  rfl

/-- Every run of the reference ends with the same gradients in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v42) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v43) = specDx (m ((c : Thread nD τ).loc main_arg0)) (m ((c : Thread nD τ).loc main_arg1)) (m ((c : Thread nD τ).loc main_arg2))
          (m ((c : Thread nD τ).loc main_arg3)) (m ((c : Thread nD τ).loc main_arg4))
    ∧ r.2.mem ((c.tc : Thread nD τ).loc main_v44) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.EvenDx0ReferenceIdeal.Value.run m ρ
  · exact ref0 m c
  · exact ref1 m c
  · funext j
    idx_vars j
    pointwise [specDg, Norm.dg, Norm.msq, dh]
    refine (Fin.sum_univ_one (M := EReal) _).trans ?_
    exact Finset.sum_congr rfl fun i _ => mul_comm (G := EReal) _ _

end Ref

instance : Cert.EvenDx0Kernel.Facts := Cert.EvenDx0Kernel.Gen.facts
instance : Cert.EvenDx0KernelIdeal.Facts := Cert.EvenDx0KernelIdeal.Gen.facts
instance : Cert.EvenDx0ReferenceIdeal.Facts := Cert.EvenDx0ReferenceIdeal.Gen.facts

/-- The kernel runs to its end on machine floats and leaves its arguments as they were. -/
theorem frame_P : Cert.quiescent_EvenDx0Kernel := fun m ρ _ => Cert.EvenDx0Kernel.Gen.frame m ρ

/-- The same over the extended reals. -/
theorem frame_PI : Cert.quiescent_EvenDx0KernelIdeal := fun m ρ _ => Cert.EvenDx0KernelIdeal.Gen.frame m ρ

/-- The reference runs to its end over the extended reals and leaves its arguments as they were. -/
theorem frame_RI : Cert.quiescent_EvenDx0ReferenceIdeal := by
  intro m g _
  hlo_run
  · exact fun _ => ⟨trivial, trivial, trivial, trivial, trivial⟩
  · exact sem_eq_zero_of_no_sems (sig := Cert.EvenDx0ReferenceIdeal.sig) (by decide) _

/-- Kernel and reference end with equal results. -/
theorem value : Cert.algebraic_EvenDx0KernelIdeal_EvenDx0ReferenceIdeal := by
  pair_intro
  · run_from run_ker m g
  · run_from run_ref m' g'

end Cert.EvenDx0
-- ==== Proof.MixOut0.lean ====
/- The output projection of a mixer, added to the residual stream, and the norm of the sum. -/
module

public import proofs.«01_k».proof.Defs
public import proofs.«01_k».proof.Proof.Gen.MixOut0Kernel.Frame
public import proofs.«01_k».proof.Proof.Gen.MixOut0KernelIdeal.Frame
public import proofs.«01_k».proof.Proof.Gen.MixOut0ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MixOut0

section Ker
open Cert.MixOut0KernelIdeal Cert.MixOut0KernelIdeal.Gen

/-- The residual stream and the product. -/
def spec (A : FVec Ideal S4096x1024 .bf16) (B : FVec Ideal S1024x1024 .bf16) (x : FVec Ideal S4096x1024 .f32) : FVec Ideal S4096x1024 .f32 :=
  fun j => x j + ∑ k : Fin 1024, A (ix2 (j 0) k) * B (ix2 k (j 1))

/-- Its rows normed. -/
def specN (A : FVec Ideal S4096x1024 .bf16) (B : FVec Ideal S1024x1024 .bf16) (x : FVec Ideal S4096x1024 .f32) (g : FVec Ideal S4x1024 .f32) :
    FVec Ideal S4096x1024 .bf16 :=
  fun j => spec A B x j * Ideal.rsqrt (Norm.msq fun k => spec A B x (ix2 (j 0) k)) * g (ix2 (0 : Fin 4) (j 1))

/-- The windows' block indices at every grid point. -/
theorem idx : ∀ t : Fin cfg0.N, win0_0.index t = ![t.val, 0] ∧ win0_1.index t = ![0, 0] ∧ win0_2.index t = ![t.val, 0]
    ∧ win0_3.index t = ![0, 0, 0] ∧ win0_4.index t = ![t.val, 0] ∧ win0_5.index t = ![t.val, 0] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row of the result a block's row sits at. -/
def row (t : Fin cfg0.N) (r : Fin 1024) : Fin 4096 := ⟨t.val * 1024 + r, by have := t_lt t; omega⟩

theorem rd0 (c : Dev nD) (t : Fin cfg0.N) (r : Fin 1024) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 1024) :
    iblk m c 1 t (ix2 k l) = m ((c : Thread nD τ).loc main_arg1) (ix2 k l) := by
  blk_ext [iblk, V, idx t]
theorem rd2 (c : Dev nD) (t : Fin cfg0.N) (r : Fin 1024) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (0 : Fin 4) k) := by
  blk_simp [iblk, idx t]; entry_read; pointwise; blk_ext [idx t]
theorem emb4 (t : Fin cfg0.N) (r : Fin 1024) (l : Fin 1024) : ((cfg0.win 4).blk t).view.emb (ix2 r l) = ix2 (row t r) l := by
  unfold row; blk_ext [idx t]
theorem emb5 (t : Fin cfg0.N) (r : Fin 1024) (l : Fin 1024) : ((cfg0.win 5).blk t).view.emb (ix2 r l) = ix2 (row t r) l := by
  unfold row; blk_ext [idx t]

/-- A block of the sum. -/
theorem pay (x0 : FVec Ideal S1024x1024 .bf16) (x1 : FVec Ideal S1024x1024 .bf16) (x2 : FVec Ideal S1024x1024 .f32) (r : Fin 1024) (l : Fin 1024) :
    k0_pay1 (F := Ideal) x0 x1 x2 (ix2 r l) = x2 (ix2 r l) + ∑ k : Fin 1024, x0 (ix2 r k) * x1 (ix2 k l) := by
  pointwise [k0_pay1]
  exact add_comm (G := EReal) _ _

theorem blkS (c : Dev nD) (t : Fin cfg0.N) (r : Fin 1024) (l : Fin 1024) :
    k0_pay1 (F := Ideal) (iblk m c 0 t) (iblk m c 1 t) (iblk m c 2 t) (ix2 r l) = spec (m ((c : Thread nD τ).loc main_arg0)) (m ((c : Thread nD τ).loc main_arg1)) (m ((c : Thread nD τ).loc main_arg2)) (ix2 (row t r) l) :=
  (pay _ _ _ r l).trans (congrArg₂ (· + ·) (rd2 m c t r l) (Finset.sum_congr rfl fun k _ => congrArg₂ (· * ·) (rd0 m c t r k) (rd1 m c t l k)))

/-- The run leaves the sum. -/
theorem final4 (c : Dev nD) : (dats m 0 c).arrAt 4 (cfgs 0).N = spec (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  obtain ⟨r, l, rfl⟩ : ∃ (r : Fin 1024) (l : Fin 1024), y = ix2 r l := ⟨y 0, y 1, eq_ix2 y⟩
  refine Eq.trans ?_ (congrArg _ (emb4 t r l)).symm
  exact blkS m c t r l

theorem payN (x0 : FVec Ideal S1024x1024 .bf16) (x1 : FVec Ideal S1024x1024 .bf16) (x2 : FVec Ideal S1024x1024 .f32) (g : FVec Ideal S1x1x1024 .f32) (r : Fin 1024) (l : Fin 1024) :
    k0_pay2 (F := Ideal) x0 x1 x2 g (ix2 r l) = k0_pay1 (F := Ideal) x0 x1 x2 (ix2 r l)
      * Ideal.rsqrt (Norm.msq fun k => k0_pay1 (F := Ideal) x0 x1 x2 (ix2 r k)) * g (ix3 0 0 l) := by
  pointwise [k0_pay2, Norm.msq]

/-- The run leaves the normed rows. -/
theorem final5 (c : Dev nD) : (dats m 0 c).arrAt 5 (cfgs 0).N = specN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  obtain ⟨r, l, rfl⟩ : ∃ (r : Fin 1024) (l : Fin 1024), y = ix2 r l := ⟨y 0, y 1, eq_ix2 y⟩
  refine Eq.trans ?_ (congrArg _ (emb5 t r l)).symm
  refine (payN _ _ _ _ r l).trans ?_
  rw [funext fun k => blkS m c t r k, blkS m c t r l, rd3 m c t l]
  rfl

/-- Every run of the kernel ends with the spec in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = spec (m ((c : Thread nD τ).loc main_arg0)) (m ((c : Thread nD τ).loc main_arg1)) (m ((c : Thread nD τ).loc main_arg2))
    ∧ r.2.mem ((c.tc : Thread nD τ).loc main_v1_1) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.MixOut0KernelIdeal.Gen.run_main m ρ
  · exact final4 m c
  · exact final5 m c

end Ker

section Ref
open Cert.MixOut0ReferenceIdeal Cert.MixOut0ReferenceIdeal.Gen

variable (m : (ℓ : Loc nD τ sig) → Buf (Elt Ideal) ℓ)

attribute [local irreducible] spec specN

/-- Every run of the reference ends with the spec in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v5) = spec (m ((c : Thread nD τ).loc main_arg0)) (m ((c : Thread nD τ).loc main_arg1)) (m ((c : Thread nD τ).loc main_arg2))
    ∧ r.2.mem ((c.tc : Thread nD τ).loc main_v19) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.MixOut0ReferenceIdeal.Value.run m ρ
  · funext j
    idx_vars j
    unfold spec
    pointwise
  · funext j
    idx_vars j
    unfold specN spec
    pointwise [Norm.msq]

end Ref

instance : Cert.MixOut0Kernel.Facts := Cert.MixOut0Kernel.Gen.facts
instance : Cert.MixOut0KernelIdeal.Facts := Cert.MixOut0KernelIdeal.Gen.facts
instance : Cert.MixOut0ReferenceIdeal.Facts := Cert.MixOut0ReferenceIdeal.Gen.facts

/-- The kernel runs to its end on machine floats and leaves its arguments as they were. -/
theorem frame_P : Cert.quiescent_MixOut0Kernel := fun m ρ _ => Cert.MixOut0Kernel.Gen.frame m ρ

/-- The same over the extended reals. -/
theorem frame_PI : Cert.quiescent_MixOut0KernelIdeal := fun m ρ _ => Cert.MixOut0KernelIdeal.Gen.frame m ρ

/-- The reference runs to its end over the extended reals and leaves its arguments as they were. -/
theorem frame_RI : Cert.quiescent_MixOut0ReferenceIdeal := by
  intro m g _
  hlo_run
  · exact fun _ => ⟨trivial, trivial, trivial, trivial⟩
  · exact sem_eq_zero_of_no_sems (sig := Cert.MixOut0ReferenceIdeal.sig) (by decide) _

/-- Kernel and reference end with equal results. -/
theorem value : Cert.algebraic_MixOut0KernelIdeal_MixOut0ReferenceIdeal := by
  pair_intro
  · run_from run_ker m g
  · run_from run_ref m' g'

end Cert.MixOut0
-- ==== Proof.MixOut1.lean ====
/- The output projection of a mixer, added to the residual stream, and the norm of the sum. -/
module

public import proofs.«01_k».proof.Defs
public import proofs.«01_k».proof.Proof.Gen.MixOut1Kernel.Frame
public import proofs.«01_k».proof.Proof.Gen.MixOut1KernelIdeal.Frame
public import proofs.«01_k».proof.Proof.Gen.MixOut1ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MixOut1

section Ker
open Cert.MixOut1KernelIdeal Cert.MixOut1KernelIdeal.Gen

/-- The residual stream and the product. -/
def spec (A : FVec Ideal S4096x1024 .bf16) (B : FVec Ideal S1024x1024 .bf16) (x : FVec Ideal S4096x1024 .f32) : FVec Ideal S4096x1024 .f32 :=
  fun j => x j + ∑ k : Fin 1024, A (ix2 (j 0) k) * B (ix2 k (j 1))

/-- Its rows normed. -/
def specN (A : FVec Ideal S4096x1024 .bf16) (B : FVec Ideal S1024x1024 .bf16) (x : FVec Ideal S4096x1024 .f32) (g : FVec Ideal S4x1024 .f32) :
    FVec Ideal S4096x1024 .bf16 :=
  fun j => spec A B x j * Ideal.rsqrt (Norm.msq fun k => spec A B x (ix2 (j 0) k)) * g (ix2 (1 : Fin 4) (j 1))

/-- The windows' block indices at every grid point. -/
theorem idx : ∀ t : Fin cfg0.N, win0_0.index t = ![t.val, 0] ∧ win0_1.index t = ![0, 0] ∧ win0_2.index t = ![t.val, 0]
    ∧ win0_3.index t = ![1, 0, 0] ∧ win0_4.index t = ![t.val, 0] ∧ win0_5.index t = ![t.val, 0] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row of the result a block's row sits at. -/
def row (t : Fin cfg0.N) (r : Fin 1024) : Fin 4096 := ⟨t.val * 1024 + r, by have := t_lt t; omega⟩

theorem rd0 (c : Dev nD) (t : Fin cfg0.N) (r : Fin 1024) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 1024) :
    iblk m c 1 t (ix2 k l) = m ((c : Thread nD τ).loc main_arg1) (ix2 k l) := by
  blk_ext [iblk, V, idx t]
theorem rd2 (c : Dev nD) (t : Fin cfg0.N) (r : Fin 1024) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (1 : Fin 4) k) := by
  blk_simp [iblk, idx t]; entry_read; pointwise; blk_ext [idx t]
theorem emb4 (t : Fin cfg0.N) (r : Fin 1024) (l : Fin 1024) : ((cfg0.win 4).blk t).view.emb (ix2 r l) = ix2 (row t r) l := by
  unfold row; blk_ext [idx t]
theorem emb5 (t : Fin cfg0.N) (r : Fin 1024) (l : Fin 1024) : ((cfg0.win 5).blk t).view.emb (ix2 r l) = ix2 (row t r) l := by
  unfold row; blk_ext [idx t]

/-- A block of the sum. -/
theorem pay (x0 : FVec Ideal S1024x1024 .bf16) (x1 : FVec Ideal S1024x1024 .bf16) (x2 : FVec Ideal S1024x1024 .f32) (r : Fin 1024) (l : Fin 1024) :
    k0_pay1 (F := Ideal) x0 x1 x2 (ix2 r l) = x2 (ix2 r l) + ∑ k : Fin 1024, x0 (ix2 r k) * x1 (ix2 k l) := by
  pointwise [k0_pay1]
  exact add_comm (G := EReal) _ _

theorem blkS (c : Dev nD) (t : Fin cfg0.N) (r : Fin 1024) (l : Fin 1024) :
    k0_pay1 (F := Ideal) (iblk m c 0 t) (iblk m c 1 t) (iblk m c 2 t) (ix2 r l) = spec (m ((c : Thread nD τ).loc main_arg0)) (m ((c : Thread nD τ).loc main_arg1)) (m ((c : Thread nD τ).loc main_arg2)) (ix2 (row t r) l) :=
  (pay _ _ _ r l).trans (congrArg₂ (· + ·) (rd2 m c t r l) (Finset.sum_congr rfl fun k _ => congrArg₂ (· * ·) (rd0 m c t r k) (rd1 m c t l k)))

/-- The run leaves the sum. -/
theorem final4 (c : Dev nD) : (dats m 0 c).arrAt 4 (cfgs 0).N = spec (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  obtain ⟨r, l, rfl⟩ : ∃ (r : Fin 1024) (l : Fin 1024), y = ix2 r l := ⟨y 0, y 1, eq_ix2 y⟩
  refine Eq.trans ?_ (congrArg _ (emb4 t r l)).symm
  exact blkS m c t r l

theorem payN (x0 : FVec Ideal S1024x1024 .bf16) (x1 : FVec Ideal S1024x1024 .bf16) (x2 : FVec Ideal S1024x1024 .f32) (g : FVec Ideal S1x1x1024 .f32) (r : Fin 1024) (l : Fin 1024) :
    k0_pay2 (F := Ideal) x0 x1 x2 g (ix2 r l) = k0_pay1 (F := Ideal) x0 x1 x2 (ix2 r l)
      * Ideal.rsqrt (Norm.msq fun k => k0_pay1 (F := Ideal) x0 x1 x2 (ix2 r k)) * g (ix3 0 0 l) := by
  pointwise [k0_pay2, Norm.msq]

/-- The run leaves the normed rows. -/
theorem final5 (c : Dev nD) : (dats m 0 c).arrAt 5 (cfgs 0).N = specN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  obtain ⟨r, l, rfl⟩ : ∃ (r : Fin 1024) (l : Fin 1024), y = ix2 r l := ⟨y 0, y 1, eq_ix2 y⟩
  refine Eq.trans ?_ (congrArg _ (emb5 t r l)).symm
  refine (payN _ _ _ _ r l).trans ?_
  rw [funext fun k => blkS m c t r k, blkS m c t r l, rd3 m c t l]
  rfl

/-- Every run of the kernel ends with the spec in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = spec (m ((c : Thread nD τ).loc main_arg0)) (m ((c : Thread nD τ).loc main_arg1)) (m ((c : Thread nD τ).loc main_arg2))
    ∧ r.2.mem ((c.tc : Thread nD τ).loc main_v1_1) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.MixOut1KernelIdeal.Gen.run_main m ρ
  · exact final4 m c
  · exact final5 m c

end Ker

section Ref
open Cert.MixOut1ReferenceIdeal Cert.MixOut1ReferenceIdeal.Gen

variable (m : (ℓ : Loc nD τ sig) → Buf (Elt Ideal) ℓ)

attribute [local irreducible] spec specN

/-- Every run of the reference ends with the spec in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v5) = spec (m ((c : Thread nD τ).loc main_arg0)) (m ((c : Thread nD τ).loc main_arg1)) (m ((c : Thread nD τ).loc main_arg2))
    ∧ r.2.mem ((c.tc : Thread nD τ).loc main_v19) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.MixOut1ReferenceIdeal.Value.run m ρ
  · funext j
    idx_vars j
    unfold spec
    pointwise
  · funext j
    idx_vars j
    unfold specN spec
    pointwise [Norm.msq]

end Ref

instance : Cert.MixOut1Kernel.Facts := Cert.MixOut1Kernel.Gen.facts
instance : Cert.MixOut1KernelIdeal.Facts := Cert.MixOut1KernelIdeal.Gen.facts
instance : Cert.MixOut1ReferenceIdeal.Facts := Cert.MixOut1ReferenceIdeal.Gen.facts

/-- The kernel runs to its end on machine floats and leaves its arguments as they were. -/
theorem frame_P : Cert.quiescent_MixOut1Kernel := fun m ρ _ => Cert.MixOut1Kernel.Gen.frame m ρ

/-- The same over the extended reals. -/
theorem frame_PI : Cert.quiescent_MixOut1KernelIdeal := fun m ρ _ => Cert.MixOut1KernelIdeal.Gen.frame m ρ

/-- The reference runs to its end over the extended reals and leaves its arguments as they were. -/
theorem frame_RI : Cert.quiescent_MixOut1ReferenceIdeal := by
  intro m g _
  hlo_run
  · exact fun _ => ⟨trivial, trivial, trivial, trivial⟩
  · exact sem_eq_zero_of_no_sems (sig := Cert.MixOut1ReferenceIdeal.sig) (by decide) _

/-- Kernel and reference end with equal results. -/
theorem value : Cert.algebraic_MixOut1KernelIdeal_MixOut1ReferenceIdeal := by
  pair_intro
  · run_from run_ker m g
  · run_from run_ref m' g'

end Cert.MixOut1
-- ==== Proof.MixOut2.lean ====
/- The output projection of a mixer, added to the residual stream, and the norm of the sum. -/
module

public import proofs.«01_k».proof.Defs
public import proofs.«01_k».proof.Proof.Gen.MixOut2Kernel.Frame
public import proofs.«01_k».proof.Proof.Gen.MixOut2KernelIdeal.Frame
public import proofs.«01_k».proof.Proof.Gen.MixOut2ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.MixOut2

section Ker
open Cert.MixOut2KernelIdeal Cert.MixOut2KernelIdeal.Gen

/-- The residual stream and the product. -/
def spec (A : FVec Ideal S4096x1024 .bf16) (B : FVec Ideal S1024x1024 .bf16) (x : FVec Ideal S4096x1024 .f32) : FVec Ideal S4096x1024 .f32 :=
  fun j => x j + ∑ k : Fin 1024, A (ix2 (j 0) k) * B (ix2 k (j 1))

/-- Its rows normed. -/
def specN (A : FVec Ideal S4096x1024 .bf16) (B : FVec Ideal S1024x1024 .bf16) (x : FVec Ideal S4096x1024 .f32) (g : FVec Ideal S4x1024 .f32) :
    FVec Ideal S4096x1024 .bf16 :=
  fun j => spec A B x j * Ideal.rsqrt (Norm.msq fun k => spec A B x (ix2 (j 0) k)) * g (ix2 (2 : Fin 4) (j 1))

/-- The windows' block indices at every grid point. -/
theorem idx : ∀ t : Fin cfg0.N, win0_0.index t = ![t.val, 0] ∧ win0_1.index t = ![0, 0] ∧ win0_2.index t = ![t.val, 0]
    ∧ win0_3.index t = ![2, 0, 0] ∧ win0_4.index t = ![t.val, 0] ∧ win0_5.index t = ![t.val, 0] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- The row of the result a block's row sits at. -/
def row (t : Fin cfg0.N) (r : Fin 1024) : Fin 4096 := ⟨t.val * 1024 + r, by have := t_lt t; omega⟩

theorem rd0 (c : Dev nD) (t : Fin cfg0.N) (r : Fin 1024) (k : Fin 1024) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 1024) :
    iblk m c 1 t (ix2 k l) = m ((c : Thread nD τ).loc main_arg1) (ix2 k l) := by
  blk_ext [iblk, V, idx t]
theorem rd2 (c : Dev nD) (t : Fin cfg0.N) (r : Fin 1024) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (2 : Fin 4) k) := by
  blk_simp [iblk, idx t]; entry_read; pointwise; blk_ext [idx t]
theorem emb4 (t : Fin cfg0.N) (r : Fin 1024) (l : Fin 1024) : ((cfg0.win 4).blk t).view.emb (ix2 r l) = ix2 (row t r) l := by
  unfold row; blk_ext [idx t]
theorem emb5 (t : Fin cfg0.N) (r : Fin 1024) (l : Fin 1024) : ((cfg0.win 5).blk t).view.emb (ix2 r l) = ix2 (row t r) l := by
  unfold row; blk_ext [idx t]

/-- A block of the sum. -/
theorem pay (x0 : FVec Ideal S1024x1024 .bf16) (x1 : FVec Ideal S1024x1024 .bf16) (x2 : FVec Ideal S1024x1024 .f32) (r : Fin 1024) (l : Fin 1024) :
    k0_pay1 (F := Ideal) x0 x1 x2 (ix2 r l) = x2 (ix2 r l) + ∑ k : Fin 1024, x0 (ix2 r k) * x1 (ix2 k l) := by
  pointwise [k0_pay1]
  exact add_comm (G := EReal) _ _

theorem blkS (c : Dev nD) (t : Fin cfg0.N) (r : Fin 1024) (l : Fin 1024) :
    k0_pay1 (F := Ideal) (iblk m c 0 t) (iblk m c 1 t) (iblk m c 2 t) (ix2 r l) = spec (m ((c : Thread nD τ).loc main_arg0)) (m ((c : Thread nD τ).loc main_arg1)) (m ((c : Thread nD τ).loc main_arg2)) (ix2 (row t r) l) :=
  (pay _ _ _ r l).trans (congrArg₂ (· + ·) (rd2 m c t r l) (Finset.sum_congr rfl fun k _ => congrArg₂ (· * ·) (rd0 m c t r k) (rd1 m c t l k)))

/-- The run leaves the sum. -/
theorem final4 (c : Dev nD) : (dats m 0 c).arrAt 4 (cfgs 0).N = spec (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  obtain ⟨r, l, rfl⟩ : ∃ (r : Fin 1024) (l : Fin 1024), y = ix2 r l := ⟨y 0, y 1, eq_ix2 y⟩
  refine Eq.trans ?_ (congrArg _ (emb4 t r l)).symm
  exact blkS m c t r l

theorem payN (x0 : FVec Ideal S1024x1024 .bf16) (x1 : FVec Ideal S1024x1024 .bf16) (x2 : FVec Ideal S1024x1024 .f32) (g : FVec Ideal S1x1x1024 .f32) (r : Fin 1024) (l : Fin 1024) :
    k0_pay2 (F := Ideal) x0 x1 x2 g (ix2 r l) = k0_pay1 (F := Ideal) x0 x1 x2 (ix2 r l)
      * Ideal.rsqrt (Norm.msq fun k => k0_pay1 (F := Ideal) x0 x1 x2 (ix2 r k)) * g (ix3 0 0 l) := by
  pointwise [k0_pay2, Norm.msq]

/-- The run leaves the normed rows. -/
theorem final5 (c : Dev nD) : (dats m 0 c).arrAt 5 (cfgs 0).N = specN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  obtain ⟨r, l, rfl⟩ : ∃ (r : Fin 1024) (l : Fin 1024), y = ix2 r l := ⟨y 0, y 1, eq_ix2 y⟩
  refine Eq.trans ?_ (congrArg _ (emb5 t r l)).symm
  refine (payN _ _ _ _ r l).trans ?_
  rw [funext fun k => blkS m c t r k, blkS m c t r l, rd3 m c t l]
  rfl

/-- Every run of the kernel ends with the spec in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = spec (m ((c : Thread nD τ).loc main_arg0)) (m ((c : Thread nD τ).loc main_arg1)) (m ((c : Thread nD τ).loc main_arg2))
    ∧ r.2.mem ((c.tc : Thread nD τ).loc main_v1_1) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.MixOut2KernelIdeal.Gen.run_main m ρ
  · exact final4 m c
  · exact final5 m c

end Ker

section Ref
open Cert.MixOut2ReferenceIdeal Cert.MixOut2ReferenceIdeal.Gen

variable (m : (ℓ : Loc nD τ sig) → Buf (Elt Ideal) ℓ)

attribute [local irreducible] spec specN

/-- Every run of the reference ends with the spec in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v5) = spec (m ((c : Thread nD τ).loc main_arg0)) (m ((c : Thread nD τ).loc main_arg1)) (m ((c : Thread nD τ).loc main_arg2))
    ∧ r.2.mem ((c.tc : Thread nD τ).loc main_v19) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.MixOut2ReferenceIdeal.Value.run m ρ
  · funext j
    idx_vars j
    unfold spec
    pointwise
  · funext j
    idx_vars j
    unfold specN spec
    pointwise [Norm.msq]

end Ref

instance : Cert.MixOut2Kernel.Facts := Cert.MixOut2Kernel.Gen.facts
instance : Cert.MixOut2KernelIdeal.Facts := Cert.MixOut2KernelIdeal.Gen.facts
instance : Cert.MixOut2ReferenceIdeal.Facts := Cert.MixOut2ReferenceIdeal.Gen.facts

/-- The kernel runs to its end on machine floats and leaves its arguments as they were. -/
theorem frame_P : Cert.quiescent_MixOut2Kernel := fun m ρ _ => Cert.MixOut2Kernel.Gen.frame m ρ

/-- The same over the extended reals. -/
theorem frame_PI : Cert.quiescent_MixOut2KernelIdeal := fun m ρ _ => Cert.MixOut2KernelIdeal.Gen.frame m ρ

/-- The reference runs to its end over the extended reals and leaves its arguments as they were. -/
theorem frame_RI : Cert.quiescent_MixOut2ReferenceIdeal := by
  intro m g _
  hlo_run
  · exact fun _ => ⟨trivial, trivial, trivial, trivial⟩
  · exact sem_eq_zero_of_no_sems (sig := Cert.MixOut2ReferenceIdeal.sig) (by decide) _

/-- Kernel and reference end with equal results. -/
theorem value : Cert.algebraic_MixOut2KernelIdeal_MixOut2ReferenceIdeal := by
  pair_intro
  · run_from run_ker m g
  · run_from run_ref m' g'

end Cert.MixOut2
-- ==== Proof.Down1.lean ====
/- The down projection of a layer, added to the residual stream, and the norm of the sum. -/
module

public import proofs.«01_k».proof.Defs
public import proofs.«01_k».proof.Proof.Gen.Down1Kernel.Frame
public import proofs.«01_k».proof.Proof.Gen.Down1KernelIdeal.Frame
public import proofs.«01_k».proof.Proof.Gen.Down1ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Down1

section Ker
open Cert.Down1KernelIdeal Cert.Down1KernelIdeal.Gen

/-- The residual stream and the product. -/
def spec (A : FVec Ideal S4096x2816 .bf16) (B : FVec Ideal S2816x1024 .bf16) (x : FVec Ideal S4096x1024 .f32) : FVec Ideal S4096x1024 .f32 :=
  fun j => x j + ∑ k : Fin 2816, A (ix2 (j 0) k) * B (ix2 k (j 1))

/-- Its rows normed. -/
def specN (A : FVec Ideal S4096x2816 .bf16) (B : FVec Ideal S2816x1024 .bf16) (x : FVec Ideal S4096x1024 .f32) (g : FVec Ideal S4x1024 .f32) :
    FVec Ideal S4096x1024 .bf16 :=
  fun j => spec A B x j * Ideal.rsqrt (Norm.msq fun k => spec A B x (ix2 (j 0) k)) * g (ix2 (1 : Fin 4) (j 1))

/-- The windows' block indices at every grid point. -/
theorem idx : ∀ t : Fin cfg0.N, win0_0.index t = ![t.val, 0] ∧ win0_1.index t = ![0, 0] ∧ win0_2.index t = ![t.val, 0]
    ∧ win0_3.index t = ![1, 0, 0] ∧ win0_4.index t = ![t.val, 0] ∧ win0_5.index t = ![t.val, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 2816) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 2816) :
    iblk m c 1 t (ix2 k l) = m ((c : Thread nD τ).loc main_arg1) (ix2 k l) := by
  blk_ext [iblk, V, idx t]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (1 : Fin 4) k) := by
  blk_simp [iblk, idx t]; entry_read; pointwise; blk_ext [idx t]
theorem emb4 (t : Fin cfg0.N) (r : Fin 512) (l : Fin 1024) : ((cfg0.win 4).blk t).view.emb (ix2 r l) = ix2 (row t r) l := by
  unfold row; blk_ext [idx t]
theorem emb5 (t : Fin cfg0.N) (r : Fin 512) (l : Fin 1024) : ((cfg0.win 5).blk t).view.emb (ix2 r l) = ix2 (row t r) l := by
  unfold row; blk_ext [idx t]

/-- A block of the sum. -/
theorem pay (x0 : FVec Ideal S512x2816 .bf16) (x1 : FVec Ideal S2816x1024 .bf16) (x2 : FVec Ideal S512x1024 .f32) (r : Fin 512) (l : Fin 1024) :
    k0_pay1 (F := Ideal) x0 x1 x2 (ix2 r l) = x2 (ix2 r l) + ∑ k : Fin 2816, x0 (ix2 r k) * x1 (ix2 k l) := by
  pointwise [k0_pay1]
  exact add_comm (G := EReal) _ _

theorem blkS (c : Dev nD) (t : Fin cfg0.N) (r : Fin 512) (l : Fin 1024) :
    k0_pay1 (F := Ideal) (iblk m c 0 t) (iblk m c 1 t) (iblk m c 2 t) (ix2 r l) = spec (m ((c : Thread nD τ).loc main_arg0)) (m ((c : Thread nD τ).loc main_arg1)) (m ((c : Thread nD τ).loc main_arg2)) (ix2 (row t r) l) :=
  (pay _ _ _ r l).trans (congrArg₂ (· + ·) (rd2 m c t r l) (Finset.sum_congr rfl fun k _ => congrArg₂ (· * ·) (rd0 m c t r k) (rd1 m c t l k)))

/-- The run leaves the sum. -/
theorem final4 (c : Dev nD) : (dats m 0 c).arrAt 4 (cfgs 0).N = spec (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  obtain ⟨r, l, rfl⟩ : ∃ (r : Fin 512) (l : Fin 1024), y = ix2 r l := ⟨y 0, y 1, eq_ix2 y⟩
  refine Eq.trans ?_ (congrArg _ (emb4 t r l)).symm
  exact blkS m c t r l

theorem payN (x0 : FVec Ideal S512x2816 .bf16) (x1 : FVec Ideal S2816x1024 .bf16) (x2 : FVec Ideal S512x1024 .f32) (g : FVec Ideal S1x1x1024 .f32) (r : Fin 512) (l : Fin 1024) :
    k0_pay2 (F := Ideal) x0 x1 x2 g (ix2 r l) = k0_pay1 (F := Ideal) x0 x1 x2 (ix2 r l)
      * Ideal.rsqrt (Norm.msq fun k => k0_pay1 (F := Ideal) x0 x1 x2 (ix2 r k)) * g (ix3 0 0 l) := by
  pointwise [k0_pay2, Norm.msq]

/-- The run leaves the normed rows. -/
theorem final5 (c : Dev nD) : (dats m 0 c).arrAt 5 (cfgs 0).N = specN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  obtain ⟨r, l, rfl⟩ : ∃ (r : Fin 512) (l : Fin 1024), y = ix2 r l := ⟨y 0, y 1, eq_ix2 y⟩
  refine Eq.trans ?_ (congrArg _ (emb5 t r l)).symm
  refine (payN _ _ _ _ r l).trans ?_
  rw [funext fun k => blkS m c t r k, blkS m c t r l, rd3 m c t l]
  rfl

/-- Every run of the kernel ends with the spec in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = spec (m ((c : Thread nD τ).loc main_arg0)) (m ((c : Thread nD τ).loc main_arg1)) (m ((c : Thread nD τ).loc main_arg2))
    ∧ r.2.mem ((c.tc : Thread nD τ).loc main_v1_1) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Down1KernelIdeal.Gen.run_main m ρ
  · exact final4 m c
  · exact final5 m c

end Ker

section Ref
open Cert.Down1ReferenceIdeal Cert.Down1ReferenceIdeal.Gen

variable (m : (ℓ : Loc nD τ sig) → Buf (Elt Ideal) ℓ)

attribute [local irreducible] spec specN

/-- Every run of the reference ends with the spec in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v5) = spec (m ((c : Thread nD τ).loc main_arg0)) (m ((c : Thread nD τ).loc main_arg1)) (m ((c : Thread nD τ).loc main_arg2))
    ∧ r.2.mem ((c.tc : Thread nD τ).loc main_v19) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Down1ReferenceIdeal.Value.run m ρ
  · funext j
    idx_vars j
    unfold spec
    pointwise
  · funext j
    idx_vars j
    unfold specN spec
    pointwise [Norm.msq]

end Ref

instance : Cert.Down1Kernel.Facts := Cert.Down1Kernel.Gen.facts
instance : Cert.Down1KernelIdeal.Facts := Cert.Down1KernelIdeal.Gen.facts
instance : Cert.Down1ReferenceIdeal.Facts := Cert.Down1ReferenceIdeal.Gen.facts

/-- The kernel runs to its end on machine floats and leaves its arguments as they were. -/
theorem frame_P : Cert.quiescent_Down1Kernel := fun m ρ _ => Cert.Down1Kernel.Gen.frame m ρ

/-- The same over the extended reals. -/
theorem frame_PI : Cert.quiescent_Down1KernelIdeal := fun m ρ _ => Cert.Down1KernelIdeal.Gen.frame m ρ

/-- The reference runs to its end over the extended reals and leaves its arguments as they were. -/
theorem frame_RI : Cert.quiescent_Down1ReferenceIdeal := by
  intro m g _
  hlo_run
  · exact fun _ => ⟨trivial, trivial, trivial, trivial⟩
  · exact sem_eq_zero_of_no_sems (sig := Cert.Down1ReferenceIdeal.sig) (by decide) _

/-- Kernel and reference end with equal results. -/
theorem value : Cert.algebraic_Down1KernelIdeal_Down1ReferenceIdeal := by
  pair_intro
  · run_from run_ker m g
  · run_from run_ref m' g'

end Cert.Down1
-- ==== Proof.Down3.lean ====
/- The down projection of a layer, added to the residual stream, and the norm of the sum. -/
module

public import proofs.«01_k».proof.Defs
public import proofs.«01_k».proof.Proof.Gen.Down3Kernel.Frame
public import proofs.«01_k».proof.Proof.Gen.Down3KernelIdeal.Frame
public import proofs.«01_k».proof.Proof.Gen.Down3ReferenceIdeal.Run
public import proofs.«01_k».proof.Proof.NormPure
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Down3

section Ker
open Cert.Down3KernelIdeal Cert.Down3KernelIdeal.Gen

/-- The residual stream and the product. -/
def spec (A : FVec Ideal S4096x2816 .bf16) (B : FVec Ideal S2816x1024 .bf16) (x : FVec Ideal S4096x1024 .f32) : FVec Ideal S4096x1024 .f32 :=
  fun j => x j + ∑ k : Fin 2816, A (ix2 (j 0) k) * B (ix2 k (j 1))

/-- Its rows normed. -/
def specN (A : FVec Ideal S4096x2816 .bf16) (B : FVec Ideal S2816x1024 .bf16) (x : FVec Ideal S4096x1024 .f32) (g : FVec Ideal S4x1024 .f32) :
    FVec Ideal S4096x1024 .bf16 :=
  fun j => spec A B x j * Ideal.rsqrt (Norm.msq fun k => spec A B x (ix2 (j 0) k)) * g (ix2 (3 : Fin 4) (j 1))

/-- The windows' block indices at every grid point. -/
theorem idx : ∀ t : Fin cfg0.N, win0_0.index t = ![t.val, 0] ∧ win0_1.index t = ![0, 0] ∧ win0_2.index t = ![t.val, 0]
    ∧ win0_3.index t = ![3, 0, 0] ∧ win0_4.index t = ![t.val, 0] ∧ win0_5.index t = ![t.val, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 2816) :
    iblk m c 0 t (ix2 r k) = m ((c : Thread nD τ).loc main_arg0) (ix2 (row t r) k) := by
  unfold row; blk_ext [iblk, V, idx t]
theorem rd1 (c : Dev nD) (t : Fin cfg0.N) (l : Fin 1024) (k : Fin 2816) :
    iblk m c 1 t (ix2 k l) = m ((c : Thread nD τ).loc main_arg1) (ix2 k l) := by
  blk_ext [iblk, V, idx t]
theorem rd2 (c : Dev nD) (t : Fin cfg0.N) (r : Fin 512) (k : Fin 1024) :
    iblk m c 2 t (ix2 r k) = m ((c : Thread nD τ).loc main_arg2) (ix2 (row t r) k) := by
  unfold row; blk_ext [iblk, V, idx t]
theorem rd3 (c : Dev nD) (t : Fin cfg0.N) (k : Fin 1024) :
    iblk m c 3 t (ix3 (0 : Fin 1) (0 : Fin 1) k) = m ((c : Thread nD τ).loc main_arg3) (ix2 (3 : Fin 4) k) := by
  blk_simp [iblk, idx t]; entry_read; pointwise; blk_ext [idx t]
theorem emb4 (t : Fin cfg0.N) (r : Fin 512) (l : Fin 1024) : ((cfg0.win 4).blk t).view.emb (ix2 r l) = ix2 (row t r) l := by
  unfold row; blk_ext [idx t]
theorem emb5 (t : Fin cfg0.N) (r : Fin 512) (l : Fin 1024) : ((cfg0.win 5).blk t).view.emb (ix2 r l) = ix2 (row t r) l := by
  unfold row; blk_ext [idx t]

/-- A block of the sum. -/
theorem pay (x0 : FVec Ideal S512x2816 .bf16) (x1 : FVec Ideal S2816x1024 .bf16) (x2 : FVec Ideal S512x1024 .f32) (r : Fin 512) (l : Fin 1024) :
    k0_pay1 (F := Ideal) x0 x1 x2 (ix2 r l) = x2 (ix2 r l) + ∑ k : Fin 2816, x0 (ix2 r k) * x1 (ix2 k l) := by
  pointwise [k0_pay1]
  exact add_comm (G := EReal) _ _

theorem blkS (c : Dev nD) (t : Fin cfg0.N) (r : Fin 512) (l : Fin 1024) :
    k0_pay1 (F := Ideal) (iblk m c 0 t) (iblk m c 1 t) (iblk m c 2 t) (ix2 r l) = spec (m ((c : Thread nD τ).loc main_arg0)) (m ((c : Thread nD τ).loc main_arg1)) (m ((c : Thread nD τ).loc main_arg2)) (ix2 (row t r) l) :=
  (pay _ _ _ r l).trans (congrArg₂ (· + ·) (rd2 m c t r l) (Finset.sum_congr rfl fun k _ => congrArg₂ (· * ·) (rd0 m c t r k) (rd1 m c t l k)))

/-- The run leaves the sum. -/
theorem final4 (c : Dev nD) : (dats m 0 c).arrAt 4 (cfgs 0).N = spec (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]; frame_out
  obtain ⟨r, l, rfl⟩ : ∃ (r : Fin 512) (l : Fin 1024), y = ix2 r l := ⟨y 0, y 1, eq_ix2 y⟩
  refine Eq.trans ?_ (congrArg _ (emb4 t r l)).symm
  exact blkS m c t r l

theorem payN (x0 : FVec Ideal S512x2816 .bf16) (x1 : FVec Ideal S2816x1024 .bf16) (x2 : FVec Ideal S512x1024 .f32) (g : FVec Ideal S1x1x1024 .f32) (r : Fin 512) (l : Fin 1024) :
    k0_pay2 (F := Ideal) x0 x1 x2 g (ix2 r l) = k0_pay1 (F := Ideal) x0 x1 x2 (ix2 r l)
      * Ideal.rsqrt (Norm.msq fun k => k0_pay1 (F := Ideal) x0 x1 x2 (ix2 r k)) * g (ix3 0 0 l) := by
  pointwise [k0_pay2, Norm.msq]

/-- The run leaves the normed rows. -/
theorem final5 (c : Dev nD) : (dats m 0 c).arrAt 5 (cfgs 0).N = specN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  obtain ⟨r, l, rfl⟩ : ∃ (r : Fin 512) (l : Fin 1024), y = ix2 r l := ⟨y 0, y 1, eq_ix2 y⟩
  refine Eq.trans ?_ (congrArg _ (emb5 t r l)).symm
  refine (payN _ _ _ _ r l).trans ?_
  rw [funext fun k => blkS m c t r k, blkS m c t r l, rd3 m c t l]
  rfl

/-- Every run of the kernel ends with the spec in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = spec (m ((c : Thread nD τ).loc main_arg0)) (m ((c : Thread nD τ).loc main_arg1)) (m ((c : Thread nD τ).loc main_arg2))
    ∧ r.2.mem ((c.tc : Thread nD τ).loc main_v1_1) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Down3KernelIdeal.Gen.run_main m ρ
  · exact final4 m c
  · exact final5 m c

end Ker

section Ref
open Cert.Down3ReferenceIdeal Cert.Down3ReferenceIdeal.Gen

variable (m : (ℓ : Loc nD τ sig) → Buf (Elt Ideal) ℓ)

attribute [local irreducible] spec specN

/-- Every run of the reference ends with the spec in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v5) = spec (m ((c : Thread nD τ).loc main_arg0)) (m ((c : Thread nD τ).loc main_arg1)) (m ((c : Thread nD τ).loc main_arg2))
    ∧ r.2.mem ((c.tc : Thread nD τ).loc main_v19) = specN (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.Down3ReferenceIdeal.Value.run m ρ
  · funext j
    idx_vars j
    unfold spec
    pointwise
  · funext j
    idx_vars j
    unfold specN spec
    pointwise [Norm.msq]

end Ref

instance : Cert.Down3Kernel.Facts := Cert.Down3Kernel.Gen.facts
instance : Cert.Down3KernelIdeal.Facts := Cert.Down3KernelIdeal.Gen.facts
instance : Cert.Down3ReferenceIdeal.Facts := Cert.Down3ReferenceIdeal.Gen.facts

/-- The kernel runs to its end on machine floats and leaves its arguments as they were. -/
theorem frame_P : Cert.quiescent_Down3Kernel := fun m ρ _ => Cert.Down3Kernel.Gen.frame m ρ

/-- The same over the extended reals. -/
theorem frame_PI : Cert.quiescent_Down3KernelIdeal := fun m ρ _ => Cert.Down3KernelIdeal.Gen.frame m ρ

/-- The reference runs to its end over the extended reals and leaves its arguments as they were. -/
theorem frame_RI : Cert.quiescent_Down3ReferenceIdeal := by
  intro m g _
  hlo_run
  · exact fun _ => ⟨trivial, trivial, trivial, trivial⟩
  · exact sem_eq_zero_of_no_sems (sig := Cert.Down3ReferenceIdeal.sig) (by decide) _

/-- Kernel and reference end with equal results. -/
theorem value : Cert.algebraic_Down3KernelIdeal_Down3ReferenceIdeal := by
  pair_intro
  · run_from run_ker m g
  · run_from run_ref m' g'

end Cert.Down3
-- ==== Proof.Loss.lean ====
/- The loss head: half the squared error of the last norm, and its gradients in the norm's input and gains. -/
module

public import proofs.«01_k».proof.Defs
public import proofs.«01_k».proof.Proof.Gen.LossKernel.Frame
public import proofs.«01_k».proof.Proof.Gen.LossKernelIdeal.Frame
public import proofs.«01_k».proof.Proof.Gen.LossReferenceIdeal.Run
public import proofs.«01_k».proof.Proof.NormPure
public import Idealize.ShloMosaic.Lib.Pipeline.ValueKit
public import Idealize.ShloMosaic.Lib.Claim
public import Idealize.ShloMosaic.Lib.Quiescent
public import Idealize.ShloMosaic.Lib.Affine

@[expose] public section

set_option maxRecDepth 16384

noncomputable section

open Idealize.ShloMosaic Idealize.ShloMosaic.TcCoe Idealize.SL.Sem
open Idealize.ShloMosaic.Pipeline (Dat)
open scoped BigOperators

namespace Cert.Loss

/-- The bits of one over 1024, of one half over 1024, of one half and of two. -/
theorem cInv : Ideal.ofBits .f32 0x3A800000#32 = ((1024⁻¹ : ℝ) : EReal) := by
  simp [Ideal.ofBits, Ideal.ieee]; rw [← EReal.coe_mul]; norm_num
theorem cHalfInv : Ideal.ofBits .f32 0x3A000000#32 = ((2048⁻¹ : ℝ) : EReal) := by
  simp [Ideal.ofBits, Ideal.ieee]; rw [← EReal.coe_mul]; norm_num
theorem cHalf : Ideal.ofBits .f32 0x3F000000#32 = ((2⁻¹ : ℝ) : EReal) := by
  simp [Ideal.ofBits, Ideal.ieee]; rw [← EReal.coe_mul]; norm_num
theorem cTwo : Ideal.ofBits .f32 0x40000000#32 = ((2 : ℝ) : EReal) := by
  simp [Ideal.ofBits, Ideal.ieee]; rw [← EReal.coe_mul]; norm_num

/-- A factor goes into a sum whose terms are not negative. -/
theorem mul_sum_nonneg {n : ℕ} (a : EReal) (f : Fin n → EReal) (h : ∀ i, 0 ≤ f i) : a * ∑ i, f i = ∑ i, a * f i := by
  refine Finset.induction_on (Finset.univ : Finset (Fin n)) (by simp) fun i s hi ih => ?_
  rw [Finset.sum_insert hi, Finset.sum_insert hi, EReal.left_distrib_of_nonneg (h i) (Finset.sum_nonneg fun k _ => h k), ih]

/-- Half the rows' means, summed: each row's sum over 2048. -/
theorem loss_eq {n : ℕ} (f : Fin n → EReal) (h : ∀ i, 0 ≤ f i) :
    Ideal.ofBits .f32 0x3F000000#32 * ∑ i, Ideal.div (f i) (Ideal.ofBits .f32 0x44800000#32) = ∑ i, f i * Ideal.ofBits .f32 0x3A000000#32 := by
  rw [Norm.c1024, cHalf, cHalfInv]
  simp only [Norm.div_1024]
  rw [mul_sum_nonneg _ _ fun i => mul_nonneg (h i) (by exact_mod_cast (by norm_num : (0 : ℝ) ≤ 1024⁻¹))]
  refine Finset.sum_congr rfl fun i _ => ?_
  rw [mul_left_comm, ← EReal.coe_mul]; norm_num

/-- The error's gradient: a half, over 1024, times twice the error. -/
theorem dy_eq (e : EReal) : Ideal.div (Ideal.ofBits .f32 0x3F000000#32) (Ideal.ofBits .f32 0x44800000#32) * (Ideal.ofBits .f32 0x40000000#32 * e)
    = e * Ideal.ofBits .f32 0x3A800000#32 := by
  rw [Norm.c1024, cHalf, cTwo, cInv, Norm.div_1024, ← mul_assoc, ← EReal.coe_mul, ← EReal.coe_mul, mul_comm]; norm_num

/-- The norm's gradient as the chain rule gives it, nothing added. -/
theorem dxRef0 (d x g : Fin 1024 → EReal) (c : Fin 1024) :
    d c * g c * Ideal.rsqrt (Norm.msq x)
      + x c * Ideal.div ((∑ k, x k * (d k * g k)) * (Ideal.ofBits .f32 0xBF000000#32 * Ideal.div (Ideal.rsqrt (Norm.msq x)) (Norm.msq x))) (Ideal.ofBits .f32 0x44800000#32)
      + Ideal.div ((∑ k, x k * (d k * g k)) * (Ideal.ofBits .f32 0xBF000000#32 * Ideal.div (Ideal.rsqrt (Norm.msq x)) (Norm.msq x))) (Ideal.ofBits .f32 0x44800000#32) * x c
      = Norm.dx d x g 0 c := by
  have h := Norm.dxRef_eq d x g 0 c
  unfold Norm.dxRef at h
  rw [zero_add] at h
  exact h

/-- A row's error: the normed row, scaled by the gains, less the target. -/
def er (x g t : Fin 1024 → EReal) (k : Fin 1024) : EReal := x k * Ideal.rsqrt (Norm.msq x) * g k - t k
/-- The loss's gradient in the normed row. -/
def dy (x g t : Fin 1024 → EReal) (k : Fin 1024) : EReal := er x g t k * Ideal.ofBits .f32 0x3A800000#32
/-- A row's loss. -/
def rowL (x g t : Fin 1024 → EReal) : EReal := (∑ k, er x g t k * er x g t k) * Ideal.ofBits .f32 0x3A000000#32

section Ker
open Cert.LossKernelIdeal Cert.LossKernelIdeal.Gen

/-- A row of an array of rows, and the gains as a row. -/
def rw_ (X : FVec Ideal S4096x1024 .f32) (i : Fin 4096) (k : Fin 1024) : EReal := X (ix2 i k)
def gw (g : FVec Ideal S1024 .f32) (k : Fin 1024) : EReal := g (ix1 k)

/-- The loss, the gradient of the norm's input, the gradient of the gains. -/
def specL (X : FVec Ideal S4096x1024 .f32) (g : FVec Ideal S1024 .f32) (T : FVec Ideal S4096x1024 .f32) : FVec Ideal S1x1 .f32 :=
  fun _ => ∑ i : Fin 4096, rowL (rw_ X i) (gw g) (rw_ T i)
def specDx (X : FVec Ideal S4096x1024 .f32) (g : FVec Ideal S1024 .f32) (T : FVec Ideal S4096x1024 .f32) : FVec Ideal S4096x1024 .f32 :=
  fun j => Norm.dx (dy (rw_ X (j 0)) (gw g) (rw_ T (j 0))) (rw_ X (j 0)) (gw g) 0 (j 1)
def specDg (X : FVec Ideal S4096x1024 .f32) (g : FVec Ideal S1024 .f32) (T : FVec Ideal S4096x1024 .f32) : FVec Ideal S1x1024 .f32 :=
  fun j => Norm.dg (fun i => dy (rw_ X i) (gw g) (rw_ T i)) (rw_ X) (j 1)

/-- The windows' block indices at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 1024) : iblk m c 0 t (ix2 r k) = rw_ (m ((c : Thread nD τ).loc main_arg0)) (row t r) k := by
  unfold rw_ row; blk_ext [iblk, V, idx t]
theorem rd1 (c : Dev nD) (t : Fin cfg0.N) (k : Fin 1024) : iblk m c 1 t (ix2 (0 : Fin 1) k) = gw (m ((c : Thread nD τ).loc main_arg1)) k := by
  unfold gw; blk_simp [iblk, idx t]; entry_read; pointwise; blk_ext [idx t]
theorem rd2 (c : Dev nD) (t : Fin cfg0.N) (r : Fin 512) (k : Fin 1024) : iblk m c 2 t (ix2 r k) = rw_ (m ((c : Thread nD τ).loc main_arg2)) (row t r) k := by
  unfold rw_ row; blk_ext [iblk, V, idx t]
theorem emb4 (t : Fin cfg0.N) (r : Fin 512) (l : Fin 1024) : ((cfg0.win 4).blk t).view.emb (ix2 r l) = ix2 (row t r) l := by
  unfold row; blk_ext [idx t]
theorem emb5 (t : Fin cfg0.N) (r : Fin 512) (l : Fin 1024) : ((cfg0.win 5).blk t).view.emb (ix2 r l) = ix2 (row t r) l := by
  unfold row; blk_ext [idx t]

/-- A block's errors. -/
theorem payE (x : FVec Ideal S512x1024 .f32) (g : FVec Ideal S1x1024 .f32) (u : FVec Ideal S512x1024 .f32) (r : Fin 512) (l : Fin 1024) :
    k0_pay8 (F := Ideal) x g u (ix2 r l) = er (fun k => x (ix2 r k)) (fun k => g (ix2 (0 : Fin 1) k)) (fun k => u (ix2 r k)) l := by
  pointwise [k0_pay8, k0_pay7, er, Norm.msq]
/-- A block of the loss's gradient in the normed rows. -/
theorem payD (x : FVec Ideal S512x1024 .f32) (g : FVec Ideal S1x1024 .f32) (u : FVec Ideal S512x1024 .f32) (r : Fin 512) (l : Fin 1024) :
    k0_pay10 (F := Ideal) x g u (ix2 r l) = dy (fun k => x (ix2 r k)) (fun k => g (ix2 (0 : Fin 1) k)) (fun k => u (ix2 r k)) l := by
  pointwise [k0_pay10, payE, dy]
/-- A block's inverse roots. -/
theorem payR (x : FVec Ideal S512x1024 .f32) (r : Fin 512) (z : Fin 1) :
    k0_pay1 (F := Ideal) (k0_pay11 x) (Ideal.ofBits .f32 0x44800000#32) (ix2 r z) = Ideal.rsqrt (Norm.msq fun k => x (ix2 r k)) := by
  pointwise [k0_pay1, k0_pay11, Norm.msq]
/-- A block of the input's gradient. -/
theorem payX (x d : FVec Ideal S512x1024 .f32) (g : FVec Ideal S1x1024 .f32) (r : Fin 512) (l : Fin 1024) :
    k0_pay2 (F := Ideal) x (k0_pay7 g) d (k0_pay11 x) (Scalar.ofBits .f32 0x44800000#32) (ix2 r l)
      = Norm.dx (fun k => d (ix2 r k)) (fun k => x (ix2 r k)) (fun k => g (ix2 (0 : Fin 1) k)) 0 l := by
  rw [Norm.dx, add_zero]
  pointwise [k0_pay2, k0_pay7, payR]
/-- The gains' gradient: what the buffer held and a block's part. -/
theorem payG (x d : FVec Ideal S512x1024 .f32) (acc : FVec Ideal S1x1024 .f32) (j : S1x1024.Idx) :
    k0_pay4 (F := Ideal) x d (k0_pay11 x) (Scalar.ofBits .f32 0x44800000#32) acc j
      = acc j + ∑ r : Fin 512, d (ix2 r (j 1)) * (x (ix2 r (j 1)) * Ideal.rsqrt (Norm.msq fun k => x (ix2 r k))) := by
  idx_vars j
  pointwise [k0_pay4, payR]
/-- The loss: what the buffer held and a block's part. -/
theorem payL (x : FVec Ideal S512x1024 .f32) (g : FVec Ideal S1x1024 .f32) (u : FVec Ideal S512x1024 .f32) (acc : FVec Ideal S1x1 .f32) (j : S1x1.Idx) :
    k0_pay9 (F := Ideal) x g u acc j
      = acc j + ∑ r : Fin 512, rowL (fun k => x (ix2 r k)) (fun k => g (ix2 (0 : Fin 1) k)) (fun k => u (ix2 r k)) := by
  idx_vars j
  pointwise [k0_pay9, payE, rowL]
theorem payZ (j : S1x1024.Idx) : k0_pay5 (F := Ideal) j = 0 := by
  pointwise! [k0_pay5]
theorem payZ' (j : S1x1.Idx) : k0_pay6 (F := Ideal) j = 0 := by
  pointwise! [k0_pay6]

/-- The block that the grid point `t` writes of the input's gradient. -/
theorem blkX (c : Dev nD) (t : Fin cfg0.N) (y : S512x1024.Idx) :
    k0_pay2 (F := Ideal) (iblk m c 0 t) (k0_pay7 (iblk m c 1 t)) (k0_pay10 (iblk m c 0 t) (iblk m c 1 t) (iblk m c 2 t)) (k0_pay11 (iblk m c 0 t)) (Scalar.ofBits .f32 0x44800000#32) y
      = specDx (m ((c : Thread nD τ).loc main_arg0)) (m ((c : Thread nD τ).loc main_arg1)) (m ((c : Thread nD τ).loc main_arg2)) (ix2 (row t (y 0)) (y 1)) := by
  obtain ⟨r, l, rfl⟩ : ∃ (r : Fin 512) (l : Fin 1024), y = ix2 r l := ⟨y 0, y 1, eq_ix2 y⟩
  refine (payX _ _ _ r l).trans ?_
  rw [funext fun k => payD (iblk m c 0 t) (iblk m c 1 t) (iblk m c 2 t) r k, funext fun k => rd0 m c t r k, funext fun k => rd1 m c t k, funext fun k => rd2 m c t r k]
  rfl

/-- One row's part of the gains' gradient. -/
def rowG (X : FVec Ideal S4096x1024 .f32) (g : FVec Ideal S1024 .f32) (T : FVec Ideal S4096x1024 .f32) (l : Fin 1024) (i : Fin 4096) : EReal :=
  dy (rw_ X i) (gw g) (rw_ T i) l * (rw_ X i l * Ideal.rsqrt (Norm.msq (rw_ X i)))

theorem blkG (c : Dev nD) (t : Fin cfg0.N) (r : Fin 512) (l : Fin 1024) (X : FVec Ideal S512x1024 .f32) (hX : X = iblk m c 0 t) :
    k0_pay10 (F := Ideal) X (iblk m c 1 t) (iblk m c 2 t) (ix2 r l) * (X (ix2 r l) * Ideal.rsqrt (Norm.msq fun k => X (ix2 r k)))
      = rowG (m ((c : Thread nD τ).loc main_arg0)) (m ((c : Thread nD τ).loc main_arg1)) (m ((c : Thread nD τ).loc main_arg2)) l (row t r) := by
  subst hX
  rw [payD, rd0, funext fun k => rd0 m c t r k, funext fun k => rd1 m c t k, funext fun k => rd2 m c t r k]
  rfl

theorem blkL (c : Dev nD) (t : Fin cfg0.N) (r : Fin 512) (X : FVec Ideal S512x1024 .f32) (hX : X = iblk m c 0 t)
    (g : FVec Ideal S1x1024 .f32) (hg : g = iblk m c 1 t) (u : FVec Ideal S512x1024 .f32) (hu : u = iblk m c 2 t) :
    rowL (fun k => X (ix2 r k)) (fun k => g (ix2 (0 : Fin 1) k)) (fun k => u (ix2 r k))
      = rowL (rw_ (m ((c : Thread nD τ).loc main_arg0)) (row t r)) (gw (m ((c : Thread nD τ).loc main_arg1))) (rw_ (m ((c : Thread nD τ).loc main_arg2)) (row t r)) := by
  subst hX hg hu
  rw [funext fun k => rd0 m c t r k, funext fun k => rd1 m c t k, funext fun k => rd2 m c t r k]

/-- The run leaves the loss, -/
theorem final3 (c : Dev nD) : (dats m 0 c).arrAt 3 (cfgs 0).N = specL (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun t j => ∑ r : Fin 512, rowL (rw_ (m ((c : Thread nD τ).loc main_arg0)) (row t r)) (gw (m ((c : Thread nD τ).loc main_arg1))) (rw_ (m ((c : Thread nD τ).loc main_arg2)) (row t r)))
    (fun t h j => by rw [outsAt0_A m c t h]; frame_out; refine (payL _ _ _ _ j).trans ?_; rw [payZ']; exact congrArg _ (Finset.sum_congr rfl fun r _ => blkL m c t r _ rfl _ rfl _ rfl))
    (fun t h j => by rw [outsAt0_B m c t h]; frame_out; refine (payL _ _ _ _ j).trans ?_; exact congrArg _ (Finset.sum_congr rfl fun r _ => blkL m c t r _ rfl _ rfl _ rfl))
    (le_of_eq N_0) t0_7 rfl j, zero_add]
  refine (Fin.sum_points_lanes_congr 8 (A := 1) (L := 4096)
    (g := fun _ i => rowL (rw_ (m ((c : Thread nD τ).loc main_arg0)) i) (gw (m ((c : Thread nD τ).loc main_arg1))) (rw_ (m ((c : Thread nD τ).loc main_arg2)) i))
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- the gradient of the norm's input, -/
theorem final4 (c : Dev nD) : (dats m 0 c).arrAt 4 (cfgs 0).N = specDx (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]
  obtain ⟨r, l, rfl⟩ : ∃ (r : Fin 512) (l : Fin 1024), y = ix2 r l := ⟨y 0, y 1, eq_ix2 y⟩
  refine Eq.trans ?_ (congrArg _ (emb4 t r l)).symm
  by_cases h : t.val % 8 = 0
  · rw [outsAt0_A m c t h]; frame_out; exact blkX m c t _
  · rw [outsAt0_B m c t h]; frame_out; exact blkX m c t _

/-- the copy of it in the narrow format, -/
theorem final5 (c : Dev nD) : (dats m 0 c).arrAt 5 (cfgs 0).N = specDx (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp; rw [after0_5]
  obtain ⟨r, l, rfl⟩ : ∃ (r : Fin 512) (l : Fin 1024), y = ix2 r l := ⟨y 0, y 1, eq_ix2 y⟩
  refine Eq.trans ?_ (congrArg _ (emb5 t r l)).symm
  by_cases h : t.val % 8 = 0
  · rw [outsAt0_A m c t h]; frame_out; exact blkX m c t _
  · rw [outsAt0_B m c t h]; frame_out; exact blkX m c t _

/-- and the gains' gradient. -/
theorem final6 (c : Dev nD) : (dats m 0 c).arrAt 6 (cfgs 0).N = specDg (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2.2.2) 8 (fun _ => 0)
    (fun t j => ∑ r : Fin 512, rowG (m ((c : Thread nD τ).loc main_arg0)) (m ((c : Thread nD τ).loc main_arg1)) (m ((c : Thread nD τ).loc main_arg2)) (j 1) (row t r))
    (fun t h j => by rw [outsAt0_A m c t h]; frame_out; refine (payG _ _ _ j).trans ?_; rw [payZ]; exact congrArg _ (Finset.sum_congr rfl fun r _ => blkG m c t r (j 1) _ rfl))
    (fun t h j => by rw [outsAt0_B m c t h]; frame_out; refine (payG _ _ _ j).trans ?_; exact congrArg _ (Finset.sum_congr rfl fun r _ => blkG m c t r (j 1) _ rfl))
    (le_of_eq N_0) t0_7 rfl j, zero_add]
  refine (Fin.sum_points_lanes_congr 8 (A := 1) (L := 4096)
    (g := fun _ i => rowG (m ((c : Thread nD τ).loc main_arg0)) (m ((c : Thread nD τ).loc main_arg1)) (m ((c : Thread nD τ).loc main_arg2)) (j 1) i)
    (fun t k ha hl => ?_) N_0 rfl).trans ((Fin.sum_univ_one _).trans rfl)
  have ht : t.val % 8 = t.val := Nat.mod_eq_of_lt (t_lt t)
  have hr : row t k = ⟨t.val % 8 * 512 + k.val, hl⟩ := Fin.ext (by show t.val * 512 + k.val = t.val % 8 * 512 + k.val; omega)
  rw [hr]

/-- Every run of the kernel ends with the loss and its gradients in its results and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1_0) = specL (m ((c : Thread nD τ).loc main_arg0)) (m ((c : Thread nD τ).loc main_arg1)) (m ((c : Thread nD τ).loc main_arg2))
    ∧ r.2.mem ((c.tc : Thread nD τ).loc main_v1_1) = specDx (m ((c : Thread nD τ).loc main_arg0)) (m ((c : Thread nD τ).loc main_arg1)) (m ((c : Thread nD τ).loc main_arg2))
    ∧ r.2.mem ((c.tc : Thread nD τ).loc main_v1_2) = specDx (m ((c : Thread nD τ).loc main_arg0)) (m ((c : Thread nD τ).loc main_arg1)) (m ((c : Thread nD τ).loc main_arg2))
    ∧ r.2.mem ((c.tc : Thread nD τ).loc main_v1_3) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  run_from Cert.LossKernelIdeal.Gen.run_main m ρ
  · exact final3 m c
  · exact final4 m c
  · exact final5 m c
  · exact final6 m c

end Ker

section Ref
open Cert.LossReferenceIdeal Cert.LossReferenceIdeal.Gen

variable (m : (ℓ : Loc nD τ sig) → Buf (Elt Ideal) ℓ)

/-- The gradient of the norm's input, as the chain rule has it. -/
theorem ref1 (c : Dev nD) : Value.res_out1 m c = specDx (m ((c : Thread nD τ).loc main_arg0)) (m ((c : Thread nD τ).loc main_arg1)) (m ((c : Thread nD τ).loc main_arg2)) := by
  funext j
  idx_vars j
  refine Eq.trans ?_ (dxRef0 (dy (rw_ (m ((c : Thread nD τ).loc main_arg0)) j0) (gw (m ((c : Thread nD τ).loc main_arg1))) (rw_ (m ((c : Thread nD τ).loc main_arg2)) j0))
    (rw_ (m ((c : Thread nD τ).loc main_arg0)) j0) (gw (m ((c : Thread nD τ).loc main_arg1))) j1)
  pointwise [Value.res_out1, Value.res_main_v50, Norm.msq, rw_, gw, dy, er, ← dy_eq]
  simp only [Finset.univ_unique, Finset.sum_singleton]

/-- Its copy is the same. -/
theorem ref2 (c : Dev nD) : Value.res_out2 m c = specDx (m ((c : Thread nD τ).loc main_arg0)) (m ((c : Thread nD τ).loc main_arg1)) (m ((c : Thread nD τ).loc main_arg2)) := by
  refine Eq.trans ?_ (ref1 m c)
  rfl

/-- Every run of the reference ends with the same values in its results and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v51) = specL (m ((c : Thread nD τ).loc main_arg0)) (m ((c : Thread nD τ).loc main_arg1)) (m ((c : Thread nD τ).loc main_arg2))
    ∧ r.2.mem ((c.tc : Thread nD τ).loc main_v50) = specDx (m ((c : Thread nD τ).loc main_arg0)) (m ((c : Thread nD τ).loc main_arg1)) (m ((c : Thread nD τ).loc main_arg2))
    ∧ r.2.mem ((c.tc : Thread nD τ).loc main_v52) = specDx (m ((c : Thread nD τ).loc main_arg0)) (m ((c : Thread nD τ).loc main_arg1)) (m ((c : Thread nD τ).loc main_arg2))
    ∧ r.2.mem ((c.tc : Thread nD τ).loc main_v53) = specDg (m ((c : Thread nD τ).loc main_arg0)) (m ((c : Thread nD τ).loc main_arg1)) (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  run_from Cert.LossReferenceIdeal.Value.run m ρ
  · funext j
    idx_vars j
    refine Eq.trans ?_ (loss_eq _ fun i => Finset.sum_nonneg fun k _ => Norm.sq_nonneg _)
    pointwise [er, Norm.msq, rw_, gw]
  · exact ref1 m c
  · exact ref2 m c
  · funext j
    idx_vars j
    pointwise [specDg, Norm.dg, Norm.msq, rw_, gw, dy, er, ← dy_eq]
    refine (Fin.sum_univ_one (M := EReal) _).trans ?_
    exact Finset.sum_congr rfl fun i _ => mul_comm (G := EReal) _ _

end Ref

instance : Cert.LossKernel.Facts := Cert.LossKernel.Gen.facts
instance : Cert.LossKernelIdeal.Facts := Cert.LossKernelIdeal.Gen.facts
instance : Cert.LossReferenceIdeal.Facts := Cert.LossReferenceIdeal.Gen.facts

/-- The kernel runs to its end on machine floats and leaves its arguments as they were. -/
theorem frame_P : Cert.quiescent_LossKernel := fun m ρ _ => Cert.LossKernel.Gen.frame m ρ

/-- The same over the extended reals. -/
theorem frame_PI : Cert.quiescent_LossKernelIdeal := fun m ρ _ => Cert.LossKernelIdeal.Gen.frame m ρ

/-- The reference runs to its end over the extended reals and leaves its arguments as they were. -/
theorem frame_RI : Cert.quiescent_LossReferenceIdeal := by
  intro m g _
  hlo_run
  · exact fun _ => ⟨trivial, trivial, trivial⟩
  · exact sem_eq_zero_of_no_sems (sig := Cert.LossReferenceIdeal.sig) (by decide) _

/-- Kernel and reference end with equal results. -/
theorem value : Cert.algebraic_LossKernelIdeal_LossReferenceIdeal := by
  pair_intro
  · run_from run_ker m g
  · run_from run_ref m' g'

end Cert.Loss
-- ==== Proof.RmsFwd.lean ====
/- The root-mean-square norm of the rows that enter the first mixer. -/
module

public import proofs.«01_k».proof.Defs
public import proofs.«01_k».proof.Proof.Gen.RmsFwdKernel.Frame
public import proofs.«01_k».proof.Proof.Gen.RmsFwdKernelIdeal.Frame
public import proofs.«01_k».proof.Proof.Gen.RmsFwdReferenceIdeal.Run
public import proofs.«01_k».proof.Proof.NormPure
public import Idealize.ShloMosaic.Lib.Pipeline.ValueKit
public import Idealize.ShloMosaic.Lib.Claim
public import Idealize.ShloMosaic.Lib.Quiescent
public import Idealize.ShloMosaic.Lib.Affine

@[expose] public section

set_option maxRecDepth 16384

noncomputable section

open Idealize.ShloMosaic Idealize.ShloMosaic.TcCoe Idealize.SL.Sem
open Idealize.ShloMosaic.Pipeline (Dat)
open scoped BigOperators

namespace Cert.RmsFwd

section Ker
open Cert.RmsFwdKernelIdeal Cert.RmsFwdKernelIdeal.Gen

/-- The rows normed. -/
def spec (x : FVec Ideal S4096x1024 .f32) (g : FVec Ideal S1024 .f32) : FVec Ideal S4096x1024 .bf16 :=
  fun j => x j * Ideal.rsqrt (Norm.msq fun k => x (ix2 (j 0) k)) * g (ix1 (j 1))

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 1024) :
    iblk m c 0 t (ix2 r k) = m ((c : Thread nD τ).loc main_arg0) (ix2 (row t r) k) := by
  unfold row; blk_ext [iblk, V, idx t]
theorem rd1 (c : Dev nD) (t : Fin cfg0.N) (k : Fin 1024) :
    iblk m c 1 t (ix2 (0 : Fin 1) k) = m ((c : Thread nD τ).loc main_arg1) (ix1 k) := by
  blk_simp [iblk, idx t]; entry_read; pointwise; blk_ext [idx t]
theorem emb2 (t : Fin cfg0.N) (r : Fin 512) (l : Fin 1024) : ((cfg0.win 2).blk t).view.emb (ix2 r l) = ix2 (row t r) l := by
  unfold row; blk_ext [idx t]

/-- A block of normed rows. -/
theorem pay (x : FVec Ideal S512x1024 .f32) (g : FVec Ideal S1x1024 .f32) (r : Fin 512) (l : Fin 1024) :
    k0_pay1 (F := Ideal) x g (ix2 r l) = x (ix2 r l) * Ideal.rsqrt (Norm.msq fun k => x (ix2 r k)) * g (ix2 (0 : Fin 1) l) := by
  pointwise [k0_pay1, Norm.msq]

/-- The run leaves the normed rows. -/
theorem final2 (c : Dev nD) : (dats m 0 c).arrAt 2 (cfgs 0).N = spec (m ((c : Thread nD τ).loc main_arg0)) (m ((c : Thread nD τ).loc main_arg1)) := by
  refine (dats m 0 c).arrAt_eq_of_covers 2 _ (by decide +kernel) fun t _ y => ?_
  blk_simp; rw [after0_2]; frame_out
  obtain ⟨r, l, rfl⟩ : ∃ (r : Fin 512) (l : Fin 1024), y = ix2 r l := ⟨y 0, y 1, eq_ix2 y⟩
  refine Eq.trans ?_ (congrArg _ (emb2 t r l)).symm
  refine (pay _ _ r l).trans ?_
  rw [funext fun k => rd0 m c t r k, rd0 m c t r l, rd1 m c t l]
  rfl

/-- Every run of the kernel ends with the normed rows in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.RmsFwdKernelIdeal.Gen.run_main m ρ
  exact final2 m c

end Ker

section Ref
open Cert.RmsFwdReferenceIdeal Cert.RmsFwdReferenceIdeal.Gen

variable (m : (ℓ : Loc nD τ sig) → Buf (Elt Ideal) ℓ)

attribute [local irreducible] spec

/-- Every run of the reference ends with the same rows in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v13) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.RmsFwdReferenceIdeal.Value.run m ρ
  funext j
  idx_vars j
  unfold spec
  pointwise [Norm.msq]

end Ref

instance : Cert.RmsFwdKernel.Facts := Cert.RmsFwdKernel.Gen.facts
instance : Cert.RmsFwdKernelIdeal.Facts := Cert.RmsFwdKernelIdeal.Gen.facts
instance : Cert.RmsFwdReferenceIdeal.Facts := Cert.RmsFwdReferenceIdeal.Gen.facts

/-- The kernel runs to its end on machine floats and leaves its arguments as they were. -/
theorem frame_P : Cert.quiescent_RmsFwdKernel := fun m ρ _ => Cert.RmsFwdKernel.Gen.frame m ρ

/-- The same over the extended reals. -/
theorem frame_PI : Cert.quiescent_RmsFwdKernelIdeal := fun m ρ _ => Cert.RmsFwdKernelIdeal.Gen.frame m ρ

/-- The reference runs to its end over the extended reals and leaves its arguments as they were. -/
theorem frame_RI : Cert.quiescent_RmsFwdReferenceIdeal := by
  intro m g _
  hlo_run
  · exact fun _ => ⟨trivial, trivial⟩
  · exact sem_eq_zero_of_no_sems (sig := Cert.RmsFwdReferenceIdeal.sig) (by decide) _

/-- Kernel and reference end with equal results. -/
theorem value : Cert.algebraic_RmsFwdKernelIdeal_RmsFwdReferenceIdeal := by
  pair_intro
  · run_from run_ker m g
  · run_from run_ref m' g'

end Cert.RmsFwd
-- ==== Proof.GluFwd.lean ====
/- The gated activation of the state space mixer: gelu, times the gate. It is written beside the other mixer's columns. -/
module

public import proofs.«01_k».proof.Defs
public import proofs.«01_k».proof.Proof.Gen.GluFwdKernel.Frame
public import proofs.«01_k».proof.Proof.Gen.GluFwdKernelIdeal.Frame
public import proofs.«01_k».proof.Proof.Gen.GluFwdReferenceIdeal.Run
public import proofs.«01_k».proof.Proof.GeluPure
public import Idealize.ShloMosaic.Lib.Pipeline.ValueKit
public import Idealize.ShloMosaic.Lib.Claim
public import Idealize.ShloMosaic.Lib.Quiescent
public import Idealize.ShloMosaic.Lib.Affine

@[expose] public section

set_option maxRecDepth 16384

noncomputable section

open Idealize.ShloMosaic Idealize.ShloMosaic.TcCoe Idealize.SL.Sem
open Idealize.ShloMosaic.Pipeline (Dat)
open scoped BigOperators

namespace Cert.GluFwd
open Cert.Gelu

section Ker
open Cert.GluFwdKernelIdeal Cert.GluFwdKernelIdeal.Gen

/-- One entry of the gated activation of a row `x`, at the matrix `W` and the bias `b`. -/
def act (x : Fin 512 → EReal) (W : Fin 512 → Fin 512 → EReal) (b : Fin 512 → EReal) (k : Fin 512) : EReal :=
  gelu (x k) * Gelu.sig ((∑ q : Fin 512, gelu (x q) * W q k) + b k)

/-- The first half of the columns as they were, the activation in the second half. -/
def spec (X : FVec Ideal S4096x512 .f32) (W : FVec Ideal S512x512 .f32) (b : FVec Ideal S512 .f32) (C : FVec Ideal S4096x1024 .bf16) :
    FVec Ideal S4096x1024 .bf16 :=
  fun j => if h : (j 1 : ℕ) < 512 then C j
    else act (fun k => X (ix2 (j 0) k)) (fun q k => W (ix2 q k)) (fun k => b (ix1 k)) ⟨(j 1 : ℕ) - 512, by have := (j 1).isLt; change (j 1 : ℕ) < 1024 at this; omega⟩

/-- The windows' block indices at every grid point. -/
theorem idx : ∀ t : Fin cfg0.N, win0_0.index t = ![t.val, 0] ∧ win0_1.index t = ![0, 0] ∧ win0_2.index t = ![0, 0] ∧ win0_3.index t = ![t.val, 1] :=
  (by decide +kernel : ∀ t : Fin grid0.N, _)

variable (m : (ℓ : Loc nD τ sig) → Buf (Elt Ideal) ℓ)

theorem t_lt (t : Fin cfg0.N) : (t : ℕ) < 8 := lt_of_lt_of_eq t.isLt N_0

/-- The row of the result a block's row sits at. -/
def row (t : Fin cfg0.N) (r : Fin 512) : Fin 4096 := ⟨t.val * 512 + r, by have := t_lt t; omega⟩

theorem rd0 (c : Dev nD) (t : Fin cfg0.N) (r : Fin 512) (k : Fin 512) : iblk m c 0 t (ix2 r k) = (m ((c : Thread nD τ).loc main_arg0)) (ix2 (row t r) k) := by
  unfold row; blk_ext [iblk, V, idx t]
theorem rd1 (c : Dev nD) (t : Fin cfg0.N) (l : Fin 512) (k : Fin 512) : iblk m c 1 t (ix2 l k) = (m ((c : Thread nD τ).loc main_arg1)) (ix2 l k) := by
  blk_simp [iblk, idx t]; entry_read; pointwise; blk_ext [idx t]
theorem rd2 (c : Dev nD) (t : Fin cfg0.N) (k : Fin 512) : iblk m c 2 t (ix2 (0 : Fin 1) k) = (m ((c : Thread nD τ).loc main_arg2)) (ix1 k) := by
  blk_simp [iblk, idx t]; entry_read; pointwise; blk_ext [idx t]
/-- The column of the result a block's column sits at. -/
def hi (k : Fin 512) : Fin 1024 := ⟨512 + k.val, by omega⟩
theorem emb3 (t : Fin cfg0.N) (r : Fin 512) (l : Fin 512) : ((cfg0.win 3).blk t).view.emb (ix2 r l) = ix2 (row t r) (hi l) := by
  unfold row hi; blk_ext [idx t]

/-- The named constant's value. -/
theorem nC : Named.named (F := Ideal) Cert.GluFwdKernelIdeal.κ "gelu_c" (φ := .f32) 0x3D372713#32 = ((8943 / 200000 : ℝ) : EReal) :=
  IdealRules.named_const.ideal_named_scalar _ _ _ _ rfl

/-- A block of the activation. -/
theorem payS (x : FVec Ideal S512x512 .f32) (w : FVec Ideal S512x512 .bf16) (b : FVec Ideal S1x512 .f32) (r l : Fin 512) :
    k0_pay1 (F := Ideal) x w b (ix2 r l)
      = act (fun k => x (ix2 r k)) (fun q k => w (ix2 q k)) (fun k => b (ix2 (0 : Fin 1) k)) l := by
  pointwise [k0_pay1, nC, act, gelu, th, Gelu.sig]

/-- In the first half of the columns the array is as it was, -/
theorem spec_lo (X : FVec Ideal S4096x512 .f32) (W : FVec Ideal S512x512 .f32) (b : FVec Ideal S512 .f32) (C : FVec Ideal S4096x1024 .bf16)
    (j : S4096x1024.Idx) (h : (j 1 : ℕ) < 512) : spec X W b C j = C j := by
  unfold spec; exact dif_pos h
/-- and in the second half it is the activation. -/
theorem spec_hi (X : FVec Ideal S4096x512 .f32) (W : FVec Ideal S512x512 .f32) (b : FVec Ideal S512 .f32) (C : FVec Ideal S4096x1024 .bf16)
    (r : Fin 4096) (l : Fin 512) :
    spec X W b C (ix2 r (hi l)) = act (fun k => X (ix2 r k)) (fun q k => W (ix2 q k)) (fun k => b (ix1 k)) l := by
  unfold spec
  refine (dif_neg (show ¬ (512 + l.val < 512) by omega)).trans ?_
  exact congrArg (act _ _ _) (Fin.ext (show 512 + l.val - 512 = l.val by omega))

/-- The result's buffer starts as a copy of the last argument. -/
theorem entry3 (c : Dev nD) (j : S4096x1024.Idx) : (dats m 0 c).A 3 ((cfg0.win 3).arr.view.emb j) = m ((c : Thread nD τ).loc main_arg3) j := by
  refine (congrFun (A_eq m c 3) _).trans ?_
  show V m c main_v2 j = _
  entry_read
  try rfl

/-- An index outside the second half of the columns. -/
theorem out_lo (j : (cfg0.win 3).shape.Idx) (hj : ¬ (cfg0.win 3).cell j (1 : Fin 2) = 1) : ((j : S4096x1024.Idx) 1 : ℕ) < 512 := by
  have h1 : ((j : S4096x1024.Idx) 1 : ℕ) < 1024 := ((j : S4096x1024.Idx) 1).isLt
  have h2 : ¬ ((j : S4096x1024.Idx) 1 : ℕ) / 512 = 1 := hj
  omega

/-- The run leaves the activation in the second half of the columns. -/
theorem final3 (c : Dev nD) : (dats m 0 c).arrAt 3 (cfgs 0).N = spec (m ((c : Thread nD τ).loc main_arg0)) (m ((c : Thread nD τ).loc main_arg1)) (m ((c : Thread nD τ).loc main_arg2)) (m ((c : Thread nD τ).loc main_arg3)) := by
  refine (dats m 0 c).arrAt_eq_of_coversWhere_of_agree 3 _ (fun β => β (1 : Fin 2) = 1) (by decide +kernel) (fun t _ y => ?_) (fun j hj => ?_)
  · blk_simp; rw [after0_3]; unfold outsAt0 out0_A_3; frame_out
    obtain ⟨r, l, rfl⟩ : ∃ (r : Fin 512) (l : Fin 512), y = ix2 r l := ⟨y 0, y 1, eq_ix2 y⟩
    refine Eq.trans ?_ (congrArg _ (emb3 t r l)).symm
    refine Eq.trans ?_ (spec_hi _ _ _ _ (row t r) l).symm
    refine (payS (iblk m c 0 t) (iblk m c 1 t) (iblk m c 2 t) r l).trans ?_
    rw [funext fun k => rd0 m c t r k, funext fun q => funext fun k => rd1 m c t q k, funext fun k => rd2 m c t k]
  · exact (entry3 m c j).trans (spec_lo _ _ _ _ j (out_lo j hj)).symm

/-- Every run of the kernel ends with that array in its result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v2) = spec (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.GluFwdKernelIdeal.Gen.run_main m ρ
  exact final3 m c

end Ker

section Ref
open Cert.GluFwdReferenceIdeal Cert.GluFwdReferenceIdeal.Gen

variable (m : (ℓ : Loc nD τ sig) → Buf (Elt Ideal) ℓ)

attribute [local irreducible] Cert.Gelu.sig Cert.Gelu.th Cert.Gelu.gelu

/-- Every run of the reference ends with the same array in its result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v28) = spec (m ((c : Thread nD τ).loc main_arg0)) (m ((c : Thread nD τ).loc main_arg1)) (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  run_from Cert.GluFwdReferenceIdeal.Value.run m ρ
  funext j
  idx_vars j
  pointwise [spec, act]
  simp only [th_eq, sig_eq', gelu_eq']

end Ref

instance : Cert.GluFwdKernel.Facts := Cert.GluFwdKernel.Gen.facts
instance : Cert.GluFwdKernelIdeal.Facts := Cert.GluFwdKernelIdeal.Gen.facts
instance : Cert.GluFwdReferenceIdeal.Facts := Cert.GluFwdReferenceIdeal.Gen.facts

/-- The kernel runs to its end on machine floats and leaves its arguments as they were. -/
theorem frame_P : Cert.quiescent_GluFwdKernel := fun m ρ _ => Cert.GluFwdKernel.Gen.frame m ρ

/-- The same over the extended reals. -/
theorem frame_PI : Cert.quiescent_GluFwdKernelIdeal := fun m ρ _ => Cert.GluFwdKernelIdeal.Gen.frame m ρ

/-- The reference runs to its end over the extended reals and leaves its arguments as they were. -/
theorem frame_RI : Cert.quiescent_GluFwdReferenceIdeal := by
  intro m g _
  hlo_run
  · exact fun _ => ⟨trivial, trivial, trivial, trivial⟩
  · exact sem_eq_zero_of_no_sems (sig := Cert.GluFwdReferenceIdeal.sig) (by decide) _

/-- The named constant is the value that its bits stand for. -/
theorem pres : Cert.preserves_GluFwdKernel_GluFwdKernelIdeal :=
  IdealRules.named_const.statement Cert.GluFwdKernelIdeal.κ "gelu_c" .f32 0x3D372713#32 ((8943 / 200000 : ℝ) : EReal) rfl

/-- Kernel and reference end with equal results. -/
theorem value : Cert.algebraic_GluFwdKernelIdeal_GluFwdReferenceIdeal := by
  pair_intro
  · run_from run_ker m g
  · run_from run_ref m' g'

end Cert.GluFwd
-- ==== Proof.SconvFwd.lean ====
/- The short gated convolution of the forward pass: the first gate times three taps over the second gate times the input. -/
module

public import proofs.«01_k».proof.Defs
public import proofs.«01_k».proof.Proof.Gen.SconvFwdKernel.Frame
public import proofs.«01_k».proof.Proof.Gen.SconvFwdKernelIdeal.Frame
public import proofs.«01_k».proof.Proof.Gen.SconvFwdReferenceIdeal.Run
public import proofs.«01_k».proof.Proof.SconvRef
public import Idealize.ShloMosaic.Lib.Pipeline.ValueKit
public import Idealize.ShloMosaic.Lib.Claim
public import Idealize.ShloMosaic.Lib.Quiescent
public import Idealize.ShloMosaic.Lib.Affine

@[expose] public section

set_option maxRecDepth 16384

noncomputable section

open Idealize.ShloMosaic Idealize.ShloMosaic.TcCoe Idealize.SL.Sem
open Idealize.ShloMosaic.Pipeline (Dat)
open scoped BigOperators

namespace Cert.SconvFwd
open Cert.Sconv (dn sge1 sge2)

/-- Three taps of a column, times a gate. -/
def conv (w0 w1 w2 : EReal) (u : Fin 4096 → EReal) (r : Fin 4096) : EReal := w0 * dn 2 u r + w1 * dn 1 u r + w2 * u r

section Ker
open Cert.SconvFwdKernelIdeal Cert.SconvFwdKernelIdeal.Gen

/-- The column of products the convolution runs over. -/
def uCol (X : FVec Ideal S4096x2048 .f32) (n : Fin 512) (k : Fin 4096) : EReal :=
  X (ix2 k ⟨1024 + (n : ℕ), by omega⟩) * X (ix2 k ⟨(n : ℕ), by omega⟩)

/-- The mixer's result at a row and a column. -/
def val (X : FVec Ideal S4096x2048 .f32) (W : FVec Ideal S3x512 .f32) (r : Fin 4096) (n : Fin 512) : EReal :=
  X (ix2 r ⟨512 + (n : ℕ), by omega⟩) * conv (W (ix2 0 n)) (W (ix2 1 n)) (W (ix2 2 n)) (uCol X n) r

/-- The mixer's result. -/
def spec (X : FVec Ideal S4096x2048 .f32) (W : FVec Ideal S3x512 .f32) : FVec Ideal S4096x512 .bf16 := fun j => val X W (j 0) (j 1)

/-- The array the kernel's run leaves: the result in the first half of the columns, `D` in the others. -/
def full (X : FVec Ideal S4096x2048 .f32) (W : FVec Ideal S3x512 .f32) (D : FVec Ideal S4096x1024 .bf16) : FVec Ideal S4096x1024 .bf16 :=
  fun j => if h : (j 1 : ℕ) < 512 then val X W (j 0) ⟨(j 1 : ℕ), h⟩ else D j

/-- The windows' block indices at every grid point. -/
theorem idx : ∀ t : Fin cfg0.N, win0_0.index t = ![0, t.val] ∧ win0_1.index t = ![0, t.val + 4] ∧ win0_2.index t = ![0, t.val + 8]
    ∧ win0_3.index t = ![0, t.val] ∧ win0_4.index t = ![0, t.val] :=
  (by decide +kernel : ∀ t : Fin grid0.N, _)

variable (m : (ℓ : Loc nD τ sig) → Buf (Elt Ideal) ℓ)

theorem t_lt (t : Fin cfg0.N) : (t : ℕ) < 4 := lt_of_lt_of_eq t.isLt N_0

/-- Lane `l` of the block at point `t`. -/
def lane (t : Fin cfg0.N) (l : Fin 128) : Fin 512 := ⟨t.val * 128 + l, by have := t_lt t; omega⟩

theorem rd0 (c : Dev nD) (t : Fin cfg0.N) (r : Fin 4096) (l : Fin 128) :
    iblk m c 0 t (ix2 r l) = (m ((c : Thread nD τ).loc main_arg0)) (ix2 r ⟨(lane t l : ℕ), by omega⟩) := by
  unfold lane; blk_ext [iblk, V, idx t]
theorem rd1 (c : Dev nD) (t : Fin cfg0.N) (r : Fin 4096) (l : Fin 128) :
    iblk m c 1 t (ix2 r l) = (m ((c : Thread nD τ).loc main_arg0)) (ix2 r ⟨512 + (lane t l : ℕ), by omega⟩) := by
  unfold lane; blk_ext [iblk, V, idx t]
theorem rd2 (c : Dev nD) (t : Fin cfg0.N) (r : Fin 4096) (l : Fin 128) :
    iblk m c 2 t (ix2 r l) = (m ((c : Thread nD τ).loc main_arg0)) (ix2 r ⟨1024 + (lane t l : ℕ), by omega⟩) := by
  unfold lane; blk_ext [iblk, V, idx t]
theorem rd3 (c : Dev nD) (t : Fin cfg0.N) (r : Fin 3) (l : Fin 128) :
    iblk m c 3 t (ix2 r l) = (m ((c : Thread nD τ).loc main_arg1)) (ix2 r (lane t l)) := by
  unfold lane; blk_ext [iblk, V, idx t]
theorem uCol_blk (c : Dev nD) (t : Fin cfg0.N) (l : Fin 128) :
    (fun k : Fin 4096 => (show FVec Ideal S4096x128 .f32 from iblk m c 2 t) (ix2 k l) * (show FVec Ideal S4096x128 .f32 from iblk m c 0 t) (ix2 k l))
      = uCol (m ((c : Thread nD τ).loc main_arg0)) (lane t l) :=
  funext fun k => congrArg₂ (· * ·) (rd2 m c t k l) (rd0 m c t k l)
theorem emb4 (t : Fin cfg0.N) (r : Fin 4096) (l : Fin 128) :
    ((cfg0.win 4).blk t).view.emb (ix2 r l) = ix2 r (⟨(lane t l : ℕ), by omega⟩ : Fin 1024) := by
  unfold lane; blk_ext [idx t]

/-- A block of the result. -/
theorem pay (a c d : FVec Ideal S4096x128 .f32) (w0 w1 w2 : FVec Ideal S1x128 .f32) (r : Fin 4096) (l : Fin 128) :
    k0_pay1 (F := Ideal) d c a w0 w1 w2 (ix2 r l)
      = d (ix2 r l) * conv (w0 (ix2 0 l)) (w1 (ix2 0 l)) (w2 (ix2 0 l)) (fun k => c (ix2 k l) * a (ix2 k l)) r := by
  unfold conv
  pointwise [k0_pay1]
  refine congrArg₂ _ rfl (congrArg₂ _ (congrArg₂ _ (congrArg₂ _ rfl ?_) (congrArg₂ _ rfl ?_)) rfl)
  · unfold dn
    by_cases h : (r : ℕ) < 8
    · rw [dif_pos h, sge2 ⟨r, h⟩]
      by_cases h2 : 2 ≤ (r : ℕ)
      · have e : ((r : ℕ) + 4096 - 2) % 4096 = r - 2 := by omega
        simp only [e, if_pos h2]; rfl
      · simp only [if_neg h2]; rfl
    · have e : (8 + ((r : ℕ) - 8) + 4096 - 2) % 4096 = r - 2 := by omega
      have h2 : 2 ≤ (r : ℕ) := by omega
      simp only [e, dif_neg h, if_pos h2]
  · unfold dn
    by_cases h : (r : ℕ) < 8
    · rw [dif_pos h, sge1 ⟨r, h⟩]
      by_cases h2 : 1 ≤ (r : ℕ)
      · have e : ((r : ℕ) + 4096 - 1) % 4096 = r - 1 := by omega
        simp only [e, if_pos h2]; rfl
      · simp only [if_neg h2]; rfl
    · have e : (8 + ((r : ℕ) - 8) + 4096 - 1) % 4096 = r - 1 := by omega
      have h2 : 1 ≤ (r : ℕ) := by omega
      simp only [e, dif_neg h, if_pos h2]

/-- In the first half of the columns the array is the result, -/
theorem full_lo (X : FVec Ideal S4096x2048 .f32) (W : FVec Ideal S3x512 .f32) (D : FVec Ideal S4096x1024 .bf16) (r : Fin 4096) (n : Fin 512) :
    full X W D (ix2 r (⟨(n : ℕ), by omega⟩ : Fin 1024)) = val X W r n := by
  unfold full; exact dif_pos n.isLt
/-- and in the second half it is as it was. -/
theorem full_hi (X : FVec Ideal S4096x2048 .f32) (W : FVec Ideal S3x512 .f32) (D : FVec Ideal S4096x1024 .bf16) (j : S4096x1024.Idx)
    (h : ¬ (j 1 : ℕ) < 512) : full X W D j = D j := by
  unfold full; exact dif_neg h

/-- An index outside the first half of the columns. -/
theorem out_hi (j : (cfg0.win 4).shape.Idx) (hj : ¬ (cfg0.win 4).cell j (1 : Fin 2) < 4) : ¬ ((j : S4096x1024.Idx) 1 : ℕ) < 512 := by
  have h2 : ¬ ((j : S4096x1024.Idx) 1 : ℕ) / 128 < 4 := hj
  omega

/-- The run leaves the result in the first half of the columns. -/
theorem final4 (c : Dev nD) (r : Fin 4096) (n : Fin 512) :
    (show FVec Ideal S4096x1024 .bf16 from (dats m 0 c).arrAt 4 (cfgs 0).N) (ix2 r (⟨(n : ℕ), by omega⟩ : Fin 1024)) = val (m ((c : Thread nD τ).loc main_arg0)) (m ((c : Thread nD τ).loc main_arg1)) r n := by
  have h : (dats m 0 c).arrAt 4 (cfgs 0).N = full (m ((c : Thread nD τ).loc main_arg0)) (m ((c : Thread nD τ).loc main_arg1)) ((dats m 0 c).A 4) := by
    refine (dats m 0 c).arrAt_eq_of_coversWhere_of_agree 4 _ (fun β => β (1 : Fin 2) < 4) (by decide +kernel) (fun t _ y => ?_) (fun j hj => ?_)
    · blk_simp; rw [after0_4]; frame_out
      obtain ⟨r, l, rfl⟩ : ∃ (r : Fin 4096) (l : Fin 128), y = ix2 r l := ⟨y 0, y 1, eq_ix2 y⟩
      refine Eq.trans ?_ (congrArg _ (emb4 t r l)).symm
      refine (pay _ _ _ _ _ _ r l).trans ?_
      rw [uCol_blk]
      refine Eq.trans ?_ (full_lo _ _ _ r (lane t l)).symm
      unfold val conv
      refine congrArg₂ (· * ·) (rd1 m c t r l) (congrArg₂ (· + ·) (congrArg₂ (· + ·) (congrArg₂ (· * ·) ?_ rfl)
        (congrArg₂ (· * ·) ?_ rfl)) (congrArg₂ (· * ·) ?_ rfl))
      · pointwise; exact rd3 m c t 0 l
      · pointwise; exact rd3 m c t 1 l
      · pointwise; exact rd3 m c t 2 l
    · exact (full_hi _ _ _ j (out_hi j hj)).symm
  exact (congrFun h _).trans (full_lo _ _ _ r n)

/-- The slice after the run reads the first half of the columns. -/
theorem tail1 (c : Dev nD) (r : Fin 4096) (n : Fin 512) :
    Pipeline.afterTail₀ cfgs (dats m) 0 (V0 m) [hostOps1] c main_v1 (ix2 r n)
      = (show FVec Ideal S4096x1024 .bf16 from (dats m 0 c).arrAt 4 (cfgs 0).N) (ix2 r (⟨(n : ℕ), by omega⟩ : Fin 1024)) := by
  have h := Pipeline.Dat.withArrays_arrAt (dats m 0 c) sharedIn0 (V0 m c) (A_eq m c) 4
  unfold Pipeline.afterTail₀
  simp only [hostOps1, List.flatten_cons, List.flatten_nil, List.append_nil, StableHlo.after_cons, StableHlo.after_nil]
  rw [StableHlo.unary_result]
  refine (congrArg (fun z : FVec Ideal S4096x1024 .bf16 => extractStridedSlice S4096x512 ![0, 0] z slices_S4096x1024_S4096x512_0_0 (ix2 r n)) h).trans ?_
  generalize (dats m 0 c).arrAt 4 cfg0.N = z
  pointwise

/-- Every run of the kernel ends with the mixer's result and its arguments unchanged. -/
theorem run_ker (ρ : Dev nD → PrngReg) : θ_run defs (onTc (τ := τ) (main (F := Ideal))) ⟨m, fun _ => 0, ρ⟩ fun r => ∀ c : Dev nD,
    r.2.mem ((c.tc : Thread nD τ).loc main_v1) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.SconvFwdKernelIdeal.Gen.run_main m ρ
  funext j
  idx_vars j
  exact (tail1 m c j0 j1).trans (final4 m c j0 j1)

end Ker

section Ref
open Cert.SconvFwdReferenceIdeal Cert.SconvFwdReferenceIdeal.Gen

variable (m : (ℓ : Loc nD τ sig) → Buf (Elt Ideal) ℓ)

/-- Every run of the reference ends with the same result and its arguments unchanged. -/
theorem run_ref (ρ : Dev nD → PrngReg) : θ_run defs (onTc (τ := τ) (main (F := Ideal))) ⟨m, fun _ => 0, ρ⟩ fun r => ∀ c : Dev nD,
    r.2.mem ((c.tc : Thread nD τ).loc main_v31) = spec (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.SconvFwdReferenceIdeal.Value.run m ρ
  funext j
  idx_vars j
  pointwise
  refine congrArg₂ (· * ·) rfl (congrArg₂ (· + ·) (congrArg₂ (· + ·) ?_ ?_) (mul_comm _ _))
  · exact (mul_comm _ _).trans (congrArg₂ (· * ·) rfl (Sconv.dn_two (uCol (m ((c : Thread nD τ).loc main_arg0)) j1) j0))
  · exact (mul_comm _ _).trans (congrArg₂ (· * ·) rfl (Sconv.dn_one (uCol (m ((c : Thread nD τ).loc main_arg0)) j1) j0))

end Ref

instance : Cert.SconvFwdKernel.Facts := Cert.SconvFwdKernel.Gen.facts
instance : Cert.SconvFwdKernelIdeal.Facts := Cert.SconvFwdKernelIdeal.Gen.facts
instance : Cert.SconvFwdReferenceIdeal.Facts := Cert.SconvFwdReferenceIdeal.Gen.facts

/-- The kernel runs to its end on machine floats and leaves its arguments as they were. -/
theorem frame_P : Cert.quiescent_SconvFwdKernel := fun m ρ _ => Cert.SconvFwdKernel.Gen.frame m ρ

/-- The same over the extended reals. -/
theorem frame_PI : Cert.quiescent_SconvFwdKernelIdeal := fun m ρ _ => Cert.SconvFwdKernelIdeal.Gen.frame m ρ

/-- The reference runs to its end over the extended reals and leaves its arguments as they were. -/
theorem frame_RI : Cert.quiescent_SconvFwdReferenceIdeal := by
  intro m g _
  hlo_run
  · exact fun _ => ⟨trivial, trivial⟩
  · exact sem_eq_zero_of_no_sems (sig := Cert.SconvFwdReferenceIdeal.sig) (by decide) _

/-- Kernel and reference end with equal results. -/
theorem value : Cert.algebraic_SconvFwdKernelIdeal_SconvFwdReferenceIdeal := by
  pair_intro
  · run_from run_ker m g
  · run_from run_ref m' g'

end Cert.SconvFwd
-- ==== Proof.lean ====
/- The claims of this directory, joined. -/
module
public import proofs.«01_k».proof.Defs
public import proofs.«01_k».proof.Proof.SconvClaims
public import proofs.«01_k».proof.Proof.UpDx
public import proofs.«01_k».proof.Proof.EvenDx
public import proofs.«01_k».proof.Proof.OddDx
public import proofs.«01_k».proof.Proof.DownDx
public import proofs.«01_k».proof.Proof.DownDw
public import proofs.«01_k».proof.Proof.UpDw
public import proofs.«01_k».proof.Proof.OutDx
public import proofs.«01_k».proof.Proof.OutDw
public import proofs.«01_k».proof.Proof.EvenDw
public import proofs.«01_k».proof.Proof.OddDw
public import proofs.«01_k».proof.Proof.EvenIn
public import proofs.«01_k».proof.Proof.OddIn
public import proofs.«01_k».proof.Proof.MixOut
public import proofs.«01_k».proof.Proof.Down
public import proofs.«01_k».proof.Proof.LastDown
public import proofs.«01_k».proof.Proof.Up
public import proofs.«01_k».proof.Proof.Glu
public import proofs.«01_k».proof.Proof.Ffn
public import proofs.«01_k».proof.Proof.UpDx0
public import proofs.«01_k».proof.Proof.UpDx1
public import proofs.«01_k».proof.Proof.UpDx2
public import proofs.«01_k».proof.Proof.OddDx1
public import proofs.«01_k».proof.Proof.EvenDx0
public import proofs.«01_k».proof.Proof.MixOut0
public import proofs.«01_k».proof.Proof.MixOut1
public import proofs.«01_k».proof.Proof.MixOut2
public import proofs.«01_k».proof.Proof.Down1
public import proofs.«01_k».proof.Proof.Down3
public import proofs.«01_k».proof.Proof.Loss
public import proofs.«01_k».proof.Proof.RmsFwd
public import proofs.«01_k».proof.Proof.GluFwd
public import proofs.«01_k».proof.Proof.SconvFwd
public import proofs.«01_k».proof.Proof.Gen.Pre_ffn_finite
public import proofs.«01_k».proof.Proof.Gen.Pre_glu_finite

@[expose] public section

noncomputable section

namespace Cert.Proof

/-- Every claim about the calls taken. -/
theorem claim : Cert.Claim :=
  ⟨Cert.SconvKernel.Gen.facts, Cert.SconvKernelIdeal.Gen.facts, Cert.SconvReferenceIdeal.Gen.facts,
    Cert.UpDxKernel.Gen.facts, Cert.UpDxKernelIdeal.Gen.facts, Cert.UpDxReferenceIdeal.Gen.facts,
    Cert.EvenDxKernel.Gen.facts, Cert.EvenDxKernelIdeal.Gen.facts, Cert.EvenDxReferenceIdeal.Gen.facts,
    Cert.OddDxKernel.Gen.facts, Cert.OddDxKernelIdeal.Gen.facts, Cert.OddDxReferenceIdeal.Gen.facts,
    Cert.DownDxKernel.Gen.facts, Cert.DownDxKernelIdeal.Gen.facts, Cert.DownDxReferenceIdeal.Gen.facts,
    Cert.DownDwKernel.Gen.facts, Cert.DownDwKernelIdeal.Gen.facts, Cert.DownDwReferenceIdeal.Gen.facts,
    Cert.UpDwKernel.Gen.facts, Cert.UpDwKernelIdeal.Gen.facts, Cert.UpDwReferenceIdeal.Gen.facts,
    Cert.OutDxKernel.Gen.facts, Cert.OutDxKernelIdeal.Gen.facts, Cert.OutDxReferenceIdeal.Gen.facts,
    Cert.OutDwKernel.Gen.facts, Cert.OutDwKernelIdeal.Gen.facts, Cert.OutDwReferenceIdeal.Gen.facts,
    Cert.EvenDwKernel.Gen.facts, Cert.EvenDwKernelIdeal.Gen.facts, Cert.EvenDwReferenceIdeal.Gen.facts,
    Cert.OddDwKernel.Gen.facts, Cert.OddDwKernelIdeal.Gen.facts, Cert.OddDwReferenceIdeal.Gen.facts,
    Cert.EvenInKernel.Gen.facts, Cert.EvenInKernelIdeal.Gen.facts, Cert.EvenInReferenceIdeal.Gen.facts,
    Cert.OddInKernel.Gen.facts, Cert.OddInKernelIdeal.Gen.facts, Cert.OddInReferenceIdeal.Gen.facts,
    Cert.MixOutKernel.Gen.facts, Cert.MixOutKernelIdeal.Gen.facts, Cert.MixOutReferenceIdeal.Gen.facts,
    Cert.DownKernel.Gen.facts, Cert.DownKernelIdeal.Gen.facts, Cert.DownReferenceIdeal.Gen.facts,
    Cert.LastDownKernel.Gen.facts, Cert.LastDownKernelIdeal.Gen.facts, Cert.LastDownReferenceIdeal.Gen.facts,
    Cert.UpKernel.Gen.facts, Cert.UpKernelIdeal.Gen.facts, Cert.UpReferenceIdeal.Gen.facts,
    Cert.GluKernel.Gen.facts, Cert.GluKernelIdeal.Gen.facts, Cert.GluReferenceIdeal.Gen.facts,
    Cert.FfnKernel.Gen.facts, Cert.FfnKernelIdeal.Gen.facts, Cert.FfnReferenceIdeal.Gen.facts,
    Cert.UpDx0Kernel.Gen.facts, Cert.UpDx0KernelIdeal.Gen.facts, Cert.UpDx0ReferenceIdeal.Gen.facts,
    Cert.UpDx1Kernel.Gen.facts, Cert.UpDx1KernelIdeal.Gen.facts, Cert.UpDx1ReferenceIdeal.Gen.facts,
    Cert.UpDx2Kernel.Gen.facts, Cert.UpDx2KernelIdeal.Gen.facts, Cert.UpDx2ReferenceIdeal.Gen.facts,
    Cert.OddDx1Kernel.Gen.facts, Cert.OddDx1KernelIdeal.Gen.facts, Cert.OddDx1ReferenceIdeal.Gen.facts,
    Cert.EvenDx0Kernel.Gen.facts, Cert.EvenDx0KernelIdeal.Gen.facts, Cert.EvenDx0ReferenceIdeal.Gen.facts,
    Cert.MixOut0Kernel.Gen.facts, Cert.MixOut0KernelIdeal.Gen.facts, Cert.MixOut0ReferenceIdeal.Gen.facts,
    Cert.MixOut1Kernel.Gen.facts, Cert.MixOut1KernelIdeal.Gen.facts, Cert.MixOut1ReferenceIdeal.Gen.facts,
    Cert.MixOut2Kernel.Gen.facts, Cert.MixOut2KernelIdeal.Gen.facts, Cert.MixOut2ReferenceIdeal.Gen.facts,
    Cert.Down1Kernel.Gen.facts, Cert.Down1KernelIdeal.Gen.facts, Cert.Down1ReferenceIdeal.Gen.facts,
    Cert.Down3Kernel.Gen.facts, Cert.Down3KernelIdeal.Gen.facts, Cert.Down3ReferenceIdeal.Gen.facts,
    Cert.LossKernel.Gen.facts, Cert.LossKernelIdeal.Gen.facts, Cert.LossReferenceIdeal.Gen.facts,
    Cert.RmsFwdKernel.Gen.facts, Cert.RmsFwdKernelIdeal.Gen.facts, Cert.RmsFwdReferenceIdeal.Gen.facts,
    Cert.GluFwdKernel.Gen.facts, Cert.GluFwdKernelIdeal.Gen.facts, Cert.GluFwdReferenceIdeal.Gen.facts,
    Cert.SconvFwdKernel.Gen.facts, Cert.SconvFwdKernelIdeal.Gen.facts, Cert.SconvFwdReferenceIdeal.Gen.facts,
    Cert.Pre_glu_finite.Gen.facts, Cert.Pre_ffn_finite.Gen.facts,
    Cert.Sconv.frame_P, Cert.Sconv.frame_PI, Cert.Sconv.frame_RI,
    Cert.UpDx.frame_P, Cert.UpDx.frame_PI, Cert.UpDx.frame_RI,
    Cert.EvenDx.frame_P, Cert.EvenDx.frame_PI, Cert.EvenDx.frame_RI,
    Cert.OddDx.frame_P, Cert.OddDx.frame_PI, Cert.OddDx.frame_RI,
    Cert.DownDx.frame_P, Cert.DownDx.frame_PI, Cert.DownDx.frame_RI,
    Cert.DownDw.frame_P, Cert.DownDw.frame_PI, Cert.DownDw.frame_RI,
    Cert.UpDw.frame_P, Cert.UpDw.frame_PI, Cert.UpDw.frame_RI,
    Cert.OutDx.frame_P, Cert.OutDx.frame_PI, Cert.OutDx.frame_RI,
    Cert.OutDw.frame_P, Cert.OutDw.frame_PI, Cert.OutDw.frame_RI,
    Cert.EvenDw.frame_P, Cert.EvenDw.frame_PI, Cert.EvenDw.frame_RI,
    Cert.OddDw.frame_P, Cert.OddDw.frame_PI, Cert.OddDw.frame_RI,
    Cert.EvenIn.frame_P, Cert.EvenIn.frame_PI, Cert.EvenIn.frame_RI,
    Cert.OddIn.frame_P, Cert.OddIn.frame_PI, Cert.OddIn.frame_RI,
    Cert.MixOut.frame_P, Cert.MixOut.frame_PI, Cert.MixOut.frame_RI,
    Cert.Down.frame_P, Cert.Down.frame_PI, Cert.Down.frame_RI,
    Cert.LastDown.frame_P, Cert.LastDown.frame_PI, Cert.LastDown.frame_RI,
    Cert.Up.frame_P, Cert.Up.frame_PI, Cert.Up.frame_RI,
    Cert.Glu.frame_P, Cert.Glu.frame_PI, Cert.Glu.frame_PI_pre,
    Cert.Glu.frame_RI, Cert.Glu.frame_RI_pre, Cert.Ffn.frame_P,
    Cert.Ffn.frame_PI, Cert.Ffn.frame_PI_pre, Cert.Ffn.frame_RI,
    Cert.Ffn.frame_RI_pre, Cert.UpDx0.frame_P, Cert.UpDx0.frame_PI,
    Cert.UpDx0.frame_RI, Cert.UpDx1.frame_P, Cert.UpDx1.frame_PI,
    Cert.UpDx1.frame_RI, Cert.UpDx2.frame_P, Cert.UpDx2.frame_PI,
    Cert.UpDx2.frame_RI, Cert.OddDx1.frame_P, Cert.OddDx1.frame_PI,
    Cert.OddDx1.frame_RI, Cert.EvenDx0.frame_P, Cert.EvenDx0.frame_PI,
    Cert.EvenDx0.frame_RI, Cert.MixOut0.frame_P, Cert.MixOut0.frame_PI,
    Cert.MixOut0.frame_RI, Cert.MixOut1.frame_P, Cert.MixOut1.frame_PI,
    Cert.MixOut1.frame_RI, Cert.MixOut2.frame_P, Cert.MixOut2.frame_PI,
    Cert.MixOut2.frame_RI, Cert.Down1.frame_P, Cert.Down1.frame_PI,
    Cert.Down1.frame_RI, Cert.Down3.frame_P, Cert.Down3.frame_PI,
    Cert.Down3.frame_RI, Cert.Loss.frame_P, Cert.Loss.frame_PI,
    Cert.Loss.frame_RI, Cert.RmsFwd.frame_P, Cert.RmsFwd.frame_PI,
    Cert.RmsFwd.frame_RI, Cert.GluFwd.frame_P, Cert.GluFwd.frame_PI,
    Cert.GluFwd.frame_RI, Cert.SconvFwd.frame_P, Cert.SconvFwd.frame_PI,
    Cert.SconvFwd.frame_RI, trivial, Cert.Sconv.value,
    trivial, Cert.UpDx.value, trivial,
    Cert.EvenDx.value, trivial, Cert.OddDx.value,
    trivial, Cert.DownDx.value, trivial,
    Cert.DownDw.value, trivial, Cert.UpDw.value,
    trivial, Cert.OutDx.value, trivial,
    Cert.OutDw.value, trivial, Cert.EvenDw.value,
    trivial, Cert.OddDw.value, trivial,
    Cert.EvenIn.value, trivial, Cert.OddIn.value,
    trivial, Cert.MixOut.value, trivial,
    Cert.Down.value, trivial, Cert.LastDown.value,
    trivial, Cert.Up.value, Cert.Glu.pres,
    Cert.Glu.value, trivial, Cert.Ffn.value,
    trivial, Cert.UpDx0.value, trivial,
    Cert.UpDx1.value, trivial, Cert.UpDx2.value,
    trivial, Cert.OddDx1.value, trivial,
    Cert.EvenDx0.value, trivial, Cert.MixOut0.value,
    trivial, Cert.MixOut1.value, trivial,
    Cert.MixOut2.value, trivial, Cert.Down1.value,
    trivial, Cert.Down3.value, trivial,
    Cert.Loss.value, trivial, Cert.RmsFwd.value,
    Cert.GluFwd.pres, Cert.GluFwd.value, trivial,
    Cert.SconvFwd.value⟩

end Cert.Proof
